-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_pre2 [hPre_pre2 : Cert.Pre_pre2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_pre2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_pre2 [hPre_pre2 : Cert.Pre_pre2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_pre2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_pre3 [hPre_pre3 : Cert.Pre_pre3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_pre3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_pre3 [hPre_pre3 : Cert.Pre_pre3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_pre3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_pre8 [hPre_pre8 : Cert.Pre_pre8.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_pre8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_pre8 [hPre_pre8 : Cert.Pre_pre8.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_pre8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_pre9 [hPre_pre9 : Cert.Pre_pre9.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_pre9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_pre9 [hPre_pre9 : Cert.Pre_pre9.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_pre9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Kernel2Ideal_pre_pre2 [hKernel2Ideal : Cert.Kernel2Ideal.Facts] [hPre_pre2 : Cert.Pre_pre2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_pre2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Reference2Ideal_pre_pre2 [hReference2Ideal : Cert.Reference2Ideal.Facts] [hPre_pre2 : Cert.Pre_pre2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_pre2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Kernel3Ideal_pre_pre3 [hKernel3Ideal : Cert.Kernel3Ideal.Facts] [hPre_pre3 : Cert.Pre_pre3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_pre3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_pre3 [hReference3Ideal : Cert.Reference3Ideal.Facts] [hPre_pre3 : Cert.Pre_pre3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_pre3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Kernel8Ideal_pre_pre8 [hKernel8Ideal : Cert.Kernel8Ideal.Facts] [hPre_pre8 : Cert.Pre_pre8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_pre8 m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Reference8Ideal_pre_pre8 [hReference8Ideal : Cert.Reference8Ideal.Facts] [hPre_pre8 : Cert.Pre_pre8.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_pre8 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Kernel9Ideal_pre_pre9 [hKernel9Ideal : Cert.Kernel9Ideal.Facts] [hPre_pre9 : Cert.Pre_pre9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_pre9 m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Reference9Ideal_pre_pre9 [hReference9Ideal : Cert.Reference9Ideal.Facts] [hPre_pre9 : Cert.Pre_pre9.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_pre9 m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def preserves_Kernel_KernelIdeal : Prop :=
  True

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)) (v3 : (c : Dev Cert.KernelIdeal.nD) → Buf (Elt Ideal) ((c.tc : Thread Cert.KernelIdeal.nD Cert.KernelIdeal.τ).loc Cert.KernelIdeal.main_v5_3)) (v4 : (c : Dev Cert.KernelIdeal.nD) → Buf (Elt Ideal) ((c.tc : Thread Cert.KernelIdeal.nD Cert.KernelIdeal.τ).loc Cert.KernelIdeal.main_v5_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_v5_3) = v3 c
          ∧ r.2.mem ((c.tc : Thread Cert.KernelIdeal.nD Cert.KernelIdeal.τ).loc Cert.KernelIdeal.main_v5_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_v99) = v1 c
          ∧ r.2.mem ((c.tc : Thread Cert.ReferenceIdeal.nD Cert.ReferenceIdeal.τ).loc Cert.ReferenceIdeal.main_v97) = v2 c
          ∧ r.2.mem ((c.tc : Thread Cert.ReferenceIdeal.nD Cert.ReferenceIdeal.τ).loc Cert.ReferenceIdeal.main_v80) = v3 c
          ∧ r.2.mem ((c.tc : Thread Cert.ReferenceIdeal.nD Cert.ReferenceIdeal.τ).loc Cert.ReferenceIdeal.main_v61) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal_pre_pre2 [hKernel2Ideal : Cert.Kernel2Ideal.Facts] [hReference2Ideal : Cert.Reference2Ideal.Facts] [hPre_pre2 : Cert.Pre_pre2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_pre2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v22_0)) (v1 : (c : Dev Cert.Kernel2Ideal.nD) → Buf (Elt Ideal) ((c.tc : Thread Cert.Kernel2Ideal.nD Cert.Kernel2Ideal.τ).loc Cert.Kernel2Ideal.main_v22_1)) (v2 : (c : Dev Cert.Kernel2Ideal.nD) → Buf (Elt Ideal) ((c.tc : Thread Cert.Kernel2Ideal.nD Cert.Kernel2Ideal.τ).loc Cert.Kernel2Ideal.main_v22_2)) (v3 : (c : Dev Cert.Kernel2Ideal.nD) → Buf (Elt Ideal) ((c.tc : Thread Cert.Kernel2Ideal.nD Cert.Kernel2Ideal.τ).loc Cert.Kernel2Ideal.main_v22_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v22_0) = v0 c
          ∧ r.2.mem ((c.tc : Thread Cert.Kernel2Ideal.nD Cert.Kernel2Ideal.τ).loc Cert.Kernel2Ideal.main_v22_1) = v1 c
          ∧ r.2.mem ((c.tc : Thread Cert.Kernel2Ideal.nD Cert.Kernel2Ideal.τ).loc Cert.Kernel2Ideal.main_v22_2) = v2 c
          ∧ r.2.mem ((c.tc : Thread Cert.Kernel2Ideal.nD Cert.Kernel2Ideal.τ).loc Cert.Kernel2Ideal.main_v22_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v92) = v0 c
          ∧ r.2.mem ((c.tc : Thread Cert.Reference2Ideal.nD Cert.Reference2Ideal.τ).loc Cert.Reference2Ideal.main_v93) = v1 c
          ∧ r.2.mem ((c.tc : Thread Cert.Reference2Ideal.nD Cert.Reference2Ideal.τ).loc Cert.Reference2Ideal.main_v75) = v2 c
          ∧ r.2.mem ((c.tc : Thread Cert.Reference2Ideal.nD Cert.Reference2Ideal.τ).loc Cert.Reference2Ideal.main_v95) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal_pre_pre3 [hKernel3Ideal : Cert.Kernel3Ideal.Facts] [hReference3Ideal : Cert.Reference3Ideal.Facts] [hPre_pre3 : Cert.Pre_pre3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_pre3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v21_0)) (v1 : (c : Dev Cert.Kernel3Ideal.nD) → Buf (Elt Ideal) ((c.tc : Thread Cert.Kernel3Ideal.nD Cert.Kernel3Ideal.τ).loc Cert.Kernel3Ideal.main_v21_1)) (v2 : (c : Dev Cert.Kernel3Ideal.nD) → Buf (Elt Ideal) ((c.tc : Thread Cert.Kernel3Ideal.nD Cert.Kernel3Ideal.τ).loc Cert.Kernel3Ideal.main_v21_2)) (v3 : (c : Dev Cert.Kernel3Ideal.nD) → Buf (Elt Ideal) ((c.tc : Thread Cert.Kernel3Ideal.nD Cert.Kernel3Ideal.τ).loc Cert.Kernel3Ideal.main_v21_3)) (v4 : (c : Dev Cert.Kernel3Ideal.nD) → Buf (Elt Ideal) ((c.tc : Thread Cert.Kernel3Ideal.nD Cert.Kernel3Ideal.τ).loc Cert.Kernel3Ideal.main_v21_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v21_0) = v0 c
          ∧ r.2.mem ((c.tc : Thread Cert.Kernel3Ideal.nD Cert.Kernel3Ideal.τ).loc Cert.Kernel3Ideal.main_v21_1) = v1 c
          ∧ r.2.mem ((c.tc : Thread Cert.Kernel3Ideal.nD Cert.Kernel3Ideal.τ).loc Cert.Kernel3Ideal.main_v21_2) = v2 c
          ∧ r.2.mem ((c.tc : Thread Cert.Kernel3Ideal.nD Cert.Kernel3Ideal.τ).loc Cert.Kernel3Ideal.main_v21_3) = v3 c
          ∧ r.2.mem ((c.tc : Thread Cert.Kernel3Ideal.nD Cert.Kernel3Ideal.τ).loc Cert.Kernel3Ideal.main_v21_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v49) = v0 c
          ∧ r.2.mem ((c.tc : Thread Cert.Reference3Ideal.nD Cert.Reference3Ideal.τ).loc Cert.Reference3Ideal.main_v50) = v1 c
          ∧ r.2.mem ((c.tc : Thread Cert.Reference3Ideal.nD Cert.Reference3Ideal.τ).loc Cert.Reference3Ideal.main_v48) = v2 c
          ∧ r.2.mem ((c.tc : Thread Cert.Reference3Ideal.nD Cert.Reference3Ideal.τ).loc Cert.Reference3Ideal.main_v51) = v3 c
          ∧ r.2.mem ((c.tc : Thread Cert.Reference3Ideal.nD Cert.Reference3Ideal.τ).loc Cert.Reference3Ideal.main_v31) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v6_0)) (v1 : (c : Dev Cert.Kernel4Ideal.nD) → Buf (Elt Ideal) ((c.tc : Thread Cert.Kernel4Ideal.nD Cert.Kernel4Ideal.τ).loc Cert.Kernel4Ideal.main_v6_1)) (v2 : (c : Dev Cert.Kernel4Ideal.nD) → Buf (Elt Ideal) ((c.tc : Thread Cert.Kernel4Ideal.nD Cert.Kernel4Ideal.τ).loc Cert.Kernel4Ideal.main_v6_2)) (v3 : (c : Dev Cert.Kernel4Ideal.nD) → Buf (Elt Ideal) ((c.tc : Thread Cert.Kernel4Ideal.nD Cert.Kernel4Ideal.τ).loc Cert.Kernel4Ideal.main_v6_3)) (v4 : (c : Dev Cert.Kernel4Ideal.nD) → Buf (Elt Ideal) ((c.tc : Thread Cert.Kernel4Ideal.nD Cert.Kernel4Ideal.τ).loc Cert.Kernel4Ideal.main_v6_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6_0) = v0 c
          ∧ r.2.mem ((c.tc : Thread Cert.Kernel4Ideal.nD Cert.Kernel4Ideal.τ).loc Cert.Kernel4Ideal.main_v6_1) = v1 c
          ∧ r.2.mem ((c.tc : Thread Cert.Kernel4Ideal.nD Cert.Kernel4Ideal.τ).loc Cert.Kernel4Ideal.main_v6_2) = v2 c
          ∧ r.2.mem ((c.tc : Thread Cert.Kernel4Ideal.nD Cert.Kernel4Ideal.τ).loc Cert.Kernel4Ideal.main_v6_3) = v3 c
          ∧ r.2.mem ((c.tc : Thread Cert.Kernel4Ideal.nD Cert.Kernel4Ideal.τ).loc Cert.Kernel4Ideal.main_v6_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v21) = v0 c
          ∧ r.2.mem ((c.tc : Thread Cert.Reference4Ideal.nD Cert.Reference4Ideal.τ).loc Cert.Reference4Ideal.main_v22) = v1 c
          ∧ r.2.mem ((c.tc : Thread Cert.Reference4Ideal.nD Cert.Reference4Ideal.τ).loc Cert.Reference4Ideal.main_v20) = v2 c
          ∧ r.2.mem ((c.tc : Thread Cert.Reference4Ideal.nD Cert.Reference4Ideal.τ).loc Cert.Reference4Ideal.main_v23) = v3 c
          ∧ r.2.mem ((c.tc : Thread Cert.Reference4Ideal.nD Cert.Reference4Ideal.τ).loc Cert.Reference4Ideal.main_v25) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v4_0)) (v1 : (c : Dev Cert.Kernel5Ideal.nD) → Buf (Elt Ideal) ((c.tc : Thread Cert.Kernel5Ideal.nD Cert.Kernel5Ideal.τ).loc Cert.Kernel5Ideal.main_v4_1)) (v2 : (c : Dev Cert.Kernel5Ideal.nD) → Buf (Elt Ideal) ((c.tc : Thread Cert.Kernel5Ideal.nD Cert.Kernel5Ideal.τ).loc Cert.Kernel5Ideal.main_v4_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4_0) = v0 c
          ∧ r.2.mem ((c.tc : Thread Cert.Kernel5Ideal.nD Cert.Kernel5Ideal.τ).loc Cert.Kernel5Ideal.main_v4_1) = v1 c
          ∧ r.2.mem ((c.tc : Thread Cert.Kernel5Ideal.nD Cert.Kernel5Ideal.τ).loc Cert.Kernel5Ideal.main_v4_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v51) = v0 c
          ∧ r.2.mem ((c.tc : Thread Cert.Reference5Ideal.nD Cert.Reference5Ideal.τ).loc Cert.Reference5Ideal.main_v50) = v1 c
          ∧ r.2.mem ((c.tc : Thread Cert.Reference5Ideal.nD Cert.Reference5Ideal.τ).loc Cert.Reference5Ideal.main_v64) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v2_0)) (v1 : (c : Dev Cert.Kernel7Ideal.nD) → Buf (Elt Ideal) ((c.tc : Thread Cert.Kernel7Ideal.nD Cert.Kernel7Ideal.τ).loc Cert.Kernel7Ideal.main_v2_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2_0) = v0 c
          ∧ r.2.mem ((c.tc : Thread Cert.Kernel7Ideal.nD Cert.Kernel7Ideal.τ).loc Cert.Kernel7Ideal.main_v2_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v12) = v0 c
          ∧ r.2.mem ((c.tc : Thread Cert.Reference7Ideal.nD Cert.Reference7Ideal.τ).loc Cert.Reference7Ideal.main_v14) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal_pre_pre8 [hKernel8Ideal : Cert.Kernel8Ideal.Facts] [hReference8Ideal : Cert.Reference8Ideal.Facts] [hPre_pre8 : Cert.Pre_pre8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_pre8 m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v90_0)) (v1 : (c : Dev Cert.Kernel8Ideal.nD) → Buf (Elt Ideal) ((c.tc : Thread Cert.Kernel8Ideal.nD Cert.Kernel8Ideal.τ).loc Cert.Kernel8Ideal.main_v90_1)) (v2 : (c : Dev Cert.Kernel8Ideal.nD) → Buf (Elt Ideal) ((c.tc : Thread Cert.Kernel8Ideal.nD Cert.Kernel8Ideal.τ).loc Cert.Kernel8Ideal.main_v90_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v90_0) = v0 c
          ∧ r.2.mem ((c.tc : Thread Cert.Kernel8Ideal.nD Cert.Kernel8Ideal.τ).loc Cert.Kernel8Ideal.main_v90_1) = v1 c
          ∧ r.2.mem ((c.tc : Thread Cert.Kernel8Ideal.nD Cert.Kernel8Ideal.τ).loc Cert.Kernel8Ideal.main_v90_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v68) = v0 c
          ∧ r.2.mem ((c.tc : Thread Cert.Reference8Ideal.nD Cert.Reference8Ideal.τ).loc Cert.Reference8Ideal.main_v67) = v1 c
          ∧ r.2.mem ((c.tc : Thread Cert.Reference8Ideal.nD Cert.Reference8Ideal.τ).loc Cert.Reference8Ideal.main_v49) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal_pre_pre9 [hKernel9Ideal : Cert.Kernel9Ideal.Facts] [hReference9Ideal : Cert.Reference9Ideal.Facts] [hPre_pre9 : Cert.Pre_pre9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_pre9 m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v19_0)) (v1 : (c : Dev Cert.Kernel9Ideal.nD) → Buf (Elt Ideal) ((c.tc : Thread Cert.Kernel9Ideal.nD Cert.Kernel9Ideal.τ).loc Cert.Kernel9Ideal.main_v19_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v19_0) = v0 c
          ∧ r.2.mem ((c.tc : Thread Cert.Kernel9Ideal.nD Cert.Kernel9Ideal.τ).loc Cert.Kernel9Ideal.main_v19_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v31) = v0 c
          ∧ r.2.mem ((c.tc : Thread Cert.Reference9Ideal.nD Cert.Reference9Ideal.τ).loc Cert.Reference9Ideal.main_v35) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_pre : Cert.Pre_pre.Facts) (hPre_pre2 : Cert.Pre_pre2.Facts) (hPre_pre3 : Cert.Pre_pre3.Facts) (hPre_pre8 : Cert.Pre_pre8.Facts) (hPre_pre9 : Cert.Pre_pre9.Facts),
    quiescent_Kernel (hKernel := hKernel)
    ∧ quiescent_KernelIdeal (hKernelIdeal := hKernelIdeal)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ quiescent_Kernel2 (hKernel2 := hKernel2)
    ∧ quiescent_Kernel2Ideal (hKernel2Ideal := hKernel2Ideal)
    ∧ quiescent_Kernel2Ideal_pre_pre2 (hKernel2Ideal := hKernel2Ideal) (hPre_pre2 := hPre_pre2)
    ∧ quiescent_Reference2Ideal (hReference2Ideal := hReference2Ideal)
    ∧ quiescent_Reference2Ideal_pre_pre2 (hReference2Ideal := hReference2Ideal) (hPre_pre2 := hPre_pre2)
    ∧ quiescent_Kernel3 (hKernel3 := hKernel3)
    ∧ quiescent_Kernel3Ideal (hKernel3Ideal := hKernel3Ideal)
    ∧ quiescent_Kernel3Ideal_pre_pre3 (hKernel3Ideal := hKernel3Ideal) (hPre_pre3 := hPre_pre3)
    ∧ quiescent_Reference3Ideal (hReference3Ideal := hReference3Ideal)
    ∧ quiescent_Reference3Ideal_pre_pre3 (hReference3Ideal := hReference3Ideal) (hPre_pre3 := hPre_pre3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_pre8 (hKernel8Ideal := hKernel8Ideal) (hPre_pre8 := hPre_pre8)
    ∧ quiescent_Reference8Ideal (hReference8Ideal := hReference8Ideal)
    ∧ quiescent_Reference8Ideal_pre_pre8 (hReference8Ideal := hReference8Ideal) (hPre_pre8 := hPre_pre8)
    ∧ quiescent_Kernel9 (hKernel9 := hKernel9)
    ∧ quiescent_Kernel9Ideal (hKernel9Ideal := hKernel9Ideal)
    ∧ quiescent_Kernel9Ideal_pre_pre9 (hKernel9Ideal := hKernel9Ideal) (hPre_pre9 := hPre_pre9)
    ∧ quiescent_Reference9Ideal (hReference9Ideal := hReference9Ideal)
    ∧ quiescent_Reference9Ideal_pre_pre9 (hReference9Ideal := hReference9Ideal) (hPre_pre9 := hPre_pre9)
    ∧ preserves_Kernel_KernelIdeal
    ∧ algebraic_KernelIdeal_ReferenceIdeal_pre_pre (hKernelIdeal := hKernelIdeal) (hReferenceIdeal := hReferenceIdeal) (hPre_pre := hPre_pre)
    ∧ preserves_Kernel2_Kernel2Ideal
    ∧ algebraic_Kernel2Ideal_Reference2Ideal_pre_pre2 (hKernel2Ideal := hKernel2Ideal) (hReference2Ideal := hReference2Ideal) (hPre_pre2 := hPre_pre2)
    ∧ preserves_Kernel3_Kernel3Ideal
    ∧ algebraic_Kernel3Ideal_Reference3Ideal_pre_pre3 (hKernel3Ideal := hKernel3Ideal) (hReference3Ideal := hReference3Ideal) (hPre_pre3 := hPre_pre3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_pre8 (hKernel8Ideal := hKernel8Ideal) (hReference8Ideal := hReference8Ideal) (hPre_pre8 := hPre_pre8)
    ∧ preserves_Kernel9_Kernel9Ideal
    ∧ algebraic_Kernel9Ideal_Reference9Ideal_pre_pre9 (hKernel9Ideal := hKernel9Ideal) (hReference9Ideal := hReference9Ideal) (hPre_pre9 := hPre_pre9)
-- ==== Pre_pre.lean ====
abbrev S8192x3072 : Shape := ⟨2, ![8192, 3072]⟩
abbrev S8192x512 : Shape := ⟨2, ![8192, 512]⟩
abbrev S3x512 : Shape := ⟨2, ![3, 512]⟩
abbrev S1x512 : Shape := ⟨2, ![1, 512]⟩
abbrev S1024x1024 : Shape := ⟨2, ![1024, 1024]⟩
abbrev S8192x1024 : Shape := ⟨2, ![8192, 1024]⟩
abbrev S_ : Shape := ⟨0, ![]⟩

class Facts : Prop where
  bcast_S_S8192x3072 : S_.BroadcastsInDim S8192x3072 (![] : Fin 0 → Fin S8192x3072.rank)
  reducesTo_S8192x3072_S_d0_1 : S8192x3072.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_
  bcast_S_S3x512 : S_.BroadcastsInDim S3x512 (![] : Fin 0 → Fin S3x512.rank)
  reducesTo_S3x512_S_d0_1 : S3x512.ReducesTo [0, 1] S_
  bcast_S_S1x512 : S_.BroadcastsInDim S1x512 (![] : Fin 0 → Fin S1x512.rank)
  reducesTo_S1x512_S_d0_1 : S1x512.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S8192x1024 : S_.BroadcastsInDim S8192x1024 (![] : Fin 0 → Fin S8192x1024.rank)
  reducesTo_S8192x1024_S_d0_1 : S8192x1024.ReducesTo [0, 1] S_

variable [Facts]

def fn_part2 {F : FTy → Type} [FloatOps F] (main_v29 : IVec S_ 1) (main_v32 : IVec S8192x1024 1) (main_c_12 : IVec S_ 1) : IVec S_ 1 :=
  let main_v33 : IVec S_ 1 := (fun x v => Host.reduce IntOp.andi x v reducesTo_S8192x1024_S_d0_1 h_S_) main_v32 main_c_12
  let main_v34 : IVec S_ 1 := andi main_v29 main_v33
  main_v34

def fn_part1 {F : FTy → Type} [FloatOps F] (main_arg4 : FVec F S1x512 .f32) (main_arg5 : FVec F S1024x1024 .f32) (main_arg6 : FVec F S8192x1024 .f32) (main_v14 : IVec S_ 1) (main_v15 : FVec F S1x512 .f32) (main_cst_5 : FVec F S_ .f32) : IVec S_ 1 :=
  let main_v16 : FVec F S1x512 .f32 := broadcastInDim S1x512 ![] bcast_S_S1x512 main_cst_5
  let main_v17 : IVec S1x512 1 := cmpf .olt main_v15 main_v16
  let main_c_6 : IVec S_ 1 := constantI S_ 1 1#1
  let main_v18 : IVec S_ 1 := (fun x v => Host.reduce IntOp.andi x v reducesTo_S1x512_S_d0_1 h_S_) main_v17 main_c_6
  let main_v19 : IVec S_ 1 := andi main_v14 main_v18
  let main_v20 : FVec F S1x512 .f32 := Host.absf main_arg4
  let main_cst_7 : FVec F S_ .f32 := constant S_ .f32 0x7F800000#32
  let main_v21 : FVec F S1x512 .f32 := broadcastInDim S1x512 ![] bcast_S_S1x512 main_cst_7
  let main_v22 : IVec S1x512 1 := cmpf .olt main_v20 main_v21
  let main_c_8 : IVec S_ 1 := constantI S_ 1 1#1
  let main_v23 : IVec S_ 1 := (fun x v => Host.reduce IntOp.andi x v reducesTo_S1x512_S_d0_1 h_S_) main_v22 main_c_8
  let main_v24 : IVec S_ 1 := andi main_v19 main_v23
  let main_v25 : FVec F S1024x1024 .f32 := Host.absf main_arg5
  let main_cst_9 : FVec F S_ .f32 := constant S_ .f32 0x7F800000#32
  let main_v26 : FVec F S1024x1024 .f32 := broadcastInDim S1024x1024 ![] bcast_S_S1024x1024 main_cst_9
  let main_v27 : IVec S1024x1024 1 := cmpf .olt main_v25 main_v26
  let main_c_10 : IVec S_ 1 := constantI S_ 1 1#1
  let main_v28 : IVec S_ 1 := (fun x v => Host.reduce IntOp.andi x v reducesTo_S1024x1024_S_d0_1 h_S_) main_v27 main_c_10
  let main_v29 : IVec S_ 1 := andi main_v24 main_v28
  let main_v30 : FVec F S8192x1024 .f32 := Host.absf main_arg6
  let main_cst_11 : FVec F S_ .f32 := constant S_ .f32 0x7F800000#32
  let main_v31 : FVec F S8192x1024 .f32 := broadcastInDim S8192x1024 ![] bcast_S_S8192x1024 main_cst_11
  let main_v32 : IVec S8192x1024 1 := cmpf .olt main_v30 main_v31
  let main_c_12 : IVec S_ 1 := constantI S_ 1 1#1
  fn_part2 (F := F) main_v29 main_v32 main_c_12

def fn {F : FTy → Type} [FloatOps F] (main_arg0 : FVec F S8192x3072 .f32) (main_arg1 : FVec F S8192x512 .f32) (main_arg2 : FVec F S3x512 .f32) (main_arg3 : FVec F S1x512 .f32) (main_arg4 : FVec F S1x512 .f32) (main_arg5 : FVec F S1024x1024 .f32) (main_arg6 : FVec F S8192x1024 .f32) : IVec S_ 1 :=
  let main_v0 : FVec F S8192x3072 .f32 := Host.absf main_arg0
  let main_cst : FVec F S_ .f32 := constant S_ .f32 0x7F800000#32
  let main_v1 : FVec F S8192x3072 .f32 := broadcastInDim S8192x3072 ![] bcast_S_S8192x3072 main_cst
  let main_v2 : IVec S8192x3072 1 := cmpf .olt main_v0 main_v1
  let main_c : IVec S_ 1 := constantI S_ 1 1#1
  let main_v3 : IVec S_ 1 := (fun x v => Host.reduce IntOp.andi x v reducesTo_S8192x3072_S_d0_1 h_S_) main_v2 main_c
  let main_c_0 : IVec S_ 1 := constantI S_ 1 1#1
  let main_v4 : IVec S_ 1 := andi main_c_0 main_v3
  let main_v5 : FVec F S8192x512 .f32 := Host.absf main_arg1
  let main_cst_1 : FVec F S_ .f32 := constant S_ .f32 0x7F800000#32
  let main_v6 : FVec F S8192x512 .f32 := broadcastInDim S8192x512 ![] bcast_S_S8192x512 main_cst_1
  let main_v7 : IVec S8192x512 1 := cmpf .olt main_v5 main_v6
  let main_c_2 : IVec S_ 1 := constantI S_ 1 1#1
  let main_v8 : IVec S_ 1 := (fun x v => Host.reduce IntOp.andi x v reducesTo_S8192x512_S_d0_1 h_S_) main_v7 main_c_2
  let main_v9 : IVec S_ 1 := andi main_v4 main_v8
  let main_v10 : FVec F S3x512 .f32 := Host.absf main_arg2
  let main_cst_3 : FVec F S_ .f32 := constant S_ .f32 0x7F800000#32
  let main_v11 : FVec F S3x512 .f32 := broadcastInDim S3x512 ![] bcast_S_S3x512 main_cst_3
  let main_v12 : IVec S3x512 1 := cmpf .olt main_v10 main_v11
  let main_c_4 : IVec S_ 1 := constantI S_ 1 1#1
  let main_v13 : IVec S_ 1 := (fun x v => Host.reduce IntOp.andi x v reducesTo_S3x512_S_d0_1 h_S_) main_v12 main_c_4
  let main_v14 : IVec S_ 1 := andi main_v9 main_v13
  let main_v15 : FVec F S1x512 .f32 := Host.absf main_arg3
  let main_cst_5 : FVec F S_ .f32 := constant S_ .f32 0x7F800000#32
  fn_part1 (F := F) main_arg4 main_arg5 main_arg6 main_v14 main_v15 main_cst_5
-- ==== Pre_pre2.lean ====
abbrev S8192x1024 : Shape := ⟨2, ![8192, 1024]⟩
abbrev S1x1024 : Shape := ⟨2, ![1, 1024]⟩
abbrev S1024x3072 : Shape := ⟨2, ![1024, 3072]⟩
abbrev S3x512 : Shape := ⟨2, ![3, 512]⟩
abbrev S8192x512 : Shape := ⟨2, ![8192, 512]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x3072 : S_.BroadcastsInDim S1024x3072 (![] : Fin 0 → Fin S1024x3072.rank)
  reducesTo_S1024x3072_S_d0_1 : S1024x3072.ReducesTo [0, 1] S_
  bcast_S_S3x512 : S_.BroadcastsInDim S3x512 (![] : Fin 0 → Fin S3x512.rank)
  reducesTo_S3x512_S_d0_1 : S3x512.ReducesTo [0, 1] S_
  bcast_S_S8192x512 : S_.BroadcastsInDim S8192x512 (![] : Fin 0 → Fin S8192x512.rank)
  reducesTo_S8192x512_S_d0_1 : S8192x512.ReducesTo [0, 1] S_

variable [Facts]

def fn_part2 {F : FTy → Type} [FloatOps F] (main_arg7 : FVec F S8192x512 .f32) (main_arg8 : FVec F S8192x512 .f32) (main_arg9 : FVec F S8192x1024 .f32) (main_v29 : IVec S_ 1) (main_v32 : IVec S8192x512 1) (main_c_12 : IVec S_ 1) : IVec S_ 1 :=
  let main_v33 : IVec S_ 1 := (fun x v => Host.reduce IntOp.andi x v reducesTo_S8192x512_S_d0_1 h_S_) main_v32 main_c_12
  let main_v34 : IVec S_ 1 := andi main_v29 main_v33
  let main_v35 : FVec F S8192x512 .f32 := Host.absf main_arg7
  let main_cst_13 : FVec F S_ .f32 := constant S_ .f32 0x7F800000#32
  let main_v36 : FVec F S8192x512 .f32 := broadcastInDim S8192x512 ![] bcast_S_S8192x512 main_cst_13
  let main_v37 : IVec S8192x512 1 := cmpf .olt main_v35 main_v36
  let main_c_14 : IVec S_ 1 := constantI S_ 1 1#1
  let main_v38 : IVec S_ 1 := (fun x v => Host.reduce IntOp.andi x v reducesTo_S8192x512_S_d0_1 h_S_) main_v37 main_c_14
  let main_v39 : IVec S_ 1 := andi main_v34 main_v38
  let main_v40 : FVec F S8192x512 .f32 := Host.absf main_arg8
  let main_cst_15 : FVec F S_ .f32 := constant S_ .f32 0x7F800000#32
  let main_v41 : FVec F S8192x512 .f32 := broadcastInDim S8192x512 ![] bcast_S_S8192x512 main_cst_15
  let main_v42 : IVec S8192x512 1 := cmpf .olt main_v40 main_v41
  let main_c_16 : IVec S_ 1 := constantI S_ 1 1#1
  let main_v43 : IVec S_ 1 := (fun x v => Host.reduce IntOp.andi x v reducesTo_S8192x512_S_d0_1 h_S_) main_v42 main_c_16
  let main_v44 : IVec S_ 1 := andi main_v39 main_v43
  let main_v45 : FVec F S8192x1024 .f32 := Host.absf main_arg9
  let main_cst_17 : FVec F S_ .f32 := constant S_ .f32 0x7F800000#32
  let main_v46 : FVec F S8192x1024 .f32 := broadcastInDim S8192x1024 ![] bcast_S_S8192x1024 main_cst_17
  let main_v47 : IVec S8192x1024 1 := cmpf .olt main_v45 main_v46
  let main_c_18 : IVec S_ 1 := constantI S_ 1 1#1
  let main_v48 : IVec S_ 1 := (fun x v => Host.reduce IntOp.andi x v reducesTo_S8192x1024_S_d0_1 h_S_) main_v47 main_c_18
  let main_v49 : IVec S_ 1 := andi main_v44 main_v48
  main_v49

def fn_part1 {F : FTy → Type} [FloatOps F] (main_arg4 : FVec F S8192x512 .f32) (main_arg5 : FVec F S8192x512 .f32) (main_arg6 : FVec F S8192x512 .f32) (main_arg7 : FVec F S8192x512 .f32) (main_arg8 : FVec F S8192x512 .f32) (main_arg9 : FVec F S8192x1024 .f32) (main_v14 : IVec S_ 1) (main_v15 : FVec F S3x512 .f32) (main_cst_5 : FVec F S_ .f32) : IVec S_ 1 :=
  let main_v16 : FVec F S3x512 .f32 := broadcastInDim S3x512 ![] bcast_S_S3x512 main_cst_5
  let main_v17 : IVec S3x512 1 := cmpf .olt main_v15 main_v16
  let main_c_6 : IVec S_ 1 := constantI S_ 1 1#1
  let main_v18 : IVec S_ 1 := (fun x v => Host.reduce IntOp.andi x v reducesTo_S3x512_S_d0_1 h_S_) main_v17 main_c_6
  let main_v19 : IVec S_ 1 := andi main_v14 main_v18
  let main_v20 : FVec F S8192x512 .f32 := Host.absf main_arg4
  let main_cst_7 : FVec F S_ .f32 := constant S_ .f32 0x7F800000#32
  let main_v21 : FVec F S8192x512 .f32 := broadcastInDim S8192x512 ![] bcast_S_S8192x512 main_cst_7
  let main_v22 : IVec S8192x512 1 := cmpf .olt main_v20 main_v21
  let main_c_8 : IVec S_ 1 := constantI S_ 1 1#1
  let main_v23 : IVec S_ 1 := (fun x v => Host.reduce IntOp.andi x v reducesTo_S8192x512_S_d0_1 h_S_) main_v22 main_c_8
  let main_v24 : IVec S_ 1 := andi main_v19 main_v23
  let main_v25 : FVec F S8192x512 .f32 := Host.absf main_arg5
  let main_cst_9 : FVec F S_ .f32 := constant S_ .f32 0x7F800000#32
  let main_v26 : FVec F S8192x512 .f32 := broadcastInDim S8192x512 ![] bcast_S_S8192x512 main_cst_9
  let main_v27 : IVec S8192x512 1 := cmpf .olt main_v25 main_v26
  let main_c_10 : IVec S_ 1 := constantI S_ 1 1#1
  let main_v28 : IVec S_ 1 := (fun x v => Host.reduce IntOp.andi x v reducesTo_S8192x512_S_d0_1 h_S_) main_v27 main_c_10
  let main_v29 : IVec S_ 1 := andi main_v24 main_v28
  let main_v30 : FVec F S8192x512 .f32 := Host.absf main_arg6
  let main_cst_11 : FVec F S_ .f32 := constant S_ .f32 0x7F800000#32
  let main_v31 : FVec F S8192x512 .f32 := broadcastInDim S8192x512 ![] bcast_S_S8192x512 main_cst_11
  let main_v32 : IVec S8192x512 1 := cmpf .olt main_v30 main_v31
  let main_c_12 : IVec S_ 1 := constantI S_ 1 1#1
  fn_part2 (F := F) main_arg7 main_arg8 main_arg9 main_v29 main_v32 main_c_12

def fn {F : FTy → Type} [FloatOps F] (main_arg0 : FVec F S8192x1024 .f32) (main_arg1 : FVec F S1x1024 .f32) (main_arg2 : FVec F S1024x3072 .f32) (main_arg3 : FVec F S3x512 .f32) (main_arg4 : FVec F S8192x512 .f32) (main_arg5 : FVec F S8192x512 .f32) (main_arg6 : FVec F S8192x512 .f32) (main_arg7 : FVec F S8192x512 .f32) (main_arg8 : FVec F S8192x512 .f32) (main_arg9 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_c_0 : IVec S_ 1 := constantI S_ 1 1#1
  let main_v4 : IVec S_ 1 := andi main_c_0 main_v3
  let main_v5 : FVec F S1x1024 .f32 := Host.absf main_arg1
  let main_cst_1 : FVec F S_ .f32 := constant S_ .f32 0x7F800000#32
  let main_v6 : FVec F S1x1024 .f32 := broadcastInDim S1x1024 ![] bcast_S_S1x1024 main_cst_1
  let main_v7 : IVec S1x1024 1 := cmpf .olt main_v5 main_v6
  let main_c_2 : IVec S_ 1 := constantI S_ 1 1#1
  let main_v8 : IVec S_ 1 := (fun x v => Host.reduce IntOp.andi x v reducesTo_S1x1024_S_d0_1 h_S_) main_v7 main_c_2
  let main_v9 : IVec S_ 1 := andi main_v4 main_v8
  let main_v10 : FVec F S1024x3072 .f32 := Host.absf main_arg2
  let main_cst_3 : FVec F S_ .f32 := constant S_ .f32 0x7F800000#32
  let main_v11 : FVec F S1024x3072 .f32 := broadcastInDim S1024x3072 ![] bcast_S_S1024x3072 main_cst_3
  let main_v12 : IVec S1024x3072 1 := cmpf .olt main_v10 main_v11
  let main_c_4 : IVec S_ 1 := constantI S_ 1 1#1
  let main_v13 : IVec S_ 1 := (fun x v => Host.reduce IntOp.andi x v reducesTo_S1024x3072_S_d0_1 h_S_) main_v12 main_c_4
  let main_v14 : IVec S_ 1 := andi main_v9 main_v13
  let main_v15 : FVec F S3x512 .f32 := Host.absf main_arg3
  let main_cst_5 : FVec F S_ .f32 := constant S_ .f32 0x7F800000#32
  fn_part1 (F := F) main_arg4 main_arg5 main_arg6 main_arg7 main_arg8 main_arg9 main_v14 main_v15 main_cst_5
-- ==== Pre_pre3.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S2816x1024 .f32) (main_arg5 : FVec F S8192x1024 .f32) (main_v14 : IVec S_ 1) (main_v15 : FVec F S1024x2816 .f32) (main_cst_5 : FVec F S_ .f32) : IVec S_ 1 :=
  let main_v16 : FVec F S1024x2816 .f32 := broadcastInDim S1024x2816 ![] bcast_S_S1024x2816 main_cst_5
  let main_v17 : IVec S1024x2816 1 := cmpf .olt main_v15 main_v16
  let main_c_6 : IVec S_ 1 := constantI S_ 1 1#1
  let main_v18 : IVec S_ 1 := (fun x v => Host.reduce IntOp.andi x v reducesTo_S1024x2816_S_d0_1 h_S_) main_v17 main_c_6
  let main_v19 : IVec S_ 1 := andi main_v14 main_v18
  let main_v20 : FVec F S2816x1024 .f32 := Host.absf main_arg4
  let main_cst_7 : FVec F S_ .f32 := constant S_ .f32 0x7F800000#32
  let main_v21 : FVec F S2816x1024 .f32 := broadcastInDim S2816x1024 ![] bcast_S_S2816x1024 main_cst_7
  let main_v22 : IVec S2816x1024 1 := cmpf .olt main_v20 main_v21
  let main_c_8 : IVec S_ 1 := constantI S_ 1 1#1
  let main_v23 : IVec S_ 1 := (fun x v => Host.reduce IntOp.andi x v reducesTo_S2816x1024_S_d0_1 h_S_) main_v22 main_c_8
  let main_v24 : IVec S_ 1 := andi main_v19 main_v23
  let main_v25 : FVec F S8192x1024 .f32 := Host.absf main_arg5
  let main_cst_9 : FVec F S_ .f32 := constant S_ .f32 0x7F800000#32
  let main_v26 : FVec F S8192x1024 .f32 := broadcastInDim S8192x1024 ![] bcast_S_S8192x1024 main_cst_9
  let main_v27 : IVec S8192x1024 1 := cmpf .olt main_v25 main_v26
  let main_c_10 : IVec S_ 1 := constantI S_ 1 1#1
  let main_v28 : IVec S_ 1 := (fun x v => Host.reduce IntOp.andi x v reducesTo_S8192x1024_S_d0_1 h_S_) main_v27 main_c_10
  let main_v29 : IVec S_ 1 := andi main_v24 main_v28
  main_v29

def fn {F : FTy → Type} [FloatOps F] (main_arg0 : FVec F S8192x1024 .f32) (main_arg1 : FVec F S1x1024 .f32) (main_arg2 : FVec F S1024x2816 .f32) (main_arg3 : FVec F S1024x2816 .f32) (main_arg4 : FVec F S2816x1024 .f32) (main_arg5 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_c_0 : IVec S_ 1 := constantI S_ 1 1#1
  let main_v4 : IVec S_ 1 := andi main_c_0 main_v3
  let main_v5 : FVec F S1x1024 .f32 := Host.absf main_arg1
  let main_cst_1 : FVec F S_ .f32 := constant S_ .f32 0x7F800000#32
  let main_v6 : FVec F S1x1024 .f32 := broadcastInDim S1x1024 ![] bcast_S_S1x1024 main_cst_1
  let main_v7 : IVec S1x1024 1 := cmpf .olt main_v5 main_v6
  let main_c_2 : IVec S_ 1 := constantI S_ 1 1#1
  let main_v8 : IVec S_ 1 := (fun x v => Host.reduce IntOp.andi x v reducesTo_S1x1024_S_d0_1 h_S_) main_v7 main_c_2
  let main_v9 : IVec S_ 1 := andi main_v4 main_v8
  let main_v10 : FVec F S1024x2816 .f32 := Host.absf main_arg2
  let main_cst_3 : FVec F S_ .f32 := constant S_ .f32 0x7F800000#32
  let main_v11 : FVec F S1024x2816 .f32 := broadcastInDim S1024x2816 ![] bcast_S_S1024x2816 main_cst_3
  let main_v12 : IVec S1024x2816 1 := cmpf .olt main_v10 main_v11
  let main_c_4 : IVec S_ 1 := constantI S_ 1 1#1
  let main_v13 : IVec S_ 1 := (fun x v => Host.reduce IntOp.andi x v reducesTo_S1024x2816_S_d0_1 h_S_) main_v12 main_c_4
  let main_v14 : IVec S_ 1 := andi main_v9 main_v13
  let main_v15 : FVec F S1024x2816 .f32 := Host.absf main_arg3
  let main_cst_5 : FVec F S_ .f32 := constant S_ .f32 0x7F800000#32
  fn_part1 (F := F) main_arg4 main_arg5 main_v14 main_v15 main_cst_5
-- ==== Pre_pre8.lean ====
abbrev S8192x512 : Shape := ⟨2, ![8192, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn_part1 {F : FTy → Type} [FloatOps F] (main_v13 : IVec S_ 1) (main_v16 : IVec S8192x512 1) : IVec S_ 1 :=
  let main_c_5 : IVec S_ 1 := constantI S_ 1 1#1
  let main_v17 : IVec S_ 1 := (fun x v => Host.reduce IntOp.andi x v reducesTo_S8192x512_S_d0_1 h_S_) main_v16 main_c_5
  let main_v18 : IVec S_ 1 := andi main_v13 main_v17
  main_v18

def fn {F : FTy → Type} [FloatOps F] (main_arg0 : FVec F S8192x512 .f32) (main_arg1 : FVec F S8192x512 .f32) (main_arg2 : FVec F S8192x512 .f32) (main_arg3 : FVec F S8192x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S8192x512 .f32 := Host.absf main_arg2
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_c_3 : IVec S_ 1 := constantI S_ 1 1#1
  let main_v12 : IVec S_ 1 := (fun x v => Host.reduce IntOp.andi x v reducesTo_S8192x512_S_d0_1 h_S_) main_v11 main_c_3
  let main_v13 : IVec S_ 1 := andi main_v8 main_v12
  let main_v14 : FVec F S8192x512 .f32 := Host.absf main_arg3
  let main_cst_4 : FVec F S_ .f32 := constant S_ .f32 0x7F800000#32
  let main_v15 : FVec F S8192x512 .f32 := broadcastInDim S8192x512 ![] bcast_S_S8192x512 main_cst_4
  let main_v16 : IVec S8192x512 1 := cmpf .olt main_v14 main_v15
  fn_part1 (F := F) main_v13 main_v16
-- ==== Pre_pre9.lean ====
abbrev S8192x512 : Shape := ⟨2, ![8192, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) (main_arg1 : FVec F S8192x512 .f32) (main_arg2 : FVec F S8192x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S8192x512 .f32 := Host.absf main_arg2
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_c_3 : IVec S_ 1 := constantI S_ 1 1#1
  let main_v12 : IVec S_ 1 := (fun x v => Host.reduce IntOp.andi x v reducesTo_S8192x512_S_d0_1 h_S_) main_v11 main_c_3
  let main_v13 : IVec S_ 1 := andi main_v8 main_v12
  main_v13
-- ==== Kernel.lean ====
abbrev S8192x3072 : Shape := ⟨2, ![8192, 3072]⟩
abbrev S8192x512 : Shape := ⟨2, ![8192, 512]⟩
abbrev S3x512 : Shape := ⟨2, ![3, 512]⟩
abbrev S1x512 : Shape := ⟨2, ![1, 512]⟩
abbrev S1024x1024 : Shape := ⟨2, ![1024, 1024]⟩
abbrev S8192x1024 : Shape := ⟨2, ![8192, 1024]⟩
abbrev S_ : Shape := ⟨0, ![]⟩
abbrev S5x512 : Shape := ⟨2, ![5, 512]⟩
abbrev S8x512 : Shape := ⟨2, ![8, 512]⟩
abbrev S512x1024 : Shape := ⟨2, ![512, 1024]⟩
abbrev S512x1536 : Shape := ⟨2, ![512, 1536]⟩
abbrev S8x1536 : Shape := ⟨2, ![8, 1536]⟩
abbrev S512x512 : Shape := ⟨2, ![512, 512]⟩
abbrev S512 : Shape := ⟨1, ![512]⟩
abbrev S512x1 : Shape := ⟨2, ![512, 1]⟩

abbrev nBuf : Space → Nat
  | .hbm => 18
  | .vmem => 20
  | .smem => 0
  | _ => 0

abbrev bufTy : (tb : Table) → Fin (tcTables nBuf tb) → BufTy
  | .hbm, ⟨0, _⟩ => ⟨S8192x3072, .f32⟩
  | .hbm, ⟨1, _⟩ => ⟨S8192x512, .f32⟩
  | .hbm, ⟨2, _⟩ => ⟨S3x512, .f32⟩
  | .hbm, ⟨3, _⟩ => ⟨S1x512, .f32⟩
  | .hbm, ⟨4, _⟩ => ⟨S1x512, .f32⟩
  | .hbm, ⟨5, _⟩ => ⟨S1024x1024, .f32⟩
  | .hbm, ⟨6, _⟩ => ⟨S8192x1024, .f32⟩
  | .hbm, ⟨7, _⟩ => ⟨S_, .f32⟩
  | .hbm, ⟨8, _⟩ => ⟨S5x512, .f32⟩
  | .hbm, ⟨9, _⟩ => ⟨S8x512, .f32⟩
  | .hbm, ⟨10, _⟩ => ⟨S8192x1024, .bf16⟩
  | .hbm, ⟨11, _⟩ => ⟨S8192x3072, .bf16⟩
  | .hbm, ⟨12, _⟩ => ⟨S1024x1024, .bf16⟩
  | .hbm, ⟨13, _⟩ => ⟨S8192x512, .f32⟩
  | .hbm, ⟨14, _⟩ => ⟨S8192x512, .bf16⟩
  | .hbm, ⟨15, _⟩ => ⟨S8192x512, .f32⟩
  | .hbm, ⟨16, _⟩ => ⟨S1x512, .f32⟩
  | .hbm, ⟨17, _⟩ => ⟨S1x512, .f32⟩
  | .local _ .vmem, ⟨0, _⟩ => ⟨S512x1024, .bf16⟩
  | .local _ .vmem, ⟨1, _⟩ => ⟨S512x1024, .bf16⟩
  | .local _ .vmem, ⟨2, _⟩ => ⟨S512x1536, .bf16⟩
  | .local _ .vmem, ⟨3, _⟩ => ⟨S512x1536, .bf16⟩
  | .local _ .vmem, ⟨4, _⟩ => ⟨S8x1536, .bf16⟩
  | .local _ .vmem, ⟨5, _⟩ => ⟨S8x1536, .bf16⟩
  | .local _ .vmem, ⟨6, _⟩ => ⟨S512x512, .f32⟩
  | .local _ .vmem, ⟨7, _⟩ => ⟨S512x512, .f32⟩
  | .local _ .vmem, ⟨8, _⟩ => ⟨S8x512, .f32⟩
  | .local _ .vmem, ⟨9, _⟩ => ⟨S1x512, .f32⟩
  | .local _ .vmem, ⟨10, _⟩ => ⟨S1x512, .f32⟩
  | .local _ .vmem, ⟨11, _⟩ => ⟨S1024x1024, .bf16⟩
  | .local _ .vmem, ⟨12, _⟩ => ⟨S512x512, .f32⟩
  | .local _ .vmem, ⟨13, _⟩ => ⟨S512x512, .f32⟩
  | .local _ .vmem, ⟨14, _⟩ => ⟨S512x512, .bf16⟩
  | .local _ .vmem, ⟨15, _⟩ => ⟨S512x512, .bf16⟩
  | .local _ .vmem, ⟨16, _⟩ => ⟨S512x512, .f32⟩
  | .local _ .vmem, ⟨17, _⟩ => ⟨S512x512, .f32⟩
  | .local _ .vmem, ⟨18, _⟩ => ⟨S1x512, .f32⟩
  | .local _ .vmem, ⟨19, _⟩ => ⟨S1x512, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev main_v5_3 : Ref sig .tc := ⟨.hbm, 16, rfl⟩
abbrev main_v5_4 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S8192x3072 : Shape := ⟨2, ![8192, 3072]⟩
abbrev S8192x512 : Shape := ⟨2, ![8192, 512]⟩
abbrev S3x512 : Shape := ⟨2, ![3, 512]⟩
abbrev S1x512 : Shape := ⟨2, ![1, 512]⟩
abbrev S1024x1024 : Shape := ⟨2, ![1024, 1024]⟩
abbrev S8192x1024 : Shape := ⟨2, ![8192, 1024]⟩
abbrev S_ : Shape := ⟨0, ![]⟩
abbrev S2x512 : Shape := ⟨2, ![2, 512]⟩
abbrev S8194x512 : Shape := ⟨2, ![8194, 512]⟩
abbrev S8192 : Shape := ⟨1, ![8192]⟩
abbrev S8192x1 : Shape := ⟨2, ![8192, 1]⟩
abbrev S512 : Shape := ⟨1, ![512]⟩

abbrev nBuf : Space → Nat
  | .hbm => 124
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S8192x512, .f32⟩
  | .hbm, ⟨2, _⟩ => ⟨S3x512, .f32⟩
  | .hbm, ⟨3, _⟩ => ⟨S1x512, .f32⟩
  | .hbm, ⟨4, _⟩ => ⟨S1x512, .f32⟩
  | .hbm, ⟨5, _⟩ => ⟨S1024x1024, .f32⟩
  | .hbm, ⟨6, _⟩ => ⟨S8192x1024, .f32⟩
  | .hbm, ⟨7, _⟩ => ⟨S8192x512, .f32⟩
  | .hbm, ⟨8, _⟩ => ⟨S8192x512, .f32⟩
  | .hbm, ⟨9, _⟩ => ⟨S8192x512, .f32⟩
  | .hbm, ⟨10, _⟩ => ⟨S8192x512, .f32⟩
  | .hbm, ⟨11, _⟩ => ⟨S8192x512, .f32⟩
  | .hbm, ⟨12, _⟩ => ⟨S8192x512, .f32⟩
  | .hbm, ⟨13, _⟩ => ⟨S8192x512, .f32⟩
  | .hbm, ⟨14, _⟩ => ⟨S_, .f32⟩
  | .hbm, ⟨15, _⟩ => ⟨S2x512, .f32⟩
  | .hbm, ⟨16, _⟩ => ⟨S8194x512, .f32⟩
  | .hbm, ⟨17, _⟩ => ⟨S1x512, .f32⟩
  | .hbm, ⟨18, _⟩ => ⟨S8192x512, .f32⟩
  | .hbm, ⟨19, _⟩ => ⟨S8192x512, .f32⟩
  | .hbm, ⟨20, _⟩ => ⟨S8192x512, .f32⟩
  | .hbm, ⟨21, _⟩ => ⟨S1x512, .f32⟩
  | .hbm, ⟨22, _⟩ => ⟨S8192x512, .f32⟩
  | .hbm, ⟨23, _⟩ => ⟨S8192x512, .f32⟩
  | .hbm, ⟨24, _⟩ => ⟨S8192x512, .f32⟩
  | .hbm, ⟨25, _⟩ => ⟨S8192x512, .f32⟩
  | .hbm, ⟨26, _⟩ => ⟨S1x512, .f32⟩
  | .hbm, ⟨27, _⟩ => ⟨S8192x512, .f32⟩
  | .hbm, ⟨28, _⟩ => ⟨S8192x512, .f32⟩
  | .hbm, ⟨29, _⟩ => ⟨S8192x512, .f32⟩
  | .hbm, ⟨30, _⟩ => ⟨S8192x512, .f32⟩
  | .hbm, ⟨31, _⟩ => ⟨S8192x512, .f32⟩
  | .hbm, ⟨32, _⟩ => ⟨S8192x512, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S8192x1, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S8192x512, .f32⟩
  | .hbm, ⟨48, _⟩ => ⟨S8192x512, .f32⟩
  | .hbm, ⟨49, _⟩ => ⟨S8192x512, .f32⟩
  | .hbm, ⟨50, _⟩ => ⟨S8192x512, .f32⟩
  | .hbm, ⟨51, _⟩ => ⟨S8192x512, .f32⟩
  | .hbm, ⟨52, _⟩ => ⟨S_, .f32⟩
  | .hbm, ⟨53, _⟩ => ⟨S8192, .f32⟩
  | .hbm, ⟨54, _⟩ => ⟨S8192x1, .f32⟩
  | .hbm, ⟨55, _⟩ => ⟨S_, .f32⟩
  | .hbm, ⟨56, _⟩ => ⟨S8192x1, .f32⟩
  | .hbm, ⟨57, _⟩ => ⟨S8192x1, .f32⟩
  | .hbm, ⟨58, _⟩ => ⟨S_, .f32⟩
  | .hbm, ⟨59, _⟩ => ⟨S8192x1, .f32⟩
  | .hbm, ⟨60, _⟩ => ⟨S8192x1, .f32⟩
  | .hbm, ⟨61, _⟩ => ⟨S8192x1, .f32⟩
  | .hbm, ⟨62, _⟩ => ⟨S8192x1, .f32⟩
  | .hbm, ⟨63, _⟩ => ⟨S_, .f32⟩
  | .hbm, ⟨64, _⟩ => ⟨S8192x1, .f32⟩
  | .hbm, ⟨65, _⟩ => ⟨S8192x1, .f32⟩
  | .hbm, ⟨66, _⟩ => ⟨S8192x512, .f32⟩
  | .hbm, ⟨67, _⟩ => ⟨S8192x512, .f32⟩
  | .hbm, ⟨68, _⟩ => ⟨S8192x512, .f32⟩
  | .hbm, ⟨69, _⟩ => ⟨S8192x512, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x512, .f32⟩
  | .hbm, ⟨74, _⟩ => ⟨S8192x512, .f32⟩
  | .hbm, ⟨75, _⟩ => ⟨S8192x512, .f32⟩
  | .hbm, ⟨76, _⟩ => ⟨S_, .f32⟩
  | .hbm, ⟨77, _⟩ => ⟨S512, .f32⟩
  | .hbm, ⟨78, _⟩ => ⟨S1x512, .f32⟩
  | .hbm, ⟨79, _⟩ => ⟨S8192x512, .f32⟩
  | .hbm, ⟨80, _⟩ => ⟨S8192x512, .f32⟩
  | .hbm, ⟨81, _⟩ => ⟨S8192x512, .f32⟩
  | .hbm, ⟨82, _⟩ => ⟨S_, .f32⟩
  | .hbm, ⟨83, _⟩ => ⟨S8192, .f32⟩
  | .hbm, ⟨84, _⟩ => ⟨S8192x1, .f32⟩
  | .hbm, ⟨85, _⟩ => ⟨S8192x512, .f32⟩
  | .hbm, ⟨86, _⟩ => ⟨S8192x512, .f32⟩
  | .hbm, ⟨87, _⟩ => ⟨S8192x1, .f32⟩
  | .hbm, ⟨88, _⟩ => ⟨S_, .f32⟩
  | .hbm, ⟨89, _⟩ => ⟨S8192x1, .f32⟩
  | .hbm, ⟨90, _⟩ => ⟨S8192x1, .f32⟩
  | .hbm, ⟨91, _⟩ => ⟨S_, .f32⟩
  | .hbm, ⟨92, _⟩ => ⟨S8192, .f32⟩
  | .hbm, ⟨93, _⟩ => ⟨S8192x512, .f32⟩
  | .hbm, ⟨94, _⟩ => ⟨S8192x512, .f32⟩
  | .hbm, ⟨95, _⟩ => ⟨S8192x512, .f32⟩
  | .hbm, ⟨96, _⟩ => ⟨S8192x512, .f32⟩
  | .hbm, ⟨97, _⟩ => ⟨S8192x512, .f32⟩
  | .hbm, ⟨98, _⟩ => ⟨S8192x512, .f32⟩
  | .hbm, ⟨99, _⟩ => ⟨S_, .f32⟩
  | .hbm, ⟨100, _⟩ => ⟨S512, .f32⟩
  | .hbm, ⟨101, _⟩ => ⟨S1x512, .f32⟩
  | .hbm, ⟨102, _⟩ => ⟨S8192x512, .f32⟩
  | .hbm, ⟨103, _⟩ => ⟨S8192x512, .f32⟩
  | .hbm, ⟨104, _⟩ => ⟨S8192x512, .f32⟩
  | .hbm, ⟨105, _⟩ => ⟨S_, .f32⟩
  | .hbm, ⟨106, _⟩ => ⟨S8192, .f32⟩
  | .hbm, ⟨107, _⟩ => ⟨S8192x1, .f32⟩
  | .hbm, ⟨108, _⟩ => ⟨S8192x512, .f32⟩
  | .hbm, ⟨109, _⟩ => ⟨S8192x512, .f32⟩
  | .hbm, ⟨110, _⟩ => ⟨S8192x1, .f32⟩
  | .hbm, ⟨111, _⟩ => ⟨S_, .f32⟩
  | .hbm, ⟨112, _⟩ => ⟨S8192x1, .f32⟩
  | .hbm, ⟨113, _⟩ => ⟨S8192x1, .f32⟩
  | .hbm, ⟨114, _⟩ => ⟨S_, .f32⟩
  | .hbm, ⟨115, _⟩ => ⟨S8192, .f32⟩
  | .hbm, ⟨116, _⟩ => ⟨S8192x512, .f32⟩
  | .hbm, ⟨117, _⟩ => ⟨S8192x512, .f32⟩
  | .hbm, ⟨118, _⟩ => ⟨S8192x512, .f32⟩
  | .hbm, ⟨119, _⟩ => ⟨S8192x512, .f32⟩
  | .hbm, ⟨120, _⟩ => ⟨S8192x512, .f32⟩
  | .hbm, ⟨121, _⟩ => ⟨S8192x512, .f32⟩
  | .hbm, ⟨122, _⟩ => ⟨S8192x512, .f32⟩
  | .hbm, ⟨123, _⟩ => ⟨S8192x512, .bf16⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_0 : Ref sig .tc := ⟨.hbm, 33, rfl⟩
abbrev main_v25 : Ref sig .tc := ⟨.hbm, 34, rfl⟩
abbrev main_v26 : Ref sig .tc := ⟨.hbm, 35, rfl⟩
abbrev main_cst_1 : Ref sig .tc := ⟨.hbm, 36, rfl⟩
abbrev main_v27 : Ref sig .tc := ⟨.hbm, 37, rfl⟩
abbrev main_v28 : Ref sig .tc := ⟨.hbm, 38, rfl⟩
abbrev main_cst_2 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_3 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_4 : Ref sig .tc := ⟨.hbm, 52, rfl⟩
abbrev main_v40 : Ref sig .tc := ⟨.hbm, 53, rfl⟩
abbrev main_v41 : Ref sig .tc := ⟨.hbm, 54, rfl⟩
abbrev main_cst_5 : Ref sig .tc := ⟨.hbm, 55, rfl⟩
abbrev main_v42 : Ref sig .tc := ⟨.hbm, 56, rfl⟩
abbrev main_v43 : Ref sig .tc := ⟨.hbm, 57, rfl⟩
abbrev main_cst_6 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_7 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_8 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_9 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_cst_10 : Ref sig .tc := ⟨.hbm, 88, rfl⟩
abbrev main_v70 : Ref sig .tc := ⟨.hbm, 89, rfl⟩
abbrev main_v71 : Ref sig .tc := ⟨.hbm, 90, rfl⟩
abbrev main_cst_11 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_cst_12 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_cst_13 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_cst_14 : Ref sig .tc := ⟨.hbm, 111, rfl⟩
abbrev main_v89 : Ref sig .tc := ⟨.hbm, 112, rfl⟩
abbrev main_v90 : Ref sig .tc := ⟨.hbm, 113, rfl⟩
abbrev main_cst_15 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩

abbrev nD : Nat := 1
abbrev τ : Topo := Topo.v7x

variable {F : FTy → Type} [FloatOps F]
-- ==== Kernel2.lean ====
abbrev S8192x1024 : Shape := ⟨2, ![8192, 1024]⟩
abbrev S1x1024 : Shape := ⟨2, ![1, 1024]⟩
abbrev S1024x3072 : Shape := ⟨2, ![1024, 3072]⟩
abbrev S3x512 : Shape := ⟨2, ![3, 512]⟩
abbrev S8192x512 : Shape := ⟨2, ![8192, 512]⟩
abbrev S_ : Shape := ⟨0, ![]⟩
abbrev S5x512 : Shape := ⟨2, ![5, 512]⟩
abbrev S8x512 : Shape := ⟨2, ![8, 512]⟩
abbrev S3072x1024 : Shape := ⟨2, ![3072, 1024]⟩
abbrev S8192 : Shape := ⟨1, ![8192]⟩
abbrev S8192x1 : Shape := ⟨2, ![8192, 1]⟩
abbrev S8192x3072 : Shape := ⟨2, ![8192, 3072]⟩
abbrev S512x512 : Shape := ⟨2, ![512, 512]⟩
abbrev S512x1536 : Shape := ⟨2, ![512, 1536]⟩
abbrev S8x1536 : Shape := ⟨2, ![8, 1536]⟩
abbrev S512x1024 : Shape := ⟨2, ![512, 1024]⟩
abbrev S512x3072 : Shape := ⟨2, ![512, 3072]⟩
abbrev S1x512 : Shape := ⟨2, ![1, 512]⟩
abbrev S512 : Shape := ⟨1, ![512]⟩
abbrev S512x1 : Shape := ⟨2, ![512, 1]⟩
abbrev S1024 : Shape := ⟨1, ![1024]⟩

abbrev nBuf : Space → Nat
  | .hbm => 40
  | .vmem => 29
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x3072, .f32⟩
  | .hbm, ⟨3, _⟩ => ⟨S3x512, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S8192x512, .f32⟩
  | .hbm, ⟨8, _⟩ => ⟨S8192x512, .f32⟩
  | .hbm, ⟨9, _⟩ => ⟨S8192x1024, .f32⟩
  | .hbm, ⟨10, _⟩ => ⟨S_, .f32⟩
  | .hbm, ⟨11, _⟩ => ⟨S5x512, .f32⟩
  | .hbm, ⟨12, _⟩ => ⟨S8x512, .f32⟩
  | .hbm, ⟨13, _⟩ => ⟨S3072x1024, .f32⟩
  | .hbm, ⟨14, _⟩ => ⟨S3072x1024, .bf16⟩
  | .hbm, ⟨15, _⟩ => ⟨S8192x1024, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x3072, .f32⟩
  | .hbm, ⟨31, _⟩ => ⟨S8192x3072, .bf16⟩
  | .hbm, ⟨32, _⟩ => ⟨S8192x512, .bf16⟩
  | .hbm, ⟨33, _⟩ => ⟨S8192x512, .bf16⟩
  | .hbm, ⟨34, _⟩ => ⟨S8192x512, .bf16⟩
  | .hbm, ⟨35, _⟩ => ⟨S8192x512, .bf16⟩
  | .hbm, ⟨36, _⟩ => ⟨S8192x3072, .bf16⟩
  | .hbm, ⟨37, _⟩ => ⟨S8192x1024, .f32⟩
  | .hbm, ⟨38, _⟩ => ⟨S1x1024, .f32⟩
  | .hbm, ⟨39, _⟩ => ⟨S8x512, .f32⟩
  | .local _ .vmem, ⟨0, _⟩ => ⟨S512x512, .f32⟩
  | .local _ .vmem, ⟨1, _⟩ => ⟨S512x512, .f32⟩
  | .local _ .vmem, ⟨2, _⟩ => ⟨S8x512, .f32⟩
  | .local _ .vmem, ⟨3, _⟩ => ⟨S8x512, .f32⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x1536, .bf16⟩
  | .local _ .vmem, ⟨13, _⟩ => ⟨S512x1536, .bf16⟩
  | .local _ .vmem, ⟨14, _⟩ => ⟨S8x1536, .bf16⟩
  | .local _ .vmem, ⟨15, _⟩ => ⟨S8x1536, .bf16⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S1x1024, .f32⟩
  | .local _ .vmem, ⟨21, _⟩ => ⟨S8x512, .f32⟩
  | .local _ .vmem, ⟨22, _⟩ => ⟨S3072x1024, .bf16⟩
  | .local _ .vmem, ⟨23, _⟩ => ⟨S512x3072, .bf16⟩
  | .local _ .vmem, ⟨24, _⟩ => ⟨S512x3072, .bf16⟩
  | .local _ .vmem, ⟨25, _⟩ => ⟨S512x1024, .f32⟩
  | .local _ .vmem, ⟨26, _⟩ => ⟨S512x1024, .f32⟩
  | .local _ .vmem, ⟨27, _⟩ => ⟨S1x1024, .f32⟩
  | .local _ .vmem, ⟨28, _⟩ => ⟨S8x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22_0 : Ref sig .tc := ⟨.hbm, 36, rfl⟩
abbrev main_v22_1 : Ref sig .tc := ⟨.hbm, 37, rfl⟩
abbrev main_v22_2 : Ref sig .tc := ⟨.hbm, 38, rfl⟩
abbrev main_v22_3 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg16_0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem16_0 : DmaSem sig := 28

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x1536 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S3072x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x3072 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S8x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== Reference2Ideal.lean ====
abbrev S8192x1024 : Shape := ⟨2, ![8192, 1024]⟩
abbrev S1x1024 : Shape := ⟨2, ![1, 1024]⟩
abbrev S1024x3072 : Shape := ⟨2, ![1024, 3072]⟩
abbrev S3x512 : Shape := ⟨2, ![3, 512]⟩
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S8192x3072 : Shape := ⟨2, ![8192, 3072]⟩
abbrev S2x512 : Shape := ⟨2, ![2, 512]⟩
abbrev S8194x512 : Shape := ⟨2, ![8194, 512]⟩
abbrev S1x512 : Shape := ⟨2, ![1, 512]⟩
abbrev S512 : Shape := ⟨1, ![512]⟩
abbrev S1024 : Shape := ⟨1, ![1024]⟩
abbrev S5x512 : Shape := ⟨2, ![5, 512]⟩
abbrev S8x512 : Shape := ⟨2, ![8, 512]⟩

abbrev nBuf : Space → Nat
  | .hbm => 126
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x3072, .f32⟩
  | .hbm, ⟨3, _⟩ => ⟨S3x512, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S8192x512, .f32⟩
  | .hbm, ⟨8, _⟩ => ⟨S8192x512, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x3072, .f32⟩
  | .hbm, ⟨30, _⟩ => ⟨S8192x512, .f32⟩
  | .hbm, ⟨31, _⟩ => ⟨S8192x512, .f32⟩
  | .hbm, ⟨32, _⟩ => ⟨S8192x512, .f32⟩
  | .hbm, ⟨33, _⟩ => ⟨S8192x512, .f32⟩
  | .hbm, ⟨34, _⟩ => ⟨S8192x512, .f32⟩
  | .hbm, ⟨35, _⟩ => ⟨S8192x512, .f32⟩
  | .hbm, ⟨36, _⟩ => ⟨S8192x512, .f32⟩
  | .hbm, ⟨37, _⟩ => ⟨S_, .f32⟩
  | .hbm, ⟨38, _⟩ => ⟨S2x512, .f32⟩
  | .hbm, ⟨39, _⟩ => ⟨S8194x512, .f32⟩
  | .hbm, ⟨40, _⟩ => ⟨S_, .f32⟩
  | .hbm, ⟨41, _⟩ => ⟨S2x512, .f32⟩
  | .hbm, ⟨42, _⟩ => ⟨S1x512, .f32⟩
  | .hbm, ⟨43, _⟩ => ⟨S8192x512, .f32⟩
  | .hbm, ⟨44, _⟩ => ⟨S8192x512, .f32⟩
  | .hbm, ⟨45, _⟩ => ⟨S8192x512, .f32⟩
  | .hbm, ⟨46, _⟩ => ⟨S1x512, .f32⟩
  | .hbm, ⟨47, _⟩ => ⟨S8192x512, .f32⟩
  | .hbm, ⟨48, _⟩ => ⟨S8192x512, .f32⟩
  | .hbm, ⟨49, _⟩ => ⟨S8192x512, .f32⟩
  | .hbm, ⟨50, _⟩ => ⟨S8192x512, .f32⟩
  | .hbm, ⟨51, _⟩ => ⟨S1x512, .f32⟩
  | .hbm, ⟨52, _⟩ => ⟨S8192x512, .f32⟩
  | .hbm, ⟨53, _⟩ => ⟨S8192x512, .f32⟩
  | .hbm, ⟨54, _⟩ => ⟨S8192x512, .f32⟩
  | .hbm, ⟨55, _⟩ => ⟨S8192x512, .f32⟩
  | .hbm, ⟨56, _⟩ => ⟨S8192x512, .f32⟩
  | .hbm, ⟨57, _⟩ => ⟨S8192x512, .f32⟩
  | .hbm, ⟨58, _⟩ => ⟨S8192x512, .f32⟩
  | .hbm, ⟨59, _⟩ => ⟨S8192x512, .f32⟩
  | .hbm, ⟨60, _⟩ => ⟨S8192x512, .f32⟩
  | .hbm, ⟨61, _⟩ => ⟨S_, .f32⟩
  | .hbm, ⟨62, _⟩ => ⟨S512, .f32⟩
  | .hbm, ⟨63, _⟩ => ⟨S1x512, .f32⟩
  | .hbm, ⟨64, _⟩ => ⟨S_, .f32⟩
  | .hbm, ⟨65, _⟩ => ⟨S8194x512, .f32⟩
  | .hbm, ⟨66, _⟩ => ⟨S_, .f32⟩
  | .hbm, ⟨67, _⟩ => ⟨S3x512, .f32⟩
  | .hbm, ⟨68, _⟩ => ⟨S8192x512, .f32⟩
  | .hbm, ⟨69, _⟩ => ⟨S8192x512, .f32⟩
  | .hbm, ⟨70, _⟩ => ⟨S8192x512, .f32⟩
  | .hbm, ⟨71, _⟩ => ⟨S_, .f32⟩
  | .hbm, ⟨72, _⟩ => ⟨S512, .f32⟩
  | .hbm, ⟨73, _⟩ => ⟨S1x512, .f32⟩
  | .hbm, ⟨74, _⟩ => ⟨S_, .f32⟩
  | .hbm, ⟨75, _⟩ => ⟨S8194x512, .f32⟩
  | .hbm, ⟨76, _⟩ => ⟨S8194x512, .f32⟩
  | .hbm, ⟨77, _⟩ => ⟨S_, .f32⟩
  | .hbm, ⟨78, _⟩ => ⟨S3x512, .f32⟩
  | .hbm, ⟨79, _⟩ => ⟨S3x512, .f32⟩
  | .hbm, ⟨80, _⟩ => ⟨S8192x512, .f32⟩
  | .hbm, ⟨81, _⟩ => ⟨S8192x512, .f32⟩
  | .hbm, ⟨82, _⟩ => ⟨S8192x512, .f32⟩
  | .hbm, ⟨83, _⟩ => ⟨S_, .f32⟩
  | .hbm, ⟨84, _⟩ => ⟨S512, .f32⟩
  | .hbm, ⟨85, _⟩ => ⟨S1x512, .f32⟩
  | .hbm, ⟨86, _⟩ => ⟨S_, .f32⟩
  | .hbm, ⟨87, _⟩ => ⟨S8194x512, .f32⟩
  | .hbm, ⟨88, _⟩ => ⟨S8194x512, .f32⟩
  | .hbm, ⟨89, _⟩ => ⟨S_, .f32⟩
  | .hbm, ⟨90, _⟩ => ⟨S3x512, .f32⟩
  | .hbm, ⟨91, _⟩ => ⟨S3x512, .f32⟩
  | .hbm, ⟨92, _⟩ => ⟨S2x512, .f32⟩
  | .hbm, ⟨93, _⟩ => ⟨S8192x512, .f32⟩
  | .hbm, ⟨94, _⟩ => ⟨S8192x512, .f32⟩
  | .hbm, ⟨95, _⟩ => ⟨S8192x512, .f32⟩
  | .hbm, ⟨96, _⟩ => ⟨S8192x3072, .f32⟩
  | .hbm, ⟨97, _⟩ => ⟨S8192x1024, .f32⟩
  | .hbm, ⟨98, _⟩ => ⟨S8192x1024, .f32⟩
  | .hbm, ⟨99, _⟩ => ⟨S_, .f32⟩
  | .hbm, ⟨100, _⟩ => ⟨S1024, .f32⟩
  | .hbm, ⟨101, _⟩ => ⟨S1x1024, .f32⟩
  | .hbm, ⟨102, _⟩ => ⟨S8192x1024, .f32⟩
  | .hbm, ⟨103, _⟩ => ⟨S8192x1024, .f32⟩
  | .hbm, ⟨104, _⟩ => ⟨S8192x1024, .f32⟩
  | .hbm, ⟨105, _⟩ => ⟨S_, .f32⟩
  | .hbm, ⟨106, _⟩ => ⟨S8192, .f32⟩
  | .hbm, ⟨107, _⟩ => ⟨S8192x1, .f32⟩
  | .hbm, ⟨108, _⟩ => ⟨S8192x1024, .f32⟩
  | .hbm, ⟨109, _⟩ => ⟨S8192x1024, .f32⟩
  | .hbm, ⟨110, _⟩ => ⟨S8192x1, .f32⟩
  | .hbm, ⟨111, _⟩ => ⟨S_, .f32⟩
  | .hbm, ⟨112, _⟩ => ⟨S8192x1, .f32⟩
  | .hbm, ⟨113, _⟩ => ⟨S8192x1, .f32⟩
  | .hbm, ⟨114, _⟩ => ⟨S_, .f32⟩
  | .hbm, ⟨115, _⟩ => ⟨S8192, .f32⟩
  | .hbm, ⟨116, _⟩ => ⟨S8192x1024, .f32⟩
  | .hbm, ⟨117, _⟩ => ⟨S8192x1024, .f32⟩
  | .hbm, ⟨118, _⟩ => ⟨S8192x1024, .f32⟩
  | .hbm, ⟨119, _⟩ => ⟨S8192x1024, .f32⟩
  | .hbm, ⟨120, _⟩ => ⟨S8192x1024, .f32⟩
  | .hbm, ⟨121, _⟩ => ⟨S8192x3072, .bf16⟩
  | .hbm, ⟨122, _⟩ => ⟨S8192x1024, .f32⟩
  | .hbm, ⟨123, _⟩ => ⟨S_, .f32⟩
  | .hbm, ⟨124, _⟩ => ⟨S5x512, .f32⟩
  | .hbm, ⟨125, _⟩ => ⟨S8x512, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_5 : Ref sig .tc := ⟨.hbm, 61, rfl⟩
abbrev main_v45 : Ref sig .tc := ⟨.hbm, 62, rfl⟩
abbrev main_v46 : Ref sig .tc := ⟨.hbm, 63, rfl⟩
abbrev main_cst_6 : Ref sig .tc := ⟨.hbm, 64, rfl⟩
abbrev main_v47 : Ref sig .tc := ⟨.hbm, 65, rfl⟩
abbrev main_cst_7 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_8 : Ref sig .tc := ⟨.hbm, 71, rfl⟩
abbrev main_v52 : Ref sig .tc := ⟨.hbm, 72, rfl⟩
abbrev main_v53 : Ref sig .tc := ⟨.hbm, 73, rfl⟩
abbrev main_cst_9 : Ref sig .tc := ⟨.hbm, 74, rfl⟩
abbrev main_v54 : Ref sig .tc := ⟨.hbm, 75, rfl⟩
abbrev main_v55 : Ref sig .tc := ⟨.hbm, 76, rfl⟩
abbrev main_cst_10 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_11 : Ref sig .tc := ⟨.hbm, 83, rfl⟩
abbrev main_v61 : Ref sig .tc := ⟨.hbm, 84, rfl⟩
abbrev main_v62 : Ref sig .tc := ⟨.hbm, 85, rfl⟩
abbrev main_cst_12 : Ref sig .tc := ⟨.hbm, 86, rfl⟩
abbrev main_v63 : Ref sig .tc := ⟨.hbm, 87, rfl⟩
abbrev main_v64 : Ref sig .tc := ⟨.hbm, 88, rfl⟩
abbrev main_cst_13 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_14 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_cst_15 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_cst_16 : Ref sig .tc := ⟨.hbm, 111, rfl⟩
abbrev main_v84 : Ref sig .tc := ⟨.hbm, 112, rfl⟩
abbrev main_v85 : Ref sig .tc := ⟨.hbm, 113, rfl⟩
abbrev main_cst_17 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_cst_18 : Ref sig .tc := ⟨.hbm, 123, rfl⟩
abbrev main_v94 : Ref sig .tc := ⟨.hbm, 124, rfl⟩
abbrev main_v95 : Ref sig .tc := ⟨.hbm, 125, rfl⟩

abbrev nD : Nat := 1
abbrev τ : Topo := Topo.v7x

variable {F : FTy → Type} [FloatOps F]
-- ==== Kernel3.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩
abbrev S512x1024 : Shape := ⟨2, ![512, 1024]⟩
abbrev S512x1408 : Shape := ⟨2, ![512, 1408]⟩
abbrev S1408x1024 : Shape := ⟨2, ![1408, 1024]⟩
abbrev S256x1024 : Shape := ⟨2, ![256, 1024]⟩
abbrev S512x256 : Shape := ⟨2, ![512, 256]⟩
abbrev S128x1024 : Shape := ⟨2, ![128, 1024]⟩
abbrev S512x128 : Shape := ⟨2, ![512, 128]⟩
abbrev S512 : Shape := ⟨1, ![512]⟩
abbrev S512x1 : Shape := ⟨2, ![512, 1]⟩
abbrev S1024 : Shape := ⟨1, ![1024]⟩

abbrev nBuf : Space → Nat
  | .hbm => 35
  | .vmem => 25
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x2816, .f32⟩
  | .hbm, ⟨22, _⟩ => ⟨S8192x2816, .bf16⟩
  | .hbm, ⟨23, _⟩ => ⟨S8192x2816, .f32⟩
  | .hbm, ⟨24, _⟩ => ⟨S8192x2816, .bf16⟩
  | .hbm, ⟨25, _⟩ => ⟨S2816x1024, .f32⟩
  | .hbm, ⟨26, _⟩ => ⟨S2816x1024, .bf16⟩
  | .hbm, ⟨27, _⟩ => ⟨S2816x1024, .f32⟩
  | .hbm, ⟨28, _⟩ => ⟨S2816x1024, .bf16⟩
  | .hbm, ⟨29, _⟩ => ⟨S2816x1024, .bf16⟩
  | .hbm, ⟨30, _⟩ => ⟨S8192x2816, .bf16⟩
  | .hbm, ⟨31, _⟩ => ⟨S8192x2816, .bf16⟩
  | .hbm, ⟨32, _⟩ => ⟨S8192x1024, .f32⟩
  | .hbm, ⟨33, _⟩ => ⟨S8192x1024, .bf16⟩
  | .hbm, ⟨34, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1408, .bf16⟩
  | .local _ .vmem, ⟨3, _⟩ => ⟨S512x1408, .bf16⟩
  | .local _ .vmem, ⟨4, _⟩ => ⟨S512x1408, .bf16⟩
  | .local _ .vmem, ⟨5, _⟩ => ⟨S512x1408, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1408x1024, .bf16⟩
  | .local _ .vmem, ⟨10, _⟩ => ⟨S1408x1024, .bf16⟩
  | .local _ .vmem, ⟨11, _⟩ => ⟨S1408x1024, .bf16⟩
  | .local _ .vmem, ⟨12, _⟩ => ⟨S1408x1024, .bf16⟩
  | .local _ .vmem, ⟨13, _⟩ => ⟨S1408x1024, .bf16⟩
  | .local _ .vmem, ⟨14, _⟩ => ⟨S1408x1024, .bf16⟩
  | .local _ .vmem, ⟨15, _⟩ => ⟨S512x1408, .bf16⟩
  | .local _ .vmem, ⟨16, _⟩ => ⟨S512x1408, .bf16⟩
  | .local _ .vmem, ⟨17, _⟩ => ⟨S512x1408, .bf16⟩
  | .local _ .vmem, ⟨18, _⟩ => ⟨S512x1408, .bf16⟩
  | .local _ .vmem, ⟨19, _⟩ => ⟨S512x1024, .f32⟩
  | .local _ .vmem, ⟨20, _⟩ => ⟨S512x1024, .f32⟩
  | .local _ .vmem, ⟨21, _⟩ => ⟨S512x1024, .bf16⟩
  | .local _ .vmem, ⟨22, _⟩ => ⟨S512x1024, .bf16⟩
  | .local _ .vmem, ⟨23, _⟩ => ⟨S1x1024, .f32⟩
  | .local _ .vmem, ⟨24, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21_0 : Ref sig .tc := ⟨.hbm, 30, rfl⟩
abbrev main_v21_1 : Ref sig .tc := ⟨.hbm, 31, rfl⟩
abbrev main_v21_2 : Ref sig .tc := ⟨.hbm, 32, rfl⟩
abbrev main_v21_3 : Ref sig .tc := ⟨.hbm, 33, rfl⟩
abbrev main_v21_4 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23

abbrev nD : Nat := 1
abbrev τ : Topo := Topo.v7x

variable {F : FTy → Type} [FloatOps F]

abbrev grid0 : Pipeline.Grid := ⟨2, ![16, 2], ![false, false]⟩

def k0_cond3 (i : grid0.Coords) : BitVec 1 :=
  let arg1 : BitVec 32 := BitVec.ofNat 32 (i 1).val
  let c1_i32 : BitVec 32 := 1#32
  let v165 : BitVec 1 := Scalar.cmpi .eq arg1 c1_i32
  let v166 : BitVec 32 := Scalar.extui v165
  let c0_i32_87 : BitVec 32 := 0#32
  let v167 : BitVec 1 := Scalar.cmpi .ne v166 c0_i32_87
  v167

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1408x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1408x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1408x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x1408 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1408 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]
-- ==== Reference3Ideal.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩
abbrev S1024 : Shape := ⟨1, ![1024]⟩

abbrev nBuf : Space → Nat
  | .hbm => 81
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S_, .f32⟩
  | .hbm, ⟨30, _⟩ => ⟨S8192x2816, .f32⟩
  | .hbm, ⟨31, _⟩ => ⟨S8192x2816, .f32⟩
  | .hbm, ⟨32, _⟩ => ⟨S_, .f32⟩
  | .hbm, ⟨33, _⟩ => ⟨S8192x2816, .f32⟩
  | .hbm, ⟨34, _⟩ => ⟨S8192x2816, .f32⟩
  | .hbm, ⟨35, _⟩ => ⟨S_, .f32⟩
  | .hbm, ⟨36, _⟩ => ⟨S8192x2816, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S8192x2816, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x2816, .f32⟩
  | .hbm, ⟨45, _⟩ => ⟨S8192x2816, .f32⟩
  | .hbm, ⟨46, _⟩ => ⟨S8192x2816, .f32⟩
  | .hbm, ⟨47, _⟩ => ⟨S8192x2816, .f32⟩
  | .hbm, ⟨48, _⟩ => ⟨S8192x2816, .f32⟩
  | .hbm, ⟨49, _⟩ => ⟨S8192x2816, .f32⟩
  | .hbm, ⟨50, _⟩ => ⟨S8192x2816, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S_, .f32⟩
  | .hbm, ⟨62, _⟩ => ⟨S8192, .f32⟩
  | .hbm, ⟨63, _⟩ => ⟨S8192x1, .f32⟩
  | .hbm, ⟨64, _⟩ => ⟨S8192x1024, .f32⟩
  | .hbm, ⟨65, _⟩ => ⟨S8192x1024, .f32⟩
  | .hbm, ⟨66, _⟩ => ⟨S8192x1, .f32⟩
  | .hbm, ⟨67, _⟩ => ⟨S_, .f32⟩
  | .hbm, ⟨68, _⟩ => ⟨S8192x1, .f32⟩
  | .hbm, ⟨69, _⟩ => ⟨S8192x1, .f32⟩
  | .hbm, ⟨70, _⟩ => ⟨S_, .f32⟩
  | .hbm, ⟨71, _⟩ => ⟨S8192, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8192x2816, .bf16⟩
  | .hbm, ⟨79, _⟩ => ⟨S8192x2816, .bf16⟩
  | .hbm, ⟨80, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_v17_2 : Ref sig .tc := ⟨.hbm, 34, rfl⟩
abbrev main_call0_cst_1 : Ref sig .tc := ⟨.hbm, 35, rfl⟩
abbrev main_call0_v6 : Ref sig .tc := ⟨.hbm, 36, rfl⟩
abbrev main_call0_v7 : Ref sig .tc := ⟨.hbm, 37, rfl⟩
abbrev main_v17_1 : Ref sig .tc := ⟨.hbm, 38, rfl⟩
abbrev main_v17_0 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_cst_3 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_4 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_5 : Ref sig .tc := ⟨.hbm, 67, rfl⟩
abbrev main_v40 : Ref sig .tc := ⟨.hbm, 68, rfl⟩
abbrev main_v41 : Ref sig .tc := ⟨.hbm, 69, rfl⟩
abbrev main_cst_6 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩

abbrev nD : Nat := 1
abbrev τ : Topo := Topo.v7x

variable {F : FTy → Type} [FloatOps F]
-- ==== Kernel4.lean ====
abbrev S8192x1024 : Shape := ⟨2, ![8192, 1024]⟩
abbrev S1024x2816 : Shape := ⟨2, ![1024, 2816]⟩
abbrev S2816x1024 : Shape := ⟨2, ![2816, 1024]⟩
abbrev S8192x2816 : Shape := ⟨2, ![8192, 2816]⟩
abbrev S8x128 : Shape := ⟨2, ![8, 128]⟩
abbrev S512x1024 : Shape := ⟨2, ![512, 1024]⟩
abbrev S512x2816 : Shape := ⟨2, ![512, 2816]⟩
abbrev S256x1024 : Shape := ⟨2, ![256, 1024]⟩
abbrev S512x256 : Shape := ⟨2, ![512, 256]⟩
abbrev S1x512x1024 : Shape := ⟨3, ![1, 512, 1024]⟩
abbrev S1 : Shape := ⟨1, ![1]⟩
abbrev S1x1x1 : Shape := ⟨3, ![1, 1, 1]⟩

abbrev nBuf : Space → Nat
  | .hbm => 17
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x1024, .f32⟩
  | .hbm, ⟨6, _⟩ => ⟨S8192x1024, .bf16⟩
  | .hbm, ⟨7, _⟩ => ⟨S2816x1024, .f32⟩
  | .hbm, ⟨8, _⟩ => ⟨S2816x1024, .bf16⟩
  | .hbm, ⟨9, _⟩ => ⟨S2816x1024, .f32⟩
  | .hbm, ⟨10, _⟩ => ⟨S2816x1024, .bf16⟩
  | .hbm, ⟨11, _⟩ => ⟨S2816x1024, .bf16⟩
  | .hbm, ⟨12, _⟩ => ⟨S8192x2816, .bf16⟩
  | .hbm, ⟨13, _⟩ => ⟨S8192x2816, .bf16⟩
  | .hbm, ⟨14, _⟩ => ⟨S8192x1024, .f32⟩
  | .hbm, ⟨15, _⟩ => ⟨S8192x1024, .bf16⟩
  | .hbm, ⟨16, _⟩ => ⟨S8x128, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S2816x1024, .bf16⟩
  | .local _ .vmem, ⟨7, _⟩ => ⟨S2816x1024, .bf16⟩
  | .local _ .vmem, ⟨8, _⟩ => ⟨S2816x1024, .bf16⟩
  | .local _ .vmem, ⟨9, _⟩ => ⟨S512x2816, .bf16⟩
  | .local _ .vmem, ⟨10, _⟩ => ⟨S512x2816, .bf16⟩
  | .local _ .vmem, ⟨11, _⟩ => ⟨S512x2816, .bf16⟩
  | .local _ .vmem, ⟨12, _⟩ => ⟨S512x2816, .bf16⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S8x128, .f32⟩
  | .local _ .vmem, ⟨18, _⟩ => ⟨S512x2816, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev main_v6_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference4Ideal.lean ====
abbrev S8192x1024 : Shape := ⟨2, ![8192, 1024]⟩
abbrev S1024x2816 : Shape := ⟨2, ![1024, 2816]⟩
abbrev S2816x1024 : Shape := ⟨2, ![2816, 1024]⟩
abbrev S8192x2816 : Shape := ⟨2, ![8192, 2816]⟩
abbrev S_ : Shape := ⟨0, ![]⟩
abbrev S8192 : Shape := ⟨1, ![8192]⟩
abbrev S8x128 : Shape := ⟨2, ![8, 128]⟩

abbrev nBuf : Space → Nat
  | .hbm => 49
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x1024, .f32⟩
  | .hbm, ⟨6, _⟩ => ⟨S8192x2816, .f32⟩
  | .hbm, ⟨7, _⟩ => ⟨S8192x2816, .f32⟩
  | .hbm, ⟨8, _⟩ => ⟨S8192x2816, .f32⟩
  | .hbm, ⟨9, _⟩ => ⟨S8192x2816, .f32⟩
  | .hbm, ⟨10, _⟩ => ⟨S_, .f32⟩
  | .hbm, ⟨11, _⟩ => ⟨S8192x2816, .f32⟩
  | .hbm, ⟨12, _⟩ => ⟨S8192x2816, .f32⟩
  | .hbm, ⟨13, _⟩ => ⟨S_, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192, .f32⟩
  | .hbm, ⟨27, _⟩ => ⟨S_, .f32⟩
  | .hbm, ⟨28, _⟩ => ⟨S8192, .f32⟩
  | .hbm, ⟨29, _⟩ => ⟨S8192, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S8192, .f32⟩
  | .hbm, ⟨38, _⟩ => ⟨S_, .f32⟩
  | .hbm, ⟨39, _⟩ => ⟨S8192, .f32⟩
  | .hbm, ⟨40, _⟩ => ⟨S8192, .f32⟩
  | .hbm, ⟨41, _⟩ => ⟨S8192x1024, .f32⟩
  | .hbm, ⟨42, _⟩ => ⟨S8192x1024, .f32⟩
  | .hbm, ⟨43, _⟩ => ⟨S8192x2816, .bf16⟩
  | .hbm, ⟨44, _⟩ => ⟨S8192x2816, .bf16⟩
  | .hbm, ⟨45, _⟩ => ⟨S8192x1024, .bf16⟩
  | .hbm, ⟨46, _⟩ => ⟨S_, .f32⟩
  | .hbm, ⟨47, _⟩ => ⟨S_, .f32⟩
  | .hbm, ⟨48, _⟩ => ⟨S8x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_v9 : Ref sig .tc := ⟨.hbm, 24, rfl⟩
abbrev main_cst_0 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_cst_3 : Ref sig .tc := ⟨.hbm, 32, rfl⟩
abbrev main_v14 : Ref sig .tc := ⟨.hbm, 33, rfl⟩
abbrev main_cst_4 : Ref sig .tc := ⟨.hbm, 34, rfl⟩
abbrev main_cst_5 : Ref sig .tc := ⟨.hbm, 35, rfl⟩
abbrev main_v15 : Ref sig .tc := ⟨.hbm, 36, rfl⟩
abbrev main_v16 : Ref sig .tc := ⟨.hbm, 37, rfl⟩
abbrev main_cst_6 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_7 : Ref sig .tc := ⟨.hbm, 46, rfl⟩
abbrev main_v24 : Ref sig .tc := ⟨.hbm, 47, rfl⟩
abbrev main_v25 : Ref sig .tc := ⟨.hbm, 48, rfl⟩

abbrev nD : Nat := 1
abbrev τ : Topo := Topo.v7x

variable {F : FTy → Type} [FloatOps F]
-- ==== Kernel5.lean ====
abbrev S8192x3072 : Shape := ⟨2, ![8192, 3072]⟩
abbrev S8192x512 : Shape := ⟨2, ![8192, 512]⟩
abbrev S8192x1024 : Shape := ⟨2, ![8192, 1024]⟩
abbrev S3x512 : Shape := ⟨2, ![3, 512]⟩
abbrev S1x512 : Shape := ⟨2, ![1, 512]⟩
abbrev S1x1024 : Shape := ⟨2, ![1, 1024]⟩
abbrev S1024x1024 : Shape := ⟨2, ![1024, 1024]⟩
abbrev S_ : Shape := ⟨0, ![]⟩
abbrev S5x512 : Shape := ⟨2, ![5, 512]⟩
abbrev S8x512 : Shape := ⟨2, ![8, 512]⟩
abbrev S512x1536 : Shape := ⟨2, ![512, 1536]⟩
abbrev S8x1536 : Shape := ⟨2, ![8, 1536]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩

abbrev nBuf : Space → Nat
  | .hbm => 16
  | .vmem => 19
  | .smem => 0
  | _ => 0

abbrev bufTy : (tb : Table) → Fin (tcTables nBuf tb) → BufTy
  | .hbm, ⟨0, _⟩ => ⟨S8192x3072, .f32⟩
  | .hbm, ⟨1, _⟩ => ⟨S8192x512, .f32⟩
  | .hbm, ⟨2, _⟩ => ⟨S8192x1024, .f32⟩
  | .hbm, ⟨3, _⟩ => ⟨S3x512, .f32⟩
  | .hbm, ⟨4, _⟩ => ⟨S1x512, .f32⟩
  | .hbm, ⟨5, _⟩ => ⟨S1x512, .f32⟩
  | .hbm, ⟨6, _⟩ => ⟨S1x1024, .f32⟩
  | .hbm, ⟨7, _⟩ => ⟨S1024x1024, .f32⟩
  | .hbm, ⟨8, _⟩ => ⟨S_, .f32⟩
  | .hbm, ⟨9, _⟩ => ⟨S5x512, .f32⟩
  | .hbm, ⟨10, _⟩ => ⟨S8x512, .f32⟩
  | .hbm, ⟨11, _⟩ => ⟨S8192x3072, .bf16⟩
  | .hbm, ⟨12, _⟩ => ⟨S1024x1024, .bf16⟩
  | .hbm, ⟨13, _⟩ => ⟨S8192x1024, .bf16⟩
  | .hbm, ⟨14, _⟩ => ⟨S8192x1024, .f32⟩
  | .hbm, ⟨15, _⟩ => ⟨S8192x1024, .bf16⟩
  | .local _ .vmem, ⟨0, _⟩ => ⟨S512x1536, .bf16⟩
  | .local _ .vmem, ⟨1, _⟩ => ⟨S512x1536, .bf16⟩
  | .local _ .vmem, ⟨2, _⟩ => ⟨S8x1536, .bf16⟩
  | .local _ .vmem, ⟨3, _⟩ => ⟨S8x1536, .bf16⟩
  | .local _ .vmem, ⟨4, _⟩ => ⟨S512x512, .f32⟩
  | .local _ .vmem, ⟨5, _⟩ => ⟨S512x512, .f32⟩
  | .local _ .vmem, ⟨6, _⟩ => ⟨S512x1024, .f32⟩
  | .local _ .vmem, ⟨7, _⟩ => ⟨S512x1024, .f32⟩
  | .local _ .vmem, ⟨8, _⟩ => ⟨S8x512, .f32⟩
  | .local _ .vmem, ⟨9, _⟩ => ⟨S1x512, .f32⟩
  | .local _ .vmem, ⟨10, _⟩ => ⟨S1x512, .f32⟩
  | .local _ .vmem, ⟨11, _⟩ => ⟨S1x1024, .f32⟩
  | .local _ .vmem, ⟨12, _⟩ => ⟨S1024x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference5Ideal.lean ====
abbrev S8192x3072 : Shape := ⟨2, ![8192, 3072]⟩
abbrev S8192x512 : Shape := ⟨2, ![8192, 512]⟩
abbrev S8192x1024 : Shape := ⟨2, ![8192, 1024]⟩
abbrev S3x512 : Shape := ⟨2, ![3, 512]⟩
abbrev S1x512 : Shape := ⟨2, ![1, 512]⟩
abbrev S1x1024 : Shape := ⟨2, ![1, 1024]⟩
abbrev S1024x1024 : Shape := ⟨2, ![1024, 1024]⟩
abbrev S_ : Shape := ⟨0, ![]⟩
abbrev S2x512 : Shape := ⟨2, ![2, 512]⟩
abbrev S8194x512 : Shape := ⟨2, ![8194, 512]⟩
abbrev S8192 : Shape := ⟨1, ![8192]⟩
abbrev S8192x1 : Shape := ⟨2, ![8192, 1]⟩

abbrev nBuf : Space → Nat
  | .hbm => 83
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S8192x512, .f32⟩
  | .hbm, ⟨2, _⟩ => ⟨S8192x1024, .f32⟩
  | .hbm, ⟨3, _⟩ => ⟨S3x512, .f32⟩
  | .hbm, ⟨4, _⟩ => ⟨S1x512, .f32⟩
  | .hbm, ⟨5, _⟩ => ⟨S1x512, .f32⟩
  | .hbm, ⟨6, _⟩ => ⟨S1x1024, .f32⟩
  | .hbm, ⟨7, _⟩ => ⟨S1024x1024, .f32⟩
  | .hbm, ⟨8, _⟩ => ⟨S8192x512, .f32⟩
  | .hbm, ⟨9, _⟩ => ⟨S8192x512, .f32⟩
  | .hbm, ⟨10, _⟩ => ⟨S8192x512, .f32⟩
  | .hbm, ⟨11, _⟩ => ⟨S8192x512, .f32⟩
  | .hbm, ⟨12, _⟩ => ⟨S8192x512, .f32⟩
  | .hbm, ⟨13, _⟩ => ⟨S8192x512, .f32⟩
  | .hbm, ⟨14, _⟩ => ⟨S8192x512, .f32⟩
  | .hbm, ⟨15, _⟩ => ⟨S_, .f32⟩
  | .hbm, ⟨16, _⟩ => ⟨S2x512, .f32⟩
  | .hbm, ⟨17, _⟩ => ⟨S8194x512, .f32⟩
  | .hbm, ⟨18, _⟩ => ⟨S1x512, .f32⟩
  | .hbm, ⟨19, _⟩ => ⟨S8192x512, .f32⟩
  | .hbm, ⟨20, _⟩ => ⟨S8192x512, .f32⟩
  | .hbm, ⟨21, _⟩ => ⟨S8192x512, .f32⟩
  | .hbm, ⟨22, _⟩ => ⟨S1x512, .f32⟩
  | .hbm, ⟨23, _⟩ => ⟨S8192x512, .f32⟩
  | .hbm, ⟨24, _⟩ => ⟨S8192x512, .f32⟩
  | .hbm, ⟨25, _⟩ => ⟨S8192x512, .f32⟩
  | .hbm, ⟨26, _⟩ => ⟨S8192x512, .f32⟩
  | .hbm, ⟨27, _⟩ => ⟨S1x512, .f32⟩
  | .hbm, ⟨28, _⟩ => ⟨S8192x512, .f32⟩
  | .hbm, ⟨29, _⟩ => ⟨S8192x512, .f32⟩
  | .hbm, ⟨30, _⟩ => ⟨S8192x512, .f32⟩
  | .hbm, ⟨31, _⟩ => ⟨S8192x512, .f32⟩
  | .hbm, ⟨32, _⟩ => ⟨S8192x512, .f32⟩
  | .hbm, ⟨33, _⟩ => ⟨S8192x512, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S8192x1, .f32⟩
  | .hbm, ⟨44, _⟩ => ⟨S8192x512, .f32⟩
  | .hbm, ⟨45, _⟩ => ⟨S8192x512, .f32⟩
  | .hbm, ⟨46, _⟩ => ⟨S8192x512, .f32⟩
  | .hbm, ⟨47, _⟩ => ⟨S8192x512, .f32⟩
  | .hbm, ⟨48, _⟩ => ⟨S8192x512, .f32⟩
  | .hbm, ⟨49, _⟩ => ⟨S_, .f32⟩
  | .hbm, ⟨50, _⟩ => ⟨S8192, .f32⟩
  | .hbm, ⟨51, _⟩ => ⟨S8192x1, .f32⟩
  | .hbm, ⟨52, _⟩ => ⟨S_, .f32⟩
  | .hbm, ⟨53, _⟩ => ⟨S8192x1, .f32⟩
  | .hbm, ⟨54, _⟩ => ⟨S8192x1, .f32⟩
  | .hbm, ⟨55, _⟩ => ⟨S_, .f32⟩
  | .hbm, ⟨56, _⟩ => ⟨S8192x1, .f32⟩
  | .hbm, ⟨57, _⟩ => ⟨S8192x1, .f32⟩
  | .hbm, ⟨58, _⟩ => ⟨S8192x1, .f32⟩
  | .hbm, ⟨59, _⟩ => ⟨S8192x512, .f32⟩
  | .hbm, ⟨60, _⟩ => ⟨S8192x512, .f32⟩
  | .hbm, ⟨61, _⟩ => ⟨S8192x512, .f32⟩
  | .hbm, ⟨62, _⟩ => ⟨S8192x512, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .bf16⟩
  | .hbm, ⟨67, _⟩ => ⟨S8192x1024, .f32⟩
  | .hbm, ⟨68, _⟩ => ⟨S_, .f32⟩
  | .hbm, ⟨69, _⟩ => ⟨S8192, .f32⟩
  | .hbm, ⟨70, _⟩ => ⟨S8192x1, .f32⟩
  | .hbm, ⟨71, _⟩ => ⟨S_, .f32⟩
  | .hbm, ⟨72, _⟩ => ⟨S8192x1, .f32⟩
  | .hbm, ⟨73, _⟩ => ⟨S8192x1, .f32⟩
  | .hbm, ⟨74, _⟩ => ⟨S_, .f32⟩
  | .hbm, ⟨75, _⟩ => ⟨S8192x1, .f32⟩
  | .hbm, ⟨76, _⟩ => ⟨S8192x1, .f32⟩
  | .hbm, ⟨77, _⟩ => ⟨S8192x1, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S8192x1024, .f32⟩
  | .hbm, ⟨82, _⟩ => ⟨S8192x1024, .bf16⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_0 : Ref sig .tc := ⟨.hbm, 34, rfl⟩
abbrev main_v25 : Ref sig .tc := ⟨.hbm, 35, rfl⟩
abbrev main_v26 : Ref sig .tc := ⟨.hbm, 36, rfl⟩
abbrev main_cst_1 : Ref sig .tc := ⟨.hbm, 37, rfl⟩
abbrev main_v27 : Ref sig .tc := ⟨.hbm, 38, rfl⟩
abbrev main_v28 : Ref sig .tc := ⟨.hbm, 39, rfl⟩
abbrev main_cst_2 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_3 : Ref sig .tc := ⟨.hbm, 49, rfl⟩
abbrev main_v37 : Ref sig .tc := ⟨.hbm, 50, rfl⟩
abbrev main_v38 : Ref sig .tc := ⟨.hbm, 51, rfl⟩
abbrev main_cst_4 : Ref sig .tc := ⟨.hbm, 52, rfl⟩
abbrev main_v39 : Ref sig .tc := ⟨.hbm, 53, rfl⟩
abbrev main_v40 : Ref sig .tc := ⟨.hbm, 54, rfl⟩
abbrev main_cst_5 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_6 : Ref sig .tc := ⟨.hbm, 68, rfl⟩
abbrev main_v53 : Ref sig .tc := ⟨.hbm, 69, rfl⟩
abbrev main_v54 : Ref sig .tc := ⟨.hbm, 70, rfl⟩
abbrev main_cst_7 : Ref sig .tc := ⟨.hbm, 71, rfl⟩
abbrev main_v55 : Ref sig .tc := ⟨.hbm, 72, rfl⟩
abbrev main_v56 : Ref sig .tc := ⟨.hbm, 73, rfl⟩
abbrev main_cst_8 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩

abbrev nD : Nat := 1
abbrev τ : Topo := Topo.v7x

variable {F : FTy → Type} [FloatOps F]
-- ==== Kernel6.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 7
  | .vmem => 9
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S8192x1024, .f32⟩
  | .hbm, ⟨3, _⟩ => ⟨S8192x2816, .bf16⟩
  | .hbm, ⟨4, _⟩ => ⟨S8192x1024, .bf16⟩
  | .hbm, ⟨5, _⟩ => ⟨S8192x2816, .bf16⟩
  | .hbm, ⟨6, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1408, .bf16⟩
  | .local _ .vmem, ⟨3, _⟩ => ⟨S2048x1408, .bf16⟩
  | .local _ .vmem, ⟨4, _⟩ => ⟨S2048x1024, .bf16⟩
  | .local _ .vmem, ⟨5, _⟩ => ⟨S2048x1024, .bf16⟩
  | .local _ .vmem, ⟨6, _⟩ => ⟨S1408x1024, .bf16⟩
  | .local _ .vmem, ⟨7, _⟩ => ⟨S1408x1024, .bf16⟩
  | .local _ .vmem, ⟨8, _⟩ => ⟨S1408x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v21 : BitVec 1 := Scalar.cmpi .eq arg1 c3_i32
  let v22 : BitVec 32 := Scalar.extui v21
  let c0_i32_10 : BitVec 32 := 0#32
  let v23 : BitVec 1 := Scalar.cmpi .ne v22 c0_i32_10
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference6Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 19
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S8192x1024, .f32⟩
  | .hbm, ⟨3, _⟩ => ⟨S_, .f32⟩
  | .hbm, ⟨4, _⟩ => ⟨S2816x1024, .f32⟩
  | .hbm, ⟨5, _⟩ => ⟨S8192x2816, .f32⟩
  | .hbm, ⟨6, _⟩ => ⟨S8192x2816, .f32⟩
  | .hbm, ⟨7, _⟩ => ⟨S_, .f32⟩
  | .hbm, ⟨8, _⟩ => ⟨S8192x2816, .f32⟩
  | .hbm, ⟨9, _⟩ => ⟨S8192x2816, .f32⟩
  | .hbm, ⟨10, _⟩ => ⟨S_, .f32⟩
  | .hbm, ⟨11, _⟩ => ⟨S8192x2816, .f32⟩
  | .hbm, ⟨12, _⟩ => ⟨S8192x2816, .f32⟩
  | .hbm, ⟨13, _⟩ => ⟨S8192x2816, .f32⟩
  | .hbm, ⟨14, _⟩ => ⟨S8192x2816, .f32⟩
  | .hbm, ⟨15, _⟩ => ⟨S8192x1024, .f32⟩
  | .hbm, ⟨16, _⟩ => ⟨S1024x2816, .f32⟩
  | .hbm, ⟨17, _⟩ => ⟨S2816x1024, .f32⟩
  | .hbm, ⟨18, _⟩ => ⟨S2816x1024, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩

abbrev nD : Nat := 1
abbrev τ : Topo := Topo.v7x

variable {F : FTy → Type} [FloatOps F]
-- ==== Kernel7.lean ====
abbrev S8192x1024 : Shape := ⟨2, ![8192, 1024]⟩
abbrev S1x1024 : Shape := ⟨2, ![1, 1024]⟩
abbrev S1024x3072 : Shape := ⟨2, ![1024, 3072]⟩
abbrev S3072x1024 : Shape := ⟨2, ![3072, 1024]⟩
abbrev S8192x3072 : Shape := ⟨2, ![8192, 3072]⟩
abbrev S512x1024 : Shape := ⟨2, ![512, 1024]⟩
abbrev S512x3072 : Shape := ⟨2, ![512, 3072]⟩
abbrev S512 : Shape := ⟨1, ![512]⟩
abbrev S512x1 : Shape := ⟨2, ![512, 1]⟩
abbrev S512x512 : Shape := ⟨2, ![512, 512]⟩

abbrev nBuf : Space → Nat
  | .hbm => 7
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x3072, .f32⟩
  | .hbm, ⟨3, _⟩ => ⟨S3072x1024, .f32⟩
  | .hbm, ⟨4, _⟩ => ⟨S3072x1024, .bf16⟩
  | .hbm, ⟨5, _⟩ => ⟨S8192x1024, .bf16⟩
  | .hbm, ⟨6, _⟩ => ⟨S8192x3072, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S3072x1024, .bf16⟩
  | .local _ .vmem, ⟨4, _⟩ => ⟨S512x1024, .bf16⟩
  | .local _ .vmem, ⟨5, _⟩ => ⟨S512x1024, .bf16⟩
  | .local _ .vmem, ⟨6, _⟩ => ⟨S512x3072, .bf16⟩
  | .local _ .vmem, ⟨7, _⟩ => ⟨S512x3072, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3072x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference7Ideal.lean ====
abbrev S8192x1024 : Shape := ⟨2, ![8192, 1024]⟩
abbrev S1x1024 : Shape := ⟨2, ![1, 1024]⟩
abbrev S1024x3072 : Shape := ⟨2, ![1024, 3072]⟩
abbrev S_ : Shape := ⟨0, ![]⟩
abbrev S8192 : Shape := ⟨1, ![8192]⟩
abbrev S8192x1 : Shape := ⟨2, ![8192, 1]⟩
abbrev S8192x3072 : Shape := ⟨2, ![8192, 3072]⟩

abbrev nBuf : Space → Nat
  | .hbm => 21
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x3072, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | .hbm, ⟨19, _⟩ => ⟨S8192x3072, .f32⟩
  | .hbm, ⟨20, _⟩ => ⟨S8192x3072, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel8.lean ====
abbrev S8192x512 : Shape := ⟨2, ![8192, 512]⟩
abbrev S16x512x8x64 : Shape := ⟨4, ![16, 512, 8, 64]⟩
abbrev S16x8x512x512 : Shape := ⟨4, ![16, 8, 512, 512]⟩
abbrev S512x512 : Shape := ⟨2, ![512, 512]⟩
abbrev S_ : Shape := ⟨0, ![]⟩
abbrev S16x8x512 : Shape := ⟨3, ![16, 8, 512]⟩
abbrev S16x8x512x1 : Shape := ⟨4, ![16, 8, 512, 1]⟩
abbrev S16x512x8 : Shape := ⟨3, ![16, 512, 8]⟩
abbrev S8192x8x1 : Shape := ⟨3, ![8192, 8, 1]⟩
abbrev S16x8x64x512 : Shape := ⟨4, ![16, 8, 64, 512]⟩
abbrev S8192x8x64 : Shape := ⟨3, ![8192, 8, 64]⟩
abbrev S8192x8 : Shape := ⟨2, ![8192, 8]⟩
abbrev S8192x4x128 : Shape := ⟨3, ![8192, 4, 128]⟩
abbrev S4x8192x128 : Shape := ⟨3, ![4, 8192, 128]⟩
abbrev S4x1x8192x128 : Shape := ⟨4, ![4, 1, 8192, 128]⟩
abbrev S4x3x8192x128 : Shape := ⟨4, ![4, 3, 8192, 128]⟩
abbrev S256x256 : Shape := ⟨2, ![256, 256]⟩
abbrev S1x256x256 : Shape := ⟨3, ![1, 256, 256]⟩
abbrev S2x256x256 : Shape := ⟨3, ![2, 256, 256]⟩
abbrev S8192x128 : Shape := ⟨2, ![8192, 128]⟩
abbrev S3 : Shape := ⟨1, ![3]⟩
abbrev S1 : Shape := ⟨1, ![1]⟩
abbrev S1x1x8192x128 : Shape := ⟨4, ![1, 1, 8192, 128]⟩
abbrev S128x128 : Shape := ⟨2, ![128, 128]⟩
abbrev S256x128 : Shape := ⟨2, ![256, 128]⟩
abbrev S128x1 : Shape := ⟨2, ![128, 1]⟩
abbrev S2048x256 : Shape := ⟨2, ![2048, 256]⟩
abbrev S2048x1 : Shape := ⟨2, ![2048, 1]⟩

abbrev nBuf : Space → Nat
  | .hbm => 155
  | .vmem => 14
  | .smem => 0
  | _ => 0

abbrev hbmTy0_0 (i : Nat) : BufTy := match i % 128 with
  | 0 => ⟨S8192x512, .f32⟩
  | 1 => ⟨S8192x512, .f32⟩
  | 2 => ⟨S8192x512, .f32⟩
  | 3 => ⟨S8192x512, .f32⟩
  | 4 => ⟨S16x512x8x64, .f32⟩
  | 5 => ⟨S16x512x8x64, .f32⟩
  | 6 => ⟨S16x8x512x512, .f32⟩
  | 7 => ⟨S512x512, .i32⟩
  | 8 => ⟨S512x512, .i32⟩
  | 9 => ⟨S512x512, .i32⟩
  | 10 => ⟨S_, .i32⟩
  | 11 => ⟨S512x512, .i32⟩
  | 12 => ⟨S512x512, .i1⟩
  | 13 => ⟨S_, .i32⟩
  | 14 => ⟨S512x512, .i32⟩
  | 15 => ⟨S512x512, .i1⟩
  | 16 => ⟨S512x512, .i1⟩
  | 17 => ⟨S_, .f32⟩
  | 18 => ⟨S_, .f32⟩
  | 19 => ⟨S16x8x512x512, .i1⟩
  | 20 => ⟨S16x8x512x512, .f32⟩
  | 21 => ⟨S16x8x512x512, .f32⟩
  | 22 => ⟨S_, .f32⟩
  | 23 => ⟨S16x8x512, .f32⟩
  | 24 => ⟨S16x8x512x1, .f32⟩
  | 25 => ⟨S16x8x512x512, .f32⟩
  | 26 => ⟨S16x8x512x512, .f32⟩
  | 27 => ⟨S16x8x512x512, .f32⟩
  | 28 => ⟨S_, .f32⟩
  | 29 => ⟨S16x8x512, .f32⟩
  | 30 => ⟨S16x8x512, .f32⟩
  | 31 => ⟨S16x8x512, .f32⟩
  | 32 => ⟨S16x512x8, .f32⟩
  | 33 => ⟨S8192x8x1, .f32⟩
  | 34 => ⟨S16x512x8x64, .f32⟩
  | 35 => ⟨S16x512x8x64, .f32⟩
  | 36 => ⟨S16x8x512x512, .f32⟩
  | 37 => ⟨S512x512, .i32⟩
  | 38 => ⟨S512x512, .i32⟩
  | 39 => ⟨S512x512, .i32⟩
  | 40 => ⟨S_, .i32⟩
  | 41 => ⟨S512x512, .i32⟩
  | 42 => ⟨S512x512, .i1⟩
  | 43 => ⟨S_, .i32⟩
  | 44 => ⟨S512x512, .i32⟩
  | 45 => ⟨S512x512, .i1⟩
  | 46 => ⟨S512x512, .i1⟩
  | 47 => ⟨S_, .f32⟩
  | 48 => ⟨S_, .f32⟩
  | 49 => ⟨S16x8x512x512, .i1⟩
  | 50 => ⟨S16x8x512x512, .f32⟩
  | 51 => ⟨S16x8x512x512, .f32⟩
  | 52 => ⟨S_, .f32⟩
  | 53 => ⟨S16x8x512, .f32⟩
  | 54 => ⟨S_, .f32⟩
  | 55 => ⟨S16x8x512, .f32⟩
  | 56 => ⟨S16x8x512, .f32⟩
  | 57 => ⟨S16x8x512x1, .f32⟩
  | 58 => ⟨S16x8x512x512, .f32⟩
  | 59 => ⟨S16x8x512x512, .f32⟩
  | 60 => ⟨S16x8x512x512, .f32⟩
  | 61 => ⟨S_, .f32⟩
  | 62 => ⟨S16x8x512, .f32⟩
  | 63 => ⟨S16x8x512x1, .f32⟩
  | 64 => ⟨S16x8x512x512, .f32⟩
  | 65 => ⟨S16x8x512x512, .f32⟩
  | 66 => ⟨S16x512x8x64, .f32⟩
  | 67 => ⟨S16x8x64x512, .f32⟩
  | 68 => ⟨S16x512x8x64, .f32⟩
  | 69 => ⟨S8192x512, .f32⟩
  | 70 => ⟨S8192x512, .f32⟩
  | 71 => ⟨S8192x8x64, .f32⟩
  | 72 => ⟨S_, .f32⟩
  | 73 => ⟨S8192x8, .f32⟩
  | 74 => ⟨S8192x8x1, .f32⟩
  | 75 => ⟨S8192x8x64, .i32⟩
  | 76 => ⟨S_, .i32⟩
  | 77 => ⟨S8192x8x64, .i32⟩
  | 78 => ⟨S8192x8x64, .i1⟩
  | 79 => ⟨S_, .i32⟩
  | 80 => ⟨S8192x8x64, .i32⟩
  | 81 => ⟨S8192x8x64, .i1⟩
  | 82 => ⟨S_, .f32⟩
  | 83 => ⟨S_, .f32⟩
  | 84 => ⟨S8192x8x64, .f32⟩
  | 85 => ⟨S8192x8x64, .f32⟩
  | 86 => ⟨S8192x8x64, .f32⟩
  | 87 => ⟨S8192x8x64, .f32⟩
  | 88 => ⟨S8192x8x64, .f32⟩
  | 89 => ⟨S8192x512, .f32⟩
  | 90 => ⟨S8192x4x128, .f32⟩
  | 91 => ⟨S4x8192x128, .f32⟩
  | 92 => ⟨S8192x4x128, .f32⟩
  | 93 => ⟨S4x8192x128, .f32⟩
  | 94 => ⟨S8192x4x128, .f32⟩
  | 95 => ⟨S4x8192x128, .f32⟩
  | 96 => ⟨S4x1x8192x128, .f32⟩
  | 97 => ⟨S4x1x8192x128, .f32⟩
  | 98 => ⟨S4x1x8192x128, .f32⟩
  | 99 => ⟨S4x3x8192x128, .f32⟩
  | 100 => ⟨S256x256, .i32⟩
  | 101 => ⟨S_, .i32⟩
  | 102 => ⟨S_, .i32⟩
  | 103 => ⟨S_, .i32⟩
  | 104 => ⟨S_, .i1⟩
  | 105 => ⟨S_, .i32⟩
  | 106 => ⟨S_, .i32⟩
  | 107 => ⟨S256x256, .i32⟩
  | 108 => ⟨S256x256, .i32⟩
  | 109 => ⟨S_, .i32⟩
  | 110 => ⟨S256x256, .i32⟩
  | 111 => ⟨S256x256, .i1⟩
  | 112 => ⟨S_, .i32⟩
  | 113 => ⟨S256x256, .i32⟩
  | 114 => ⟨S256x256, .i1⟩
  | 115 => ⟨S_, .i32⟩
  | 116 => ⟨S_, .i1⟩
  | 117 => ⟨S256x256, .i1⟩
  | 118 => ⟨S256x256, .i1⟩
  | 119 => ⟨S256x256, .i1⟩
  | 120 => ⟨S256x256, .i32⟩
  | 121 => ⟨S256x256, .i32⟩
  | 122 => ⟨S256x256, .i32⟩
  | 123 => ⟨S256x256, .i32⟩
  | 124 => ⟨S_, .i32⟩
  | 125 => ⟨S256x256, .i32⟩
  | 126 => ⟨S256x256, .i32⟩
  | 127 => ⟨S256x256, .i32⟩
  | _ => ⟨S8192x512, .f32⟩

abbrev hbmTy0_1 (i : Nat) : BufTy := match i % 128 with
  | 0 => ⟨S_, .i32⟩
  | 1 => ⟨S256x256, .i32⟩
  | 2 => ⟨S256x256, .i1⟩
  | 3 => ⟨S_, .i32⟩
  | 4 => ⟨S256x256, .i32⟩
  | 5 => ⟨S256x256, .i1⟩
  | 6 => ⟨S256x256, .i1⟩
  | 7 => ⟨S_, .i32⟩
  | 8 => ⟨S256x256, .i32⟩
  | 9 => ⟨S256x256, .i1⟩
  | 10 => ⟨S256x256, .i1⟩
  | 11 => ⟨S_, .f32⟩
  | 12 => ⟨S_, .f32⟩
  | 13 => ⟨S256x256, .f32⟩
  | 14 => ⟨S256x256, .f32⟩
  | 15 => ⟨S256x256, .f32⟩
  | 16 => ⟨S_, .f32⟩
  | 17 => ⟨S_, .f32⟩
  | 18 => ⟨S256x256, .f32⟩
  | 19 => ⟨S256x256, .f32⟩
  | 20 => ⟨S256x256, .f32⟩
  | 21 => ⟨S1x256x256, .f32⟩
  | 22 => ⟨S1x256x256, .f32⟩
  | 23 => ⟨S2x256x256, .f32⟩
  | 24 => ⟨S8192x512, .f32⟩
  | 25 => ⟨S8192x512, .f32⟩
  | 26 => ⟨S8192x512, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S2x256x256, .f32⟩
  | .local _ .vmem, ⟨5, _⟩ => ⟨S8192x128, .f32⟩
  | .local _ .vmem, ⟨6, _⟩ => ⟨S8192x128, .f32⟩
  | .local _ .vmem, ⟨7, _⟩ => ⟨S8192x128, .f32⟩
  | .local _ .vmem, ⟨8, _⟩ => ⟨S8192x128, .f32⟩
  | .local _ .vmem, ⟨9, _⟩ => ⟨S8192x128, .f32⟩
  | .local _ .vmem, ⟨10, _⟩ => ⟨S8192x128, .f32⟩
  | .local _ .vmem, ⟨11, _⟩ => ⟨S8192x128, .f32⟩
  | .local _ .vmem, ⟨12, _⟩ => ⟨S8192x128, .f32⟩
  | .local _ .vmem, ⟨13, _⟩ => ⟨S8192x128, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_3 : Ref sig .tc := ⟨.hbm, 40, rfl⟩
abbrev main_v28 : Ref sig .tc := ⟨.hbm, 41, rfl⟩
abbrev main_v29 : Ref sig .tc := ⟨.hbm, 42, rfl⟩
abbrev main_c_4 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_5 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v33 : Ref sig .tc := ⟨.hbm, 51, rfl⟩
abbrev main_cst_6 : Ref sig .tc := ⟨.hbm, 52, rfl⟩
abbrev main_v34 : Ref sig .tc := ⟨.hbm, 53, rfl⟩
abbrev main_cst_7 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_c_10 : Ref sig .tc := ⟨.hbm, 76, rfl⟩
abbrev main_v54 : Ref sig .tc := ⟨.hbm, 77, rfl⟩
abbrev main_v55 : Ref sig .tc := ⟨.hbm, 78, rfl⟩
abbrev main_c_11 : Ref sig .tc := ⟨.hbm, 79, rfl⟩
abbrev main_v56 : Ref sig .tc := ⟨.hbm, 80, rfl⟩
abbrev main_v57 : Ref sig .tc := ⟨.hbm, 81, rfl⟩
abbrev main_cst_12 : Ref sig .tc := ⟨.hbm, 82, rfl⟩
abbrev main_call2_v0 : Ref sig .tc := ⟨.hbm, 83, rfl⟩
abbrev main_call2_v1 : Ref sig .tc := ⟨.hbm, 84, rfl⟩
abbrev main_call2_v2 : Ref sig .tc := ⟨.hbm, 85, rfl⟩
abbrev main_v58 : Ref sig .tc := ⟨.hbm, 86, rfl⟩
abbrev main_call3_v0 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_c_13 : Ref sig .tc := ⟨.hbm, 101, rfl⟩
abbrev main_call4_v0 : Ref sig .tc := ⟨.hbm, 102, rfl⟩
abbrev main_call4_c : Ref sig .tc := ⟨.hbm, 103, rfl⟩
abbrev main_call4_v1 : Ref sig .tc := ⟨.hbm, 104, rfl⟩
abbrev main_call4_c_0 : Ref sig .tc := ⟨.hbm, 105, rfl⟩
abbrev main_call4_v2 : Ref sig .tc := ⟨.hbm, 106, rfl⟩
abbrev main_call4_v3 : Ref sig .tc := ⟨.hbm, 107, rfl⟩
abbrev main_call4_v4 : Ref sig .tc := ⟨.hbm, 108, rfl⟩
abbrev main_call4_c_1 : Ref sig .tc := ⟨.hbm, 109, rfl⟩
abbrev main_call4_v5 : Ref sig .tc := ⟨.hbm, 110, rfl⟩
abbrev main_call4_v6 : Ref sig .tc := ⟨.hbm, 111, rfl⟩
abbrev main_call4_c_2 : Ref sig .tc := ⟨.hbm, 112, rfl⟩
abbrev main_call4_v7 : Ref sig .tc := ⟨.hbm, 113, rfl⟩
abbrev main_call4_v8 : Ref sig .tc := ⟨.hbm, 114, rfl⟩
abbrev main_call4_c_3 : Ref sig .tc := ⟨.hbm, 115, rfl⟩
abbrev main_call4_v9 : Ref sig .tc := ⟨.hbm, 116, rfl⟩
abbrev main_call4_v10 : Ref sig .tc := ⟨.hbm, 117, rfl⟩
abbrev main_call4_v11 : Ref sig .tc := ⟨.hbm, 118, rfl⟩
abbrev main_call4_v12 : Ref sig .tc := ⟨.hbm, 119, rfl⟩
abbrev main_call4_v13 : Ref sig .tc := ⟨.hbm, 120, rfl⟩
abbrev main_call4_v14 : Ref sig .tc := ⟨.hbm, 121, rfl⟩
abbrev main_v72 : Ref sig .tc := ⟨.hbm, 122, rfl⟩
abbrev main_v73 : Ref sig .tc := ⟨.hbm, 123, rfl⟩
abbrev main_c_14 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_c_15 : Ref sig .tc := ⟨.hbm, 128, rfl⟩
abbrev main_v77 : Ref sig .tc := ⟨.hbm, 129, rfl⟩
abbrev main_v78 : Ref sig .tc := ⟨.hbm, 130, rfl⟩
abbrev main_c_16 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_c_17 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_cst_18 : Ref sig .tc := ⟨.hbm, 139, rfl⟩
abbrev main_cst_19 : Ref sig .tc := ⟨.hbm, 140, rfl⟩
abbrev main_call5_v0 : Ref sig .tc := ⟨.hbm, 141, rfl⟩
abbrev main_call5_v1 : Ref sig .tc := ⟨.hbm, 142, rfl⟩
abbrev main_v85 : Ref sig .tc := ⟨.hbm, 143, rfl⟩
abbrev main_cst_20 : Ref sig .tc := ⟨.hbm, 144, rfl⟩
abbrev main_cst_21 : Ref sig .tc := ⟨.hbm, 145, rfl⟩
abbrev main_call6_v0 : Ref sig .tc := ⟨.hbm, 146, rfl⟩
abbrev main_call6_v1 : Ref sig .tc := ⟨.hbm, 147, rfl⟩
abbrev main_v86 : Ref sig .tc := ⟨.hbm, 148, rfl⟩
abbrev main_v87 : Ref sig .tc := ⟨.hbm, 149, rfl⟩
abbrev main_v88 : Ref sig .tc := ⟨.hbm, 150, rfl⟩
abbrev main_v89 : Ref sig .tc := ⟨.hbm, 151, rfl⟩
abbrev main_v90_0 : Ref sig .tc := ⟨.hbm, 152, rfl⟩
abbrev main_v90_1 : Ref sig .tc := ⟨.hbm, 153, rfl⟩
abbrev main_v90_2 : Ref sig .tc := ⟨.hbm, 154, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![4], ![false]⟩

def k0_off1 (i : grid0.Coords) : Fin 4 → Nat :=
  let arg0 : BitVec 32 := BitVec.ofNat 32 (i 0).val
  let c0_i32 : BitVec 32 := 0#32
  let c0_i32_1 : BitVec 32 := 0#32
  let c0_i32_2 : BitVec 32 := 0#32
  ![arg0.toNat, 0, 0, 0]
def k0_off2 (i : grid0.Coords) : Fin 4 → Nat :=
  let arg0 : BitVec 32 := BitVec.ofNat 32 (i 0).val
  let c1_i32 : BitVec 32 := 1#32
  let c0_i32_4 : BitVec 32 := 0#32
  let c0_i32_5 : BitVec 32 := 0#32
  ![arg0.toNat, 1, 0, 0]
def k0_off3 (i : grid0.Coords) : Fin 4 → Nat :=
  let arg0 : BitVec 32 := BitVec.ofNat 32 (i 0).val
  let c2_i32 : BitVec 32 := 2#32
  let c0_i32_7 : BitVec 32 := 0#32
  let c0_i32_8 : BitVec 32 := 0#32
  ![arg0.toNat, 2, 0, 0]
@[reducible] def k0_t1_loop : Scf.Loop 32 :=
  let c0_i32_26 : BitVec 32 := 0#32
  let c8_i32 : BitVec 32 := 8#32
  let v31 : BitVec 32 := Scalar.addi c0_i32_26 c8_i32
  let c1_i32_27 : BitVec 32 := 1#32
  ⟨c0_i32_26, v31, c1_i32_27⟩
def k0_mult1 (k0_t1 : Fin k0_t1_loop.trips) : BitVec 32 :=
  let c0_i32_26 : BitVec 32 := 0#32
  let c1_i32_27 : BitVec 32 := 1#32
  let arg12 : BitVec 32 := Scf.iv c0_i32_26 c1_i32_27 k0_t1
  let c2_i32_29 : BitVec 32 := 2#32
  let v32 : BitVec 32 := Scalar.muli arg12 c2_i32_29
  let c0_i32_30 : BitVec 32 := 0#32
  let v33 : BitVec 32 := Scalar.addi v32 c0_i32_30
  let c0_i32_31 : BitVec 32 := 0#32
  let v34 : BitVec 32 := Scalar.addi v33 c0_i32_31
  let c512_i32 : BitVec 32 := 512#32
  let v35 : BitVec 32 := Scalar.muli v34 c512_i32
  let c0_i32_32 : BitVec 32 := 0#32
  let v36 : BitVec 32 := Scalar.addi v35 c0_i32_32
  let c_m128_i32 : BitVec 32 := 4294967168#32
  let v41 : BitVec 32 := Scalar.addi v36 c_m128_i32
  let c128_i32 : BitVec 32 := 128#32
  let v42 : BitVec 32 := Scalar.addi v41 c128_i32
  v42
def k0_off4 (k0_t1 : Fin k0_t1_loop.trips) (c0_i32_30 : BitVec 32) : Fin 2 → Nat :=
  let c0_i32_26 : BitVec 32 := 0#32
  let c1_i32_27 : BitVec 32 := 1#32
  let arg12 : BitVec 32 := Scf.iv c0_i32_26 c1_i32_27 k0_t1
  let c2_i32_29 : BitVec 32 := 2#32
  let v32 : BitVec 32 := Scalar.muli arg12 c2_i32_29
  let v33 : BitVec 32 := Scalar.addi v32 c0_i32_30
  let c0_i32_31 : BitVec 32 := 0#32
  let v34 : BitVec 32 := Scalar.addi v33 c0_i32_31
  let c512_i32 : BitVec 32 := 512#32
  let v35 : BitVec 32 := Scalar.muli v34 c512_i32
  let c0_i32_32 : BitVec 32 := 0#32
  let v36 : BitVec 32 := Scalar.addi v35 c0_i32_32
  let c_m128_i32 : BitVec 32 := 4294967168#32
  let v41 : BitVec 32 := Scalar.addi v36 c_m128_i32
  let c128_i32 : BitVec 32 := 128#32
  let v42 : BitVec 32 := Scalar.addi v41 c128_i32
  let v43 : BitVec 32 := v42
  let v44 : Index := Scalar.indexCast v43
  let c0_37 : Index := 0#32
  ![v44.toNat, 0]
def k0_mult2 (k0_t1 : Fin k0_t1_loop.trips) : BitVec 32 :=
  let c0_i32_26 : BitVec 32 := 0#32
  let c1_i32_27 : BitVec 32 := 1#32
  let arg12 : BitVec 32 := Scf.iv c0_i32_26 c1_i32_27 k0_t1
  let c2_i32_29 : BitVec 32 := 2#32
  let v32 : BitVec 32 := Scalar.muli arg12 c2_i32_29
  let c0_i32_30 : BitVec 32 := 0#32
  let v33 : BitVec 32 := Scalar.addi v32 c0_i32_30
  let c0_i32_31 : BitVec 32 := 0#32
  let v34 : BitVec 32 := Scalar.addi v33 c0_i32_31
  let c512_i32 : BitVec 32 := 512#32
  let v35 : BitVec 32 := Scalar.muli v34 c512_i32
  let c0_i32_32 : BitVec 32 := 0#32
  let v36 : BitVec 32 := Scalar.addi v35 c0_i32_32
  let c0_i32_38 : BitVec 32 := 0#32
  let v47 : BitVec 32 := Scalar.addi v36 c0_i32_38
  v47
def k0_off5 (k0_t1 : Fin k0_t1_loop.trips) (c0_i32_30 : BitVec 32) (c0_i32_38 : BitVec 32) : Fin 2 → Nat :=
  let c0_i32_26 : BitVec 32 := 0#32
  let c1_i32_27 : BitVec 32 := 1#32
  let arg12 : BitVec 32 := Scf.iv c0_i32_26 c1_i32_27 k0_t1
  let c2_i32_29 : BitVec 32 := 2#32
  let v32 : BitVec 32 := Scalar.muli arg12 c2_i32_29
  let v33 : BitVec 32 := Scalar.addi v32 c0_i32_30
  let c0_i32_31 : BitVec 32 := 0#32
  let v34 : BitVec 32 := Scalar.addi v33 c0_i32_31
  let c512_i32 : BitVec 32 := 512#32
  let v35 : BitVec 32 := Scalar.muli v34 c512_i32
  let c0_i32_32 : BitVec 32 := 0#32
  let v36 : BitVec 32 := Scalar.addi v35 c0_i32_32
  let v47 : BitVec 32 := Scalar.addi v36 c0_i32_38
  let v48 : BitVec 32 := v47
  let v49 : Index := Scalar.indexCast v48
  let c0_39 : Index := 0#32
  ![v49.toNat, 0]
def k0_mult3 (k0_t1 : Fin k0_t1_loop.trips) : BitVec 32 :=
  let c0_i32_26 : BitVec 32 := 0#32
  let c1_i32_27 : BitVec 32 := 1#32
  let arg12 : BitVec 32 := Scf.iv c0_i32_26 c1_i32_27 k0_t1
  let c2_i32_29 : BitVec 32 := 2#32
  let v32 : BitVec 32 := Scalar.muli arg12 c2_i32_29
  let c0_i32_30 : BitVec 32 := 0#32
  let v33 : BitVec 32 := Scalar.addi v32 c0_i32_30
  let c0_i32_31 : BitVec 32 := 0#32
  let v34 : BitVec 32 := Scalar.addi v33 c0_i32_31
  let c512_i32 : BitVec 32 := 512#32
  let v35 : BitVec 32 := Scalar.muli v34 c512_i32
  let c0_i32_32 : BitVec 32 := 0#32
  let v36 : BitVec 32 := Scalar.addi v35 c0_i32_32
  let c128_i32_40 : BitVec 32 := 128#32
  let v52 : BitVec 32 := Scalar.addi v36 c128_i32_40
  v52
def k0_mult4 (k0_t1 : Fin k0_t1_loop.trips) : BitVec 32 :=
  let c0_i32_26 : BitVec 32 := 0#32
  let c1_i32_27 : BitVec 32 := 1#32
  let arg12 : BitVec 32 := Scf.iv c0_i32_26 c1_i32_27 k0_t1
  let c2_i32_29 : BitVec 32 := 2#32
  let v32 : BitVec 32 := Scalar.muli arg12 c2_i32_29
  let c0_i32_30 : BitVec 32 := 0#32
  let v33 : BitVec 32 := Scalar.addi v32 c0_i32_30
  let c0_i32_31 : BitVec 32 := 0#32
  let v34 : BitVec 32 := Scalar.addi v33 c0_i32_31
  let c512_i32 : BitVec 32 := 512#32
  let v35 : BitVec 32 := Scalar.muli v34 c512_i32
  let c0_i32_32 : BitVec 32 := 0#32
  let v36 : BitVec 32 := Scalar.addi v35 c0_i32_32
  let c256_i32 : BitVec 32 := 256#32
  let v57 : BitVec 32 := Scalar.addi v36 c256_i32
  v57
def k0_mult5 (k0_t1 : Fin k0_t1_loop.trips) : BitVec 32 :=
  let c0_i32_26 : BitVec 32 := 0#32
  let c1_i32_27 : BitVec 32 := 1#32
  let arg12 : BitVec 32 := Scf.iv c0_i32_26 c1_i32_27 k0_t1
  let c2_i32_29 : BitVec 32 := 2#32
  let v32 : BitVec 32 := Scalar.muli arg12 c2_i32_29
  let c0_i32_30 : BitVec 32 := 0#32
  let v33 : BitVec 32 := Scalar.addi v32 c0_i32_30
  let c0_i32_31 : BitVec 32 := 0#32
  let v34 : BitVec 32 := Scalar.addi v33 c0_i32_31
  let c512_i32 : BitVec 32 := 512#32
  let v35 : BitVec 32 := Scalar.muli v34 c512_i32
  let c0_i32_32 : BitVec 32 := 0#32
  let v36 : BitVec 32 := Scalar.addi v35 c0_i32_32
  let c384_i32 : BitVec 32 := 384#32
  let v62 : BitVec 32 := Scalar.addi v36 c384_i32
  v62
def k0_mult6 (k0_t1 : Fin k0_t1_loop.trips) : BitVec 32 :=
  let c0_i32_26 : BitVec 32 := 0#32
  let c1_i32_27 : BitVec 32 := 1#32
  let arg12 : BitVec 32 := Scf.iv c0_i32_26 c1_i32_27 k0_t1
  let c2_i32_29 : BitVec 32 := 2#32
  let v32 : BitVec 32 := Scalar.muli arg12 c2_i32_29
  let c1_i32_33 : BitVec 32 := 1#32
  let v37 : BitVec 32 := Scalar.addi v32 c1_i32_33
  let c0_i32_34 : BitVec 32 := 0#32
  let v38 : BitVec 32 := Scalar.addi v37 c0_i32_34
  let c512_i32_35 : BitVec 32 := 512#32
  let v39 : BitVec 32 := Scalar.muli v38 c512_i32_35
  let c0_i32_36 : BitVec 32 := 0#32
  let v40 : BitVec 32 := Scalar.addi v39 c0_i32_36
  let c_m128_i32_44 : BitVec 32 := 4294967168#32
  let v67 : BitVec 32 := Scalar.addi v40 c_m128_i32_44
  let c128_i32_45 : BitVec 32 := 128#32
  let v68 : BitVec 32 := Scalar.addi v67 c128_i32_45
  v68
def k0_mult7 (k0_t1 : Fin k0_t1_loop.trips) : BitVec 32 :=
  let c0_i32_26 : BitVec 32 := 0#32
  let c1_i32_27 : BitVec 32 := 1#32
  let arg12 : BitVec 32 := Scf.iv c0_i32_26 c1_i32_27 k0_t1
  let c2_i32_29 : BitVec 32 := 2#32
  let v32 : BitVec 32 := Scalar.muli arg12 c2_i32_29
  let c1_i32_33 : BitVec 32 := 1#32
  let v37 : BitVec 32 := Scalar.addi v32 c1_i32_33
  let c0_i32_34 : BitVec 32 := 0#32
  let v38 : BitVec 32 := Scalar.addi v37 c0_i32_34
  let c512_i32_35 : BitVec 32 := 512#32
  let v39 : BitVec 32 := Scalar.muli v38 c512_i32_35
  let c0_i32_36 : BitVec 32 := 0#32
  let v40 : BitVec 32 := Scalar.addi v39 c0_i32_36
  let c0_i32_47 : BitVec 32 := 0#32
  let v73 : BitVec 32 := Scalar.addi v40 c0_i32_47
  v73
def k0_mult8 (k0_t1 : Fin k0_t1_loop.trips) : BitVec 32 :=
  let c0_i32_26 : BitVec 32 := 0#32
  let c1_i32_27 : BitVec 32 := 1#32
  let arg12 : BitVec 32 := Scf.iv c0_i32_26 c1_i32_27 k0_t1
  let c2_i32_29 : BitVec 32 := 2#32
  let v32 : BitVec 32 := Scalar.muli arg12 c2_i32_29
  let c1_i32_33 : BitVec 32 := 1#32
  let v37 : BitVec 32 := Scalar.addi v32 c1_i32_33
  let c0_i32_34 : BitVec 32 := 0#32
  let v38 : BitVec 32 := Scalar.addi v37 c0_i32_34
  let c512_i32_35 : BitVec 32 := 512#32
  let v39 : BitVec 32 := Scalar.muli v38 c512_i32_35
  let c0_i32_36 : BitVec 32 := 0#32
  let v40 : BitVec 32 := Scalar.addi v39 c0_i32_36
  let c128_i32_49 : BitVec 32 := 128#32
  let v78 : BitVec 32 := Scalar.addi v40 c128_i32_49
  v78
def k0_mult9 (k0_t1 : Fin k0_t1_loop.trips) : BitVec 32 :=
  let c0_i32_26 : BitVec 32 := 0#32
  let c1_i32_27 : BitVec 32 := 1#32
  let arg12 : BitVec 32 := Scf.iv c0_i32_26 c1_i32_27 k0_t1
  let c2_i32_29 : BitVec 32 := 2#32
  let v32 : BitVec 32 := Scalar.muli arg12 c2_i32_29
  let c1_i32_33 : BitVec 32 := 1#32
  let v37 : BitVec 32 := Scalar.addi v32 c1_i32_33
  let c0_i32_34 : BitVec 32 := 0#32
  let v38 : BitVec 32 := Scalar.addi v37 c0_i32_34
  let c512_i32_35 : BitVec 32 := 512#32
  let v39 : BitVec 32 := Scalar.muli v38 c512_i32_35
  let c0_i32_36 : BitVec 32 := 0#32
  let v40 : BitVec 32 := Scalar.addi v39 c0_i32_36
  let c256_i32_51 : BitVec 32 := 256#32
  let v83 : BitVec 32 := Scalar.addi v40 c256_i32_51
  v83
def k0_mult10 (k0_t1 : Fin k0_t1_loop.trips) : BitVec 32 :=
  let c0_i32_26 : BitVec 32 := 0#32
  let c1_i32_27 : BitVec 32 := 1#32
  let arg12 : BitVec 32 := Scf.iv c0_i32_26 c1_i32_27 k0_t1
  let c2_i32_29 : BitVec 32 := 2#32
  let v32 : BitVec 32 := Scalar.muli arg12 c2_i32_29
  let c1_i32_33 : BitVec 32 := 1#32
  let v37 : BitVec 32 := Scalar.addi v32 c1_i32_33
  let c0_i32_34 : BitVec 32 := 0#32
  let v38 : BitVec 32 := Scalar.addi v37 c0_i32_34
  let c512_i32_35 : BitVec 32 := 512#32
  let v39 : BitVec 32 := Scalar.muli v38 c512_i32_35
  let c0_i32_36 : BitVec 32 := 0#32
  let v40 : BitVec 32 := Scalar.addi v39 c0_i32_36
  let c384_i32_53 : BitVec 32 := 384#32
  let v88 : BitVec 32 := Scalar.addi v40 c384_i32_53
  v88
def k0_mult11 (k0_t1 : Fin k0_t1_loop.trips) : BitVec 32 :=
  let c0_i32_26 : BitVec 32 := 0#32
  let c1_i32_27 : BitVec 32 := 1#32
  let arg12 : BitVec 32 := Scf.iv c0_i32_26 c1_i32_27 k0_t1
  let c2_i32_29 : BitVec 32 := 2#32
  let v32 : BitVec 32 := Scalar.muli arg12 c2_i32_29
  let c0_i32_30 : BitVec 32 := 0#32
  let v33 : BitVec 32 := Scalar.addi v32 c0_i32_30
  let c0_i32_31 : BitVec 32 := 0#32
  let v34 : BitVec 32 := Scalar.addi v33 c0_i32_31
  let c512_i32 : BitVec 32 := 512#32
  let v35 : BitVec 32 := Scalar.muli v34 c512_i32
  let c0_i32_32 : BitVec 32 := 0#32
  let v36 : BitVec 32 := Scalar.addi v35 c0_i32_32
  let c_m128_i32_55 : BitVec 32 := 4294967168#32
  let v93 : BitVec 32 := Scalar.addi v36 c_m128_i32_55
  let c128_i32_56 : BitVec 32 := 128#32
  let v94 : BitVec 32 := Scalar.addi v93 c128_i32_56
  v94
def k0_mult12 (k0_t1 : Fin k0_t1_loop.trips) : BitVec 32 :=
  let c0_i32_26 : BitVec 32 := 0#32
  let c1_i32_27 : BitVec 32 := 1#32
  let arg12 : BitVec 32 := Scf.iv c0_i32_26 c1_i32_27 k0_t1
  let c2_i32_29 : BitVec 32 := 2#32
  let v32 : BitVec 32 := Scalar.muli arg12 c2_i32_29
  let c0_i32_30 : BitVec 32 := 0#32
  let v33 : BitVec 32 := Scalar.addi v32 c0_i32_30
  let c0_i32_31 : BitVec 32 := 0#32
  let v34 : BitVec 32 := Scalar.addi v33 c0_i32_31
  let c512_i32 : BitVec 32 := 512#32
  let v35 : BitVec 32 := Scalar.muli v34 c512_i32
  let c0_i32_32 : BitVec 32 := 0#32
  let v36 : BitVec 32 := Scalar.addi v35 c0_i32_32
  let c0_i32_58 : BitVec 32 := 0#32
  let v99 : BitVec 32 := Scalar.addi v36 c0_i32_58
  v99
def k0_mult13 (k0_t1 : Fin k0_t1_loop.trips) : BitVec 32 :=
  let c0_i32_26 : BitVec 32 := 0#32
  let c1_i32_27 : BitVec 32 := 1#32
  let arg12 : BitVec 32 := Scf.iv c0_i32_26 c1_i32_27 k0_t1
  let c2_i32_29 : BitVec 32 := 2#32
  let v32 : BitVec 32 := Scalar.muli arg12 c2_i32_29
  let c0_i32_30 : BitVec 32 := 0#32
  let v33 : BitVec 32 := Scalar.addi v32 c0_i32_30
  let c0_i32_31 : BitVec 32 := 0#32
  let v34 : BitVec 32 := Scalar.addi v33 c0_i32_31
  let c512_i32 : BitVec 32 := 512#32
  let v35 : BitVec 32 := Scalar.muli v34 c512_i32
  let c0_i32_32 : BitVec 32 := 0#32
  let v36 : BitVec 32 := Scalar.addi v35 c0_i32_32
  let c128_i32_60 : BitVec 32 := 128#32
  let v104 : BitVec 32 := Scalar.addi v36 c128_i32_60
  v104
def k0_mult14 (k0_t1 : Fin k0_t1_loop.trips) : BitVec 32 :=
  let c0_i32_26 : BitVec 32 := 0#32
  let c1_i32_27 : BitVec 32 := 1#32
  let arg12 : BitVec 32 := Scf.iv c0_i32_26 c1_i32_27 k0_t1
  let c2_i32_29 : BitVec 32 := 2#32
  let v32 : BitVec 32 := Scalar.muli arg12 c2_i32_29
  let c0_i32_30 : BitVec 32 := 0#32
  let v33 : BitVec 32 := Scalar.addi v32 c0_i32_30
  let c0_i32_31 : BitVec 32 := 0#32
  let v34 : BitVec 32 := Scalar.addi v33 c0_i32_31
  let c512_i32 : BitVec 32 := 512#32
  let v35 : BitVec 32 := Scalar.muli v34 c512_i32
  let c0_i32_32 : BitVec 32 := 0#32
  let v36 : BitVec 32 := Scalar.addi v35 c0_i32_32
  let c256_i32_62 : BitVec 32 := 256#32
  let v109 : BitVec 32 := Scalar.addi v36 c256_i32_62
  v109
def k0_mult15 (k0_t1 : Fin k0_t1_loop.trips) : BitVec 32 :=
  let c0_i32_26 : BitVec 32 := 0#32
  let c1_i32_27 : BitVec 32 := 1#32
  let arg12 : BitVec 32 := Scf.iv c0_i32_26 c1_i32_27 k0_t1
  let c2_i32_29 : BitVec 32 := 2#32
  let v32 : BitVec 32 := Scalar.muli arg12 c2_i32_29
  let c0_i32_30 : BitVec 32 := 0#32
  let v33 : BitVec 32 := Scalar.addi v32 c0_i32_30
  let c0_i32_31 : BitVec 32 := 0#32
  let v34 : BitVec 32 := Scalar.addi v33 c0_i32_31
  let c512_i32 : BitVec 32 := 512#32
  let v35 : BitVec 32 := Scalar.muli v34 c512_i32
  let c0_i32_32 : BitVec 32 := 0#32
  let v36 : BitVec 32 := Scalar.addi v35 c0_i32_32
  let c384_i32_64 : BitVec 32 := 384#32
  let v114 : BitVec 32 := Scalar.addi v36 c384_i32_64
  v114
def k0_mult16 (k0_t1 : Fin k0_t1_loop.trips) : BitVec 32 :=
  let c0_i32_26 : BitVec 32 := 0#32
  let c1_i32_27 : BitVec 32 := 1#32
  let arg12 : BitVec 32 := Scf.iv c0_i32_26 c1_i32_27 k0_t1
  let c2_i32_29 : BitVec 32 := 2#32
  let v32 : BitVec 32 := Scalar.muli arg12 c2_i32_29
  let c1_i32_33 : BitVec 32 := 1#32
  let v37 : BitVec 32 := Scalar.addi v32 c1_i32_33
  let c0_i32_34 : BitVec 32 := 0#32
  let v38 : BitVec 32 := Scalar.addi v37 c0_i32_34
  let c512_i32_35 : BitVec 32 := 512#32
  let v39 : BitVec 32 := Scalar.muli v38 c512_i32_35
  let c0_i32_36 : BitVec 32 := 0#32
  let v40 : BitVec 32 := Scalar.addi v39 c0_i32_36
  let c_m128_i32_66 : BitVec 32 := 4294967168#32
  let v119 : BitVec 32 := Scalar.addi v40 c_m128_i32_66
  let c128_i32_67 : BitVec 32 := 128#32
  let v120 : BitVec 32 := Scalar.addi v119 c128_i32_67
  v120
def k0_mult17 (k0_t1 : Fin k0_t1_loop.trips) : BitVec 32 :=
  let c0_i32_26 : BitVec 32 := 0#32
  let c1_i32_27 : BitVec 32 := 1#32
  let arg12 : BitVec 32 := Scf.iv c0_i32_26 c1_i32_27 k0_t1
  let c2_i32_29 : BitVec 32 := 2#32
  let v32 : BitVec 32 := Scalar.muli arg12 c2_i32_29
  let c1_i32_33 : BitVec 32 := 1#32
  let v37 : BitVec 32 := Scalar.addi v32 c1_i32_33
  let c0_i32_34 : BitVec 32 := 0#32
  let v38 : BitVec 32 := Scalar.addi v37 c0_i32_34
  let c512_i32_35 : BitVec 32 := 512#32
  let v39 : BitVec 32 := Scalar.muli v38 c512_i32_35
  let c0_i32_36 : BitVec 32 := 0#32
  let v40 : BitVec 32 := Scalar.addi v39 c0_i32_36
  let c0_i32_69 : BitVec 32 := 0#32
  let v125 : BitVec 32 := Scalar.addi v40 c0_i32_69
  v125
def k0_mult18 (k0_t1 : Fin k0_t1_loop.trips) : BitVec 32 :=
  let c0_i32_26 : BitVec 32 := 0#32
  let c1_i32_27 : BitVec 32 := 1#32
  let arg12 : BitVec 32 := Scf.iv c0_i32_26 c1_i32_27 k0_t1
  let c2_i32_29 : BitVec 32 := 2#32
  let v32 : BitVec 32 := Scalar.muli arg12 c2_i32_29
  let c1_i32_33 : BitVec 32 := 1#32
  let v37 : BitVec 32 := Scalar.addi v32 c1_i32_33
  let c0_i32_34 : BitVec 32 := 0#32
  let v38 : BitVec 32 := Scalar.addi v37 c0_i32_34
  let c512_i32_35 : BitVec 32 := 512#32
  let v39 : BitVec 32 := Scalar.muli v38 c512_i32_35
  let c0_i32_36 : BitVec 32 := 0#32
  let v40 : BitVec 32 := Scalar.addi v39 c0_i32_36
  let c128_i32_71 : BitVec 32 := 128#32
  let v130 : BitVec 32 := Scalar.addi v40 c128_i32_71
  v130
def k0_mult19 (k0_t1 : Fin k0_t1_loop.trips) : BitVec 32 :=
  let c0_i32_26 : BitVec 32 := 0#32
  let c1_i32_27 : BitVec 32 := 1#32
  let arg12 : BitVec 32 := Scf.iv c0_i32_26 c1_i32_27 k0_t1
  let c2_i32_29 : BitVec 32 := 2#32
  let v32 : BitVec 32 := Scalar.muli arg12 c2_i32_29
  let c1_i32_33 : BitVec 32 := 1#32
  let v37 : BitVec 32 := Scalar.addi v32 c1_i32_33
  let c0_i32_34 : BitVec 32 := 0#32
  let v38 : BitVec 32 := Scalar.addi v37 c0_i32_34
  let c512_i32_35 : BitVec 32 := 512#32
  let v39 : BitVec 32 := Scalar.muli v38 c512_i32_35
  let c0_i32_36 : BitVec 32 := 0#32
  let v40 : BitVec 32 := Scalar.addi v39 c0_i32_36
  let c256_i32_73 : BitVec 32 := 256#32
  let v135 : BitVec 32 := Scalar.addi v40 c256_i32_73
  v135
def k0_mult20 (k0_t1 : Fin k0_t1_loop.trips) : BitVec 32 :=
  let c0_i32_26 : BitVec 32 := 0#32
  let c1_i32_27 : BitVec 32 := 1#32
  let arg12 : BitVec 32 := Scf.iv c0_i32_26 c1_i32_27 k0_t1
  let c2_i32_29 : BitVec 32 := 2#32
  let v32 : BitVec 32 := Scalar.muli arg12 c2_i32_29
  let c1_i32_33 : BitVec 32 := 1#32
  let v37 : BitVec 32 := Scalar.addi v32 c1_i32_33
  let c0_i32_34 : BitVec 32 := 0#32
  let v38 : BitVec 32 := Scalar.addi v37 c0_i32_34
  let c512_i32_35 : BitVec 32 := 512#32
  let v39 : BitVec 32 := Scalar.muli v38 c512_i32_35
  let c0_i32_36 : BitVec 32 := 0#32
  let v40 : BitVec 32 := Scalar.addi v39 c0_i32_36
  let c384_i32_75 : BitVec 32 := 384#32
  let v140 : BitVec 32 := Scalar.addi v40 c384_i32_75
  v140
def k0_mult21 (k0_t1 : Fin k0_t1_loop.trips) : BitVec 32 :=
  let c0_i32_26 : BitVec 32 := 0#32
  let c1_i32_27 : BitVec 32 := 1#32
  let arg12 : BitVec 32 := Scf.iv c0_i32_26 c1_i32_27 k0_t1
  let c2_i32_29 : BitVec 32 := 2#32
  let v32 : BitVec 32 := Scalar.muli arg12 c2_i32_29
  let c0_i32_30 : BitVec 32 := 0#32
  let v33 : BitVec 32 := Scalar.addi v32 c0_i32_30
  let c0_i32_31 : BitVec 32 := 0#32
  let v34 : BitVec 32 := Scalar.addi v33 c0_i32_31
  let c512_i32 : BitVec 32 := 512#32
  let v35 : BitVec 32 := Scalar.muli v34 c512_i32
  let c0_i32_32 : BitVec 32 := 0#32
  let v36 : BitVec 32 := Scalar.addi v35 c0_i32_32
  let c0_i32_81 : BitVec 32 := 0#32
  let v149 : BitVec 32 := Scalar.addi v36 c0_i32_81
  v149
def k0_mult22 (k0_t1 : Fin k0_t1_loop.trips) : BitVec 32 :=
  let c0_i32_26 : BitVec 32 := 0#32
  let c1_i32_27 : BitVec 32 := 1#32
  let arg12 : BitVec 32 := Scf.iv c0_i32_26 c1_i32_27 k0_t1
  let c2_i32_29 : BitVec 32 := 2#32
  let v32 : BitVec 32 := Scalar.muli arg12 c2_i32_29
  let c0_i32_30 : BitVec 32 := 0#32
  let v33 : BitVec 32 := Scalar.addi v32 c0_i32_30
  let c0_i32_31 : BitVec 32 := 0#32
  let v34 : BitVec 32 := Scalar.addi v33 c0_i32_31
  let c512_i32 : BitVec 32 := 512#32
  let v35 : BitVec 32 := Scalar.muli v34 c512_i32
  let c0_i32_32 : BitVec 32 := 0#32
  let v36 : BitVec 32 := Scalar.addi v35 c0_i32_32
  let c0_i32_85 : BitVec 32 := 0#32
  let v159 : BitVec 32 := Scalar.addi v36 c0_i32_85
  v159
def k0_mult23 (k0_t1 : Fin k0_t1_loop.trips) : BitVec 32 :=
  let c0_i32_26 : BitVec 32 := 0#32
  let c1_i32_27 : BitVec 32 := 1#32
  let arg12 : BitVec 32 := Scf.iv c0_i32_26 c1_i32_27 k0_t1
  let c2_i32_29 : BitVec 32 := 2#32
  let v32 : BitVec 32 := Scalar.muli arg12 c2_i32_29
  let c0_i32_30 : BitVec 32 := 0#32
  let v33 : BitVec 32 := Scalar.addi v32 c0_i32_30
  let c0_i32_31 : BitVec 32 := 0#32
  let v34 : BitVec 32 := Scalar.addi v33 c0_i32_31
  let c512_i32 : BitVec 32 := 512#32
  let v35 : BitVec 32 := Scalar.muli v34 c512_i32
  let c0_i32_32 : BitVec 32 := 0#32
  let v36 : BitVec 32 := Scalar.addi v35 c0_i32_32
  let c0_i32_89 : BitVec 32 := 0#32
  let v169 : BitVec 32 := Scalar.addi v36 c0_i32_89
  v169
def k0_mult24 (k0_t1 : Fin k0_t1_loop.trips) : BitVec 32 :=
  let c0_i32_26 : BitVec 32 := 0#32
  let c1_i32_27 : BitVec 32 := 1#32
  let arg12 : BitVec 32 := Scf.iv c0_i32_26 c1_i32_27 k0_t1
  let c2_i32_29 : BitVec 32 := 2#32
  let v32 : BitVec 32 := Scalar.muli arg12 c2_i32_29
  let c0_i32_30 : BitVec 32 := 0#32
  let v33 : BitVec 32 := Scalar.addi v32 c0_i32_30
  let c0_i32_31 : BitVec 32 := 0#32
  let v34 : BitVec 32 := Scalar.addi v33 c0_i32_31
  let c512_i32 : BitVec 32 := 512#32
  let v35 : BitVec 32 := Scalar.muli v34 c512_i32
  let c0_i32_32 : BitVec 32 := 0#32
  let v36 : BitVec 32 := Scalar.addi v35 c0_i32_32
  let c128_i32_95 : BitVec 32 := 128#32
  let v185 : BitVec 32 := Scalar.addi v36 c128_i32_95
  v185
def k0_mult25 (k0_t1 : Fin k0_t1_loop.trips) : BitVec 32 :=
  let c0_i32_26 : BitVec 32 := 0#32
  let c1_i32_27 : BitVec 32 := 1#32
  let arg12 : BitVec 32 := Scf.iv c0_i32_26 c1_i32_27 k0_t1
  let c2_i32_29 : BitVec 32 := 2#32
  let v32 : BitVec 32 := Scalar.muli arg12 c2_i32_29
  let c0_i32_30 : BitVec 32 := 0#32
  let v33 : BitVec 32 := Scalar.addi v32 c0_i32_30
  let c0_i32_31 : BitVec 32 := 0#32
  let v34 : BitVec 32 := Scalar.addi v33 c0_i32_31
  let c512_i32 : BitVec 32 := 512#32
  let v35 : BitVec 32 := Scalar.muli v34 c512_i32
  let c0_i32_32 : BitVec 32 := 0#32
  let v36 : BitVec 32 := Scalar.addi v35 c0_i32_32
  let c128_i32_99 : BitVec 32 := 128#32
  let v195 : BitVec 32 := Scalar.addi v36 c128_i32_99
  v195
def k0_mult26 (k0_t1 : Fin k0_t1_loop.trips) : BitVec 32 :=
  let c0_i32_26 : BitVec 32 := 0#32
  let c1_i32_27 : BitVec 32 := 1#32
  let arg12 : BitVec 32 := Scf.iv c0_i32_26 c1_i32_27 k0_t1
  let c2_i32_29 : BitVec 32 := 2#32
  let v32 : BitVec 32 := Scalar.muli arg12 c2_i32_29
  let c0_i32_30 : BitVec 32 := 0#32
  let v33 : BitVec 32 := Scalar.addi v32 c0_i32_30
  let c0_i32_31 : BitVec 32 := 0#32
  let v34 : BitVec 32 := Scalar.addi v33 c0_i32_31
  let c512_i32 : BitVec 32 := 512#32
  let v35 : BitVec 32 := Scalar.muli v34 c512_i32
  let c0_i32_32 : BitVec 32 := 0#32
  let v36 : BitVec 32 := Scalar.addi v35 c0_i32_32
  let c128_i32_103 : BitVec 32 := 128#32
  let v205 : BitVec 32 := Scalar.addi v36 c128_i32_103
  v205
def k0_mult27 (k0_t1 : Fin k0_t1_loop.trips) : BitVec 32 :=
  let c0_i32_26 : BitVec 32 := 0#32
  let c1_i32_27 : BitVec 32 := 1#32
  let arg12 : BitVec 32 := Scf.iv c0_i32_26 c1_i32_27 k0_t1
  let c2_i32_29 : BitVec 32 := 2#32
  let v32 : BitVec 32 := Scalar.muli arg12 c2_i32_29
  let c0_i32_30 : BitVec 32 := 0#32
  let v33 : BitVec 32 := Scalar.addi v32 c0_i32_30
  let c0_i32_31 : BitVec 32 := 0#32
  let v34 : BitVec 32 := Scalar.addi v33 c0_i32_31
  let c512_i32 : BitVec 32 := 512#32
  let v35 : BitVec 32 := Scalar.muli v34 c512_i32
  let c0_i32_32 : BitVec 32 := 0#32
  let v36 : BitVec 32 := Scalar.addi v35 c0_i32_32
  let c256_i32_110 : BitVec 32 := 256#32
  let v221 : BitVec 32 := Scalar.addi v36 c256_i32_110
  v221
def k0_mult28 (k0_t1 : Fin k0_t1_loop.trips) : BitVec 32 :=
  let c0_i32_26 : BitVec 32 := 0#32
  let c1_i32_27 : BitVec 32 := 1#32
  let arg12 : BitVec 32 := Scf.iv c0_i32_26 c1_i32_27 k0_t1
  let c2_i32_29 : BitVec 32 := 2#32
  let v32 : BitVec 32 := Scalar.muli arg12 c2_i32_29
  let c0_i32_30 : BitVec 32 := 0#32
  let v33 : BitVec 32 := Scalar.addi v32 c0_i32_30
  let c0_i32_31 : BitVec 32 := 0#32
  let v34 : BitVec 32 := Scalar.addi v33 c0_i32_31
  let c512_i32 : BitVec 32 := 512#32
  let v35 : BitVec 32 := Scalar.muli v34 c512_i32
  let c0_i32_32 : BitVec 32 := 0#32
  let v36 : BitVec 32 := Scalar.addi v35 c0_i32_32
  let c256_i32_114 : BitVec 32 := 256#32
  let v231 : BitVec 32 := Scalar.addi v36 c256_i32_114
  v231
def k0_mult29 (k0_t1 : Fin k0_t1_loop.trips) : BitVec 32 :=
  let c0_i32_26 : BitVec 32 := 0#32
  let c1_i32_27 : BitVec 32 := 1#32
  let arg12 : BitVec 32 := Scf.iv c0_i32_26 c1_i32_27 k0_t1
  let c2_i32_29 : BitVec 32 := 2#32
  let v32 : BitVec 32 := Scalar.muli arg12 c2_i32_29
  let c0_i32_30 : BitVec 32 := 0#32
  let v33 : BitVec 32 := Scalar.addi v32 c0_i32_30
  let c0_i32_31 : BitVec 32 := 0#32
  let v34 : BitVec 32 := Scalar.addi v33 c0_i32_31
  let c512_i32 : BitVec 32 := 512#32
  let v35 : BitVec 32 := Scalar.muli v34 c512_i32
  let c0_i32_32 : BitVec 32 := 0#32
  let v36 : BitVec 32 := Scalar.addi v35 c0_i32_32
  let c256_i32_118 : BitVec 32 := 256#32
  let v241 : BitVec 32 := Scalar.addi v36 c256_i32_118
  v241
def k0_mult30 (k0_t1 : Fin k0_t1_loop.trips) : BitVec 32 :=
  let c0_i32_26 : BitVec 32 := 0#32
  let c1_i32_27 : BitVec 32 := 1#32
  let arg12 : BitVec 32 := Scf.iv c0_i32_26 c1_i32_27 k0_t1
  let c2_i32_29 : BitVec 32 := 2#32
  let v32 : BitVec 32 := Scalar.muli arg12 c2_i32_29
  let c0_i32_30 : BitVec 32 := 0#32
  let v33 : BitVec 32 := Scalar.addi v32 c0_i32_30
  let c0_i32_31 : BitVec 32 := 0#32
  let v34 : BitVec 32 := Scalar.addi v33 c0_i32_31
  let c512_i32 : BitVec 32 := 512#32
  let v35 : BitVec 32 := Scalar.muli v34 c512_i32
  let c0_i32_32 : BitVec 32 := 0#32
  let v36 : BitVec 32 := Scalar.addi v35 c0_i32_32
  let c384_i32_125 : BitVec 32 := 384#32
  let v257 : BitVec 32 := Scalar.addi v36 c384_i32_125
  v257
def k0_mult31 (k0_t1 : Fin k0_t1_loop.trips) : BitVec 32 :=
  let c0_i32_26 : BitVec 32 := 0#32
  let c1_i32_27 : BitVec 32 := 1#32
  let arg12 : BitVec 32 := Scf.iv c0_i32_26 c1_i32_27 k0_t1
  let c2_i32_29 : BitVec 32 := 2#32
  let v32 : BitVec 32 := Scalar.muli arg12 c2_i32_29
  let c0_i32_30 : BitVec 32 := 0#32
  let v33 : BitVec 32 := Scalar.addi v32 c0_i32_30
  let c0_i32_31 : BitVec 32 := 0#32
  let v34 : BitVec 32 := Scalar.addi v33 c0_i32_31
  let c512_i32 : BitVec 32 := 512#32
  let v35 : BitVec 32 := Scalar.muli v34 c512_i32
  let c0_i32_32 : BitVec 32 := 0#32
  let v36 : BitVec 32 := Scalar.addi v35 c0_i32_32
  let c384_i32_129 : BitVec 32 := 384#32
  let v267 : BitVec 32 := Scalar.addi v36 c384_i32_129
  v267
def k0_mult32 (k0_t1 : Fin k0_t1_loop.trips) : BitVec 32 :=
  let c0_i32_26 : BitVec 32 := 0#32
  let c1_i32_27 : BitVec 32 := 1#32
  let arg12 : BitVec 32 := Scf.iv c0_i32_26 c1_i32_27 k0_t1
  let c2_i32_29 : BitVec 32 := 2#32
  let v32 : BitVec 32 := Scalar.muli arg12 c2_i32_29
  let c0_i32_30 : BitVec 32 := 0#32
  let v33 : BitVec 32 := Scalar.addi v32 c0_i32_30
  let c0_i32_31 : BitVec 32 := 0#32
  let v34 : BitVec 32 := Scalar.addi v33 c0_i32_31
  let c512_i32 : BitVec 32 := 512#32
  let v35 : BitVec 32 := Scalar.muli v34 c512_i32
  let c0_i32_32 : BitVec 32 := 0#32
  let v36 : BitVec 32 := Scalar.addi v35 c0_i32_32
  let c384_i32_133 : BitVec 32 := 384#32
  let v277 : BitVec 32 := Scalar.addi v36 c384_i32_133
  v277
def k0_mult33 (k0_t1 : Fin k0_t1_loop.trips) : BitVec 32 :=
  let c0_i32_26 : BitVec 32 := 0#32
  let c1_i32_27 : BitVec 32 := 1#32
  let arg12 : BitVec 32 := Scf.iv c0_i32_26 c1_i32_27 k0_t1
  let c2_i32_29 : BitVec 32 := 2#32
  let v32 : BitVec 32 := Scalar.muli arg12 c2_i32_29
  let c1_i32_33 : BitVec 32 := 1#32
  let v37 : BitVec 32 := Scalar.addi v32 c1_i32_33
  let c0_i32_34 : BitVec 32 := 0#32
  let v38 : BitVec 32 := Scalar.addi v37 c0_i32_34
  let c512_i32_35 : BitVec 32 := 512#32
  let v39 : BitVec 32 := Scalar.muli v38 c512_i32_35
  let c0_i32_36 : BitVec 32 := 0#32
  let v40 : BitVec 32 := Scalar.addi v39 c0_i32_36
  let c0_i32_140 : BitVec 32 := 0#32
  let v293 : BitVec 32 := Scalar.addi v40 c0_i32_140
  v293
def k0_mult34 (k0_t1 : Fin k0_t1_loop.trips) : BitVec 32 :=
  let c0_i32_26 : BitVec 32 := 0#32
  let c1_i32_27 : BitVec 32 := 1#32
  let arg12 : BitVec 32 := Scf.iv c0_i32_26 c1_i32_27 k0_t1
  let c2_i32_29 : BitVec 32 := 2#32
  let v32 : BitVec 32 := Scalar.muli arg12 c2_i32_29
  let c1_i32_33 : BitVec 32 := 1#32
  let v37 : BitVec 32 := Scalar.addi v32 c1_i32_33
  let c0_i32_34 : BitVec 32 := 0#32
  let v38 : BitVec 32 := Scalar.addi v37 c0_i32_34
  let c512_i32_35 : BitVec 32 := 512#32
  let v39 : BitVec 32 := Scalar.muli v38 c512_i32_35
  let c0_i32_36 : BitVec 32 := 0#32
  let v40 : BitVec 32 := Scalar.addi v39 c0_i32_36
  let c0_i32_144 : BitVec 32 := 0#32
  let v303 : BitVec 32 := Scalar.addi v40 c0_i32_144
  v303
def k0_mult35 (k0_t1 : Fin k0_t1_loop.trips) : BitVec 32 :=
  let c0_i32_26 : BitVec 32 := 0#32
  let c1_i32_27 : BitVec 32 := 1#32
  let arg12 : BitVec 32 := Scf.iv c0_i32_26 c1_i32_27 k0_t1
  let c2_i32_29 : BitVec 32 := 2#32
  let v32 : BitVec 32 := Scalar.muli arg12 c2_i32_29
  let c1_i32_33 : BitVec 32 := 1#32
  let v37 : BitVec 32 := Scalar.addi v32 c1_i32_33
  let c0_i32_34 : BitVec 32 := 0#32
  let v38 : BitVec 32 := Scalar.addi v37 c0_i32_34
  let c512_i32_35 : BitVec 32 := 512#32
  let v39 : BitVec 32 := Scalar.muli v38 c512_i32_35
  let c0_i32_36 : BitVec 32 := 0#32
  let v40 : BitVec 32 := Scalar.addi v39 c0_i32_36
  let c0_i32_148 : BitVec 32 := 0#32
  let v313 : BitVec 32 := Scalar.addi v40 c0_i32_148
  v313
def k0_mult36 (k0_t1 : Fin k0_t1_loop.trips) : BitVec 32 :=
  let c0_i32_26 : BitVec 32 := 0#32
  let c1_i32_27 : BitVec 32 := 1#32
  let arg12 : BitVec 32 := Scf.iv c0_i32_26 c1_i32_27 k0_t1
  let c2_i32_29 : BitVec 32 := 2#32
  let v32 : BitVec 32 := Scalar.muli arg12 c2_i32_29
  let c1_i32_33 : BitVec 32 := 1#32
  let v37 : BitVec 32 := Scalar.addi v32 c1_i32_33
  let c0_i32_34 : BitVec 32 := 0#32
  let v38 : BitVec 32 := Scalar.addi v37 c0_i32_34
  let c512_i32_35 : BitVec 32 := 512#32
  let v39 : BitVec 32 := Scalar.muli v38 c512_i32_35
  let c0_i32_36 : BitVec 32 := 0#32
  let v40 : BitVec 32 := Scalar.addi v39 c0_i32_36
  let c128_i32_155 : BitVec 32 := 128#32
  let v329 : BitVec 32 := Scalar.addi v40 c128_i32_155
  v329
def k0_mult37 (k0_t1 : Fin k0_t1_loop.trips) : BitVec 32 :=
  let c0_i32_26 : BitVec 32 := 0#32
  let c1_i32_27 : BitVec 32 := 1#32
  let arg12 : BitVec 32 := Scf.iv c0_i32_26 c1_i32_27 k0_t1
  let c2_i32_29 : BitVec 32 := 2#32
  let v32 : BitVec 32 := Scalar.muli arg12 c2_i32_29
  let c1_i32_33 : BitVec 32 := 1#32
  let v37 : BitVec 32 := Scalar.addi v32 c1_i32_33
  let c0_i32_34 : BitVec 32 := 0#32
  let v38 : BitVec 32 := Scalar.addi v37 c0_i32_34
  let c512_i32_35 : BitVec 32 := 512#32
  let v39 : BitVec 32 := Scalar.muli v38 c512_i32_35
  let c0_i32_36 : BitVec 32 := 0#32
  let v40 : BitVec 32 := Scalar.addi v39 c0_i32_36
  let c128_i32_159 : BitVec 32 := 128#32
  let v339 : BitVec 32 := Scalar.addi v40 c128_i32_159
  v339
def k0_mult38 (k0_t1 : Fin k0_t1_loop.trips) : BitVec 32 :=
  let c0_i32_26 : BitVec 32 := 0#32
  let c1_i32_27 : BitVec 32 := 1#32
  let arg12 : BitVec 32 := Scf.iv c0_i32_26 c1_i32_27 k0_t1
  let c2_i32_29 : BitVec 32 := 2#32
  let v32 : BitVec 32 := Scalar.muli arg12 c2_i32_29
  let c1_i32_33 : BitVec 32 := 1#32
  let v37 : BitVec 32 := Scalar.addi v32 c1_i32_33
  let c0_i32_34 : BitVec 32 := 0#32
  let v38 : BitVec 32 := Scalar.addi v37 c0_i32_34
  let c512_i32_35 : BitVec 32 := 512#32
  let v39 : BitVec 32 := Scalar.muli v38 c512_i32_35
  let c0_i32_36 : BitVec 32 := 0#32
  let v40 : BitVec 32 := Scalar.addi v39 c0_i32_36
  let c128_i32_163 : BitVec 32 := 128#32
  let v349 : BitVec 32 := Scalar.addi v40 c128_i32_163
  v349
def k0_mult39 (k0_t1 : Fin k0_t1_loop.trips) : BitVec 32 :=
  let c0_i32_26 : BitVec 32 := 0#32
  let c1_i32_27 : BitVec 32 := 1#32
  let arg12 : BitVec 32 := Scf.iv c0_i32_26 c1_i32_27 k0_t1
  let c2_i32_29 : BitVec 32 := 2#32
  let v32 : BitVec 32 := Scalar.muli arg12 c2_i32_29
  let c1_i32_33 : BitVec 32 := 1#32
  let v37 : BitVec 32 := Scalar.addi v32 c1_i32_33
  let c0_i32_34 : BitVec 32 := 0#32
  let v38 : BitVec 32 := Scalar.addi v37 c0_i32_34
  let c512_i32_35 : BitVec 32 := 512#32
  let v39 : BitVec 32 := Scalar.muli v38 c512_i32_35
  let c0_i32_36 : BitVec 32 := 0#32
  let v40 : BitVec 32 := Scalar.addi v39 c0_i32_36
  let c256_i32_170 : BitVec 32 := 256#32
  let v365 : BitVec 32 := Scalar.addi v40 c256_i32_170
  v365
def k0_mult40 (k0_t1 : Fin k0_t1_loop.trips) : BitVec 32 :=
  let c0_i32_26 : BitVec 32 := 0#32
  let c1_i32_27 : BitVec 32 := 1#32
  let arg12 : BitVec 32 := Scf.iv c0_i32_26 c1_i32_27 k0_t1
  let c2_i32_29 : BitVec 32 := 2#32
  let v32 : BitVec 32 := Scalar.muli arg12 c2_i32_29
  let c1_i32_33 : BitVec 32 := 1#32
  let v37 : BitVec 32 := Scalar.addi v32 c1_i32_33
  let c0_i32_34 : BitVec 32 := 0#32
  let v38 : BitVec 32 := Scalar.addi v37 c0_i32_34
  let c512_i32_35 : BitVec 32 := 512#32
  let v39 : BitVec 32 := Scalar.muli v38 c512_i32_35
  let c0_i32_36 : BitVec 32 := 0#32
  let v40 : BitVec 32 := Scalar.addi v39 c0_i32_36
  let c256_i32_174 : BitVec 32 := 256#32
  let v375 : BitVec 32 := Scalar.addi v40 c256_i32_174
  v375
def k0_mult41 (k0_t1 : Fin k0_t1_loop.trips) : BitVec 32 :=
  let c0_i32_26 : BitVec 32 := 0#32
  let c1_i32_27 : BitVec 32 := 1#32
  let arg12 : BitVec 32 := Scf.iv c0_i32_26 c1_i32_27 k0_t1
  let c2_i32_29 : BitVec 32 := 2#32
  let v32 : BitVec 32 := Scalar.muli arg12 c2_i32_29
  let c1_i32_33 : BitVec 32 := 1#32
  let v37 : BitVec 32 := Scalar.addi v32 c1_i32_33
  let c0_i32_34 : BitVec 32 := 0#32
  let v38 : BitVec 32 := Scalar.addi v37 c0_i32_34
  let c512_i32_35 : BitVec 32 := 512#32
  let v39 : BitVec 32 := Scalar.muli v38 c512_i32_35
  let c0_i32_36 : BitVec 32 := 0#32
  let v40 : BitVec 32 := Scalar.addi v39 c0_i32_36
  let c256_i32_178 : BitVec 32 := 256#32
  let v385 : BitVec 32 := Scalar.addi v40 c256_i32_178
  v385
def k0_mult42 (k0_t1 : Fin k0_t1_loop.trips) : BitVec 32 :=
  let c0_i32_26 : BitVec 32 := 0#32
  let c1_i32_27 : BitVec 32 := 1#32
  let arg12 : BitVec 32 := Scf.iv c0_i32_26 c1_i32_27 k0_t1
  let c2_i32_29 : BitVec 32 := 2#32
  let v32 : BitVec 32 := Scalar.muli arg12 c2_i32_29
  let c1_i32_33 : BitVec 32 := 1#32
  let v37 : BitVec 32 := Scalar.addi v32 c1_i32_33
  let c0_i32_34 : BitVec 32 := 0#32
  let v38 : BitVec 32 := Scalar.addi v37 c0_i32_34
  let c512_i32_35 : BitVec 32 := 512#32
  let v39 : BitVec 32 := Scalar.muli v38 c512_i32_35
  let c0_i32_36 : BitVec 32 := 0#32
  let v40 : BitVec 32 := Scalar.addi v39 c0_i32_36
  let c384_i32_185 : BitVec 32 := 384#32
  let v401 : BitVec 32 := Scalar.addi v40 c384_i32_185
  v401
def k0_mult43 (k0_t1 : Fin k0_t1_loop.trips) : BitVec 32 :=
  let c0_i32_26 : BitVec 32 := 0#32
  let c1_i32_27 : BitVec 32 := 1#32
  let arg12 : BitVec 32 := Scf.iv c0_i32_26 c1_i32_27 k0_t1
  let c2_i32_29 : BitVec 32 := 2#32
  let v32 : BitVec 32 := Scalar.muli arg12 c2_i32_29
  let c1_i32_33 : BitVec 32 := 1#32
  let v37 : BitVec 32 := Scalar.addi v32 c1_i32_33
  let c0_i32_34 : BitVec 32 := 0#32
  let v38 : BitVec 32 := Scalar.addi v37 c0_i32_34
  let c512_i32_35 : BitVec 32 := 512#32
  let v39 : BitVec 32 := Scalar.muli v38 c512_i32_35
  let c0_i32_36 : BitVec 32 := 0#32
  let v40 : BitVec 32 := Scalar.addi v39 c0_i32_36
  let c384_i32_189 : BitVec 32 := 384#32
  let v411 : BitVec 32 := Scalar.addi v40 c384_i32_189
  v411
def k0_mult44 (k0_t1 : Fin k0_t1_loop.trips) : BitVec 32 :=
  let c0_i32_26 : BitVec 32 := 0#32
  let c1_i32_27 : BitVec 32 := 1#32
  let arg12 : BitVec 32 := Scf.iv c0_i32_26 c1_i32_27 k0_t1
  let c2_i32_29 : BitVec 32 := 2#32
  let v32 : BitVec 32 := Scalar.muli arg12 c2_i32_29
  let c1_i32_33 : BitVec 32 := 1#32
  let v37 : BitVec 32 := Scalar.addi v32 c1_i32_33
  let c0_i32_34 : BitVec 32 := 0#32
  let v38 : BitVec 32 := Scalar.addi v37 c0_i32_34
  let c512_i32_35 : BitVec 32 := 512#32
  let v39 : BitVec 32 := Scalar.muli v38 c512_i32_35
  let c0_i32_36 : BitVec 32 := 0#32
  let v40 : BitVec 32 := Scalar.addi v39 c0_i32_36
  let c384_i32_193 : BitVec 32 := 384#32
  let v421 : BitVec 32 := Scalar.addi v40 c384_i32_193
  v421
def k0_mult45 (k0_t1 : Fin k0_t1_loop.trips) : BitVec 32 :=
  let c0_i32_26 : BitVec 32 := 0#32
  let c1_i32_27 : BitVec 32 := 1#32
  let arg12 : BitVec 32 := Scf.iv c0_i32_26 c1_i32_27 k0_t1
  let c2_i32_29 : BitVec 32 := 2#32
  let v32 : BitVec 32 := Scalar.muli arg12 c2_i32_29
  let c0_i32_30 : BitVec 32 := 0#32
  let v33 : BitVec 32 := Scalar.addi v32 c0_i32_30
  let c0_i32_31 : BitVec 32 := 0#32
  let v34 : BitVec 32 := Scalar.addi v33 c0_i32_31
  let c512_i32 : BitVec 32 := 512#32
  let v35 : BitVec 32 := Scalar.muli v34 c512_i32
  let c0_i32_32 : BitVec 32 := 0#32
  let v36 : BitVec 32 := Scalar.addi v35 c0_i32_32
  let c0_i32_224 : BitVec 32 := 0#32
  let v577 : BitVec 32 := Scalar.addi v36 c0_i32_224
  v577
def k0_mult46 (k0_t1 : Fin k0_t1_loop.trips) : BitVec 32 :=
  let c0_i32_26 : BitVec 32 := 0#32
  let c1_i32_27 : BitVec 32 := 1#32
  let arg12 : BitVec 32 := Scf.iv c0_i32_26 c1_i32_27 k0_t1
  let c2_i32_29 : BitVec 32 := 2#32
  let v32 : BitVec 32 := Scalar.muli arg12 c2_i32_29
  let c0_i32_30 : BitVec 32 := 0#32
  let v33 : BitVec 32 := Scalar.addi v32 c0_i32_30
  let c0_i32_31 : BitVec 32 := 0#32
  let v34 : BitVec 32 := Scalar.addi v33 c0_i32_31
  let c512_i32 : BitVec 32 := 512#32
  let v35 : BitVec 32 := Scalar.muli v34 c512_i32
  let c0_i32_32 : BitVec 32 := 0#32
  let v36 : BitVec 32 := Scalar.addi v35 c0_i32_32
  let c128_i32_227 : BitVec 32 := 128#32
  let v585 : BitVec 32 := Scalar.addi v36 c128_i32_227
  v585
def k0_mult47 (k0_t1 : Fin k0_t1_loop.trips) : BitVec 32 :=
  let c0_i32_26 : BitVec 32 := 0#32
  let c1_i32_27 : BitVec 32 := 1#32
  let arg12 : BitVec 32 := Scf.iv c0_i32_26 c1_i32_27 k0_t1
  let c2_i32_29 : BitVec 32 := 2#32
  let v32 : BitVec 32 := Scalar.muli arg12 c2_i32_29
  let c0_i32_30 : BitVec 32 := 0#32
  let v33 : BitVec 32 := Scalar.addi v32 c0_i32_30
  let c0_i32_31 : BitVec 32 := 0#32
  let v34 : BitVec 32 := Scalar.addi v33 c0_i32_31
  let c512_i32 : BitVec 32 := 512#32
  let v35 : BitVec 32 := Scalar.muli v34 c512_i32
  let c0_i32_32 : BitVec 32 := 0#32
  let v36 : BitVec 32 := Scalar.addi v35 c0_i32_32
  let c256_i32_230 : BitVec 32 := 256#32
  let v593 : BitVec 32 := Scalar.addi v36 c256_i32_230
  v593
def k0_mult48 (k0_t1 : Fin k0_t1_loop.trips) : BitVec 32 :=
  let c0_i32_26 : BitVec 32 := 0#32
  let c1_i32_27 : BitVec 32 := 1#32
  let arg12 : BitVec 32 := Scf.iv c0_i32_26 c1_i32_27 k0_t1
  let c2_i32_29 : BitVec 32 := 2#32
  let v32 : BitVec 32 := Scalar.muli arg12 c2_i32_29
  let c0_i32_30 : BitVec 32 := 0#32
  let v33 : BitVec 32 := Scalar.addi v32 c0_i32_30
  let c0_i32_31 : BitVec 32 := 0#32
  let v34 : BitVec 32 := Scalar.addi v33 c0_i32_31
  let c512_i32 : BitVec 32 := 512#32
  let v35 : BitVec 32 := Scalar.muli v34 c512_i32
  let c0_i32_32 : BitVec 32 := 0#32
  let v36 : BitVec 32 := Scalar.addi v35 c0_i32_32
  let c384_i32_233 : BitVec 32 := 384#32
  let v601 : BitVec 32 := Scalar.addi v36 c384_i32_233
  v601
def k0_mult49 (k0_t1 : Fin k0_t1_loop.trips) : BitVec 32 :=
  let c0_i32_26 : BitVec 32 := 0#32
  let c1_i32_27 : BitVec 32 := 1#32
  let arg12 : BitVec 32 := Scf.iv c0_i32_26 c1_i32_27 k0_t1
  let c2_i32_29 : BitVec 32 := 2#32
  let v32 : BitVec 32 := Scalar.muli arg12 c2_i32_29
  let c1_i32_33 : BitVec 32 := 1#32
  let v37 : BitVec 32 := Scalar.addi v32 c1_i32_33
  let c0_i32_34 : BitVec 32 := 0#32
  let v38 : BitVec 32 := Scalar.addi v37 c0_i32_34
  let c512_i32_35 : BitVec 32 := 512#32
  let v39 : BitVec 32 := Scalar.muli v38 c512_i32_35
  let c0_i32_36 : BitVec 32 := 0#32
  let v40 : BitVec 32 := Scalar.addi v39 c0_i32_36
  let c0_i32_236 : BitVec 32 := 0#32
  let v609 : BitVec 32 := Scalar.addi v40 c0_i32_236
  v609
def k0_mult50 (k0_t1 : Fin k0_t1_loop.trips) : BitVec 32 :=
  let c0_i32_26 : BitVec 32 := 0#32
  let c1_i32_27 : BitVec 32 := 1#32
  let arg12 : BitVec 32 := Scf.iv c0_i32_26 c1_i32_27 k0_t1
  let c2_i32_29 : BitVec 32 := 2#32
  let v32 : BitVec 32 := Scalar.muli arg12 c2_i32_29
  let c1_i32_33 : BitVec 32 := 1#32
  let v37 : BitVec 32 := Scalar.addi v32 c1_i32_33
  let c0_i32_34 : BitVec 32 := 0#32
  let v38 : BitVec 32 := Scalar.addi v37 c0_i32_34
  let c512_i32_35 : BitVec 32 := 512#32
  let v39 : BitVec 32 := Scalar.muli v38 c512_i32_35
  let c0_i32_36 : BitVec 32 := 0#32
  let v40 : BitVec 32 := Scalar.addi v39 c0_i32_36
  let c128_i32_239 : BitVec 32 := 128#32
  let v617 : BitVec 32 := Scalar.addi v40 c128_i32_239
  v617
def k0_mult51 (k0_t1 : Fin k0_t1_loop.trips) : BitVec 32 :=
  let c0_i32_26 : BitVec 32 := 0#32
  let c1_i32_27 : BitVec 32 := 1#32
  let arg12 : BitVec 32 := Scf.iv c0_i32_26 c1_i32_27 k0_t1
  let c2_i32_29 : BitVec 32 := 2#32
  let v32 : BitVec 32 := Scalar.muli arg12 c2_i32_29
  let c1_i32_33 : BitVec 32 := 1#32
  let v37 : BitVec 32 := Scalar.addi v32 c1_i32_33
  let c0_i32_34 : BitVec 32 := 0#32
  let v38 : BitVec 32 := Scalar.addi v37 c0_i32_34
  let c512_i32_35 : BitVec 32 := 512#32
  let v39 : BitVec 32 := Scalar.muli v38 c512_i32_35
  let c0_i32_36 : BitVec 32 := 0#32
  let v40 : BitVec 32 := Scalar.addi v39 c0_i32_36
  let c256_i32_242 : BitVec 32 := 256#32
  let v625 : BitVec 32 := Scalar.addi v40 c256_i32_242
  v625
def k0_mult52 (k0_t1 : Fin k0_t1_loop.trips) : BitVec 32 :=
  let c0_i32_26 : BitVec 32 := 0#32
  let c1_i32_27 : BitVec 32 := 1#32
  let arg12 : BitVec 32 := Scf.iv c0_i32_26 c1_i32_27 k0_t1
  let c2_i32_29 : BitVec 32 := 2#32
  let v32 : BitVec 32 := Scalar.muli arg12 c2_i32_29
  let c1_i32_33 : BitVec 32 := 1#32
  let v37 : BitVec 32 := Scalar.addi v32 c1_i32_33
  let c0_i32_34 : BitVec 32 := 0#32
  let v38 : BitVec 32 := Scalar.addi v37 c0_i32_34
  let c512_i32_35 : BitVec 32 := 512#32
  let v39 : BitVec 32 := Scalar.muli v38 c512_i32_35
  let c0_i32_36 : BitVec 32 := 0#32
  let v40 : BitVec 32 := Scalar.addi v39 c0_i32_36
  let c384_i32_245 : BitVec 32 := 384#32
  let v633 : BitVec 32 := Scalar.addi v40 c384_i32_245
  v633
def k0_mult53 (k0_t1 : Fin k0_t1_loop.trips) : BitVec 32 :=
  let c0_i32_26 : BitVec 32 := 0#32
  let c1_i32_27 : BitVec 32 := 1#32
  let arg12 : BitVec 32 := Scf.iv c0_i32_26 c1_i32_27 k0_t1
  let c2_i32_29 : BitVec 32 := 2#32
  let v32 : BitVec 32 := Scalar.muli arg12 c2_i32_29
  let c0_i32_30 : BitVec 32 := 0#32
  let v33 : BitVec 32 := Scalar.addi v32 c0_i32_30
  let c0_i32_31 : BitVec 32 := 0#32
  let v34 : BitVec 32 := Scalar.addi v33 c0_i32_31
  let c512_i32 : BitVec 32 := 512#32
  let v35 : BitVec 32 := Scalar.muli v34 c512_i32
  let c0_i32_32 : BitVec 32 := 0#32
  let v36 : BitVec 32 := Scalar.addi v35 c0_i32_32
  let c_m128_i32_248 : BitVec 32 := 4294967168#32
  let v641 : BitVec 32 := Scalar.addi v36 c_m128_i32_248
  let c128_i32_249 : BitVec 32 := 128#32
  let v642 : BitVec 32 := Scalar.addi v641 c128_i32_249
  v642
def k0_mult54 (k0_t1 : Fin k0_t1_loop.trips) : BitVec 32 :=
  let c0_i32_26 : BitVec 32 := 0#32
  let c1_i32_27 : BitVec 32 := 1#32
  let arg12 : BitVec 32 := Scf.iv c0_i32_26 c1_i32_27 k0_t1
  let c2_i32_29 : BitVec 32 := 2#32
  let v32 : BitVec 32 := Scalar.muli arg12 c2_i32_29
  let c0_i32_30 : BitVec 32 := 0#32
  let v33 : BitVec 32 := Scalar.addi v32 c0_i32_30
  let c0_i32_31 : BitVec 32 := 0#32
  let v34 : BitVec 32 := Scalar.addi v33 c0_i32_31
  let c512_i32 : BitVec 32 := 512#32
  let v35 : BitVec 32 := Scalar.muli v34 c512_i32
  let c0_i32_32 : BitVec 32 := 0#32
  let v36 : BitVec 32 := Scalar.addi v35 c0_i32_32
  let c_m128_i32_252 : BitVec 32 := 4294967168#32
  let v650 : BitVec 32 := Scalar.addi v36 c_m128_i32_252
  let c128_i32_253 : BitVec 32 := 128#32
  let v651 : BitVec 32 := Scalar.addi v650 c128_i32_253
  v651
def k0_mult55 (k0_t1 : Fin k0_t1_loop.trips) : BitVec 32 :=
  let c0_i32_26 : BitVec 32 := 0#32
  let c1_i32_27 : BitVec 32 := 1#32
  let arg12 : BitVec 32 := Scf.iv c0_i32_26 c1_i32_27 k0_t1
  let c2_i32_29 : BitVec 32 := 2#32
  let v32 : BitVec 32 := Scalar.muli arg12 c2_i32_29
  let c0_i32_30 : BitVec 32 := 0#32
  let v33 : BitVec 32 := Scalar.addi v32 c0_i32_30
  let c0_i32_31 : BitVec 32 := 0#32
  let v34 : BitVec 32 := Scalar.addi v33 c0_i32_31
  let c512_i32 : BitVec 32 := 512#32
  let v35 : BitVec 32 := Scalar.muli v34 c512_i32
  let c0_i32_32 : BitVec 32 := 0#32
  let v36 : BitVec 32 := Scalar.addi v35 c0_i32_32
  let c0_i32_256 : BitVec 32 := 0#32
  let v659 : BitVec 32 := Scalar.addi v36 c0_i32_256
  v659
def k0_mult56 (k0_t1 : Fin k0_t1_loop.trips) : BitVec 32 :=
  let c0_i32_26 : BitVec 32 := 0#32
  let c1_i32_27 : BitVec 32 := 1#32
  let arg12 : BitVec 32 := Scf.iv c0_i32_26 c1_i32_27 k0_t1
  let c2_i32_29 : BitVec 32 := 2#32
  let v32 : BitVec 32 := Scalar.muli arg12 c2_i32_29
  let c0_i32_30 : BitVec 32 := 0#32
  let v33 : BitVec 32 := Scalar.addi v32 c0_i32_30
  let c0_i32_31 : BitVec 32 := 0#32
  let v34 : BitVec 32 := Scalar.addi v33 c0_i32_31
  let c512_i32 : BitVec 32 := 512#32
  let v35 : BitVec 32 := Scalar.muli v34 c512_i32
  let c0_i32_32 : BitVec 32 := 0#32
  let v36 : BitVec 32 := Scalar.addi v35 c0_i32_32
  let c0_i32_259 : BitVec 32 := 0#32
  let v667 : BitVec 32 := Scalar.addi v36 c0_i32_259
  v667
def k0_mult57 (k0_t1 : Fin k0_t1_loop.trips) : BitVec 32 :=
  let c0_i32_26 : BitVec 32 := 0#32
  let c1_i32_27 : BitVec 32 := 1#32
  let arg12 : BitVec 32 := Scf.iv c0_i32_26 c1_i32_27 k0_t1
  let c2_i32_29 : BitVec 32 := 2#32
  let v32 : BitVec 32 := Scalar.muli arg12 c2_i32_29
  let c0_i32_30 : BitVec 32 := 0#32
  let v33 : BitVec 32 := Scalar.addi v32 c0_i32_30
  let c0_i32_31 : BitVec 32 := 0#32
  let v34 : BitVec 32 := Scalar.addi v33 c0_i32_31
  let c512_i32 : BitVec 32 := 512#32
  let v35 : BitVec 32 := Scalar.muli v34 c512_i32
  let c0_i32_32 : BitVec 32 := 0#32
  let v36 : BitVec 32 := Scalar.addi v35 c0_i32_32
  let c128_i32_262 : BitVec 32 := 128#32
  let v675 : BitVec 32 := Scalar.addi v36 c128_i32_262
  v675
def k0_mult58 (k0_t1 : Fin k0_t1_loop.trips) : BitVec 32 :=
  let c0_i32_26 : BitVec 32 := 0#32
  let c1_i32_27 : BitVec 32 := 1#32
  let arg12 : BitVec 32 := Scf.iv c0_i32_26 c1_i32_27 k0_t1
  let c2_i32_29 : BitVec 32 := 2#32
  let v32 : BitVec 32 := Scalar.muli arg12 c2_i32_29
  let c0_i32_30 : BitVec 32 := 0#32
  let v33 : BitVec 32 := Scalar.addi v32 c0_i32_30
  let c0_i32_31 : BitVec 32 := 0#32
  let v34 : BitVec 32 := Scalar.addi v33 c0_i32_31
  let c512_i32 : BitVec 32 := 512#32
  let v35 : BitVec 32 := Scalar.muli v34 c512_i32
  let c0_i32_32 : BitVec 32 := 0#32
  let v36 : BitVec 32 := Scalar.addi v35 c0_i32_32
  let c128_i32_265 : BitVec 32 := 128#32
  let v683 : BitVec 32 := Scalar.addi v36 c128_i32_265
  v683
def k0_mult59 (k0_t1 : Fin k0_t1_loop.trips) : BitVec 32 :=
  let c0_i32_26 : BitVec 32 := 0#32
  let c1_i32_27 : BitVec 32 := 1#32
  let arg12 : BitVec 32 := Scf.iv c0_i32_26 c1_i32_27 k0_t1
  let c2_i32_29 : BitVec 32 := 2#32
  let v32 : BitVec 32 := Scalar.muli arg12 c2_i32_29
  let c0_i32_30 : BitVec 32 := 0#32
  let v33 : BitVec 32 := Scalar.addi v32 c0_i32_30
  let c0_i32_31 : BitVec 32 := 0#32
  let v34 : BitVec 32 := Scalar.addi v33 c0_i32_31
  let c512_i32 : BitVec 32 := 512#32
  let v35 : BitVec 32 := Scalar.muli v34 c512_i32
  let c0_i32_32 : BitVec 32 := 0#32
  let v36 : BitVec 32 := Scalar.addi v35 c0_i32_32
  let c256_i32_268 : BitVec 32 := 256#32
  let v691 : BitVec 32 := Scalar.addi v36 c256_i32_268
  v691
def k0_mult60 (k0_t1 : Fin k0_t1_loop.trips) : BitVec 32 :=
  let c0_i32_26 : BitVec 32 := 0#32
  let c1_i32_27 : BitVec 32 := 1#32
  let arg12 : BitVec 32 := Scf.iv c0_i32_26 c1_i32_27 k0_t1
  let c2_i32_29 : BitVec 32 := 2#32
  let v32 : BitVec 32 := Scalar.muli arg12 c2_i32_29
  let c0_i32_30 : BitVec 32 := 0#32
  let v33 : BitVec 32 := Scalar.addi v32 c0_i32_30
  let c0_i32_31 : BitVec 32 := 0#32
  let v34 : BitVec 32 := Scalar.addi v33 c0_i32_31
  let c512_i32 : BitVec 32 := 512#32
  let v35 : BitVec 32 := Scalar.muli v34 c512_i32
  let c0_i32_32 : BitVec 32 := 0#32
  let v36 : BitVec 32 := Scalar.addi v35 c0_i32_32
  let c256_i32_271 : BitVec 32 := 256#32
  let v699 : BitVec 32 := Scalar.addi v36 c256_i32_271
  v699
def k0_mult61 (k0_t1 : Fin k0_t1_loop.trips) : BitVec 32 :=
  let c0_i32_26 : BitVec 32 := 0#32
  let c1_i32_27 : BitVec 32 := 1#32
  let arg12 : BitVec 32 := Scf.iv c0_i32_26 c1_i32_27 k0_t1
  let c2_i32_29 : BitVec 32 := 2#32
  let v32 : BitVec 32 := Scalar.muli arg12 c2_i32_29
  let c0_i32_30 : BitVec 32 := 0#32
  let v33 : BitVec 32 := Scalar.addi v32 c0_i32_30
  let c0_i32_31 : BitVec 32 := 0#32
  let v34 : BitVec 32 := Scalar.addi v33 c0_i32_31
  let c512_i32 : BitVec 32 := 512#32
  let v35 : BitVec 32 := Scalar.muli v34 c512_i32
  let c0_i32_32 : BitVec 32 := 0#32
  let v36 : BitVec 32 := Scalar.addi v35 c0_i32_32
  let c384_i32_274 : BitVec 32 := 384#32
  let v707 : BitVec 32 := Scalar.addi v36 c384_i32_274
  v707
def k0_mult62 (k0_t1 : Fin k0_t1_loop.trips) : BitVec 32 :=
  let c0_i32_26 : BitVec 32 := 0#32
  let c1_i32_27 : BitVec 32 := 1#32
  let arg12 : BitVec 32 := Scf.iv c0_i32_26 c1_i32_27 k0_t1
  let c2_i32_29 : BitVec 32 := 2#32
  let v32 : BitVec 32 := Scalar.muli arg12 c2_i32_29
  let c0_i32_30 : BitVec 32 := 0#32
  let v33 : BitVec 32 := Scalar.addi v32 c0_i32_30
  let c0_i32_31 : BitVec 32 := 0#32
  let v34 : BitVec 32 := Scalar.addi v33 c0_i32_31
  let c512_i32 : BitVec 32 := 512#32
  let v35 : BitVec 32 := Scalar.muli v34 c512_i32
  let c0_i32_32 : BitVec 32 := 0#32
  let v36 : BitVec 32 := Scalar.addi v35 c0_i32_32
  let c384_i32_277 : BitVec 32 := 384#32
  let v715 : BitVec 32 := Scalar.addi v36 c384_i32_277
  v715
def k0_mult63 (k0_t1 : Fin k0_t1_loop.trips) : BitVec 32 :=
  let c0_i32_26 : BitVec 32 := 0#32
  let c1_i32_27 : BitVec 32 := 1#32
  let arg12 : BitVec 32 := Scf.iv c0_i32_26 c1_i32_27 k0_t1
  let c2_i32_29 : BitVec 32 := 2#32
  let v32 : BitVec 32 := Scalar.muli arg12 c2_i32_29
  let c1_i32_33 : BitVec 32 := 1#32
  let v37 : BitVec 32 := Scalar.addi v32 c1_i32_33
  let c0_i32_34 : BitVec 32 := 0#32
  let v38 : BitVec 32 := Scalar.addi v37 c0_i32_34
  let c512_i32_35 : BitVec 32 := 512#32
  let v39 : BitVec 32 := Scalar.muli v38 c512_i32_35
  let c0_i32_36 : BitVec 32 := 0#32
  let v40 : BitVec 32 := Scalar.addi v39 c0_i32_36
  let c_m128_i32_280 : BitVec 32 := 4294967168#32
  let v723 : BitVec 32 := Scalar.addi v40 c_m128_i32_280
  let c128_i32_281 : BitVec 32 := 128#32
  let v724 : BitVec 32 := Scalar.addi v723 c128_i32_281
  v724
def k0_mult64 (k0_t1 : Fin k0_t1_loop.trips) : BitVec 32 :=
  let c0_i32_26 : BitVec 32 := 0#32
  let c1_i32_27 : BitVec 32 := 1#32
  let arg12 : BitVec 32 := Scf.iv c0_i32_26 c1_i32_27 k0_t1
  let c2_i32_29 : BitVec 32 := 2#32
  let v32 : BitVec 32 := Scalar.muli arg12 c2_i32_29
  let c1_i32_33 : BitVec 32 := 1#32
  let v37 : BitVec 32 := Scalar.addi v32 c1_i32_33
  let c0_i32_34 : BitVec 32 := 0#32
  let v38 : BitVec 32 := Scalar.addi v37 c0_i32_34
  let c512_i32_35 : BitVec 32 := 512#32
  let v39 : BitVec 32 := Scalar.muli v38 c512_i32_35
  let c0_i32_36 : BitVec 32 := 0#32
  let v40 : BitVec 32 := Scalar.addi v39 c0_i32_36
  let c_m128_i32_284 : BitVec 32 := 4294967168#32
  let v732 : BitVec 32 := Scalar.addi v40 c_m128_i32_284
  let c128_i32_285 : BitVec 32 := 128#32
  let v733 : BitVec 32 := Scalar.addi v732 c128_i32_285
  v733
def k0_mult65 (k0_t1 : Fin k0_t1_loop.trips) : BitVec 32 :=
  let c0_i32_26 : BitVec 32 := 0#32
  let c1_i32_27 : BitVec 32 := 1#32
  let arg12 : BitVec 32 := Scf.iv c0_i32_26 c1_i32_27 k0_t1
  let c2_i32_29 : BitVec 32 := 2#32
  let v32 : BitVec 32 := Scalar.muli arg12 c2_i32_29
  let c1_i32_33 : BitVec 32 := 1#32
  let v37 : BitVec 32 := Scalar.addi v32 c1_i32_33
  let c0_i32_34 : BitVec 32 := 0#32
  let v38 : BitVec 32 := Scalar.addi v37 c0_i32_34
  let c512_i32_35 : BitVec 32 := 512#32
  let v39 : BitVec 32 := Scalar.muli v38 c512_i32_35
  let c0_i32_36 : BitVec 32 := 0#32
  let v40 : BitVec 32 := Scalar.addi v39 c0_i32_36
  let c0_i32_288 : BitVec 32 := 0#32
  let v741 : BitVec 32 := Scalar.addi v40 c0_i32_288
  v741
def k0_mult66 (k0_t1 : Fin k0_t1_loop.trips) : BitVec 32 :=
  let c0_i32_26 : BitVec 32 := 0#32
  let c1_i32_27 : BitVec 32 := 1#32
  let arg12 : BitVec 32 := Scf.iv c0_i32_26 c1_i32_27 k0_t1
  let c2_i32_29 : BitVec 32 := 2#32
  let v32 : BitVec 32 := Scalar.muli arg12 c2_i32_29
  let c1_i32_33 : BitVec 32 := 1#32
  let v37 : BitVec 32 := Scalar.addi v32 c1_i32_33
  let c0_i32_34 : BitVec 32 := 0#32
  let v38 : BitVec 32 := Scalar.addi v37 c0_i32_34
  let c512_i32_35 : BitVec 32 := 512#32
  let v39 : BitVec 32 := Scalar.muli v38 c512_i32_35
  let c0_i32_36 : BitVec 32 := 0#32
  let v40 : BitVec 32 := Scalar.addi v39 c0_i32_36
  let c0_i32_291 : BitVec 32 := 0#32
  let v749 : BitVec 32 := Scalar.addi v40 c0_i32_291
  v749
def k0_mult67 (k0_t1 : Fin k0_t1_loop.trips) : BitVec 32 :=
  let c0_i32_26 : BitVec 32 := 0#32
  let c1_i32_27 : BitVec 32 := 1#32
  let arg12 : BitVec 32 := Scf.iv c0_i32_26 c1_i32_27 k0_t1
  let c2_i32_29 : BitVec 32 := 2#32
  let v32 : BitVec 32 := Scalar.muli arg12 c2_i32_29
  let c1_i32_33 : BitVec 32 := 1#32
  let v37 : BitVec 32 := Scalar.addi v32 c1_i32_33
  let c0_i32_34 : BitVec 32 := 0#32
  let v38 : BitVec 32 := Scalar.addi v37 c0_i32_34
  let c512_i32_35 : BitVec 32 := 512#32
  let v39 : BitVec 32 := Scalar.muli v38 c512_i32_35
  let c0_i32_36 : BitVec 32 := 0#32
  let v40 : BitVec 32 := Scalar.addi v39 c0_i32_36
  let c128_i32_294 : BitVec 32 := 128#32
  let v757 : BitVec 32 := Scalar.addi v40 c128_i32_294
  v757
def k0_mult68 (k0_t1 : Fin k0_t1_loop.trips) : BitVec 32 :=
  let c0_i32_26 : BitVec 32 := 0#32
  let c1_i32_27 : BitVec 32 := 1#32
  let arg12 : BitVec 32 := Scf.iv c0_i32_26 c1_i32_27 k0_t1
  let c2_i32_29 : BitVec 32 := 2#32
  let v32 : BitVec 32 := Scalar.muli arg12 c2_i32_29
  let c1_i32_33 : BitVec 32 := 1#32
  let v37 : BitVec 32 := Scalar.addi v32 c1_i32_33
  let c0_i32_34 : BitVec 32 := 0#32
  let v38 : BitVec 32 := Scalar.addi v37 c0_i32_34
  let c512_i32_35 : BitVec 32 := 512#32
  let v39 : BitVec 32 := Scalar.muli v38 c512_i32_35
  let c0_i32_36 : BitVec 32 := 0#32
  let v40 : BitVec 32 := Scalar.addi v39 c0_i32_36
  let c128_i32_297 : BitVec 32 := 128#32
  let v765 : BitVec 32 := Scalar.addi v40 c128_i32_297
  v765
def k0_mult69 (k0_t1 : Fin k0_t1_loop.trips) : BitVec 32 :=
  let c0_i32_26 : BitVec 32 := 0#32
  let c1_i32_27 : BitVec 32 := 1#32
  let arg12 : BitVec 32 := Scf.iv c0_i32_26 c1_i32_27 k0_t1
  let c2_i32_29 : BitVec 32 := 2#32
  let v32 : BitVec 32 := Scalar.muli arg12 c2_i32_29
  let c1_i32_33 : BitVec 32 := 1#32
  let v37 : BitVec 32 := Scalar.addi v32 c1_i32_33
  let c0_i32_34 : BitVec 32 := 0#32
  let v38 : BitVec 32 := Scalar.addi v37 c0_i32_34
  let c512_i32_35 : BitVec 32 := 512#32
  let v39 : BitVec 32 := Scalar.muli v38 c512_i32_35
  let c0_i32_36 : BitVec 32 := 0#32
  let v40 : BitVec 32 := Scalar.addi v39 c0_i32_36
  let c256_i32_300 : BitVec 32 := 256#32
  let v773 : BitVec 32 := Scalar.addi v40 c256_i32_300
  v773
def k0_mult70 (k0_t1 : Fin k0_t1_loop.trips) : BitVec 32 :=
  let c0_i32_26 : BitVec 32 := 0#32
  let c1_i32_27 : BitVec 32 := 1#32
  let arg12 : BitVec 32 := Scf.iv c0_i32_26 c1_i32_27 k0_t1
  let c2_i32_29 : BitVec 32 := 2#32
  let v32 : BitVec 32 := Scalar.muli arg12 c2_i32_29
  let c1_i32_33 : BitVec 32 := 1#32
  let v37 : BitVec 32 := Scalar.addi v32 c1_i32_33
  let c0_i32_34 : BitVec 32 := 0#32
  let v38 : BitVec 32 := Scalar.addi v37 c0_i32_34
  let c512_i32_35 : BitVec 32 := 512#32
  let v39 : BitVec 32 := Scalar.muli v38 c512_i32_35
  let c0_i32_36 : BitVec 32 := 0#32
  let v40 : BitVec 32 := Scalar.addi v39 c0_i32_36
  let c256_i32_303 : BitVec 32 := 256#32
  let v781 : BitVec 32 := Scalar.addi v40 c256_i32_303
  v781
def k0_mult71 (k0_t1 : Fin k0_t1_loop.trips) : BitVec 32 :=
  let c0_i32_26 : BitVec 32 := 0#32
  let c1_i32_27 : BitVec 32 := 1#32
  let arg12 : BitVec 32 := Scf.iv c0_i32_26 c1_i32_27 k0_t1
  let c2_i32_29 : BitVec 32 := 2#32
  let v32 : BitVec 32 := Scalar.muli arg12 c2_i32_29
  let c1_i32_33 : BitVec 32 := 1#32
  let v37 : BitVec 32 := Scalar.addi v32 c1_i32_33
  let c0_i32_34 : BitVec 32 := 0#32
  let v38 : BitVec 32 := Scalar.addi v37 c0_i32_34
  let c512_i32_35 : BitVec 32 := 512#32
  let v39 : BitVec 32 := Scalar.muli v38 c512_i32_35
  let c0_i32_36 : BitVec 32 := 0#32
  let v40 : BitVec 32 := Scalar.addi v39 c0_i32_36
  let c384_i32_306 : BitVec 32 := 384#32
  let v789 : BitVec 32 := Scalar.addi v40 c384_i32_306
  v789
def k0_mult72 (k0_t1 : Fin k0_t1_loop.trips) : BitVec 32 :=
  let c0_i32_26 : BitVec 32 := 0#32
  let c1_i32_27 : BitVec 32 := 1#32
  let arg12 : BitVec 32 := Scf.iv c0_i32_26 c1_i32_27 k0_t1
  let c2_i32_29 : BitVec 32 := 2#32
  let v32 : BitVec 32 := Scalar.muli arg12 c2_i32_29
  let c1_i32_33 : BitVec 32 := 1#32
  let v37 : BitVec 32 := Scalar.addi v32 c1_i32_33
  let c0_i32_34 : BitVec 32 := 0#32
  let v38 : BitVec 32 := Scalar.addi v37 c0_i32_34
  let c512_i32_35 : BitVec 32 := 512#32
  let v39 : BitVec 32 := Scalar.muli v38 c512_i32_35
  let c0_i32_36 : BitVec 32 := 0#32
  let v40 : BitVec 32 := Scalar.addi v39 c0_i32_36
  let c384_i32_309 : BitVec 32 := 384#32
  let v797 : BitVec 32 := Scalar.addi v40 c384_i32_309
  v797
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8192x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8192x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference8Ideal.lean ====
abbrev S8192x512 : Shape := ⟨2, ![8192, 512]⟩
abbrev S16x512x8x64 : Shape := ⟨4, ![16, 512, 8, 64]⟩
abbrev S16x8x512x512 : Shape := ⟨4, ![16, 8, 512, 512]⟩
abbrev S512x512 : Shape := ⟨2, ![512, 512]⟩
abbrev S_ : Shape := ⟨0, ![]⟩
abbrev S16x8x512 : Shape := ⟨3, ![16, 8, 512]⟩
abbrev S16x8x512x1 : Shape := ⟨4, ![16, 8, 512, 1]⟩
abbrev S16x8x64x512 : Shape := ⟨4, ![16, 8, 64, 512]⟩
abbrev S16x8x512x64 : Shape := ⟨4, ![16, 8, 512, 64]⟩

abbrev nBuf : Space → Nat
  | .hbm => 95
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S16x512x8x64, .f32⟩
  | .hbm, ⟨5, _⟩ => ⟨S16x512x8x64, .f32⟩
  | .hbm, ⟨6, _⟩ => ⟨S16x8x512x512, .f32⟩
  | .hbm, ⟨7, _⟩ => ⟨S512x512, .i32⟩
  | .hbm, ⟨8, _⟩ => ⟨S512x512, .i32⟩
  | .hbm, ⟨9, _⟩ => ⟨S512x512, .i32⟩
  | .hbm, ⟨10, _⟩ => ⟨S_, .i32⟩
  | .hbm, ⟨11, _⟩ => ⟨S512x512, .i32⟩
  | .hbm, ⟨12, _⟩ => ⟨S512x512, .i1⟩
  | .hbm, ⟨13, _⟩ => ⟨S_, .i32⟩
  | .hbm, ⟨14, _⟩ => ⟨S512x512, .i32⟩
  | .hbm, ⟨15, _⟩ => ⟨S512x512, .i1⟩
  | .hbm, ⟨16, _⟩ => ⟨S512x512, .i1⟩
  | .hbm, ⟨17, _⟩ => ⟨S_, .f32⟩
  | .hbm, ⟨18, _⟩ => ⟨S_, .f32⟩
  | .hbm, ⟨19, _⟩ => ⟨S16x8x512x512, .i1⟩
  | .hbm, ⟨20, _⟩ => ⟨S16x8x512x512, .f32⟩
  | .hbm, ⟨21, _⟩ => ⟨S16x8x512x512, .f32⟩
  | .hbm, ⟨22, _⟩ => ⟨S_, .f32⟩
  | .hbm, ⟨23, _⟩ => ⟨S16x8x512x512, .f32⟩
  | .hbm, ⟨24, _⟩ => ⟨S_, .f32⟩
  | .hbm, ⟨25, _⟩ => ⟨S16x8x512, .f32⟩
  | .hbm, ⟨26, _⟩ => ⟨S16x8x512x1, .f32⟩
  | .hbm, ⟨27, _⟩ => ⟨S16x8x512x512, .f32⟩
  | .hbm, ⟨28, _⟩ => ⟨S16x8x512x512, .i1⟩
  | .hbm, ⟨29, _⟩ => ⟨S16x8x512x512, .f32⟩
  | .hbm, ⟨30, _⟩ => ⟨S_, .f32⟩
  | .hbm, ⟨31, _⟩ => ⟨S16x8x512, .f32⟩
  | .hbm, ⟨32, _⟩ => ⟨S_, .f32⟩
  | .hbm, ⟨33, _⟩ => ⟨S16x8x512, .f32⟩
  | .hbm, ⟨34, _⟩ => ⟨S16x8x512, .f32⟩
  | .hbm, ⟨35, _⟩ => ⟨S_, .f32⟩
  | .hbm, ⟨36, _⟩ => ⟨S16x8x512, .f32⟩
  | .hbm, ⟨37, _⟩ => ⟨S16x8x512, .i1⟩
  | .hbm, ⟨38, _⟩ => ⟨S_, .f32⟩
  | .hbm, ⟨39, _⟩ => ⟨S16x8x512, .f32⟩
  | .hbm, ⟨40, _⟩ => ⟨S16x8x512, .i1⟩
  | .hbm, ⟨41, _⟩ => ⟨S_, .f32⟩
  | .hbm, ⟨42, _⟩ => ⟨S16x8x512, .f32⟩
  | .hbm, ⟨43, _⟩ => ⟨S_, .f32⟩
  | .hbm, ⟨44, _⟩ => ⟨S16x8x512, .f32⟩
  | .hbm, ⟨45, _⟩ => ⟨S_, .f32⟩
  | .hbm, ⟨46, _⟩ => ⟨S16x8x512, .f32⟩
  | .hbm, ⟨47, _⟩ => ⟨S16x8x512, .f32⟩
  | .hbm, ⟨48, _⟩ => ⟨S16x8x512, .f32⟩
  | .hbm, ⟨49, _⟩ => ⟨S16x8x512x1, .f32⟩
  | .hbm, ⟨50, _⟩ => ⟨S16x8x512x512, .f32⟩
  | .hbm, ⟨51, _⟩ => ⟨S16x8x512x512, .f32⟩
  | .hbm, ⟨52, _⟩ => ⟨S16x8x512x512, .f32⟩
  | .hbm, ⟨53, _⟩ => ⟨S_, .f32⟩
  | .hbm, ⟨54, _⟩ => ⟨S16x8x512, .f32⟩
  | .hbm, ⟨55, _⟩ => ⟨S16x8x512x1, .f32⟩
  | .hbm, ⟨56, _⟩ => ⟨S16x8x512x512, .f32⟩
  | .hbm, ⟨57, _⟩ => ⟨S16x8x512x512, .f32⟩
  | .hbm, ⟨58, _⟩ => ⟨S16x8x512x1, .f32⟩
  | .hbm, ⟨59, _⟩ => ⟨S_, .f32⟩
  | .hbm, ⟨60, _⟩ => ⟨S16x8x512x1, .f32⟩
  | .hbm, ⟨61, _⟩ => ⟨S16x8x512x1, .f32⟩
  | .hbm, ⟨62, _⟩ => ⟨S16x512x8x64, .f32⟩
  | .hbm, ⟨63, _⟩ => ⟨S16x8x64x512, .f32⟩
  | .hbm, ⟨64, _⟩ => ⟨S16x512x8x64, .f32⟩
  | .hbm, ⟨65, _⟩ => ⟨S8192x512, .f32⟩
  | .hbm, ⟨66, _⟩ => ⟨S16x512x8x64, .f32⟩
  | .hbm, ⟨67, _⟩ => ⟨S16x8x64x512, .f32⟩
  | .hbm, ⟨68, _⟩ => ⟨S16x8x512x512, .f32⟩
  | .hbm, ⟨69, _⟩ => ⟨S16x8x64x512, .f32⟩
  | .hbm, ⟨70, _⟩ => ⟨S16x512x8x64, .f32⟩
  | .hbm, ⟨71, _⟩ => ⟨S8192x512, .f32⟩
  | .hbm, ⟨72, _⟩ => ⟨S16x8x512x512, .f32⟩
  | .hbm, ⟨73, _⟩ => ⟨S16x8x512x512, .f32⟩
  | .hbm, ⟨74, _⟩ => ⟨S16x8x512x512, .f32⟩
  | .hbm, ⟨75, _⟩ => ⟨S_, .f32⟩
  | .hbm, ⟨76, _⟩ => ⟨S16x8x512, .f32⟩
  | .hbm, ⟨77, _⟩ => ⟨S16x8x512x1, .f32⟩
  | .hbm, ⟨78, _⟩ => ⟨S16x8x512x1, .f32⟩
  | .hbm, ⟨79, _⟩ => ⟨S16x8x512x512, .f32⟩
  | .hbm, ⟨80, _⟩ => ⟨S16x8x512x512, .f32⟩
  | .hbm, ⟨81, _⟩ => ⟨S_, .f32⟩
  | .hbm, ⟨82, _⟩ => ⟨S16x8x512, .f32⟩
  | .hbm, ⟨83, _⟩ => ⟨S16x8x512x512, .f32⟩
  | .hbm, ⟨84, _⟩ => ⟨S16x8x512x512, .f32⟩
  | .hbm, ⟨85, _⟩ => ⟨S16x8x512x512, .f32⟩
  | .hbm, ⟨86, _⟩ => ⟨S_, .f32⟩
  | .hbm, ⟨87, _⟩ => ⟨S16x8x512x512, .f32⟩
  | .hbm, ⟨88, _⟩ => ⟨S16x8x512x512, .f32⟩
  | .hbm, ⟨89, _⟩ => ⟨S16x8x512x64, .f32⟩
  | .hbm, ⟨90, _⟩ => ⟨S16x512x8x64, .f32⟩
  | .hbm, ⟨91, _⟩ => ⟨S16x8x512x64, .f32⟩
  | .hbm, ⟨92, _⟩ => ⟨S16x512x8x64, .f32⟩
  | .hbm, ⟨93, _⟩ => ⟨S8192x512, .f32⟩
  | .hbm, ⟨94, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_call0_v0 : Ref sig .tc := ⟨.hbm, 18, rfl⟩
abbrev main_v11_1 : Ref sig .tc := ⟨.hbm, 19, rfl⟩
abbrev main_call0_v2 : Ref sig .tc := ⟨.hbm, 20, rfl⟩
abbrev main_v11_0 : Ref sig .tc := ⟨.hbm, 21, rfl⟩
abbrev main_call0_cst : Ref sig .tc := ⟨.hbm, 22, rfl⟩
abbrev main_v11_2 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_v21 : Ref sig .tc := ⟨.hbm, 37, rfl⟩
abbrev main_cst_5 : Ref sig .tc := ⟨.hbm, 38, rfl⟩
abbrev main_v22 : Ref sig .tc := ⟨.hbm, 39, rfl⟩
abbrev main_v23 : Ref sig .tc := ⟨.hbm, 40, rfl⟩
abbrev main_cst_6 : Ref sig .tc := ⟨.hbm, 41, rfl⟩
abbrev main_v24 : Ref sig .tc := ⟨.hbm, 42, rfl⟩
abbrev main_cst_7 : Ref sig .tc := ⟨.hbm, 43, rfl⟩
abbrev main_v25 : Ref sig .tc := ⟨.hbm, 44, rfl⟩
abbrev main_cst_8 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_9 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_10 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_11 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_12 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_call1_cst : Ref sig .tc := ⟨.hbm, 86, rfl⟩
abbrev main_call1_v0 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩

abbrev nD : Nat := 1
abbrev τ : Topo := Topo.v7x

variable {F : FTy → Type} [FloatOps F]
-- ==== Kernel9.lean ====
abbrev S8192x512 : Shape := ⟨2, ![8192, 512]⟩
abbrev S256x256 : Shape := ⟨2, ![256, 256]⟩
abbrev S_ : Shape := ⟨0, ![]⟩
abbrev S1x256x256 : Shape := ⟨3, ![1, 256, 256]⟩
abbrev S2x256x256 : Shape := ⟨3, ![2, 256, 256]⟩
abbrev S4x8192x128 : Shape := ⟨3, ![4, 8192, 128]⟩
abbrev S8192x128 : Shape := ⟨2, ![8192, 128]⟩
abbrev S3 : Shape := ⟨1, ![3]⟩
abbrev S1 : Shape := ⟨1, ![1]⟩
abbrev S1x8192x128 : Shape := ⟨3, ![1, 8192, 128]⟩
abbrev S128x128 : Shape := ⟨2, ![128, 128]⟩
abbrev S256x128 : Shape := ⟨2, ![256, 128]⟩
abbrev S2048x256 : Shape := ⟨2, ![2048, 256]⟩
abbrev S2048 : Shape := ⟨1, ![2048]⟩
abbrev S2048x1 : Shape := ⟨2, ![2048, 1]⟩
abbrev S128x256 : Shape := ⟨2, ![128, 256]⟩
abbrev S256x1 : Shape := ⟨2, ![256, 1]⟩

abbrev nBuf : Space → Nat
  | .hbm => 60
  | .vmem => 11
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S256x256, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i1⟩
  | .hbm, ⟨8, _⟩ => ⟨S_, .i32⟩
  | .hbm, ⟨9, _⟩ => ⟨S_, .i32⟩
  | .hbm, ⟨10, _⟩ => ⟨S256x256, .i32⟩
  | .hbm, ⟨11, _⟩ => ⟨S256x256, .i32⟩
  | .hbm, ⟨12, _⟩ => ⟨S_, .i32⟩
  | .hbm, ⟨13, _⟩ => ⟨S256x256, .i32⟩
  | .hbm, ⟨14, _⟩ => ⟨S256x256, .i1⟩
  | .hbm, ⟨15, _⟩ => ⟨S_, .i32⟩
  | .hbm, ⟨16, _⟩ => ⟨S256x256, .i32⟩
  | .hbm, ⟨17, _⟩ => ⟨S256x256, .i1⟩
  | .hbm, ⟨18, _⟩ => ⟨S_, .i32⟩
  | .hbm, ⟨19, _⟩ => ⟨S_, .i1⟩
  | .hbm, ⟨20, _⟩ => ⟨S256x256, .i1⟩
  | .hbm, ⟨21, _⟩ => ⟨S256x256, .i1⟩
  | .hbm, ⟨22, _⟩ => ⟨S256x256, .i1⟩
  | .hbm, ⟨23, _⟩ => ⟨S256x256, .i32⟩
  | .hbm, ⟨24, _⟩ => ⟨S256x256, .i32⟩
  | .hbm, ⟨25, _⟩ => ⟨S256x256, .i32⟩
  | .hbm, ⟨26, _⟩ => ⟨S256x256, .i32⟩
  | .hbm, ⟨27, _⟩ => ⟨S_, .i32⟩
  | .hbm, ⟨28, _⟩ => ⟨S256x256, .i32⟩
  | .hbm, ⟨29, _⟩ => ⟨S256x256, .i32⟩
  | .hbm, ⟨30, _⟩ => ⟨S256x256, .i32⟩
  | .hbm, ⟨31, _⟩ => ⟨S_, .i32⟩
  | .hbm, ⟨32, _⟩ => ⟨S256x256, .i32⟩
  | .hbm, ⟨33, _⟩ => ⟨S256x256, .i1⟩
  | .hbm, ⟨34, _⟩ => ⟨S_, .i32⟩
  | .hbm, ⟨35, _⟩ => ⟨S256x256, .i32⟩
  | .hbm, ⟨36, _⟩ => ⟨S256x256, .i1⟩
  | .hbm, ⟨37, _⟩ => ⟨S256x256, .i1⟩
  | .hbm, ⟨38, _⟩ => ⟨S_, .i32⟩
  | .hbm, ⟨39, _⟩ => ⟨S256x256, .i32⟩
  | .hbm, ⟨40, _⟩ => ⟨S256x256, .i1⟩
  | .hbm, ⟨41, _⟩ => ⟨S256x256, .i1⟩
  | .hbm, ⟨42, _⟩ => ⟨S_, .f32⟩
  | .hbm, ⟨43, _⟩ => ⟨S_, .f32⟩
  | .hbm, ⟨44, _⟩ => ⟨S256x256, .f32⟩
  | .hbm, ⟨45, _⟩ => ⟨S256x256, .f32⟩
  | .hbm, ⟨46, _⟩ => ⟨S256x256, .f32⟩
  | .hbm, ⟨47, _⟩ => ⟨S_, .f32⟩
  | .hbm, ⟨48, _⟩ => ⟨S_, .f32⟩
  | .hbm, ⟨49, _⟩ => ⟨S256x256, .f32⟩
  | .hbm, ⟨50, _⟩ => ⟨S256x256, .f32⟩
  | .hbm, ⟨51, _⟩ => ⟨S256x256, .f32⟩
  | .hbm, ⟨52, _⟩ => ⟨S1x256x256, .f32⟩
  | .hbm, ⟨53, _⟩ => ⟨S1x256x256, .f32⟩
  | .hbm, ⟨54, _⟩ => ⟨S2x256x256, .f32⟩
  | .hbm, ⟨55, _⟩ => ⟨S8192x512, .f32⟩
  | .hbm, ⟨56, _⟩ => ⟨S8192x512, .f32⟩
  | .hbm, ⟨57, _⟩ => ⟨S4x8192x128, .f32⟩
  | .hbm, ⟨58, _⟩ => ⟨S4x8192x128, .f32⟩
  | .hbm, ⟨59, _⟩ => ⟨S4x8192x128, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S2x256x256, .f32⟩
  | .local _ .vmem, ⟨4, _⟩ => ⟨S8192x128, .f32⟩
  | .local _ .vmem, ⟨5, _⟩ => ⟨S8192x128, .f32⟩
  | .local _ .vmem, ⟨6, _⟩ => ⟨S8192x128, .f32⟩
  | .local _ .vmem, ⟨7, _⟩ => ⟨S8192x128, .f32⟩
  | .local _ .vmem, ⟨8, _⟩ => ⟨S8192x128, .f32⟩
  | .local _ .vmem, ⟨9, _⟩ => ⟨S8192x128, .f32⟩
  | .local _ .vmem, ⟨10, _⟩ => ⟨S8192x128, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_call0_c : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_c_1 : Ref sig .tc := ⟨.hbm, 12, rfl⟩
abbrev main_call0_v5 : Ref sig .tc := ⟨.hbm, 13, rfl⟩
abbrev main_call0_v6 : Ref sig .tc := ⟨.hbm, 14, rfl⟩
abbrev main_call0_c_2 : Ref sig .tc := ⟨.hbm, 15, rfl⟩
abbrev main_call0_v7 : Ref sig .tc := ⟨.hbm, 16, rfl⟩
abbrev main_call0_v8 : Ref sig .tc := ⟨.hbm, 17, rfl⟩
abbrev main_call0_c_3 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_v1 : Ref sig .tc := ⟨.hbm, 25, rfl⟩
abbrev main_v2 : Ref sig .tc := ⟨.hbm, 26, rfl⟩
abbrev main_c_0 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_c_1 : Ref sig .tc := ⟨.hbm, 31, rfl⟩
abbrev main_v6 : Ref sig .tc := ⟨.hbm, 32, rfl⟩
abbrev main_v7 : Ref sig .tc := ⟨.hbm, 33, rfl⟩
abbrev main_c_2 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_c_3 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_cst : Ref sig .tc := ⟨.hbm, 42, rfl⟩
abbrev main_cst_4 : Ref sig .tc := ⟨.hbm, 43, rfl⟩
abbrev main_call1_v0 : Ref sig .tc := ⟨.hbm, 44, rfl⟩
abbrev main_call1_v1 : Ref sig .tc := ⟨.hbm, 45, rfl⟩
abbrev main_v14 : Ref sig .tc := ⟨.hbm, 46, rfl⟩
abbrev main_cst_5 : Ref sig .tc := ⟨.hbm, 47, rfl⟩
abbrev main_cst_6 : Ref sig .tc := ⟨.hbm, 48, rfl⟩
abbrev main_call2_v0 : Ref sig .tc := ⟨.hbm, 49, rfl⟩
abbrev main_call2_v1 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19_0 : Ref sig .tc := ⟨.hbm, 55, rfl⟩
abbrev main_v19_1 : Ref sig .tc := ⟨.hbm, 56, rfl⟩
abbrev main_v19_2 : Ref sig .tc := ⟨.hbm, 57, rfl⟩
abbrev main_v19_3 : Ref sig .tc := ⟨.hbm, 58, rfl⟩
abbrev main_v19_4 : Ref sig .tc := ⟨.hbm, 59, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![4], ![false]⟩

def k0_off1 (i : grid0.Coords) : Fin 3 → Nat :=
  let arg0 : BitVec 32 := BitVec.ofNat 32 (i 0).val
  let c0_i32_11 : BitVec 32 := 0#32
  let c0_i32_12 : BitVec 32 := 0#32
  ![arg0.toNat, 0, 0]
@[reducible] def k0_t1_loop : Scf.Loop 32 :=
  let c0_i32_26 : BitVec 32 := 0#32
  let c8_i32 : BitVec 32 := 8#32
  let v39 : BitVec 32 := Scalar.addi c0_i32_26 c8_i32
  let c1_i32_27 : BitVec 32 := 1#32
  ⟨c0_i32_26, v39, c1_i32_27⟩
def k0_mult1 (k0_t1 : Fin k0_t1_loop.trips) : BitVec 32 :=
  let c0_i32_26 : BitVec 32 := 0#32
  let c1_i32_27 : BitVec 32 := 1#32
  let arg14 : BitVec 32 := Scf.iv c0_i32_26 c1_i32_27 k0_t1
  let c2_i32_29 : BitVec 32 := 2#32
  let v40 : BitVec 32 := Scalar.muli arg14 c2_i32_29
  let c0_i32_30 : BitVec 32 := 0#32
  let v41 : BitVec 32 := Scalar.addi v40 c0_i32_30
  let c0_i32_31 : BitVec 32 := 0#32
  let v42 : BitVec 32 := Scalar.addi v41 c0_i32_31
  let c512_i32 : BitVec 32 := 512#32
  let v43 : BitVec 32 := Scalar.muli v42 c512_i32
  let c0_i32_32 : BitVec 32 := 0#32
  let v44 : BitVec 32 := Scalar.addi v43 c0_i32_32
  let c_m128_i32 : BitVec 32 := 4294967168#32
  let v49 : BitVec 32 := Scalar.addi v44 c_m128_i32
  let c0_i32_37 : BitVec 32 := 0#32
  let v50 : BitVec 32 := Scalar.maxsi v49 c0_i32_37
  v50
def k0_off2 (k0_t1 : Fin k0_t1_loop.trips) (c0_i32_30 : BitVec 32) : Fin 2 → Nat :=
  let c0_i32_26 : BitVec 32 := 0#32
  let c1_i32_27 : BitVec 32 := 1#32
  let arg14 : BitVec 32 := Scf.iv c0_i32_26 c1_i32_27 k0_t1
  let c2_i32_29 : BitVec 32 := 2#32
  let v40 : BitVec 32 := Scalar.muli arg14 c2_i32_29
  let v41 : BitVec 32 := Scalar.addi v40 c0_i32_30
  let c0_i32_31 : BitVec 32 := 0#32
  let v42 : BitVec 32 := Scalar.addi v41 c0_i32_31
  let c512_i32 : BitVec 32 := 512#32
  let v43 : BitVec 32 := Scalar.muli v42 c512_i32
  let c0_i32_32 : BitVec 32 := 0#32
  let v44 : BitVec 32 := Scalar.addi v43 c0_i32_32
  let c_m128_i32 : BitVec 32 := 4294967168#32
  let v49 : BitVec 32 := Scalar.addi v44 c_m128_i32
  let c0_i32_37 : BitVec 32 := 0#32
  let v50 : BitVec 32 := Scalar.maxsi v49 c0_i32_37
  let v51 : BitVec 32 := v50
  let v52 : Index := Scalar.indexCast v51
  let c0_38 : Index := 0#32
  ![v52.toNat, 0]
def k0_mult2 (k0_t1 : Fin k0_t1_loop.trips) : BitVec 32 :=
  let c0_i32_26 : BitVec 32 := 0#32
  let c1_i32_27 : BitVec 32 := 1#32
  let arg14 : BitVec 32 := Scf.iv c0_i32_26 c1_i32_27 k0_t1
  let c2_i32_29 : BitVec 32 := 2#32
  let v40 : BitVec 32 := Scalar.muli arg14 c2_i32_29
  let c0_i32_30 : BitVec 32 := 0#32
  let v41 : BitVec 32 := Scalar.addi v40 c0_i32_30
  let c0_i32_31 : BitVec 32 := 0#32
  let v42 : BitVec 32 := Scalar.addi v41 c0_i32_31
  let c512_i32 : BitVec 32 := 512#32
  let v43 : BitVec 32 := Scalar.muli v42 c512_i32
  let c0_i32_32 : BitVec 32 := 0#32
  let v44 : BitVec 32 := Scalar.addi v43 c0_i32_32
  let c0_i32_39 : BitVec 32 := 0#32
  let v55 : BitVec 32 := Scalar.addi v44 c0_i32_39
  v55
def k0_off3 (k0_t1 : Fin k0_t1_loop.trips) (c0_i32_30 : BitVec 32) (c0_i32_39 : BitVec 32) : Fin 2 → Nat :=
  let c0_i32_26 : BitVec 32 := 0#32
  let c1_i32_27 : BitVec 32 := 1#32
  let arg14 : BitVec 32 := Scf.iv c0_i32_26 c1_i32_27 k0_t1
  let c2_i32_29 : BitVec 32 := 2#32
  let v40 : BitVec 32 := Scalar.muli arg14 c2_i32_29
  let v41 : BitVec 32 := Scalar.addi v40 c0_i32_30
  let c0_i32_31 : BitVec 32 := 0#32
  let v42 : BitVec 32 := Scalar.addi v41 c0_i32_31
  let c512_i32 : BitVec 32 := 512#32
  let v43 : BitVec 32 := Scalar.muli v42 c512_i32
  let c0_i32_32 : BitVec 32 := 0#32
  let v44 : BitVec 32 := Scalar.addi v43 c0_i32_32
  let v55 : BitVec 32 := Scalar.addi v44 c0_i32_39
  let v56 : BitVec 32 := v55
  let v57 : Index := Scalar.indexCast v56
  let c0_40 : Index := 0#32
  ![v57.toNat, 0]
def k0_mult3 (k0_t1 : Fin k0_t1_loop.trips) : BitVec 32 :=
  let c0_i32_26 : BitVec 32 := 0#32
  let c1_i32_27 : BitVec 32 := 1#32
  let arg14 : BitVec 32 := Scf.iv c0_i32_26 c1_i32_27 k0_t1
  let c2_i32_29 : BitVec 32 := 2#32
  let v40 : BitVec 32 := Scalar.muli arg14 c2_i32_29
  let c0_i32_30 : BitVec 32 := 0#32
  let v41 : BitVec 32 := Scalar.addi v40 c0_i32_30
  let c0_i32_31 : BitVec 32 := 0#32
  let v42 : BitVec 32 := Scalar.addi v41 c0_i32_31
  let c512_i32 : BitVec 32 := 512#32
  let v43 : BitVec 32 := Scalar.muli v42 c512_i32
  let c0_i32_32 : BitVec 32 := 0#32
  let v44 : BitVec 32 := Scalar.addi v43 c0_i32_32
  let c128_i32 : BitVec 32 := 128#32
  let v60 : BitVec 32 := Scalar.addi v44 c128_i32
  v60
def k0_mult4 (k0_t1 : Fin k0_t1_loop.trips) : BitVec 32 :=
  let c0_i32_26 : BitVec 32 := 0#32
  let c1_i32_27 : BitVec 32 := 1#32
  let arg14 : BitVec 32 := Scf.iv c0_i32_26 c1_i32_27 k0_t1
  let c2_i32_29 : BitVec 32 := 2#32
  let v40 : BitVec 32 := Scalar.muli arg14 c2_i32_29
  let c0_i32_30 : BitVec 32 := 0#32
  let v41 : BitVec 32 := Scalar.addi v40 c0_i32_30
  let c0_i32_31 : BitVec 32 := 0#32
  let v42 : BitVec 32 := Scalar.addi v41 c0_i32_31
  let c512_i32 : BitVec 32 := 512#32
  let v43 : BitVec 32 := Scalar.muli v42 c512_i32
  let c0_i32_32 : BitVec 32 := 0#32
  let v44 : BitVec 32 := Scalar.addi v43 c0_i32_32
  let c256_i32 : BitVec 32 := 256#32
  let v65 : BitVec 32 := Scalar.addi v44 c256_i32
  v65
def k0_mult5 (k0_t1 : Fin k0_t1_loop.trips) : BitVec 32 :=
  let c0_i32_26 : BitVec 32 := 0#32
  let c1_i32_27 : BitVec 32 := 1#32
  let arg14 : BitVec 32 := Scf.iv c0_i32_26 c1_i32_27 k0_t1
  let c2_i32_29 : BitVec 32 := 2#32
  let v40 : BitVec 32 := Scalar.muli arg14 c2_i32_29
  let c0_i32_30 : BitVec 32 := 0#32
  let v41 : BitVec 32 := Scalar.addi v40 c0_i32_30
  let c0_i32_31 : BitVec 32 := 0#32
  let v42 : BitVec 32 := Scalar.addi v41 c0_i32_31
  let c512_i32 : BitVec 32 := 512#32
  let v43 : BitVec 32 := Scalar.muli v42 c512_i32
  let c0_i32_32 : BitVec 32 := 0#32
  let v44 : BitVec 32 := Scalar.addi v43 c0_i32_32
  let c384_i32 : BitVec 32 := 384#32
  let v70 : BitVec 32 := Scalar.addi v44 c384_i32
  v70
def k0_mult6 (k0_t1 : Fin k0_t1_loop.trips) : BitVec 32 :=
  let c0_i32_26 : BitVec 32 := 0#32
  let c1_i32_27 : BitVec 32 := 1#32
  let arg14 : BitVec 32 := Scf.iv c0_i32_26 c1_i32_27 k0_t1
  let c2_i32_29 : BitVec 32 := 2#32
  let v40 : BitVec 32 := Scalar.muli arg14 c2_i32_29
  let c1_i32_33 : BitVec 32 := 1#32
  let v45 : BitVec 32 := Scalar.addi v40 c1_i32_33
  let c0_i32_34 : BitVec 32 := 0#32
  let v46 : BitVec 32 := Scalar.addi v45 c0_i32_34
  let c512_i32_35 : BitVec 32 := 512#32
  let v47 : BitVec 32 := Scalar.muli v46 c512_i32_35
  let c0_i32_36 : BitVec 32 := 0#32
  let v48 : BitVec 32 := Scalar.addi v47 c0_i32_36
  let c_m128_i32_44 : BitVec 32 := 4294967168#32
  let v75 : BitVec 32 := Scalar.addi v48 c_m128_i32_44
  let c0_i32_45 : BitVec 32 := 0#32
  let v76 : BitVec 32 := Scalar.maxsi v75 c0_i32_45
  v76
def k0_mult7 (k0_t1 : Fin k0_t1_loop.trips) : BitVec 32 :=
  let c0_i32_26 : BitVec 32 := 0#32
  let c1_i32_27 : BitVec 32 := 1#32
  let arg14 : BitVec 32 := Scf.iv c0_i32_26 c1_i32_27 k0_t1
  let c2_i32_29 : BitVec 32 := 2#32
  let v40 : BitVec 32 := Scalar.muli arg14 c2_i32_29
  let c1_i32_33 : BitVec 32 := 1#32
  let v45 : BitVec 32 := Scalar.addi v40 c1_i32_33
  let c0_i32_34 : BitVec 32 := 0#32
  let v46 : BitVec 32 := Scalar.addi v45 c0_i32_34
  let c512_i32_35 : BitVec 32 := 512#32
  let v47 : BitVec 32 := Scalar.muli v46 c512_i32_35
  let c0_i32_36 : BitVec 32 := 0#32
  let v48 : BitVec 32 := Scalar.addi v47 c0_i32_36
  let c0_i32_47 : BitVec 32 := 0#32
  let v81 : BitVec 32 := Scalar.addi v48 c0_i32_47
  v81
def k0_mult8 (k0_t1 : Fin k0_t1_loop.trips) : BitVec 32 :=
  let c0_i32_26 : BitVec 32 := 0#32
  let c1_i32_27 : BitVec 32 := 1#32
  let arg14 : BitVec 32 := Scf.iv c0_i32_26 c1_i32_27 k0_t1
  let c2_i32_29 : BitVec 32 := 2#32
  let v40 : BitVec 32 := Scalar.muli arg14 c2_i32_29
  let c1_i32_33 : BitVec 32 := 1#32
  let v45 : BitVec 32 := Scalar.addi v40 c1_i32_33
  let c0_i32_34 : BitVec 32 := 0#32
  let v46 : BitVec 32 := Scalar.addi v45 c0_i32_34
  let c512_i32_35 : BitVec 32 := 512#32
  let v47 : BitVec 32 := Scalar.muli v46 c512_i32_35
  let c0_i32_36 : BitVec 32 := 0#32
  let v48 : BitVec 32 := Scalar.addi v47 c0_i32_36
  let c128_i32_49 : BitVec 32 := 128#32
  let v86 : BitVec 32 := Scalar.addi v48 c128_i32_49
  v86
def k0_mult9 (k0_t1 : Fin k0_t1_loop.trips) : BitVec 32 :=
  let c0_i32_26 : BitVec 32 := 0#32
  let c1_i32_27 : BitVec 32 := 1#32
  let arg14 : BitVec 32 := Scf.iv c0_i32_26 c1_i32_27 k0_t1
  let c2_i32_29 : BitVec 32 := 2#32
  let v40 : BitVec 32 := Scalar.muli arg14 c2_i32_29
  let c1_i32_33 : BitVec 32 := 1#32
  let v45 : BitVec 32 := Scalar.addi v40 c1_i32_33
  let c0_i32_34 : BitVec 32 := 0#32
  let v46 : BitVec 32 := Scalar.addi v45 c0_i32_34
  let c512_i32_35 : BitVec 32 := 512#32
  let v47 : BitVec 32 := Scalar.muli v46 c512_i32_35
  let c0_i32_36 : BitVec 32 := 0#32
  let v48 : BitVec 32 := Scalar.addi v47 c0_i32_36
  let c256_i32_51 : BitVec 32 := 256#32
  let v91 : BitVec 32 := Scalar.addi v48 c256_i32_51
  v91
def k0_mult10 (k0_t1 : Fin k0_t1_loop.trips) : BitVec 32 :=
  let c0_i32_26 : BitVec 32 := 0#32
  let c1_i32_27 : BitVec 32 := 1#32
  let arg14 : BitVec 32 := Scf.iv c0_i32_26 c1_i32_27 k0_t1
  let c2_i32_29 : BitVec 32 := 2#32
  let v40 : BitVec 32 := Scalar.muli arg14 c2_i32_29
  let c1_i32_33 : BitVec 32 := 1#32
  let v45 : BitVec 32 := Scalar.addi v40 c1_i32_33
  let c0_i32_34 : BitVec 32 := 0#32
  let v46 : BitVec 32 := Scalar.addi v45 c0_i32_34
  let c512_i32_35 : BitVec 32 := 512#32
  let v47 : BitVec 32 := Scalar.muli v46 c512_i32_35
  let c0_i32_36 : BitVec 32 := 0#32
  let v48 : BitVec 32 := Scalar.addi v47 c0_i32_36
  let c384_i32_53 : BitVec 32 := 384#32
  let v96 : BitVec 32 := Scalar.addi v48 c384_i32_53
  v96
def k0_mult11 (k0_t1 : Fin k0_t1_loop.trips) : BitVec 32 :=
  let c0_i32_26 : BitVec 32 := 0#32
  let c1_i32_27 : BitVec 32 := 1#32
  let arg14 : BitVec 32 := Scf.iv c0_i32_26 c1_i32_27 k0_t1
  let c2_i32_29 : BitVec 32 := 2#32
  let v40 : BitVec 32 := Scalar.muli arg14 c2_i32_29
  let c0_i32_30 : BitVec 32 := 0#32
  let v41 : BitVec 32 := Scalar.addi v40 c0_i32_30
  let c0_i32_31 : BitVec 32 := 0#32
  let v42 : BitVec 32 := Scalar.addi v41 c0_i32_31
  let c512_i32 : BitVec 32 := 512#32
  let v43 : BitVec 32 := Scalar.muli v42 c512_i32
  let c0_i32_32 : BitVec 32 := 0#32
  let v44 : BitVec 32 := Scalar.addi v43 c0_i32_32
  let c_m128_i32_55 : BitVec 32 := 4294967168#32
  let v101 : BitVec 32 := Scalar.addi v44 c_m128_i32_55
  let c0_i32_56 : BitVec 32 := 0#32
  let v102 : BitVec 32 := Scalar.maxsi v101 c0_i32_56
  v102
def k0_mult12 (k0_t1 : Fin k0_t1_loop.trips) : BitVec 32 :=
  let c0_i32_26 : BitVec 32 := 0#32
  let c1_i32_27 : BitVec 32 := 1#32
  let arg14 : BitVec 32 := Scf.iv c0_i32_26 c1_i32_27 k0_t1
  let c2_i32_29 : BitVec 32 := 2#32
  let v40 : BitVec 32 := Scalar.muli arg14 c2_i32_29
  let c0_i32_30 : BitVec 32 := 0#32
  let v41 : BitVec 32 := Scalar.addi v40 c0_i32_30
  let c0_i32_31 : BitVec 32 := 0#32
  let v42 : BitVec 32 := Scalar.addi v41 c0_i32_31
  let c512_i32 : BitVec 32 := 512#32
  let v43 : BitVec 32 := Scalar.muli v42 c512_i32
  let c0_i32_32 : BitVec 32 := 0#32
  let v44 : BitVec 32 := Scalar.addi v43 c0_i32_32
  let c0_i32_58 : BitVec 32 := 0#32
  let v107 : BitVec 32 := Scalar.addi v44 c0_i32_58
  v107
def k0_mult13 (k0_t1 : Fin k0_t1_loop.trips) : BitVec 32 :=
  let c0_i32_26 : BitVec 32 := 0#32
  let c1_i32_27 : BitVec 32 := 1#32
  let arg14 : BitVec 32 := Scf.iv c0_i32_26 c1_i32_27 k0_t1
  let c2_i32_29 : BitVec 32 := 2#32
  let v40 : BitVec 32 := Scalar.muli arg14 c2_i32_29
  let c0_i32_30 : BitVec 32 := 0#32
  let v41 : BitVec 32 := Scalar.addi v40 c0_i32_30
  let c0_i32_31 : BitVec 32 := 0#32
  let v42 : BitVec 32 := Scalar.addi v41 c0_i32_31
  let c512_i32 : BitVec 32 := 512#32
  let v43 : BitVec 32 := Scalar.muli v42 c512_i32
  let c0_i32_32 : BitVec 32 := 0#32
  let v44 : BitVec 32 := Scalar.addi v43 c0_i32_32
  let c128_i32_60 : BitVec 32 := 128#32
  let v112 : BitVec 32 := Scalar.addi v44 c128_i32_60
  v112
def k0_mult14 (k0_t1 : Fin k0_t1_loop.trips) : BitVec 32 :=
  let c0_i32_26 : BitVec 32 := 0#32
  let c1_i32_27 : BitVec 32 := 1#32
  let arg14 : BitVec 32 := Scf.iv c0_i32_26 c1_i32_27 k0_t1
  let c2_i32_29 : BitVec 32 := 2#32
  let v40 : BitVec 32 := Scalar.muli arg14 c2_i32_29
  let c0_i32_30 : BitVec 32 := 0#32
  let v41 : BitVec 32 := Scalar.addi v40 c0_i32_30
  let c0_i32_31 : BitVec 32 := 0#32
  let v42 : BitVec 32 := Scalar.addi v41 c0_i32_31
  let c512_i32 : BitVec 32 := 512#32
  let v43 : BitVec 32 := Scalar.muli v42 c512_i32
  let c0_i32_32 : BitVec 32 := 0#32
  let v44 : BitVec 32 := Scalar.addi v43 c0_i32_32
  let c256_i32_62 : BitVec 32 := 256#32
  let v117 : BitVec 32 := Scalar.addi v44 c256_i32_62
  v117
def k0_mult15 (k0_t1 : Fin k0_t1_loop.trips) : BitVec 32 :=
  let c0_i32_26 : BitVec 32 := 0#32
  let c1_i32_27 : BitVec 32 := 1#32
  let arg14 : BitVec 32 := Scf.iv c0_i32_26 c1_i32_27 k0_t1
  let c2_i32_29 : BitVec 32 := 2#32
  let v40 : BitVec 32 := Scalar.muli arg14 c2_i32_29
  let c0_i32_30 : BitVec 32 := 0#32
  let v41 : BitVec 32 := Scalar.addi v40 c0_i32_30
  let c0_i32_31 : BitVec 32 := 0#32
  let v42 : BitVec 32 := Scalar.addi v41 c0_i32_31
  let c512_i32 : BitVec 32 := 512#32
  let v43 : BitVec 32 := Scalar.muli v42 c512_i32
  let c0_i32_32 : BitVec 32 := 0#32
  let v44 : BitVec 32 := Scalar.addi v43 c0_i32_32
  let c384_i32_64 : BitVec 32 := 384#32
  let v122 : BitVec 32 := Scalar.addi v44 c384_i32_64
  v122
def k0_mult16 (k0_t1 : Fin k0_t1_loop.trips) : BitVec 32 :=
  let c0_i32_26 : BitVec 32 := 0#32
  let c1_i32_27 : BitVec 32 := 1#32
  let arg14 : BitVec 32 := Scf.iv c0_i32_26 c1_i32_27 k0_t1
  let c2_i32_29 : BitVec 32 := 2#32
  let v40 : BitVec 32 := Scalar.muli arg14 c2_i32_29
  let c1_i32_33 : BitVec 32 := 1#32
  let v45 : BitVec 32 := Scalar.addi v40 c1_i32_33
  let c0_i32_34 : BitVec 32 := 0#32
  let v46 : BitVec 32 := Scalar.addi v45 c0_i32_34
  let c512_i32_35 : BitVec 32 := 512#32
  let v47 : BitVec 32 := Scalar.muli v46 c512_i32_35
  let c0_i32_36 : BitVec 32 := 0#32
  let v48 : BitVec 32 := Scalar.addi v47 c0_i32_36
  let c_m128_i32_66 : BitVec 32 := 4294967168#32
  let v127 : BitVec 32 := Scalar.addi v48 c_m128_i32_66
  let c0_i32_67 : BitVec 32 := 0#32
  let v128 : BitVec 32 := Scalar.maxsi v127 c0_i32_67
  v128
def k0_mult17 (k0_t1 : Fin k0_t1_loop.trips) : BitVec 32 :=
  let c0_i32_26 : BitVec 32 := 0#32
  let c1_i32_27 : BitVec 32 := 1#32
  let arg14 : BitVec 32 := Scf.iv c0_i32_26 c1_i32_27 k0_t1
  let c2_i32_29 : BitVec 32 := 2#32
  let v40 : BitVec 32 := Scalar.muli arg14 c2_i32_29
  let c1_i32_33 : BitVec 32 := 1#32
  let v45 : BitVec 32 := Scalar.addi v40 c1_i32_33
  let c0_i32_34 : BitVec 32 := 0#32
  let v46 : BitVec 32 := Scalar.addi v45 c0_i32_34
  let c512_i32_35 : BitVec 32 := 512#32
  let v47 : BitVec 32 := Scalar.muli v46 c512_i32_35
  let c0_i32_36 : BitVec 32 := 0#32
  let v48 : BitVec 32 := Scalar.addi v47 c0_i32_36
  let c0_i32_69 : BitVec 32 := 0#32
  let v133 : BitVec 32 := Scalar.addi v48 c0_i32_69
  v133
def k0_mult18 (k0_t1 : Fin k0_t1_loop.trips) : BitVec 32 :=
  let c0_i32_26 : BitVec 32 := 0#32
  let c1_i32_27 : BitVec 32 := 1#32
  let arg14 : BitVec 32 := Scf.iv c0_i32_26 c1_i32_27 k0_t1
  let c2_i32_29 : BitVec 32 := 2#32
  let v40 : BitVec 32 := Scalar.muli arg14 c2_i32_29
  let c1_i32_33 : BitVec 32 := 1#32
  let v45 : BitVec 32 := Scalar.addi v40 c1_i32_33
  let c0_i32_34 : BitVec 32 := 0#32
  let v46 : BitVec 32 := Scalar.addi v45 c0_i32_34
  let c512_i32_35 : BitVec 32 := 512#32
  let v47 : BitVec 32 := Scalar.muli v46 c512_i32_35
  let c0_i32_36 : BitVec 32 := 0#32
  let v48 : BitVec 32 := Scalar.addi v47 c0_i32_36
  let c128_i32_71 : BitVec 32 := 128#32
  let v138 : BitVec 32 := Scalar.addi v48 c128_i32_71
  v138
def k0_mult19 (k0_t1 : Fin k0_t1_loop.trips) : BitVec 32 :=
  let c0_i32_26 : BitVec 32 := 0#32
  let c1_i32_27 : BitVec 32 := 1#32
  let arg14 : BitVec 32 := Scf.iv c0_i32_26 c1_i32_27 k0_t1
  let c2_i32_29 : BitVec 32 := 2#32
  let v40 : BitVec 32 := Scalar.muli arg14 c2_i32_29
  let c1_i32_33 : BitVec 32 := 1#32
  let v45 : BitVec 32 := Scalar.addi v40 c1_i32_33
  let c0_i32_34 : BitVec 32 := 0#32
  let v46 : BitVec 32 := Scalar.addi v45 c0_i32_34
  let c512_i32_35 : BitVec 32 := 512#32
  let v47 : BitVec 32 := Scalar.muli v46 c512_i32_35
  let c0_i32_36 : BitVec 32 := 0#32
  let v48 : BitVec 32 := Scalar.addi v47 c0_i32_36
  let c256_i32_73 : BitVec 32 := 256#32
  let v143 : BitVec 32 := Scalar.addi v48 c256_i32_73
  v143
def k0_mult20 (k0_t1 : Fin k0_t1_loop.trips) : BitVec 32 :=
  let c0_i32_26 : BitVec 32 := 0#32
  let c1_i32_27 : BitVec 32 := 1#32
  let arg14 : BitVec 32 := Scf.iv c0_i32_26 c1_i32_27 k0_t1
  let c2_i32_29 : BitVec 32 := 2#32
  let v40 : BitVec 32 := Scalar.muli arg14 c2_i32_29
  let c1_i32_33 : BitVec 32 := 1#32
  let v45 : BitVec 32 := Scalar.addi v40 c1_i32_33
  let c0_i32_34 : BitVec 32 := 0#32
  let v46 : BitVec 32 := Scalar.addi v45 c0_i32_34
  let c512_i32_35 : BitVec 32 := 512#32
  let v47 : BitVec 32 := Scalar.muli v46 c512_i32_35
  let c0_i32_36 : BitVec 32 := 0#32
  let v48 : BitVec 32 := Scalar.addi v47 c0_i32_36
  let c384_i32_75 : BitVec 32 := 384#32
  let v148 : BitVec 32 := Scalar.addi v48 c384_i32_75
  v148
def k0_mult21 (k0_t1 : Fin k0_t1_loop.trips) : BitVec 32 :=
  let c0_i32_26 : BitVec 32 := 0#32
  let c1_i32_27 : BitVec 32 := 1#32
  let arg14 : BitVec 32 := Scf.iv c0_i32_26 c1_i32_27 k0_t1
  let c2_i32_29 : BitVec 32 := 2#32
  let v40 : BitVec 32 := Scalar.muli arg14 c2_i32_29
  let c0_i32_30 : BitVec 32 := 0#32
  let v41 : BitVec 32 := Scalar.addi v40 c0_i32_30
  let c0_i32_31 : BitVec 32 := 0#32
  let v42 : BitVec 32 := Scalar.addi v41 c0_i32_31
  let c512_i32 : BitVec 32 := 512#32
  let v43 : BitVec 32 := Scalar.muli v42 c512_i32
  let c0_i32_32 : BitVec 32 := 0#32
  let v44 : BitVec 32 := Scalar.addi v43 c0_i32_32
  let c0_i32_77 : BitVec 32 := 0#32
  let v153 : BitVec 32 := Scalar.addi v44 c0_i32_77
  v153
def k0_mult22 (k0_t1 : Fin k0_t1_loop.trips) : BitVec 32 :=
  let c0_i32_26 : BitVec 32 := 0#32
  let c1_i32_27 : BitVec 32 := 1#32
  let arg14 : BitVec 32 := Scf.iv c0_i32_26 c1_i32_27 k0_t1
  let c2_i32_29 : BitVec 32 := 2#32
  let v40 : BitVec 32 := Scalar.muli arg14 c2_i32_29
  let c0_i32_30 : BitVec 32 := 0#32
  let v41 : BitVec 32 := Scalar.addi v40 c0_i32_30
  let c0_i32_31 : BitVec 32 := 0#32
  let v42 : BitVec 32 := Scalar.addi v41 c0_i32_31
  let c512_i32 : BitVec 32 := 512#32
  let v43 : BitVec 32 := Scalar.muli v42 c512_i32
  let c0_i32_32 : BitVec 32 := 0#32
  let v44 : BitVec 32 := Scalar.addi v43 c0_i32_32
  let c128_i32_83 : BitVec 32 := 128#32
  let v168 : BitVec 32 := Scalar.addi v44 c128_i32_83
  v168
def k0_mult23 (k0_t1 : Fin k0_t1_loop.trips) : BitVec 32 :=
  let c0_i32_26 : BitVec 32 := 0#32
  let c1_i32_27 : BitVec 32 := 1#32
  let arg14 : BitVec 32 := Scf.iv c0_i32_26 c1_i32_27 k0_t1
  let c2_i32_29 : BitVec 32 := 2#32
  let v40 : BitVec 32 := Scalar.muli arg14 c2_i32_29
  let c0_i32_30 : BitVec 32 := 0#32
  let v41 : BitVec 32 := Scalar.addi v40 c0_i32_30
  let c0_i32_31 : BitVec 32 := 0#32
  let v42 : BitVec 32 := Scalar.addi v41 c0_i32_31
  let c512_i32 : BitVec 32 := 512#32
  let v43 : BitVec 32 := Scalar.muli v42 c512_i32
  let c0_i32_32 : BitVec 32 := 0#32
  let v44 : BitVec 32 := Scalar.addi v43 c0_i32_32
  let c256_i32_91 : BitVec 32 := 256#32
  let v183 : BitVec 32 := Scalar.addi v44 c256_i32_91
  v183
def k0_mult24 (k0_t1 : Fin k0_t1_loop.trips) : BitVec 32 :=
  let c0_i32_26 : BitVec 32 := 0#32
  let c1_i32_27 : BitVec 32 := 1#32
  let arg14 : BitVec 32 := Scf.iv c0_i32_26 c1_i32_27 k0_t1
  let c2_i32_29 : BitVec 32 := 2#32
  let v40 : BitVec 32 := Scalar.muli arg14 c2_i32_29
  let c0_i32_30 : BitVec 32 := 0#32
  let v41 : BitVec 32 := Scalar.addi v40 c0_i32_30
  let c0_i32_31 : BitVec 32 := 0#32
  let v42 : BitVec 32 := Scalar.addi v41 c0_i32_31
  let c512_i32 : BitVec 32 := 512#32
  let v43 : BitVec 32 := Scalar.muli v42 c512_i32
  let c0_i32_32 : BitVec 32 := 0#32
  let v44 : BitVec 32 := Scalar.addi v43 c0_i32_32
  let c384_i32_99 : BitVec 32 := 384#32
  let v198 : BitVec 32 := Scalar.addi v44 c384_i32_99
  v198
def k0_mult25 (k0_t1 : Fin k0_t1_loop.trips) : BitVec 32 :=
  let c0_i32_26 : BitVec 32 := 0#32
  let c1_i32_27 : BitVec 32 := 1#32
  let arg14 : BitVec 32 := Scf.iv c0_i32_26 c1_i32_27 k0_t1
  let c2_i32_29 : BitVec 32 := 2#32
  let v40 : BitVec 32 := Scalar.muli arg14 c2_i32_29
  let c1_i32_33 : BitVec 32 := 1#32
  let v45 : BitVec 32 := Scalar.addi v40 c1_i32_33
  let c0_i32_34 : BitVec 32 := 0#32
  let v46 : BitVec 32 := Scalar.addi v45 c0_i32_34
  let c512_i32_35 : BitVec 32 := 512#32
  let v47 : BitVec 32 := Scalar.muli v46 c512_i32_35
  let c0_i32_36 : BitVec 32 := 0#32
  let v48 : BitVec 32 := Scalar.addi v47 c0_i32_36
  let c0_i32_107 : BitVec 32 := 0#32
  let v213 : BitVec 32 := Scalar.addi v48 c0_i32_107
  v213
def k0_mult26 (k0_t1 : Fin k0_t1_loop.trips) : BitVec 32 :=
  let c0_i32_26 : BitVec 32 := 0#32
  let c1_i32_27 : BitVec 32 := 1#32
  let arg14 : BitVec 32 := Scf.iv c0_i32_26 c1_i32_27 k0_t1
  let c2_i32_29 : BitVec 32 := 2#32
  let v40 : BitVec 32 := Scalar.muli arg14 c2_i32_29
  let c1_i32_33 : BitVec 32 := 1#32
  let v45 : BitVec 32 := Scalar.addi v40 c1_i32_33
  let c0_i32_34 : BitVec 32 := 0#32
  let v46 : BitVec 32 := Scalar.addi v45 c0_i32_34
  let c512_i32_35 : BitVec 32 := 512#32
  let v47 : BitVec 32 := Scalar.muli v46 c512_i32_35
  let c0_i32_36 : BitVec 32 := 0#32
  let v48 : BitVec 32 := Scalar.addi v47 c0_i32_36
  let c128_i32_115 : BitVec 32 := 128#32
  let v228 : BitVec 32 := Scalar.addi v48 c128_i32_115
  v228
def k0_mult27 (k0_t1 : Fin k0_t1_loop.trips) : BitVec 32 :=
  let c0_i32_26 : BitVec 32 := 0#32
  let c1_i32_27 : BitVec 32 := 1#32
  let arg14 : BitVec 32 := Scf.iv c0_i32_26 c1_i32_27 k0_t1
  let c2_i32_29 : BitVec 32 := 2#32
  let v40 : BitVec 32 := Scalar.muli arg14 c2_i32_29
  let c1_i32_33 : BitVec 32 := 1#32
  let v45 : BitVec 32 := Scalar.addi v40 c1_i32_33
  let c0_i32_34 : BitVec 32 := 0#32
  let v46 : BitVec 32 := Scalar.addi v45 c0_i32_34
  let c512_i32_35 : BitVec 32 := 512#32
  let v47 : BitVec 32 := Scalar.muli v46 c512_i32_35
  let c0_i32_36 : BitVec 32 := 0#32
  let v48 : BitVec 32 := Scalar.addi v47 c0_i32_36
  let c256_i32_123 : BitVec 32 := 256#32
  let v243 : BitVec 32 := Scalar.addi v48 c256_i32_123
  v243
def k0_mult28 (k0_t1 : Fin k0_t1_loop.trips) : BitVec 32 :=
  let c0_i32_26 : BitVec 32 := 0#32
  let c1_i32_27 : BitVec 32 := 1#32
  let arg14 : BitVec 32 := Scf.iv c0_i32_26 c1_i32_27 k0_t1
  let c2_i32_29 : BitVec 32 := 2#32
  let v40 : BitVec 32 := Scalar.muli arg14 c2_i32_29
  let c1_i32_33 : BitVec 32 := 1#32
  let v45 : BitVec 32 := Scalar.addi v40 c1_i32_33
  let c0_i32_34 : BitVec 32 := 0#32
  let v46 : BitVec 32 := Scalar.addi v45 c0_i32_34
  let c512_i32_35 : BitVec 32 := 512#32
  let v47 : BitVec 32 := Scalar.muli v46 c512_i32_35
  let c0_i32_36 : BitVec 32 := 0#32
  let v48 : BitVec 32 := Scalar.addi v47 c0_i32_36
  let c384_i32_131 : BitVec 32 := 384#32
  let v258 : BitVec 32 := Scalar.addi v48 c384_i32_131
  v258
def k0_mult29 (k0_t1 : Fin k0_t1_loop.trips) : BitVec 32 :=
  let c0_i32_26 : BitVec 32 := 0#32
  let c1_i32_27 : BitVec 32 := 1#32
  let arg14 : BitVec 32 := Scf.iv c0_i32_26 c1_i32_27 k0_t1
  let c2_i32_29 : BitVec 32 := 2#32
  let v40 : BitVec 32 := Scalar.muli arg14 c2_i32_29
  let c0_i32_30 : BitVec 32 := 0#32
  let v41 : BitVec 32 := Scalar.addi v40 c0_i32_30
  let c0_i32_31 : BitVec 32 := 0#32
  let v42 : BitVec 32 := Scalar.addi v41 c0_i32_31
  let c512_i32 : BitVec 32 := 512#32
  let v43 : BitVec 32 := Scalar.muli v42 c512_i32
  let c0_i32_32 : BitVec 32 := 0#32
  let v44 : BitVec 32 := Scalar.addi v43 c0_i32_32
  let c0_i32_157 : BitVec 32 := 0#32
  let v441 : BitVec 32 := Scalar.addi v44 c0_i32_157
  v441
def k0_mult30 (k0_t1 : Fin k0_t1_loop.trips) : BitVec 32 :=
  let c0_i32_26 : BitVec 32 := 0#32
  let c1_i32_27 : BitVec 32 := 1#32
  let arg14 : BitVec 32 := Scf.iv c0_i32_26 c1_i32_27 k0_t1
  let c2_i32_29 : BitVec 32 := 2#32
  let v40 : BitVec 32 := Scalar.muli arg14 c2_i32_29
  let c0_i32_30 : BitVec 32 := 0#32
  let v41 : BitVec 32 := Scalar.addi v40 c0_i32_30
  let c0_i32_31 : BitVec 32 := 0#32
  let v42 : BitVec 32 := Scalar.addi v41 c0_i32_31
  let c512_i32 : BitVec 32 := 512#32
  let v43 : BitVec 32 := Scalar.muli v42 c512_i32
  let c0_i32_32 : BitVec 32 := 0#32
  let v44 : BitVec 32 := Scalar.addi v43 c0_i32_32
  let c0_i32_159 : BitVec 32 := 0#32
  let v445 : BitVec 32 := Scalar.addi v44 c0_i32_159
  v445
def k0_mult31 (k0_t1 : Fin k0_t1_loop.trips) : BitVec 32 :=
  let c0_i32_26 : BitVec 32 := 0#32
  let c1_i32_27 : BitVec 32 := 1#32
  let arg14 : BitVec 32 := Scf.iv c0_i32_26 c1_i32_27 k0_t1
  let c2_i32_29 : BitVec 32 := 2#32
  let v40 : BitVec 32 := Scalar.muli arg14 c2_i32_29
  let c0_i32_30 : BitVec 32 := 0#32
  let v41 : BitVec 32 := Scalar.addi v40 c0_i32_30
  let c0_i32_31 : BitVec 32 := 0#32
  let v42 : BitVec 32 := Scalar.addi v41 c0_i32_31
  let c512_i32 : BitVec 32 := 512#32
  let v43 : BitVec 32 := Scalar.muli v42 c512_i32
  let c0_i32_32 : BitVec 32 := 0#32
  let v44 : BitVec 32 := Scalar.addi v43 c0_i32_32
  let c128_i32_161 : BitVec 32 := 128#32
  let v449 : BitVec 32 := Scalar.addi v44 c128_i32_161
  v449
def k0_mult32 (k0_t1 : Fin k0_t1_loop.trips) : BitVec 32 :=
  let c0_i32_26 : BitVec 32 := 0#32
  let c1_i32_27 : BitVec 32 := 1#32
  let arg14 : BitVec 32 := Scf.iv c0_i32_26 c1_i32_27 k0_t1
  let c2_i32_29 : BitVec 32 := 2#32
  let v40 : BitVec 32 := Scalar.muli arg14 c2_i32_29
  let c0_i32_30 : BitVec 32 := 0#32
  let v41 : BitVec 32 := Scalar.addi v40 c0_i32_30
  let c0_i32_31 : BitVec 32 := 0#32
  let v42 : BitVec 32 := Scalar.addi v41 c0_i32_31
  let c512_i32 : BitVec 32 := 512#32
  let v43 : BitVec 32 := Scalar.muli v42 c512_i32
  let c0_i32_32 : BitVec 32 := 0#32
  let v44 : BitVec 32 := Scalar.addi v43 c0_i32_32
  let c128_i32_163 : BitVec 32 := 128#32
  let v453 : BitVec 32 := Scalar.addi v44 c128_i32_163
  v453
def k0_mult33 (k0_t1 : Fin k0_t1_loop.trips) : BitVec 32 :=
  let c0_i32_26 : BitVec 32 := 0#32
  let c1_i32_27 : BitVec 32 := 1#32
  let arg14 : BitVec 32 := Scf.iv c0_i32_26 c1_i32_27 k0_t1
  let c2_i32_29 : BitVec 32 := 2#32
  let v40 : BitVec 32 := Scalar.muli arg14 c2_i32_29
  let c0_i32_30 : BitVec 32 := 0#32
  let v41 : BitVec 32 := Scalar.addi v40 c0_i32_30
  let c0_i32_31 : BitVec 32 := 0#32
  let v42 : BitVec 32 := Scalar.addi v41 c0_i32_31
  let c512_i32 : BitVec 32 := 512#32
  let v43 : BitVec 32 := Scalar.muli v42 c512_i32
  let c0_i32_32 : BitVec 32 := 0#32
  let v44 : BitVec 32 := Scalar.addi v43 c0_i32_32
  let c256_i32_165 : BitVec 32 := 256#32
  let v457 : BitVec 32 := Scalar.addi v44 c256_i32_165
  v457
def k0_mult34 (k0_t1 : Fin k0_t1_loop.trips) : BitVec 32 :=
  let c0_i32_26 : BitVec 32 := 0#32
  let c1_i32_27 : BitVec 32 := 1#32
  let arg14 : BitVec 32 := Scf.iv c0_i32_26 c1_i32_27 k0_t1
  let c2_i32_29 : BitVec 32 := 2#32
  let v40 : BitVec 32 := Scalar.muli arg14 c2_i32_29
  let c0_i32_30 : BitVec 32 := 0#32
  let v41 : BitVec 32 := Scalar.addi v40 c0_i32_30
  let c0_i32_31 : BitVec 32 := 0#32
  let v42 : BitVec 32 := Scalar.addi v41 c0_i32_31
  let c512_i32 : BitVec 32 := 512#32
  let v43 : BitVec 32 := Scalar.muli v42 c512_i32
  let c0_i32_32 : BitVec 32 := 0#32
  let v44 : BitVec 32 := Scalar.addi v43 c0_i32_32
  let c256_i32_167 : BitVec 32 := 256#32
  let v461 : BitVec 32 := Scalar.addi v44 c256_i32_167
  v461
def k0_mult35 (k0_t1 : Fin k0_t1_loop.trips) : BitVec 32 :=
  let c0_i32_26 : BitVec 32 := 0#32
  let c1_i32_27 : BitVec 32 := 1#32
  let arg14 : BitVec 32 := Scf.iv c0_i32_26 c1_i32_27 k0_t1
  let c2_i32_29 : BitVec 32 := 2#32
  let v40 : BitVec 32 := Scalar.muli arg14 c2_i32_29
  let c0_i32_30 : BitVec 32 := 0#32
  let v41 : BitVec 32 := Scalar.addi v40 c0_i32_30
  let c0_i32_31 : BitVec 32 := 0#32
  let v42 : BitVec 32 := Scalar.addi v41 c0_i32_31
  let c512_i32 : BitVec 32 := 512#32
  let v43 : BitVec 32 := Scalar.muli v42 c512_i32
  let c0_i32_32 : BitVec 32 := 0#32
  let v44 : BitVec 32 := Scalar.addi v43 c0_i32_32
  let c384_i32_169 : BitVec 32 := 384#32
  let v465 : BitVec 32 := Scalar.addi v44 c384_i32_169
  v465
def k0_mult36 (k0_t1 : Fin k0_t1_loop.trips) : BitVec 32 :=
  let c0_i32_26 : BitVec 32 := 0#32
  let c1_i32_27 : BitVec 32 := 1#32
  let arg14 : BitVec 32 := Scf.iv c0_i32_26 c1_i32_27 k0_t1
  let c2_i32_29 : BitVec 32 := 2#32
  let v40 : BitVec 32 := Scalar.muli arg14 c2_i32_29
  let c0_i32_30 : BitVec 32 := 0#32
  let v41 : BitVec 32 := Scalar.addi v40 c0_i32_30
  let c0_i32_31 : BitVec 32 := 0#32
  let v42 : BitVec 32 := Scalar.addi v41 c0_i32_31
  let c512_i32 : BitVec 32 := 512#32
  let v43 : BitVec 32 := Scalar.muli v42 c512_i32
  let c0_i32_32 : BitVec 32 := 0#32
  let v44 : BitVec 32 := Scalar.addi v43 c0_i32_32
  let c384_i32_171 : BitVec 32 := 384#32
  let v469 : BitVec 32 := Scalar.addi v44 c384_i32_171
  v469
def k0_mult37 (k0_t1 : Fin k0_t1_loop.trips) : BitVec 32 :=
  let c0_i32_26 : BitVec 32 := 0#32
  let c1_i32_27 : BitVec 32 := 1#32
  let arg14 : BitVec 32 := Scf.iv c0_i32_26 c1_i32_27 k0_t1
  let c2_i32_29 : BitVec 32 := 2#32
  let v40 : BitVec 32 := Scalar.muli arg14 c2_i32_29
  let c1_i32_33 : BitVec 32 := 1#32
  let v45 : BitVec 32 := Scalar.addi v40 c1_i32_33
  let c0_i32_34 : BitVec 32 := 0#32
  let v46 : BitVec 32 := Scalar.addi v45 c0_i32_34
  let c512_i32_35 : BitVec 32 := 512#32
  let v47 : BitVec 32 := Scalar.muli v46 c512_i32_35
  let c0_i32_36 : BitVec 32 := 0#32
  let v48 : BitVec 32 := Scalar.addi v47 c0_i32_36
  let c0_i32_173 : BitVec 32 := 0#32
  let v473 : BitVec 32 := Scalar.addi v48 c0_i32_173
  v473
def k0_mult38 (k0_t1 : Fin k0_t1_loop.trips) : BitVec 32 :=
  let c0_i32_26 : BitVec 32 := 0#32
  let c1_i32_27 : BitVec 32 := 1#32
  let arg14 : BitVec 32 := Scf.iv c0_i32_26 c1_i32_27 k0_t1
  let c2_i32_29 : BitVec 32 := 2#32
  let v40 : BitVec 32 := Scalar.muli arg14 c2_i32_29
  let c1_i32_33 : BitVec 32 := 1#32
  let v45 : BitVec 32 := Scalar.addi v40 c1_i32_33
  let c0_i32_34 : BitVec 32 := 0#32
  let v46 : BitVec 32 := Scalar.addi v45 c0_i32_34
  let c512_i32_35 : BitVec 32 := 512#32
  let v47 : BitVec 32 := Scalar.muli v46 c512_i32_35
  let c0_i32_36 : BitVec 32 := 0#32
  let v48 : BitVec 32 := Scalar.addi v47 c0_i32_36
  let c0_i32_175 : BitVec 32 := 0#32
  let v477 : BitVec 32 := Scalar.addi v48 c0_i32_175
  v477
def k0_mult39 (k0_t1 : Fin k0_t1_loop.trips) : BitVec 32 :=
  let c0_i32_26 : BitVec 32 := 0#32
  let c1_i32_27 : BitVec 32 := 1#32
  let arg14 : BitVec 32 := Scf.iv c0_i32_26 c1_i32_27 k0_t1
  let c2_i32_29 : BitVec 32 := 2#32
  let v40 : BitVec 32 := Scalar.muli arg14 c2_i32_29
  let c1_i32_33 : BitVec 32 := 1#32
  let v45 : BitVec 32 := Scalar.addi v40 c1_i32_33
  let c0_i32_34 : BitVec 32 := 0#32
  let v46 : BitVec 32 := Scalar.addi v45 c0_i32_34
  let c512_i32_35 : BitVec 32 := 512#32
  let v47 : BitVec 32 := Scalar.muli v46 c512_i32_35
  let c0_i32_36 : BitVec 32 := 0#32
  let v48 : BitVec 32 := Scalar.addi v47 c0_i32_36
  let c128_i32_177 : BitVec 32 := 128#32
  let v481 : BitVec 32 := Scalar.addi v48 c128_i32_177
  v481
def k0_mult40 (k0_t1 : Fin k0_t1_loop.trips) : BitVec 32 :=
  let c0_i32_26 : BitVec 32 := 0#32
  let c1_i32_27 : BitVec 32 := 1#32
  let arg14 : BitVec 32 := Scf.iv c0_i32_26 c1_i32_27 k0_t1
  let c2_i32_29 : BitVec 32 := 2#32
  let v40 : BitVec 32 := Scalar.muli arg14 c2_i32_29
  let c1_i32_33 : BitVec 32 := 1#32
  let v45 : BitVec 32 := Scalar.addi v40 c1_i32_33
  let c0_i32_34 : BitVec 32 := 0#32
  let v46 : BitVec 32 := Scalar.addi v45 c0_i32_34
  let c512_i32_35 : BitVec 32 := 512#32
  let v47 : BitVec 32 := Scalar.muli v46 c512_i32_35
  let c0_i32_36 : BitVec 32 := 0#32
  let v48 : BitVec 32 := Scalar.addi v47 c0_i32_36
  let c128_i32_179 : BitVec 32 := 128#32
  let v485 : BitVec 32 := Scalar.addi v48 c128_i32_179
  v485
def k0_mult41 (k0_t1 : Fin k0_t1_loop.trips) : BitVec 32 :=
  let c0_i32_26 : BitVec 32 := 0#32
  let c1_i32_27 : BitVec 32 := 1#32
  let arg14 : BitVec 32 := Scf.iv c0_i32_26 c1_i32_27 k0_t1
  let c2_i32_29 : BitVec 32 := 2#32
  let v40 : BitVec 32 := Scalar.muli arg14 c2_i32_29
  let c1_i32_33 : BitVec 32 := 1#32
  let v45 : BitVec 32 := Scalar.addi v40 c1_i32_33
  let c0_i32_34 : BitVec 32 := 0#32
  let v46 : BitVec 32 := Scalar.addi v45 c0_i32_34
  let c512_i32_35 : BitVec 32 := 512#32
  let v47 : BitVec 32 := Scalar.muli v46 c512_i32_35
  let c0_i32_36 : BitVec 32 := 0#32
  let v48 : BitVec 32 := Scalar.addi v47 c0_i32_36
  let c256_i32_181 : BitVec 32 := 256#32
  let v489 : BitVec 32 := Scalar.addi v48 c256_i32_181
  v489
def k0_mult42 (k0_t1 : Fin k0_t1_loop.trips) : BitVec 32 :=
  let c0_i32_26 : BitVec 32 := 0#32
  let c1_i32_27 : BitVec 32 := 1#32
  let arg14 : BitVec 32 := Scf.iv c0_i32_26 c1_i32_27 k0_t1
  let c2_i32_29 : BitVec 32 := 2#32
  let v40 : BitVec 32 := Scalar.muli arg14 c2_i32_29
  let c1_i32_33 : BitVec 32 := 1#32
  let v45 : BitVec 32 := Scalar.addi v40 c1_i32_33
  let c0_i32_34 : BitVec 32 := 0#32
  let v46 : BitVec 32 := Scalar.addi v45 c0_i32_34
  let c512_i32_35 : BitVec 32 := 512#32
  let v47 : BitVec 32 := Scalar.muli v46 c512_i32_35
  let c0_i32_36 : BitVec 32 := 0#32
  let v48 : BitVec 32 := Scalar.addi v47 c0_i32_36
  let c256_i32_183 : BitVec 32 := 256#32
  let v493 : BitVec 32 := Scalar.addi v48 c256_i32_183
  v493
def k0_mult43 (k0_t1 : Fin k0_t1_loop.trips) : BitVec 32 :=
  let c0_i32_26 : BitVec 32 := 0#32
  let c1_i32_27 : BitVec 32 := 1#32
  let arg14 : BitVec 32 := Scf.iv c0_i32_26 c1_i32_27 k0_t1
  let c2_i32_29 : BitVec 32 := 2#32
  let v40 : BitVec 32 := Scalar.muli arg14 c2_i32_29
  let c1_i32_33 : BitVec 32 := 1#32
  let v45 : BitVec 32 := Scalar.addi v40 c1_i32_33
  let c0_i32_34 : BitVec 32 := 0#32
  let v46 : BitVec 32 := Scalar.addi v45 c0_i32_34
  let c512_i32_35 : BitVec 32 := 512#32
  let v47 : BitVec 32 := Scalar.muli v46 c512_i32_35
  let c0_i32_36 : BitVec 32 := 0#32
  let v48 : BitVec 32 := Scalar.addi v47 c0_i32_36
  let c384_i32_185 : BitVec 32 := 384#32
  let v497 : BitVec 32 := Scalar.addi v48 c384_i32_185
  v497
def k0_mult44 (k0_t1 : Fin k0_t1_loop.trips) : BitVec 32 :=
  let c0_i32_26 : BitVec 32 := 0#32
  let c1_i32_27 : BitVec 32 := 1#32
  let arg14 : BitVec 32 := Scf.iv c0_i32_26 c1_i32_27 k0_t1
  let c2_i32_29 : BitVec 32 := 2#32
  let v40 : BitVec 32 := Scalar.muli arg14 c2_i32_29
  let c1_i32_33 : BitVec 32 := 1#32
  let v45 : BitVec 32 := Scalar.addi v40 c1_i32_33
  let c0_i32_34 : BitVec 32 := 0#32
  let v46 : BitVec 32 := Scalar.addi v45 c0_i32_34
  let c512_i32_35 : BitVec 32 := 512#32
  let v47 : BitVec 32 := Scalar.muli v46 c512_i32_35
  let c0_i32_36 : BitVec 32 := 0#32
  let v48 : BitVec 32 := Scalar.addi v47 c0_i32_36
  let c384_i32_187 : BitVec 32 := 384#32
  let v501 : BitVec 32 := Scalar.addi v48 c384_i32_187
  v501
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8192x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8192x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8192x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8192x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference9Ideal.lean ====
abbrev S8192x512 : Shape := ⟨2, ![8192, 512]⟩
abbrev S16x512x8x64 : Shape := ⟨4, ![16, 512, 8, 64]⟩
abbrev S16x8x512x512 : Shape := ⟨4, ![16, 8, 512, 512]⟩
abbrev S512x512 : Shape := ⟨2, ![512, 512]⟩
abbrev S_ : Shape := ⟨0, ![]⟩
abbrev S16x8x512 : Shape := ⟨3, ![16, 8, 512]⟩
abbrev S16x8x512x1 : Shape := ⟨4, ![16, 8, 512, 1]⟩
abbrev S16x8x64x512 : Shape := ⟨4, ![16, 8, 64, 512]⟩
abbrev S16x512x8 : Shape := ⟨3, ![16, 512, 8]⟩
abbrev S16x512x8x1 : Shape := ⟨4, ![16, 512, 8, 1]⟩

abbrev nBuf : Space → Nat
  | .hbm => 46
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S16x512x8x64, .f32⟩
  | .hbm, ⟨4, _⟩ => ⟨S16x512x8x64, .f32⟩
  | .hbm, ⟨5, _⟩ => ⟨S16x8x512x512, .f32⟩
  | .hbm, ⟨6, _⟩ => ⟨S512x512, .i32⟩
  | .hbm, ⟨7, _⟩ => ⟨S512x512, .i32⟩
  | .hbm, ⟨8, _⟩ => ⟨S512x512, .i32⟩
  | .hbm, ⟨9, _⟩ => ⟨S_, .i32⟩
  | .hbm, ⟨10, _⟩ => ⟨S512x512, .i32⟩
  | .hbm, ⟨11, _⟩ => ⟨S512x512, .i1⟩
  | .hbm, ⟨12, _⟩ => ⟨S_, .i32⟩
  | .hbm, ⟨13, _⟩ => ⟨S512x512, .i32⟩
  | .hbm, ⟨14, _⟩ => ⟨S512x512, .i1⟩
  | .hbm, ⟨15, _⟩ => ⟨S512x512, .i1⟩
  | .hbm, ⟨16, _⟩ => ⟨S16x8x512x512, .i1⟩
  | .hbm, ⟨17, _⟩ => ⟨S_, .f32⟩
  | .hbm, ⟨18, _⟩ => ⟨S16x8x512x512, .f32⟩
  | .hbm, ⟨19, _⟩ => ⟨S16x8x512x512, .f32⟩
  | .hbm, ⟨20, _⟩ => ⟨S16x8x512x512, .f32⟩
  | .hbm, ⟨21, _⟩ => ⟨S_, .f32⟩
  | .hbm, ⟨22, _⟩ => ⟨S16x8x512, .f32⟩
  | .hbm, ⟨23, _⟩ => ⟨S16x8x512, .f32⟩
  | .hbm, ⟨24, _⟩ => ⟨S_, .f32⟩
  | .hbm, ⟨25, _⟩ => ⟨S16x8x512, .f32⟩
  | .hbm, ⟨26, _⟩ => ⟨S_, .f32⟩
  | .hbm, ⟨27, _⟩ => ⟨S16x8x512, .f32⟩
  | .hbm, ⟨28, _⟩ => ⟨S16x8x512, .f32⟩
  | .hbm, ⟨29, _⟩ => ⟨S16x8x512x1, .f32⟩
  | .hbm, ⟨30, _⟩ => ⟨S16x8x512x512, .f32⟩
  | .hbm, ⟨31, _⟩ => ⟨S16x8x512x512, .f32⟩
  | .hbm, ⟨32, _⟩ => ⟨S16x8x512x512, .f32⟩
  | .hbm, ⟨33, _⟩ => ⟨S_, .f32⟩
  | .hbm, ⟨34, _⟩ => ⟨S16x8x512, .f32⟩
  | .hbm, ⟨35, _⟩ => ⟨S16x8x512x1, .f32⟩
  | .hbm, ⟨36, _⟩ => ⟨S16x8x512x512, .f32⟩
  | .hbm, ⟨37, _⟩ => ⟨S16x8x512x512, .f32⟩
  | .hbm, ⟨38, _⟩ => ⟨S16x512x8x64, .f32⟩
  | .hbm, ⟨39, _⟩ => ⟨S16x8x64x512, .f32⟩
  | .hbm, ⟨40, _⟩ => ⟨S16x512x8x64, .f32⟩
  | .hbm, ⟨41, _⟩ => ⟨S8192x512, .f32⟩
  | .hbm, ⟨42, _⟩ => ⟨S16x512x8, .f32⟩
  | .hbm, ⟨43, _⟩ => ⟨S16x512x8x1, .f32⟩
  | .hbm, ⟨44, _⟩ => ⟨S16x512x8x64, .f32⟩
  | .hbm, ⟨45, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩

abbrev nD : Nat := 1
abbrev τ : Topo := Topo.v7x

variable {F : FTy → Type} [FloatOps F]
-- ==== Proof.Reals.lean ====
/- Finite values as real numbers: the operations of the ideal reading on coerced reals, and the identities over the reals
   that the value claims rest on. -/
module

public import Idealize.ShloMosaic.Lib.Pointwise
public import Idealize.ShloMosaic.Lib.ReduceAll

@[expose] public section

set_option maxRecDepth 16384

noncomputable section

namespace Cert.Reals

open Idealize.ShloMosaic

/-! ### Words -/

/-- The epsilon of the norms: the value of its float word. -/
def eps : ℝ := 8796093 * (2 : ℝ) ^ (-43 : Int)

theorem eps_pos : 0 < eps := by unfold eps; positivity

theorem ofBits_eps : Ideal.ofBits .f32 0x358637BD#32 = (eps : EReal) := by
  simp [Ideal.ofBits, Ideal.ieee, eps]

theorem ofBits_512 : Ideal.ofBits .f32 0x44000000#32 = ((512 : ℝ) : EReal) := by
  simp [Ideal.ofBits, Ideal.ieee]; norm_num [← EReal.coe_mul]

theorem ofBits_1024 : Ideal.ofBits .f32 0x44800000#32 = ((1024 : ℝ) : EReal) := by
  simp [Ideal.ofBits, Ideal.ieee]; norm_num [← EReal.coe_mul]

theorem ofBits_neg_half : Ideal.ofBits .f32 0xBF000000#32 = ((-(1 / 2) : ℝ) : EReal) := by
  simp [Ideal.ofBits, Ideal.ieee]; norm_num [← EReal.coe_mul]

theorem ofBits_inf : Ideal.ofBits .f32 0x7F800000#32 = (⊤ : EReal) := by
  simp [Ideal.ofBits, Ideal.ieee]

/-! ### Operations on coerced reals -/

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem div_real (a b : ℝ) (hb : b ≠ 0) : Ideal.div (a : EReal) (b : EReal) = ((a / b : ℝ) : EReal) := by
  rw [Ideal.div_coe hb, ← EReal.coe_mul]; congr 1; ring

theorem rsqrt_real (a : ℝ) (ha : 0 < a) : Ideal.rsqrt (a : EReal) = (((Real.sqrt a)⁻¹ : ℝ) : EReal) := by
  rw [Ideal.rsqrt_coe, if_neg (not_lt.2 ha.le), if_neg ha.ne']

/-- A finite extended real is a real. -/
theorem exists_real {x : EReal} (h : max x (-x) < ⊤) : ∃ r : ℝ, x = (r : EReal) := by
  induction x with
  | bot => simp at h
  | top => simp at h
  | coe r => exact ⟨r, rfl⟩

/-- An array every element of which is a real is the coercion of an array of reals. -/
theorem exists_reals {ι : Type} {x : ι → EReal} (h : ∀ i, ∃ r : ℝ, x i = (r : EReal)) : ∃ X : ι → ℝ, x = fun i => (X i : EReal) :=
  ⟨fun i => (h i).choose, funext fun i => (h i).choose_spec⟩

/-- What the printed predicate `all(|x| < ∞)` says of an array: it is an array of reals. -/
theorem finite_reals {S T U : Shape} [Subsingleton T.Idx] {axes : List (Fin S.rank)} (x : FVec Ideal S .f32) (b : FVec Ideal S .f32)
    (hb : ∀ i, b i = (⊤ : EReal)) (init : U.Idx → BitVec 1) (h : S.ReducesTo axes T) (hu : 0 < U.numel) (j : T.Idx)
    (e : Host.reduce IntOp.andi (cmpf .olt (Host.absf x) b) init h hu j = 1#1) : ∃ X : S.Idx → ℝ, x = fun i => (X i : EReal) := by
  refine exists_reals fun i => exists_real ?_
  have := Host.reduce_andi_all _ _ _ _ j e i
  have h2 : Ideal.cmp .olt (max (x i) (-(x i))) (b i) = 1#1 := this
  rw [hb i] at h2
  exact of_decide_eq_true ((by decide : ∀ b : Bool, BitVec.ofBool b = 1#1 → b = true) _ h2)

/-! ### The gradient of a norm -/

/-- The mean square plus epsilon. -/
def ms {n : ℕ} (N : ℝ) (y : Fin n → ℝ) : ℝ := (∑ k, y k * y k) / N + eps

theorem ms_pos {n : ℕ} {N : ℝ} (hN : 0 < N) (y : Fin n → ℝ) : 0 < ms N y := by
  have : 0 ≤ ∑ k, y k * y k := Finset.sum_nonneg fun k _ => mul_self_nonneg _
  have := div_nonneg this hN.le
  have := eps_pos
  unfold ms; linarith

/-- The reciprocal root of the mean square. -/
def rr {n : ℕ} (N : ℝ) (y : Fin n → ℝ) : ℝ := (Real.sqrt (ms N y))⁻¹

/-- The gradient of `y · rr y` along the cotangent `t`. -/
def dnorm {n : ℕ} (N : ℝ) (y t : Fin n → ℝ) (k : Fin n) : ℝ :=
  rr N y * (t k - y k * rr N y * ((∑ l, t l * (y l * rr N y)) / N))

/-- Differentiated through the reciprocal root, the mean and the square, it is the same. -/
theorem dnorm_eq {n : ℕ} {N : ℝ} (hN : 0 < N) (y t : Fin n → ℝ) (k : Fin n) :
    t k * rr N y + y k * ((∑ l, y l * t l) * (-(1 / 2) * (rr N y / ms N y)) / N)
      + ((∑ l, y l * t l) * (-(1 / 2) * (rr N y / ms N y)) / N) * y k = dnorm N y t k := by
  have h0 := ms_pos hN y
  have hr : rr N y * rr N y = 1 / ms N y := by
    unfold rr
    rw [← mul_inv, Real.mul_self_sqrt h0.le, one_div]
  have hs : (∑ l, t l * (y l * rr N y)) = (∑ l, y l * t l) * rr N y := by
    rw [Finset.sum_mul]; exact Finset.sum_congr rfl fun l _ => by ring
  unfold dnorm
  rw [hs, div_eq_mul_one_div (rr N y) (ms N y), ← hr]
  ring

/-! ### The same on coerced reals, for rows of 512 and of 1024 -/

theorem N512 : (0 : ℝ) < 512 := by norm_num

theorem N1024 : (0 : ℝ) < 1024 := by norm_num

theorem div_512 (a : ℝ) : Ideal.div (a : EReal) (Ideal.ofBits .f32 0x44000000#32) = ((a / 512 : ℝ) : EReal) := by
  rw [ofBits_512, div_real _ _ (by norm_num)]

theorem div_1024 (a : ℝ) : Ideal.div (a : EReal) (Ideal.ofBits .f32 0x44800000#32) = ((a / 1024 : ℝ) : EReal) := by
  rw [ofBits_1024, div_real _ _ (by norm_num)]

theorem ms_coe_512 {n : ℕ} (y : Fin n → ℝ) :
    Ideal.div (∑ k, (y k : EReal) * (y k : EReal)) (Ideal.ofBits .f32 0x44000000#32) + Ideal.ofBits .f32 0x358637BD#32
      = (ms 512 y : EReal) := by
  simp only [← EReal.coe_mul, coe_sum, div_512, ofBits_eps, ← EReal.coe_add]; rfl

theorem ms_coe_1024 {n : ℕ} (y : Fin n → ℝ) :
    Ideal.div (∑ k, (y k : EReal) * (y k : EReal)) (Ideal.ofBits .f32 0x44800000#32) + Ideal.ofBits .f32 0x358637BD#32
      = (ms 1024 y : EReal) := by
  simp only [← EReal.coe_mul, coe_sum, div_1024, ofBits_eps, ← EReal.coe_add]; rfl

theorem rsqrt_ms {n : ℕ} {N : ℝ} (hN : 0 < N) (y : Fin n → ℝ) : Ideal.rsqrt (ms N y : EReal) = (rr N y : EReal) :=
  rsqrt_real _ (ms_pos hN y)

theorem div_ms {n : ℕ} {N : ℝ} (hN : 0 < N) (a : ℝ) (y : Fin n → ℝ) : Ideal.div (a : EReal) (ms N y : EReal) = ((a / ms N y : ℝ) : EReal) :=
  div_real _ _ (ms_pos hN y).ne'

end Cert.Reals
-- ==== Proof.OutRef.lean ====
/- The gradient of the output mixing, element by element over the reals, and the reference read at an index. -/
module

public import proofs.«01_k».proof.Proof.Reals
public import proofs.«01_k».proof.Proof.Gen.ReferenceIdeal.Read

@[expose] public section

set_option maxRecDepth 16384

noncomputable section

namespace Cert.Out

open Idealize.ShloMosaic Idealize.ShloMosaic.TcCoe Idealize.SL.Sem
open Cert.ReferenceIdeal Cert.ReferenceIdeal.Gen Cert.ReferenceIdeal.Read Cert.Reals

/-! ### The values -/

section
variable (Z : S8192x3072.Idx → ℝ) (Y : S8192x512.Idx → ℝ) (CW : S3x512.Idx → ℝ) (GC GA : S1x512.Idx → ℝ)
  (W : S1024x1024.Idx → ℝ) (D : S8192x1024.Idx → ℝ)

/-- The convolution's input: the gated third of a row, zero before the first row; `k` rows back from `r`. -/
def back (k : ℕ) (r : Fin 8192) (c : Fin 512) : ℝ :=
  if h : k ≤ r.val then
    Z (ix2 ⟨r.val - k, by omega⟩ ⟨1024 + c.val, by omega⟩) * Z (ix2 ⟨r.val - k, by omega⟩ ⟨c.val, by omega⟩)
  else 0

/-- The causal convolution of width 3. -/
def conv (r : Fin 8192) (c : Fin 512) : ℝ :=
  CW (ix2 0 c) * back Z 2 r c + CW (ix2 1 c) * back Z 1 r c + CW (ix2 2 c) * back Z 0 r c

/-- The gate of the convolution branch. -/
def gate (r : Fin 8192) (c : Fin 512) : ℝ := Z (ix2 r ⟨512 + c.val, by omega⟩)

/-- The convolution branch before its norm. -/
def yconv (r : Fin 8192) (c : Fin 512) : ℝ := gate Z r c * conv Z CW r c

/-- The cotangent of the concatenated branches. -/
def dmix (r : Fin 8192) (k : Fin 1024) : ℝ := ∑ l, D (ix2 r l) * W (ix2 k l)

end

variable (Z : S8192x3072.Idx → ℝ) (Y : S8192x512.Idx → ℝ) (CW : S3x512.Idx → ℝ) (GC GA : S1x512.Idx → ℝ)
  (W : S1024x1024.Idx → ℝ) (D : S8192x1024.Idx → ℝ)

theorem back_of {k : ℕ} {r q : Fin 8192} (c : Fin 512) (hq : q.val + k = r.val) :
    back Z k r c = Z (ix2 q ⟨1024 + c.val, by omega⟩) * Z (ix2 q ⟨c.val, by omega⟩) := by
  have h : (⟨r.val - k, by omega⟩ : Fin 8192) = q := Fin.ext (by show r.val - k = q.val; omega)
  unfold back
  rw [dif_pos (by omega), h]

theorem back_none {k : ℕ} {r : Fin 8192} (c : Fin 512) (hr : r.val < k) : back Z k r c = 0 := by
  unfold back
  rw [dif_neg (by omega)]

theorem back_coe (k : ℕ) (r : Fin 8192) (c : Fin 512) (n : ℕ) (hn : n = r.val + 2 - k) (hk : k ≤ 2) (hb : ¬ n < 2 → n - 2 < 8192) :
    (if h : n < 2 then 0
      else (Z (ix2 ⟨n - 2, hb h⟩ ⟨1024 + c.val, by omega⟩) : EReal) * (Z (ix2 ⟨n - 2, hb h⟩ ⟨c.val, by omega⟩) : EReal))
      = (back Z k r c : EReal) := by
  subst hn
  by_cases h : k ≤ r.val
  · rw [dif_neg (by omega), back_of Z (q := ⟨r.val + 2 - k - 2, by omega⟩) c (by show r.val + 2 - k - 2 + k = r.val; omega),
      EReal.coe_mul]
  · rw [dif_pos (by omega), back_none Z c (by omega), EReal.coe_zero]

theorem conv_ref (r : Fin 8192) (c : Fin 512) :
    val_main_v22 (F := Ideal) (fun i => (Z i : EReal)) (fun i => (CW i : EReal)) (ix2 r c) = (conv Z CW r c : EReal) := by
  pointwise [val_main_v22, val_main_v17, val_main_v21, val_main_v12, val_main_v16, val_main_v11, val_main_v15, val_main_v20,
    val_main_v9, val_main_v13, val_main_v18, val_main_v10, val_main_v14, val_main_v19, val_main_v8, val_main_v7, val_main_v6,
    val_main_v0, val_main_v2, val_main_cst]
  rw [back_coe Z 2 r c r.val (by omega) (by omega) (by omega), back_coe Z 1 r c (1 + r.val) (by omega) (by omega) (by omega)]
  unfold conv
  rw [back_of Z (k := 0) (q := r) c rfl]
  simp only [EReal.coe_add, EReal.coe_mul]

theorem gate_ref (r : Fin 8192) (c : Fin 512) :
    val_main_v1 (F := Ideal) (fun i => (Z i : EReal)) (ix2 r c) = (gate Z r c : EReal) := by
  pointwise [val_main_v1]; rfl

theorem yconv_ref (r : Fin 8192) (c : Fin 512) :
    val_main_v23 (F := Ideal) (fun i => (Z i : EReal)) (fun i => (CW i : EReal)) (ix2 r c) = (yconv Z CW r c : EReal) := by
  pointwise [val_main_v23, conv_ref, gate_ref]
  rw [← EReal.coe_mul]; rfl

/-- The mean square of a row of the convolution branch. -/
theorem ms_conv_ref (r : Fin 8192) (u : Fin 1) :
    val_main_v30 (F := Ideal) (fun i => (Z i : EReal)) (fun i => (CW i : EReal)) (ix2 r u) = (ms 512 (yconv Z CW r) : EReal) := by
  pointwise [val_main_v30, val_main_v29, val_main_v28, val_main_v27, val_main_v26, val_main_v25, val_main_v24, val_main_cst_0,
    val_main_cst_1, val_main_cst_2, yconv_ref]
  exact ms_coe_512 (yconv Z CW r)

/-- The mean square of a row of the attention branch. -/
theorem ms_attn_ref (r : Fin 8192) (u : Fin 1) :
    val_main_v45 (F := Ideal) (fun i => (Y i : EReal)) (ix2 r u) = (ms 512 (fun k => Y (ix2 r k)) : EReal) := by
  pointwise [val_main_v45, val_main_v43, val_main_v44, val_main_v41, val_main_v42, val_main_v40, val_main_v39, val_main_cst_4,
    val_main_cst_5, val_main_cst_6]
  exact ms_coe_512 fun k => Y (ix2 r k)

theorem dmix_ref (r : Fin 8192) (k : Fin 1024) :
    val_main_v56 (F := Ideal) (fun i => (W i : EReal)) (fun i => (D i : EReal)) (ix2 r k) = (dmix W D r k : EReal) := by
  pointwise [val_main_v56]
  simp only [← EReal.coe_mul, coe_sum]; rfl

/-- The gradient of the attention branch. -/
theorem dya_ref (r : Fin 8192) (c : Fin 512) :
    val_main_v77 (F := Ideal) (fun i => (Y i : EReal)) (fun i => (GA i : EReal)) (fun i => (W i : EReal)) (fun i => (D i : EReal)) (ix2 r c)
      = (dnorm 512 (fun k => Y (ix2 r k)) (fun k => dmix W D r ⟨512 + k.val, by omega⟩ * GA (ix2 0 k)) c : EReal) := by
  pointwise [val_main_v77, val_main_v76, val_main_v75, val_main_v74, val_main_v73, val_main_v72, val_main_v71, val_main_v70, val_main_v69,
    val_main_v68, val_main_v67, val_main_v66, val_main_v65, val_main_v64, val_main_v63, val_main_v62, val_main_v58, val_main_v49, val_main_v48,
    val_main_v47, val_main_v46, val_main_cst_7, val_main_cst_9, val_main_cst_10, val_main_cst_11, dmix_ref, ms_attn_ref]
  simp only [rsqrt_ms N512, div_ms N512, ofBits_neg_half, ← EReal.coe_mul, coe_sum, div_512, ← EReal.coe_add, Fin.sum_univ_one]
  exact congrArg _ (dnorm_eq N512 (fun k => Y (ix2 r k)) (fun k => dmix W D r ⟨512 + k.val, by omega⟩ * GA (ix2 0 k)) c)

/-- The gradient of the convolution branch. -/
theorem dyc_ref (r : Fin 8192) (c : Fin 512) :
    val_main_v96 (F := Ideal) (fun i => (Z i : EReal)) (fun i => (CW i : EReal)) (fun i => (GC i : EReal)) (fun i => (W i : EReal)) (fun i => (D i : EReal)) (ix2 r c)
      = (dnorm 512 (yconv Z CW r) (fun k => dmix W D r ⟨k.val, by omega⟩ * GC (ix2 0 k)) c : EReal) := by
  pointwise [val_main_v96, val_main_v95, val_main_v94, val_main_v93, val_main_v92, val_main_v91, val_main_v90, val_main_v89, val_main_v88,
    val_main_v87, val_main_v86, val_main_v85, val_main_v84, val_main_v83, val_main_v82, val_main_v81, val_main_v57, val_main_v34, val_main_v33,
    val_main_v32, val_main_v31, val_main_cst_3, val_main_cst_13, val_main_cst_14, val_main_cst_15, dmix_ref, ms_conv_ref, yconv_ref]
  simp only [rsqrt_ms N512, div_ms N512, ofBits_neg_half, ← EReal.coe_mul, coe_sum, div_512, ← EReal.coe_add, Fin.sum_univ_one]
  exact congrArg _ (dnorm_eq N512 (yconv Z CW r) (fun k => dmix W D r ⟨k.val, by omega⟩ * GC (ix2 0 k)) c)

/-- The gradient of the attention branch's gain. -/
theorem dga_ref (c : Fin 512) :
    val_main_v61 (F := Ideal) (fun i => (Y i : EReal)) (fun i => (W i : EReal)) (fun i => (D i : EReal)) (ix2 0 c)
      = ((∑ r, Y (ix2 r c) * rr 512 (fun k => Y (ix2 r k)) * dmix W D r ⟨512 + c.val, by omega⟩ : ℝ) : EReal) := by
  pointwise [val_main_v61, val_main_v60, val_main_v59, val_main_v58, val_main_v51, val_main_v50, val_main_v46, val_main_cst_8, ms_attn_ref, dmix_ref]
  simp only [rsqrt_ms N512, ← EReal.coe_mul, coe_sum]

/-- The gradient of the convolution branch's gain. -/
theorem dgc_ref (c : Fin 512) :
    val_main_v80 (F := Ideal) (fun i => (Z i : EReal)) (fun i => (CW i : EReal)) (fun i => (W i : EReal)) (fun i => (D i : EReal)) (ix2 0 c)
      = ((∑ r, yconv Z CW r c * rr 512 (yconv Z CW r) * dmix W D r ⟨c.val, by omega⟩ : ℝ) : EReal) := by
  pointwise [val_main_v80, val_main_v79, val_main_v78, val_main_v57, val_main_v36, val_main_v35, val_main_v31, val_main_cst_12, ms_conv_ref, dmix_ref, yconv_ref]
  simp only [rsqrt_ms N512, ← EReal.coe_mul, coe_sum]

/-- The gradient of the gate. -/
theorem dgb_ref (r : Fin 8192) (c : Fin 512) :
    val_main_v99 (F := Ideal) (fun i => (Z i : EReal)) (fun i => (CW i : EReal)) (fun i => (GC i : EReal)) (fun i => (W i : EReal)) (fun i => (D i : EReal)) (ix2 r c)
      = ((dnorm 512 (yconv Z CW r) (fun k => dmix W D r ⟨k.val, by omega⟩ * GC (ix2 0 k)) c * conv Z CW r c : ℝ) : EReal) := by
  pointwise [val_main_v99, val_main_v98, dyc_ref, conv_ref]
  rw [← EReal.coe_mul]

/-- The gradient of the convolution's result. -/
theorem dcv_ref (r : Fin 8192) (c : Fin 512) :
    val_main_v97 (F := Ideal) (fun i => (Z i : EReal)) (fun i => (CW i : EReal)) (fun i => (GC i : EReal)) (fun i => (W i : EReal)) (fun i => (D i : EReal)) (ix2 r c)
      = ((gate Z r c * dnorm 512 (yconv Z CW r) (fun k => dmix W D r ⟨k.val, by omega⟩ * GC (ix2 0 k)) c : ℝ) : EReal) := by
  pointwise [val_main_v97, dyc_ref, gate_ref]
  rw [← EReal.coe_mul]

end Cert.Out
-- ==== Proof.OutKer.lean ====
/- The payloads of the output mixing's backward kernel, read at an index over the reals. -/
module

public import proofs.«01_k».proof.Proof.OutRef
public import proofs.«01_k».proof.Proof.Gen.KernelIdeal.Skeleton
public import Idealize.ShloMosaic.Lib.Pipeline.ValueKit

@[expose] public section

set_option maxRecDepth 16384

noncomputable section

namespace Cert.Out

open Idealize.ShloMosaic Idealize.ShloMosaic.TcCoe Idealize.SL.Sem
open Cert.KernelIdeal Cert.KernelIdeal.Gen Cert.Reals

/-! ### Word conditions as conditions on indices -/

theorem sel_ge2 (a : Fin 512) (x y : EReal) :
    Scalar.select (IntOp.cmpi .sge (BitVec.ofNat 32 a.val) 2#32) x y = if 2 ≤ a.val then x else y := by
  have h := (by decide +kernel : ∀ a : Fin 512, IntOp.cmpi .sge (BitVec.ofNat 32 a.val) 2#32 = if 2 ≤ a.val then 1#1 else 0#1) a
  rw [h]; split <;> rfl

theorem sel_ge1 (a : Fin 512) (x y : EReal) :
    Scalar.select (IntOp.cmpi .sge (BitVec.ofNat 32 a.val) 1#32) x y = if 1 ≤ a.val then x else y := by
  have h := (by decide +kernel : ∀ a : Fin 512, IntOp.cmpi .sge (BitVec.ofNat 32 a.val) 1#32 = if 1 ≤ a.val then 1#1 else 0#1) a
  rw [h]; split <;> rfl

theorem sel_eq1 (a : Fin 512) (x y : EReal) :
    Scalar.select (IntOp.cmpi .eq (BitVec.ofNat 32 a.val) 1#32) x y = if a.val = 1 then x else y := by
  have h := (by decide +kernel : ∀ a : Fin 512, IntOp.cmpi .eq (BitVec.ofNat 32 a.val) 1#32 = if a.val = 1 then 1#1 else 0#1) a
  rw [h]; split <;> rfl

theorem sel_first (t : Fin 16) (x y : EReal) :
    Scalar.select (Scalar.cmpi .eq (BitVec.ofNat 32 t.val) 0#32) x y = if t.val = 0 then x else y := by
  have h := (by decide +kernel : ∀ t : Fin 16, Scalar.cmpi .eq (BitVec.ofNat 32 t.val) 0#32 = if t.val = 0 then 1#1 else 0#1) t
  rw [h]; split <;> rfl

/-! ### A tile of 512 rows -/

/-- Row `a` of tile `t`. -/
def row (t : Fin 16) (a : Fin 512) : Fin 8192 := ⟨512 * t.val + a.val, by omega⟩

section
variable {Z : Cert.ReferenceIdeal.S8192x3072.Idx → ℝ} {Y : S8192x512.Idx → ℝ} {CW : S3x512.Idx → ℝ} {GC GA : S1x512.Idx → ℝ}
  {W : S1024x1024.Idx → ℝ} {D : S8192x1024.Idx → ℝ} {t : Fin 16} {i : grid0.Coords}
  {d : FVec Ideal S512x1024 .bf16} {z : FVec Ideal S512x1536 .bf16} {h : FVec Ideal S8x1536 .bf16} {w : FVec Ideal S8x512 .f32}
  {y : FVec Ideal S512x512 .f32} {gc ga : FVec Ideal S1x512 .f32} {wo : FVec Ideal S1024x1024 .bf16}

/-- The convolution of a tile, its first two rows from the tile before. -/
theorem conv_ker (hi : (i 0).val = t.val)
    (hz : ∀ (a : Fin 512) (k : Fin 1536), z (ix2 a k) = (Z (ix2 (row t a) ⟨k.val, by omega⟩) : EReal))
    (hh : 0 < t.val → ∀ (s : Fin 8) (k : Fin 1536), h (ix2 s k) = (Z (ix2 ⟨512 * t.val - 8 + s.val, by omega⟩ ⟨k.val, by omega⟩) : EReal))
    (hw : ∀ (s : Fin 3) (c : Fin 512), w (ix2 ⟨s.val, by omega⟩ c) = (CW (ix2 s c) : EReal)) (a c : Fin 512) :
    k0_pay15 (F := Ideal) (k0_pay6 w) (k0_pay8 z) (k0_pay9 i h) (k0_pay10 i z h) k0_pay11 (k0_pay12 z) k0_pay13 (k0_pay14 i h) (ix2 a c)
      = (conv Z CW (row t a) c : EReal) := by
  have w0 : w (ix2 0 c) = (CW (ix2 0 c) : EReal) := hw 0 c
  have w1 : w (ix2 1 c) = (CW (ix2 1 c) : EReal) := hw 1 c
  have w2 : w (ix2 2 c) = (CW (ix2 2 c) : EReal) := hw 2 c
  pointwise [k0_pay15, k0_pay6, k0_pay8, k0_pay9, k0_pay10, k0_pay11, k0_pay12, k0_pay13, k0_pay14, k0_pay5, hi, sel_ge2, sel_ge1,
    sel_eq1, sel_first, hz, w0, w1, w2]
  unfold conv
  have e0 : back Z 0 (row t a) c = _ := back_of Z (q := row t a) c rfl
  rw [e0]
  by_cases h2 : 2 ≤ a.val
  · rw [if_pos h2, if_pos (by omega : 1 ≤ a.val),
      back_of Z (k := 2) (q := row t ⟨(a.val + 512 - 2) % 512, by omega⟩) c (by show 512 * t.val + (a.val + 512 - 2) % 512 + 2 = 512 * t.val + a.val; omega),
      back_of Z (k := 1) (q := row t ⟨(a.val + 512 - 1) % 512, by omega⟩) c (by show 512 * t.val + (a.val + 512 - 1) % 512 + 1 = 512 * t.val + a.val; omega)]
    simp only [EReal.coe_add, EReal.coe_mul]
  · rw [if_neg h2]
    by_cases ht : t.val = 0
    · simp only [if_pos ht]
      rw [back_none Z (k := 2) c (by show 512 * t.val + a.val < 2; omega)]
      by_cases h1 : 1 ≤ a.val
      · rw [if_pos h1, if_pos (by omega : a.val = 1),
          back_of Z (k := 1) (q := row t ⟨(a.val + 512 - 1) % 512, by omega⟩) c (by show 512 * t.val + (a.val + 512 - 1) % 512 + 1 = 512 * t.val + a.val; omega)]
        simp only [EReal.coe_add, EReal.coe_mul, EReal.coe_zero]
      · rw [if_neg h1, if_neg (by omega : ¬ a.val = 1), back_none Z (k := 1) c (by show 512 * t.val + a.val < 1; omega)]
        simp only [EReal.coe_add, EReal.coe_mul, EReal.coe_zero]
    · simp only [if_neg ht, hh (by omega)]
      by_cases h1 : 1 ≤ a.val
      · rw [if_pos h1, if_pos (by omega : a.val = 1),
          back_of Z (k := 2) (q := ⟨512 * t.val - 8 + 7, by omega⟩) c (by show 512 * t.val - 8 + 7 + 2 = 512 * t.val + a.val; omega),
          back_of Z (k := 1) (q := row t ⟨(a.val + 512 - 1) % 512, by omega⟩) c (by show 512 * t.val + (a.val + 512 - 1) % 512 + 1 = 512 * t.val + a.val; omega)]
        simp only [EReal.coe_add, EReal.coe_mul]; rfl
      · rw [if_neg h1, if_neg (by omega : ¬ a.val = 1),
          back_of Z (k := 2) (q := ⟨512 * t.val - 8 + 6, by omega⟩) c (by show 512 * t.val - 8 + 6 + 2 = 512 * t.val + a.val; omega),
          back_of Z (k := 1) (q := ⟨512 * t.val - 8 + 7, by omega⟩) c (by show 512 * t.val - 8 + 7 + 1 = 512 * t.val + a.val; omega)]
        simp only [EReal.coe_add, EReal.coe_mul]; rfl

end

/-! ### From the convolution on -/

section
variable {cv gb dm : Fin 512 → Fin 512 → ℝ}
  {v15 : FVec Ideal S8x512 .f32} {v17 v19 : FVec Ideal S512x512 .f32} {v24 : FVec Ideal S8x512 .f32} {v32 : FVec Ideal S512x512 .f32}
  {v34 : IVec S512x512 1} {v35 : FVec Ideal S512x512 .f32} {v37 : IVec S512x512 1} {v38 : FVec Ideal S1x512 .f32}
  {v7 : FVec Ideal S512x1024 .f32} {gc : FVec Ideal S1x512 .f32} {G : S1x512.Idx → ℝ}

theorem branch_ker (h15 : ∀ a c, k0_pay15 (F := Ideal) v15 v19 v24 v32 v34 v35 v37 v38 (ix2 a c) = (cv a c : EReal))
    (h17 : ∀ a c, v17 (ix2 a c) = (gb a c : EReal)) (a c : Fin 512) :
    k0_pay16 (F := Ideal) v15 v17 v19 v24 v32 v34 v35 v37 v38 (ix2 a c) = ((gb a c * cv a c : ℝ) : EReal) := by
  pointwise [k0_pay16, h15, h17]
  rw [← EReal.coe_mul]

theorem rms_ker (h15 : ∀ a c, k0_pay15 (F := Ideal) v15 v19 v24 v32 v34 v35 v37 v38 (ix2 a c) = (cv a c : EReal))
    (h17 : ∀ a c, v17 (ix2 a c) = (gb a c : EReal)) (a : Fin 512) (u : Fin 1) :
    k0_pay17 (F := Ideal) v15 v17 v19 v24 v32 v34 v35 v37 v38 (ix2 a u) = (rr 512 (fun k => gb a k * cv a k) : EReal) := by
  pointwise [k0_pay17, branch_ker h15 h17]
  rw [ms_coe_512 fun k => gb a k * cv a k, rsqrt_ms N512]

theorem scaled_ker (h15 : ∀ a c, k0_pay15 (F := Ideal) v15 v19 v24 v32 v34 v35 v37 v38 (ix2 a c) = (cv a c : EReal))
    (h17 : ∀ a c, v17 (ix2 a c) = (gb a c : EReal)) (a c : Fin 512) :
    k0_pay18 (F := Ideal) v15 v17 v19 v24 v32 v34 v35 v37 v38 (ix2 a c)
      = ((gb a c * cv a c * rr 512 (fun k => gb a k * cv a k) : ℝ) : EReal) := by
  pointwise [k0_pay18, branch_ker h15 h17, rms_ker h15 h17]
  rw [← EReal.coe_mul]

/-- One tile's part of the gradient of the convolution branch's gain. -/
theorem dgc_ker (h15 : ∀ a c, k0_pay15 (F := Ideal) v15 v19 v24 v32 v34 v35 v37 v38 (ix2 a c) = (cv a c : EReal))
    (h17 : ∀ a c, v17 (ix2 a c) = (gb a c : EReal)) {DM : Fin 512 → Fin 1024 → ℝ} (h7 : ∀ a k, v7 (ix2 a k) = (DM a k : EReal))
    (acc : FVec Ideal S1x512 .f32) (j : Fin 1) (c : Fin 512) :
    k0_pay20 (F := Ideal) v7 v15 v17 v19 v24 v32 v34 v35 v37 v38 acc (ix2 j c)
      = acc (ix2 j c) + ((∑ a : Fin 512, gb a c * cv a c * rr 512 (fun k => gb a k * cv a k) * DM a ⟨c.val, by omega⟩ : ℝ) : EReal) := by
  obtain rfl : j = 0 := Subsingleton.elim _ _
  pointwise [k0_pay20, k0_pay19, h7, scaled_ker h15 h17]
  simp only [← EReal.coe_mul, coe_sum]
  congr 2
  exact Finset.sum_congr rfl fun a _ => mul_comm _ _

theorem dyc_ker (h15 : ∀ a c, k0_pay15 (F := Ideal) v15 v19 v24 v32 v34 v35 v37 v38 (ix2 a c) = (cv a c : EReal))
    (h17 : ∀ a c, v17 (ix2 a c) = (gb a c : EReal)) {DM : Fin 512 → Fin 1024 → ℝ} (h7 : ∀ a k, v7 (ix2 a k) = (DM a k : EReal))
    (hg : ∀ c, gc (ix2 0 c) = (G (ix2 0 c) : EReal)) (a c : Fin 512) :
    k0_pay23 (F := Ideal) (k0_pay17 v15 v17 v19 v24 v32 v34 v35 v37 v38) (k0_pay21 v7 gc) (k0_pay22 v7 v15 v17 v19 v24 v32 v34 v35 v37 v38 gc) (ix2 a c)
      = (dnorm 512 (fun k => gb a k * cv a k) (fun k => DM a ⟨k.val, by omega⟩ * G (ix2 0 k)) c : EReal) := by
  pointwise [k0_pay23, k0_pay21, k0_pay22, k0_pay19, h7, scaled_ker h15 h17, rms_ker h15 h17, hg]
  simp only [← EReal.coe_mul, coe_sum, div_512, ← EReal.coe_sub]
  rfl

theorem dgb_ker (h15 : ∀ a c, k0_pay15 (F := Ideal) v15 v19 v24 v32 v34 v35 v37 v38 (ix2 a c) = (cv a c : EReal))
    (h17 : ∀ a c, v17 (ix2 a c) = (gb a c : EReal)) {DM : Fin 512 → Fin 1024 → ℝ} (h7 : ∀ a k, v7 (ix2 a k) = (DM a k : EReal))
    (hg : ∀ c, gc (ix2 0 c) = (G (ix2 0 c) : EReal)) (a c : Fin 512) :
    k0_pay24 (F := Ideal) (k0_pay15 (F := Ideal) v15 v19 v24 v32 v34 v35 v37 v38) (k0_pay17 v15 v17 v19 v24 v32 v34 v35 v37 v38) (k0_pay21 v7 gc) (k0_pay22 v7 v15 v17 v19 v24 v32 v34 v35 v37 v38 gc) (ix2 a c)
      = ((dnorm 512 (fun k => gb a k * cv a k) (fun k => DM a ⟨k.val, by omega⟩ * G (ix2 0 k)) c * cv a c : ℝ) : EReal) := by
  pointwise [k0_pay24, dyc_ker h15 h17 h7 hg, h15]
  rw [← EReal.coe_mul]

theorem dcv_ker (h15 : ∀ a c, k0_pay15 (F := Ideal) v15 v19 v24 v32 v34 v35 v37 v38 (ix2 a c) = (cv a c : EReal))
    (h17 : ∀ a c, v17 (ix2 a c) = (gb a c : EReal)) {DM : Fin 512 → Fin 1024 → ℝ} (h7 : ∀ a k, v7 (ix2 a k) = (DM a k : EReal))
    (hg : ∀ c, gc (ix2 0 c) = (G (ix2 0 c) : EReal)) (a c : Fin 512) :
    k0_pay25 (F := Ideal) v17 (k0_pay17 v15 v17 v19 v24 v32 v34 v35 v37 v38) (k0_pay21 v7 gc) (k0_pay22 v7 v15 v17 v19 v24 v32 v34 v35 v37 v38 gc) (ix2 a c)
      = ((gb a c * dnorm 512 (fun k => gb a k * cv a k) (fun k => DM a ⟨k.val, by omega⟩ * G (ix2 0 k)) c : ℝ) : EReal) := by
  pointwise [k0_pay25, dyc_ker h15 h17 h7 hg, h17]
  rw [← EReal.coe_mul, mul_comm]

/-! ### The attention branch -/

theorem rms_attn_ker {y : FVec Ideal S512x512 .f32} {Y : Fin 512 → Fin 512 → ℝ} (hy : ∀ a c, y (ix2 a c) = (Y a c : EReal)) (a : Fin 512) (u : Fin 1) :
    k0_pay26 (F := Ideal) y (ix2 a u) = (rr 512 (Y a) : EReal) := by
  pointwise [k0_pay26, hy]
  rw [ms_coe_512 (Y a), rsqrt_ms N512]

/-- One tile's part of the gradient of the attention branch's gain. -/
theorem dga_ker {y : FVec Ideal S512x512 .f32} {Y : Fin 512 → Fin 512 → ℝ} (hy : ∀ a c, y (ix2 a c) = (Y a c : EReal))
    {DM : Fin 512 → Fin 1024 → ℝ} (h7 : ∀ a k, v7 (ix2 a k) = (DM a k : EReal)) (acc : FVec Ideal S1x512 .f32) (j : Fin 1) (c : Fin 512) :
    k0_pay29 (F := Ideal) v7 y acc (ix2 j c)
      = acc (ix2 j c) + ((∑ a : Fin 512, Y a c * rr 512 (Y a) * DM a ⟨512 + c.val, by omega⟩ : ℝ) : EReal) := by
  obtain rfl : j = 0 := Subsingleton.elim _ _
  pointwise [k0_pay29, k0_pay28, k0_pay27, h7, hy, rms_attn_ker hy]
  simp only [← EReal.coe_mul, coe_sum]
  congr 2
  exact Finset.sum_congr rfl fun a _ => mul_comm _ _

theorem dya_ker {y : FVec Ideal S512x512 .f32} {Y : Fin 512 → Fin 512 → ℝ} (hy : ∀ a c, y (ix2 a c) = (Y a c : EReal))
    {DM : Fin 512 → Fin 1024 → ℝ} (h7 : ∀ a k, v7 (ix2 a k) = (DM a k : EReal)) (hg : ∀ c, gc (ix2 0 c) = (G (ix2 0 c) : EReal)) (a c : Fin 512) :
    k0_pay1 (F := Ideal) (k0_pay30 v7 y gc) (k0_pay31 y) (ix2 a c)
      = (dnorm 512 (Y a) (fun k => DM a ⟨512 + k.val, by omega⟩ * G (ix2 0 k)) c : EReal) := by
  pointwise [k0_pay1, k0_pay30, k0_pay31, k0_pay28, k0_pay27, h7, hy, rms_attn_ker hy, hg]
  simp only [← EReal.coe_mul, coe_sum, div_512, ← EReal.coe_sub]
  rfl

end

theorem dmix_ker {W : S1024x1024.Idx → ℝ} {D : S8192x1024.Idx → ℝ} {t : Fin 16} {d : FVec Ideal S512x1024 .bf16} {wo : FVec Ideal S1024x1024 .bf16}
    (hd : ∀ (a : Fin 512) (k : Fin 1024), d (ix2 a k) = (D (ix2 (row t a) k) : EReal)) (hwo : ∀ j k : Fin 1024, wo (ix2 j k) = (W (ix2 j k) : EReal))
    (a : Fin 512) (k : Fin 1024) : k0_pay4 (F := Ideal) d wo (ix2 a k) = (dmix W D (row t a) k : EReal) := by
  pointwise [k0_pay4, hd, hwo]
  simp only [← EReal.coe_mul, coe_sum]; rfl

theorem gate_ker {Z : Cert.ReferenceIdeal.S8192x3072.Idx → ℝ} {t : Fin 16} {z : FVec Ideal S512x1536 .bf16}
    (hz : ∀ (a : Fin 512) (k : Fin 1536), z (ix2 a k) = (Z (ix2 (row t a) ⟨k.val, by omega⟩) : EReal)) (a c : Fin 512) :
    k0_pay7 (F := Ideal) z (ix2 a c) = (gate Z (row t a) c : EReal) := by
  pointwise [k0_pay7, k0_pay5, hz]; rfl

end Cert.Out
-- ==== Proof.OutVal.lean ====
/- The backward kernel of the output mixing: what its result arrays hold after the run. -/
module

public import proofs.«01_k».proof.Proof.OutKer
public import proofs.«01_k».proof.Proof.Gen.KernelIdeal.Value

@[expose] public section

set_option maxRecDepth 16384

noncomputable section

namespace Cert.Out

open Idealize.ShloMosaic Idealize.ShloMosaic.TcCoe Idealize.SL.Sem
open Idealize.ShloMosaic.Pipeline (Dat)
open Cert.KernelIdeal Cert.KernelIdeal.Gen Cert.Reals

variable (m : (ℓ : Loc nD τ sig) → Buf (Elt Ideal) ℓ) (c : Dev nD)

/-- The block indices at every grid point. -/
theorem idx : ∀ t : Fin cfg0.N, win0_0.index t = ![t.val, 0] ∧ win0_1.index t = ![t.val, 0] ∧ win0_2.index t = ![64 * t.val - 1, 0]
    ∧ win0_3.index t = ![t.val, 0] ∧ win0_4.index t = ![0, 0] ∧ win0_5.index t = ![0, 0] ∧ win0_6.index t = ![0, 0] ∧ win0_7.index t = ![0, 0]
    ∧ win0_8.index t = ![t.val, 0] ∧ win0_9.index t = ![t.val, 0] ∧ win0_10.index t = ![t.val, 0] ∧ win0_11.index t = ![0, 0] ∧ win0_12.index t = ![0, 0]
    ∧ (grid0.coords t 0).val = t.val ∧ t.val < 16 :=
  (by decide +kernel : ∀ t : Fin grid0.N, _)

/-- The grid point as a tile. -/
def tile (t : Fin cfg0.N) : Fin 16 := ⟨t.val, (idx t).2.2.2.2.2.2.2.2.2.2.2.2.2.2⟩

theorem row_tile (t : Fin cfg0.N) (a : Fin 512) : (row (tile t) a).val = 512 * t.val + a.val := rfl

theorem tile_val (t : Fin cfg0.N) : (tile t).val = t.val := rfl

/-! ### The input blocks -/

theorem blk_dx (t : Fin cfg0.N) (a : Fin 512) (k : Fin 1024) :
    (iblk m c 0 t : FVec Ideal S512x1024 .bf16) (ix2 a k) = (m ((c : Thread nD τ).loc main_arg6) : FVec Ideal S8192x1024 .f32) (ix2 (row (tile t) a) k) := by
  blk_point [iblk, V, idx t, row_tile, tile_val]

theorem blk_z (t : Fin cfg0.N) (a : Fin 512) (k : Fin 1536) :
    (iblk m c 1 t : FVec Ideal S512x1536 .bf16) (ix2 a k)
      = (m ((c : Thread nD τ).loc main_arg0) : FVec Ideal S8192x3072 .f32) (ix2 (row (tile t) a) ⟨k.val, by omega⟩) := by
  blk_point [iblk, V, idx t, row_tile, tile_val]

theorem blk_halo (t : Fin cfg0.N) (h : 0 < (tile t).val) (s : Fin 8) (k : Fin 1536) :
    (iblk m c 2 t : FVec Ideal S8x1536 .bf16) (ix2 s k)
      = (m ((c : Thread nD τ).loc main_arg0) : FVec Ideal S8192x3072 .f32) (ix2 ⟨512 * (tile t).val - 8 + s.val, by omega⟩ ⟨k.val, by omega⟩) := by
  have h' : 0 < t.val := h
  blk_point [iblk, V, idx t, row_tile, tile_val]

theorem blk_y (t : Fin cfg0.N) (a k : Fin 512) :
    (iblk m c 3 t : FVec Ideal S512x512 .f32) (ix2 a k) = (m ((c : Thread nD τ).loc main_arg1) : FVec Ideal S8192x512 .f32) (ix2 (row (tile t) a) k) := by
  blk_point [iblk, V, idx t, row_tile, tile_val]

theorem blk_cw (t : Fin cfg0.N) (s : Fin 3) (k : Fin 512) :
    (iblk m c 4 t : FVec Ideal S8x512 .f32) (ix2 ⟨s.val, by omega⟩ k) = (m ((c : Thread nD τ).loc main_arg2) : FVec Ideal S3x512 .f32) (ix2 s k) := by
  blk_simp [iblk, V, idx t]
  entry_read
  pointwise []
  refine (dif_pos (by blk_simp [idx t]; simpa using s.isLt)).trans ?_
  blk_ext [idx t]

theorem blk_gc (t : Fin cfg0.N) (k : Fin 512) :
    (iblk m c 5 t : FVec Ideal S1x512 .f32) (ix2 0 k) = (m ((c : Thread nD τ).loc main_arg3) : FVec Ideal S1x512 .f32) (ix2 0 k) := by
  blk_point [iblk, V, idx t, row_tile, tile_val]

theorem blk_ga (t : Fin cfg0.N) (k : Fin 512) :
    (iblk m c 6 t : FVec Ideal S1x512 .f32) (ix2 0 k) = (m ((c : Thread nD τ).loc main_arg4) : FVec Ideal S1x512 .f32) (ix2 0 k) := by
  blk_point [iblk, V, idx t, row_tile, tile_val]

theorem blk_wo (t : Fin cfg0.N) (j k : Fin 1024) :
    (iblk m c 7 t : FVec Ideal S1024x1024 .bf16) (ix2 j k) = (m ((c : Thread nD τ).loc main_arg5) : FVec Ideal S1024x1024 .f32) (ix2 j k) := by
  blk_point [iblk, V, idx t, row_tile, tile_val]

/-! ### The result arrays -/

section
variable {Z : Cert.ReferenceIdeal.S8192x3072.Idx → ℝ} {Y : S8192x512.Idx → ℝ} {CW : S3x512.Idx → ℝ} {GC GA : S1x512.Idx → ℝ}
  {W : S1024x1024.Idx → ℝ} {D : S8192x1024.Idx → ℝ}

theorem hconv (hZ : m ((c : Thread nD τ).loc main_arg0) = fun i => (Z i : EReal)) (hCW : m ((c : Thread nD τ).loc main_arg2) = fun i => (CW i : EReal))
    (t : Fin cfg0.N) (a k : Fin 512) :
    k0_pay15 (F := Ideal) (k0_pay6 (iblk m c 4 t)) (k0_pay8 (iblk m c 1 t)) (k0_pay9 (grid0.coords t) (iblk m c 2 t))
      (k0_pay10 (grid0.coords t) (iblk m c 1 t) (iblk m c 2 t)) k0_pay11 (k0_pay12 (iblk m c 1 t)) k0_pay13
      (k0_pay14 (grid0.coords t) (iblk m c 2 t)) (ix2 a k) = (conv Z CW (row (tile t) a) k : EReal) :=
  conv_ker (t := tile t) (idx t).2.2.2.2.2.2.2.2.2.2.2.2.2.1
    (fun a k => (blk_z m c t a k).trans (congrFun hZ _)) (fun h s k => (blk_halo m c t h s k).trans (congrFun hZ _))
    (fun s k => (blk_cw m c t s k).trans (congrFun hCW _)) a k

theorem hgate (hZ : m ((c : Thread nD τ).loc main_arg0) = fun i => (Z i : EReal)) (t : Fin cfg0.N) (a k : Fin 512) :
    k0_pay7 (F := Ideal) (iblk m c 1 t) (ix2 a k) = (gate Z (row (tile t) a) k : EReal) :=
  gate_ker (fun a k => (blk_z m c t a k).trans (congrFun hZ _)) a k

theorem hdmix (hW : m ((c : Thread nD τ).loc main_arg5) = fun i => (W i : EReal)) (hD : m ((c : Thread nD τ).loc main_arg6) = fun i => (D i : EReal))
    (t : Fin cfg0.N) (a : Fin 512) (k : Fin 1024) :
    k0_pay4 (F := Ideal) (iblk m c 0 t) (iblk m c 7 t) (ix2 a k) = (dmix W D (row (tile t) a) k : EReal) :=
  dmix_ker (fun a k => (blk_dx m c t a k).trans (congrFun hD _)) (fun j k => (blk_wo m c t j k).trans (congrFun hW _)) a k

/-- The gradient of the attention branch. -/
theorem final_dya (hY : m ((c : Thread nD τ).loc main_arg1) = fun i => (Y i : EReal)) (hGA : m ((c : Thread nD τ).loc main_arg4) = fun i => (GA i : EReal))
    (hW : m ((c : Thread nD τ).loc main_arg5) = fun i => (W i : EReal)) (hD : m ((c : Thread nD τ).loc main_arg6) = fun i => (D i : EReal)) :
    (dats m 0 c).arrAt 8 cfg0.N = Cert.ReferenceIdeal.Read.val_main_v77 (F := Ideal) (fun i => (Y i : EReal)) (fun i => (GA i : EReal)) (fun i => (W i : EReal)) (fun i => (D i : EReal)) := by
  refine (dats m 0 c).arrAt_eq_of_covers 8 _ (by decide +kernel) fun t _ y => ?_
  blk_simp
  rw [after0_8]
  idx_vars y
  refine Eq.trans ?_ ((dya_ref Y GA W D (row (tile t) y0) y1).symm.trans (congrArg _ ?_))
  · have h := dya_ker (gc := iblk m c 6 t) (G := GA) (fun a k => (blk_y m c t a k).trans (congrFun hY _)) (hdmix m c hW hD t)
      (fun k => (blk_ga m c t k).trans (congrFun hGA _)) y0 y1
    by_cases h0 : t.val % 16 = 0
    · rw [outsAt0_A m c t h0]; frame_out; exact h
    · rw [outsAt0_B m c t h0]; frame_out; exact h
  · blk_ext [idx t, row_tile]

/-- The convolution branch's arithmetic at a grid point: the gradient of its norm. -/
theorem final_dgb (hZ : m ((c : Thread nD τ).loc main_arg0) = fun i => (Z i : EReal)) (hCW : m ((c : Thread nD τ).loc main_arg2) = fun i => (CW i : EReal))
    (hGC : m ((c : Thread nD τ).loc main_arg3) = fun i => (GC i : EReal))
    (hW : m ((c : Thread nD τ).loc main_arg5) = fun i => (W i : EReal)) (hD : m ((c : Thread nD τ).loc main_arg6) = fun i => (D i : EReal)) :
    (dats m 0 c).arrAt 9 cfg0.N = Cert.ReferenceIdeal.Read.val_main_v99 (F := Ideal) (fun i => (Z i : EReal)) (fun i => (CW i : EReal))
      (fun i => (GC i : EReal)) (fun i => (W i : EReal)) (fun i => (D i : EReal)) := by
  refine (dats m 0 c).arrAt_eq_of_covers 9 _ (by decide +kernel) fun t _ y => ?_
  blk_simp
  rw [after0_9]
  idx_vars y
  refine Eq.trans ?_ ((dgb_ref Z CW GC W D (row (tile t) y0) y1).symm.trans (congrArg _ ?_))
  · have h := dgb_ker (gc := iblk m c 5 t) (G := GC) (hconv m c hZ hCW t) (hgate m c hZ t) (hdmix m c hW hD t)
      (fun k => (blk_gc m c t k).trans (congrFun hGC _)) y0 y1
    by_cases h0 : t.val % 16 = 0
    · rw [outsAt0_A m c t h0]; frame_out; exact h
    · rw [outsAt0_B m c t h0]; frame_out; exact h
  · blk_ext [idx t, row_tile]

/-- The gradient of the convolution's result. -/
theorem final_dcv (hZ : m ((c : Thread nD τ).loc main_arg0) = fun i => (Z i : EReal)) (hCW : m ((c : Thread nD τ).loc main_arg2) = fun i => (CW i : EReal))
    (hGC : m ((c : Thread nD τ).loc main_arg3) = fun i => (GC i : EReal))
    (hW : m ((c : Thread nD τ).loc main_arg5) = fun i => (W i : EReal)) (hD : m ((c : Thread nD τ).loc main_arg6) = fun i => (D i : EReal)) :
    (dats m 0 c).arrAt 10 cfg0.N = Cert.ReferenceIdeal.Read.val_main_v97 (F := Ideal) (fun i => (Z i : EReal)) (fun i => (CW i : EReal))
      (fun i => (GC i : EReal)) (fun i => (W i : EReal)) (fun i => (D i : EReal)) := by
  refine (dats m 0 c).arrAt_eq_of_covers 10 _ (by decide +kernel) fun t _ y => ?_
  blk_simp
  rw [after0_10]
  idx_vars y
  refine Eq.trans ?_ ((dcv_ref Z CW GC W D (row (tile t) y0) y1).symm.trans (congrArg _ ?_))
  · have h := dcv_ker (gc := iblk m c 5 t) (G := GC) (hconv m c hZ hCW t) (hgate m c hZ t) (hdmix m c hW hD t)
      (fun k => (blk_gc m c t k).trans (congrFun hGC _)) y0 y1
    by_cases h0 : t.val % 16 = 0
    · rw [outsAt0_A m c t h0]; frame_out; exact h
    · rw [outsAt0_B m c t h0]; frame_out; exact h
  · blk_ext [idx t, row_tile]

/-- A sum over the tiles' rows is a sum over all rows. -/
theorem sum_rows (f : Fin 8192 → ℝ) : (∑ t : Fin cfg0.N, ((∑ a : Fin 512, f (row (tile t) a) : ℝ) : EReal)) = ((∑ r, f r : ℝ) : EReal) := by
  rw [coe_sum]
  refine congrArg _ (Fin.sum_mul_add_congr (fun t a hl => congrArg f (Fin.ext ?_)) (by rw [show cfg0.N = 16 from N_0]))
  rw [row_tile, mul_comm]

/-- The gradient of the convolution branch's gain. -/
theorem final_dgc (hZ : m ((c : Thread nD τ).loc main_arg0) = fun i => (Z i : EReal)) (hCW : m ((c : Thread nD τ).loc main_arg2) = fun i => (CW i : EReal))
    (hW : m ((c : Thread nD τ).loc main_arg5) = fun i => (W i : EReal)) (hD : m ((c : Thread nD τ).loc main_arg6) = fun i => (D i : EReal)) :
    (dats m 0 c).arrAt 11 cfg0.N = Cert.ReferenceIdeal.Read.val_main_v80 (F := Ideal) (fun i => (Z i : EReal)) (fun i => (CW i : EReal))
      (fun i => (W i : EReal)) (fun i => (D i : EReal)) := by
  have step := fun t acc j k => dgc_ker (hconv m c hZ hCW t) (hgate m c hZ t) (hdmix m c hW hD t) acc j k
  refine (dats m 0 c).arrAt_eq_of_after_last 11 t0_15 (by decide +kernel) _ fun j => ?_
  blk_simp
  rw [after0_11, Pipeline.eq_sum_fin_of_reset_step_apply_last (fun n h => (outsAt0 m c n h).2.2.2.1) 16 (fun _ => (0 : EReal))
    (fun t j => ((∑ a : Fin 512, yconv Z CW (row (tile t) a) (j 1) * rr 512 (yconv Z CW (row (tile t) a)) * dmix W D (row (tile t) a) ⟨(j 1).val, by have h : (j 1).val < 512 := (j 1).isLt; omega⟩ : ℝ) : EReal))
    (fun t h j => by
      rw [outsAt0_A m c t h]; frame_out; idx_vars j
      refine (step t _ j0 j1).trans (congrArg₂ (· + ·) ?_ rfl)
      pointwise [k0_pay2])
    (fun t h j => by
      rw [outsAt0_B m c t h]; frame_out; idx_vars j
      exact step t _ j0 j1) (le_of_eq N_0) t0_15 rfl j, zero_add]
  idx_vars j
  obtain rfl : j0 = 0 := Subsingleton.elim _ _
  refine Eq.trans ?_ ((dgc_ref Z CW W D j1).symm.trans (congrArg _ ?_))
  · exact sum_rows fun r => yconv Z CW r j1 * rr 512 (yconv Z CW r) * dmix W D r ⟨j1.val, by omega⟩
  · blk_ext [idx t0_15]

/-- The gradient of the attention branch's gain. -/
theorem final_dga (hY : m ((c : Thread nD τ).loc main_arg1) = fun i => (Y i : EReal))
    (hW : m ((c : Thread nD τ).loc main_arg5) = fun i => (W i : EReal)) (hD : m ((c : Thread nD τ).loc main_arg6) = fun i => (D i : EReal)) :
    (dats m 0 c).arrAt 12 cfg0.N = Cert.ReferenceIdeal.Read.val_main_v61 (F := Ideal) (fun i => (Y i : EReal)) (fun i => (W i : EReal)) (fun i => (D i : EReal)) := by
  have step := fun t acc j k => dga_ker (fun a k => (blk_y m c t a k).trans (congrFun hY _)) (hdmix m c hW hD t) acc j k
  refine (dats m 0 c).arrAt_eq_of_after_last 12 t0_15 (by decide +kernel) _ fun j => ?_
  blk_simp
  rw [after0_12, Pipeline.eq_sum_fin_of_reset_step_apply_last (fun n h => (outsAt0 m c n h).2.2.2.2) 16 (fun _ => (0 : EReal))
    (fun t j => ((∑ a : Fin 512, Y (ix2 (row (tile t) a) (j 1)) * rr 512 (fun k => Y (ix2 (row (tile t) a) k)) * dmix W D (row (tile t) a) ⟨512 + (j 1).val, by have h : (j 1).val < 512 := (j 1).isLt; omega⟩ : ℝ) : EReal))
    (fun t h j => by
      rw [outsAt0_A m c t h]; frame_out; idx_vars j
      refine (step t _ j0 j1).trans (congrArg₂ (· + ·) ?_ rfl)
      pointwise [k0_pay3])
    (fun t h j => by
      rw [outsAt0_B m c t h]; frame_out; idx_vars j
      exact step t _ j0 j1) (le_of_eq N_0) t0_15 rfl j, zero_add]
  idx_vars j
  obtain rfl : j0 = 0 := Subsingleton.elim _ _
  refine Eq.trans ?_ ((dga_ref Y W D j1).symm.trans (congrArg _ ?_))
  · exact sum_rows fun r => Y (ix2 r j1) * rr 512 (fun k => Y (ix2 r k)) * dmix W D r ⟨512 + j1.val, by omega⟩
  · blk_ext [idx t0_15]

end

end Cert.Out
-- ==== Proof.OutClaim.lean ====
/- The backward pass of the output mixing: the kernel's five results are the gradients of the forward lines. -/
module

public import proofs.«01_k».proof.Defs
public import proofs.«01_k».proof.Proof.OutVal
public import proofs.«01_k».proof.Proof.Gen.Pre_pre
public import proofs.«01_k».proof.Proof.Gen.ReferenceIdeal.Run
public import Idealize.ShloMosaic.Lib.Quiescent

@[expose] public section

set_option maxRecDepth 16384

noncomputable section

namespace Cert.Out

open Idealize.ShloMosaic Idealize.ShloMosaic.TcCoe Idealize.SL.Sem
open Cert.KernelIdeal Cert.KernelIdeal.Gen Cert.Reals

/-- Under the precondition every argument is an array of real numbers. -/
theorem args_real {x0 : FVec Ideal Cert.Pre_pre.S8192x3072 .f32} {x1 : FVec Ideal Cert.Pre_pre.S8192x512 .f32} {x2 : FVec Ideal Cert.Pre_pre.S3x512 .f32}
    {x3 x4 : FVec Ideal Cert.Pre_pre.S1x512 .f32} {x5 : FVec Ideal Cert.Pre_pre.S1024x1024 .f32} {x6 : FVec Ideal Cert.Pre_pre.S8192x1024 .f32}
    (h : Cert.Pre_pre.fn (F := Ideal) x0 x1 x2 x3 x4 x5 x6 = fun _ => 1#1) :
    (∃ Z : Cert.Pre_pre.S8192x3072.Idx → ℝ, x0 = fun i => (Z i : EReal)) ∧ (∃ Y : Cert.Pre_pre.S8192x512.Idx → ℝ, x1 = fun i => (Y i : EReal))
      ∧ (∃ CW : Cert.Pre_pre.S3x512.Idx → ℝ, x2 = fun i => (CW i : EReal)) ∧ (∃ GC : Cert.Pre_pre.S1x512.Idx → ℝ, x3 = fun i => (GC i : EReal))
      ∧ (∃ GA : Cert.Pre_pre.S1x512.Idx → ℝ, x4 = fun i => (GA i : EReal)) ∧ (∃ W : Cert.Pre_pre.S1024x1024.Idx → ℝ, x5 = fun i => (W i : EReal))
      ∧ (∃ D : Cert.Pre_pre.S8192x1024.Idx → ℝ, x6 = fun i => (D i : EReal)) := by
  have i0 : Cert.Pre_pre.S_.Idx := fun a => a.elim0
  have e := congrFun h i0
  unfold Cert.Pre_pre.fn Cert.Pre_pre.fn_part1 Cert.Pre_pre.fn_part2 at e
  obtain ⟨e, e6⟩ := IntOp.andi_eq_one.mp e
  obtain ⟨e, e5⟩ := IntOp.andi_eq_one.mp e
  obtain ⟨e, e4⟩ := IntOp.andi_eq_one.mp e
  obtain ⟨e, e3⟩ := IntOp.andi_eq_one.mp e
  obtain ⟨e, e2⟩ := IntOp.andi_eq_one.mp e
  obtain ⟨e, e1⟩ := IntOp.andi_eq_one.mp e
  obtain ⟨-, e0⟩ := IntOp.andi_eq_one.mp e
  exact ⟨finite_reals _ _ (fun _ => ofBits_inf) _ _ _ _ e0, finite_reals _ _ (fun _ => ofBits_inf) _ _ _ _ e1,
    finite_reals _ _ (fun _ => ofBits_inf) _ _ _ _ e2, finite_reals _ _ (fun _ => ofBits_inf) _ _ _ _ e3,
    finite_reals _ _ (fun _ => ofBits_inf) _ _ _ _ e4, finite_reals _ _ (fun _ => ofBits_inf) _ _ _ _ e5,
    finite_reals _ _ (fun _ => ofBits_inf) _ _ _ _ e6⟩

theorem algebraic : Cert.algebraic_KernelIdeal_ReferenceIdeal_pre_pre := by
  intro m g m' g' hpre hagree
  refine ⟨_, _, _, _, _, Cert.KernelIdeal.Value.run_blocks m g, (θ_run _ _ _).mono ?_ (Cert.ReferenceIdeal.Value.run m' g')⟩
  intro r h c
  obtain ⟨a0, a1, a2, a3, a4, a5, a6⟩ := hagree c
  obtain ⟨⟨Z, hZ⟩, ⟨Y, hY⟩, ⟨CW, hCW⟩, ⟨GC, hGC⟩, ⟨GA, hGA⟩, ⟨W, hW⟩, ⟨D, hD⟩⟩ := args_real (hpre c)
  obtain ⟨r0, r1, r2, r3, r4, k⟩ := h c
  refine ⟨r0.trans ?_, r1.trans ?_, r2.trans ?_, r3.trans ?_, r4.trans ?_, k⟩
  · rw [Cert.ReferenceIdeal.Read.val_main_v77_eq m' c, a1, a4, a5, a6, hY, hGA, hW, hD]
    exact (final_dya m c hY hGA hW hD).symm
  · rw [Cert.ReferenceIdeal.Read.val_main_v99_eq m' c, a0, a2, a3, a5, a6, hZ, hCW, hGC, hW, hD]
    exact (final_dgb m c hZ hCW hGC hW hD).symm
  · rw [Cert.ReferenceIdeal.Read.val_main_v97_eq m' c, a0, a2, a3, a5, a6, hZ, hCW, hGC, hW, hD]
    exact (final_dcv m c hZ hCW hGC hW hD).symm
  · rw [Cert.ReferenceIdeal.Read.val_main_v80_eq m' c, a0, a2, a5, a6, hZ, hCW, hW, hD]
    exact (final_dgc m c hZ hCW hW hD).symm
  · rw [Cert.ReferenceIdeal.Read.val_main_v61_eq, a1, a5, a6, hY, hW, hD]
    exact (final_dga m c hY hW hD).symm

/-- The reference runs and leaves its arguments as they were. -/
theorem frame_reference : Cert.quiescent_ReferenceIdeal := by
  intro m g _
  exact (θ_run Cert.ReferenceIdeal.defs _ _).mono (fun r h => ⟨fun c => (h c).2.2.2.2.2,
      Idealize.ShloMosaic.sem_eq_zero_of_no_sems (by decide) r.2⟩) (Cert.ReferenceIdeal.Value.run (F := Ideal) m g)

end Cert.Out
-- ==== Proof.InRef.lean ====
/- The gradient of the input projection and of the convolution, element by element over the reals, and the reference read at an index. -/
module

public import proofs.«01_k».proof.Proof.OutRef
public import proofs.«01_k».proof.Proof.Gen.Reference2Ideal.Read

@[expose] public section

set_option maxRecDepth 16384

noncomputable section

namespace Cert.In

open Idealize.ShloMosaic Idealize.ShloMosaic.TcCoe Idealize.SL.Sem
open Cert.Reference2Ideal Cert.Reference2Ideal.Gen Cert.Reference2Ideal.Read Cert.Reals Cert.Out

variable (X : S8192x1024.Idx → ℝ) (G : S1x1024.Idx → ℝ) (W : S1024x3072.Idx → ℝ) (CW : S3x512.Idx → ℝ)
  (DC DB DQ DK DV : S8192x512.Idx → ℝ) (DX : S8192x1024.Idx → ℝ)

/-! ### The values -/

/-- A row times the inverse root of its mean square. -/
def unit (r : Fin 8192) (l : Fin 1024) : ℝ := X (ix2 r l) * rr 1024 fun k => X (ix2 r k)

/-- The projection of the normed rows. -/
def proj : S8192x3072.Idx → ℝ := fun i => ∑ l, unit X (i 0) l * G (ix2 0 l) * W (ix2 l (i 1))

/-- The convolution's cotangent `k` rows ahead of `r`, zero after the last row. -/
def ahead (k : ℕ) (r : Fin 8192) (c : Fin 512) : ℝ :=
  if h : r.val + k < 8192 then DC (ix2 ⟨r.val + k, h⟩ c) else 0

/-- The cotangent of the convolution's input. -/
def dcu (r : Fin 8192) (c : Fin 512) : ℝ :=
  CW (ix2 2 c) * ahead DC 0 r c + CW (ix2 1 c) * ahead DC 1 r c + CW (ix2 0 c) * ahead DC 2 r c

/-- The cotangent of the projection: its six parts side by side. -/
def dproj (Z : S8192x3072.Idx → ℝ) (r : Fin 8192) (k : Fin 3072) : ℝ :=
  if h : k.val < 512 then Z (ix2 r ⟨1024 + k.val, by omega⟩) * dcu CW DC r ⟨k.val, h⟩
  else if h : k.val - 512 < 512 then DB (ix2 r ⟨k.val - 512, h⟩)
  else if h : k.val - 512 - 512 < 512 then dcu CW DC r ⟨k.val - 512 - 512, h⟩ * Z (ix2 r ⟨k.val - 512 - 512, by omega⟩)
  else if h : k.val - 512 - 512 - 512 < 512 then DQ (ix2 r ⟨k.val - 512 - 512 - 512, h⟩)
  else if h : k.val - 512 - 512 - 512 - 512 < 512 then DK (ix2 r ⟨k.val - 512 - 512 - 512 - 512, h⟩)
  else DV (ix2 r ⟨k.val - 512 - 512 - 512 - 512 - 512, by omega⟩)

/-- The cotangent of the normed rows. -/
def dhid (Z : S8192x3072.Idx → ℝ) (r : Fin 8192) (l : Fin 1024) : ℝ := ∑ k, dproj CW DC DB DQ DK DV Z r k * W (ix2 l k)

theorem ahead_of {k : ℕ} {r q : Fin 8192} (c : Fin 512) (hq : r.val + k = q.val) : ahead DC k r c = DC (ix2 q c) := by
  have h : r.val + k < 8192 := by omega
  unfold ahead
  rw [dif_pos h]
  exact congrArg (fun q => DC (ix2 q c)) (Fin.ext hq)

theorem ahead_none {k : ℕ} {r : Fin 8192} (c : Fin 512) (hr : 8192 ≤ r.val + k) : ahead DC k r c = 0 := by
  unfold ahead
  rw [dif_neg (by omega)]

section
variable (Z : S8192x3072.Idx → ℝ) (r : Fin 8192) (k : Fin 512)

theorem dproj_0 : dproj CW DC DB DQ DK DV Z r ⟨k.val, by omega⟩ = Z (ix2 r ⟨1024 + k.val, by omega⟩) * dcu CW DC r k := by
  unfold dproj
  rw [dif_pos k.isLt]

theorem dproj_1 : dproj CW DC DB DQ DK DV Z r ⟨512 + k.val, by omega⟩ = DB (ix2 r k) := by
  unfold dproj
  rw [dif_neg (by show ¬ 512 + k.val < 512; omega),
    dif_pos (by show 512 + k.val - 512 < 512; omega)]
  exact congrArg (fun q : Fin 512 => DB (ix2 r q)) (Fin.ext (by show 512 + k.val - 512 = k.val; omega))

theorem dproj_2 : dproj CW DC DB DQ DK DV Z r ⟨1024 + k.val, by omega⟩ = dcu CW DC r k * Z (ix2 r ⟨k.val, by omega⟩) := by
  unfold dproj
  rw [dif_neg (by show ¬ 1024 + k.val < 512; omega),
    dif_neg (by show ¬ 1024 + k.val - 512 < 512; omega),
    dif_pos (by show 1024 + k.val - 512 - 512 < 512; omega)]
  exact congrArg (fun q : Fin 512 => dcu CW DC r q * Z (ix2 r ⟨q.val, by omega⟩)) (Fin.ext (by show 1024 + k.val - 512 - 512 = k.val; omega))

theorem dproj_3 : dproj CW DC DB DQ DK DV Z r ⟨1536 + k.val, by omega⟩ = DQ (ix2 r k) := by
  unfold dproj
  rw [dif_neg (by show ¬ 1536 + k.val < 512; omega),
    dif_neg (by show ¬ 1536 + k.val - 512 < 512; omega),
    dif_neg (by show ¬ 1536 + k.val - 512 - 512 < 512; omega),
    dif_pos (by show 1536 + k.val - 512 - 512 - 512 < 512; omega)]
  exact congrArg (fun q : Fin 512 => DQ (ix2 r q)) (Fin.ext (by show 1536 + k.val - 512 - 512 - 512 = k.val; omega))

theorem dproj_4 : dproj CW DC DB DQ DK DV Z r ⟨2048 + k.val, by omega⟩ = DK (ix2 r k) := by
  unfold dproj
  rw [dif_neg (by show ¬ 2048 + k.val < 512; omega),
    dif_neg (by show ¬ 2048 + k.val - 512 < 512; omega),
    dif_neg (by show ¬ 2048 + k.val - 512 - 512 < 512; omega),
    dif_neg (by show ¬ 2048 + k.val - 512 - 512 - 512 < 512; omega),
    dif_pos (by show 2048 + k.val - 512 - 512 - 512 - 512 < 512; omega)]
  exact congrArg (fun q : Fin 512 => DK (ix2 r q)) (Fin.ext (by show 2048 + k.val - 512 - 512 - 512 - 512 = k.val; omega))

theorem dproj_5 : dproj CW DC DB DQ DK DV Z r ⟨2560 + k.val, by omega⟩ = DV (ix2 r k) := by
  unfold dproj
  rw [dif_neg (by show ¬ 2560 + k.val < 512; omega),
    dif_neg (by show ¬ 2560 + k.val - 512 < 512; omega),
    dif_neg (by show ¬ 2560 + k.val - 512 - 512 < 512; omega),
    dif_neg (by show ¬ 2560 + k.val - 512 - 512 - 512 < 512; omega),
    dif_neg (by show ¬ 2560 + k.val - 512 - 512 - 512 - 512 < 512; omega)]
  exact congrArg (fun q : Fin 512 => DV (ix2 r q)) (Fin.ext (by show 2560 + k.val - 512 - 512 - 512 - 512 - 512 = k.val; omega))

end

/-! ### The reference -/

theorem ms_ref (r : Fin 8192) (u : Fin 1) :
    val_main_v6 (F := Ideal) (fun i => (X i : EReal)) (ix2 r u) = (ms 1024 (fun k => X (ix2 r k)) : EReal) := by
  pointwise [val_main_v6, val_main_v5, val_main_v4, val_main_v3, val_main_v2, val_main_v1, val_main_v0, val_main_cst, val_main_cst_0, val_main_cst_1]
  exact ms_coe_1024 fun k => X (ix2 r k)

theorem unit_ref (r : Fin 8192) (l : Fin 1024) :
    val_main_v12 (F := Ideal) (fun i => (X i : EReal)) (ix2 r l) = (unit X r l : EReal) := by
  pointwise [val_main_v12, val_main_v11, val_main_v7, ms_ref]
  rw [rsqrt_ms N1024, ← EReal.coe_mul]; rfl

theorem proj_ref (r : Fin 8192) (k : Fin 3072) :
    val_main_v15 (F := Ideal) (fun i => (X i : EReal)) (fun i => (G i : EReal)) (fun i => (W i : EReal)) (ix2 r k) = (proj X G W (ix2 r k) : EReal) := by
  pointwise [val_main_v15, val_main_v14, val_main_v13, unit_ref]
  simp only [← EReal.coe_mul, coe_sum]; rfl

theorem dcu_ref (r : Fin 8192) (c : Fin 512) :
    val_main_v68 (F := Ideal) (fun i => (CW i : EReal)) (fun i => (DC i : EReal)) (ix2 r c) = (dcu CW DC r c : EReal) := by
  pointwise [val_main_v68, val_main_v64, val_main_v63, val_main_v59, val_main_v58, val_main_v55, val_main_v54, val_main_v50, val_main_v49, val_main_v47,
    val_main_v43, val_main_v42, val_main_v41, val_main_v40, val_main_v35, val_main_v30, val_main_v26, val_main_cst_6, val_main_cst_9, val_main_cst_12]
  unfold dcu
  rw [ahead_of DC (k := 0) (q := r) c rfl]
  by_cases h1 : r.val + 1 < 8192
  · rw [dif_pos (by omega), ahead_of DC (k := 1) (q := ⟨2 + r.val - 1, by omega⟩) c (by show r.val + 1 = 2 + r.val - 1; omega)]
    by_cases h2 : r.val + 2 < 8192
    · rw [dif_pos (by omega), ahead_of DC (k := 2) (q := ⟨2 + r.val, by omega⟩) c (Nat.add_comm _ _)]
      simp only [EReal.coe_add, EReal.coe_mul]
    · rw [dif_neg (by omega), ahead_none DC (k := 2) c (by omega)]
      simp only [EReal.coe_add, EReal.coe_mul, EReal.coe_zero, mul_zero]
  · rw [dif_neg (by omega), dif_neg (by omega), ahead_none DC (k := 1) c (by omega), ahead_none DC (k := 2) c (by omega)]
    simp only [EReal.coe_add, EReal.coe_mul, EReal.coe_zero, mul_zero]

theorem dproj_ref (r : Fin 8192) (k : Fin 3072) :
    val_main_v71 (F := Ideal) (fun i => (X i : EReal)) (fun i => (G i : EReal)) (fun i => (W i : EReal)) (fun i => (CW i : EReal)) (fun i => (DC i : EReal))
      (fun i => (DB i : EReal)) (fun i => (DQ i : EReal)) (fun i => (DK i : EReal)) (fun i => (DV i : EReal)) (ix2 r k)
      = (dproj CW DC DB DQ DK DV (proj X G W) r k : EReal) := by
  pointwise [val_main_v71, val_main_v70, val_main_v69, val_main_v16, val_main_v18, dcu_ref, proj_ref]
  unfold dproj
  split_ifs <;> simp only [EReal.coe_mul]

theorem dhid_ref (r : Fin 8192) (l : Fin 1024) :
    val_main_v72 (F := Ideal) (fun i => (X i : EReal)) (fun i => (G i : EReal)) (fun i => (W i : EReal)) (fun i => (CW i : EReal)) (fun i => (DC i : EReal))
      (fun i => (DB i : EReal)) (fun i => (DQ i : EReal)) (fun i => (DK i : EReal)) (fun i => (DV i : EReal)) (ix2 r l)
      = (dhid W CW DC DB DQ DK DV (proj X G W) r l : EReal) := by
  pointwise [val_main_v72, dproj_ref]
  simp only [← EReal.coe_mul, coe_sum]; rfl

/-- The gradient of the gain. -/
theorem dg_ref (l : Fin 1024) :
    val_main_v75 (F := Ideal) (fun i => (X i : EReal)) (fun i => (G i : EReal)) (fun i => (W i : EReal)) (fun i => (CW i : EReal)) (fun i => (DC i : EReal))
      (fun i => (DB i : EReal)) (fun i => (DQ i : EReal)) (fun i => (DK i : EReal)) (fun i => (DV i : EReal)) (ix2 0 l)
      = ((∑ r, unit X r l * dhid W CW DC DB DQ DK DV (proj X G W) r l : ℝ) : EReal) := by
  pointwise [val_main_v75, val_main_v74, val_main_v73, val_main_cst_14, unit_ref, dhid_ref]
  simp only [← EReal.coe_mul, coe_sum]

/-- The gradient of the rows. -/
theorem dx_ref (r : Fin 8192) (l : Fin 1024) :
    val_main_v93 (F := Ideal) (fun i => (X i : EReal)) (fun i => (G i : EReal)) (fun i => (W i : EReal)) (fun i => (CW i : EReal)) (fun i => (DC i : EReal))
      (fun i => (DB i : EReal)) (fun i => (DQ i : EReal)) (fun i => (DK i : EReal)) (fun i => (DV i : EReal)) (fun i => (DX i : EReal)) (ix2 r l)
      = ((DX (ix2 r l) + dnorm 1024 (fun k => X (ix2 r k)) (fun k => dhid W CW DC DB DQ DK DV (proj X G W) r k * G (ix2 0 k)) l : ℝ) : EReal) := by
  pointwise [val_main_v93, val_main_v91, val_main_v90, val_main_v89, val_main_v88, val_main_v87, val_main_v86, val_main_v85, val_main_v84, val_main_v83,
    val_main_v82, val_main_v81, val_main_v80, val_main_v79, val_main_v78, val_main_v77, val_main_v76, val_main_v10, val_main_v9, val_main_v8, val_main_v7,
    val_main_cst_2, val_main_cst_15, val_main_cst_16, val_main_cst_17, dhid_ref, ms_ref]
  simp only [rsqrt_ms N1024, div_ms N1024, ofBits_neg_half, ← EReal.coe_mul, coe_sum, div_1024, ← EReal.coe_add, Fin.sum_univ_one]
  exact congrArg (fun y : ℝ => ((DX (ix2 r l) + y : ℝ) : EReal))
    (dnorm_eq N1024 (fun k => X (ix2 r k)) (fun k => dhid W CW DC DB DQ DK DV (proj X G W) r k * G (ix2 0 k)) l)

theorem back2_ref (r : Fin 8192) (c : Fin 512) :
    val_main_v27 (F := Ideal) (fun i => (X i : EReal)) (fun i => (G i : EReal)) (fun i => (W i : EReal)) (ix2 r c) = (back (proj X G W) 2 r c : EReal) := by
  pointwise [val_main_v27, val_main_v24, val_main_v23, val_main_v22, val_main_v18, val_main_v16, val_main_cst_3, proj_ref]
  exact back_coe (proj X G W) 2 r c r.val (by omega) (by omega) (by omega)

theorem back1_ref (r : Fin 8192) (c : Fin 512) :
    val_main_v31 (F := Ideal) (fun i => (X i : EReal)) (fun i => (G i : EReal)) (fun i => (W i : EReal)) (ix2 r c) = (back (proj X G W) 1 r c : EReal) := by
  pointwise [val_main_v31, val_main_v24, val_main_v23, val_main_v22, val_main_v18, val_main_v16, val_main_cst_3, proj_ref]
  exact back_coe (proj X G W) 1 r c (1 + r.val) (by omega) (by omega) (by omega)

theorem back0_ref (r : Fin 8192) (c : Fin 512) :
    val_main_v36 (F := Ideal) (fun i => (X i : EReal)) (fun i => (G i : EReal)) (fun i => (W i : EReal)) (ix2 r c) = (back (proj X G W) 0 r c : EReal) := by
  pointwise [val_main_v36, val_main_v24, val_main_v23, val_main_v22, val_main_v18, val_main_v16, val_main_cst_3, proj_ref]
  rw [back_of (proj X G W) (k := 0) (q := r) c rfl, EReal.coe_mul]

/-- Row `s` of the gradient of the convolution's weights; the rows after the third are zero. -/
def dcw (Z : S8192x3072.Idx → ℝ) (s : Fin 8) (c : Fin 512) : ℝ :=
  if s.val < 3 then ∑ r, DC (ix2 r c) * back Z (2 - s.val) r c else 0

/-- The gradient of the convolution's weights, five rows of zeros below. -/
theorem dcw_ref (s : Fin 8) (c : Fin 512) :
    val_main_v95 (F := Ideal) (fun i => (X i : EReal)) (fun i => (G i : EReal)) (fun i => (W i : EReal)) (fun i => (DC i : EReal)) (ix2 s c)
      = (dcw DC (proj X G W) s c : EReal) := by
  pointwise [val_main_v95, val_main_v94, val_main_v66, val_main_v65, val_main_v62, val_main_v61, val_main_v60, val_main_v57, val_main_v56, val_main_v53,
    val_main_v52, val_main_v51, val_main_v48, val_main_v46, val_main_v45, val_main_v44, val_main_v41, val_main_v40, val_main_cst_5, val_main_cst_7, val_main_cst_8, val_main_cst_10, val_main_cst_11, val_main_cst_13, val_main_cst_18,
    back2_ref, back1_ref, back0_ref]
  unfold dcw
  simp only [← EReal.coe_mul, coe_sum]
  by_cases h3 : s.val < 3
  · rw [dif_pos h3, if_pos h3]
    obtain h | h | h : s.val = 0 ∨ s.val = 1 ∨ s.val = 2 := by omega
    · rw [dif_neg (by omega), dif_neg (by omega), dif_pos (by omega), h, zero_add, zero_add]
    · rw [dif_neg (by omega), dif_pos (by omega), dif_neg (by omega), h, zero_add, add_zero]
    · rw [dif_pos (by omega), dif_neg (by omega), dif_neg (by omega), h, add_zero, add_zero]
  · rw [dif_neg h3, if_neg h3, EReal.coe_zero]

end Cert.In
-- ==== Proof.InKer.lean ====
/- The payloads of the input projection's backward kernel, read at an index over the reals. -/
module

public import proofs.«01_k».proof.Proof.InRef
public import proofs.«01_k».proof.Proof.OutKer
public import proofs.«01_k».proof.Proof.Gen.Kernel2Ideal.Skeleton
public import Idealize.ShloMosaic.Lib.Pipeline.ValueKit

@[expose] public section

set_option maxRecDepth 16384

noncomputable section

namespace Cert.In

open Idealize.ShloMosaic Idealize.ShloMosaic.TcCoe Idealize.SL.Sem
open Cert.Kernel2Ideal Cert.Kernel2Ideal.Gen Cert.Reals Cert.Out

/-! ### Word conditions as conditions on indices -/

theorem sel_lt511 (a : Fin 512) (x y : EReal) :
    Scalar.select (IntOp.cmpi .slt (BitVec.ofNat 32 a.val) 511#32) x y = if a.val < 511 then x else y := by
  have h := (by decide +kernel : ∀ a : Fin 512, IntOp.cmpi .slt (BitVec.ofNat 32 a.val) 511#32 = if a.val < 511 then 1#1 else 0#1) a
  rw [h]; split <;> rfl

theorem sel_lt510 (a : Fin 512) (x y : EReal) :
    Scalar.select (IntOp.cmpi .slt (BitVec.ofNat 32 a.val) 510#32) x y = if a.val < 510 then x else y := by
  have h := (by decide +kernel : ∀ a : Fin 512, IntOp.cmpi .slt (BitVec.ofNat 32 a.val) 510#32 = if a.val < 510 then 1#1 else 0#1) a
  rw [h]; split <;> rfl

theorem sel_eq510 (a : Fin 512) (x y : EReal) :
    Scalar.select (IntOp.cmpi .eq (BitVec.ofNat 32 a.val) 510#32) x y = if a.val = 510 then x else y := by
  have h := (by decide +kernel : ∀ a : Fin 512, IntOp.cmpi .eq (BitVec.ofNat 32 a.val) 510#32 = if a.val = 510 then 1#1 else 0#1) a
  rw [h]; split <;> rfl

theorem sel_last (t : Fin 16) (x y : EReal) :
    Scalar.select (Scalar.cmpi .eq (BitVec.ofNat 32 t.val) 15#32) x y = if t.val = 15 then x else y := by
  have h := (by decide +kernel : ∀ t : Fin 16, Scalar.cmpi .eq (BitVec.ofNat 32 t.val) 15#32 = if t.val = 15 then 1#1 else 0#1) t
  rw [h]; split <;> rfl

/-! ### The convolution and its cotangent -/

section
variable {Z : Cert.Reference2Ideal.S8192x3072.Idx → ℝ} {CW : Cert.Reference2Ideal.S3x512.Idx → ℝ} {DC : S8192x512.Idx → ℝ}
  {t : Fin 16} {i : grid0.Coords} {z : FVec Ideal S512x1536 .bf16} {h : FVec Ideal S8x1536 .bf16} {w : FVec Ideal S8x512 .f32}
  {d : FVec Ideal S512x512 .f32} {n : FVec Ideal S8x512 .f32}

/-- The convolution's input of a tile. -/
theorem back0_ker (hz : ∀ (a : Fin 512) (k : Fin 1536), z (ix2 a k) = (Z (ix2 (row t a) ⟨k.val, by omega⟩) : EReal)) (a c : Fin 512) :
    k0_pay12 (F := Ideal) z (ix2 a c) = (back Z 0 (row t a) c : EReal) := by
  pointwise [k0_pay12, k0_pay11, k0_pay10, k0_pay9, hz]
  rw [back_of Z (k := 0) (q := row t a) c rfl, EReal.coe_mul]

/-- One row back, the first row from the tile before. -/
theorem back1_ker (hi : (i 0).val = t.val)
    (hz : ∀ (a : Fin 512) (k : Fin 1536), z (ix2 a k) = (Z (ix2 (row t a) ⟨k.val, by omega⟩) : EReal))
    (hh : 0 < t.val → ∀ (s : Fin 8) (k : Fin 1536), h (ix2 s k) = (Z (ix2 ⟨512 * t.val - 8 + s.val, by omega⟩ ⟨k.val, by omega⟩) : EReal))
    (a c : Fin 512) : k0_pay14 (F := Ideal) i z h (ix2 a c) = (back Z 1 (row t a) c : EReal) := by
  pointwise [k0_pay14, k0_pay13, hi, sel_ge1, sel_first, back0_ker hz]
  by_cases h1 : 1 ≤ a.val
  · rw [if_pos h1, back_of Z (k := 0) (q := row t ⟨(a.val + 512 - 1) % 512, by omega⟩) c rfl,
      back_of Z (k := 1) (q := row t ⟨(a.val + 512 - 1) % 512, by omega⟩) c (by show 512 * t.val + (a.val + 512 - 1) % 512 + 1 = 512 * t.val + a.val; omega)]
  · rw [if_neg h1]
    by_cases ht : t.val = 0
    · rw [if_pos ht, back_none Z (k := 1) c (by show 512 * t.val + a.val < 1; omega), EReal.coe_zero]
    · rw [if_neg ht, hh (by omega), hh (by omega),
        back_of Z (k := 1) (q := ⟨512 * t.val - 8 + 7, by omega⟩) c (by show 512 * t.val - 8 + 7 + 1 = 512 * t.val + a.val; omega), EReal.coe_mul]
      rfl

/-- Two rows back, the first two rows from the tile before. -/
theorem back2_ker (hi : (i 0).val = t.val)
    (hz : ∀ (a : Fin 512) (k : Fin 1536), z (ix2 a k) = (Z (ix2 (row t a) ⟨k.val, by omega⟩) : EReal))
    (hh : 0 < t.val → ∀ (s : Fin 8) (k : Fin 1536), h (ix2 s k) = (Z (ix2 ⟨512 * t.val - 8 + s.val, by omega⟩ ⟨k.val, by omega⟩) : EReal))
    (a c : Fin 512) : k0_pay15 (F := Ideal) i z h (ix2 a c) = (back Z 2 (row t a) c : EReal) := by
  pointwise [k0_pay15, k0_pay13, hi, sel_ge2, sel_eq1, sel_first, back0_ker hz]
  by_cases h2 : 2 ≤ a.val
  · rw [if_pos h2, back_of Z (k := 0) (q := row t ⟨(a.val + 512 - 2) % 512, by omega⟩) c rfl,
      back_of Z (k := 2) (q := row t ⟨(a.val + 512 - 2) % 512, by omega⟩) c (by show 512 * t.val + (a.val + 512 - 2) % 512 + 2 = 512 * t.val + a.val; omega)]
  · rw [if_neg h2]
    by_cases ht : t.val = 0
    · simp only [if_pos ht, ite_self]
      rw [back_none Z (k := 2) c (by show 512 * t.val + a.val < 2; omega), EReal.coe_zero]
    · simp only [if_neg ht, hh (by omega : 0 < t.val)]
      by_cases h1 : a.val = 1
      · rw [if_pos h1,
          back_of Z (k := 2) (q := ⟨512 * t.val - 8 + 7, by omega⟩) c (by show 512 * t.val - 8 + 7 + 2 = 512 * t.val + a.val; omega), EReal.coe_mul]
        rfl
      · rw [if_neg h1,
          back_of Z (k := 2) (q := ⟨512 * t.val - 8 + 6, by omega⟩) c (by show 512 * t.val - 8 + 6 + 2 = 512 * t.val + a.val; omega), EReal.coe_mul]
        rfl

/-- The cotangent of the convolution's input, the last two rows from the tile after. -/
theorem dcu_ker (hd : ∀ a c : Fin 512, d (ix2 a c) = (DC (ix2 (row t a) c) : EReal))
    (hn : ∀ ht : t.val < 15, ∀ (s : Fin 8) (c : Fin 512), n (ix2 s c) = (DC (ix2 ⟨512 * t.val + 512 + s.val, by omega⟩ c) : EReal))
    (hw : ∀ (s : Fin 3) (c : Fin 512), w (ix2 ⟨s.val, by omega⟩ c) = (CW (ix2 s c) : EReal)) (a c : Fin 512) :
    k0_pay16 (F := Ideal) (Scalar.cmpi .eq (BitVec.ofNat 32 t.val) 15#32) (k0_pay8 w) d n (ix2 a c) = (dcu CW DC (row t a) c : EReal) := by
  have w0 : w (ix2 0 c) = (CW (ix2 0 c) : EReal) := hw 0 c
  have w1 : w (ix2 1 c) = (CW (ix2 1 c) : EReal) := hw 1 c
  have w2 : w (ix2 2 c) = (CW (ix2 2 c) : EReal) := hw 2 c
  pointwise [k0_pay16, k0_pay8, sel_lt511, sel_lt510, sel_eq510, sel_last, hd, w0, w1, w2]
  unfold dcu
  rw [ahead_of DC (k := 0) (q := row t a) c rfl]
  by_cases h2 : a.val < 510
  · rw [if_pos h2, if_pos (by omega : a.val < 511),
      ahead_of DC (k := 1) (q := row t ⟨(a.val + 512 - 511) % 512, by omega⟩) c (by show 512 * t.val + a.val + 1 = 512 * t.val + (a.val + 512 - 511) % 512; omega),
      ahead_of DC (k := 2) (q := row t ⟨(a.val + 512 - 510) % 512, by omega⟩) c (by show 512 * t.val + a.val + 2 = 512 * t.val + (a.val + 512 - 510) % 512; omega)]
    simp only [EReal.coe_add, EReal.coe_mul]
  · rw [if_neg h2]
    by_cases ht : t.val = 15
    · simp only [if_pos ht, ite_self]
      rw [ahead_none DC (k := 2) c (by show 8192 ≤ 512 * t.val + a.val + 2; omega)]
      by_cases h1 : a.val < 511
      · rw [if_pos h1,
          ahead_of DC (k := 1) (q := row t ⟨(a.val + 512 - 511) % 512, by omega⟩) c (by show 512 * t.val + a.val + 1 = 512 * t.val + (a.val + 512 - 511) % 512; omega)]
        simp only [EReal.coe_add, EReal.coe_mul, EReal.coe_zero]
      · rw [if_neg h1, ahead_none DC (k := 1) c (by show 8192 ≤ 512 * t.val + a.val + 1; omega)]
        simp only [EReal.coe_add, EReal.coe_mul, EReal.coe_zero]
    · simp only [if_neg ht, hn (by omega : t.val < 15)]
      by_cases h1 : a.val < 511
      · rw [if_pos h1, if_pos (by omega : a.val = 510),
          ahead_of DC (k := 1) (q := row t ⟨(a.val + 512 - 511) % 512, by omega⟩) c (by show 512 * t.val + a.val + 1 = 512 * t.val + (a.val + 512 - 511) % 512; omega),
          ahead_of DC (k := 2) (q := ⟨512 * t.val + 512 + 0, by omega⟩) c (by show 512 * t.val + a.val + 2 = 512 * t.val + 512 + 0; omega)]
        simp only [EReal.coe_add, EReal.coe_mul]; rfl
      · rw [if_neg h1, if_neg (by omega : ¬ a.val = 510),
          ahead_of DC (k := 1) (q := ⟨512 * t.val + 512 + 0, by omega⟩) c (by show 512 * t.val + a.val + 1 = 512 * t.val + 512 + 0; omega),
          ahead_of DC (k := 2) (q := ⟨512 * t.val + 512 + 1, by omega⟩) c (by show 512 * t.val + a.val + 2 = 512 * t.val + 512 + 1; omega)]
        simp only [EReal.coe_add, EReal.coe_mul]; rfl

end

/-- One tile's part of the gradient of the convolution's weights. -/
theorem dcw_ker {v14 v27 v40 d : FVec Ideal S512x512 .f32} {C0 C1 C2 D : Fin 512 → Fin 512 → ℝ} (h0 : ∀ a c, v14 (ix2 a c) = (C0 a c : EReal))
    (h1 : ∀ a c, v27 (ix2 a c) = (C1 a c : EReal)) (h2 : ∀ a c, v40 (ix2 a c) = (C2 a c : EReal)) (hd : ∀ a c, d (ix2 a c) = (D a c : EReal))
    (acc : FVec Ideal S8x512 .f32) (s : Fin 8) (c : Fin 512) :
    k0_pay18 (F := Ideal) (k0_pay17 v14 v27 v40 d) acc (ix2 s c)
      = acc (ix2 s c) + ((if s.val = 0 then ∑ a, D a c * C2 a c else if s.val = 1 then ∑ a, D a c * C1 a c
          else if s.val = 2 then ∑ a, D a c * C0 a c else 0 : ℝ) : EReal) := by
  pointwise [k0_pay18, k0_pay17, h0, h1, h2, hd]
  simp only [← EReal.coe_mul, coe_sum]
  refine congrArg _ ?_
  obtain h | h | h | h : s.val = 0 ∨ s.val = 1 ∨ s.val = 2 ∨ 3 ≤ s.val := by omega
  · rw [dif_pos (by omega), if_pos h]
  · rw [dif_neg (by omega), dif_pos (by omega), if_neg (by omega), if_pos h]
  · rw [dif_neg (by omega), dif_neg (by omega), dif_pos (by omega), if_neg (by omega), if_neg (by omega), if_pos h]
  · rw [dif_neg (by omega), dif_neg (by omega), dif_neg (by omega), if_neg (by omega), if_neg (by omega), if_neg (by omega), EReal.coe_zero]

/-! ### The projection and the norm -/

section
variable {p : FVec Ideal S512x3072 .bf16} {w : FVec Ideal S3072x1024 .bf16} {x y : FVec Ideal S512x1024 .f32} {g : FVec Ideal S1x1024 .f32}
  {P : Fin 512 → Fin 3072 → ℝ} {W : Fin 1024 → Fin 3072 → ℝ} {X Y : Fin 512 → Fin 1024 → ℝ} {G : Fin 1024 → ℝ}

theorem dhid_ker (hp : ∀ a k, p (ix2 a k) = (P a k : EReal)) (hw : ∀ k l, w (ix2 k l) = (W l k : EReal)) (a : Fin 512) (l : Fin 1024) :
    k0_pay1 (F := Ideal) (k0_pay25 p) (k0_pay26 w) (ix2 a l) = ((∑ k, P a k * W l k : ℝ) : EReal) := by
  pointwise [k0_pay1, k0_pay25, k0_pay26, hp, hw]
  simp only [← EReal.coe_mul, coe_sum]

theorem rms_ker (hx : ∀ a l, x (ix2 a l) = (X a l : EReal)) (a : Fin 512) (u : Fin 1) :
    k0_pay2 (F := Ideal) x (ix2 a u) = (rr 1024 (X a) : EReal) := by
  pointwise [k0_pay2, hx]
  rw [ms_coe_1024 (X a), rsqrt_ms N1024]

theorem unit_ker (hx : ∀ a l, x (ix2 a l) = (X a l : EReal)) (a : Fin 512) (l : Fin 1024) :
    k0_pay3 (F := Ideal) x (ix2 a l) = ((X a l * rr 1024 (X a) : ℝ) : EReal) := by
  pointwise [k0_pay3, hx, rms_ker hx]
  rw [← EReal.coe_mul]

/-- One tile's part of the gradient of the gain. -/
theorem dg_ker (hp : ∀ a k, p (ix2 a k) = (P a k : EReal)) (hw : ∀ k l, w (ix2 k l) = (W l k : EReal)) (hx : ∀ a l, x (ix2 a l) = (X a l : EReal))
    (acc : FVec Ideal S1x1024 .f32) (j : Fin 1) (l : Fin 1024) :
    k0_pay4 (F := Ideal) (k0_pay25 p) (k0_pay26 w) x acc (ix2 j l)
      = acc (ix2 j l) + ((∑ a, X a l * rr 1024 (X a) * ∑ k, P a k * W l k : ℝ) : EReal) := by
  obtain rfl : j = 0 := Subsingleton.elim _ _
  pointwise [k0_pay4, dhid_ker hp hw, unit_ker hx]
  simp only [← EReal.coe_mul, coe_sum]
  congr 2
  exact Finset.sum_congr rfl fun a _ => mul_comm _ _

theorem dx_ker (hp : ∀ a k, p (ix2 a k) = (P a k : EReal)) (hw : ∀ k l, w (ix2 k l) = (W l k : EReal)) (hx : ∀ a l, x (ix2 a l) = (X a l : EReal))
    (hy : ∀ a l, y (ix2 a l) = (Y a l : EReal)) (hg : ∀ l, g (ix2 0 l) = (G l : EReal)) (a : Fin 512) (l : Fin 1024) :
    k0_pay5 (F := Ideal) (k0_pay25 p) (k0_pay26 w) x y g (ix2 a l)
      = ((Y a l + dnorm 1024 (X a) (fun l => (∑ k, P a k * W l k) * G l) l : ℝ) : EReal) := by
  pointwise [k0_pay5, dhid_ker hp hw, unit_ker hx, rms_ker hx, hy, hg]
  simp only [← EReal.coe_mul, coe_sum, div_1024, ← EReal.coe_sub, ← EReal.coe_add]
  rfl

end

end Cert.In
-- ==== Proof.InVal.lean ====
/- The backward kernel of the input projection: what its result arrays hold after the run. -/
module

public import proofs.«01_k».proof.Proof.InKer
public import proofs.«01_k».proof.Proof.Gen.Kernel2Ideal.Value

@[expose] public section

set_option maxRecDepth 16384

noncomputable section

namespace Cert.In

open Idealize.ShloMosaic Idealize.ShloMosaic.TcCoe Idealize.SL.Sem
open Idealize.ShloMosaic.Pipeline (Dat)
open Cert.Kernel2Ideal Cert.Kernel2Ideal.Gen Cert.Reals Cert.Out

variable (m : (ℓ : Loc nD τ sig) → Buf (Elt Ideal) ℓ) (c : Dev nD)

/-- The block indices at every grid point. -/
theorem idx : ∀ t : Fin cfg0.N, win0_0.index t = ![t.val, 0] ∧ win0_1.index t = ![min (64 * (t.val + 1)) 1023, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![64 * t.val - 1, 0] ∧ win0_8.index t = ![t.val, 0] ∧ win0_9.index t = ![t.val, 0] ∧ win0_10.index t = ![0, 0]
    ∧ win0_11.index t = ![0, 0] ∧ win0_12.index t = ![0, 0] ∧ win0_13.index t = ![t.val, 0] ∧ win0_14.index t = ![t.val, 0]
    ∧ win0_15.index t = ![0, 0] ∧ win0_16.index t = ![0, 0] ∧ (grid0.coords t 0).val = t.val ∧ t.val < 16 :=
  (by decide +kernel : ∀ t : Fin grid0.N, _)

theorem coord (t : Fin cfg0.N) : (grid0.coords t 0).val = t.val := (idx t).2.2.2.2.2.2.2.2.2.2.2.2.2.2.2.2.2.1

/-- The grid point as a tile. -/
def tile (t : Fin cfg0.N) : Fin 16 := ⟨t.val, (idx t).2.2.2.2.2.2.2.2.2.2.2.2.2.2.2.2.2.2⟩

theorem row_tile (t : Fin cfg0.N) (a : Fin 512) : (row (tile t) a).val = 512 * t.val + a.val := rfl

theorem tile_val (t : Fin cfg0.N) : (tile t).val = t.val := rfl

/-! ### The input blocks -/

theorem blk_dc (t : Fin cfg0.N) (a k : Fin 512) :
    (iblk m c 0 t : FVec Ideal S512x512 .f32) (ix2 a k) = (m ((c : Thread nD τ).loc main_arg4) : FVec Ideal S8192x512 .f32) (ix2 (row (tile t) a) k) := by
  blk_point [iblk, V, idx t, row_tile, tile_val]

theorem blk_next (t : Fin cfg0.N) (h : (tile t).val < 15) (s : Fin 8) (k : Fin 512) :
    (iblk m c 1 t : FVec Ideal S8x512 .f32) (ix2 s k)
      = (m ((c : Thread nD τ).loc main_arg4) : FVec Ideal S8192x512 .f32) (ix2 ⟨512 * (tile t).val + 512 + s.val, by omega⟩ k) := by
  have h' : t.val < 15 := h
  blk_point [iblk, V, idx t, row_tile, tile_val]

theorem blk_db (t : Fin cfg0.N) (a k : Fin 512) :
    (iblk m c 2 t : FVec Ideal S512x512 .bf16) (ix2 a k) = (m ((c : Thread nD τ).loc main_arg5) : FVec Ideal S8192x512 .f32) (ix2 (row (tile t) a) k) := by
  blk_point [iblk, V, idx t, row_tile, tile_val]

theorem blk_dq (t : Fin cfg0.N) (a k : Fin 512) :
    (iblk m c 3 t : FVec Ideal S512x512 .bf16) (ix2 a k) = (m ((c : Thread nD τ).loc main_arg6) : FVec Ideal S8192x512 .f32) (ix2 (row (tile t) a) k) := by
  blk_point [iblk, V, idx t, row_tile, tile_val]

theorem blk_dk (t : Fin cfg0.N) (a k : Fin 512) :
    (iblk m c 4 t : FVec Ideal S512x512 .bf16) (ix2 a k) = (m ((c : Thread nD τ).loc main_arg7) : FVec Ideal S8192x512 .f32) (ix2 (row (tile t) a) k) := by
  blk_point [iblk, V, idx t, row_tile, tile_val]

theorem blk_dv (t : Fin cfg0.N) (a k : Fin 512) :
    (iblk m c 5 t : FVec Ideal S512x512 .bf16) (ix2 a k) = (m ((c : Thread nD τ).loc main_arg8) : FVec Ideal S8192x512 .f32) (ix2 (row (tile t) a) k) := by
  blk_point [iblk, V, idx t, row_tile, tile_val]

theorem blk_x (t : Fin cfg0.N) (a : Fin 512) (k : Fin 1024) :
    (iblk m c 8 t : FVec Ideal S512x1024 .f32) (ix2 a k) = (m ((c : Thread nD τ).loc main_arg0) : FVec Ideal S8192x1024 .f32) (ix2 (row (tile t) a) k) := by
  blk_point [iblk, V, idx t, row_tile, tile_val]

theorem blk_dx (t : Fin cfg0.N) (a : Fin 512) (k : Fin 1024) :
    (iblk m c 9 t : FVec Ideal S512x1024 .f32) (ix2 a k) = (m ((c : Thread nD τ).loc main_arg9) : FVec Ideal S8192x1024 .f32) (ix2 (row (tile t) a) k) := by
  blk_point [iblk, V, idx t, row_tile, tile_val]

theorem blk_g (t : Fin cfg0.N) (k : Fin 1024) :
    (iblk m c 10 t : FVec Ideal S1x1024 .f32) (ix2 0 k) = (m ((c : Thread nD τ).loc main_arg1) : FVec Ideal S1x1024 .f32) (ix2 0 k) := by
  blk_point [iblk, V, idx t, row_tile, tile_val]

theorem blk_cw (t : Fin cfg0.N) (s : Fin 3) (k : Fin 512) :
    (iblk m c 11 t : FVec Ideal S8x512 .f32) (ix2 ⟨s.val, by omega⟩ k) = (m ((c : Thread nD τ).loc main_arg3) : FVec Ideal S3x512 .f32) (ix2 s k) := by
  blk_simp [iblk, V, idx t]
  entry_read
  pointwise []
  refine (dif_pos (by blk_simp [idx t]; simpa using s.isLt)).trans ?_
  blk_ext [idx t]

theorem blk_w (t : Fin cfg0.N) (k : Fin 3072) (l : Fin 1024) :
    (iblk m c 12 t : FVec Ideal S3072x1024 .bf16) (ix2 k l) = (m ((c : Thread nD τ).loc main_arg2) : FVec Ideal S1024x3072 .f32) (ix2 l k) := by
  blk_point [iblk, V, idx t, row_tile, tile_val]

section
variable {X : S8192x1024.Idx → ℝ} {G : S1x1024.Idx → ℝ} {W : S1024x3072.Idx → ℝ}

theorem blk_z (hX : m ((c : Thread nD τ).loc main_arg0) = fun i => (X i : EReal)) (hG : m ((c : Thread nD τ).loc main_arg1) = fun i => (G i : EReal))
    (hW : m ((c : Thread nD τ).loc main_arg2) = fun i => (W i : EReal)) (t : Fin cfg0.N) (a : Fin 512) (k : Fin 1536) :
    (iblk m c 6 t : FVec Ideal S512x1536 .bf16) (ix2 a k) = (proj X G W (ix2 (row (tile t) a) ⟨k.val, by omega⟩) : EReal) := by
  blk_simp [iblk, V, idx t]
  entry_read
  refine Eq.trans ?_ (proj_ref X G W (row (tile t) a) ⟨k.val, by omega⟩)
  change Cert.Reference2Ideal.Read.val_main_v15 (F := Ideal) (m ((c : Thread nD τ).loc main_arg0)) (m ((c : Thread nD τ).loc main_arg1))
    (m ((c : Thread nD τ).loc main_arg2)) _ = _
  rw [hX, hG, hW]
  refine congrArg _ ?_
  blk_ext [idx t, row_tile]

theorem blk_prev (hX : m ((c : Thread nD τ).loc main_arg0) = fun i => (X i : EReal)) (hG : m ((c : Thread nD τ).loc main_arg1) = fun i => (G i : EReal))
    (hW : m ((c : Thread nD τ).loc main_arg2) = fun i => (W i : EReal)) (t : Fin cfg0.N) (h : 0 < (tile t).val) (s : Fin 8) (k : Fin 1536) :
    (iblk m c 7 t : FVec Ideal S8x1536 .bf16) (ix2 s k)
      = (proj X G W (ix2 ⟨512 * (tile t).val - 8 + s.val, by omega⟩ ⟨k.val, by omega⟩) : EReal) := by
  have h' : 0 < t.val := h
  blk_simp [iblk, V, idx t]
  entry_read
  refine Eq.trans ?_ (proj_ref X G W ⟨512 * (tile t).val - 8 + s.val, by omega⟩ ⟨k.val, by omega⟩)
  change Cert.Reference2Ideal.Read.val_main_v15 (F := Ideal) (m ((c : Thread nD τ).loc main_arg0)) (m ((c : Thread nD τ).loc main_arg1))
    (m ((c : Thread nD τ).loc main_arg2)) _ = _
  rw [hX, hG, hW]
  refine congrArg _ ?_
  blk_ext [idx t, tile_val]

end

/-! ### A tile of the projection's cotangent -/

/-- The six parts of a tile of the projection's cotangent, stored side by side. -/
def parts (q0 q1 q2 q3 q4 q5 : FVec Ideal S512x512 .bf16) : List (View.Piece (Elt Ideal) S512x3072 .bf16) :=
  [⟨Rect.unit ![0, 2560] ![512, 512] inb_S512x3072_S512x512_0_2560, q5⟩, ⟨Rect.unit ![0, 2048] ![512, 512] inb_S512x3072_S512x512_0_2048, q4⟩,
    ⟨Rect.unit ![0, 1536] ![512, 512] inb_S512x3072_S512x512_0_1536, q3⟩, ⟨Rect.unit ![0, 1024] ![512, 512] inb_S512x3072_S512x512_0_1024, q2⟩,
    ⟨Rect.unit ![0, 512] ![512, 512] inb_S512x3072_S512x512_0_512, q1⟩, ⟨Rect.unit ![0, 0] ![512, 512] inb_S512x3072_S512x512_0_0, q0⟩]

theorem canon_parts {q0 q1 q2 q3 q4 q5 : FVec Ideal S512x512 .bf16} {P : Fin 512 → Fin 3072 → ℝ}
    (e0 : ∀ a k : Fin 512, q0 (ix2 a k) = (P a ⟨k.val, by omega⟩ : EReal)) (e1 : ∀ a k : Fin 512, q1 (ix2 a k) = (P a ⟨512 + k.val, by omega⟩ : EReal))
    (e2 : ∀ a k : Fin 512, q2 (ix2 a k) = (P a ⟨1024 + k.val, by omega⟩ : EReal)) (e3 : ∀ a k : Fin 512, q3 (ix2 a k) = (P a ⟨1536 + k.val, by omega⟩ : EReal))
    (e4 : ∀ a k : Fin 512, q4 (ix2 a k) = (P a ⟨2048 + k.val, by omega⟩ : EReal)) (e5 : ∀ a k : Fin 512, q5 (ix2 a k) = (P a ⟨2560 + k.val, by omega⟩ : EReal))
    (a : Fin 512) (k : Fin 3072) : View.canon (parts q0 q1 q2 q3 q4 q5) (ix2 a k) = (P a k : EReal) := by
  unfold parts
  canon_tiles x h
  all_goals
    idx_vars x
    obtain rfl : a = x0 := Fin.ext h0
  · exact (e5 a x1).trans (congrArg (fun k => (P a k : EReal)) (Fin.ext h1.symm))
  · exact (e4 a x1).trans (congrArg (fun k => (P a k : EReal)) (Fin.ext h1.symm))
  · exact (e3 a x1).trans (congrArg (fun k => (P a k : EReal)) (Fin.ext h1.symm))
  · exact (e2 a x1).trans (congrArg (fun k => (P a k : EReal)) (Fin.ext h1.symm))
  · exact (e1 a x1).trans (congrArg (fun k => (P a k : EReal)) (Fin.ext h1.symm))
  · exact (e0 a x1).trans (congrArg (fun k => (P a k : EReal)) (Fin.ext h1.symm))

/-- The parts loaded back whole. -/
theorem load_parts {sig : RefSig} {κ : Kind} {sp : Space} (v : View sig κ sp S512x3072 .bf16) {q0 q1 q2 q3 q4 q5 : FVec Ideal S512x512 .bf16}
    {P : Fin 512 → Fin 3072 → ℝ} (hP : ∀ (a : Fin 512) (k : Fin 3072), View.canon (parts q0 q1 q2 q3 q4 q5) (ix2 a k) = (P a k : EReal))
    (a : Fin 512) (k : Fin 3072) :
    (v.readCov (parts q0 q1 q2 q3 q4 q5) (Rect.unit (s := S512x3072) ![0, 0] ![512, 3072] inb_S512x3072_S512x3072_0_0).toLoadRect : Vec Ideal S512x3072 .bf16) (ix2 a k) = (P a k : EReal) := by
  rw [View.readCov_eq_canon']
  refine Eq.trans (congrArg _ ?_) (hP a k)
  funext j
  match j with
  | ⟨0, _⟩ => exact Fin.ext (by simp)
  | ⟨1, _⟩ => exact Fin.ext (by simp)

/-! ### The result arrays -/

section
variable {X : S8192x1024.Idx → ℝ} {G : S1x1024.Idx → ℝ} {W : S1024x3072.Idx → ℝ} {CW : S3x512.Idx → ℝ}
  {DC DB DQ DK DV : S8192x512.Idx → ℝ} {DX : S8192x1024.Idx → ℝ}

/-- The arguments are these reals. -/
structure Args (X : S8192x1024.Idx → ℝ) (G : S1x1024.Idx → ℝ) (W : S1024x3072.Idx → ℝ) (CW : S3x512.Idx → ℝ)
    (DC DB DQ DK DV : S8192x512.Idx → ℝ) (DX : S8192x1024.Idx → ℝ) : Prop where
  x : m ((c : Thread nD τ).loc main_arg0) = fun i => (X i : EReal)
  g : m ((c : Thread nD τ).loc main_arg1) = fun i => (G i : EReal)
  w : m ((c : Thread nD τ).loc main_arg2) = fun i => (W i : EReal)
  cw : m ((c : Thread nD τ).loc main_arg3) = fun i => (CW i : EReal)
  dc : m ((c : Thread nD τ).loc main_arg4) = fun i => (DC i : EReal)
  db : m ((c : Thread nD τ).loc main_arg5) = fun i => (DB i : EReal)
  dq : m ((c : Thread nD τ).loc main_arg6) = fun i => (DQ i : EReal)
  dk : m ((c : Thread nD τ).loc main_arg7) = fun i => (DK i : EReal)
  dv : m ((c : Thread nD τ).loc main_arg8) = fun i => (DV i : EReal)
  dx : m ((c : Thread nD τ).loc main_arg9) = fun i => (DX i : EReal)

/-- A tile's part of the gradient of the convolution's weights, row by row. -/
theorem rows_of (DC : S8192x512.Idx → ℝ) (Z : Cert.Reference2Ideal.S8192x3072.Idx → ℝ) (t : Fin 16) (s : Fin 8) (k : Fin 512) :
    (if s.val = 0 then ∑ a, DC (ix2 (row t a) k) * back Z 2 (row t a) k else if s.val = 1 then ∑ a, DC (ix2 (row t a) k) * back Z 1 (row t a) k
      else if s.val = 2 then ∑ a, DC (ix2 (row t a) k) * back Z 0 (row t a) k else 0)
      = ∑ a : Fin 512, if s.val < 3 then DC (ix2 (row t a) k) * back Z (2 - s.val) (row t a) k else 0 := by
  obtain h | h | h | h : s.val = 0 ∨ s.val = 1 ∨ s.val = 2 ∨ 3 ≤ s.val := by omega
  · simp [h]
  · simp [h]
  · simp [h]
  · simp [show ¬ s.val = 0 by omega, show ¬ s.val = 1 by omega, show ¬ s.val = 2 by omega, show ¬ s.val < 3 by omega]

variable {m c} (H : Args m c X G W CW DC DB DQ DK DV DX)
include H

theorem hx (t : Fin cfg0.N) (a : Fin 512) (l : Fin 1024) : (iblk m c 8 t : FVec Ideal S512x1024 .f32) (ix2 a l) = (X (ix2 (row (tile t) a) l) : EReal) :=
  (blk_x m c t a l).trans (congrFun H.x _)

theorem hw (t : Fin cfg0.N) (k : Fin 3072) (l : Fin 1024) : (iblk m c 12 t : FVec Ideal S3072x1024 .bf16) (ix2 k l) = (W (ix2 l k) : EReal) :=
  (blk_w m c t k l).trans (congrFun H.w _)

theorem hd (t : Fin cfg0.N) (a k : Fin 512) : (iblk m c 0 t : FVec Ideal S512x512 .f32) (ix2 a k) = (DC (ix2 (row (tile t) a) k) : EReal) :=
  (blk_dc m c t a k).trans (congrFun H.dc _)

theorem hdcu (t : Fin cfg0.N) (a k : Fin 512) :
    k0_pay16 (F := Ideal) (Scalar.cmpi .eq (BitVec.ofNat 32 (grid0.coords t 0).val) 15#32) (k0_pay8 (iblk m c 11 t)) (iblk m c 0 t) (iblk m c 1 t) (ix2 a k)
      = (dcu CW DC (row (tile t) a) k : EReal) := by
  rw [coord t]
  exact dcu_ker (t := tile t) (hd H t) (fun h s k => (blk_next m c t h s k).trans (congrFun H.dc _))
    (fun s k => (blk_cw m c t s k).trans (congrFun H.cw _)) a k

theorem hback0 (t : Fin cfg0.N) (a k : Fin 512) : k0_pay12 (F := Ideal) (iblk m c 6 t) (ix2 a k) = (back (proj X G W) 0 (row (tile t) a) k : EReal) :=
  back0_ker (blk_z m c H.x H.g H.w t) a k

theorem hback1 (t : Fin cfg0.N) (a k : Fin 512) :
    k0_pay14 (F := Ideal) (grid0.coords t) (iblk m c 6 t) (iblk m c 7 t) (ix2 a k) = (back (proj X G W) 1 (row (tile t) a) k : EReal) :=
  back1_ker (coord t) (blk_z m c H.x H.g H.w t) (blk_prev m c H.x H.g H.w t) a k

theorem hback2 (t : Fin cfg0.N) (a k : Fin 512) :
    k0_pay15 (F := Ideal) (grid0.coords t) (iblk m c 6 t) (iblk m c 7 t) (ix2 a k) = (back (proj X G W) 2 (row (tile t) a) k : EReal) :=
  back2_ker (coord t) (blk_z m c H.x H.g H.w t) (blk_prev m c H.x H.g H.w t) a k

/-- The parts stored at a grid point are a tile of the projection's cotangent. -/
theorem hparts (t : Fin cfg0.N) (a : Fin 512) (k : Fin 3072) :
    View.canon (parts
        (k0_pay19 (k0_pay11 (iblk m c 6 t)) (k0_pay16 (Scalar.cmpi .eq (BitVec.ofNat 32 (grid0.coords t 0).val) 15#32) (k0_pay8 (iblk m c 11 t)) (iblk m c 0 t) (iblk m c 1 t)))
        (k0_pay20 (iblk m c 2 t))
        (k0_pay21 (k0_pay10 (iblk m c 6 t)) (k0_pay16 (Scalar.cmpi .eq (BitVec.ofNat 32 (grid0.coords t 0).val) 15#32) (k0_pay8 (iblk m c 11 t)) (iblk m c 0 t) (iblk m c 1 t)))
        (k0_pay22 (iblk m c 3 t)) (k0_pay23 (iblk m c 4 t)) (k0_pay24 (iblk m c 5 t))) (ix2 a k)
      = (dproj CW DC DB DQ DK DV (proj X G W) (row (tile t) a) k : EReal) := by
  have hz := blk_z m c H.x H.g H.w t
  refine canon_parts (P := fun a k => dproj CW DC DB DQ DK DV (proj X G W) (row (tile t) a) k) (fun a k => ?_) (fun a k => ?_) (fun a k => ?_) (fun a k => ?_) (fun a k => ?_) (fun a k => ?_) a k
  · pointwise [k0_pay19, k0_pay11, k0_pay9, hdcu H t, hz, dproj_0]
    rw [← EReal.coe_mul, mul_comm]
  · pointwise [k0_pay20, dproj_1, blk_db m c t, H.db]
  · pointwise [k0_pay21, k0_pay10, k0_pay9, hdcu H t, hz, dproj_2]
    rw [← EReal.coe_mul]
  · pointwise [k0_pay22, dproj_3, blk_dq m c t, H.dq]
  · pointwise [k0_pay23, dproj_4, blk_dk m c t, H.dk]
  · pointwise [k0_pay24, dproj_5, blk_dv m c t, H.dv]

/-- … and loaded back. -/
theorem hload (t : Fin cfg0.N) (a : Fin 512) (k : Fin 3072) :
    ((ms0_13 t).view.readCov (parts
        (k0_pay19 (k0_pay11 (iblk m c 6 t)) (k0_pay16 (Scalar.cmpi .eq (BitVec.ofNat 32 (grid0.coords t 0).val) 15#32) (k0_pay8 (iblk m c 11 t)) (iblk m c 0 t) (iblk m c 1 t)))
        (k0_pay20 (iblk m c 2 t))
        (k0_pay21 (k0_pay10 (iblk m c 6 t)) (k0_pay16 (Scalar.cmpi .eq (BitVec.ofNat 32 (grid0.coords t 0).val) 15#32) (k0_pay8 (iblk m c 11 t)) (iblk m c 0 t) (iblk m c 1 t)))
        (k0_pay22 (iblk m c 3 t)) (k0_pay23 (iblk m c 4 t)) (k0_pay24 (iblk m c 5 t)))
        (Rect.unit (s := S512x3072) ![0, 0] ![512, 3072] inb_S512x3072_S512x3072_0_0).toLoadRect : Vec Ideal S512x3072 .bf16) (ix2 a k)
      = (dproj CW DC DB DQ DK DV (proj X G W) (row (tile t) a) k : EReal) :=
  load_parts _ (hparts H t) a k

/-- The cotangent of the projection. -/
theorem final_dz :
    (dats m 0 c).arrAt 13 cfg0.N = Cert.Reference2Ideal.Read.val_main_v92 (F := Ideal) (fun i => (X i : EReal)) (fun i => (G i : EReal)) (fun i => (W i : EReal))
      (fun i => (CW i : EReal)) (fun i => (DC i : EReal)) (fun i => (DB i : EReal)) (fun i => (DQ i : EReal)) (fun i => (DK i : EReal)) (fun i => (DV i : EReal)) := by
  refine (dats m 0 c).arrAt_eq_of_covers 13 _ (by decide +kernel) fun t _ y => ?_
  blk_simp
  rw [after0_13]
  idx_vars y
  refine Eq.trans ?_ ((dproj_ref X G W CW DC DB DQ DK DV (row (tile t) y0) y1).symm.trans (congrArg _ ?_))
  · have h := hparts H t y0 y1
    by_cases h0 : t.val % 16 = 0
    · rw [outsAt0_A m c t h0]; frame_out; exact h
    · rw [outsAt0_B m c t h0]; frame_out; exact h
  · blk_ext [idx t, row_tile]

/-- The gradient of the rows. -/
theorem final_dx :
    (dats m 0 c).arrAt 14 cfg0.N = Cert.Reference2Ideal.Read.val_main_v93 (F := Ideal) (fun i => (X i : EReal)) (fun i => (G i : EReal)) (fun i => (W i : EReal))
      (fun i => (CW i : EReal)) (fun i => (DC i : EReal)) (fun i => (DB i : EReal)) (fun i => (DQ i : EReal)) (fun i => (DK i : EReal)) (fun i => (DV i : EReal))
      (fun i => (DX i : EReal)) := by
  refine (dats m 0 c).arrAt_eq_of_covers 14 _ (by decide +kernel) fun t _ y => ?_
  blk_simp
  rw [after0_14]
  idx_vars y
  refine Eq.trans ?_ ((dx_ref X G W CW DC DB DQ DK DV DX (row (tile t) y0) y1).symm.trans (congrArg _ ?_))
  · have h := dx_ker (hload H t) (hw H t) (hx H t) (fun a l => (blk_dx m c t a l).trans (congrFun H.dx _))
      (fun l => (blk_g m c t l).trans (congrFun H.g _)) y0 y1
    by_cases h0 : t.val % 16 = 0
    · rw [outsAt0_A m c t h0]; frame_out; exact h
    · rw [outsAt0_B m c t h0]; frame_out; exact h
  · blk_ext [idx t, row_tile]

omit H in
/-- A sum over the tiles' rows is a sum over all rows. -/
theorem sum_rows (f : Fin 8192 → ℝ) : (∑ t : Fin cfg0.N, ((∑ a : Fin 512, f (row (tile t) a) : ℝ) : EReal)) = ((∑ r, f r : ℝ) : EReal) := by
  rw [coe_sum]
  refine congrArg _ (Fin.sum_mul_add_congr (fun t a hl => congrArg f (Fin.ext ?_)) (by rw [show cfg0.N = 16 from N_0]))
  rw [row_tile, mul_comm]

/-- The gradient of the gain. -/
theorem final_dg :
    (dats m 0 c).arrAt 15 cfg0.N = Cert.Reference2Ideal.Read.val_main_v75 (F := Ideal) (fun i => (X i : EReal)) (fun i => (G i : EReal)) (fun i => (W i : EReal))
      (fun i => (CW i : EReal)) (fun i => (DC i : EReal)) (fun i => (DB i : EReal)) (fun i => (DQ i : EReal)) (fun i => (DK i : EReal)) (fun i => (DV i : EReal)) := by
  have step := fun t acc j l => dg_ker (hload H t) (hw H t) (hx H t) acc j l
  refine (dats m 0 c).arrAt_eq_of_after_last 15 t0_15 (by decide +kernel) _ fun j => ?_
  blk_simp
  rw [after0_15, Pipeline.eq_sum_fin_of_reset_step_apply_last (fun n h => (outsAt0 m c n h).2.2.1) 16 (fun _ => (0 : EReal))
    (fun t j => ((∑ a : Fin 512, unit X (row (tile t) a) (j 1) * dhid W CW DC DB DQ DK DV (proj X G W) (row (tile t) a) (j 1) : ℝ) : EReal))
    (fun t h j => by
      rw [outsAt0_A m c t h]; frame_out; idx_vars j
      refine (step t _ j0 j1).trans (congrArg₂ (· + ·) ?_ rfl)
      pointwise [k0_pay6])
    (fun t h j => by
      rw [outsAt0_B m c t h]; frame_out; idx_vars j
      exact step t _ j0 j1) (le_of_eq N_0) t0_15 rfl j, zero_add]
  idx_vars j
  obtain rfl : j0 = 0 := Subsingleton.elim _ _
  refine Eq.trans ?_ ((dg_ref X G W CW DC DB DQ DK DV j1).symm.trans (congrArg _ ?_))
  · exact sum_rows fun r => unit X r j1 * dhid W CW DC DB DQ DK DV (proj X G W) r j1
  · blk_ext [idx t0_15]

/-- The gradient of the convolution's weights. -/
theorem final_dcw :
    (dats m 0 c).arrAt 16 cfg0.N = Cert.Reference2Ideal.Read.val_main_v95 (F := Ideal) (fun i => (X i : EReal)) (fun i => (G i : EReal)) (fun i => (W i : EReal))
      (fun i => (DC i : EReal)) := by
  have step := fun t acc s k => dcw_ker (hback0 H t) (hback1 H t) (hback2 H t) (hd H t) acc s k
  refine (dats m 0 c).arrAt_eq_of_after_last 16 t0_15 (by decide +kernel) _ fun j => ?_
  blk_simp
  rw [after0_16, Pipeline.eq_sum_fin_of_reset_step_apply_last (fun n h => (outsAt0 m c n h).2.2.2) 16 (fun _ => (0 : EReal))
    (fun t j => ((∑ a : Fin 512, if (j 0).val < 3 then DC (ix2 (row (tile t) a) (j 1)) * back (proj X G W) (2 - (j 0).val) (row (tile t) a) (j 1) else 0 : ℝ) : EReal))
    (fun t h j => by
      rw [outsAt0_A m c t h]; frame_out; idx_vars j
      refine (step t _ j0 j1).trans (congrArg₂ (· + ·) ?_ (congrArg _ ?_))
      · pointwise [k0_pay7]
      · exact rows_of DC (proj X G W) (tile t) j0 j1)
    (fun t h j => by
      rw [outsAt0_B m c t h]; frame_out; idx_vars j
      exact (step t _ j0 j1).trans (congrArg₂ (· + ·) rfl (congrArg _ (rows_of DC (proj X G W) (tile t) j0 j1)))) (le_of_eq N_0) t0_15 rfl j, zero_add]
  idx_vars j
  refine Eq.trans ?_ ((dcw_ref X G W DC j0 j1).symm.trans (congrArg _ ?_))
  · refine (sum_rows fun r => if j0.val < 3 then DC (ix2 r j1) * back (proj X G W) (2 - j0.val) r j1 else 0).trans (congrArg _ ?_)
    unfold dcw
    split <;> simp
  · blk_ext [idx t0_15]

end

end Cert.In
-- ==== Proof.InClaim.lean ====
/- The backward pass of the input projection and of the convolution: the kernel's four results are the gradients of the forward lines. -/
module

public import proofs.«01_k».proof.Defs
public import proofs.«01_k».proof.Proof.InVal
public import proofs.«01_k».proof.Proof.Gen.Pre_pre2
public import proofs.«01_k».proof.Proof.Gen.Reference2Ideal.Run
public import Idealize.ShloMosaic.Lib.Quiescent

@[expose] public section

set_option maxRecDepth 16384

noncomputable section

namespace Cert.In

open Idealize.ShloMosaic Idealize.ShloMosaic.TcCoe Idealize.SL.Sem
open Cert.Kernel2Ideal Cert.Kernel2Ideal.Gen Cert.Reals

/-- Under the precondition every argument is an array of real numbers. -/
theorem args_real {x0 x9 : FVec Ideal Cert.Pre_pre2.S8192x1024 .f32} {x1 : FVec Ideal Cert.Pre_pre2.S1x1024 .f32} {x2 : FVec Ideal Cert.Pre_pre2.S1024x3072 .f32}
    {x3 : FVec Ideal Cert.Pre_pre2.S3x512 .f32} {x4 x5 x6 x7 x8 : FVec Ideal Cert.Pre_pre2.S8192x512 .f32}
    (h : Cert.Pre_pre2.fn (F := Ideal) x0 x1 x2 x3 x4 x5 x6 x7 x8 x9 = fun _ => 1#1) :
    (∃ X : Cert.Pre_pre2.S8192x1024.Idx → ℝ, x0 = fun i => (X i : EReal)) ∧ (∃ G : Cert.Pre_pre2.S1x1024.Idx → ℝ, x1 = fun i => (G i : EReal))
      ∧ (∃ W : Cert.Pre_pre2.S1024x3072.Idx → ℝ, x2 = fun i => (W i : EReal)) ∧ (∃ CW : Cert.Pre_pre2.S3x512.Idx → ℝ, x3 = fun i => (CW i : EReal))
      ∧ (∃ DC : Cert.Pre_pre2.S8192x512.Idx → ℝ, x4 = fun i => (DC i : EReal)) ∧ (∃ DB : Cert.Pre_pre2.S8192x512.Idx → ℝ, x5 = fun i => (DB i : EReal))
      ∧ (∃ DQ : Cert.Pre_pre2.S8192x512.Idx → ℝ, x6 = fun i => (DQ i : EReal)) ∧ (∃ DK : Cert.Pre_pre2.S8192x512.Idx → ℝ, x7 = fun i => (DK i : EReal))
      ∧ (∃ DV : Cert.Pre_pre2.S8192x512.Idx → ℝ, x8 = fun i => (DV i : EReal)) ∧ (∃ DX : Cert.Pre_pre2.S8192x1024.Idx → ℝ, x9 = fun i => (DX i : EReal)) := by
  have i0 : Cert.Pre_pre2.S_.Idx := fun a => a.elim0
  have e := congrFun h i0
  unfold Cert.Pre_pre2.fn Cert.Pre_pre2.fn_part1 Cert.Pre_pre2.fn_part2 at e
  obtain ⟨e, e9⟩ := IntOp.andi_eq_one.mp e
  obtain ⟨e, e8⟩ := IntOp.andi_eq_one.mp e
  obtain ⟨e, e7⟩ := IntOp.andi_eq_one.mp e
  obtain ⟨e, e6⟩ := IntOp.andi_eq_one.mp e
  obtain ⟨e, e5⟩ := IntOp.andi_eq_one.mp e
  obtain ⟨e, e4⟩ := IntOp.andi_eq_one.mp e
  obtain ⟨e, e3⟩ := IntOp.andi_eq_one.mp e
  obtain ⟨e, e2⟩ := IntOp.andi_eq_one.mp e
  obtain ⟨e, e1⟩ := IntOp.andi_eq_one.mp e
  obtain ⟨-, e0⟩ := IntOp.andi_eq_one.mp e
  exact ⟨finite_reals _ _ (fun _ => ofBits_inf) _ _ _ _ e0, finite_reals _ _ (fun _ => ofBits_inf) _ _ _ _ e1,
    finite_reals _ _ (fun _ => ofBits_inf) _ _ _ _ e2, finite_reals _ _ (fun _ => ofBits_inf) _ _ _ _ e3,
    finite_reals _ _ (fun _ => ofBits_inf) _ _ _ _ e4, finite_reals _ _ (fun _ => ofBits_inf) _ _ _ _ e5,
    finite_reals _ _ (fun _ => ofBits_inf) _ _ _ _ e6, finite_reals _ _ (fun _ => ofBits_inf) _ _ _ _ e7,
    finite_reals _ _ (fun _ => ofBits_inf) _ _ _ _ e8, finite_reals _ _ (fun _ => ofBits_inf) _ _ _ _ e9⟩

set_option maxHeartbeats 1000000 in
/-- The kernel's results are the reference's, from equal arguments that are all finite. -/
theorem algebraic : Cert.algebraic_Kernel2Ideal_Reference2Ideal_pre_pre2 := by
  intro m g m' g' hpre hagree
  refine ⟨_, _, _, _, Cert.Kernel2Ideal.Value.run_blocks m g, (θ_run _ _ _).mono ?_ (Cert.Reference2Ideal.Value.run m' g')⟩
  intro r h c
  obtain ⟨a0, a1, a2, a3, a4, a5, a6, a7, a8, a9⟩ := hagree c
  obtain ⟨⟨X, hX⟩, ⟨G, hG⟩, ⟨W, hW⟩, ⟨CW, hCW⟩, ⟨DC, hDC⟩, ⟨DB, hDB⟩, ⟨DQ, hDQ⟩, ⟨DK, hDK⟩, ⟨DV, hDV⟩, ⟨DX, hDX⟩⟩ := args_real (hpre c)
  have H : Args m c X G W CW DC DB DQ DK DV DX := ⟨hX, hG, hW, hCW, hDC, hDB, hDQ, hDK, hDV, hDX⟩
  obtain ⟨r0, r1, r2, r3, k⟩ := h c
  refine ⟨r0.trans ?_, r1.trans ?_, r2.trans ?_, r3.trans ?_, k⟩
  · rw [Cert.Reference2Ideal.Read.val_main_v92_eq m' c, a0, a1, a2, a3, a4, a5, a6, a7, a8, hX, hG, hW, hCW, hDC, hDB, hDQ, hDK, hDV]
    exact (final_dz H).symm
  · rw [Cert.Reference2Ideal.Read.val_main_v93_eq m' c, a0, a1, a2, a3, a4, a5, a6, a7, a8, a9, hX, hG, hW, hCW, hDC, hDB, hDQ, hDK, hDV, hDX]
    exact (final_dx H).symm
  · rw [Cert.Reference2Ideal.Read.val_main_v75_eq m' c, a0, a1, a2, a3, a4, a5, a6, a7, a8, hX, hG, hW, hCW, hDC, hDB, hDQ, hDK, hDV]
    exact (final_dg H).symm
  · rw [Cert.Reference2Ideal.Read.val_main_v95_eq m' c, a0, a1, a2, a4, hX, hG, hW, hDC]
    exact (final_dcw H).symm

/-- The reference runs and leaves its arguments as they were. -/
theorem frame_reference : Cert.quiescent_Reference2Ideal := by
  intro m g _
  exact (θ_run Cert.Reference2Ideal.defs _ _).mono (fun r h => ⟨fun c => (h c).2.2.2.2,
      Idealize.ShloMosaic.sem_eq_zero_of_no_sems (by decide) r.2⟩) (Cert.Reference2Ideal.Value.run (F := Ideal) m g)

end Cert.In
-- ==== Proof.FfnRef.lean ====
/- The gradient of the gated feed-forward layer, element by element over the reals, and the reference read at an index. -/
module

public import proofs.«01_k».proof.Proof.Reals
public import proofs.«01_k».proof.Proof.Gen.Reference3Ideal.Read

@[expose] public section

set_option maxRecDepth 16384

noncomputable section

namespace Cert.Ffn

open Idealize.ShloMosaic Idealize.ShloMosaic.TcCoe Idealize.SL.Sem
open Cert.Reference3Ideal Cert.Reference3Ideal.Gen Cert.Reference3Ideal.Read Cert.Reals

/-! ### The values -/

/-- The logistic function. -/
def sg (a : ℝ) : ℝ := (1 + Real.exp (-a))⁻¹

/-- The derivative of `a · sg a`. -/
def dsilu (a : ℝ) : ℝ := sg a * (1 + a * (1 - sg a))

theorem ofBits_one : Ideal.ofBits .f32 0x3F800000#32 = ((1 : ℝ) : EReal) := by
  simp [Ideal.ofBits, Ideal.ieee]; norm_num [← EReal.coe_mul]

theorem sg_coe (a : ℝ) : Ideal.logistic (a : EReal) = (sg a : EReal) := Ideal.logistic_coe a

theorem sg_div (a : ℝ) : Ideal.div ((1 : ℝ) : EReal) (((1 : ℝ) : EReal) + Ideal.exp (-(a : EReal))) = (sg a : EReal) := sg_coe a

variable (X : S8192x1024.Idx → ℝ) (G : S1x1024.Idx → ℝ) (WG WU : S1024x2816.Idx → ℝ) (WD : S2816x1024.Idx → ℝ) (DY : S8192x1024.Idx → ℝ)

/-- A row times the inverse root of its mean square. -/
def unit (r : Fin 8192) (l : Fin 1024) : ℝ := X (ix2 r l) * rr 1024 fun k => X (ix2 r k)

/-- A projection of the normed rows. -/
def proj (W : S1024x2816.Idx → ℝ) (r : Fin 8192) (f : Fin 2816) : ℝ := ∑ l, unit X r l * G (ix2 0 l) * W (ix2 l f)

/-- The cotangent of the gated product. -/
def dgated (r : Fin 8192) (f : Fin 2816) : ℝ := ∑ l, DY (ix2 r l) * WD (ix2 f l)

/-- The cotangent of the gate's projection. -/
def da (r : Fin 8192) (f : Fin 2816) : ℝ := dgated WD DY r f * proj X G WU r f * dsilu (proj X G WG r f)

/-- The cotangent of the other projection. -/
def db (r : Fin 8192) (f : Fin 2816) : ℝ := dgated WD DY r f * (proj X G WG r f * sg (proj X G WG r f))

/-- The cotangent of the normed rows. -/
def dhid (r : Fin 8192) (l : Fin 1024) : ℝ := (∑ f, da X G WG WU WD DY r f * WG (ix2 l f)) + ∑ f, db X G WG WD DY r f * WU (ix2 l f)

/-! ### The reference -/

theorem ms_ref (r : Fin 8192) (u : Fin 1) :
    val_main_v6 (F := Ideal) (fun i => (X i : EReal)) (ix2 r u) = (ms 1024 (fun k => X (ix2 r k)) : EReal) := by
  pointwise [val_main_v6, val_main_v5, val_main_v4, val_main_v3, val_main_v2, val_main_v1, val_main_v0, val_main_cst, val_main_cst_0, val_main_cst_1]
  exact ms_coe_1024 fun k => X (ix2 r k)

theorem unit_ref (r : Fin 8192) (l : Fin 1024) :
    val_main_v12 (F := Ideal) (fun i => (X i : EReal)) (ix2 r l) = (unit X r l : EReal) := by
  pointwise [val_main_v12, val_main_v11, val_main_v7, ms_ref]
  rw [rsqrt_ms N1024, ← EReal.coe_mul]; rfl

theorem gate_ref (r : Fin 8192) (f : Fin 2816) :
    val_main_v15 (F := Ideal) (fun i => (X i : EReal)) (fun i => (G i : EReal)) (fun i => (WG i : EReal)) (ix2 r f) = (proj X G WG r f : EReal) := by
  pointwise [val_main_v15, val_main_v14, val_main_v13, unit_ref]
  simp only [← EReal.coe_mul, coe_sum]; rfl

theorem up_ref (r : Fin 8192) (f : Fin 2816) :
    val_main_v16 (F := Ideal) (fun i => (X i : EReal)) (fun i => (G i : EReal)) (fun i => (WU i : EReal)) (ix2 r f) = (proj X G WU r f : EReal) := by
  pointwise [val_main_v16, val_main_v14, val_main_v13, unit_ref]
  simp only [← EReal.coe_mul, coe_sum]; rfl

theorem sg_ref (r : Fin 8192) (f : Fin 2816) :
    val_main_v17_2 (F := Ideal) (fun i => (X i : EReal)) (fun i => (G i : EReal)) (fun i => (WG i : EReal)) (ix2 r f) = (sg (proj X G WG r f) : EReal) := by
  pointwise [val_main_v17_2, val_main_call0_v4, val_main_call0_v3, val_main_call0_v2, val_main_call0_v1, val_main_call0_v0, val_main_call0_cst,
    val_main_call0_cst_0, gate_ref, ofBits_one]
  exact sg_div _

theorem dgated_ref (r : Fin 8192) (f : Fin 2816) :
    val_main_v22 (F := Ideal) (fun i => (WD i : EReal)) (fun i => (DY i : EReal)) (ix2 r f) = (dgated WD DY r f : EReal) := by
  pointwise [val_main_v22, val_main_v21]
  simp only [← EReal.coe_mul, coe_sum]; rfl

theorem da_ref (r : Fin 8192) (f : Fin 2816) :
    val_main_v25 (F := Ideal) (fun i => (X i : EReal)) (fun i => (G i : EReal)) (fun i => (WG i : EReal)) (fun i => (WU i : EReal)) (fun i => (WD i : EReal))
      (fun i => (DY i : EReal)) (ix2 r f) = (da X G WG WU WD DY r f : EReal) := by
  pointwise [val_main_v25, val_main_v24, val_main_v17_1, val_main_call1_v0, val_main_call1_v1, val_main_call1_v2, val_main_call0_v7, val_main_call0_v6,
    val_main_call0_cst_1, gate_ref, up_ref, sg_ref, dgated_ref, ofBits_one]
  simp only [← EReal.coe_mul, ← EReal.coe_sub, ← EReal.coe_add]
  refine congrArg _ ?_
  unfold da dsilu
  ring

theorem db_ref (r : Fin 8192) (f : Fin 2816) :
    val_main_v23 (F := Ideal) (fun i => (X i : EReal)) (fun i => (G i : EReal)) (fun i => (WG i : EReal)) (fun i => (WD i : EReal))
      (fun i => (DY i : EReal)) (ix2 r f) = (db X G WG WD DY r f : EReal) := by
  pointwise [val_main_v23, val_main_v17_0, gate_ref, sg_ref, dgated_ref]
  simp only [← EReal.coe_mul]
  refine congrArg _ ?_
  unfold db
  ring

theorem dhid_ref (r : Fin 8192) (l : Fin 1024) :
    val_main_v28 (F := Ideal) (fun i => (X i : EReal)) (fun i => (G i : EReal)) (fun i => (WG i : EReal)) (fun i => (WU i : EReal)) (fun i => (WD i : EReal))
      (fun i => (DY i : EReal)) (ix2 r l) = (dhid X G WG WU WD DY r l : EReal) := by
  pointwise [val_main_v28, val_main_v27, val_main_v26, da_ref, db_ref]
  simp only [← EReal.coe_mul, coe_sum, ← EReal.coe_add]
  unfold dhid
  rw [add_comm]

/-- The gradient of the gain. -/
theorem dg_ref (l : Fin 1024) :
    val_main_v31 (F := Ideal) (fun i => (X i : EReal)) (fun i => (G i : EReal)) (fun i => (WG i : EReal)) (fun i => (WU i : EReal)) (fun i => (WD i : EReal))
      (fun i => (DY i : EReal)) (ix2 0 l) = ((∑ r, unit X r l * dhid X G WG WU WD DY r l : ℝ) : EReal) := by
  pointwise [val_main_v31, val_main_v30, val_main_v29, val_main_cst_3, unit_ref, dhid_ref]
  simp only [← EReal.coe_mul, coe_sum]

/-- The gradient of the rows. -/
theorem dx_ref (r : Fin 8192) (l : Fin 1024) :
    val_main_v48 (F := Ideal) (fun i => (X i : EReal)) (fun i => (G i : EReal)) (fun i => (WG i : EReal)) (fun i => (WU i : EReal)) (fun i => (WD i : EReal))
      (fun i => (DY i : EReal)) (ix2 r l)
      = ((DY (ix2 r l) + dnorm 1024 (fun k => X (ix2 r k)) (fun k => dhid X G WG WU WD DY r k * G (ix2 0 k)) l : ℝ) : EReal) := by
  pointwise [val_main_v48, val_main_v47, val_main_v46, val_main_v45, val_main_v44, val_main_v43, val_main_v42, val_main_v41, val_main_v40, val_main_v39,
    val_main_v38, val_main_v37, val_main_v36, val_main_v35, val_main_v34, val_main_v33, val_main_v32, val_main_v10, val_main_v9, val_main_v8, val_main_v7,
    val_main_cst_2, val_main_cst_4, val_main_cst_5, val_main_cst_6, dhid_ref, ms_ref]
  simp only [rsqrt_ms N1024, div_ms N1024, ofBits_neg_half, ← EReal.coe_mul, coe_sum, div_1024, ← EReal.coe_add, Fin.sum_univ_one]
  exact congrArg (fun y : ℝ => ((DY (ix2 r l) + y : ℝ) : EReal))
    (dnorm_eq N1024 (fun k => X (ix2 r k)) (fun k => dhid X G WG WU WD DY r k * G (ix2 0 k)) l)

end Cert.Ffn
-- ==== Proof.FfnKer.lean ====
/- The payloads of the feed-forward layer's backward kernel, read at an index over the reals. -/
module

public import proofs.«01_k».proof.Proof.FfnRef
public import proofs.«01_k».proof.Proof.Gen.Kernel3Ideal.Skeleton
public import Idealize.ShloMosaic.Lib.Pipeline.ValueKit
public import Idealize.ShloMosaic.Lib.Ring

@[expose] public section

set_option maxRecDepth 16384

noncomputable section

namespace Cert.Ffn

open Idealize.ShloMosaic Idealize.ShloMosaic.TcCoe Idealize.SL.Sem
open Cert.Kernel3Ideal Cert.Kernel3Ideal.Gen Cert.Reals

/-! ### The two cotangents of a tile, stored piece by piece -/

/-- The pieces of the gate's cotangent. -/
def daParts (dy : FVec Ideal S512x1024 .f32) (wd : FVec Ideal S1408x1024 .bf16) (a b : FVec Ideal S512x1408 .bf16) : List (View.Piece (Elt Ideal) S512x1408 .bf16) :=
  [⟨Rect.unit ![0, 1280] ![512, 128] inb_S512x1408_S512x128_0_1280,
      k0_pay44 (F := Ideal) (k0_pay11 (F := Ideal) dy) (View.ld (e' := .bf16) wd (Rect.unit (s := S1408x1024) ![1280, 0] ![128, 1024] inb_S1408x1024_S128x1024_1280_0))
        (View.ld (e' := .bf16) a (Rect.unit (s := S512x1408) ![0, 1280] ![512, 128] inb_S512x1408_S512x128_0_1280)) (View.ld (e' := .bf16) b (Rect.unit (s := S512x1408) ![0, 1280] ![512, 128] inb_S512x1408_S512x128_0_1280))⟩,
    ⟨Rect.unit ![0, 1024] ![512, 256] inb_S512x1408_S512x256_0_1024,
      k0_pay38 (F := Ideal) (k0_pay35 (F := Ideal) (k0_pay11 (F := Ideal) dy) (View.ld (e' := .bf16) wd (Rect.unit (s := S1408x1024) ![1024, 0] ![256, 1024] inb_S1408x1024_S256x1024_1024_0)))
        (View.ld (e' := .bf16) a (Rect.unit (s := S512x1408) ![0, 1024] ![512, 256] inb_S512x1408_S512x256_0_1024)) (View.ld (e' := .bf16) b (Rect.unit (s := S512x1408) ![0, 1024] ![512, 256] inb_S512x1408_S512x256_0_1024))⟩,
    ⟨Rect.unit ![0, 768] ![512, 256] inb_S512x1408_S512x256_0_768,
      k0_pay33 (F := Ideal) (k0_pay11 (F := Ideal) dy) (View.ld (e' := .bf16) wd (Rect.unit (s := S1408x1024) ![768, 0] ![256, 1024] inb_S1408x1024_S256x1024_768_0))
        (View.ld (e' := .bf16) a (Rect.unit (s := S512x1408) ![0, 768] ![512, 256] inb_S512x1408_S512x256_0_768)) (View.ld (e' := .bf16) b (Rect.unit (s := S512x1408) ![0, 768] ![512, 256] inb_S512x1408_S512x256_0_768))⟩,
    ⟨Rect.unit ![0, 512] ![512, 256] inb_S512x1408_S512x256_0_512,
      k0_pay28 (F := Ideal) (k0_pay26 (F := Ideal) (k0_pay11 (F := Ideal) dy) (View.ld (e' := .bf16) wd (Rect.unit (s := S1408x1024) ![512, 0] ![256, 1024] inb_S1408x1024_S256x1024_512_0))
        (View.ld (e' := .bf16) b (Rect.unit (s := S512x1408) ![0, 512] ![512, 256] inb_S512x1408_S512x256_0_512))) (k0_pay27 (F := Ideal) (View.ld (e' := .bf16) a (Rect.unit (s := S512x1408) ![0, 512] ![512, 256] inb_S512x1408_S512x256_0_512)))⟩,
    ⟨Rect.unit ![0, 256] ![512, 256] inb_S512x1408_S512x256_0_256,
      k0_pay20 (F := Ideal) (k0_pay17 (F := Ideal) dy (View.ld (e' := .bf16) wd (Rect.unit (s := S1408x1024) ![256, 0] ![256, 1024] inb_S1408x1024_S256x1024_256_0)))
        (View.ld (e' := .bf16) a (Rect.unit (s := S512x1408) ![0, 256] ![512, 256] inb_S512x1408_S512x256_0_256)) (View.ld (e' := .bf16) b (Rect.unit (s := S512x1408) ![0, 256] ![512, 256] inb_S512x1408_S512x256_0_256))⟩,
    ⟨Rect.unit ![0, 0] ![512, 256] inb_S512x1408_S512x256_0_0,
      k0_pay15 (F := Ideal) dy (View.ld (e' := .bf16) wd (Rect.unit (s := S1408x1024) ![0, 0] ![256, 1024] inb_S1408x1024_S256x1024_0_0))
        (View.ld (e' := .bf16) a (Rect.unit (s := S512x1408) ![0, 0] ![512, 256] inb_S512x1408_S512x256_0_0)) (View.ld (e' := .bf16) b (Rect.unit (s := S512x1408) ![0, 0] ![512, 256] inb_S512x1408_S512x256_0_0))⟩]

/-- The pieces of the other projection's cotangent. -/
def dbParts (dy : FVec Ideal S512x1024 .f32) (wd : FVec Ideal S1408x1024 .bf16) (a : FVec Ideal S512x1408 .bf16) : List (View.Piece (Elt Ideal) S512x1408 .bf16) :=
  [⟨Rect.unit ![0, 1280] ![512, 128] inb_S512x1408_S512x128_0_1280,
      k0_pay1 (F := Ideal) (k0_pay40 (F := Ideal) (k0_pay11 (F := Ideal) dy) (View.ld (e' := .bf16) wd (Rect.unit (s := S1408x1024) ![1280, 0] ![128, 1024] inb_S1408x1024_S128x1024_1280_0)))
        (k0_pay43 (F := Ideal) (View.ld (e' := .bf16) a (Rect.unit (s := S512x1408) ![0, 1280] ![512, 128] inb_S512x1408_S512x128_0_1280)))⟩,
    ⟨Rect.unit ![0, 1024] ![512, 256] inb_S512x1408_S512x256_0_1024,
      k0_pay39 (F := Ideal) (k0_pay35 (F := Ideal) (k0_pay11 (F := Ideal) dy) (View.ld (e' := .bf16) wd (Rect.unit (s := S1408x1024) ![1024, 0] ![256, 1024] inb_S1408x1024_S256x1024_1024_0)))
        (View.ld (e' := .bf16) a (Rect.unit (s := S512x1408) ![0, 1024] ![512, 256] inb_S512x1408_S512x256_0_1024))⟩,
    ⟨Rect.unit ![0, 768] ![512, 256] inb_S512x1408_S512x256_0_768,
      k0_pay34 (F := Ideal) (k0_pay11 (F := Ideal) dy) (View.ld (e' := .bf16) wd (Rect.unit (s := S1408x1024) ![768, 0] ![256, 1024] inb_S1408x1024_S256x1024_768_0))
        (View.ld (e' := .bf16) a (Rect.unit (s := S512x1408) ![0, 768] ![512, 256] inb_S512x1408_S512x256_0_768))⟩,
    ⟨Rect.unit ![0, 512] ![512, 256] inb_S512x1408_S512x256_0_512,
      k0_pay29 (F := Ideal) (k0_pay22 (F := Ideal) (k0_pay11 (F := Ideal) dy) (View.ld (e' := .bf16) wd (Rect.unit (s := S1408x1024) ![512, 0] ![256, 1024] inb_S1408x1024_S256x1024_512_0)))
        (k0_pay25 (F := Ideal) (View.ld (e' := .bf16) a (Rect.unit (s := S512x1408) ![0, 512] ![512, 256] inb_S512x1408_S512x256_0_512)))⟩,
    ⟨Rect.unit ![0, 256] ![512, 256] inb_S512x1408_S512x256_0_256,
      k0_pay21 (F := Ideal) (k0_pay17 (F := Ideal) dy (View.ld (e' := .bf16) wd (Rect.unit (s := S1408x1024) ![256, 0] ![256, 1024] inb_S1408x1024_S256x1024_256_0)))
        (View.ld (e' := .bf16) a (Rect.unit (s := S512x1408) ![0, 256] ![512, 256] inb_S512x1408_S512x256_0_256))⟩,
    ⟨Rect.unit ![0, 0] ![512, 256] inb_S512x1408_S512x256_0_0,
      k0_pay16 (F := Ideal) dy (View.ld (e' := .bf16) wd (Rect.unit (s := S1408x1024) ![0, 0] ![256, 1024] inb_S1408x1024_S256x1024_0_0)) (View.ld (e' := .bf16) a (Rect.unit (s := S512x1408) ![0, 0] ![512, 256] inb_S512x1408_S512x256_0_0))⟩]

section
variable {dy : FVec Ideal S512x1024 .f32} {wd : FVec Ideal S1408x1024 .bf16} {a b : FVec Ideal S512x1408 .bf16}
  {DY : Fin 512 → Fin 1024 → ℝ} {WD : Fin 1408 → Fin 1024 → ℝ} {A B : Fin 512 → Fin 1408 → ℝ}

theorem da_parts (hy : ∀ r l, dy (ix2 r l) = (DY r l : EReal)) (hwd : ∀ f l, wd (ix2 f l) = (WD f l : EReal))
    (ha : ∀ r f, a (ix2 r f) = (A r f : EReal)) (hb : ∀ r f, b (ix2 r f) = (B r f : EReal)) (r : Fin 512) (f : Fin 1408) :
    View.canon (daParts dy wd a b) (ix2 r f) = (((∑ l, DY r l * WD f l) * B r f * dsilu (A r f) : ℝ) : EReal) := by
  have hc : ∃ p ∈ daParts dy wd a b, (ix2 r f : S512x1408.Idx) ∈ p.1.set :=
    View.cover_of_tiledBy _ ![512, 128] (by sl_kernel_rfl) _
  unfold daParts at hc ⊢
  canon_tiles x h using hc
  all_goals
    idx_vars x
    obtain rfl : r = x0 := Fin.ext h0
    obtain ⟨f, hf⟩ := f
    replace h1 : f = _ := h1
    subst h1
  · pointwise [k0_pay44, k0_pay43, k0_pay42, k0_pay41, k0_pay40, k0_pay11, hy, hwd, ha, hb, sg_coe, ofBits_one]
    simp only [← EReal.coe_mul, coe_sum, ← EReal.coe_sub, ← EReal.coe_add]; rfl
  · pointwise [k0_pay38, k0_pay37, k0_pay36, k0_pay35, k0_pay11, hy, hwd, ha, hb, sg_coe, ofBits_one]
    simp only [← EReal.coe_mul, coe_sum, ← EReal.coe_sub, ← EReal.coe_add]; rfl
  · pointwise [k0_pay33, k0_pay32, k0_pay31, k0_pay30, k0_pay11, hy, hwd, ha, hb, sg_coe, ofBits_one]
    simp only [← EReal.coe_mul, coe_sum, ← EReal.coe_sub, ← EReal.coe_add]; rfl
  · pointwise [k0_pay28, k0_pay27, k0_pay26, k0_pay24, k0_pay23, k0_pay22, k0_pay11, hy, hwd, ha, hb, sg_coe, ofBits_one]
    simp only [← EReal.coe_mul, coe_sum, ← EReal.coe_sub, ← EReal.coe_add]; rfl
  · pointwise [k0_pay20, k0_pay19, k0_pay18, k0_pay17, k0_pay11, hy, hwd, ha, hb, sg_coe, ofBits_one]
    simp only [← EReal.coe_mul, coe_sum, ← EReal.coe_sub, ← EReal.coe_add]; rfl
  · pointwise [k0_pay15, k0_pay14, k0_pay13, k0_pay12, k0_pay11, hy, hwd, ha, hb, sg_coe, ofBits_one]
    simp only [← EReal.coe_mul, coe_sum, ← EReal.coe_sub, ← EReal.coe_add]; rfl

theorem db_parts (hy : ∀ r l, dy (ix2 r l) = (DY r l : EReal)) (hwd : ∀ f l, wd (ix2 f l) = (WD f l : EReal))
    (ha : ∀ r f, a (ix2 r f) = (A r f : EReal)) (r : Fin 512) (f : Fin 1408) :
    View.canon (dbParts dy wd a) (ix2 r f) = (((∑ l, DY r l * WD f l) * (A r f * sg (A r f)) : ℝ) : EReal) := by
  have hc : ∃ p ∈ dbParts dy wd a, (ix2 r f : S512x1408.Idx) ∈ p.1.set :=
    View.cover_of_tiledBy _ ![512, 128] (by sl_kernel_rfl) _
  unfold dbParts at hc ⊢
  canon_tiles x h using hc
  all_goals
    idx_vars x
    obtain rfl : r = x0 := Fin.ext h0
    obtain ⟨f, hf⟩ := f
    replace h1 : f = _ := h1
    subst h1
  · pointwise [k0_pay1, k0_pay43, k0_pay42, k0_pay41, k0_pay40, k0_pay11, hy, hwd, ha, sg_coe]
    simp only [← EReal.coe_mul, coe_sum]
  · pointwise [k0_pay39, k0_pay37, k0_pay36, k0_pay35, k0_pay11, hy, hwd, ha, sg_coe]
    simp only [← EReal.coe_mul, coe_sum]
  · pointwise [k0_pay34, k0_pay32, k0_pay31, k0_pay30, k0_pay11, hy, hwd, ha, sg_coe]
    simp only [← EReal.coe_mul, coe_sum]
  · pointwise [k0_pay29, k0_pay25, k0_pay24, k0_pay23, k0_pay22, k0_pay11, hy, hwd, ha, sg_coe]
    simp only [← EReal.coe_mul, coe_sum]
  · pointwise [k0_pay21, k0_pay19, k0_pay18, k0_pay17, k0_pay11, hy, hwd, ha, sg_coe]
    simp only [← EReal.coe_mul, coe_sum]
  · pointwise [k0_pay16, k0_pay14, k0_pay13, k0_pay12, k0_pay11, hy, hwd, ha, sg_coe]
    simp only [← EReal.coe_mul, coe_sum]

end

/-- A tile stored piece by piece and loaded back whole. -/
theorem load_parts {sig : RefSig} {κ : Kind} {sp : Space} (v : View sig κ sp S512x1408 .bf16) {L : List (View.Piece (Elt Ideal) S512x1408 .bf16)}
    {P : Fin 512 → Fin 1408 → ℝ} (hP : ∀ (a : Fin 512) (k : Fin 1408), View.canon L (ix2 a k) = (P a k : EReal)) (a : Fin 512) (k : Fin 1408) :
    (v.readCov L (Rect.unit (s := S512x1408) ![0, 0] ![512, 1408] inb_S512x1408_S512x1408_0_0).toLoadRect : Vec Ideal S512x1408 .bf16) (ix2 a k)
      = (P a k : EReal) := by
  rw [View.readCov_eq_canon']
  refine Eq.trans (congrArg _ ?_) (hP a k)
  funext j
  match j with
  | ⟨0, _⟩ => exact Fin.ext (by simp)
  | ⟨1, _⟩ => exact Fin.ext (by simp)

/-! ### The projections' transposes and the norm -/

section
variable {p q : FVec Ideal S512x1408 .bf16} {wg wu : FVec Ideal S1408x1024 .bf16} {s : FVec Ideal S512x1024 .f32}
  {x y : FVec Ideal S512x1024 .f32} {g : FVec Ideal S1x1024 .f32}
  {P Q : Fin 512 → Fin 1408 → ℝ} {WG WU : Fin 1408 → Fin 1024 → ℝ} {S X Y : Fin 512 → Fin 1024 → ℝ} {G : Fin 1024 → ℝ}

/-- One half of the hidden units' part of the cotangent of the normed rows. -/
theorem half_ker (hp : ∀ r f, p (ix2 r f) = (P r f : EReal)) (hg : ∀ f l, wg (ix2 f l) = (WG f l : EReal))
    (hq : ∀ r f, q (ix2 r f) = (Q r f : EReal)) (hu : ∀ f l, wu (ix2 f l) = (WU f l : EReal)) (r : Fin 512) (l : Fin 1024) :
    k0_pay2 (F := Ideal) p wg q wu (ix2 r l) = (((∑ f, P r f * WG f l) + ∑ f, Q r f * WU f l : ℝ) : EReal) := by
  pointwise [k0_pay2, hp, hg, hq, hu]
  simp only [← EReal.coe_mul, coe_sum, ← EReal.coe_add]

theorem first_ker (hp : ∀ r f, p (ix2 r f) = (P r f : EReal)) (hg : ∀ f l, wg (ix2 f l) = (WG f l : EReal))
    (hq : ∀ r f, q (ix2 r f) = (Q r f : EReal)) (hu : ∀ f l, wu (ix2 f l) = (WU f l : EReal)) (r : Fin 512) (l : Fin 1024) :
    k0_pay3 (F := Ideal) p wg q wu (ix2 r l) = (((∑ f, P r f * WG f l) + ∑ f, Q r f * WU f l : ℝ) : EReal) := by
  pointwise [k0_pay3, half_ker hp hg hq hu]

theorem rms_ker (hx : ∀ a l, x (ix2 a l) = (X a l : EReal)) (a : Fin 512) (u : Fin 1) :
    k0_pay5 (F := Ideal) x (ix2 a u) = (rr 1024 (X a) : EReal) := by
  pointwise [k0_pay5, hx]
  rw [ms_coe_1024 (X a), rsqrt_ms N1024]

theorem unit_ker (hx : ∀ a l, x (ix2 a l) = (X a l : EReal)) (a : Fin 512) (l : Fin 1024) :
    k0_pay6 (F := Ideal) x (ix2 a l) = ((X a l * rr 1024 (X a) : ℝ) : EReal) := by
  pointwise [k0_pay6, hx, rms_ker hx]
  rw [← EReal.coe_mul]

variable {d e : FVec Ideal S512x1024 .f32} {D E : Fin 512 → Fin 1024 → ℝ}

/-- One tile's part of the gradient of the gain. -/
theorem dg_ker (hd : ∀ a l, d (ix2 a l) = (D a l : EReal)) (he : ∀ a l, e (ix2 a l) = (E a l : EReal)) (hx : ∀ a l, x (ix2 a l) = (X a l : EReal))
    (acc : FVec Ideal S1x1024 .f32) (j : Fin 1) (l : Fin 1024) :
    k0_pay7 (F := Ideal) d e x acc (ix2 j l) = acc (ix2 j l) + ((∑ a, X a l * rr 1024 (X a) * (E a l + D a l) : ℝ) : EReal) := by
  obtain rfl : j = 0 := Subsingleton.elim _ _
  pointwise [k0_pay7, k0_pay4, hd, he, unit_ker hx]
  simp only [← EReal.coe_mul, coe_sum, ← EReal.coe_add]
  congr 2
  exact Finset.sum_congr rfl fun a _ => mul_comm _ _

theorem dx_ker (hd : ∀ a l, d (ix2 a l) = (D a l : EReal)) (he : ∀ a l, e (ix2 a l) = (E a l : EReal)) (hx : ∀ a l, x (ix2 a l) = (X a l : EReal))
    (hy : ∀ a l, y (ix2 a l) = (Y a l : EReal)) (hg : ∀ l, g (ix2 0 l) = (G l : EReal)) (a : Fin 512) (l : Fin 1024) :
    k0_pay8 (F := Ideal) d e x y g (ix2 a l) = ((Y a l + dnorm 1024 (X a) (fun l => (E a l + D a l) * G l) l : ℝ) : EReal) := by
  pointwise [k0_pay8, k0_pay4, hd, he, unit_ker hx, rms_ker hx, hy, hg]
  simp only [← EReal.coe_mul, coe_sum, div_1024, ← EReal.coe_sub, ← EReal.coe_add]
  rfl

end

end Cert.Ffn
-- ==== Proof.FfnVal.lean ====
/- The backward kernel of the feed-forward layer: what its result arrays hold after the run. -/
module

public import proofs.«01_k».proof.Proof.FfnKer
public import proofs.«01_k».proof.Proof.Gen.Kernel3Ideal.Value
public import Idealize.ShloMosaic.Lib.Pipeline.ReadBack

@[expose] public section

set_option maxRecDepth 16384

noncomputable section

namespace Cert.Ffn

open Idealize.ShloMosaic Idealize.ShloMosaic.TcCoe Idealize.SL.Sem
open Idealize.ShloMosaic.Pipeline (Dat)
open Cert.Kernel3Ideal Cert.Kernel3Ideal.Gen Cert.Reals

variable (m : (ℓ : Loc nD τ sig) → Buf (Elt Ideal) ℓ) (c : Dev nD)

/-- The block indices at every grid point. -/
theorem idx : ∀ t : Fin cfg0.N, win0_0.index t = ![t.val / 2, 0] ∧ win0_1.index t = ![t.val / 2, t.val % 2] ∧ win0_2.index t = ![t.val / 2, t.val % 2]
    ∧ win0_3.index t = ![t.val / 2, 0] ∧ win0_4.index t = ![0, 0] ∧ win0_5.index t = ![t.val % 2, 0] ∧ win0_6.index t = ![t.val % 2, 0]
    ∧ win0_7.index t = ![t.val % 2, 0] ∧ win0_8.index t = ![t.val / 2, t.val % 2] ∧ win0_9.index t = ![t.val / 2, t.val % 2]
    ∧ win0_10.index t = ![t.val / 2, 0] ∧ win0_11.index t = ![t.val / 2, 0] ∧ win0_12.index t = ![0, 0] ∧ t.val < 32 :=
  (by decide +kernel : ∀ t : Fin grid0.N, _)

theorem lt_32 (t : Fin cfg0.N) : t.val < 32 := (idx t).2.2.2.2.2.2.2.2.2.2.2.2.2

/-- The row tile of a grid point. -/
def tile (t : Fin cfg0.N) : Fin 16 := ⟨t.val / 2, by have := lt_32 t; omega⟩

/-- The half of the hidden units of a grid point. -/
def half (t : Fin cfg0.N) : Fin 2 := ⟨t.val % 2, by omega⟩

/-- Row `a` of row tile `t`. -/
def row (t : Fin 16) (a : Fin 512) : Fin 8192 := ⟨512 * t.val + a.val, by omega⟩

/-- Hidden unit `f` of half `h`. -/
def col (h : Fin 2) (f : Fin 1408) : Fin 2816 := ⟨1408 * h.val + f.val, by omega⟩

theorem row_tile (t : Fin cfg0.N) (a : Fin 512) : (row (tile t) a).val = 512 * (t.val / 2) + a.val := rfl

theorem col_half (t : Fin cfg0.N) (f : Fin 1408) : (col (half t) f).val = 1408 * (t.val % 2) + f.val := rfl

/-- The grid point before. -/
def before (t : Fin cfg0.N) : Fin cfg0.N := ⟨t.val - 1, Nat.lt_of_le_of_lt (Nat.sub_le _ _) t.isLt⟩

theorem tile_before {t : Fin cfg0.N} (h : t.val % 2 = 1) : tile (before t) = tile t := Fin.ext (by show (t.val - 1) / 2 = t.val / 2; omega)

theorem half_before {t : Fin cfg0.N} (h : t.val % 2 = 1) : half (before t) = 0 := Fin.ext (by show (t.val - 1) % 2 = 0; omega)

theorem half_one {t : Fin cfg0.N} (h : t.val % 2 = 1) : half t = 1 := Fin.ext h

/-! ### The input blocks -/

theorem blk_dy (t : Fin cfg0.N) (a : Fin 512) (l : Fin 1024) :
    (iblk m c 0 t : FVec Ideal S512x1024 .f32) (ix2 a l) = (m ((c : Thread nD τ).loc main_arg5) : FVec Ideal S8192x1024 .f32) (ix2 (row (tile t) a) l) := by
  blk_point [iblk, V, idx t, row_tile]

theorem blk_x (t : Fin cfg0.N) (a : Fin 512) (l : Fin 1024) :
    (iblk m c 3 t : FVec Ideal S512x1024 .f32) (ix2 a l) = (m ((c : Thread nD τ).loc main_arg0) : FVec Ideal S8192x1024 .f32) (ix2 (row (tile t) a) l) := by
  blk_point [iblk, V, idx t, row_tile]

theorem blk_g (t : Fin cfg0.N) (l : Fin 1024) :
    (iblk m c 4 t : FVec Ideal S1x1024 .f32) (ix2 0 l) = (m ((c : Thread nD τ).loc main_arg1) : FVec Ideal S1x1024 .f32) (ix2 0 l) := by
  blk_point [iblk, V, idx t]

theorem blk_wg (t : Fin cfg0.N) (f : Fin 1408) (l : Fin 1024) :
    (iblk m c 5 t : FVec Ideal S1408x1024 .bf16) (ix2 f l) = (m ((c : Thread nD τ).loc main_arg2) : FVec Ideal S1024x2816 .f32) (ix2 l (col (half t) f)) := by
  blk_point [iblk, V, idx t, col_half]

theorem blk_wu (t : Fin cfg0.N) (f : Fin 1408) (l : Fin 1024) :
    (iblk m c 6 t : FVec Ideal S1408x1024 .bf16) (ix2 f l) = (m ((c : Thread nD τ).loc main_arg3) : FVec Ideal S1024x2816 .f32) (ix2 l (col (half t) f)) := by
  blk_point [iblk, V, idx t, col_half]

theorem blk_wd (t : Fin cfg0.N) (f : Fin 1408) (l : Fin 1024) :
    (iblk m c 7 t : FVec Ideal S1408x1024 .bf16) (ix2 f l) = (m ((c : Thread nD τ).loc main_arg4) : FVec Ideal S2816x1024 .f32) (ix2 (col (half t) f) l) := by
  blk_point [iblk, V, idx t, col_half]

section
variable {X : S8192x1024.Idx → ℝ} {G : S1x1024.Idx → ℝ} {W WG WU : S1024x2816.Idx → ℝ} {WD : S2816x1024.Idx → ℝ} {DY : S8192x1024.Idx → ℝ}

theorem blk_a (hX : m ((c : Thread nD τ).loc main_arg0) = fun i => (X i : EReal)) (hG : m ((c : Thread nD τ).loc main_arg1) = fun i => (G i : EReal))
    (hW : m ((c : Thread nD τ).loc main_arg2) = fun i => (W i : EReal)) (t : Fin cfg0.N) (a : Fin 512) (f : Fin 1408) :
    (iblk m c 1 t : FVec Ideal S512x1408 .bf16) (ix2 a f) = (proj X G W (row (tile t) a) (col (half t) f) : EReal) := by
  blk_simp [iblk, V, idx t]
  entry_read
  refine Eq.trans ?_ (gate_ref X G W (row (tile t) a) (col (half t) f))
  change Cert.Reference3Ideal.Read.val_main_v15 (F := Ideal) (m ((c : Thread nD τ).loc main_arg0)) (m ((c : Thread nD τ).loc main_arg1))
    (m ((c : Thread nD τ).loc main_arg2)) _ = _
  rw [hX, hG, hW]
  refine congrArg _ ?_
  blk_ext [idx t, row_tile, col_half]

theorem blk_b (hX : m ((c : Thread nD τ).loc main_arg0) = fun i => (X i : EReal)) (hG : m ((c : Thread nD τ).loc main_arg1) = fun i => (G i : EReal))
    (hW : m ((c : Thread nD τ).loc main_arg3) = fun i => (W i : EReal)) (t : Fin cfg0.N) (a : Fin 512) (f : Fin 1408) :
    (iblk m c 2 t : FVec Ideal S512x1408 .bf16) (ix2 a f) = (proj X G W (row (tile t) a) (col (half t) f) : EReal) := by
  blk_simp [iblk, V, idx t]
  entry_read
  refine Eq.trans ?_ (up_ref X G W (row (tile t) a) (col (half t) f))
  change Cert.Reference3Ideal.Read.val_main_v16 (F := Ideal) (m ((c : Thread nD τ).loc main_arg0)) (m ((c : Thread nD τ).loc main_arg1))
    (m ((c : Thread nD τ).loc main_arg3)) _ = _
  rw [hX, hG, hW]
  refine congrArg _ ?_
  blk_ext [idx t, row_tile, col_half]

/-! ### The result arrays -/

/-- The arguments are these reals. -/
structure Args (X : S8192x1024.Idx → ℝ) (G : S1x1024.Idx → ℝ) (WG WU : S1024x2816.Idx → ℝ) (WD : S2816x1024.Idx → ℝ) (DY : S8192x1024.Idx → ℝ) : Prop where
  x : m ((c : Thread nD τ).loc main_arg0) = fun i => (X i : EReal)
  g : m ((c : Thread nD τ).loc main_arg1) = fun i => (G i : EReal)
  wg : m ((c : Thread nD τ).loc main_arg2) = fun i => (WG i : EReal)
  wu : m ((c : Thread nD τ).loc main_arg3) = fun i => (WU i : EReal)
  wd : m ((c : Thread nD τ).loc main_arg4) = fun i => (WD i : EReal)
  dy : m ((c : Thread nD τ).loc main_arg5) = fun i => (DY i : EReal)

/-- A half of the hidden units' part of the cotangent of the normed rows. -/
def part (X : S8192x1024.Idx → ℝ) (G : S1x1024.Idx → ℝ) (WG WU : S1024x2816.Idx → ℝ) (WD : S2816x1024.Idx → ℝ) (DY : S8192x1024.Idx → ℝ)
    (h : Fin 2) (r : Fin 8192) (l : Fin 1024) : ℝ :=
  (∑ f, da X G WG WU WD DY r (col h f) * WG (ix2 l (col h f))) + ∑ f, db X G WG WD DY r (col h f) * WU (ix2 l (col h f))

theorem sum_halves (f : Fin 2816 → ℝ) : ∑ k, f k = (∑ k, f (col 0 k)) + ∑ k, f (col 1 k) := by
  refine (Fin.sum_univ_add (a := 1408) (b := 1408) f).trans (congrArg₂ (· + ·) ?_ ?_)
  · exact Finset.sum_congr rfl fun k _ => congrArg f (Fin.ext (by show k.val = 1408 * 0 + k.val; omega))
  · exact Finset.sum_congr rfl fun k _ => congrArg f (Fin.ext (by show 1408 + k.val = 1408 * 1 + k.val; omega))

theorem parts_eq (r : Fin 8192) (l : Fin 1024) :
    part X G WG WU WD DY 0 r l + part X G WG WU WD DY 1 r l = dhid X G WG WU WD DY r l := by
  unfold part dhid
  rw [sum_halves fun f => da X G WG WU WD DY r f * WG (ix2 l f), sum_halves fun f => db X G WG WD DY r f * WU (ix2 l f)]
  ring

variable {m c} (H : Args m c X G WG WU WD DY)
include H

theorem hx (t : Fin cfg0.N) (a : Fin 512) (l : Fin 1024) : (iblk m c 3 t : FVec Ideal S512x1024 .f32) (ix2 a l) = (X (ix2 (row (tile t) a) l) : EReal) :=
  (blk_x m c t a l).trans (congrFun H.x _)

theorem hdy (t : Fin cfg0.N) (a : Fin 512) (l : Fin 1024) : (iblk m c 0 t : FVec Ideal S512x1024 .f32) (ix2 a l) = (DY (ix2 (row (tile t) a) l) : EReal) :=
  (blk_dy m c t a l).trans (congrFun H.dy _)

theorem hwd (t : Fin cfg0.N) (f : Fin 1408) (l : Fin 1024) :
    (iblk m c 7 t : FVec Ideal S1408x1024 .bf16) (ix2 f l) = (WD (ix2 (col (half t) f) l) : EReal) :=
  (blk_wd m c t f l).trans (congrFun H.wd _)

theorem hwg (t : Fin cfg0.N) (f : Fin 1408) (l : Fin 1024) :
    (iblk m c 5 t : FVec Ideal S1408x1024 .bf16) (ix2 f l) = (WG (ix2 l (col (half t) f)) : EReal) :=
  (blk_wg m c t f l).trans (congrFun H.wg _)

theorem hwu (t : Fin cfg0.N) (f : Fin 1408) (l : Fin 1024) :
    (iblk m c 6 t : FVec Ideal S1408x1024 .bf16) (ix2 f l) = (WU (ix2 l (col (half t) f)) : EReal) :=
  (blk_wu m c t f l).trans (congrFun H.wu _)

theorem hg (t : Fin cfg0.N) (l : Fin 1024) : (iblk m c 4 t : FVec Ideal S1x1024 .f32) (ix2 0 l) = (G (ix2 0 l) : EReal) :=
  (blk_g m c t l).trans (congrFun H.g _)

/-- The pieces stored at a grid point are a tile of the gate's cotangent. -/
theorem hda (t : Fin cfg0.N) (a : Fin 512) (f : Fin 1408) :
    View.canon (daParts (iblk m c 0 t) (iblk m c 7 t) (iblk m c 1 t) (iblk m c 2 t)) (ix2 a f)
      = (da X G WG WU WD DY (row (tile t) a) (col (half t) f) : EReal) :=
  da_parts (hdy H t) (hwd H t) (blk_a m c H.x H.g H.wg t) (blk_b m c H.x H.g H.wu t) a f

/-- … of the other projection's cotangent. -/
theorem hdb (t : Fin cfg0.N) (a : Fin 512) (f : Fin 1408) :
    View.canon (dbParts (iblk m c 0 t) (iblk m c 7 t) (iblk m c 1 t)) (ix2 a f) = (db X G WG WD DY (row (tile t) a) (col (half t) f) : EReal) :=
  db_parts (hdy H t) (hwd H t) (blk_a m c H.x H.g H.wg t) a f

/-- A grid point's part of the cotangent of the normed rows. -/
theorem hpart (t : Fin cfg0.N) (a : Fin 512) (l : Fin 1024) :
    k0_pay2 (F := Ideal)
        ((ms0_8 t).view.readCov (daParts (iblk m c 0 t) (iblk m c 7 t) (iblk m c 1 t) (iblk m c 2 t))
          (Rect.unit (s := S512x1408) ![0, 0] ![512, 1408] inb_S512x1408_S512x1408_0_0).toLoadRect)
        (iblk m c 5 t)
        ((ms0_9 t).view.readCov (dbParts (iblk m c 0 t) (iblk m c 7 t) (iblk m c 1 t))
          (Rect.unit (s := S512x1408) ![0, 0] ![512, 1408] inb_S512x1408_S512x1408_0_0).toLoadRect)
        (iblk m c 6 t) (ix2 a l)
      = (part X G WG WU WD DY (half t) (row (tile t) a) l : EReal) :=
  half_ker (load_parts _ (hda H t)) (hwg H t) (load_parts _ (hdb H t)) (hwu H t) a l

/-- What the first half's point leaves in the scratch. -/
theorem hscratch (t : Fin cfg0.N) (ht : t.val % 2 = 0) (a : Fin 512) (l : Fin 1024) :
    ((outsAt0 m c t.val t.isLt).2.2.2.2.2 : FVec Ideal S512x1024 .f32) (ix2 a l) = (part X G WG WU WD DY (half t) (row (tile t) a) l : EReal) := by
  have h := first_ker (load_parts (ms0_8 t).view (hda H t)) (hwg H t) (load_parts (ms0_9 t).view (hdb H t)) (hwu H t) a l
  by_cases h0 : t.val % 32 = 0
  · rw [outsAt0_A m c t h0 ht (by omega)]; frame_out; exact h
  · rw [outsAt0_C m c t h0 ht (by omega)]; frame_out; exact h

/-- … and the second half's point reads there. -/
theorem hbefore (t : Fin cfg0.N) (ht : t.val % 2 = 1) (a : Fin 512) (l : Fin 1024) :
    ((outsAt0 m c (t.val - 1) (Nat.lt_of_le_of_lt (Nat.sub_le _ _) t.isLt)).2.2.2.2.2 : FVec Ideal S512x1024 .f32) (ix2 a l)
      = (part X G WG WU WD DY 0 (row (tile t) a) l : EReal) := by
  have h := hscratch H (before t) (by show (t.val - 1) % 2 = 0; omega) a l
  rw [tile_before ht, half_before ht] at h
  exact h

/-- The cotangent of the gate's projection. -/
theorem final_da :
    (dats m 0 c).arrAt 8 cfg0.N = Cert.Reference3Ideal.Read.val_main_v49 (F := Ideal) (fun i => (X i : EReal)) (fun i => (G i : EReal)) (fun i => (WG i : EReal))
      (fun i => (WU i : EReal)) (fun i => (WD i : EReal)) (fun i => (DY i : EReal)) := by
  refine (dats m 0 c).arrAt_eq_of_covers 8 _ (by decide +kernel) fun t _ y => ?_
  blk_simp
  rw [after0_8]
  idx_vars y
  refine Eq.trans ?_ ((da_ref X G WG WU WD DY (row (tile t) y0) (col (half t) y1)).symm.trans (congrArg _ ?_))
  · have h := hda H t y0 y1
    by_cases h0 : t.val % 32 = 0
    · rw [outsAt0_A m c t h0 (by omega) (by omega)]; frame_out; exact h
    · by_cases h1 : t.val % 2 = 0
      · rw [outsAt0_C m c t h0 h1 (by omega)]; frame_out; exact h
      · rw [outsAt0_B m c t h0 h1 (by omega)]; frame_out; exact h
  · blk_ext [idx t, row_tile, col_half]

/-- The cotangent of the other projection. -/
theorem final_db :
    (dats m 0 c).arrAt 9 cfg0.N = Cert.Reference3Ideal.Read.val_main_v50 (F := Ideal) (fun i => (X i : EReal)) (fun i => (G i : EReal)) (fun i => (WG i : EReal))
      (fun i => (WD i : EReal)) (fun i => (DY i : EReal)) := by
  refine (dats m 0 c).arrAt_eq_of_covers 9 _ (by decide +kernel) fun t _ y => ?_
  blk_simp
  rw [after0_9]
  idx_vars y
  refine Eq.trans ?_ ((db_ref X G WG WD DY (row (tile t) y0) (col (half t) y1)).symm.trans (congrArg _ ?_))
  · have h := hdb H t y0 y1
    by_cases h0 : t.val % 32 = 0
    · rw [outsAt0_A m c t h0 (by omega) (by omega)]; frame_out; exact h
    · by_cases h1 : t.val % 2 = 0
      · rw [outsAt0_C m c t h0 h1 (by omega)]; frame_out; exact h
      · rw [outsAt0_B m c t h0 h1 (by omega)]; frame_out; exact h
  · blk_ext [idx t, row_tile, col_half]

omit H in
/-- The rows' gradient is written back after the second half. -/
theorem flush_odd : ∀ t : Fin cfg0.N, ((cfg0.win 10).flush t = true → t.val % 2 = 1) ∧ ((cfg0.win 11).flush t = true → t.val % 2 = 1) :=
  (by decide +kernel : ∀ t : Fin grid0.N, _)

/-- The tile of the rows' gradient a second half's point computes. -/
theorem hdx (t : Fin cfg0.N) (ht : t.val % 2 = 1) (a : Fin 512) (l : Fin 1024) :
    k0_pay8 (F := Ideal)
        (k0_pay2 (F := Ideal)
          ((ms0_8 t).view.readCov (daParts (iblk m c 0 t) (iblk m c 7 t) (iblk m c 1 t) (iblk m c 2 t))
            (Rect.unit (s := S512x1408) ![0, 0] ![512, 1408] inb_S512x1408_S512x1408_0_0).toLoadRect)
          (iblk m c 5 t)
          ((ms0_9 t).view.readCov (dbParts (iblk m c 0 t) (iblk m c 7 t) (iblk m c 1 t))
            (Rect.unit (s := S512x1408) ![0, 0] ![512, 1408] inb_S512x1408_S512x1408_0_0).toLoadRect)
          (iblk m c 6 t))
        (outsAt0 m c (t.val - 1) (Nat.lt_of_le_of_lt (Nat.sub_le _ _) t.isLt)).2.2.2.2.2 (iblk m c 3 t) (iblk m c 0 t) (iblk m c 4 t) (ix2 a l)
      = ((DY (ix2 (row (tile t) a) l) + dnorm 1024 (fun k => X (ix2 (row (tile t) a) k))
          (fun k => dhid X G WG WU WD DY (row (tile t) a) k * G (ix2 0 k)) l : ℝ) : EReal) := by
  refine (dx_ker (hpart H t) (hbefore H t ht) (hx H t) (hdy H t) (hg H t) a l).trans ?_
  simp only [half_one ht, parts_eq]

/-- The gradient of the rows. -/
theorem final_dx :
    (dats m 0 c).arrAt 10 cfg0.N = Cert.Reference3Ideal.Read.val_main_v48 (F := Ideal) (fun i => (X i : EReal)) (fun i => (G i : EReal)) (fun i => (WG i : EReal))
      (fun i => (WU i : EReal)) (fun i => (WD i : EReal)) (fun i => (DY i : EReal)) := by
  refine (dats m 0 c).arrAt_eq_of_covers 10 _ (by decide +kernel) fun t hf y => ?_
  have ht := (flush_odd t).1 hf
  blk_simp
  rw [after0_10]
  idx_vars y
  refine Eq.trans ?_ ((dx_ref X G WG WU WD DY (row (tile t) y0) y1).symm.trans (congrArg _ ?_))
  · rw [outsAt0_B m c t (by omega) (by omega) ht]; frame_out
    rw [read_unread_whole]
    exact hdx H t ht y0 y1
  · blk_ext [idx t, row_tile]

/-- The gradient of the rows, cast. -/
theorem final_dxb :
    (dats m 0 c).arrAt 11 cfg0.N = Cert.Reference3Ideal.Read.val_main_v51 (F := Ideal) (fun i => (X i : EReal)) (fun i => (G i : EReal)) (fun i => (WG i : EReal))
      (fun i => (WU i : EReal)) (fun i => (WD i : EReal)) (fun i => (DY i : EReal)) := by
  refine (dats m 0 c).arrAt_eq_of_covers 11 _ (by decide +kernel) fun t hf y => ?_
  have ht := (flush_odd t).2 hf
  blk_simp
  rw [after0_11]
  idx_vars y
  refine Eq.trans ?_ ((dx_ref X G WG WU WD DY (row (tile t) y0) y1).symm.trans (congrArg _ ?_))
  · rw [outsAt0_B m c t (by omega) (by omega) ht]; frame_out
    rw [read_unread_whole]
    exact hdx H t ht y0 y1
  · blk_ext [idx t, row_tile]

omit H in
/-- A sum over the second halves' points of the tiles' rows is a sum over all rows. -/
theorem sum_rows (p : Fin 32 → Fin cfg0.N) (hp : ∀ s, (p s).val = s.val) (f : Fin 8192 → ℝ) :
    (∑ s, if (p s).val % 2 = 0 then (0 : EReal) else ((∑ a : Fin 512, f (row (tile (p s)) a) : ℝ) : EReal)) = ((∑ r, f r : ℝ) : EReal) := by
  have e : ∀ g : Fin 16 → EReal, (∑ s, if (p s).val % 2 = 0 then (0 : EReal) else g (tile (p s))) = ∑ t, g t := by
    intro g
    refine (Fin.sum_mul_add_congr (F := fun (t : Fin 16) (a : Fin 2) => if a.val = 0 then (0 : EReal) else g t) fun t a hl => ?_).symm.trans ?_
    · have h2 : (t.val * 2 + a.val) % 2 = a.val := by omega
      have ht : tile (p ⟨t.val * 2 + a.val, hl⟩) = t := Fin.ext (by show (p _).val / 2 = _; rw [hp]; show (t.val * 2 + a.val) / 2 = _; omega)
      rw [ht, hp]
      simp only [h2]
    · simp
  rw [e fun t => ((∑ a : Fin 512, f (row t a) : ℝ) : EReal), coe_sum]
  refine congrArg _ (Fin.sum_mul_add_congr (fun t a hl => congrArg f (Fin.ext ?_)) (by norm_num))
  show 512 * t.val + a.val = _
  rw [mul_comm]

/-- The gradient of the gain. -/
theorem final_dg :
    (dats m 0 c).arrAt 12 cfg0.N = Cert.Reference3Ideal.Read.val_main_v31 (F := Ideal) (fun i => (X i : EReal)) (fun i => (G i : EReal)) (fun i => (WG i : EReal))
      (fun i => (WU i : EReal)) (fun i => (WD i : EReal)) (fun i => (DY i : EReal)) := by
  refine (dats m 0 c).arrAt_eq_of_covers 12 _ (by decide +kernel) fun t hf y => ?_
  blk_simp
  rw [after0_12, Pipeline.eq_sum_fin_of_reset_step_apply_of_flush (fun n h => (outsAt0 m c n h).2.2.2.2.1) 32 (fun _ => (0 : EReal))
    (fun t j => if t.val % 2 = 0 then (0 : EReal)
      else ((∑ a : Fin 512, unit X (row (tile t) a) (j 1) * dhid X G WG WU WD DY (row (tile t) a) (j 1) : ℝ) : EReal))
    (fun t h j => by
      rw [outsAt0_A m c t h (by omega) (by omega)]; frame_out; idx_vars j
      rw [if_pos (by omega)]
      pointwise [k0_pay10])
    (fun t h j => by
      by_cases h1 : t.val % 2 = 0
      · rw [outsAt0_C m c t h h1 (by omega)]; frame_out; idx_vars j
        rw [if_pos h1, add_zero]
        rfl
      · have ht : t.val % 2 = 1 := by omega
        rw [outsAt0_B m c t h h1 ht]; frame_out; idx_vars j
        rw [read_unread_whole, if_neg h1]
        refine (dg_ker (hpart H t) (hbefore H t ht) (hx H t) _ j0 j1).trans ?_
        simp only [half_one ht, parts_eq]
        rfl) t ((flush0_12 t).mp hf), zero_add]
  idx_vars y
  obtain rfl : y0 = 0 := Subsingleton.elim _ _
  refine Eq.trans ?_ ((dg_ref X G WG WU WD DY y1).symm.trans (congrArg _ ?_))
  · exact sum_rows (fun s => ⟨32 * (t.val / 32) + s.val, by have := lt_32 t; have := s.isLt; rw [show cfg0.N = 32 from N_0]; omega⟩)
      (fun s => by have := lt_32 t; show 32 * (t.val / 32) + s.val = s.val; omega)
      fun r => unit X r y1 * dhid X G WG WU WD DY r y1
  · blk_ext [idx t]

end

end Cert.Ffn
-- ==== Proof.FfnClaim.lean ====
/- The backward pass of the feed-forward layer: the kernel's five results are the gradients of the forward lines. -/
module

public import proofs.«01_k».proof.Defs
public import proofs.«01_k».proof.Proof.FfnVal
public import proofs.«01_k».proof.Proof.Gen.Pre_pre3
public import proofs.«01_k».proof.Proof.Gen.Reference3Ideal.Run
public import Idealize.ShloMosaic.Lib.Quiescent

@[expose] public section

set_option maxRecDepth 16384

noncomputable section

namespace Cert.Ffn

open Idealize.ShloMosaic Idealize.ShloMosaic.TcCoe Idealize.SL.Sem
open Cert.Kernel3Ideal Cert.Kernel3Ideal.Gen Cert.Reals

/-- Under the precondition every argument is an array of real numbers. -/
theorem args_real {x0 x5 : FVec Ideal Cert.Pre_pre3.S8192x1024 .f32} {x1 : FVec Ideal Cert.Pre_pre3.S1x1024 .f32}
    {x2 x3 : FVec Ideal Cert.Pre_pre3.S1024x2816 .f32} {x4 : FVec Ideal Cert.Pre_pre3.S2816x1024 .f32}
    (h : Cert.Pre_pre3.fn (F := Ideal) x0 x1 x2 x3 x4 x5 = fun _ => 1#1) :
    (∃ X : Cert.Pre_pre3.S8192x1024.Idx → ℝ, x0 = fun i => (X i : EReal)) ∧ (∃ G : Cert.Pre_pre3.S1x1024.Idx → ℝ, x1 = fun i => (G i : EReal))
      ∧ (∃ WG : Cert.Pre_pre3.S1024x2816.Idx → ℝ, x2 = fun i => (WG i : EReal)) ∧ (∃ WU : Cert.Pre_pre3.S1024x2816.Idx → ℝ, x3 = fun i => (WU i : EReal))
      ∧ (∃ WD : Cert.Pre_pre3.S2816x1024.Idx → ℝ, x4 = fun i => (WD i : EReal))
      ∧ (∃ DY : Cert.Pre_pre3.S8192x1024.Idx → ℝ, x5 = fun i => (DY i : EReal)) := by
  have i0 : Cert.Pre_pre3.S_.Idx := fun a => a.elim0
  have e := congrFun h i0
  unfold Cert.Pre_pre3.fn Cert.Pre_pre3.fn_part1 at e
  obtain ⟨e, e5⟩ := IntOp.andi_eq_one.mp e
  obtain ⟨e, e4⟩ := IntOp.andi_eq_one.mp e
  obtain ⟨e, e3⟩ := IntOp.andi_eq_one.mp e
  obtain ⟨e, e2⟩ := IntOp.andi_eq_one.mp e
  obtain ⟨e, e1⟩ := IntOp.andi_eq_one.mp e
  obtain ⟨-, e0⟩ := IntOp.andi_eq_one.mp e
  exact ⟨finite_reals _ _ (fun _ => ofBits_inf) _ _ _ _ e0, finite_reals _ _ (fun _ => ofBits_inf) _ _ _ _ e1,
    finite_reals _ _ (fun _ => ofBits_inf) _ _ _ _ e2, finite_reals _ _ (fun _ => ofBits_inf) _ _ _ _ e3,
    finite_reals _ _ (fun _ => ofBits_inf) _ _ _ _ e4, finite_reals _ _ (fun _ => ofBits_inf) _ _ _ _ e5⟩

set_option maxHeartbeats 1000000 in
/-- The kernel's results are the reference's, from equal arguments that are all finite. -/
theorem algebraic : Cert.algebraic_Kernel3Ideal_Reference3Ideal_pre_pre3 := by
  intro m g m' g' hpre hagree
  refine ⟨_, _, _, _, _, Cert.Kernel3Ideal.Value.run_blocks m g, (θ_run _ _ _).mono ?_ (Cert.Reference3Ideal.Value.run m' g')⟩
  intro r h c
  obtain ⟨a0, a1, a2, a3, a4, a5⟩ := hagree c
  obtain ⟨⟨X, hX⟩, ⟨G, hG⟩, ⟨WG, hWG⟩, ⟨WU, hWU⟩, ⟨WD, hWD⟩, ⟨DY, hDY⟩⟩ := args_real (hpre c)
  have H : Args m c X G WG WU WD DY := ⟨hX, hG, hWG, hWU, hWD, hDY⟩
  obtain ⟨r0, r1, r2, r3, r4, k⟩ := h c
  refine ⟨r0.trans ?_, r1.trans ?_, r2.trans ?_, r3.trans ?_, r4.trans ?_, k⟩
  · rw [Cert.Reference3Ideal.Read.val_main_v49_eq m' c, a0, a1, a2, a3, a4, a5, hX, hG, hWG, hWU, hWD, hDY]
    exact (final_da H).symm
  · refine (Cert.Reference3Ideal.Read.val_main_v50_eq _ _ _ _ _).trans ?_
    rw [a0, a1, a2, a4, a5, hX, hG, hWG, hWD, hDY]
    exact (final_db H).symm
  · rw [Cert.Reference3Ideal.Read.val_main_v48_eq m' c, a0, a1, a2, a3, a4, a5, hX, hG, hWG, hWU, hWD, hDY]
    exact (final_dx H).symm
  · rw [Cert.Reference3Ideal.Read.val_main_v51_eq m' c, a0, a1, a2, a3, a4, a5, hX, hG, hWG, hWU, hWD, hDY]
    exact (final_dxb H).symm
  · rw [Cert.Reference3Ideal.Read.val_main_v31_eq m' c, a0, a1, a2, a3, a4, a5, hX, hG, hWG, hWU, hWD, hDY]
    exact (final_dg H).symm

/-- The reference runs and leaves its arguments as they were. -/
theorem frame_reference : Cert.quiescent_Reference3Ideal := by
  intro m g _
  exact (θ_run Cert.Reference3Ideal.defs _ _).mono (fun r h => ⟨fun c => (h c).2.2.2.2.2,
      Idealize.ShloMosaic.sem_eq_zero_of_no_sems (by decide) r.2⟩) (Cert.Reference3Ideal.Value.run (F := Ideal) m g)

end Cert.Ffn
-- ==== Proof.FwdVal.lean ====
/- The feed-forward layer and the loss: what the kernel's result arrays hold after the run, and what the reference's results are. -/
module

public import proofs.«01_k».proof.Proof.Reals
public import proofs.«01_k».proof.Proof.Gen.Kernel4Ideal.Value
public import proofs.«01_k».proof.Proof.Gen.Reference4Ideal.Read
public import Idealize.ShloMosaic.Lib.Pipeline.ReadBack
public import Idealize.ShloMosaic.Lib.Pipeline.ValueKit
public import Idealize.ShloMosaic.Lib.Ring

@[expose] public section

set_option maxRecDepth 16384

noncomputable section

namespace Cert.Fwd

open Idealize.ShloMosaic Idealize.ShloMosaic.TcCoe Idealize.SL.Sem
open Idealize.ShloMosaic.Pipeline (Dat)
open Cert.Reals

/-! ### The mathematics -/

theorem ofBits_one : Ideal.ofBits .f32 0x3F800000#32 = (1 : EReal) := by
  simp [Ideal.ofBits, Ideal.ieee]; norm_num [← EReal.coe_mul]

theorem ofBits_half : Ideal.ofBits .f32 0x3F000000#32 = ((1 / 2 : ℝ) : EReal) := by
  simp [Ideal.ofBits, Ideal.ieee]; norm_num [← EReal.coe_mul]

theorem ofBits_two : Ideal.ofBits .f32 0x40000000#32 = ((2 : ℝ) : EReal) := by
  simp [Ideal.ofBits, Ideal.ieee]; norm_num [← EReal.coe_mul]

theorem ofBits_1024 : Ideal.ofBits .f32 0x44800000#32 = ((1024 : ℝ) : EReal) := by
  simp [Ideal.ofBits, Ideal.ieee]; norm_num [← EReal.coe_mul]

theorem ofBits_2048 : Ideal.ofBits .f32 0x45000000#32 = ((2048 : ℝ) : EReal) := by
  simp [Ideal.ofBits, Ideal.ieee]; norm_num [← EReal.coe_mul]

theorem ofBits_inv : Ideal.ofBits .f32 0x3A800000#32 = ((1 / 1024 : ℝ) : EReal) := by
  simp [Ideal.ofBits, Ideal.ieee]; norm_num [← EReal.coe_mul]

theorem div_1024 (x : EReal) : Ideal.div x ((1024 : ℝ) : EReal) = x * ((1 / 1024 : ℝ) : EReal) := by
  have h : ((1024 : ℝ) : EReal) ≠ 0 := by norm_num
  rw [Ideal.div, if_neg h, div_eq_mul_inv, ← EReal.coe_inv]
  norm_num

/-- A finite factor that is not negative goes into a sum of any numbers. -/
theorem sum_mul {ι : Type} (s : Finset ι) (f : ι → EReal) (c : ℝ) (hc : 0 ≤ c) : (∑ i ∈ s, f i) * (c : EReal) = ∑ i ∈ s, f i * (c : EReal) := by
  classical
  induction s using Finset.induction_on with
  | empty => simp
  | insert i s hi ih =>
    rw [Finset.sum_insert hi, Finset.sum_insert hi, ← ih]
    exact EReal.right_distrib_of_nonneg_of_ne_top (EReal.coe_nonneg.mpr hc) (EReal.coe_ne_top c) _ _

/-- A projection of a row, at a hidden unit. -/
def proj (x : Fin 1024 → EReal) (w : Fin 1024 → Fin 2816 → EReal) (j : Fin 2816) : EReal := ∑ k, x k * w k j

/-- A hidden unit: the gate's activation times the other projection. -/
def hid (x : Fin 1024 → EReal) (wg wu : Fin 1024 → Fin 2816 → EReal) (j : Fin 2816) : EReal :=
  proj x wg j * Ideal.logistic (proj x wg j) * proj x wu j

/-- The layer's result less the target. -/
def err (x : Fin 1024 → EReal) (wg wu : Fin 1024 → Fin 2816 → EReal) (wd : Fin 2816 → Fin 1024 → EReal) (res target : Fin 1024 → EReal) (n : Fin 1024) : EReal :=
  res n + ∑ j, hid x wg wu j * wd j n - target n

/-! ### The reference -/

section
open Cert.Reference4Ideal Cert.Reference4Ideal.Read

variable (h res : S8192x1024.Idx → EReal) (wg wu : S1024x2816.Idx → EReal) (wd : S2816x1024.Idx → EReal) (target : S8192x1024.Idx → EReal)

/-- The reference's error at a row. -/
def eref (r : Fin 8192) (n : Fin 1024) : EReal :=
  err (fun k => h (ix2 r k)) (fun k j => wg (ix2 k j)) (fun k j => wu (ix2 k j)) (fun j n => wd (ix2 j n)) (fun n => res (ix2 r n)) (fun n => target (ix2 r n)) n

theorem gate_ref (r : Fin 8192) (j : Fin 2816) :
    val_main_v0 (F := Ideal) h wg (ix2 r j) = proj (fun k => h (ix2 r k)) (fun k j => wg (ix2 k j)) j := by
  pointwise [val_main_v0]
  rfl

theorem up_ref (r : Fin 8192) (j : Fin 2816) :
    val_main_v1 (F := Ideal) h wu (ix2 r j) = proj (fun k => h (ix2 r k)) (fun k j => wu (ix2 k j)) j := by
  pointwise [val_main_v1]
  rfl

theorem hid_ref (r : Fin 8192) (j : Fin 2816) :
    val_main_v3 (F := Ideal) h wg wu (ix2 r j) = hid (fun k => h (ix2 r k)) (fun k j => wg (ix2 k j)) (fun k j => wu (ix2 k j)) j := by
  pointwise [val_main_v3, val_main_v2, val_main_call0_v5, val_main_call0_v4, val_main_call0_v3, val_main_call0_v2, val_main_call0_v1,
    val_main_call0_v0, val_main_call0_cst, val_main_call0_cst_0, gate_ref, up_ref, ofBits_one]
  rfl

theorem err_ref (r : Fin 8192) (n : Fin 1024) : val_main_v6 (F := Ideal) h res wg wu wd target (ix2 r n) = eref h res wg wu wd target r n := by
  pointwise [val_main_v6, val_main_v5, val_main_v4, hid_ref]
  rfl

/-- The derivative of half the mean square: the error over the number of columns. -/
theorem dy_ref (r : Fin 8192) (n : Fin 1024) :
    val_main_v20 (F := Ideal) h res wg wu wd target (ix2 r n) = eref h res wg wu wd target r n * ((1 / 1024 : ℝ) : EReal) := by
  pointwise [val_main_v20, val_main_v19, val_main_v18, val_main_v17, val_main_cst_6, val_main_v16, val_main_v15, val_main_cst_4, val_main_cst_5,
    val_main_v9, val_main_v8, val_main_cst, err_ref, ofBits_one, ofBits_half, ofBits_two, ofBits_1024, div_1024]
  rw [← mul_assoc, ← EReal.coe_mul, ← EReal.coe_mul, mul_comm]
  norm_num

/-- The scaled loss is the sum of the squares. -/
theorem loss_ref (i : Fin 8) (j : Fin 128) :
    val_main_v25 (F := Ideal) h res wg wu wd target (ix2 i j)
      = ∑ r, ∑ n, eref h res wg wu wd target r n * eref h res wg wu wd target r n := by
  pointwise [val_main_v25, val_main_v24, val_main_cst_7, val_main_v14, val_main_cst_3, val_main_v13, val_main_cst_2, val_main_v12, val_main_v11,
    val_main_cst_1, val_main_v10, val_main_cst_0, val_main_v7, err_ref, ofBits_half, ofBits_1024, ofBits_2048, div_1024]
  rw [← sum_mul _ _ _ (by norm_num), mul_comm, ← mul_assoc, ← EReal.coe_mul, mul_comm, mul_assoc, ← EReal.coe_mul]
  norm_num

end

/-! ### A tile of the kernel -/

open Cert.Kernel4Ideal Cert.Kernel4Ideal.Gen

/-- The pieces a tile of hidden units is stored in. -/
def parts (h : FVec Ideal S512x1024 .bf16) (wg wu : FVec Ideal S2816x1024 .bf16) : List (View.Piece (Elt Ideal) S512x2816 .bf16) :=
  [⟨Rect.unit (s := S512x2816) ![0, 2560] ![512, 256] inb_S512x2816_S512x256_0_2560, k0_pay1 (F := Ideal) (k0_pay63 (k0_pay7 h) (View.ld wg (Rect.unit (s := S2816x1024) ![2560, 0] ![256, 1024] inb_S2816x1024_S256x1024_2560_0)) (View.ld wu (Rect.unit (s := S2816x1024) ![2560, 0] ![256, 1024] inb_S2816x1024_S256x1024_2560_0)))⟩,
    ⟨Rect.unit (s := S512x2816) ![0, 2304] ![512, 256] inb_S512x2816_S512x256_0_2304, k0_pay58 (F := Ideal) (k0_pay7 h) (View.ld wg (Rect.unit (s := S2816x1024) ![2304, 0] ![256, 1024] inb_S2816x1024_S256x1024_2304_0)) (View.ld wu (Rect.unit (s := S2816x1024) ![2304, 0] ![256, 1024] inb_S2816x1024_S256x1024_2304_0))⟩,
    ⟨Rect.unit (s := S512x2816) ![0, 2048] ![512, 256] inb_S512x2816_S512x256_0_2048, k0_pay53 (F := Ideal) (k0_pay7 h) (View.ld wg (Rect.unit (s := S2816x1024) ![2048, 0] ![256, 1024] inb_S2816x1024_S256x1024_2048_0)) (View.ld wu (Rect.unit (s := S2816x1024) ![2048, 0] ![256, 1024] inb_S2816x1024_S256x1024_2048_0))⟩,
    ⟨Rect.unit (s := S512x2816) ![0, 1792] ![512, 256] inb_S512x2816_S512x256_0_1792, k0_pay48 (F := Ideal) (k0_pay7 h) (k0_pay43 (View.ld wg (Rect.unit (s := S2816x1024) ![1792, 0] ![256, 1024] inb_S2816x1024_S256x1024_1792_0))) (constant S512x256 .f32 0x00000000#32) (View.ld wu (Rect.unit (s := S2816x1024) ![1792, 0] ![256, 1024] inb_S2816x1024_S256x1024_1792_0))⟩,
    ⟨Rect.unit (s := S512x2816) ![0, 1536] ![512, 256] inb_S512x2816_S512x256_0_1536, k0_pay42 (F := Ideal) (k0_pay7 h) (View.ld wg (Rect.unit (s := S2816x1024) ![1536, 0] ![256, 1024] inb_S2816x1024_S256x1024_1536_0)) (View.ld wu (Rect.unit (s := S2816x1024) ![1536, 0] ![256, 1024] inb_S2816x1024_S256x1024_1536_0))⟩,
    ⟨Rect.unit (s := S512x2816) ![0, 1280] ![512, 256] inb_S512x2816_S512x256_0_1280, k0_pay37 (F := Ideal) (k0_pay7 h) (k0_pay33 (k0_pay7 h) (View.ld wg (Rect.unit (s := S2816x1024) ![1280, 0] ![256, 1024] inb_S2816x1024_S256x1024_1280_0))) (View.ld wu (Rect.unit (s := S2816x1024) ![1280, 0] ![256, 1024] inb_S2816x1024_S256x1024_1280_0))⟩,
    ⟨Rect.unit (s := S512x2816) ![0, 1024] ![512, 256] inb_S512x2816_S512x256_0_1024, k0_pay32 (F := Ideal) (k0_pay7 h) (View.ld wg (Rect.unit (s := S2816x1024) ![1024, 0] ![256, 1024] inb_S2816x1024_S256x1024_1024_0)) (View.ld wu (Rect.unit (s := S2816x1024) ![1024, 0] ![256, 1024] inb_S2816x1024_S256x1024_1024_0))⟩,
    ⟨Rect.unit (s := S512x2816) ![0, 768] ![512, 256] inb_S512x2816_S512x256_0_768, k0_pay27 (F := Ideal) (k0_pay23 (k0_pay7 h) (View.ld wg (Rect.unit (s := S2816x1024) ![768, 0] ![256, 1024] inb_S2816x1024_S256x1024_768_0))) (k0_pay24 (k0_pay7 h) (View.ld wu (Rect.unit (s := S2816x1024) ![768, 0] ![256, 1024] inb_S2816x1024_S256x1024_768_0)))⟩,
    ⟨Rect.unit (s := S512x2816) ![0, 512] ![512, 256] inb_S512x2816_S512x256_0_512, k0_pay22 (F := Ideal) (k0_pay7 h) (View.ld wg (Rect.unit (s := S2816x1024) ![512, 0] ![256, 1024] inb_S2816x1024_S256x1024_512_0)) (View.ld wu (Rect.unit (s := S2816x1024) ![512, 0] ![256, 1024] inb_S2816x1024_S256x1024_512_0))⟩,
    ⟨Rect.unit (s := S512x2816) ![0, 256] ![512, 256] inb_S512x2816_S512x256_0_256, k0_pay17 (F := Ideal) (k0_pay13 h (View.ld wg (Rect.unit (s := S2816x1024) ![256, 0] ![256, 1024] inb_S2816x1024_S256x1024_256_0))) (k0_pay14 h (View.ld wu (Rect.unit (s := S2816x1024) ![256, 0] ![256, 1024] inb_S2816x1024_S256x1024_256_0)))⟩,
    ⟨Rect.unit (s := S512x2816) ![0, 0] ![512, 256] inb_S512x2816_S512x256_0_0, k0_pay12 (F := Ideal) h (View.ld wg (Rect.unit (s := S2816x1024) ![0, 0] ![256, 1024] inb_S2816x1024_S256x1024_0_0)) (View.ld wu (Rect.unit (s := S2816x1024) ![0, 0] ![256, 1024] inb_S2816x1024_S256x1024_0_0))⟩]

section
variable (h : FVec Ideal S512x1024 .bf16) (wg wu : FVec Ideal S2816x1024 .bf16)

theorem hid_ker (a : Fin 512) (j : Fin 2816) :
    View.canon (parts h wg wu) (ix2 a j) = hid (fun k => h (ix2 a k)) (fun k j => wg (ix2 j k)) (fun k j => wu (ix2 j k)) j := by
  have hc : ∃ p ∈ parts h wg wu, (ix2 a j : S512x2816.Idx) ∈ p.1.set :=
    View.cover_of_tiledBy _ ![512, 256] (by sl_kernel_rfl) _
  unfold parts at hc ⊢
  canon_tiles x h using hc
  all_goals
    idx_vars x
    obtain rfl : a = x0 := Fin.ext h0
    obtain ⟨j, hj⟩ := j
    replace h1 : j = _ := h1
    subst h1
  all_goals
    pointwise [k0_pay1, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63]
    rfl

/-- A tile stored piece by piece and loaded back whole. -/
theorem load_hid {sig : RefSig} {κ : Kind} {sp : Space} (v : View sig κ sp S512x2816 .bf16) (a : Fin 512) (j : Fin 2816) :
    (v.readCov (parts h wg wu) (Rect.unit (s := S512x2816) ![0, 0] ![512, 2816] inb_S512x2816_S512x2816_0_0).toLoadRect : Vec Ideal S512x2816 .bf16) (ix2 a j)
      = hid (fun k => h (ix2 a k)) (fun k j => wg (ix2 j k)) (fun k j => wu (ix2 j k)) j := by
  rw [View.readCov_eq_canon']
  refine Eq.trans (congrArg _ ?_) (hid_ker h wg wu a j)
  funext j
  match j with
  | ⟨0, _⟩ => exact Fin.ext (by simp)
  | ⟨1, _⟩ => exact Fin.ext (by simp)

end

section
variable {f : FVec Ideal S512x2816 .bf16} {x : Fin 512 → Fin 1024 → EReal} {wg wu : Fin 1024 → Fin 2816 → EReal}
  (hf : ∀ a j, f (ix2 a j) = hid (x a) wg wu j) (res target : FVec Ideal S512x1024 .f32) (wd : FVec Ideal S2816x1024 .bf16)
include hf

theorem err_ker (a : Fin 512) (n : Fin 1024) :
    k0_pay2 (F := Ideal) res f wd target (ix2 a n)
      = err (x a) wg wu (fun j n => wd (ix2 j n)) (fun n => res (ix2 a n)) (fun n => target (ix2 a n)) n := by
  pointwise [k0_pay2, hf]
  rfl

theorem dy_ker (a : Fin 512) (n : Fin 1024) :
    k0_pay3 (F := Ideal) res f wd target (ix2 a n)
      = err (x a) wg wu (fun j n => wd (ix2 j n)) (fun n => res (ix2 a n)) (fun n => target (ix2 a n)) n * ((1 / 1024 : ℝ) : EReal) := by
  have he := err_ker hf res target wd
  pointwise [k0_pay3, he, ofBits_inv]

theorem loss_ker (acc : FVec Ideal S8x128 .f32) (i : Fin 8) (j : Fin 128) :
    k0_pay5 (F := Ideal) res f wd target acc (ix2 i j)
      = acc (ix2 i j) + ∑ a, ∑ n, err (x a) wg wu (fun j n => wd (ix2 j n)) (fun n => res (ix2 a n)) (fun n => target (ix2 a n)) n
          * err (x a) wg wu (fun j n => wd (ix2 j n)) (fun n => res (ix2 a n)) (fun n => target (ix2 a n)) n := by
  have he := err_ker hf res target wd
  pointwise [k0_pay5, he]

end

/-- The pieces the gate's projection is stored in. -/
def gateParts (h : FVec Ideal S512x1024 .bf16) (w : FVec Ideal S2816x1024 .bf16) : List (View.Piece (Elt Ideal) S512x2816 .bf16) :=
  [⟨Rect.unit (s := S512x2816) ![0, 2560] ![512, 256] inb_S512x2816_S512x256_0_2560, k0_pay61 (F := Ideal) (k0_pay7 h) (View.ld w (Rect.unit (s := S2816x1024) ![2560, 0] ![256, 1024] inb_S2816x1024_S256x1024_2560_0))⟩,
    ⟨Rect.unit (s := S512x2816) ![0, 2304] ![512, 256] inb_S512x2816_S512x256_0_2304, k0_pay56 (F := Ideal) (k0_pay7 h) (View.ld w (Rect.unit (s := S2816x1024) ![2304, 0] ![256, 1024] inb_S2816x1024_S256x1024_2304_0))⟩,
    ⟨Rect.unit (s := S512x2816) ![0, 2048] ![512, 256] inb_S512x2816_S512x256_0_2048, k0_pay51 (F := Ideal) (k0_pay7 h) (View.ld w (Rect.unit (s := S2816x1024) ![2048, 0] ![256, 1024] inb_S2816x1024_S256x1024_2048_0))⟩,
    ⟨Rect.unit (s := S512x2816) ![0, 1792] ![512, 256] inb_S512x2816_S512x256_0_1792, k0_pay46 (F := Ideal) (k0_pay7 h) (k0_pay43 (View.ld w (Rect.unit (s := S2816x1024) ![1792, 0] ![256, 1024] inb_S2816x1024_S256x1024_1792_0))) (constant S512x256 .f32 0x00000000#32)⟩,
    ⟨Rect.unit (s := S512x2816) ![0, 1536] ![512, 256] inb_S512x2816_S512x256_0_1536, k0_pay40 (F := Ideal) (k0_pay7 h) (View.ld w (Rect.unit (s := S2816x1024) ![1536, 0] ![256, 1024] inb_S2816x1024_S256x1024_1536_0))⟩,
    ⟨Rect.unit (s := S512x2816) ![0, 1280] ![512, 256] inb_S512x2816_S512x256_0_1280, k0_pay35 (F := Ideal) (k0_pay33 (k0_pay7 h) (View.ld w (Rect.unit (s := S2816x1024) ![1280, 0] ![256, 1024] inb_S2816x1024_S256x1024_1280_0)))⟩,
    ⟨Rect.unit (s := S512x2816) ![0, 1024] ![512, 256] inb_S512x2816_S512x256_0_1024, k0_pay30 (F := Ideal) (k0_pay7 h) (View.ld w (Rect.unit (s := S2816x1024) ![1024, 0] ![256, 1024] inb_S2816x1024_S256x1024_1024_0))⟩,
    ⟨Rect.unit (s := S512x2816) ![0, 768] ![512, 256] inb_S512x2816_S512x256_0_768, k0_pay25 (F := Ideal) (k0_pay7 h) (View.ld w (Rect.unit (s := S2816x1024) ![768, 0] ![256, 1024] inb_S2816x1024_S256x1024_768_0))⟩,
    ⟨Rect.unit (s := S512x2816) ![0, 512] ![512, 256] inb_S512x2816_S512x256_0_512, k0_pay20 (F := Ideal) (k0_pay7 h) (View.ld w (Rect.unit (s := S2816x1024) ![512, 0] ![256, 1024] inb_S2816x1024_S256x1024_512_0))⟩,
    ⟨Rect.unit (s := S512x2816) ![0, 256] ![512, 256] inb_S512x2816_S512x256_0_256, k0_pay15 (F := Ideal) h (View.ld w (Rect.unit (s := S2816x1024) ![256, 0] ![256, 1024] inb_S2816x1024_S256x1024_256_0))⟩,
    ⟨Rect.unit (s := S512x2816) ![0, 0] ![512, 256] inb_S512x2816_S512x256_0_0, k0_pay10 (F := Ideal) h (View.ld w (Rect.unit (s := S2816x1024) ![0, 0] ![256, 1024] inb_S2816x1024_S256x1024_0_0))⟩]

theorem out_gate (h : FVec Ideal S512x1024 .bf16) (w : FVec Ideal S2816x1024 .bf16) (a : Fin 512) (j : Fin 2816) :
    View.canon (gateParts h w) (ix2 a j) = proj (fun k => h (ix2 a k)) (fun k j => w (ix2 j k)) j := by
  have hc : ∃ p ∈ gateParts h w, (ix2 a j : S512x2816.Idx) ∈ p.1.set :=
    View.cover_of_tiledBy _ ![512, 256] (by sl_kernel_rfl) _
  unfold gateParts at hc ⊢
  canon_tiles x h using hc
  all_goals
    idx_vars x
    obtain rfl : a = x0 := Fin.ext h0
    obtain ⟨j, hj⟩ := j
    replace h1 : j = _ := h1
    subst h1
  all_goals
    pointwise [k0_pay1, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63]
    rfl

/-- The pieces the other projection is stored in. -/
def upParts (h : FVec Ideal S512x1024 .bf16) (w : FVec Ideal S2816x1024 .bf16) : List (View.Piece (Elt Ideal) S512x2816 .bf16) :=
  [⟨Rect.unit (s := S512x2816) ![0, 2560] ![512, 256] inb_S512x2816_S512x256_0_2560, k0_pay62 (F := Ideal) (k0_pay7 h) (View.ld w (Rect.unit (s := S2816x1024) ![2560, 0] ![256, 1024] inb_S2816x1024_S256x1024_2560_0))⟩,
    ⟨Rect.unit (s := S512x2816) ![0, 2304] ![512, 256] inb_S512x2816_S512x256_0_2304, k0_pay57 (F := Ideal) (k0_pay7 h) (View.ld w (Rect.unit (s := S2816x1024) ![2304, 0] ![256, 1024] inb_S2816x1024_S256x1024_2304_0))⟩,
    ⟨Rect.unit (s := S512x2816) ![0, 2048] ![512, 256] inb_S512x2816_S512x256_0_2048, k0_pay52 (F := Ideal) (k0_pay7 h) (View.ld w (Rect.unit (s := S2816x1024) ![2048, 0] ![256, 1024] inb_S2816x1024_S256x1024_2048_0))⟩,
    ⟨Rect.unit (s := S512x2816) ![0, 1792] ![512, 256] inb_S512x2816_S512x256_0_1792, k0_pay47 (F := Ideal) (k0_pay7 h) (View.ld w (Rect.unit (s := S2816x1024) ![1792, 0] ![256, 1024] inb_S2816x1024_S256x1024_1792_0))⟩,
    ⟨Rect.unit (s := S512x2816) ![0, 1536] ![512, 256] inb_S512x2816_S512x256_0_1536, k0_pay41 (F := Ideal) (k0_pay7 h) (View.ld w (Rect.unit (s := S2816x1024) ![1536, 0] ![256, 1024] inb_S2816x1024_S256x1024_1536_0))⟩,
    ⟨Rect.unit (s := S512x2816) ![0, 1280] ![512, 256] inb_S512x2816_S512x256_0_1280, k0_pay36 (F := Ideal) (k0_pay7 h) (View.ld w (Rect.unit (s := S2816x1024) ![1280, 0] ![256, 1024] inb_S2816x1024_S256x1024_1280_0))⟩,
    ⟨Rect.unit (s := S512x2816) ![0, 1024] ![512, 256] inb_S512x2816_S512x256_0_1024, k0_pay31 (F := Ideal) (k0_pay7 h) (View.ld w (Rect.unit (s := S2816x1024) ![1024, 0] ![256, 1024] inb_S2816x1024_S256x1024_1024_0))⟩,
    ⟨Rect.unit (s := S512x2816) ![0, 768] ![512, 256] inb_S512x2816_S512x256_0_768, k0_pay26 (F := Ideal) (k0_pay24 (k0_pay7 h) (View.ld w (Rect.unit (s := S2816x1024) ![768, 0] ![256, 1024] inb_S2816x1024_S256x1024_768_0)))⟩,
    ⟨Rect.unit (s := S512x2816) ![0, 512] ![512, 256] inb_S512x2816_S512x256_0_512, k0_pay21 (F := Ideal) (k0_pay7 h) (View.ld w (Rect.unit (s := S2816x1024) ![512, 0] ![256, 1024] inb_S2816x1024_S256x1024_512_0))⟩,
    ⟨Rect.unit (s := S512x2816) ![0, 256] ![512, 256] inb_S512x2816_S512x256_0_256, k0_pay16 (F := Ideal) (k0_pay14 h (View.ld w (Rect.unit (s := S2816x1024) ![256, 0] ![256, 1024] inb_S2816x1024_S256x1024_256_0)))⟩,
    ⟨Rect.unit (s := S512x2816) ![0, 0] ![512, 256] inb_S512x2816_S512x256_0_0, k0_pay11 (F := Ideal) h (View.ld w (Rect.unit (s := S2816x1024) ![0, 0] ![256, 1024] inb_S2816x1024_S256x1024_0_0))⟩]

theorem out_up (h : FVec Ideal S512x1024 .bf16) (w : FVec Ideal S2816x1024 .bf16) (a : Fin 512) (j : Fin 2816) :
    View.canon (upParts h w) (ix2 a j) = proj (fun k => h (ix2 a k)) (fun k j => w (ix2 j k)) j := by
  have hc : ∃ p ∈ upParts h w, (ix2 a j : S512x2816.Idx) ∈ p.1.set :=
    View.cover_of_tiledBy _ ![512, 256] (by sl_kernel_rfl) _
  unfold upParts at hc ⊢
  canon_tiles x h using hc
  all_goals
    idx_vars x
    obtain rfl : a = x0 := Fin.ext h0
    obtain ⟨j, hj⟩ := j
    replace h1 : j = _ := h1
    subst h1
  all_goals
    pointwise [k0_pay1, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63]
    rfl

/-! ### The result arrays -/

variable (m : (ℓ : Loc nD τ sig) → Buf (Elt Ideal) ℓ) (c : Dev nD)

/-- The block indices at every grid point. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![t.val, 0] ∧ win0_7.index t = ![t.val, 0]
    ∧ win0_8.index t = ![t.val, 0] ∧ win0_9.index t = ![t.val, 0] ∧ win0_10.index t = ![0, 0] ∧ t.val < 16 :=
  (by decide +kernel : ∀ t : Fin grid0.N, _)

/-- Row `a` of a grid point's tile. -/
def row (t : Fin cfg0.N) (a : Fin 512) : Fin 8192 := ⟨512 * t.val + a.val, by have := (idx t).2.2.2.2.2.2.2.2.2.2.2; omega⟩

theorem row_val (t : Fin cfg0.N) (a : Fin 512) : (row t a).val = 512 * t.val + a.val := rfl

theorem blk_h (t : Fin cfg0.N) (a : Fin 512) (l : Fin 1024) :
    (iblk m c 0 t : FVec Ideal S512x1024 .bf16) (ix2 a l) = (m ((c : Thread nD τ).loc main_arg0) : FVec Ideal S8192x1024 .f32) (ix2 (row t a) l) := by
  blk_point [iblk, V, idx t, row_val]

theorem blk_res (t : Fin cfg0.N) (a : Fin 512) (l : Fin 1024) :
    (iblk m c 1 t : FVec Ideal S512x1024 .f32) (ix2 a l) = (m ((c : Thread nD τ).loc main_arg1) : FVec Ideal S8192x1024 .f32) (ix2 (row t a) l) := by
  blk_point [iblk, V, idx t, row_val]

theorem blk_target (t : Fin cfg0.N) (a : Fin 512) (l : Fin 1024) :
    (iblk m c 2 t : FVec Ideal S512x1024 .f32) (ix2 a l) = (m ((c : Thread nD τ).loc main_arg5) : FVec Ideal S8192x1024 .f32) (ix2 (row t a) l) := by
  blk_point [iblk, V, idx t, row_val]

theorem blk_wg (t : Fin cfg0.N) (j : Fin 2816) (l : Fin 1024) :
    (iblk m c 3 t : FVec Ideal S2816x1024 .bf16) (ix2 j l) = (m ((c : Thread nD τ).loc main_arg2) : FVec Ideal S1024x2816 .f32) (ix2 l j) := by
  blk_point [iblk, V, idx t]

theorem blk_wu (t : Fin cfg0.N) (j : Fin 2816) (l : Fin 1024) :
    (iblk m c 4 t : FVec Ideal S2816x1024 .bf16) (ix2 j l) = (m ((c : Thread nD τ).loc main_arg3) : FVec Ideal S1024x2816 .f32) (ix2 l j) := by
  blk_point [iblk, V, idx t]

theorem blk_wd (t : Fin cfg0.N) (j : Fin 2816) (l : Fin 1024) :
    (iblk m c 5 t : FVec Ideal S2816x1024 .bf16) (ix2 j l) = (m ((c : Thread nD τ).loc main_arg4) : FVec Ideal S2816x1024 .f32) (ix2 j l) := by
  blk_point [iblk, V, idx t]

/-- The error, of the arguments. -/
def earg (r : Fin 8192) (n : Fin 1024) : EReal :=
  eref (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) r n

/-- The tile of hidden units as it is loaded back, of the arguments. -/
theorem hload {sp : Space} (v : View sig .tc sp S512x2816 .bf16) (t : Fin cfg0.N) (a : Fin 512) (j : Fin 2816) :
    (v.readCov (parts (iblk m c 0 t) (iblk m c 3 t) (iblk m c 4 t))
        (Rect.unit (s := S512x2816) ![0, 0] ![512, 2816] inb_S512x2816_S512x2816_0_0).toLoadRect : Vec Ideal S512x2816 .bf16) (ix2 a j)
      = hid (fun k => (m ((c : Thread nD τ).loc main_arg0) : FVec Ideal S8192x1024 .f32) (ix2 (row t a) k))
          (fun k j => (m ((c : Thread nD τ).loc main_arg2) : FVec Ideal S1024x2816 .f32) (ix2 k j))
          (fun k j => (m ((c : Thread nD τ).loc main_arg3) : FVec Ideal S1024x2816 .f32) (ix2 k j)) j := by
  refine (load_hid _ _ _ v a j).trans ?_
  simp only [blk_h, blk_wg, blk_wu]

/-- The gate's projection. -/
theorem final_a :
    (dats m 0 c).arrAt 6 cfg0.N = Cert.Reference4Ideal.Read.val_main_v21 (F := Ideal) (m ((c : Thread nD τ).loc main_arg0)) (m ((c : Thread nD τ).loc main_arg2)) := by
  refine (dats m 0 c).arrAt_eq_of_covers 6 _ (by decide +kernel) fun t _ y => ?_
  blk_simp
  idx_vars y
  refine Eq.trans ?_ ((gate_ref _ _ (row t y0) y1).symm.trans (congrArg _ ?_))
  · rw [after0_6]
    by_cases h0 : t.val % 16 = 0
    · rw [outsAt0_A m c t h0]; frame_out
      refine (out_gate _ _ y0 y1).trans ?_
      simp only [blk_h, blk_wg]
    · rw [outsAt0_B m c t h0]; frame_out
      refine (out_gate _ _ y0 y1).trans ?_
      simp only [blk_h, blk_wg]
  · blk_ext [idx t, row_val]

/-- The other projection. -/
theorem final_b :
    (dats m 0 c).arrAt 7 cfg0.N = Cert.Reference4Ideal.Read.val_main_v22 (F := Ideal) (m ((c : Thread nD τ).loc main_arg0)) (m ((c : Thread nD τ).loc main_arg3)) := by
  refine (dats m 0 c).arrAt_eq_of_covers 7 _ (by decide +kernel) fun t _ y => ?_
  blk_simp
  idx_vars y
  refine Eq.trans ?_ ((up_ref _ _ (row t y0) y1).symm.trans (congrArg _ ?_))
  · rw [after0_7]
    by_cases h0 : t.val % 16 = 0
    · rw [outsAt0_A m c t h0]; frame_out
      refine (out_up _ _ y0 y1).trans ?_
      simp only [blk_h, blk_wu]
    · rw [outsAt0_B m c t h0]; frame_out
      refine (out_up _ _ y0 y1).trans ?_
      simp only [blk_h, blk_wu]
  · blk_ext [idx t, row_val]

/-- The error's tile over the number of columns, of the arguments. -/
theorem hdy (t : Fin cfg0.N) {sp : Space} (v : View sig .tc sp S512x2816 .bf16) (a : Fin 512) (n : Fin 1024) :
    k0_pay3 (F := Ideal) (iblk m c 1 t) (v.readCov (parts (iblk m c 0 t) (iblk m c 3 t) (iblk m c 4 t))
        (Rect.unit (s := S512x2816) ![0, 0] ![512, 2816] inb_S512x2816_S512x2816_0_0).toLoadRect) (iblk m c 5 t) (iblk m c 2 t) (ix2 a n)
      = earg m c (row t a) n * ((1 / 1024 : ℝ) : EReal) := by
  refine (dy_ker (hload m c v t) _ _ _ a n).trans ?_
  simp only [blk_res, blk_target, blk_wd]
  rfl

/-- The loss's derivative. -/
theorem final_dy :
    (dats m 0 c).arrAt 8 cfg0.N = Cert.Reference4Ideal.Read.val_main_v20 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5)) := by
  refine (dats m 0 c).arrAt_eq_of_covers 8 _ (by decide +kernel) fun t _ y => ?_
  blk_simp
  idx_vars y
  refine Eq.trans ?_ ((dy_ref _ _ _ _ _ _ (row t y0) y1).symm.trans (congrArg _ ?_))
  · rw [after0_8]
    by_cases h0 : t.val % 16 = 0
    · rw [outsAt0_A m c t h0]; frame_out
      exact hdy m c t _ y0 y1
    · rw [outsAt0_B m c t h0]; frame_out
      exact hdy m c t _ y0 y1
  · blk_ext [idx t, row_val]

/-- The loss's derivative once more, rounded. -/
theorem final_dyb :
    (dats m 0 c).arrAt 9 cfg0.N = Cert.Reference4Ideal.Read.val_main_v23 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5)) := by
  refine (dats m 0 c).arrAt_eq_of_covers 9 _ (by decide +kernel) fun t _ y => ?_
  blk_simp
  idx_vars y
  refine Eq.trans ?_ ((dy_ref _ _ _ _ _ _ (row t y0) y1).symm.trans (congrArg _ ?_))
  · rw [after0_9]
    by_cases h0 : t.val % 16 = 0
    · rw [outsAt0_A m c t h0]; frame_out
      exact hdy m c t _ y0 y1
    · rw [outsAt0_B m c t h0]; frame_out
      exact hdy m c t _ y0 y1
  · blk_ext [idx t, row_val]

/-- A tile's part of the loss, of the arguments. -/
theorem hloss (t : Fin cfg0.N) {sp : Space} (v : View sig .tc sp S512x2816 .bf16) (acc : FVec Ideal S8x128 .f32) (i : Fin 8) (j : Fin 128) :
    k0_pay5 (F := Ideal) (iblk m c 1 t) (v.readCov (parts (iblk m c 0 t) (iblk m c 3 t) (iblk m c 4 t))
        (Rect.unit (s := S512x2816) ![0, 0] ![512, 2816] inb_S512x2816_S512x2816_0_0).toLoadRect) (iblk m c 5 t) (iblk m c 2 t) acc (ix2 i j)
      = acc (ix2 i j) + ∑ a : Fin 512, ∑ n, earg m c (row t a) n * earg m c (row t a) n := by
  refine (loss_ker (hload m c v t) _ _ _ acc i j).trans ?_
  simp only [blk_res, blk_target, blk_wd]
  rfl

theorem lt_16 (t : Fin cfg0.N) : t.val < 16 := (idx t).2.2.2.2.2.2.2.2.2.2.2

end Cert.Fwd
-- ==== Proof.FwdLoss.lean ====
/- The feed-forward layer's loss: what the kernel's sum over the tiles holds after the run. -/
module

public import proofs.«01_k».proof.Proof.FwdVal

@[expose] public section

set_option maxRecDepth 16384

noncomputable section

namespace Cert.Fwd

open Idealize.ShloMosaic Idealize.ShloMosaic.TcCoe Idealize.SL.Sem
open Idealize.ShloMosaic.Pipeline (Dat)
open Cert.Kernel4Ideal Cert.Kernel4Ideal.Gen

variable (m : (ℓ : Loc nD τ sig) → Buf (Elt Ideal) ℓ) (c : Dev nD)

/-- A sum over the tiles of a sum over a tile's rows is the sum over the rows. -/
theorem sum_rows (p : Fin 16 → Fin cfg0.N) (hp : ∀ s, (p s).val = s.val) (f : Fin 8192 → EReal) :
    ∑ s, ∑ a : Fin 512, f (row (p s) a) = ∑ r, f r := by
  refine Fin.sum_mul_add_congr (fun t a hl => congrArg f (Fin.ext ?_)) (by norm_num)
  show 512 * (p t).val + a.val = _
  rw [hp, mul_comm]

/-- A tile's part of the loss. -/
def part (t : Fin cfg0.N) : EReal := ∑ a : Fin 512, ∑ n, earg m c (row t a) n * earg m c (row t a) n

theorem loss_first (t : Fin cfg0.N) (h : t.val % 16 = 0) (i : Fin 8) (j : Fin 128) :
    (outsAt0 m c t.val t.isLt).2.2.2.2 (ix2 i j) = 0 + part m c t := by
  rw [outsAt0_A m c t h]
  frame_out
  refine (hloss m c t _ _ i j).trans ?_
  pointwise [k0_pay6]
  rfl

theorem loss_next (t : Fin cfg0.N) (h : ¬ t.val % 16 = 0) (i : Fin 8) (j : Fin 128) :
    (outsAt0 m c t.val t.isLt).2.2.2.2 (ix2 i j) = (outsAt0 m c (t.val - 1) (Nat.lt_of_le_of_lt (Nat.sub_le _ _) t.isLt)).2.2.2.2 (ix2 i j) + part m c t := by
  rw [outsAt0_B m c t h]
  frame_out
  exact hloss m c t _ _ i j

/-- The loss. -/
theorem final_loss :
    (dats m 0 c).arrAt 10 cfg0.N = Cert.Reference4Ideal.Read.val_main_v25 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5)) := by
  refine (dats m 0 c).arrAt_eq_of_covers 10 _ (by decide +kernel) fun t hf y => ?_
  blk_simp
  rw [after0_10, Pipeline.eq_sum_fin_of_reset_step_apply_of_flush (fun n h => (outsAt0 m c n h).2.2.2.2) 16 (fun _ => (0 : EReal)) (fun t _ => part m c t)
    (fun t h j => by idx_vars j; exact loss_first m c t h j0 j1) (fun t h j => by idx_vars j; exact loss_next m c t h j0 j1) t ((flush0_10 t).mp hf), zero_add]
  idx_vars y
  refine Eq.trans ?_ ((loss_ref _ _ _ _ _ _ y0 y1).symm.trans (congrArg _ ?_))
  · exact sum_rows (fun s => ⟨16 * (t.val / 16) + s.val, by have := lt_16 t; have := s.isLt; rw [show cfg0.N = 16 from N_0]; omega⟩)
      (fun s => by have := lt_16 t; show 16 * (t.val / 16) + s.val = s.val; omega)
      fun r => ∑ n, earg m c r n * earg m c r n
  · blk_ext [idx t]

end Cert.Fwd
-- ==== Proof.FwdClaim.lean ====
/- The feed-forward layer and the loss: the kernel's results are the reference's. -/
module

public import proofs.«01_k».proof.Defs
public import proofs.«01_k».proof.Proof.FwdLoss
public import proofs.«01_k».proof.Proof.Gen.Reference4Ideal.Run
public import Idealize.ShloMosaic.Lib.Quiescent

@[expose] public section

set_option maxRecDepth 16384

noncomputable section

namespace Cert.Fwd

open Idealize.ShloMosaic Idealize.ShloMosaic.TcCoe Idealize.SL.Sem

set_option maxHeartbeats 1000000 in
/-- The kernel's results are the reference's, from equal arguments. -/
theorem algebraic : Cert.algebraic_Kernel4Ideal_Reference4Ideal := by
  intro m g m' g' _ hagree
  refine ⟨_, _, _, _, _, Cert.Kernel4Ideal.Value.run_blocks m g, (θ_run _ _ _).mono ?_ (Cert.Reference4Ideal.Value.run m' g')⟩
  intro r h c
  obtain ⟨a0, a1, a2, a3, a4, a5⟩ := hagree c
  obtain ⟨r0, r1, r2, r3, r4, k⟩ := h c
  refine ⟨r0.trans ?_, r1.trans ?_, r2.trans ?_, r3.trans ?_, r4.trans ?_, k⟩
  · refine (Cert.Reference4Ideal.Read.val_main_v21_eq _ _).trans ?_
    rw [a0, a2]
    exact (final_a m c).symm
  · refine (Cert.Reference4Ideal.Read.val_main_v22_eq _ _).trans ?_
    rw [a0, a3]
    exact (final_b m c).symm
  · refine (Cert.Reference4Ideal.Read.val_main_v20_eq _ _ _ _ _ _).trans ?_
    rw [a0, a1, a2, a3, a4, a5]
    exact (final_dy m c).symm
  · refine (Cert.Reference4Ideal.Read.val_main_v23_eq _ _ _ _ _ _).trans ?_
    rw [a0, a1, a2, a3, a4, a5]
    exact (final_dyb m c).symm
  · refine (Cert.Reference4Ideal.Read.val_main_v25_eq _ _ _ _ _ _).trans ?_
    rw [a0, a1, a2, a3, a4, a5]
    exact (final_loss m c).symm

/-- The reference runs and leaves its arguments as they were. -/
theorem frame_reference : Cert.quiescent_Reference4Ideal := by
  intro m g _
  exact (θ_run Cert.Reference4Ideal.defs _ _).mono (fun r h => ⟨fun c => (h c).2.2.2.2.2,
      Idealize.ShloMosaic.sem_eq_zero_of_no_sems (by decide) r.2⟩) (Cert.Reference4Ideal.Value.run (F := Ideal) m g)

end Cert.Fwd
-- ==== Proof.MixVal.lean ====
/- The mixer's end: what the kernel's result arrays hold after the run, and what the reference's results are. -/
module

public import proofs.«01_k».proof.Proof.Reals
public import proofs.«01_k».proof.Proof.Gen.Kernel5Ideal.Value
public import proofs.«01_k».proof.Proof.Gen.Reference5Ideal.Read
public import Idealize.ShloMosaic.Lib.Pipeline.ReadBack
public import Idealize.ShloMosaic.Lib.Pipeline.ValueKit

@[expose] public section

set_option maxRecDepth 16384

noncomputable section

namespace Cert.Mix

open Idealize.ShloMosaic Idealize.ShloMosaic.TcCoe Idealize.SL.Sem
open Idealize.ShloMosaic.Pipeline (Dat)
open Cert.Reals

/-! ### The mathematics -/

/-- A row normed, times the gain; the word is the row's length. -/
def normed {n : ℕ} (N : BitVec 32) (x g : Fin n → EReal) (l : Fin n) : EReal :=
  x l * Ideal.rsqrt (Ideal.div (∑ k, x k * x k) (Ideal.ofBits .f32 N) + Ideal.ofBits .f32 0x358637BD#32) * g l

/-- Two rows beside each other. -/
def beside (p q : Fin 512 → EReal) (k : Fin 1024) : EReal :=
  if h : k.val < 512 then p ⟨k.val, h⟩ else q ⟨k.val - 512, by omega⟩

section
variable (Z : Fin 8192 → Fin 3072 → EReal) (CW : Fin 3 → Fin 512 → EReal)

/-- The convolution's input `k` rows back, zero before the first row. -/
def back (k : ℕ) (r : Fin 8192) (c : Fin 512) : EReal :=
  if k ≤ r.val then Z ⟨r.val - k, by omega⟩ ⟨1024 + c.val, by omega⟩ * Z ⟨r.val - k, by omega⟩ ⟨c.val, by omega⟩ else 0

theorem back_of {k : ℕ} {r q : Fin 8192} (c : Fin 512) (hq : q.val + k = r.val) :
    back Z k r c = Z q ⟨1024 + c.val, by omega⟩ * Z q ⟨c.val, by omega⟩ := by
  have h : (⟨r.val - k, by omega⟩ : Fin 8192) = q := Fin.ext (by show r.val - k = q.val; omega)
  unfold back
  rw [if_pos (by omega), h]

theorem back_none {k : ℕ} {r : Fin 8192} (c : Fin 512) (hr : r.val < k) : back Z k r c = 0 := by
  unfold back
  rw [if_neg (by omega)]

/-- The convolution branch before its norm: the gate times the causal convolution of width 3. -/
def yconv (r : Fin 8192) (c : Fin 512) : EReal :=
  Z r ⟨512 + c.val, by omega⟩ * (CW 0 c * back Z 2 r c + CW 1 c * back Z 1 r c + CW 2 c * back Z 0 r c)

end

/-! ### The reference -/

section
open Cert.Reference5Ideal Cert.Reference5Ideal.Read

variable (z : S8192x3072.Idx → EReal) (y x : S8192x512.Idx → EReal) (cw : S3x512.Idx → EReal) (gc ga : S1x512.Idx → EReal)
  (res : S8192x1024.Idx → EReal) (gf : S1x1024.Idx → EReal) (w : S1024x1024.Idx → EReal)

theorem back_word (k : ℕ) (r : Fin 8192) (c : Fin 512) (n : ℕ) (hn : n = r.val + 2 - k) (hk : k ≤ 2) (hb : ¬ n < 2 → n - 2 < 8192) :
    (if h : n < 2 then 0
      else z (ix2 ⟨n - 2, hb h⟩ ⟨1024 + c.val, by omega⟩) * z (ix2 ⟨n - 2, hb h⟩ ⟨c.val, by omega⟩))
      = back (fun r k => z (ix2 r k)) k r c := by
  subst hn
  by_cases h : k ≤ r.val
  · rw [dif_neg (by omega), back_of _ (q := ⟨r.val + 2 - k - 2, by omega⟩) c (by show r.val + 2 - k - 2 + k = r.val; omega)]
  · rw [dif_pos (by omega), back_none _ c (by omega)]

theorem yconv_ref (r : Fin 8192) (c : Fin 512) :
    val_main_v23 (F := Ideal) z cw (ix2 r c) = yconv (fun r k => z (ix2 r k)) (fun s k => cw (ix2 s k)) r c := by
  pointwise [val_main_v23, val_main_v1, val_main_v22, val_main_v17, val_main_v21, val_main_v12, val_main_v16, val_main_v11, val_main_v15,
    val_main_v20, val_main_v9, val_main_v13, val_main_v18, val_main_v10, val_main_v14, val_main_v19, val_main_v8, val_main_v7, val_main_v6,
    val_main_v0, val_main_v2, val_main_cst]
  rw [back_word z 2 r c r.val (by omega) (by omega) (by omega), back_word z 1 r c (1 + r.val) (by omega) (by omega) (by omega)]
  unfold yconv
  rw [back_of _ (k := 0) (q := r) c rfl]

theorem mix_ref (r : Fin 8192) (k : Fin 1024) :
    val_main_v48 (F := Ideal) z y cw gc ga (ix2 r k)
      = beside (normed 0x44000000#32 (yconv (fun r k => z (ix2 r k)) (fun s k => cw (ix2 s k)) r) fun c => gc (ix2 0 c))
          (normed 0x44000000#32 (fun c => y (ix2 r c)) fun c => ga (ix2 0 c)) k := by
  pointwise [val_main_v48, val_main_v35, val_main_v33, val_main_v34, val_main_v32, val_main_v31, val_main_v30, val_main_v29, val_main_v28,
    val_main_v27, val_main_v26, val_main_v25, val_main_v24, yconv_ref, val_main_v47, val_main_v45, val_main_v46, val_main_v44, val_main_v43,
    val_main_v42, val_main_v41, val_main_v40, val_main_v39, val_main_v38, val_main_v37, val_main_v36, val_main_cst_0, val_main_cst_1,
    val_main_cst_2, val_main_cst_3, val_main_cst_4, val_main_cst_5]
  rfl

theorem res_ref (r : Fin 8192) (n : Fin 1024) :
    val_main_v50 (F := Ideal) z y res cw gc ga w (ix2 r n)
      = res (ix2 r n) + ∑ k, beside (normed 0x44000000#32 (yconv (fun r k => z (ix2 r k)) (fun s k => cw (ix2 s k)) r) fun c => gc (ix2 0 c))
          (normed 0x44000000#32 (fun c => y (ix2 r c)) fun c => ga (ix2 0 c)) k * w (ix2 k n) := by
  pointwise [val_main_v50, val_main_v49, mix_ref]

theorem normed_ref (r : Fin 8192) (n : Fin 1024) :
    val_main_v63 (F := Ideal) z y res cw gc ga gf w (ix2 r n)
      = normed 0x44800000#32 (fun n => val_main_v50 (F := Ideal) z y res cw gc ga w (ix2 r n)) (fun n => gf (ix2 0 n)) n := by
  pointwise [val_main_v63, val_main_v62, val_main_v61, val_main_v60, val_main_v59, val_main_v58, val_main_v57, val_main_v56, val_main_v55,
    val_main_v54, val_main_v53, val_main_v52, val_main_cst_6, val_main_cst_7, val_main_cst_8]
  rfl

end

/-! ### A tile of the kernel -/

open Cert.Kernel5Ideal Cert.Kernel5Ideal.Gen

/-! The comparisons of row numbers choose as the row numbers compare. -/

theorem sel_ge2 (a : Fin 512) (x y : EReal) :
    Scalar.select (IntOp.cmpi .sge (BitVec.ofNat 32 a.val) 2#32) x y = if 2 ≤ a.val then x else y := by
  have h := (by decide +kernel : ∀ a : Fin 512, IntOp.cmpi .sge (BitVec.ofNat 32 a.val) 2#32 = if 2 ≤ a.val then 1#1 else 0#1) a
  rw [h]; split <;> rfl

theorem sel_ge1 (a : Fin 512) (x y : EReal) :
    Scalar.select (IntOp.cmpi .sge (BitVec.ofNat 32 a.val) 1#32) x y = if 1 ≤ a.val then x else y := by
  have h := (by decide +kernel : ∀ a : Fin 512, IntOp.cmpi .sge (BitVec.ofNat 32 a.val) 1#32 = if 1 ≤ a.val then 1#1 else 0#1) a
  rw [h]; split <;> rfl

theorem sel_eq1 (a : Fin 512) (x y : EReal) :
    Scalar.select (IntOp.cmpi .eq (BitVec.ofNat 32 a.val) 1#32) x y = if a.val = 1 then x else y := by
  have h := (by decide +kernel : ∀ a : Fin 512, IntOp.cmpi .eq (BitVec.ofNat 32 a.val) 1#32 = if a.val = 1 then 1#1 else 0#1) a
  rw [h]; split <;> rfl

theorem sel_first (t : Fin 16) (x y : EReal) :
    Scalar.select (Scalar.cmpi .eq (BitVec.ofNat 32 t.val) 0#32) x y = if t.val = 0 then x else y := by
  have h := (by decide +kernel : ∀ t : Fin 16, Scalar.cmpi .eq (BitVec.ofNat 32 t.val) 0#32 = if t.val = 0 then 1#1 else 0#1) t
  rw [h]; split <;> rfl

/-- Row `a` of tile `t`. -/
def row (t : Fin 16) (a : Fin 512) : Fin 8192 := ⟨512 * t.val + a.val, by omega⟩

section
variable {Z : Fin 8192 → Fin 3072 → EReal} {CW : Fin 3 → Fin 512 → EReal} {i : grid0.Coords} {t : Fin 16}
  {z : FVec Ideal S512x1536 .bf16} {h : FVec Ideal S8x1536 .bf16} {w : FVec Ideal S8x512 .f32}

/-- The gated convolution of a tile, its first rows taking the rows before from the block above. -/
theorem yconv_ker (hi : (i 0).val = t.val) (hz : ∀ (a : Fin 512) (k : Fin 1536), z (ix2 a k) = Z (row t a) ⟨k.val, by omega⟩)
    (hh : 0 < t.val → ∀ (s : Fin 8) (k : Fin 1536), h (ix2 s k) = Z ⟨512 * t.val - 8 + s.val, by omega⟩ ⟨k.val, by omega⟩)
    (hw : ∀ (s : Fin 3) (c : Fin 512), w (ix2 ⟨s.val, by omega⟩ c) = CW s c) (a c : Fin 512) :
    k0_pay4 (F := Ideal) z (ix2 a c) * (k0_pay6 (F := Ideal) i z h w (ix2 a c) + k0_pay3 (F := Ideal) w (ix2 2 c) * k0_pay5 (F := Ideal) z (ix2 a c))
      = yconv Z CW (row t a) c := by
  have w0 : w (ix2 0 c) = CW 0 c := hw 0 c
  have w1 : w (ix2 1 c) = CW 1 c := hw 1 c
  have w2 : w (ix2 2 c) = CW 2 c := hw 2 c
  pointwise [k0_pay4, k0_pay6, k0_pay3, k0_pay5, k0_pay2, hi, sel_ge2, sel_ge1, sel_eq1, sel_first, hz, w0, w1, w2]
  unfold yconv
  have e0 : back Z 0 (row t a) c = _ := back_of Z (q := row t a) c rfl
  rw [e0]
  by_cases h2 : 2 ≤ a.val
  · rw [if_pos h2, if_pos (by omega : 1 ≤ a.val),
      back_of Z (k := 2) (q := row t ⟨(a.val + 512 - 2) % 512, by omega⟩) c (by show 512 * t.val + (a.val + 512 - 2) % 512 + 2 = 512 * t.val + a.val; omega),
      back_of Z (k := 1) (q := row t ⟨(a.val + 512 - 1) % 512, by omega⟩) c (by show 512 * t.val + (a.val + 512 - 1) % 512 + 1 = 512 * t.val + a.val; omega)]
  · rw [if_neg h2]
    by_cases ht : t.val = 0
    · simp only [if_pos ht]
      rw [back_none Z (k := 2) c (by show 512 * t.val + a.val < 2; omega)]
      by_cases h1 : 1 ≤ a.val
      · rw [if_pos h1, if_pos (by omega : a.val = 1),
          back_of Z (k := 1) (q := row t ⟨(a.val + 512 - 1) % 512, by omega⟩) c (by show 512 * t.val + (a.val + 512 - 1) % 512 + 1 = 512 * t.val + a.val; omega)]
      · rw [if_neg h1, if_neg (by omega : ¬ a.val = 1), back_none Z (k := 1) c (by show 512 * t.val + a.val < 1; omega)]
    · simp only [if_neg ht, hh (by omega)]
      by_cases h1 : 1 ≤ a.val
      · rw [if_pos h1, if_pos (by omega : a.val = 1),
          back_of Z (k := 2) (q := ⟨512 * t.val - 8 + 7, by omega⟩) c (by show 512 * t.val - 8 + 7 + 2 = 512 * t.val + a.val; omega),
          back_of Z (k := 1) (q := row t ⟨(a.val + 512 - 1) % 512, by omega⟩) c (by show 512 * t.val + (a.val + 512 - 1) % 512 + 1 = 512 * t.val + a.val; omega)]
        rfl
      · rw [if_neg h1, if_neg (by omega : ¬ a.val = 1),
          back_of Z (k := 2) (q := ⟨512 * t.val - 8 + 6, by omega⟩) c (by show 512 * t.val - 8 + 6 + 2 = 512 * t.val + a.val; omega),
          back_of Z (k := 1) (q := ⟨512 * t.val - 8 + 7, by omega⟩) c (by show 512 * t.val - 8 + 7 + 1 = 512 * t.val + a.val; omega)]
        rfl

end

section
variable {Y : Fin 512 → Fin 512 → EReal} {v8 : FVec Ideal S8x512 .f32} {v10 v12 v45 : FVec Ideal S512x512 .f32}
  (hY : ∀ a c, v10 (ix2 a c) * (v45 (ix2 a c) + v8 (ix2 2 c) * v12 (ix2 a c)) = Y a c)
  (y : FVec Ideal S512x512 .f32) (gc ga : FVec Ideal S1x512 .f32) (x : FVec Ideal S512x1024 .f32) (w : FVec Ideal S1024x1024 .bf16)
include hY

theorem mix_ker (a : Fin 512) (k : Fin 1024) :
    k0_pay7 (F := Ideal) v8 v10 v12 v45 y gc ga (ix2 a k)
      = beside (normed 0x44000000#32 (Y a) fun c => gc (ix2 0 c)) (normed 0x44000000#32 (fun c => y (ix2 a c)) fun c => ga (ix2 0 c)) k := by
  pointwise [k0_pay7, hY]
  rfl

theorem res_ker (a : Fin 512) (n : Fin 1024) :
    k0_pay8 (F := Ideal) v8 v10 v12 v45 y gc ga x w (ix2 a n)
      = x (ix2 a n) + ∑ k, beside (normed 0x44000000#32 (Y a) fun c => gc (ix2 0 c))
          (normed 0x44000000#32 (fun c => y (ix2 a c)) fun c => ga (ix2 0 c)) k * w (ix2 k n) := by
  have hm := mix_ker hY y gc ga
  pointwise [k0_pay8, hm]

end

theorem normed_ker (v : FVec Ideal S512x1024 .f32) (g : FVec Ideal S1x1024 .f32) (a : Fin 512) (n : Fin 1024) :
    k0_pay1 (F := Ideal) v g (ix2 a n) = normed 0x44800000#32 (fun n => v (ix2 a n)) (fun n => g (ix2 0 n)) n := by
  pointwise [k0_pay1]
  rfl

/-! ### The result arrays -/

variable (m : (ℓ : Loc nD τ sig) → Buf (Elt Ideal) ℓ) (c : Dev nD)

/-- The block indices at every grid point. -/
theorem idx : ∀ t : Fin cfg0.N, win0_0.index t = ![t.val, 0] ∧ win0_1.index t = ![64 * t.val - 1, 0] ∧ win0_2.index t = ![t.val, 0]
    ∧ win0_3.index t = ![t.val, 0] ∧ win0_4.index t = ![0, 0] ∧ win0_5.index t = ![0, 0] ∧ win0_6.index t = ![0, 0] ∧ win0_7.index t = ![0, 0]
    ∧ win0_8.index t = ![0, 0] ∧ win0_9.index t = ![t.val, 0] ∧ win0_10.index t = ![t.val, 0] ∧ win0_11.index t = ![t.val, 0]
    ∧ (grid0.coords t 0).val = t.val ∧ t.val < 16 :=
  (by decide +kernel : ∀ t : Fin grid0.N, _)

/-- The grid point as a tile. -/
def tile (t : Fin cfg0.N) : Fin 16 := ⟨t.val, (idx t).2.2.2.2.2.2.2.2.2.2.2.2.2⟩

theorem row_tile (t : Fin cfg0.N) (a : Fin 512) : (row (tile t) a).val = 512 * t.val + a.val := rfl

theorem tile_val (t : Fin cfg0.N) : (tile t).val = t.val := rfl

theorem blk_z (t : Fin cfg0.N) (a : Fin 512) (k : Fin 1536) :
    (iblk m c 0 t : FVec Ideal S512x1536 .bf16) (ix2 a k)
      = (m ((c : Thread nD τ).loc main_arg0) : FVec Ideal S8192x3072 .f32) (ix2 (row (tile t) a) ⟨k.val, by omega⟩) := by
  blk_point [iblk, V, idx t, row_tile, tile_val]

theorem blk_halo (t : Fin cfg0.N) (h : 0 < (tile t).val) (s : Fin 8) (k : Fin 1536) :
    (iblk m c 1 t : FVec Ideal S8x1536 .bf16) (ix2 s k)
      = (m ((c : Thread nD τ).loc main_arg0) : FVec Ideal S8192x3072 .f32) (ix2 ⟨512 * (tile t).val - 8 + s.val, by omega⟩ ⟨k.val, by omega⟩) := by
  have h' : 0 < t.val := h
  blk_point [iblk, V, idx t, row_tile, tile_val]

theorem blk_y (t : Fin cfg0.N) (a k : Fin 512) :
    (iblk m c 2 t : FVec Ideal S512x512 .f32) (ix2 a k) = (m ((c : Thread nD τ).loc main_arg1) : FVec Ideal S8192x512 .f32) (ix2 (row (tile t) a) k) := by
  blk_point [iblk, V, idx t, row_tile, tile_val]

theorem blk_x (t : Fin cfg0.N) (a : Fin 512) (k : Fin 1024) :
    (iblk m c 3 t : FVec Ideal S512x1024 .f32) (ix2 a k) = (m ((c : Thread nD τ).loc main_arg2) : FVec Ideal S8192x1024 .f32) (ix2 (row (tile t) a) k) := by
  blk_point [iblk, V, idx t, row_tile, tile_val]

theorem blk_cw (t : Fin cfg0.N) (s : Fin 3) (k : Fin 512) :
    (iblk m c 4 t : FVec Ideal S8x512 .f32) (ix2 ⟨s.val, by omega⟩ k) = (m ((c : Thread nD τ).loc main_arg3) : FVec Ideal S3x512 .f32) (ix2 s k) := by
  blk_simp [iblk, V, idx t]
  entry_read
  pointwise []
  refine (dif_pos (by blk_simp [idx t]; simpa using s.isLt)).trans ?_
  blk_ext [idx t]

theorem blk_gc (t : Fin cfg0.N) (k : Fin 512) :
    (iblk m c 5 t : FVec Ideal S1x512 .f32) (ix2 0 k) = (m ((c : Thread nD τ).loc main_arg4) : FVec Ideal S1x512 .f32) (ix2 0 k) := by
  blk_point [iblk, V, idx t, row_tile, tile_val]

theorem blk_ga (t : Fin cfg0.N) (k : Fin 512) :
    (iblk m c 6 t : FVec Ideal S1x512 .f32) (ix2 0 k) = (m ((c : Thread nD τ).loc main_arg5) : FVec Ideal S1x512 .f32) (ix2 0 k) := by
  blk_point [iblk, V, idx t, row_tile, tile_val]

theorem blk_gf (t : Fin cfg0.N) (k : Fin 1024) :
    (iblk m c 7 t : FVec Ideal S1x1024 .f32) (ix2 0 k) = (m ((c : Thread nD τ).loc main_arg6) : FVec Ideal S1x1024 .f32) (ix2 0 k) := by
  blk_point [iblk, V, idx t, row_tile, tile_val]

theorem blk_w (t : Fin cfg0.N) (j k : Fin 1024) :
    (iblk m c 8 t : FVec Ideal S1024x1024 .bf16) (ix2 j k) = (m ((c : Thread nD τ).loc main_arg7) : FVec Ideal S1024x1024 .f32) (ix2 j k) := by
  blk_point [iblk, V, idx t, row_tile, tile_val]

/-- The gated convolution of a tile, of the arguments. -/
theorem hy (t : Fin cfg0.N) (a k : Fin 512) :
    k0_pay4 (F := Ideal) (iblk m c 0 t) (ix2 a k) * (k0_pay6 (F := Ideal) (grid0.coords t) (iblk m c 0 t) (iblk m c 1 t) (iblk m c 4 t) (ix2 a k)
        + k0_pay3 (F := Ideal) (iblk m c 4 t) (ix2 2 k) * k0_pay5 (F := Ideal) (iblk m c 0 t) (ix2 a k))
      = yconv (fun r k => (m ((c : Thread nD τ).loc main_arg0) : FVec Ideal S8192x3072 .f32) (ix2 r k))
          (fun s k => (m ((c : Thread nD τ).loc main_arg3) : FVec Ideal S3x512 .f32) (ix2 s k)) (row (tile t) a) k :=
  yconv_ker (t := tile t) (idx t).2.2.2.2.2.2.2.2.2.2.2.2.1 (blk_z m c t) (blk_halo m c t) (blk_cw m c t) a k

/-- The normed branches beside each other. -/
theorem final_mix :
    (dats m 0 c).arrAt 9 cfg0.N = Cert.Reference5Ideal.Read.val_main_v51 (F := Ideal) (m ((c : Thread nD τ).loc main_arg0)) (m ((c : Thread nD τ).loc main_arg1))
      (m ((c : Thread nD τ).loc main_arg3)) (m ((c : Thread nD τ).loc main_arg4)) (m ((c : Thread nD τ).loc main_arg5)) := by
  refine (dats m 0 c).arrAt_eq_of_covers 9 _ (by decide +kernel) fun t _ y => ?_
  blk_simp
  rw [after0_9]
  idx_vars y
  refine Eq.trans ?_ ((mix_ref _ _ _ _ _ (row (tile t) y0) y1).symm.trans (congrArg _ ?_))
  · unfold_out out0_9
    frame_out
    refine (mix_ker (hy m c t) _ _ _ y0 y1).trans ?_
    simp only [blk_y, blk_gc, blk_ga]
  · blk_ext [idx t, row_tile]

/-- The residual with the branches' product added. -/
theorem final_res :
    (dats m 0 c).arrAt 10 cfg0.N = Cert.Reference5Ideal.Read.val_main_v50 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5))
      (m ((c : Thread nD τ).loc main_arg7)) := by
  refine (dats m 0 c).arrAt_eq_of_covers 10 _ (by decide +kernel) fun t _ y => ?_
  blk_simp
  rw [after0_10]
  idx_vars y
  refine Eq.trans ?_ ((res_ref _ _ _ _ _ _ _ (row (tile t) y0) y1).symm.trans (congrArg _ ?_))
  · unfold_out out0_10
    frame_out
    refine (res_ker (hy m c t) _ _ _ _ _ y0 y1).trans ?_
    simp only [blk_y, blk_gc, blk_ga, blk_x, blk_w]
  · blk_ext [idx t, row_tile]

/-- The normed residual. -/
theorem final_norm :
    (dats m 0 c).arrAt 11 cfg0.N = Cert.Reference5Ideal.Read.val_main_v64 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5))
      (m ((c : Thread nD τ).loc main_arg6)) (m ((c : Thread nD τ).loc main_arg7)) := by
  refine (dats m 0 c).arrAt_eq_of_covers 11 _ (by decide +kernel) fun t _ y => ?_
  blk_simp
  rw [after0_11]
  idx_vars y
  refine Eq.trans ?_ ((normed_ref _ _ _ _ _ _ _ _ (row (tile t) y0) y1).symm.trans (congrArg _ ?_))
  · unfold_out out0_11
    frame_out
    refine (normed_ker _ _ y0 y1).trans ?_
    have e : ∀ n, _ = _ := fun n => (res_ker (hy m c t) (iblk m c 2 t) (iblk m c 5 t) (iblk m c 6 t) (iblk m c 3 t) (iblk m c 8 t) y0 n).trans
      (by simp only [blk_y, blk_gc, blk_ga, blk_x, blk_w]; exact (res_ref _ _ _ _ _ _ _ (row (tile t) y0) n).symm)
    simp only [e, blk_gf]
  · blk_ext [idx t, row_tile]

end Cert.Mix
-- ==== Proof.MixClaim.lean ====
/- The mixer's end: the kernel's results are the reference's. -/
module

public import proofs.«01_k».proof.Defs
public import proofs.«01_k».proof.Proof.MixVal
public import proofs.«01_k».proof.Proof.Gen.Reference5Ideal.Run
public import Idealize.ShloMosaic.Lib.Quiescent

@[expose] public section

set_option maxRecDepth 16384

noncomputable section

namespace Cert.Mix

open Idealize.ShloMosaic Idealize.ShloMosaic.TcCoe Idealize.SL.Sem

set_option maxHeartbeats 1000000 in
/-- The kernel's results are the reference's, from equal arguments. -/
theorem algebraic : Cert.algebraic_Kernel5Ideal_Reference5Ideal := by
  intro m g m' g' _ hagree
  refine ⟨_, _, _, Cert.Kernel5Ideal.Value.run_blocks m g, (θ_run _ _ _).mono ?_ (Cert.Reference5Ideal.Value.run m' g')⟩
  intro r h c
  obtain ⟨a0, a1, a2, a3, a4, a5, a6, a7⟩ := hagree c
  obtain ⟨r0, r1, r2, k⟩ := h c
  refine ⟨r0.trans ?_, r1.trans ?_, r2.trans ?_, k⟩
  · refine (Cert.Reference5Ideal.Read.val_main_v51_eq m' c).trans ?_
    rw [a0, a1, a3, a4, a5]
    exact (final_mix m c).symm
  · refine (Cert.Reference5Ideal.Read.val_main_v50_eq m' c).trans ?_
    rw [a0, a1, a2, a3, a4, a5, a7]
    exact (final_res m c).symm
  · refine (Cert.Reference5Ideal.Read.val_main_v64_eq m' c).trans ?_
    rw [a0, a1, a2, a3, a4, a5, a6, a7]
    exact (final_norm m c).symm

/-- The reference runs and leaves its arguments as they were. -/
theorem frame_reference : Cert.quiescent_Reference5Ideal := by
  intro m g _
  exact (θ_run Cert.Reference5Ideal.defs _ _).mono (fun r h => ⟨fun c => (h c).2.2.2,
      Idealize.ShloMosaic.sem_eq_zero_of_no_sems (by decide) r.2⟩) (Cert.Reference5Ideal.Value.run (F := Ideal) m g)

end Cert.Mix
-- ==== Proof.GateVal.lean ====
/- The down projection's weight gradient with its gate computed in the kernel: what its result array holds after the run, and what the reference's result is. -/
module

public import proofs.«01_k».proof.Proof.Reals
public import proofs.«01_k».proof.Proof.Gen.Kernel6Ideal.Value
public import proofs.«01_k».proof.Proof.Gen.Reference6Ideal.Read
public import Idealize.ShloMosaic.Lib.Pipeline.ReadBack
public import Idealize.ShloMosaic.Lib.Pipeline.ValueKit

@[expose] public section

set_option maxRecDepth 16384

noncomputable section

namespace Cert.Gate

open Idealize.ShloMosaic Idealize.ShloMosaic.TcCoe Idealize.SL.Sem
open Idealize.ShloMosaic.Pipeline (Dat)
open Cert.Reals

theorem ofBits_one : Ideal.ofBits .f32 0x3F800000#32 = (1 : EReal) := by
  simp [Ideal.ofBits, Ideal.ieee]; norm_num [← EReal.coe_mul]

/-- A hidden unit: the gate's activation times the other projection. -/
def hid (b a : EReal) : EReal := a * Ideal.logistic a * b

section
open Cert.Reference6Ideal Cert.Reference6Ideal.Read

variable (b a : S8192x2816.Idx → EReal) (dy : S8192x1024.Idx → EReal)

theorem hid_ref (r : Fin 8192) (f : Fin 2816) : val_main_v2 (F := Ideal) b a (ix2 r f) = hid (b (ix2 r f)) (a (ix2 r f)) := by
  pointwise [val_main_v2, val_main_v1, val_main_call0_v5, val_main_call0_v4, val_main_call0_v3, val_main_call0_v2, val_main_call0_v1, val_main_call0_v0,
    val_main_call0_cst, val_main_call0_cst_0, ofBits_one]
  rfl

/-- The reference's weight gradient: over the rows, hidden unit times cotangent. -/
theorem grad_ref (f : Fin 2816) (l : Fin 1024) :
    val_main_v6 (F := Ideal) b a dy (ix2 f l) = ∑ r, dy (ix2 r l) * hid (b (ix2 r f)) (a (ix2 r f)) := by
  pointwise [val_main_v6, val_main_v5, val_main_v4, hid_ref]

end

open Cert.Kernel6Ideal Cert.Kernel6Ideal.Gen

/-- One tile of rows added to the sum. -/
theorem step_ker (b a : FVec Ideal S2048x1408 .bf16) (acc : FVec Ideal S1408x1024 .f32) (dy : FVec Ideal S2048x1024 .bf16) (f : Fin 1408) (l : Fin 1024) :
    k0_pay2 (F := Ideal) b a acc dy (ix2 f l) = acc (ix2 f l) + ∑ r, hid (b (ix2 r f)) (a (ix2 r f)) * dy (ix2 r l) := by
  pointwise [k0_pay2]
  rfl

variable (m : (ℓ : Loc nD τ sig) → Buf (Elt Ideal) ℓ) (c : Dev nD)

/-- The block indices at every grid point. -/
theorem idx : ∀ t : Fin cfg0.N, win0_0.index t = ![t.val % 4, t.val / 4] ∧ win0_1.index t = ![t.val % 4, t.val / 4] ∧ win0_2.index t = ![t.val % 4, 0]
    ∧ win0_3.index t = ![t.val / 4, 0] ∧ t.val < 8 :=
  (by decide +kernel : ∀ t : Fin grid0.N, _)

/-- The row tile of a grid point. -/
def tile (t : Fin cfg0.N) : Fin 4 := ⟨t.val % 4, by omega⟩

/-- The half of the hidden units of a grid point. -/
def half (t : Fin cfg0.N) : Fin 2 := ⟨t.val / 4, by have := (idx t).2.2.2.2; omega⟩

/-- Row `a` of row tile `t`. -/
def row (t : Fin 4) (a : Fin 2048) : Fin 8192 := ⟨2048 * t.val + a.val, by omega⟩

/-- Hidden unit `f` of half `h`. -/
def col (h : Fin 2) (f : Fin 1408) : Fin 2816 := ⟨1408 * h.val + f.val, by omega⟩

theorem row_tile (t : Fin cfg0.N) (a : Fin 2048) : (row (tile t) a).val = 2048 * (t.val % 4) + a.val := rfl

theorem col_half (t : Fin cfg0.N) (f : Fin 1408) : (col (half t) f).val = 1408 * (t.val / 4) + f.val := rfl

theorem blk_a (t : Fin cfg0.N) (r : Fin 2048) (f : Fin 1408) :
    (iblk m c 0 t : FVec Ideal S2048x1408 .bf16) (ix2 r f)
      = (m ((c : Thread nD τ).loc main_arg1) : FVec Ideal S8192x2816 .f32) (ix2 (row (tile t) r) (col (half t) f)) := by
  blk_point [iblk, V, idx t, row_tile, col_half]

theorem blk_b (t : Fin cfg0.N) (r : Fin 2048) (f : Fin 1408) :
    (iblk m c 1 t : FVec Ideal S2048x1408 .bf16) (ix2 r f)
      = (m ((c : Thread nD τ).loc main_arg0) : FVec Ideal S8192x2816 .f32) (ix2 (row (tile t) r) (col (half t) f)) := by
  blk_point [iblk, V, idx t, row_tile, col_half]

theorem blk_dy (t : Fin cfg0.N) (r : Fin 2048) (l : Fin 1024) :
    (iblk m c 2 t : FVec Ideal S2048x1024 .bf16) (ix2 r l) = (m ((c : Thread nD τ).loc main_arg2) : FVec Ideal S8192x1024 .f32) (ix2 (row (tile t) r) l) := by
  blk_point [iblk, V, idx t, row_tile]

/-- A row's product in the gradient at hidden unit `f` and column `l`. -/
def term (f : Fin 2816) (l : Fin 1024) (r : Fin 8192) : EReal :=
  hid ((m ((c : Thread nD τ).loc main_arg0) : FVec Ideal S8192x2816 .f32) (ix2 r f)) ((m ((c : Thread nD τ).loc main_arg1) : FVec Ideal S8192x2816 .f32) (ix2 r f))
    * (m ((c : Thread nD τ).loc main_arg2) : FVec Ideal S8192x1024 .f32) (ix2 r l)

/-- A grid point adds its tile's products. -/
theorem step (t : Fin cfg0.N) (acc : FVec Ideal S1408x1024 .f32) (f : Fin 1408) (l : Fin 1024) :
    k0_pay2 (F := Ideal) (iblk m c 1 t) (iblk m c 0 t) acc (iblk m c 2 t) (ix2 f l)
      = acc (ix2 f l) + ∑ r, term m c (col (half t) f) l (row (tile t) r) := by
  rw [step_ker]
  simp only [blk_a, blk_b, blk_dy]
  rfl

/-- The scratch after the last row tile is the sum over all rows. -/
theorem hacc (t : Fin cfg0.N) (ht : t.val % 4 = 3) (j : S1408x1024.Idx) :
    ((outsAt0 m c t.val t.isLt).2 : FVec Ideal S1408x1024 .f32) j = ∑ r, term m c (col (half t) (j 0)) (j 1) r := by
  rw [Pipeline.eq_sum_fin_of_reset_step_apply_of_flush (fun n h => ((outsAt0 m c n h).2 : FVec Ideal S1408x1024 .f32)) 4 (fun _ => (0 : EReal))
    (fun t j => ∑ r, term m c (col (half t) (j 0)) (j 1) (row (tile t) r))
    (fun t h j => by
      rw [outsAt0_A m c t h (by omega)]; frame_out; idx_vars j
      refine (step m c t _ j0 j1).trans ?_
      refine congrArg (· + _) ?_
      pointwise [k0_pay1])
    (fun t h j => by
      by_cases h1 : t.val % 4 = 3
      · rw [outsAt0_C m c t h h1]; frame_out; idx_vars j
        rw [read_unread_whole]
        exact step m c t _ j0 j1
      · rw [outsAt0_B m c t h h1]; frame_out; idx_vars j
        rw [read_unread_whole]
        exact step m c t _ j0 j1) t ht, zero_add]
  refine Fin.sum_mul_add_congr (fun s a hl => ?_) (by norm_num)
  have := (idx t).2.2.2.2
  refine congrArg₂ (fun f r => term m c f (j 1) r) (Fin.ext ?_) (Fin.ext ?_)
  · show 1408 * ((4 * (t.val / 4) + s.val) / 4) + _ = 1408 * (t.val / 4) + _
    omega
  · show 2048 * ((4 * (t.val / 4) + s.val) % 4) + a.val = s.val * 2048 + a.val
    omega

/-- The weight gradient. -/
theorem final_grad :
    (dats m 0 c).arrAt 3 cfg0.N = Cert.Reference6Ideal.Read.val_main_v6 (F := Ideal) (m ((c : Thread nD τ).loc main_arg0)) (m ((c : Thread nD τ).loc main_arg1))
      (m ((c : Thread nD τ).loc main_arg2)) := by
  refine (dats m 0 c).arrAt_eq_of_covers 3 _ (by decide +kernel) fun t hf y => ?_
  have ht := (flush0_3 t).mp hf
  blk_simp
  rw [after0_3]
  idx_vars y
  refine Eq.trans ?_ ((grad_ref _ _ _ (col (half t) y0) y1).symm.trans (congrArg _ ?_))
  · refine Eq.trans ?_ ((hacc m c t ht (ix2 y0 y1)).trans (Finset.sum_congr rfl fun r _ => mul_comm _ _))
    rw [outsAt0_C m c t (by omega) ht]; frame_out
    pointwise [k0_pay3]
  · blk_ext [idx t, col_half]

end Cert.Gate
-- ==== Proof.GateClaim.lean ====
/- The down projection's weight gradient: the kernel's result is the derivative of the forward lines by the weight. -/
module

public import proofs.«01_k».proof.Defs
public import proofs.«01_k».proof.Proof.GateVal
public import proofs.«01_k».proof.Proof.Gen.Reference6Ideal.Run
public import Idealize.ShloMosaic.Lib.Quiescent

@[expose] public section

set_option maxRecDepth 16384

noncomputable section

namespace Cert.Gate

open Idealize.ShloMosaic Idealize.ShloMosaic.TcCoe Idealize.SL.Sem

/-- The kernel's result is the reference's, from equal arguments. -/
theorem algebraic : Cert.algebraic_Kernel6Ideal_Reference6Ideal := by
  intro m g m' g' _ hagree
  refine ⟨_, Cert.Kernel6Ideal.Value.run_blocks m g, (θ_run _ _ _).mono ?_ (Cert.Reference6Ideal.Value.run m' g')⟩
  intro r h c
  obtain ⟨a0, a1, a2⟩ := hagree c
  obtain ⟨r0, k⟩ := h c
  refine ⟨r0.trans ?_, k⟩
  refine (Cert.Reference6Ideal.Read.val_main_v6_eq _ _ _).trans ?_
  rw [a0, a1, a2]
  exact (final_grad m c).symm

/-- The reference runs and leaves its arguments as they were. -/
theorem frame_reference : Cert.quiescent_Reference6Ideal := by
  intro m g _
  exact (θ_run Cert.Reference6Ideal.defs _ _).mono (fun r h => ⟨fun c => (h c).2,
      Idealize.ShloMosaic.sem_eq_zero_of_no_sems (by decide) r.2⟩) (Cert.Reference6Ideal.Value.run (F := Ideal) m g)

end Cert.Gate
-- ==== Proof.ProjVal.lean ====
/- The input projection: what the kernel's result arrays hold after the run, and what the reference's results are. -/
module

public import proofs.«01_k».proof.Proof.Reals
public import proofs.«01_k».proof.Proof.Gen.Kernel7Ideal.Value
public import proofs.«01_k».proof.Proof.Gen.Reference7Ideal.Read
public import Idealize.ShloMosaic.Lib.Pipeline.ReadBack
public import Idealize.ShloMosaic.Lib.Pipeline.ValueKit

@[expose] public section

set_option maxRecDepth 16384

noncomputable section

namespace Cert.Proj

open Idealize.ShloMosaic Idealize.ShloMosaic.TcCoe Idealize.SL.Sem
open Idealize.ShloMosaic.Pipeline (Dat)
open Cert.Reals

/-- The inverse root of a row's mean square. -/
def rinv (x : Fin 1024 → EReal) : EReal :=
  Ideal.rsqrt (Ideal.div (∑ k, x k * x k) (Ideal.ofBits .f32 0x44800000#32) + Ideal.ofBits .f32 0x358637BD#32)

/-- A row normed, times the gain. -/
def norm (x g : Fin 1024 → EReal) (l : Fin 1024) : EReal := x l * rinv x * g l

section
open Cert.Reference7Ideal Cert.Reference7Ideal.Read

variable (x : S8192x1024.Idx → EReal) (g : S1x1024.Idx → EReal) (w : S1024x3072.Idx → EReal)

theorem rinv_ref (r : Fin 8192) (u : Fin 1) : val_main_v7 (F := Ideal) x (ix2 r u) = rinv fun k => x (ix2 r k) := by
  pointwise [val_main_v7, val_main_v6, val_main_v5, val_main_cst_1, val_main_v4, val_main_v3, val_main_cst_0, val_main_v2, val_main_v1, val_main_v0, val_main_cst]
  rfl

theorem norm_ref (r : Fin 8192) (l : Fin 1024) :
    val_main_v11 (F := Ideal) x g (ix2 r l) = norm (fun k => x (ix2 r k)) (fun k => g (ix2 0 k)) l := by
  pointwise [val_main_v11, val_main_v10, val_main_v9, val_main_v8, rinv_ref]
  rfl

theorem proj_ref (r : Fin 8192) (n : Fin 3072) :
    val_main_v13 (F := Ideal) x g w (ix2 r n) = ∑ l, norm (fun k => x (ix2 r k)) (fun k => g (ix2 0 k)) l * w (ix2 l n) := by
  pointwise [val_main_v13, norm_ref]

end

open Cert.Kernel7Ideal Cert.Kernel7Ideal.Gen

section
variable (x : FVec Ideal S512x1024 .f32) (g : FVec Ideal S1x1024 .f32) (w : FVec Ideal S3072x1024 .bf16)

theorem norm_ker (a : Fin 512) (l : Fin 1024) :
    k0_pay4 (F := Ideal) x g (ix2 a l) = norm (fun k => x (ix2 a k)) (fun k => g (ix2 0 k)) l := by
  pointwise [k0_pay4]
  rfl

theorem out_norm (a : Fin 512) (l : Fin 1024) : out0_3 (F := Ideal) x g w (ix2 a l) = norm (fun k => x (ix2 a k)) (fun k => g (ix2 0 k)) l := by
  unfold_out out0_3
  canon_tiles y h
  all_goals
    idx_vars y
    obtain rfl : a = y0 := Fin.ext h0
    obtain ⟨l, hl⟩ := l
    replace h1 : l = _ := h1
    subst h1
  pointwise [norm_ker]

/-- A tile of the product, stored in six pieces of columns. -/
theorem out_proj (a : Fin 512) (n : Fin 3072) :
    out0_4 (F := Ideal) x g w (ix2 a n) = ∑ l, norm (fun k => x (ix2 a k)) (fun k => g (ix2 0 k)) l * w (ix2 n l) := by
  unfold_out out0_4
  canon_tiles y h
  all_goals
    idx_vars y
    obtain rfl : a = y0 := Fin.ext h0
    obtain ⟨n, hl⟩ := n
    replace h1 : n = _ := h1
    subst h1
  all_goals pointwise [k0_pay1, k0_pay2, k0_pay3, k0_pay5, k0_pay6, k0_pay7, norm_ker]

end

variable (m : (ℓ : Loc nD τ sig) → Buf (Elt Ideal) ℓ) (c : Dev nD)

/-- The block indices at every grid point. -/
theorem idx : ∀ t : Fin cfg0.N, win0_0.index t = ![t.val, 0] ∧ win0_1.index t = ![0, 0] ∧ win0_2.index t = ![0, 0] ∧ win0_3.index t = ![t.val, 0]
    ∧ win0_4.index t = ![t.val, 0] ∧ t.val < 16 :=
  (by decide +kernel : ∀ t : Fin grid0.N, _)

/-- Row `a` of a grid point's tile. -/
def row (t : Fin cfg0.N) (a : Fin 512) : Fin 8192 := ⟨512 * t.val + a.val, by have := (idx t).2.2.2.2.2; omega⟩

theorem row_val (t : Fin cfg0.N) (a : Fin 512) : (row t a).val = 512 * t.val + a.val := rfl

theorem blk_x (t : Fin cfg0.N) (a : Fin 512) (l : Fin 1024) :
    (iblk m c 0 t : FVec Ideal S512x1024 .f32) (ix2 a l) = (m ((c : Thread nD τ).loc main_arg0) : FVec Ideal S8192x1024 .f32) (ix2 (row t a) l) := by
  blk_point [iblk, V, idx t, row_val]

theorem blk_g (t : Fin cfg0.N) (l : Fin 1024) :
    (iblk m c 1 t : FVec Ideal S1x1024 .f32) (ix2 0 l) = (m ((c : Thread nD τ).loc main_arg1) : FVec Ideal S1x1024 .f32) (ix2 0 l) := by
  blk_point [iblk, V, idx t]

theorem blk_w (t : Fin cfg0.N) (n : Fin 3072) (l : Fin 1024) :
    (iblk m c 2 t : FVec Ideal S3072x1024 .bf16) (ix2 n l) = (m ((c : Thread nD τ).loc main_arg2) : FVec Ideal S1024x3072 .f32) (ix2 l n) := by
  blk_point [iblk, V, idx t]

/-- The normed rows. -/
theorem final_h :
    (dats m 0 c).arrAt 3 cfg0.N = Cert.Reference7Ideal.Read.val_main_v12 (F := Ideal) (m ((c : Thread nD τ).loc main_arg0)) (m ((c : Thread nD τ).loc main_arg1)) := by
  refine (dats m 0 c).arrAt_eq_of_covers 3 _ (by decide +kernel) fun t _ y => ?_
  blk_simp
  rw [after0_3]
  idx_vars y
  refine Eq.trans ?_ ((norm_ref _ _ (row t y0) y1).symm.trans (congrArg _ ?_))
  · refine (out_norm _ _ _ y0 y1).trans ?_
    simp only [blk_x, blk_g]
  · blk_ext [idx t, row_val]

/-- Their projection. -/
theorem final_z :
    (dats m 0 c).arrAt 4 cfg0.N = Cert.Reference7Ideal.Read.val_main_v14 (F := Ideal) (m ((c : Thread nD τ).loc main_arg0)) (m ((c : Thread nD τ).loc main_arg1))
      (m ((c : Thread nD τ).loc main_arg2)) := by
  refine (dats m 0 c).arrAt_eq_of_covers 4 _ (by decide +kernel) fun t _ y => ?_
  blk_simp
  rw [after0_4]
  idx_vars y
  refine Eq.trans ?_ ((proj_ref _ _ _ (row t y0) y1).symm.trans (congrArg _ ?_))
  · refine (out_proj _ _ _ y0 y1).trans ?_
    simp only [blk_x, blk_g, blk_w]
  · blk_ext [idx t, row_val]

end Cert.Proj
-- ==== Proof.ProjClaim.lean ====
/- The input projection: the kernel's results are the normed rows and their projection. -/
module

public import proofs.«01_k».proof.Defs
public import proofs.«01_k».proof.Proof.ProjVal
public import proofs.«01_k».proof.Proof.Gen.Reference7Ideal.Run
public import Idealize.ShloMosaic.Lib.Quiescent

@[expose] public section

set_option maxRecDepth 16384

noncomputable section

namespace Cert.Proj

open Idealize.ShloMosaic Idealize.ShloMosaic.TcCoe Idealize.SL.Sem

/-- The kernel's results are the reference's, from equal arguments. -/
theorem algebraic : Cert.algebraic_Kernel7Ideal_Reference7Ideal := by
  intro m g m' g' _ hagree
  refine ⟨_, _, Cert.Kernel7Ideal.Value.run_blocks m g, (θ_run _ _ _).mono ?_ (Cert.Reference7Ideal.Value.run m' g')⟩
  intro r h c
  obtain ⟨a0, a1, a2⟩ := hagree c
  obtain ⟨r0, r1, k⟩ := h c
  refine ⟨r0.trans ?_, r1.trans ?_, k⟩
  · refine (Cert.Reference7Ideal.Read.val_main_v12_eq _ _).trans ?_
    rw [a0, a1]
    exact (final_h m c).symm
  · refine (Cert.Reference7Ideal.Read.val_main_v14_eq _ _ _).trans ?_
    rw [a0, a1, a2]
    exact (final_z m c).symm

/-- The reference runs and leaves its arguments as they were. -/
theorem frame_reference : Cert.quiescent_Reference7Ideal := by
  intro m g _
  exact (θ_run Cert.Reference7Ideal.defs _ _).mono (fun r h => ⟨fun c => (h c).2.2,
      Idealize.ShloMosaic.sem_eq_zero_of_no_sems (by decide) r.2⟩) (Cert.Reference7Ideal.Value.run (F := Ideal) m g)

end Cert.Proj
-- ==== Proof.BranchTower.lean ====
/- What one trip of the branch's loop stores, said with few functions.

   A trip treats two residue classes of 512 rows, four blocks of 128 query rows in each; a block's
   keys are its own 128 rows and the 128 before them. Eight blocks (`slots`) in all, each with the
   two heads of the pair one above the other: 256 rows of scores. The functions below are the
   printed operations of one slot, gathered under names; the theorems say that each stored block is
   built by them. -/
module

public import proofs.«01_k».proof.Defs
public import proofs.«01_k».proof.Proof.Gen.Kernel8Ideal.Value

@[expose] public section

noncomputable section

namespace Cert.Proof.Branch

open Idealize.ShloMosaic Idealize.ShloMosaic.TcCoe Cert.Kernel8Ideal Cert.Kernel8Ideal.Gen

/-- A block of 128 rows by 128 lanes, in the ideal reading. -/
abbrev Tile := FVec Ideal S128x128 .f32
/-- The two heads' 256 rows against 256 keys. -/
abbrev Sq := FVec Ideal S256x256 .f32

/-- The zero block. -/
def zeroT : Tile := broadcast S128x128 (Scalar.ofBits (F := Ideal) .f32 0x00000000#32)

/-- The lanes of the pair's first head in the upper 128 rows, of its second in the lower. -/
def stack (t : Tile) : FVec Ideal S256x128 .bf16 :=
  truncf .bf16 (concatenate S256x128 0 [⟨S128x128, (select k0_pay1 t zeroT : Vec Ideal S128x128 .f32)⟩, ⟨S128x128, select k0_pay1 zeroT t⟩]
    concatenates_S128x128_S128x128_S256x128_d0) bitsLt_bf16_f32

/-- A block of keys behind the block before it. -/
def pair (a b : Tile) : FVec Ideal S256x128 .bf16 :=
  concatenate S256x128 0 [⟨S128x128, truncf .bf16 a bitsLt_bf16_f32⟩, ⟨S128x128, truncf .bf16 b bitsLt_bf16_f32⟩]
    concatenates_S128x128_S128x128_S256x128_d0

/-- Rows of one block against rows of two. -/
def rowsBy (q a b : Tile) : Sq :=
  matmul dot_S256x128_S256x128_S256x256_1_1_0_0_n_n none (stack q) (pair a b) (constant S256x256 .f32 0x00000000#32)

/-- The masked scores of a slot. -/
def score (q a b : Tile) (mk : Vec Ideal S1x256x256 .f32) : Sq :=
  addf (rowsBy q a b) (shapeCast S256x256 mk shapeCasts_S1x256x256_S256x256)

/-- One lane of the saved statistics. -/
def lane0 (t : Tile) := extractStridedSlice S128x1 ![0, 0] (shapeCast S128x128 t shapeCasts_S128x128_S128x128) slices_S128x128_o0_0_S128x1
def lane64 (t : Tile) := extractStridedSlice S128x1 ![0, 64] (shapeCast S128x128 t shapeCasts_S128x128_S128x128) slices_S128x128_o0_64_S128x1
def lane1 (t : Tile) := extractStridedSlice S128x1 ![0, 1] (shapeCast S128x128 t shapeCasts_S128x128_S128x128) slices_S128x128_o0_1_S128x1
def lane65 (t : Tile) := extractStridedSlice S128x1 ![0, 65] (shapeCast S128x128 t shapeCasts_S128x128_S128x128) slices_S128x128_o0_65_S128x1

/-- The weights of all eight slots. -/
def probs (s : Fin 8 → Sq) (st : Fin 8 → Tile) : FVec Ideal S2048x256 .f32 :=
  exp (subf (concatenate S2048x256 0 [⟨S256x256, s 0⟩, ⟨S256x256, s 1⟩, ⟨S256x256, s 2⟩, ⟨S256x256, s 3⟩, ⟨S256x256, s 4⟩, ⟨S256x256, s 5⟩, ⟨S256x256, s 6⟩, ⟨S256x256, s 7⟩]
      concatenates_S256x256_S256x256_S256x256_S256x256_S256x256_S256x256_S256x256_S256x256_S2048x256_d0)
    (broadcastTo S2048x256 (concatenate S2048x1 0 [⟨S128x1, lane0 (st 0)⟩, ⟨S128x1, lane64 (st 0)⟩, ⟨S128x1, lane0 (st 1)⟩, ⟨S128x1, lane64 (st 1)⟩, ⟨S128x1, lane0 (st 2)⟩, ⟨S128x1, lane64 (st 2)⟩, ⟨S128x1, lane0 (st 3)⟩, ⟨S128x1, lane64 (st 3)⟩, ⟨S128x1, lane0 (st 4)⟩, ⟨S128x1, lane64 (st 4)⟩, ⟨S128x1, lane0 (st 5)⟩, ⟨S128x1, lane64 (st 5)⟩, ⟨S128x1, lane0 (st 6)⟩, ⟨S128x1, lane64 (st 6)⟩, ⟨S128x1, lane0 (st 7)⟩, ⟨S128x1, lane64 (st 7)⟩]
      concatenates_S128x1_S128x1_S128x1_S128x1_S128x1_S128x1_S128x1_S128x1_S128x1_S128x1_S128x1_S128x1_S128x1_S128x1_S128x1_S128x1_S2048x1_d0) broadcasts_S2048x1_S2048x256))

/-- The gradients of the scores of all eight slots. -/
def dsAll (s dp : Fin 8 → Sq) (st : Fin 8 → Tile) : FVec Ideal S2048x256 .bf16 :=
  truncf .bf16 (mulf (probs s st)
    (subf (concatenate S2048x256 0 [⟨S256x256, dp 0⟩, ⟨S256x256, dp 1⟩, ⟨S256x256, dp 2⟩, ⟨S256x256, dp 3⟩, ⟨S256x256, dp 4⟩, ⟨S256x256, dp 5⟩, ⟨S256x256, dp 6⟩, ⟨S256x256, dp 7⟩]
        concatenates_S256x256_S256x256_S256x256_S256x256_S256x256_S256x256_S256x256_S256x256_S2048x256_d0)
      (broadcastTo S2048x256 (concatenate S2048x1 0 [⟨S128x1, lane1 (st 0)⟩, ⟨S128x1, lane65 (st 0)⟩, ⟨S128x1, lane1 (st 1)⟩, ⟨S128x1, lane65 (st 1)⟩, ⟨S128x1, lane1 (st 2)⟩, ⟨S128x1, lane65 (st 2)⟩, ⟨S128x1, lane1 (st 3)⟩, ⟨S128x1, lane65 (st 3)⟩, ⟨S128x1, lane1 (st 4)⟩, ⟨S128x1, lane65 (st 4)⟩, ⟨S128x1, lane1 (st 5)⟩, ⟨S128x1, lane65 (st 5)⟩, ⟨S128x1, lane1 (st 6)⟩, ⟨S128x1, lane65 (st 6)⟩, ⟨S128x1, lane1 (st 7)⟩, ⟨S128x1, lane65 (st 7)⟩]
        concatenates_S128x1_S128x1_S128x1_S128x1_S128x1_S128x1_S128x1_S128x1_S128x1_S128x1_S128x1_S128x1_S128x1_S128x1_S128x1_S128x1_S2048x1_d0) broadcasts_S2048x1_S2048x256))) bitsLt_bf16_f32

theorem slices_slot (n : Fin 8) : S2048x256.Slices ![256 * n.val, 0] S256x256 := by
  revert n; decide +kernel

/-- Slot `n`'s 256 rows of all. -/
def slot (n : Fin 8) (x : FVec Ideal S2048x256 .bf16) : FVec Ideal S256x256 .bf16 :=
  extractStridedSlice S256x256 ![256 * n.val, 0] x (slices_slot n)

/-- The gradient of a slot's queries. -/
def dqTile (ds : FVec Ideal S256x256 .bf16) (a b : Tile) : Tile :=
  select k0_pay1
    (extractStridedSlice S128x128 ![0, 0] (matmul dot_S256x256_S256x128_S256x128_1_0_0_1_n_n none ds (pair a b) (constant S256x128 .f32 0x00000000#32)) slices_S256x128_o0_0_S128x128)
    (extractStridedSlice S128x128 ![128, 0] (matmul dot_S256x256_S256x128_S256x128_1_0_0_1_n_n none ds (pair a b) (constant S256x128 .f32 0x00000000#32)) slices_S256x128_o128_0_S128x128)

/-- What a slot adds to the keys (the values) of its two blocks, together. -/
def keyed (ds : FVec Ideal S256x256 .bf16) (q : Tile) : FVec Ideal S256x128 .f32 :=
  matmul dot_S256x256_S256x128_S256x128_0_0_1_1_n_n none ds (stack q) (constant S256x128 .f32 0x00000000#32)

/-- … to the block before, -/
def before (x : FVec Ideal S256x128 .f32) : Tile := extractStridedSlice S128x128 ![0, 0] x slices_S256x128_o0_0_S128x128
/-- … and to its own. -/
def own (x : FVec Ideal S256x128 .f32) : Tile := extractStridedSlice S128x128 ![128, 0] x slices_S256x128_o128_0_S128x128

/-- The 128 rows of block `b` of residue class `ci` of trip `k`. -/
abbrev blockAt (k : Fin k0_t1_loop.trips) (ci : Fin 2) (b : Fin 4) : Rect S8192x128 :=
  Rect.unit (s := S8192x128) (k0_off5 k (BitVec.ofNat 32 ci.val) (BitVec.ofNat 32 (128 * b.val))) S128x128.size (k0_off5_inb k ci b)
/-- The first block once more, as the block before the first is clamped. -/
abbrev clampAt (k : Fin k0_t1_loop.trips) (ci : Fin 2) : Rect S8192x128 :=
  Rect.unit (s := S8192x128) (k0_off4 k (BitVec.ofNat 32 ci.val)) S128x128.size (k0_off4_inb k ci)

/-- A buffer's rows there. -/
def rows (arg : Memref sig .tc .vmem S8192x128 .f32) (X : BufTy.Contents (Elt Ideal) arg.view.ty) (k : Fin k0_t1_loop.trips) (ci : Fin 2) (b : Fin 4) : Tile :=
  View.readAt (Elt Ideal) arg.view (blockAt k ci b).toLoadRect X

/-- The block of rows before. -/
def prevRows (arg : Memref sig .tc .vmem S8192x128 .f32) (X : BufTy.Contents (Elt Ideal) arg.view.ty) (k : Fin k0_t1_loop.trips) (ci : Fin 2) (b : Fin 4) : Tile :=
  match b with
  | 0 => View.readAt (Elt Ideal) arg.view (clampAt k ci).toLoadRect X
  | 1 => rows arg X k ci 0
  | 2 => rows arg X k ci 1
  | 3 => rows arg X k ci 2

/-- The mask of a slot: a residue's first block sees no block before it. -/
def maskOf (arg : Memref sig .tc .vmem S2x256x256 .f32) (X : BufTy.Contents (Elt Ideal) arg.view.ty) (b : Fin 4) : Vec Ideal S1x256x256 .f32 :=
  match b with
  | 0 => View.readAt (Elt Ideal) arg.view (Rect.unit (s := S2x256x256) ![1, 0, 0] S1x256x256.size inb_S2x256x256_S1x256x256_1_0_0).toLoadRect X
  | _ => View.readAt (Elt Ideal) arg.view (Rect.unit (s := S2x256x256) ![0, 0, 0] S1x256x256.size inb_S2x256x256_S1x256x256_0_0_0).toLoadRect X

/-- A slot's residue class among the trip's two, and its block. -/
def ciOf (n : Fin 8) : Fin 2 := ⟨n.val / 4, by omega⟩
def bOf (n : Fin 8) : Fin 4 := ⟨n.val % 4, by omega⟩

variable (arg1 arg2 : Memref sig .tc .vmem S8192x128 .f32) (arg3 : Memref sig .tc .vmem S2x256x256 .f32)
  (arg8 arg9 arg10 : Memref sig .tc .vmem S8192x128 .f32)
  (x1 : BufTy.Contents (Elt Ideal) arg1.view.ty) (x2 : BufTy.Contents (Elt Ideal) arg2.view.ty)
  (x3 : BufTy.Contents (Elt Ideal) arg3.view.ty) (x8 : BufTy.Contents (Elt Ideal) arg8.view.ty)
  (x9 : BufTy.Contents (Elt Ideal) arg9.view.ty) (x10 : BufTy.Contents (Elt Ideal) arg10.view.ty)
  (k : Fin k0_t1_loop.trips)

/-- The scores of slot `n` of trip `k`. -/
def scoreAt (n : Fin 8) : Sq :=
  score (rows arg8 x8 k (ciOf n) (bOf n)) (prevRows arg9 x9 k (ciOf n) (bOf n)) (rows arg9 x9 k (ciOf n) (bOf n)) (maskOf arg3 x3 (bOf n))

/-- The products of the cotangent with the values. -/
def dpAt (n : Fin 8) : Sq :=
  rowsBy (rows arg1 x1 k (ciOf n) (bOf n)) (prevRows arg10 x10 k (ciOf n) (bOf n)) (rows arg10 x10 k (ciOf n) (bOf n))

/-- The statistics of the slot's rows. -/
def statAt (n : Fin 8) : Tile := rows arg2 x2 k (ciOf n) (bOf n)

/-- The weights of slot `n`. -/
def pAt (n : Fin 8) : FVec Ideal S256x256 .bf16 :=
  slot n (truncf .bf16 (probs (scoreAt arg3 arg8 arg9 x3 x8 x9 k) (statAt arg2 x2 k)) bitsLt_bf16_f32)

/-- The gradients of the scores of slot `n`. -/
def dsAt (n : Fin 8) : FVec Ideal S256x256 .bf16 :=
  slot n (dsAll (scoreAt arg3 arg8 arg9 x3 x8 x9 k) (dpAt arg1 arg10 x1 x10 k) (statAt arg2 x2 k))

/-- What slot `n` adds to the queries' gradient. -/
def dqAt (n : Fin 8) : Tile :=
  dqTile (dsAt arg1 arg2 arg3 arg8 arg9 arg10 x1 x2 x3 x8 x9 x10 k n) (prevRows arg9 x9 k (ciOf n) (bOf n)) (rows arg9 x9 k (ciOf n) (bOf n))

/-- What slot `n` adds to the keys' gradient, in its two blocks. -/
def dkAt (n : Fin 8) : FVec Ideal S256x128 .f32 :=
  keyed (dsAt arg1 arg2 arg3 arg8 arg9 arg10 x1 x2 x3 x8 x9 x10 k n) (rows arg8 x8 k (ciOf n) (bOf n))

/-- What slot `n` adds to the values' gradient, in its two blocks. -/
def dvAt (n : Fin 8) : FVec Ideal S256x128 .f32 :=
  keyed (pAt arg2 arg3 arg8 arg9 x2 x3 x8 x9 k n) (rows arg1 x1 k (ciOf n) (bOf n))

/-- A block added to what was there. -/
def plus (x y : Tile) : Tile := addf (shapeCast S128x128 x shapeCasts_S128x128_S128x128) y

/-- What the trip adds to the block before the first of a residue class (all of it masked), to each of
    its first three blocks, and to its last. -/
def firstKey (g : Fin 8 → FVec Ideal S256x128 .f32) (n : Fin 8) : Tile := addf zeroT (before (g n))
def midKey (g : Fin 8 → FVec Ideal S256x128 .f32) (n m : Fin 8) : Tile := addf (addf zeroT (own (g n))) (before (g m))
def lastKey (g : Fin 8 → FVec Ideal S256x128 .f32) (n : Fin 8) : Tile := addf zeroT (own (g n))

variable (𝒱 : Variants) (c : Dev nD) (bd : Option 𝒱.V) (i : grid0.Coords) (harg1 : arg1.IsWhole) (harg2 : arg2.IsWhole) (harg3 : arg3.IsWhole)
  (arg4 : Memref sig .tc .hbm S4x3x8192x128 .f32) (harg4 : arg4.IsWhole) (arg5 : Memref sig .tc .vmem S8192x128 .f32) (harg5 : arg5.IsWhole)
  (arg6 : Memref sig .tc .vmem S8192x128 .f32) (harg6 : arg6.IsWhole) (arg7 : Memref sig .tc .vmem S8192x128 .f32) (harg7 : arg7.IsWhole)
  (harg8 : arg8.IsWhole) (harg9 : arg9.IsWhole) (harg10 : arg10.IsWhole) (arg11 : DmaSems sig S3)
  (f5 : BufTy.Contents (Elt Ideal) arg5.view.ty) (f6 : BufTy.Contents (Elt Ideal) arg6.view.ty) (f7 : BufTy.Contents (Elt Ideal) arg7.view.ty)

/-- One block's piece of the queries' gradient. -/
def dqPiece (n : Fin 8) : View.Piece (Elt Ideal) S8192x128 .f32 :=
  ⟨blockAt k (ciOf n) (bOf n), plus (rows arg5 f5 k (ciOf n) (bOf n)) (dqAt arg1 arg2 arg3 arg8 arg9 arg10 x1 x2 x3 x8 x9 x10 k n)⟩

/-- The trip's pieces of the queries' gradient, newest first. -/
theorem trip_dq :
    (trip_k0_t1 (F := Ideal) 𝒱 c bd i arg1 harg1 arg2 harg2 arg3 harg3 arg4 harg4 arg5 harg5 arg6 harg6 arg7 harg7 arg8 harg8 arg9 harg9 arg10 harg10 arg11 x1 x2 x3 x8 x9 x10 k).1 f5 f6 f7
      = [dqPiece arg1 arg2 arg3 arg8 arg9 arg10 x1 x2 x3 x8 x9 x10 k arg5 f5 7, dqPiece arg1 arg2 arg3 arg8 arg9 arg10 x1 x2 x3 x8 x9 x10 k arg5 f5 6, dqPiece arg1 arg2 arg3 arg8 arg9 arg10 x1 x2 x3 x8 x9 x10 k arg5 f5 5, dqPiece arg1 arg2 arg3 arg8 arg9 arg10 x1 x2 x3 x8 x9 x10 k arg5 f5 4, dqPiece arg1 arg2 arg3 arg8 arg9 arg10 x1 x2 x3 x8 x9 x10 k arg5 f5 3, dqPiece arg1 arg2 arg3 arg8 arg9 arg10 x1 x2 x3 x8 x9 x10 k arg5 f5 2, dqPiece arg1 arg2 arg3 arg8 arg9 arg10 x1 x2 x3 x8 x9 x10 k arg5 f5 1, dqPiece arg1 arg2 arg3 arg8 arg9 arg10 x1 x2 x3 x8 x9 x10 k arg5 f5 0] := by
  unfold trip_k0_t1
  rfl

/-- A residue class's pieces of the keys' (the values') gradient, newest first, over the pieces `L`
    of the class before. -/
def keyPieces (arg : Memref sig .tc .vmem S8192x128 .f32) (f : BufTy.Contents (Elt Ideal) arg.view.ty) (g : Fin 8 → FVec Ideal S256x128 .f32)
    (ci : Fin 2) (n0 n1 n2 n3 : Fin 8) (L : List (View.Piece (Elt Ideal) S8192x128 .f32)) : List (View.Piece (Elt Ideal) S8192x128 .f32) :=
  let L' := ⟨clampAt k ci, plus (View.readAt (Elt Ideal) arg.view (clampAt k ci).toLoadRect f) (firstKey g n0)⟩ :: L
  ⟨blockAt k ci 3, plus (rows arg f k ci 3) (lastKey g n3)⟩ ::
  ⟨blockAt k ci 2, plus (rows arg f k ci 2) (midKey g n2 n3)⟩ ::
  ⟨blockAt k ci 1, plus (rows arg f k ci 1) (midKey g n1 n2)⟩ ::
  ⟨blockAt k ci 0, plus (arg.view.readCov L' (blockAt k ci 0).toLoadRect) (midKey g n0 n1)⟩ :: L'

/-- The trip's pieces of the keys' gradient. -/
theorem trip_dk :
    (trip_k0_t1 (F := Ideal) 𝒱 c bd i arg1 harg1 arg2 harg2 arg3 harg3 arg4 harg4 arg5 harg5 arg6 harg6 arg7 harg7 arg8 harg8 arg9 harg9 arg10 harg10 arg11 x1 x2 x3 x8 x9 x10 k).2.1 f5 f6 f7
      = keyPieces k arg6 f6 (dkAt arg1 arg2 arg3 arg8 arg9 arg10 x1 x2 x3 x8 x9 x10 k) 1 4 5 6 7
          (keyPieces k arg6 f6 (dkAt arg1 arg2 arg3 arg8 arg9 arg10 x1 x2 x3 x8 x9 x10 k) 0 0 1 2 3 []) := by
  unfold trip_k0_t1
  rfl

/-- The trip's pieces of the values' gradient. -/
theorem trip_dv :
    (trip_k0_t1 (F := Ideal) 𝒱 c bd i arg1 harg1 arg2 harg2 arg3 harg3 arg4 harg4 arg5 harg5 arg6 harg6 arg7 harg7 arg8 harg8 arg9 harg9 arg10 harg10 arg11 x1 x2 x3 x8 x9 x10 k).2.2.1 f5 f6 f7
      = keyPieces k arg7 f7 (dvAt arg1 arg2 arg3 arg8 arg9 x1 x2 x3 x8 x9 k) 1 4 5 6 7
          (keyPieces k arg7 f7 (dvAt arg1 arg2 arg3 arg8 arg9 x1 x2 x3 x8 x9 k) 0 0 1 2 3 []) := by
  unfold trip_k0_t1
  rfl

end Cert.Proof.Branch
-- ==== Proof.BranchTrip.lean ====
/- What a trip of the branch's loop leaves in the three gradients' buffers, row by row, and what the
   eight trips leave together: each trip writes its own 1024 rows, adding to what stood there. -/
module

public import proofs.«01_k».proof.Proof.BranchTower
public import proofs.«01_k».proof.Proof.Reals
public import Idealize.ShloMosaic.Lib.WritesUnit
public import Idealize.ShloMosaic.Lib.Pipeline.ValueKit.Tiles

@[expose] public section

noncomputable section

namespace Cert.Proof.Branch

open Idealize.ShloMosaic Idealize.ShloMosaic.TcCoe Cert.Kernel8Ideal Cert.Kernel8Ideal.Gen

/-- Where a block begins. -/
theorem block_off : ∀ (k : Fin k0_t1_loop.trips) (ci : Fin 2) (b : Fin 4),
    k0_off5 k (BitVec.ofNat 32 ci.val) (BitVec.ofNat 32 (128 * b.val)) = ![1024 * k.val + 512 * ci.val + 128 * b.val, 0] := by
  decide +kernel

/-- Where the clamped block begins. -/
theorem clamp_off : ∀ (k : Fin k0_t1_loop.trips) (ci : Fin 2),
    k0_off4 k (BitVec.ofNat 32 ci.val) = ![1024 * k.val + 512 * ci.val, 0] := by
  decide +kernel

section Pieces

variable (arg : Memref sig .tc .vmem S8192x128 .f32) (f : BufTy.Contents (Elt Ideal) arg.view.ty) (k : Fin k0_t1_loop.trips)

/-- A buffer's contents at a row and a lane. -/
def at_ (R : Fin 8192) (l : Fin 128) : EReal := arg.view.read (Elt Ideal) f (ix2 R l)

theorem block_in (ci : Fin 2) (b : Fin 4) (w : Tile) (L : List (View.Piece (Elt Ideal) S8192x128 .f32)) (R : Fin 8192) (l a : Fin 128)
    (h : R.val = 1024 * k.val + 512 * ci.val + 128 * b.val + a.val) :
    at_ arg (arg.view.writes (Elt Ideal) f (⟨blockAt k ci b, w⟩ :: L)) R l = w (ix2 a l) :=
  View.read_writes_cons_rows_of_mem arg.view f _ w L _ (ix2 a l) (block_off k ci b) h rfl

theorem block_out (ci : Fin 2) (b : Fin 4) (w : Tile) (L : List (View.Piece (Elt Ideal) S8192x128 .f32)) (R : Fin 8192) (l : Fin 128)
    (h : R.val < 1024 * k.val + 512 * ci.val + 128 * b.val ∨ 1024 * k.val + 512 * ci.val + 128 * b.val + 128 ≤ R.val) :
    at_ arg (arg.view.writes (Elt Ideal) f (⟨blockAt k ci b, w⟩ :: L)) R l = at_ arg (arg.view.writes (Elt Ideal) f L) R l :=
  View.read_writes_cons_rows_of_not_mem arg.view f _ w L _ (block_off k ci b) rfl h

theorem clamp_in (ci : Fin 2) (w : Tile) (L : List (View.Piece (Elt Ideal) S8192x128 .f32)) (R : Fin 8192) (l a : Fin 128)
    (h : R.val = 1024 * k.val + 512 * ci.val + a.val) :
    at_ arg (arg.view.writes (Elt Ideal) f (⟨clampAt k ci, w⟩ :: L)) R l = w (ix2 a l) :=
  View.read_writes_cons_rows_of_mem arg.view f _ w L _ (ix2 a l) (clamp_off k ci) h rfl

theorem clamp_out (ci : Fin 2) (w : Tile) (L : List (View.Piece (Elt Ideal) S8192x128 .f32)) (R : Fin 8192) (l : Fin 128)
    (h : R.val < 1024 * k.val + 512 * ci.val ∨ 1024 * k.val + 512 * ci.val + 128 ≤ R.val) :
    at_ arg (arg.view.writes (Elt Ideal) f (⟨clampAt k ci, w⟩ :: L)) R l = at_ arg (arg.view.writes (Elt Ideal) f L) R l :=
  View.read_writes_cons_rows_of_not_mem arg.view f _ w L _ (clamp_off k ci) rfl h

theorem block_read (ci : Fin 2) (b : Fin 4) (R : Fin 8192) (l a : Fin 128) (h : R.val = 1024 * k.val + 512 * ci.val + 128 * b.val + a.val) :
    View.readAt (Elt Ideal) arg.view (blockAt k ci b).toLoadRect f (ix2 a l) = at_ arg f R l := by
  refine congrArg (arg.view.read (Elt Ideal) f) (funext fun x => Fin.ext ?_)
  have h0 := congrFun (block_off k ci b) x
  refine (Rect.idx_unit_val _ _ _ _ _).trans ?_
  rw [h0]
  fin_cases x
  · exact h.symm
  · exact Nat.zero_add _

theorem clamp_read (ci : Fin 2) (R : Fin 8192) (l a : Fin 128) (h : R.val = 1024 * k.val + 512 * ci.val + a.val) :
    View.readAt (Elt Ideal) arg.view (clampAt k ci).toLoadRect f (ix2 a l) = at_ arg f R l := by
  refine congrArg (arg.view.read (Elt Ideal) f) (funext fun x => Fin.ext ?_)
  have h0 := congrFun (clamp_off k ci) x
  refine (Rect.idx_unit_val _ _ _ _ _).trans ?_
  rw [h0]
  fin_cases x
  · exact h.symm
  · exact Nat.zero_add _

theorem plus_apply (x y : Tile) (a l : Fin 128) : plus x y (ix2 a l) = x (ix2 a l) + y (ix2 a l) := by
  pointwise [plus]

theorem zeroT_apply (a l : Fin 128) : zeroT (ix2 a l) = (0 : EReal) := by
  pointwise [zeroT]

/-- What a trip makes of a row of the keys' (values') gradient that held `z`. -/
def keyNew (g : Fin 8 → FVec Ideal S256x128 .f32) (z : EReal) (ci : Fin 2) (b : Fin 4) (a l : Fin 128) : EReal :=
  match ci, b with
  | 0, 0 => z + before (g 0) (ix2 a l) + (own (g 0) (ix2 a l) + before (g 1) (ix2 a l))
  | 0, 1 => z + (own (g 1) (ix2 a l) + before (g 2) (ix2 a l))
  | 0, 2 => z + (own (g 2) (ix2 a l) + before (g 3) (ix2 a l))
  | 0, 3 => z + own (g 3) (ix2 a l)
  | 1, 0 => z + before (g 4) (ix2 a l) + (own (g 4) (ix2 a l) + before (g 5) (ix2 a l))
  | 1, 1 => z + (own (g 5) (ix2 a l) + before (g 6) (ix2 a l))
  | 1, 2 => z + (own (g 6) (ix2 a l) + before (g 7) (ix2 a l))
  | 1, 3 => z + own (g 7) (ix2 a l)

theorem firstKey_apply (g : Fin 8 → FVec Ideal S256x128 .f32) (n : Fin 8) (a l : Fin 128) :
    firstKey g n (ix2 a l) = before (g n) (ix2 a l) := by
  refine (Ideal.addf_def _ _).trans ?_
  rw [zeroT_apply, zero_add]

theorem lastKey_apply (g : Fin 8 → FVec Ideal S256x128 .f32) (n : Fin 8) (a l : Fin 128) :
    lastKey g n (ix2 a l) = own (g n) (ix2 a l) := by
  refine (Ideal.addf_def _ _).trans ?_
  rw [zeroT_apply, zero_add]

theorem midKey_apply (g : Fin 8 → FVec Ideal S256x128 .f32) (n m : Fin 8) (a l : Fin 128) :
    midKey g n m (ix2 a l) = own (g n) (ix2 a l) + before (g m) (ix2 a l) := by
  refine (Ideal.addf_def _ _).trans (congrArg (· + _) ?_)
  exact lastKey_apply g n a l

/-- A row's slot in its trip, its residue class there, its block and its row in the block. -/
def nOf (R : Fin 8192) : Fin 8 := ⟨R.val % 1024 / 128, by omega⟩
def rOf (R : Fin 8192) : Fin 2 := ⟨R.val % 1024 / 512, by omega⟩
def lOf (R : Fin 8192) : Fin 4 := ⟨R.val % 512 / 128, by omega⟩
def aOf (R : Fin 8192) : Fin 128 := ⟨R.val % 128, by omega⟩
/-- A row's trip. -/
def kOf (R : Fin 8192) : Fin k0_t1_loop.trips := ⟨R.val / 1024, by
  have h : k0_t1_loop.trips = 8 := by decide +kernel
  rw [h]; omega⟩

/-- A residue class's pieces leave the rows outside it alone, -/
theorem keys_out (g : Fin 8 → FVec Ideal S256x128 .f32) (ci : Fin 2) (n0 n1 n2 n3 : Fin 8) (L : List (View.Piece (Elt Ideal) S8192x128 .f32))
    (R : Fin 8192) (l : Fin 128) (h : R.val < 1024 * k.val + 512 * ci.val ∨ 1024 * k.val + 512 * ci.val + 512 ≤ R.val) :
    at_ arg (arg.view.writes (Elt Ideal) f (keyPieces k arg f g ci n0 n1 n2 n3 L)) R l = at_ arg (arg.view.writes (Elt Ideal) f L) R l := by
  unfold keyPieces
  dsimp only
  rw [block_out arg f k ci 3 _ _ R l (by simp; omega), block_out arg f k ci 2 _ _ R l (by simp; omega), block_out arg f k ci 1 _ _ R l (by simp; omega),
    block_out arg f k ci 0 _ _ R l (by simp; omega), clamp_out arg f k ci _ _ R l (by omega)]

/-- … and add, in its four blocks, what its slots give. -/
theorem keys_0 (g : Fin 8 → FVec Ideal S256x128 .f32) (ci : Fin 2) (n0 n1 n2 n3 : Fin 8) (L : List (View.Piece (Elt Ideal) S8192x128 .f32))
    (R : Fin 8192) (l a : Fin 128) (h : R.val = 1024 * k.val + 512 * ci.val + a.val) :
    at_ arg (arg.view.writes (Elt Ideal) f (keyPieces k arg f g ci n0 n1 n2 n3 L)) R l
      = at_ arg f R l + before (g n0) (ix2 a l) + (own (g n0) (ix2 a l) + before (g n1) (ix2 a l)) := by
  unfold keyPieces
  dsimp only
  rw [block_out arg f k ci 3 _ _ R l (by simp; omega), block_out arg f k ci 2 _ _ R l (by simp; omega), block_out arg f k ci 1 _ _ R l (by simp; omega),
    block_in arg f k ci 0 _ _ R l a (by simpa using h), plus_apply, midKey_apply]
  refine congrArg (· + _) ?_
  refine (block_read arg _ k ci 0 R l a (by simpa using h)).trans ?_
  rw [clamp_in arg _ k ci _ _ R l a h, plus_apply, firstKey_apply, clamp_read arg f k ci R l a h]

theorem keys_1 (g : Fin 8 → FVec Ideal S256x128 .f32) (ci : Fin 2) (n0 n1 n2 n3 : Fin 8) (L : List (View.Piece (Elt Ideal) S8192x128 .f32))
    (R : Fin 8192) (l a : Fin 128) (h : R.val = 1024 * k.val + 512 * ci.val + 128 + a.val) :
    at_ arg (arg.view.writes (Elt Ideal) f (keyPieces k arg f g ci n0 n1 n2 n3 L)) R l
      = at_ arg f R l + (own (g n1) (ix2 a l) + before (g n2) (ix2 a l)) := by
  unfold keyPieces
  dsimp only
  rw [block_out arg f k ci 3 _ _ R l (by simp; omega), block_out arg f k ci 2 _ _ R l (by simp; omega),
    block_in arg f k ci 1 _ _ R l a (by simpa using h), plus_apply, midKey_apply]
  exact congrArg (· + _) (block_read arg _ k ci 1 R l a (by simpa using h))

theorem keys_2 (g : Fin 8 → FVec Ideal S256x128 .f32) (ci : Fin 2) (n0 n1 n2 n3 : Fin 8) (L : List (View.Piece (Elt Ideal) S8192x128 .f32))
    (R : Fin 8192) (l a : Fin 128) (h : R.val = 1024 * k.val + 512 * ci.val + 256 + a.val) :
    at_ arg (arg.view.writes (Elt Ideal) f (keyPieces k arg f g ci n0 n1 n2 n3 L)) R l
      = at_ arg f R l + (own (g n2) (ix2 a l) + before (g n3) (ix2 a l)) := by
  unfold keyPieces
  dsimp only
  rw [block_out arg f k ci 3 _ _ R l (by simp; omega), block_in arg f k ci 2 _ _ R l a (by simpa using h), plus_apply, midKey_apply]
  exact congrArg (· + _) (block_read arg _ k ci 2 R l a (by simpa using h))

theorem keys_3 (g : Fin 8 → FVec Ideal S256x128 .f32) (ci : Fin 2) (n0 n1 n2 n3 : Fin 8) (L : List (View.Piece (Elt Ideal) S8192x128 .f32))
    (R : Fin 8192) (l a : Fin 128) (h : R.val = 1024 * k.val + 512 * ci.val + 384 + a.val) :
    at_ arg (arg.view.writes (Elt Ideal) f (keyPieces k arg f g ci n0 n1 n2 n3 L)) R l
      = at_ arg f R l + own (g n3) (ix2 a l) := by
  unfold keyPieces
  dsimp only
  rw [block_in arg f k ci 3 _ _ R l a (by simpa using h), plus_apply, lastKey_apply]
  exact congrArg (· + _) (block_read arg _ k ci 3 R l a (by simpa using h))

/-- A trip's pieces of a keys' gradient: its own rows get what its slots give, the others keep theirs. -/
theorem keys_trip (g : Fin 8 → FVec Ideal S256x128 .f32) (R : Fin 8192) (l : Fin 128) :
    at_ arg (arg.view.writes (Elt Ideal) f (keyPieces k arg f g 1 4 5 6 7 (keyPieces k arg f g 0 0 1 2 3 []))) R l
      = if R.val / 1024 = k.val then keyNew g (at_ arg f R l) (rOf R) (lOf R) (aOf R) l else at_ arg f R l := by
  have ha : (aOf R).val = R.val % 128 := rfl
  split
  case isFalse h =>
    rw [keys_out arg f k g 1 _ _ _ _ _ R l (by simp; omega), keys_out arg f k g 0 _ _ _ _ _ R l (by simp; omega)]
    rfl
  case isTrue h =>
    obtain ⟨r, hr⟩ : ∃ r, rOf R = r := ⟨_, rfl⟩
    obtain ⟨b, hb⟩ : ∃ b, lOf R = b := ⟨_, rfl⟩
    have hr' : R.val % 1024 / 512 = r.val := congrArg Fin.val hr
    have hb' : R.val % 512 / 128 = b.val := congrArg Fin.val hb
    rw [hr, hb]
    fin_cases r
    · rw [keys_out arg f k g 1 _ _ _ _ _ R l (by simp at *; omega)]
      fin_cases b
      · exact keys_0 arg f k g 0 _ _ _ _ _ R l _ (by simp at *; omega)
      · exact keys_1 arg f k g 0 _ _ _ _ _ R l _ (by simp at *; omega)
      · exact keys_2 arg f k g 0 _ _ _ _ _ R l _ (by simp at *; omega)
      · exact keys_3 arg f k g 0 _ _ _ _ _ R l _ (by simp at *; omega)
    · fin_cases b
      · exact keys_0 arg f k g 1 _ _ _ _ _ R l _ (by simp at *; omega)
      · exact keys_1 arg f k g 1 _ _ _ _ _ R l _ (by simp at *; omega)
      · exact keys_2 arg f k g 1 _ _ _ _ _ R l _ (by simp at *; omega)
      · exact keys_3 arg f k g 1 _ _ _ _ _ R l _ (by simp at *; omega)

/-- What the trips before `j` leave, each row being rewritten once, in its own trip. -/
theorem loop_rows (S : ℕ → List (View.Piece (Elt Ideal) S8192x128 .f32)) (V : Fin 8192 → Fin 128 → EReal → EReal) (h0 : S 0 = [])
    (hs : ∀ (k : Fin k0_t1_loop.trips) (R : Fin 8192) (l : Fin 128), at_ arg (arg.view.writes (Elt Ideal) f (S (k.val + 1))) R l
      = if R.val / 1024 = k.val then V R l (at_ arg (arg.view.writes (Elt Ideal) f (S k.val)) R l) else at_ arg (arg.view.writes (Elt Ideal) f (S k.val)) R l) :
    ∀ j : ℕ, j ≤ 8 → ∀ (R : Fin 8192) (l : Fin 128), at_ arg (arg.view.writes (Elt Ideal) f (S j)) R l
      = if R.val / 1024 < j then V R l (at_ arg f R l) else at_ arg f R l := by
  have ht : k0_t1_loop.trips = 8 := by decide +kernel
  intro j
  induction j with
  | zero => intro _ R l; rw [h0, if_neg (by omega)]; rfl
  | succ j ih =>
    intro hj R l
    rw [hs ⟨j, by omega⟩ R l]
    dsimp only
    rw [ih (by omega) R l]
    by_cases h : R.val / 1024 = j
    · rw [if_pos h, if_neg (by omega), if_pos (by omega)]
    · rw [if_neg h]
      by_cases h' : R.val / 1024 < j
      · rw [if_pos h', if_pos (by omega)]
      · rw [if_neg h', if_neg (by omega)]

end Pieces

section Trips

variable (arg1 arg2 : Memref sig .tc .vmem S8192x128 .f32) (arg3 : Memref sig .tc .vmem S2x256x256 .f32)
  (arg8 arg9 arg10 : Memref sig .tc .vmem S8192x128 .f32)
  (x1 : BufTy.Contents (Elt Ideal) arg1.view.ty) (x2 : BufTy.Contents (Elt Ideal) arg2.view.ty)
  (x3 : BufTy.Contents (Elt Ideal) arg3.view.ty) (x8 : BufTy.Contents (Elt Ideal) arg8.view.ty)
  (x9 : BufTy.Contents (Elt Ideal) arg9.view.ty) (x10 : BufTy.Contents (Elt Ideal) arg10.view.ty)
  (𝒱 : Variants) (c : Dev nD) (bd : Option 𝒱.V) (i : grid0.Coords) (harg1 : arg1.IsWhole) (harg2 : arg2.IsWhole) (harg3 : arg3.IsWhole)
  (arg4 : Memref sig .tc .hbm S4x3x8192x128 .f32) (harg4 : arg4.IsWhole) (arg5 : Memref sig .tc .vmem S8192x128 .f32) (harg5 : arg5.IsWhole)
  (arg6 : Memref sig .tc .vmem S8192x128 .f32) (harg6 : arg6.IsWhole) (arg7 : Memref sig .tc .vmem S8192x128 .f32) (harg7 : arg7.IsWhole)
  (harg8 : arg8.IsWhole) (harg9 : arg9.IsWhole) (harg10 : arg10.IsWhole) (arg11 : DmaSems sig S3)
  (f5 : BufTy.Contents (Elt Ideal) arg5.view.ty) (f6 : BufTy.Contents (Elt Ideal) arg6.view.ty) (f7 : BufTy.Contents (Elt Ideal) arg7.view.ty)

/-- A trip's pieces of the queries' gradient, row by row. -/
theorem dq_trip (k : Fin k0_t1_loop.trips) (R : Fin 8192) (l : Fin 128) :
    at_ arg5 (arg5.view.writes (Elt Ideal) f5 ((trip_k0_t1 (F := Ideal) 𝒱 c bd i arg1 harg1 arg2 harg2 arg3 harg3 arg4 harg4 arg5 harg5 arg6 harg6 arg7 harg7 arg8 harg8 arg9 harg9 arg10 harg10 arg11 x1 x2 x3 x8 x9 x10 k).1 f5 f6 f7)) R l
      = if R.val / 1024 = k.val then at_ arg5 f5 R l + dqAt arg1 arg2 arg3 arg8 arg9 arg10 x1 x2 x3 x8 x9 x10 k (nOf R) (ix2 (aOf R) l) else at_ arg5 f5 R l := by
  have ha : (aOf R).val = R.val % 128 := rfl
  rw [trip_dq]
  have miss : ∀ (m : Fin 8) (L : List (View.Piece (Elt Ideal) S8192x128 .f32)), R.val / 128 ≠ 8 * k.val + m.val →
      at_ arg5 (arg5.view.writes (Elt Ideal) f5 (dqPiece arg1 arg2 arg3 arg8 arg9 arg10 x1 x2 x3 x8 x9 x10 k arg5 f5 m :: L)) R l = at_ arg5 (arg5.view.writes (Elt Ideal) f5 L) R l := by
    intro m L h
    refine block_out arg5 f5 k (ciOf m) (bOf m) _ L R l ?_
    simp only [ciOf, bOf]
    omega
  have hit : ∀ L : List (View.Piece (Elt Ideal) S8192x128 .f32), R.val / 1024 = k.val →
      at_ arg5 (arg5.view.writes (Elt Ideal) f5 (dqPiece arg1 arg2 arg3 arg8 arg9 arg10 x1 x2 x3 x8 x9 x10 k arg5 f5 (nOf R) :: L)) R l
        = at_ arg5 f5 R l + dqAt arg1 arg2 arg3 arg8 arg9 arg10 x1 x2 x3 x8 x9 x10 k (nOf R) (ix2 (aOf R) l) := by
    intro L h
    have hR : R.val = 1024 * k.val + 512 * (ciOf (nOf R)).val + 128 * (bOf (nOf R)).val + (aOf R).val := by
      simp only [ciOf, bOf, nOf, aOf]; omega
    refine (block_in arg5 f5 k (ciOf (nOf R)) (bOf (nOf R)) _ L R l (aOf R) hR).trans ?_
    rw [plus_apply]
    exact congrArg (· + _) (block_read arg5 f5 k _ _ R l (aOf R) hR)
  split
  case isFalse h =>
    rw [miss 7 _ (by simp; omega), miss 6 _ (by simp; omega), miss 5 _ (by simp; omega), miss 4 _ (by simp; omega), miss 3 _ (by simp; omega),
      miss 2 _ (by simp; omega), miss 1 _ (by simp; omega), miss 0 _ (by simp; omega)]
    rfl
  case isTrue h =>
    have hh := fun L => hit L h
    have hm : ∀ m : Fin 8, nOf R ≠ m → R.val / 128 ≠ 8 * k.val + m.val := by
      intro m hne he
      exact hne (Fin.ext (by simp only [nOf]; omega))
    obtain ⟨n, hn⟩ : ∃ n, nOf R = n := ⟨_, rfl⟩
    rw [hn] at hh hm ⊢
    fin_cases n
    · rw [miss 7 _ (hm _ (by decide)), miss 6 _ (hm _ (by decide)), miss 5 _ (hm _ (by decide)), miss 4 _ (hm _ (by decide)), miss 3 _ (hm _ (by decide)), miss 2 _ (hm _ (by decide)), miss 1 _ (hm _ (by decide))]
      exact hh _
    · rw [miss 7 _ (hm _ (by decide)), miss 6 _ (hm _ (by decide)), miss 5 _ (hm _ (by decide)), miss 4 _ (hm _ (by decide)), miss 3 _ (hm _ (by decide)), miss 2 _ (hm _ (by decide))]
      exact hh _
    · rw [miss 7 _ (hm _ (by decide)), miss 6 _ (hm _ (by decide)), miss 5 _ (hm _ (by decide)), miss 4 _ (hm _ (by decide)), miss 3 _ (hm _ (by decide))]
      exact hh _
    · rw [miss 7 _ (hm _ (by decide)), miss 6 _ (hm _ (by decide)), miss 5 _ (hm _ (by decide)), miss 4 _ (hm _ (by decide))]
      exact hh _
    · rw [miss 7 _ (hm _ (by decide)), miss 6 _ (hm _ (by decide)), miss 5 _ (hm _ (by decide))]
      exact hh _
    · rw [miss 7 _ (hm _ (by decide)), miss 6 _ (hm _ (by decide))]
      exact hh _
    · rw [miss 7 _ (hm _ (by decide))]
      exact hh _
    · exact hh _

/-- The queries' gradient after the loop. -/
theorem dq_loop (R : Fin 8192) (l : Fin 128) :
    at_ arg5 (arg5.view.writes (Elt Ideal) f5 (pb_k0_t1 (F := Ideal) 𝒱 c bd i arg1 harg1 arg2 harg2 arg3 harg3 arg4 harg4 arg5 harg5 arg6 harg6 arg7 harg7 arg8 harg8 arg9 harg9 arg10 harg10 arg11 x1 x2 x3 x8 x9 x10 f5 f6 f7 8).1) R l
      = at_ arg5 f5 R l + dqAt arg1 arg2 arg3 arg8 arg9 arg10 x1 x2 x3 x8 x9 x10 (kOf R) (nOf R) (ix2 (aOf R) l) := by
  have hl := loop_rows arg5 f5 (fun j => (pb_k0_t1 (F := Ideal) 𝒱 c bd i arg1 harg1 arg2 harg2 arg3 harg3 arg4 harg4 arg5 harg5 arg6 harg6 arg7 harg7 arg8 harg8 arg9 harg9 arg10 harg10 arg11 x1 x2 x3 x8 x9 x10 f5 f6 f7 j).1)
    (fun R l z => z + dqAt arg1 arg2 arg3 arg8 arg9 arg10 x1 x2 x3 x8 x9 x10 (kOf R) (nOf R) (ix2 (aOf R) l)) rfl (fun k R l => by
      rw [pb_k0_t1_succ]
      dsimp only [tripL_k0_t1]
      rw [View.writes_append, dq_trip]
      split
      case isTrue h => rw [show kOf R = k from Fin.ext h]
      case isFalse h => rfl) 8 le_rfl R l
  rw [if_pos (by omega)] at hl
  exact hl

/-- The keys' gradient after the loop. -/
theorem dk_loop (R : Fin 8192) (l : Fin 128) :
    at_ arg6 (arg6.view.writes (Elt Ideal) f6 (pb_k0_t1 (F := Ideal) 𝒱 c bd i arg1 harg1 arg2 harg2 arg3 harg3 arg4 harg4 arg5 harg5 arg6 harg6 arg7 harg7 arg8 harg8 arg9 harg9 arg10 harg10 arg11 x1 x2 x3 x8 x9 x10 f5 f6 f7 8).2.1) R l
      = keyNew (dkAt arg1 arg2 arg3 arg8 arg9 arg10 x1 x2 x3 x8 x9 x10 (kOf R)) (at_ arg6 f6 R l) (rOf R) (lOf R) (aOf R) l := by
  have hl := loop_rows arg6 f6 (fun j => (pb_k0_t1 (F := Ideal) 𝒱 c bd i arg1 harg1 arg2 harg2 arg3 harg3 arg4 harg4 arg5 harg5 arg6 harg6 arg7 harg7 arg8 harg8 arg9 harg9 arg10 harg10 arg11 x1 x2 x3 x8 x9 x10 f5 f6 f7 j).2.1)
    (fun R l z => keyNew (dkAt arg1 arg2 arg3 arg8 arg9 arg10 x1 x2 x3 x8 x9 x10 (kOf R)) z (rOf R) (lOf R) (aOf R) l) rfl (fun k R l => by
      rw [pb_k0_t1_succ]
      dsimp only [tripL_k0_t1]
      rw [View.writes_append, trip_dk, keys_trip]
      split
      case isTrue h => rw [show kOf R = k from Fin.ext h]
      case isFalse h => rfl) 8 le_rfl R l
  rw [if_pos (by omega)] at hl
  exact hl

/-- The values' gradient after the loop. -/
theorem dv_loop (R : Fin 8192) (l : Fin 128) :
    at_ arg7 (arg7.view.writes (Elt Ideal) f7 (pb_k0_t1 (F := Ideal) 𝒱 c bd i arg1 harg1 arg2 harg2 arg3 harg3 arg4 harg4 arg5 harg5 arg6 harg6 arg7 harg7 arg8 harg8 arg9 harg9 arg10 harg10 arg11 x1 x2 x3 x8 x9 x10 f5 f6 f7 8).2.2) R l
      = keyNew (dvAt arg1 arg2 arg3 arg8 arg9 x1 x2 x3 x8 x9 (kOf R)) (at_ arg7 f7 R l) (rOf R) (lOf R) (aOf R) l := by
  have hl := loop_rows arg7 f7 (fun j => (pb_k0_t1 (F := Ideal) 𝒱 c bd i arg1 harg1 arg2 harg2 arg3 harg3 arg4 harg4 arg5 harg5 arg6 harg6 arg7 harg7 arg8 harg8 arg9 harg9 arg10 harg10 arg11 x1 x2 x3 x8 x9 x10 f5 f6 f7 j).2.2)
    (fun R l z => keyNew (dvAt arg1 arg2 arg3 arg8 arg9 x1 x2 x3 x8 x9 (kOf R)) z (rOf R) (lOf R) (aOf R) l) rfl (fun k R l => by
      rw [pb_k0_t1_succ]
      dsimp only [tripL_k0_t1]
      rw [View.writes_append, trip_dv, keys_trip]
      split
      case isTrue h => rw [show kOf R = k from Fin.ext h]
      case isFalse h => rfl) 8 le_rfl R l
  rw [if_pos (by omega)] at hl
  exact hl

end Trips

end Cert.Proof.Branch
-- ==== Proof.BranchPoint.lean ====
/- The operations of one slot, read at a row and a column. -/
module

public import proofs.«01_k».proof.Proof.BranchTower
public import proofs.«01_k».proof.Proof.Reals

@[expose] public section

noncomputable section

namespace Cert.Proof.Branch

open Idealize.ShloMosaic Idealize.ShloMosaic.TcCoe Cert.Kernel8Ideal Cert.Kernel8Ideal.Gen

theorem pay1_lt (a l : Fin 128) (h : l.val < 64) : k0_pay1 (ix2 a l) = 1#1 := by
  pointwise [k0_pay1]
  revert l
  decide +kernel

theorem pay1_ge (a l : Fin 128) (h : ¬ l.val < 64) : k0_pay1 (ix2 a l) = 0#1 := by
  pointwise [k0_pay1]
  revert l
  decide +kernel

/-- A choice by lane: the first head's 64 or the second's. -/
theorem select_lane {α : Type} (a l : Fin 128) (x y : α) : Scalar.select (k0_pay1 (ix2 a l)) x y = if l.val < 64 then x else y := by
  split
  case isTrue h => rw [pay1_lt a l h]; rfl
  case isFalse h => rw [pay1_ge a l h]; rfl

/-- Row of a block, head, of one of the 256 rows of a slot. -/
def rowIn (r : Fin 256) : Fin 128 := ⟨r.val % 128, by omega⟩

theorem stack_apply (t : Tile) (r : Fin 256) (l : Fin 128) : stack t (ix2 r l) = if r.val / 128 = l.val / 64 then t (ix2 (rowIn r) l) else 0 := by
  pointwise [stack, zeroT]
  split
  case isTrue h =>
    rw [select_lane]
    refine (if_congr (by omega) (congrArg t (congrArg (fun a => ix2 a l) (Fin.ext ?_))) rfl)
    show r.val = r.val % 128
    omega
  case isFalse h =>
    rw [select_lane, ← ite_not]
    refine (if_congr (by omega) (congrArg t (congrArg (fun a => ix2 a l) (Fin.ext ?_))) rfl)
    show r.val - 128 = r.val % 128
    omega

theorem pair_apply (a b : Tile) (j : Fin 256) (l : Fin 128) : pair a b (ix2 j l) = if j.val < 128 then a (ix2 (rowIn j) l) else b (ix2 (rowIn j) l) := by
  pointwise [pair]
  split
  case isTrue h => exact congrArg a (congrArg (fun a => ix2 a l) (Fin.ext (show j.val = j.val % 128 by omega)))
  case isFalse h => exact congrArg b (congrArg (fun a => ix2 a l) (Fin.ext (show j.val - 128 = j.val % 128 by omega)))

theorem rowsBy_apply (q a b : Tile) (r j : Fin 256) : rowsBy q a b (ix2 r j) = ∑ x, stack q (ix2 r x) * pair a b (ix2 j x) := by
  pointwise [rowsBy]

theorem score_apply (q a b : Tile) (mk : Vec Ideal S1x256x256 .f32) (r j : Fin 256) :
    score q a b mk (ix2 r j) = rowsBy q a b (ix2 r j) + mk (ix3 0 r j) := by
  pointwise [score]

theorem dqTile_apply (ds : FVec Ideal S256x256 .bf16) (a b : Tile) (x l : Fin 128) :
    dqTile ds a b (ix2 x l) = ∑ j, ds (ix2 ⟨128 * (l.val / 64) + x.val, by omega⟩ j) * pair a b (ix2 j l) := by
  pointwise [dqTile]
  rw [select_lane]
  split
  case isTrue h => exact Finset.sum_congr rfl fun j _ => congrArg (· * _) (congrArg ds (congrArg (fun a => ix2 a j) (Fin.ext (show x.val = 128 * (l.val / 64) + x.val by omega))))
  case isFalse h => exact Finset.sum_congr rfl fun j _ => congrArg (· * _) (congrArg ds (congrArg (fun a => ix2 a j) (Fin.ext (show 128 + x.val = 128 * (l.val / 64) + x.val by omega))))

theorem keyed_apply (ds : FVec Ideal S256x256 .bf16) (q : Tile) (j : Fin 256) (l : Fin 128) :
    keyed ds q (ix2 j l) = ∑ r, ds (ix2 r j) * stack q (ix2 r l) := by
  pointwise [keyed]

theorem before_apply (t : FVec Ideal S256x128 .f32) (a l : Fin 128) : before t (ix2 a l) = t (ix2 ⟨a.val, by omega⟩ l) := by
  pointwise [before]

theorem own_apply (t : FVec Ideal S256x128 .f32) (a l : Fin 128) : own t (ix2 a l) = t (ix2 ⟨128 + a.val, by omega⟩ l) := by
  pointwise [own]

theorem slot_apply (n : Fin 8) (x : FVec Ideal S2048x256 .bf16) (r j : Fin 256) : slot n x (ix2 r j) = x (ix2 ⟨256 * n.val + r.val, by omega⟩ j) := by
  pointwise [slot]

/-- Eight slots one below the other. -/
theorem slots_apply (s : Fin 8 → Sq) (h) (n : Fin 8) (r j : Fin 256) :
    concatenate S2048x256 0 [⟨S256x256, s 0⟩, ⟨S256x256, s 1⟩, ⟨S256x256, s 2⟩, ⟨S256x256, s 3⟩, ⟨S256x256, s 4⟩, ⟨S256x256, s 5⟩, ⟨S256x256, s 6⟩, ⟨S256x256, s 7⟩] h
      (ix2 ⟨256 * n.val + r.val, by omega⟩ j) = s n (ix2 r j) := by
  refine concatenate_ofFn_apply (t := S2048x256) (s₁ := S256x256) 0 s h rfl 256 rfl _ n ?_ _ ?_ ?_
  · show (256 * n.val + r.val) / 256 = n.val
    omega
  · show r.val = (256 * n.val + r.val) % 256
    omega
  · intro b hb
    fin_cases b
    · exact absurd rfl hb
    · rfl

/-- Sixteen columns of 128, two for each slot, one below the other. -/
theorem cols_apply (f g : Fin 8 → FVec Ideal S128x1 .f32) (h) (n : Fin 8) (r : Fin 256) :
    concatenate S2048x1 0 [⟨S128x1, f 0⟩, ⟨S128x1, g 0⟩, ⟨S128x1, f 1⟩, ⟨S128x1, g 1⟩, ⟨S128x1, f 2⟩, ⟨S128x1, g 2⟩, ⟨S128x1, f 3⟩, ⟨S128x1, g 3⟩, ⟨S128x1, f 4⟩, ⟨S128x1, g 4⟩, ⟨S128x1, f 5⟩, ⟨S128x1, g 5⟩, ⟨S128x1, f 6⟩, ⟨S128x1, g 6⟩, ⟨S128x1, f 7⟩, ⟨S128x1, g 7⟩] h
      (ix2 ⟨256 * n.val + r.val, by omega⟩ 0) = if r.val < 128 then f n (ix2 (rowIn r) 0) else g n (ix2 (rowIn r) 0) := by
  let F : Fin 16 → FVec Ideal S128x1 .f32 := ![f 0, g 0, f 1, g 1, f 2, g 2, f 3, g 3, f 4, g 4, f 5, g 5, f 6, g 6, f 7, g 7]
  have hF : ∀ (n : Fin 8) (e : Fin 2), F ⟨2 * n.val + e.val, by omega⟩ = if e.val = 0 then f n else g n := by
    intro n e
    fin_cases n <;> fin_cases e <;> rfl
  have key : concatenate S2048x1 0 (List.ofFn fun n => (⟨S128x1, F n⟩ : (s : Shape) × (s.Idx → Ideal .f32))) h (ix2 ⟨256 * n.val + r.val, by omega⟩ 0)
      = F ⟨2 * n.val + (⟨r.val / 128, by omega⟩ : Fin 2).val, by omega⟩ (ix2 (rowIn r) 0) := by
    refine concatenate_ofFn_apply (t := S2048x1) (s₁ := S128x1) 0 F h rfl 128 rfl _ _ ?_ _ ?_ ?_
    · show (256 * n.val + r.val) / 128 = 2 * n.val + r.val / 128
      omega
    · show r.val % 128 = (256 * n.val + r.val) % 128
      omega
    · intro b hb
      fin_cases b
      · exact absurd rfl hb
      · rfl
  refine Eq.trans key ?_
  rw [hF]
  by_cases h : r.val < 128
  · rw [if_pos h, if_pos (show r.val / 128 = 0 by omega)]
  · rw [if_neg h, if_neg (show ¬ r.val / 128 = 0 by omega)]

theorem lane0_apply (t : Tile) (a : Fin 128) : lane0 t (ix2 a 0) = t (ix2 a 0) := by
  pointwise [lane0]

theorem lane64_apply (t : Tile) (a : Fin 128) : lane64 t (ix2 a 0) = t (ix2 a 64) := by
  pointwise [lane64]

theorem lane1_apply (t : Tile) (a : Fin 128) : lane1 t (ix2 a 0) = t (ix2 a 1) := by
  pointwise [lane1]

theorem lane65_apply (t : Tile) (a : Fin 128) : lane65 t (ix2 a 0) = t (ix2 a 65) := by
  pointwise [lane65]

/-- Lane `e` of the statistics of the head of row `r` of the 256. -/
def statLane (r : Fin 256) (e : Fin 2) : Fin 128 := ⟨64 * (r.val / 128) + e.val, by omega⟩

theorem lse_pick (t : Tile) (r : Fin 256) :
    (if r.val < 128 then lane0 t (ix2 (rowIn r) 0) else lane64 t (ix2 (rowIn r) 0)) = t (ix2 (rowIn r) (statLane r 0)) := by
  split
  case isTrue h => rw [lane0_apply]; exact congrArg t (congrArg (ix2 _) (Fin.ext (show 0 = 64 * (r.val / 128) + 0 by omega)))
  case isFalse h => rw [lane64_apply]; exact congrArg t (congrArg (ix2 _) (Fin.ext (show 64 = 64 * (r.val / 128) + 0 by omega)))

theorem delta_pick (t : Tile) (r : Fin 256) :
    (if r.val < 128 then lane1 t (ix2 (rowIn r) 0) else lane65 t (ix2 (rowIn r) 0)) = t (ix2 (rowIn r) (statLane r 1)) := by
  split
  case isTrue h => rw [lane1_apply]; exact congrArg t (congrArg (ix2 _) (Fin.ext (show 1 = 64 * (r.val / 128) + 1 by omega)))
  case isFalse h => rw [lane65_apply]; exact congrArg t (congrArg (ix2 _) (Fin.ext (show 65 = 64 * (r.val / 128) + 1 by omega)))

/-- A weight of a slot. -/
theorem probs_apply (s : Fin 8 → Sq) (st : Fin 8 → Tile) (n : Fin 8) (r j : Fin 256) :
    probs s st (ix2 ⟨256 * n.val + r.val, by omega⟩ j) = Ideal.exp (s n (ix2 r j) - st n (ix2 (rowIn r) (statLane r 0))) := by
  unfold probs
  refine congrArg Ideal.exp ?_
  refine congrArg₂ (fun x y : EReal => x - y) (slots_apply s _ n r j) ?_
  refine Eq.trans ?_ ((cols_apply (fun n => lane0 (st n)) (fun n => lane64 (st n)) concatenates_S128x1_S128x1_S128x1_S128x1_S128x1_S128x1_S128x1_S128x1_S128x1_S128x1_S128x1_S128x1_S128x1_S128x1_S128x1_S128x1_S2048x1_d0 n r).trans (lse_pick (st n) r))
  generalize concatenate S2048x1 0 _ _ = z
  pointwise []

/-- The gradient of a score of a slot. -/
theorem dsAll_apply (s dp : Fin 8 → Sq) (st : Fin 8 → Tile) (n : Fin 8) (r j : Fin 256) :
    dsAll s dp st (ix2 ⟨256 * n.val + r.val, by omega⟩ j)
      = Ideal.exp (s n (ix2 r j) - st n (ix2 (rowIn r) (statLane r 0))) * (dp n (ix2 r j) - st n (ix2 (rowIn r) (statLane r 1))) := by
  unfold dsAll
  refine congrArg₂ (fun x y : EReal => x * y) (probs_apply s st n r j) ?_
  refine congrArg₂ (fun x y : EReal => x - y) (slots_apply dp _ n r j) ?_
  refine Eq.trans ?_ ((cols_apply (fun n => lane1 (st n)) (fun n => lane65 (st n)) concatenates_S128x1_S128x1_S128x1_S128x1_S128x1_S128x1_S128x1_S128x1_S128x1_S128x1_S128x1_S128x1_S128x1_S128x1_S128x1_S128x1_S2048x1_d0 n r).trans (delta_pick (st n) r))
  generalize concatenate S2048x1 0 _ _ = z
  pointwise []

end Cert.Proof.Branch
-- ==== Proof.BranchMath.lean ====
/- The attention of one head in one residue class, and its gradients, over the reals.

   A row sees itself and the 128 rows before it. The weights do not depend on what is subtracted in
   the exponents, so that the reference's softmax and the kernel's saved logarithms give the same. -/
module

public import proofs.«01_k».proof.Proof.Reals

@[expose] public section

noncomputable section

namespace Cert.Proof.Branch

/-- One head's rows of a residue class. -/
abbrev Mat := Fin 512 → Fin 64 → ℝ

variable (q k v g : Mat)

/-- The scores. -/
def sc (i j : Fin 512) : ℝ := ∑ d, q i d * k j d
/-- Row `i` sees row `j`. -/
abbrev ok (i j : Fin 512) : Prop := j.val ≤ i.val ∧ i.val ≤ j.val + 128
/-- The exponentials of a row after subtracting `m`. -/
def ex (m : ℝ) (i j : Fin 512) : ℝ := if ok i j then Real.exp (sc q k i j - m) else 0
/-- The sum of a row's exponentials. -/
def tot (i : Fin 512) : ℝ := ∑ j, ex q k 0 i j
/-- The weights. -/
def wt (i j : Fin 512) : ℝ := ex q k 0 i j / tot q k i
/-- The attention. -/
def att (i : Fin 512) (d : Fin 64) : ℝ := ∑ j, wt q k i j * v j d
/-- The gradient of the weights. -/
def dw (i j : Fin 512) : ℝ := ∑ d, g i d * v j d
/-- The cotangent times the output. -/
def dl (i : Fin 512) : ℝ := ∑ d, g i d * att q k v i d
/-- The gradient of the scores. -/
def ds (i j : Fin 512) : ℝ := wt q k i j * (dw v g i j - dl q k v g i)
/-- The gradients of the queries, the keys and the values. -/
def gq (i : Fin 512) (d : Fin 64) : ℝ := ∑ j, ds q k v g i j * k j d
def gk (j : Fin 512) (d : Fin 64) : ℝ := ∑ i, ds q k v g i j * q i d
def gv (j : Fin 512) (d : Fin 64) : ℝ := ∑ i, wt q k i j * g i d

theorem tot_pos (i : Fin 512) : 0 < tot q k i := by
  refine Finset.sum_pos' (fun j _ => ?_) ⟨i, Finset.mem_univ _, ?_⟩
  · unfold ex; split <;> positivity
  · rw [ex, if_pos ⟨le_rfl, by omega⟩]; positivity

theorem ex_shift (m : ℝ) (i j : Fin 512) : ex q k m i j = Real.exp (-m) * ex q k 0 i j := by
  unfold ex
  split
  · rw [← Real.exp_add]; congr 1; ring
  · simp

theorem sum_shift (m : ℝ) (i : Fin 512) : ∑ j, ex q k m i j = Real.exp (-m) * tot q k i := by
  rw [tot, Finset.mul_sum]
  exact Finset.sum_congr rfl fun j _ => ex_shift q k m i j

theorem sum_pos (m : ℝ) (i : Fin 512) : 0 < ∑ j, ex q k m i j := by
  rw [sum_shift]
  have := tot_pos q k i
  positivity

/-- The reference's weights. -/
theorem wt_shift (m : ℝ) (i j : Fin 512) : ex q k m i j / ∑ j, ex q k m i j = wt q k i j := by
  have := (tot_pos q k i).ne'
  have := (Real.exp_pos (-m)).ne'
  rw [sum_shift, ex_shift, wt]
  field_simp

/-- The logarithm the kernel saves. -/
theorem log_shift (m : ℝ) (i : Fin 512) : m + Real.log (∑ j, ex q k m i j) = Real.log (tot q k i) := by
  rw [sum_shift, Real.log_mul (Real.exp_pos _).ne' (tot_pos q k i).ne', Real.log_exp]
  ring

/-- The kernel's weights. -/
theorem wt_log (i j : Fin 512) : ex q k (Real.log (tot q k i)) i j = wt q k i j := by
  rw [ex_shift, wt, Real.exp_neg, Real.exp_log (tot_pos q k i), div_eq_inv_mul]

theorem wt_blind (i j : Fin 512) (h : ¬ ok i j) : wt q k i j = 0 := by
  rw [wt, ex, if_neg h, zero_div]

theorem ds_blind (i j : Fin 512) (h : ¬ ok i j) : ds q k v g i j = 0 := by
  rw [ds, wt_blind q k i j h, zero_mul]

theorem dl_eq (i : Fin 512) : dl q k v g i = ∑ j, wt q k i j * dw v g i j := by
  unfold dl att dw
  simp only [Finset.mul_sum]
  rw [Finset.sum_comm]
  exact Finset.sum_congr rfl fun j _ => Finset.sum_congr rfl fun d _ => by ring

/-- The reference's gradient of the scores. -/
theorem ds_shift (m : ℝ) (i j : Fin 512) :
    (dw v g i j / (∑ j, ex q k m i j) + -(∑ j, dw v g i j * (1 / ((∑ j, ex q k m i j) * ∑ j, ex q k m i j)) * ex q k m i j)) * ex q k m i j = ds q k v g i j := by
  have h := (sum_pos q k m i).ne'
  have e : ∑ j, dw v g i j * (1 / ((∑ j, ex q k m i j) * ∑ j, ex q k m i j)) * ex q k m i j = dl q k v g i / ∑ j, ex q k m i j := by
    rw [dl_eq, Finset.sum_div]
    refine Finset.sum_congr rfl fun j _ => ?_
    rw [← wt_shift q k m i j]
    field_simp
  rw [e, ds, ← wt_shift q k m i j]
  field_simp
  ring

end Cert.Proof.Branch
-- ==== Proof.BranchSlot.lean ====
/- One slot of a trip over the reals, and what its rows of the three gradients are. -/
module

public import proofs.«01_k».proof.Proof.BranchTrip
public import proofs.«01_k».proof.Proof.BranchPoint
public import proofs.«01_k».proof.Proof.BranchMath

@[expose] public section

noncomputable section

namespace Cert.Proof.Branch

open Idealize.ShloMosaic Idealize.ShloMosaic.TcCoe Cert.Kernel8Ideal Cert.Kernel8Ideal.Gen Cert.Reals

/-! ### Where the rows of a slot lie -/

theorem trips_eq : k0_t1_loop.trips = 8 := by decide +kernel

/-- The head of a lane of a pair and the lane in it; the head of one of a slot's 256 rows. -/
def hd (l : Fin 128) : Fin 2 := ⟨l.val / 64, by omega⟩
def ln (l : Fin 128) : Fin 64 := ⟨l.val % 64, by omega⟩
def rowHead (r : Fin 256) : Fin 2 := ⟨r.val / 128, by omega⟩

/-- The row of an array that is row `i` of residue class `ρ`. -/
abbrev bigRow (ρ : Fin 16) (i : Fin 512) : Fin 8192 := ⟨ρ.val * 512 + i.val, by omega⟩

/-- The residue class of a slot. -/
def resOf (k : Fin k0_t1_loop.trips) (n : Fin 8) : Fin 16 := ⟨2 * k.val + n.val / 4, by have := k.isLt; have := trips_eq; omega⟩
/-- The row in the class of a row of a slot, -/
def qi (n : Fin 8) (r : Fin 256) : Fin 512 := ⟨128 * (n.val % 4) + r.val % 128, by omega⟩
/-- … and of one of its keys. -/
def kj (n : Fin 8) (j : Fin 256) : Fin 512 := ⟨if 128 ≤ 128 * (n.val % 4) + j.val then 128 * (n.val % 4) + j.val - 128 else j.val, by split <;> omega⟩

/-- The slot's mask. -/
abbrev seen (n : Fin 8) (r j : Fin 256) : Prop := (j.val ≤ 128 + r.val % 128 ∧ r.val % 128 ≤ j.val) ∧ (n.val % 4 ≠ 0 ∨ 128 ≤ j.val)

theorem kj_val (n : Fin 8) (j : Fin 256) (h : n.val % 4 ≠ 0 ∨ 128 ≤ j.val) : (kj n j).val = 128 * (n.val % 4) + j.val - 128 := by
  unfold kj
  dsimp only
  rw [if_pos (by omega)]

theorem seen_ok (n : Fin 8) (r j : Fin 256) (h : n.val % 4 ≠ 0 ∨ 128 ≤ j.val) : ok (qi n r) (kj n j) ↔ seen n r j := by
  simp only [ok, kj_val n j h, qi, seen]
  omega

/-! ### The sums -/

theorem lane_sum (h : Fin 2) (F : Fin 2 → Fin 64 → ℝ) : ∑ x : Fin 128, (if h = hd x then F (hd x) (ln x) else 0) = ∑ d, F h d := by
  refine (Fintype.sum_of_injective (fun d : Fin 64 => (⟨64 * h.val + d.val, by omega⟩ : Fin 128)) ?_ _ _ ?_ ?_).symm
  · intro a b e
    have := congrArg Fin.val e
    exact Fin.ext (by simp at this; omega)
  · intro x hx
    refine if_neg fun e => hx ⟨⟨x.val - 64 * h.val, ?_⟩, Fin.ext ?_⟩
    · have := congrArg Fin.val e; simp [hd] at this; omega
    · have := congrArg Fin.val e
      simp only [hd] at this
      show 64 * h.val + (x.val - 64 * h.val) = x.val
      omega
  · intro d
    have e1 : hd ⟨64 * h.val + d.val, by omega⟩ = h := Fin.ext (show (64 * h.val + d.val) / 64 = h.val by omega)
    have e2 : ln ⟨64 * h.val + d.val, by omega⟩ = d := Fin.ext (show (64 * h.val + d.val) % 64 = d.val by omega)
    rw [e1, e2, if_pos rfl]

/-- A row's sum over the slot's keys is its sum over the class's rows. -/
theorem keys_sum (n : Fin 8) (r : Fin 256) (F : Fin 512 → ℝ) (hF : ∀ κ, ¬ ok (qi n r) κ → F κ = 0) :
    ∑ j, (if seen n r j then F (kj n j) else 0) = ∑ κ, F κ := by
  refine Finset.sum_bij_ne_zero (fun j _ _ => kj n j) (fun _ _ _ => Finset.mem_univ _) ?_ ?_ ?_
  · intro a _ ha b _ hb e
    have sa : seen n r a := by by_contra h; exact ha (if_neg h)
    have sb : seen n r b := by by_contra h; exact hb (if_neg h)
    have e' := congrArg Fin.val e
    rw [kj_val n a sa.2, kj_val n b sb.2] at e'
    exact Fin.ext (by have := sa.2; have := sb.2; omega)
  · intro κ _ hκ
    have ho : ok (qi n r) κ := by by_contra h; exact hκ (hF κ h)
    simp only [ok, qi] at ho
    have hl : κ.val + 128 - 128 * (n.val % 4) < 256 := by omega
    have hs : seen n r ⟨κ.val + 128 - 128 * (n.val % 4), hl⟩ := by simp only [seen]; omega
    have e : kj n ⟨κ.val + 128 - 128 * (n.val % 4), hl⟩ = κ := Fin.ext (by rw [kj_val n _ hs.2]; dsimp only; omega)
    refine ⟨⟨κ.val + 128 - 128 * (n.val % 4), hl⟩, Finset.mem_univ _, ?_, e⟩
    rw [if_pos hs, e]
    exact hκ
  · intro j _ hj
    have s : seen n r j := by by_contra h; exact hj (if_neg h)
    rw [if_pos s]

/-- A key's sum over the slot's rows of a head is its sum over the block's rows. -/
theorem rows_sum (n : Fin 8) (h : Fin 2) (j : Fin 256) (hj : n.val % 4 ≠ 0 ∨ 128 ≤ j.val) (F : Fin 512 → ℝ) (hF : ∀ i, ¬ ok i (kj n j) → F i = 0) :
    ∑ r, (if rowHead r = h then (if seen n r j then F (qi n r) else 0) else 0) = ∑ i : Fin 512, if i.val / 128 = n.val % 4 then F i else 0 := by
  have e0 : ∀ r, (if seen n r j then F (qi n r) else 0) = F (qi n r) := by
    intro r
    split
    · rfl
    case isFalse hs => exact (hF _ (fun ho => hs ((seen_ok n r j hj).mp ho))).symm
  simp only [e0]
  refine Finset.sum_bij_ne_zero (fun r _ _ => qi n r) (fun _ _ _ => Finset.mem_univ _) ?_ ?_ ?_
  · intro a _ ha b _ hb e
    have sa : rowHead a = h := by by_contra h; exact ha (if_neg h)
    have sb : rowHead b = h := by by_contra h; exact hb (if_neg h)
    have e' := congrArg Fin.val e
    have s' := congrArg Fin.val (sa.trans sb.symm)
    simp only [qi, rowHead] at e' s'
    exact Fin.ext (by omega)
  · intro i _ hi
    have hb : i.val / 128 = n.val % 4 := by by_contra h; exact hi (if_neg h)
    have e : qi n ⟨128 * h.val + i.val % 128, by omega⟩ = i := Fin.ext (by simp only [qi]; omega)
    have eh : rowHead ⟨128 * h.val + i.val % 128, by omega⟩ = h := Fin.ext (by simp only [rowHead]; omega)
    refine ⟨⟨128 * h.val + i.val % 128, by omega⟩, Finset.mem_univ _, ?_, e⟩
    rw [if_pos eh, e]
    rw [if_pos hb] at hi
    exact hi
  · intro r _ hr
    have s : rowHead r = h := by by_contra h; exact hr (if_neg h)
    rw [if_pos s, if_pos (show (qi n r).val / 128 = n.val % 4 by simp only [qi]; omega)]

theorem coe_ite (p : Prop) [Decidable p] (x : ℝ) : (if p then (x : EReal) else 0) = ((if p then x else 0 : ℝ) : EReal) := by
  split <;> rfl

/-- The blocks of a class that see a key: its own and the next. -/
theorem two_blocks (b : ℕ) (κ : Fin 512) (hb : κ.val / 128 = b) (F : Fin 512 → ℝ) (hF : ∀ i, ¬ ok i κ → F i = 0) :
    (∑ i : Fin 512, if i.val / 128 = b then F i else 0) + (∑ i : Fin 512, if i.val / 128 = b + 1 then F i else 0) = ∑ i, F i := by
  rw [← Finset.sum_add_distrib]
  refine Finset.sum_congr rfl fun i _ => ?_
  by_cases h : ok i κ
  · simp only [ok] at h
    by_cases h1 : i.val / 128 = b
    · rw [if_pos h1, if_neg (by omega), add_zero]
    · rw [if_neg h1, if_pos (by omega), zero_add]
  · rw [hF i h]; simp

/-- The last block's keys are seen by it alone. -/
theorem last_block (κ : Fin 512) (hb : κ.val / 128 = 3) (F : Fin 512 → ℝ) (hF : ∀ i, ¬ ok i κ → F i = 0) :
    (∑ i : Fin 512, if i.val / 128 = 3 then F i else 0) = ∑ i, F i := by
  refine Finset.sum_congr rfl fun i _ => ?_
  by_cases h : ok i κ
  · simp only [ok] at h
    rw [if_pos (by omega)]
  · rw [hF i h]; simp

/-! ### What a slot reads -/

section Reads

variable (arg : Memref sig .tc .vmem S8192x128 .f32) (X : BufTy.Contents (Elt Ideal) arg.view.ty) (k : Fin k0_t1_loop.trips)

theorem prev_read (ci : Fin 2) (b : Fin 4) (a l : Fin 128) (R : Fin 8192) (h0 : b.val = 0 → R.val = 1024 * k.val + 512 * ci.val + a.val)
    (h1 : b.val ≠ 0 → R.val = 1024 * k.val + 512 * ci.val + (128 * b.val - 128 + a.val)) :
    prevRows arg X k ci b (ix2 a l) = at_ arg X R l := by
  fin_cases b
  · exact clamp_read arg X k ci R l a (h0 rfl)
  · exact block_read arg X k ci 0 R l a (by have := h1 (by decide); simp at *; omega)
  · exact block_read arg X k ci 1 R l a (by have := h1 (by decide); simp at *; omega)
  · exact block_read arg X k ci 2 R l a (by have := h1 (by decide); simp at *; omega)

theorem rows_read (n : Fin 8) (r : Fin 256) (l : Fin 128) : rows arg X k (ciOf n) (bOf n) (ix2 (rowIn r) l) = at_ arg X (bigRow (resOf k n) (qi n r)) l :=
  block_read arg X k _ _ _ l _ (by simp only [ciOf, bOf, rowIn, resOf, qi]; omega)

theorem pair_read (n : Fin 8) (j : Fin 256) (l : Fin 128) :
    pair (prevRows arg X k (ciOf n) (bOf n)) (rows arg X k (ciOf n) (bOf n)) (ix2 j l) = at_ arg X (bigRow (resOf k n) (kj n j)) l := by
  rw [pair_apply]
  split
  case isTrue h =>
    refine prev_read arg X k _ _ _ l _ (fun h0 => ?_) fun h0 => ?_
    · simp only [ciOf, bOf, rowIn, resOf, kj] at *
      rw [if_neg (by omega)]
      omega
    · simp only [ciOf, bOf, rowIn, resOf, kj] at *
      rw [if_pos (by omega)]
      omega
  case isFalse h =>
    refine block_read arg X k _ _ _ l _ ?_
    simp only [ciOf, bOf, rowIn, resOf, kj]
    rw [if_pos (by omega)]
    omega

theorem stack_read (n : Fin 8) (r : Fin 256) (l : Fin 128) :
    stack (rows arg X k (ciOf n) (bOf n)) (ix2 r l) = if rowHead r = hd l then at_ arg X (bigRow (resOf k n) (qi n r)) l else 0 := by
  rw [stack_apply, rows_read]
  exact if_congr (by simp only [rowHead, hd, Fin.ext_iff]) rfl rfl

/-- A buffer that holds these heads. -/
def Holds (A : Fin 16 → Fin 2 → Mat) : Prop := ∀ (ρ : Fin 16) (i : Fin 512) (l : Fin 128), at_ arg X (bigRow ρ i) l = (A ρ (hd l) i (ln l) : EReal)

end Reads

section Slots

variable {arg1 arg2 : Memref sig .tc .vmem S8192x128 .f32} {arg3 : Memref sig .tc .vmem S2x256x256 .f32}
  {arg8 arg9 arg10 : Memref sig .tc .vmem S8192x128 .f32}
  {x1 : BufTy.Contents (Elt Ideal) arg1.view.ty} {x2 : BufTy.Contents (Elt Ideal) arg2.view.ty}
  {x3 : BufTy.Contents (Elt Ideal) arg3.view.ty} {x8 : BufTy.Contents (Elt Ideal) arg8.view.ty}
  {x9 : BufTy.Contents (Elt Ideal) arg9.view.ty} {x10 : BufTy.Contents (Elt Ideal) arg10.view.ty}
  {Q K V G : Fin 16 → Fin 2 → Mat}

theorem rowsBy_real {arg arg' : Memref sig .tc .vmem S8192x128 .f32} {X : BufTy.Contents (Elt Ideal) arg.view.ty} {X' : BufTy.Contents (Elt Ideal) arg'.view.ty}
    {A B : Fin 16 → Fin 2 → Mat} (hA : Holds arg X A) (hB : Holds arg' X' B) (k : Fin k0_t1_loop.trips) (n : Fin 8) (r j : Fin 256) :
    rowsBy (rows arg X k (ciOf n) (bOf n)) (prevRows arg' X' k (ciOf n) (bOf n)) (rows arg' X' k (ciOf n) (bOf n)) (ix2 r j)
      = ((∑ d, A (resOf k n) (rowHead r) (qi n r) d * B (resOf k n) (rowHead r) (kj n j) d : ℝ) : EReal) := by
  rw [rowsBy_apply, ← lane_sum (rowHead r) (fun h d => A (resOf k n) h (qi n r) d * B (resOf k n) h (kj n j) d), ← coe_sum]
  refine Finset.sum_congr rfl fun x _ => ?_
  rw [stack_read, pair_read, hA, hB]
  split
  · exact (EReal.coe_mul _ _).symm
  · exact zero_mul _

/-- What the buffers of the masks and of the statistics hold. -/
def Masked (arg3 : Memref sig .tc .vmem S2x256x256 .f32) (x3 : BufTy.Contents (Elt Ideal) arg3.view.ty) : Prop :=
  ∀ (e : Fin 2) (r j : Fin 256), arg3.view.read (Elt Ideal) x3 (ix3 e r j)
    = if (j.val ≤ 128 + r.val % 128 ∧ r.val % 128 ≤ j.val) ∧ (e.val = 0 ∨ 128 ≤ j.val) then (0 : EReal) else ⊥
def Stats (arg2 : Memref sig .tc .vmem S8192x128 .f32) (x2 : BufTy.Contents (Elt Ideal) arg2.view.ty) (Q K V G : Fin 16 → Fin 2 → Mat) : Prop :=
  ∀ (ρ : Fin 16) (i : Fin 512) (h : Fin 2), at_ arg2 x2 (bigRow ρ i) ⟨64 * h.val, by omega⟩ = (Real.log (tot (Q ρ h) (K ρ h) i) : EReal)
    ∧ at_ arg2 x2 (bigRow ρ i) ⟨64 * h.val + 1, by omega⟩ = (dl (Q ρ h) (K ρ h) (V ρ h) (G ρ h) i : EReal)

theorem mask_read (h3 : Masked arg3 x3) (n : Fin 8) (r j : Fin 256) : maskOf arg3 x3 (bOf n) (ix3 0 r j) = if seen n r j then (0 : EReal) else ⊥ := by
  have h0 : ∀ e : Fin 2, (if (j.val ≤ 128 + r.val % 128 ∧ r.val % 128 ≤ j.val) ∧ (e.val = 0 ∨ 128 ≤ j.val) then (0 : EReal) else ⊥) = if (j.val ≤ 128 + r.val % 128 ∧ r.val % 128 ≤ j.val) ∧ (e.val = 0 ∨ 128 ≤ j.val) then (0 : EReal) else ⊥ := fun _ => rfl
  have read : ∀ (e : Fin 2) (o : Fin 3 → ℕ) (ho : o = ![e.val, 0, 0]) (hi : ∀ a : Fin 3, o a + S1x256x256.size a ≤ S2x256x256.size a),
      View.readAt (Elt Ideal) arg3.view (Rect.unit (s := S2x256x256) o S1x256x256.size hi).toLoadRect x3 (ix3 0 r j) = arg3.view.read (Elt Ideal) x3 (ix3 e r j) := by
    intro e o ho hi
    subst ho
    refine congrArg (arg3.view.read (Elt Ideal) x3) (funext fun x => Fin.ext ?_)
    fin_cases x
    · show e.val + _ = e.val
      simp
    · show 0 + _ = r.val
      simp
    · show 0 + _ = j.val
      simp
  obtain ⟨b, hb⟩ : ∃ b, bOf n = b := ⟨_, rfl⟩
  have hb' : n.val % 4 = b.val := congrArg Fin.val hb
  rw [hb]
  fin_cases b
  · refine (read 1 _ rfl _).trans ((h3 1 r j).trans (if_congr ?_ rfl rfl))
    simp only [seen, hb']
    simp
  · refine (read 0 _ rfl _).trans ((h3 0 r j).trans (if_congr ?_ rfl rfl))
    simp only [seen, hb']
    simp
  · refine (read 0 _ rfl _).trans ((h3 0 r j).trans (if_congr ?_ rfl rfl))
    simp only [seen, hb']
    simp
  · refine (read 0 _ rfl _).trans ((h3 0 r j).trans (if_congr ?_ rfl rfl))
    simp only [seen, hb']
    simp

variable (k : Fin k0_t1_loop.trips) (n : Fin 8) (r j : Fin 256)

theorem score_real (h3 : Masked arg3 x3) (h8 : Holds arg8 x8 Q) (h9 : Holds arg9 x9 K) :
    scoreAt arg3 arg8 arg9 x3 x8 x9 k n (ix2 r j) = if seen n r j then (sc (Q (resOf k n) (rowHead r)) (K (resOf k n) (rowHead r)) (qi n r) (kj n j) : EReal) else ⊥ := by
  unfold scoreAt
  rw [score_apply, rowsBy_real h8 h9, mask_read h3]
  split
  · exact add_zero _
  · exact EReal.add_bot _

theorem dp_real (h1 : Holds arg1 x1 G) (h10 : Holds arg10 x10 V) :
    dpAt arg1 arg10 x1 x10 k n (ix2 r j) = (dw (V (resOf k n) (rowHead r)) (G (resOf k n) (rowHead r)) (qi n r) (kj n j) : EReal) :=
  rowsBy_real h1 h10 k n r j

theorem lse_real (h2 : Stats arg2 x2 Q K V G) : statAt arg2 x2 k n (ix2 (rowIn r) (statLane r 0)) = (Real.log (tot (Q (resOf k n) (rowHead r)) (K (resOf k n) (rowHead r)) (qi n r)) : EReal) :=
  (rows_read arg2 x2 k n r _).trans (h2 _ _ (rowHead r)).1

theorem delta_real (h2 : Stats arg2 x2 Q K V G) : statAt arg2 x2 k n (ix2 (rowIn r) (statLane r 1)) = (dl (Q (resOf k n) (rowHead r)) (K (resOf k n) (rowHead r)) (V (resOf k n) (rowHead r)) (G (resOf k n) (rowHead r)) (qi n r) : EReal) :=
  (rows_read arg2 x2 k n r _).trans (h2 _ _ (rowHead r)).2

theorem weight_real (h2 : Stats arg2 x2 Q K V G) (h3 : Masked arg3 x3) (h8 : Holds arg8 x8 Q) (h9 : Holds arg9 x9 K) :
    Ideal.exp (scoreAt arg3 arg8 arg9 x3 x8 x9 k n (ix2 r j) - statAt arg2 x2 k n (ix2 (rowIn r) (statLane r 0)))
      = ((if seen n r j then wt (Q (resOf k n) (rowHead r)) (K (resOf k n) (rowHead r)) (qi n r) (kj n j) else 0 : ℝ) : EReal) := by
  rw [score_real k n r j h3 h8 h9, lse_real k n r h2]
  split
  case isTrue h =>
    rw [← wt_log, ex, if_pos ((seen_ok n r j h.2).mpr h), ← EReal.coe_sub]
    rfl
  case isFalse h => rfl

theorem p_real (h2 : Stats arg2 x2 Q K V G) (h3 : Masked arg3 x3) (h8 : Holds arg8 x8 Q) (h9 : Holds arg9 x9 K) :
    pAt arg2 arg3 arg8 arg9 x2 x3 x8 x9 k n (ix2 r j) = ((if seen n r j then wt (Q (resOf k n) (rowHead r)) (K (resOf k n) (rowHead r)) (qi n r) (kj n j) else 0 : ℝ) : EReal) := by
  unfold pAt
  rw [slot_apply]
  exact (probs_apply _ _ n r j).trans (weight_real k n r j h2 h3 h8 h9)

theorem ds_real (h1 : Holds arg1 x1 G) (h2 : Stats arg2 x2 Q K V G) (h3 : Masked arg3 x3) (h8 : Holds arg8 x8 Q) (h9 : Holds arg9 x9 K) (h10 : Holds arg10 x10 V) :
    dsAt arg1 arg2 arg3 arg8 arg9 arg10 x1 x2 x3 x8 x9 x10 k n (ix2 r j)
      = ((if seen n r j then ds (Q (resOf k n) (rowHead r)) (K (resOf k n) (rowHead r)) (V (resOf k n) (rowHead r)) (G (resOf k n) (rowHead r)) (qi n r) (kj n j) else 0 : ℝ) : EReal) := by
  unfold dsAt
  rw [slot_apply, dsAll_apply, weight_real k n r j h2 h3 h8 h9, dp_real k n r j h1 h10, delta_real k n r h2, ← EReal.coe_sub, ← EReal.coe_mul]
  split
  · rfl
  · rw [zero_mul]

end Slots

end Cert.Proof.Branch
-- ==== Proof.BranchGrad.lean ====
/- What the slots add to the three gradients: put together, the sums over a whole residue class. -/
module

public import proofs.«01_k».proof.Proof.BranchSlot

@[expose] public section

noncomputable section

namespace Cert.Proof.Branch

open Idealize.ShloMosaic Idealize.ShloMosaic.TcCoe Cert.Kernel8Ideal Cert.Kernel8Ideal.Gen Cert.Reals

/-! ### A key's row of `keyed` -/

section Keys

variable (k : Fin k0_t1_loop.trips)

/-- A slot's sums over its rows, from entries that vanish where the key is not seen. -/
theorem keyed_real {arg : Memref sig .tc .vmem S8192x128 .f32} {X : BufTy.Contents (Elt Ideal) arg.view.ty} {A : Fin 16 → Fin 2 → Mat} (hA : Holds arg X A)
    (n : Fin 8) (d : FVec Ideal S256x256 .bf16) (D : Fin 2 → Fin 512 → Fin 512 → ℝ)
    (hd' : ∀ r j, d (ix2 r j) = ((if seen n r j then D (rowHead r) (qi n r) (kj n j) else 0 : ℝ) : EReal)) (j : Fin 256) (l : Fin 128) :
    keyed d (rows arg X k (ciOf n) (bOf n)) (ix2 j l)
      = ((∑ r, (if rowHead r = hd l then (if seen n r j then D (hd l) (qi n r) (kj n j) * A (resOf k n) (hd l) (qi n r) (ln l) else 0) else 0) : ℝ) : EReal) := by
  rw [keyed_apply, ← coe_sum]
  refine Finset.sum_congr rfl fun r _ => ?_
  rw [stack_read, hA, hd']
  by_cases h : rowHead r = hd l
  · rw [if_pos h, if_pos h, h, ← EReal.coe_mul]
    split
    · rfl
    · rw [zero_mul]
  · rw [if_neg h, if_neg h]
    exact mul_zero _

variable (g : Fin 8 → FVec Ideal S256x128 .f32) (D : Fin 16 → Fin 2 → Fin 512 → Fin 512 → ℝ) (A : Fin 16 → Fin 2 → Mat)
  (hD : ∀ ρ h i κ, ¬ ok i κ → D ρ h i κ = 0)
  (hg : ∀ (n : Fin 8) (j : Fin 256) (l : Fin 128), g n (ix2 j l)
      = ((∑ r, (if rowHead r = hd l then (if seen n r j then D (resOf k n) (hd l) (qi n r) (kj n j) * A (resOf k n) (hd l) (qi n r) (ln l) else 0) else 0) : ℝ) : EReal))

include hD hg

theorem keyed_block (n : Fin 8) (j : Fin 256) (l : Fin 128) (hj : n.val % 4 ≠ 0 ∨ 128 ≤ j.val) (κ : Fin 512) (hκ : κ.val = 128 * (n.val % 4) + j.val - 128)
    (ρ : Fin 16) (hρ : ρ.val = 2 * k.val + n.val / 4) :
    g n (ix2 j l) = ((∑ i : Fin 512, if i.val / 128 = n.val % 4 then D ρ (hd l) i κ * A ρ (hd l) i (ln l) else 0 : ℝ) : EReal) := by
  have e : κ = kj n j := Fin.ext (by rw [kj_val n j hj, hκ])
  have e' : ρ = resOf k n := Fin.ext hρ
  rw [hg, e, e', rows_sum n (hd l) j hj (fun i => D (resOf k n) (hd l) i (kj n j) * A (resOf k n) (hd l) i (ln l)) (fun i h => by rw [hD _ _ _ _ h, zero_mul])]

theorem before_none (n : Fin 8) (hn : n.val % 4 = 0) (a l : Fin 128) : before (g n) (ix2 a l) = (0 : EReal) := by
  rw [before_apply, hg]
  rw [Finset.sum_eq_zero fun r _ => ?_]
  · rfl
  · split
    · exact if_neg fun h => by have := h.2; simp only [hn] at this; simp at this; omega
    · rfl

/-- A row of the keys' (values') gradient after its trip: the sum over all rows of its class. -/
theorem keyNew_real (ci : Fin 2) (b : Fin 4) (a l : Fin 128) (κ : Fin 512) (hκ : κ.val = 128 * b.val + a.val) (ρ : Fin 16) (hρ : ρ.val = 2 * k.val + ci.val) :
    keyNew g 0 ci b a l = ((∑ i, D ρ (hd l) i κ * A ρ (hd l) i (ln l) : ℝ) : EReal) := by
  have hF : ∀ i, ¬ ok i κ → D ρ (hd l) i κ * A ρ (hd l) i (ln l) = 0 := fun i h => by rw [hD _ _ _ _ h, zero_mul]
  have own' : ∀ n : Fin 8, n.val = 4 * ci.val + b.val → own (g n) (ix2 a l) = ((∑ i : Fin 512, if i.val / 128 = b.val then D ρ (hd l) i κ * A ρ (hd l) i (ln l) else 0 : ℝ) : EReal) := by
    intro n hn
    have e : n.val % 4 = b.val := by omega
    rw [own_apply, keyed_block k g D A hD hg n _ l (Or.inr (by dsimp only; omega)) κ (by dsimp only; omega) ρ (by omega), e]
  have before' : ∀ n : Fin 8, n.val = 4 * ci.val + b.val + 1 → b.val < 3 → before (g n) (ix2 a l) = ((∑ i : Fin 512, if i.val / 128 = b.val + 1 then D ρ (hd l) i κ * A ρ (hd l) i (ln l) else 0 : ℝ) : EReal) := by
    intro n hn hb
    have e : n.val % 4 = b.val + 1 := by omega
    rw [before_apply, keyed_block k g D A hD hg n _ l (Or.inl (by omega)) κ (by dsimp only; omega) ρ (by omega), e]
  have both : ∀ n m : Fin 8, n.val = 4 * ci.val + b.val → m.val = n.val + 1 → b.val < 3 → own (g n) (ix2 a l) + before (g m) (ix2 a l) = ((∑ i, D ρ (hd l) i κ * A ρ (hd l) i (ln l) : ℝ) : EReal) := by
    intro n m hn hm hb
    rw [own' n hn, before' m (by omega) hb, ← EReal.coe_add, two_blocks b.val κ (by omega) _ hF]
  have last : ∀ n : Fin 8, n.val = 4 * ci.val + b.val → b.val = 3 → own (g n) (ix2 a l) = ((∑ i, D ρ (hd l) i κ * A ρ (hd l) i (ln l) : ℝ) : EReal) := by
    intro n hn hb
    rw [own' n hn, hb, last_block κ (by omega) _ hF]
  have none := before_none k g D A hD hg
  fin_cases ci <;> fin_cases b
  · show 0 + before (g 0) (ix2 a l) + (own (g 0) (ix2 a l) + before (g 1) (ix2 a l)) = _
    rw [none 0 rfl, zero_add, zero_add]
    exact both 0 1 rfl rfl (by decide)
  · show 0 + (own (g 1) (ix2 a l) + before (g 2) (ix2 a l)) = _
    rw [zero_add]
    exact both 1 2 rfl rfl (by decide)
  · show 0 + (own (g 2) (ix2 a l) + before (g 3) (ix2 a l)) = _
    rw [zero_add]
    exact both 2 3 rfl rfl (by decide)
  · show 0 + own (g 3) (ix2 a l) = _
    rw [zero_add]
    exact last 3 rfl rfl
  · show 0 + before (g 4) (ix2 a l) + (own (g 4) (ix2 a l) + before (g 5) (ix2 a l)) = _
    rw [none 4 rfl, zero_add, zero_add]
    exact both 4 5 rfl rfl (by decide)
  · show 0 + (own (g 5) (ix2 a l) + before (g 6) (ix2 a l)) = _
    rw [zero_add]
    exact both 5 6 rfl rfl (by decide)
  · show 0 + (own (g 6) (ix2 a l) + before (g 7) (ix2 a l)) = _
    rw [zero_add]
    exact both 6 7 rfl rfl (by decide)
  · show 0 + own (g 7) (ix2 a l) = _
    rw [zero_add]
    exact last 7 rfl rfl

end Keys

/-! ### The three gradients -/

section Grads

variable {arg1 arg2 : Memref sig .tc .vmem S8192x128 .f32} {arg3 : Memref sig .tc .vmem S2x256x256 .f32}
  {arg8 arg9 arg10 : Memref sig .tc .vmem S8192x128 .f32}
  {x1 : BufTy.Contents (Elt Ideal) arg1.view.ty} {x2 : BufTy.Contents (Elt Ideal) arg2.view.ty}
  {x3 : BufTy.Contents (Elt Ideal) arg3.view.ty} {x8 : BufTy.Contents (Elt Ideal) arg8.view.ty}
  {x9 : BufTy.Contents (Elt Ideal) arg9.view.ty} {x10 : BufTy.Contents (Elt Ideal) arg10.view.ty}
  {Q K V G : Fin 16 → Fin 2 → Mat}
  (h1 : Holds arg1 x1 G) (h2 : Stats arg2 x2 Q K V G) (h3 : Masked arg3 x3) (h8 : Holds arg8 x8 Q) (h9 : Holds arg9 x9 K) (h10 : Holds arg10 x10 V)
  (ρ : Fin 16) (i : Fin 512) (l : Fin 128)

include h1 h2 h3 h8 h9 h10

theorem dq_row : dqAt arg1 arg2 arg3 arg8 arg9 arg10 x1 x2 x3 x8 x9 x10 (kOf (bigRow ρ i)) (nOf (bigRow ρ i)) (ix2 (aOf (bigRow ρ i)) l)
    = (gq (Q ρ (hd l)) (K ρ (hd l)) (V ρ (hd l)) (G ρ (hd l)) i (ln l) : EReal) := by
  obtain ⟨k, hk⟩ : ∃ k, kOf (bigRow ρ i) = k := ⟨_, rfl⟩
  obtain ⟨n, hn⟩ : ∃ n, nOf (bigRow ρ i) = n := ⟨_, rfl⟩
  have hk' : (ρ.val * 512 + i.val) / 1024 = k.val := congrArg Fin.val hk
  have hn' : (ρ.val * 512 + i.val) % 1024 / 128 = n.val := congrArg Fin.val hn
  rw [hk, hn]
  obtain ⟨r, hr⟩ : ∃ r : Fin 256, r = ⟨128 * (l.val / 64) + (aOf (bigRow ρ i)).val, by omega⟩ := ⟨_, rfl⟩
  have hr' : r.val = 128 * (l.val / 64) + (ρ.val * 512 + i.val) % 128 := congrArg Fin.val hr
  have eρ : resOf k n = ρ := Fin.ext (by simp only [resOf]; omega)
  have ei : qi n r = i := Fin.ext (by simp only [qi]; omega)
  have eh : rowHead r = hd l := Fin.ext (by simp only [rowHead, hd]; omega)
  have sum := keys_sum n r (fun κ => ds (Q (resOf k n) (rowHead r)) (K (resOf k n) (rowHead r)) (V (resOf k n) (rowHead r)) (G (resOf k n) (rowHead r)) (qi n r) κ
    * K (resOf k n) (rowHead r) κ (ln l)) (fun κ h => by rw [ds_blind _ _ _ _ _ _ h, zero_mul])
  unfold dqAt
  rw [dqTile_apply, ← hr, ← eρ, ← ei, gq, ← eh]
  refine Eq.trans (Finset.sum_congr rfl fun j _ => ?_) ((coe_sum _ _).trans (congrArg _ sum))
  rw [ds_real k n r j h1 h2 h3 h8 h9 h10, pair_read, h9, ← EReal.coe_mul, ← eh]
  split
  · rfl
  · rw [zero_mul]

theorem dk_row : keyNew (dkAt arg1 arg2 arg3 arg8 arg9 arg10 x1 x2 x3 x8 x9 x10 (kOf (bigRow ρ i))) 0 (rOf (bigRow ρ i)) (lOf (bigRow ρ i)) (aOf (bigRow ρ i)) l
    = (gk (Q ρ (hd l)) (K ρ (hd l)) (V ρ (hd l)) (G ρ (hd l)) i (ln l) : EReal) := by
  refine keyNew_real (kOf (bigRow ρ i)) _ (fun ρ h i κ => ds (Q ρ h) (K ρ h) (V ρ h) (G ρ h) i κ) Q (fun ρ h i κ hb => ds_blind _ _ _ _ _ _ hb) (fun n j l => ?_)
    _ _ _ l i ?_ ρ ?_
  · exact keyed_real (kOf (bigRow ρ i)) h8 n _ (fun h i κ => ds (Q (resOf _ n) h) (K (resOf _ n) h) (V (resOf _ n) h) (G (resOf _ n) h) i κ) (fun r j => ds_real _ n r j h1 h2 h3 h8 h9 h10) j l
  · simp only [lOf, aOf]; omega
  · simp only [kOf, rOf]; omega

omit h10 in
theorem dv_row : keyNew (dvAt arg1 arg2 arg3 arg8 arg9 x1 x2 x3 x8 x9 (kOf (bigRow ρ i))) 0 (rOf (bigRow ρ i)) (lOf (bigRow ρ i)) (aOf (bigRow ρ i)) l
    = (gv (Q ρ (hd l)) (K ρ (hd l)) (G ρ (hd l)) i (ln l) : EReal) := by
  refine keyNew_real (kOf (bigRow ρ i)) _ (fun ρ h i κ => wt (Q ρ h) (K ρ h) i κ) G (fun ρ h i κ hb => wt_blind _ _ _ _ hb) (fun n j l => ?_)
    _ _ _ l i ?_ ρ ?_
  · exact keyed_real (kOf (bigRow ρ i)) h1 n _ (fun h i κ => wt (Q (resOf _ n) h) (K (resOf _ n) h) i κ) (fun r j => p_real _ n r j h2 h3 h8 h9) j l
  · simp only [lOf, aOf]; omega
  · simp only [kOf, rOf]; omega

end Grads

end Cert.Proof.Branch
-- ==== Proof.BranchHost.lean ====
/- What the host lines before the kernel compute: the statistics, the masks and the saved copies. -/
module

public import proofs.«01_k».proof.Defs
public import proofs.«01_k».proof.Proof.Gen.Kernel8Ideal.Value
public import proofs.«01_k».proof.Proof.Gen.Reference8Ideal.Read
public import proofs.«01_k».proof.Proof.Reals
public import Idealize.ShloMosaic.Lib.Claim
public import Idealize.ShloMosaic.Lib.StableHlo.RunRead

@[expose] public section

set_option maxRecDepth 16384

noncomputable section

namespace Cert.Proof.Branch

open Idealize.ShloMosaic Idealize.ShloMosaic.TcCoe Idealize.SL.Sem Cert.Kernel8Ideal Cert.Kernel8Ideal.Gen

abbrev Big := FVec Ideal S8192x512 .f32

/-- The logarithm of the row sums of the exponentials of the scores. -/
def lseOf (q k : Big) : FVec Ideal S16x8x512 .f32 :=
  addf (Cert.Reference8Ideal.Read.val_main_v12 (F := Ideal) q k)
    (Host.log (Host.reduceAdd (Host.exp (subf (Cert.Reference8Ideal.Read.val_main_v11_0 (F := Ideal) q k)
        (broadcastInDim S16x8x512x512 ![0, 1, 2, 3] bcast_S16x8x512x1_S16x8x512x512_0_1_2_3
          (broadcastInDim S16x8x512x1 ![0, 1, 2] bcast_S16x8x512_S16x8x512x1_0_1_2 (Cert.Reference8Ideal.Read.val_main_v12 (F := Ideal) q k)))))
      (constant S_ .f32 0x00000000#32) reducesTo_S16x8x512x512_S16x8x512_d3 h_S_))

/-- The row sums of the cotangent times the output, for each head. -/
def deltaOf (ct out : Big) : FVec Ideal S8192x8 .f32 :=
  Host.reduceAdd (shapeCast S8192x8x64 (mulf ct out) shapeCasts_S8192x512_S8192x8x64) (constant S_ .f32 0x00000000#32) reducesTo_S8192x8x64_S8192x8_d2 h_S_

/-- The two of them, each in its lane of a head's 64. -/
def statsOf (lse : FVec Ideal S16x8x512 .f32) (dl : FVec Ideal S8192x8 .f32) : Big :=
  shapeCast S8192x512
    (select (cmpi .eq (iotaInDim S8192x8x64 32 2) (broadcastInDim S8192x8x64 ![] bcast_S_S8192x8x64 (constantI S_ 32 0#32)))
      (broadcastInDim S8192x8x64 ![0, 1, 2] bcast_S8192x8x1_S8192x8x64_0_1_2 (shapeCast S8192x8x1 (transpose S16x512x8 [0, 2, 1] lse transposes_S16x8x512_S16x512x8_0_2_1) shapeCasts_S16x512x8_S8192x8x1))
      (select (cmpi .eq (iotaInDim S8192x8x64 32 2) (broadcastInDim S8192x8x64 ![] bcast_S_S8192x8x64 (constantI S_ 32 1#32)))
        (broadcastInDim S8192x8x64 ![0, 1, 2] bcast_S8192x8x1_S8192x8x64_0_1_2 (broadcastInDim S8192x8x1 ![0, 1] bcast_S8192x8_S8192x8x1_0_1 dl))
        (broadcastInDim S8192x8x64 ![] bcast_S_S8192x8x64 (constant S_ .f32 0x00000000#32)) : FVec Ideal S8192x8x64 .f32))
    shapeCasts_S8192x8x64_S8192x512

/-- A saved array regrouped by pairs of heads. -/
def pairs (x : Big) : FVec Ideal S4x1x8192x128 .f32 :=
  broadcastInDim S4x1x8192x128 ![0, 2, 3] bcast_S4x8192x128_S4x1x8192x128_0_2_3
    (transpose S4x8192x128 [1, 0, 2] (shapeCast S8192x4x128 x shapeCasts_S8192x512_S8192x4x128) transposes_S8192x4x128_S4x8192x128_1_0_2)

/-- The three saved arrays. -/
def savedOf (q k v : Big) : FVec Ideal S4x3x8192x128 .f32 :=
  concatenate S4x3x8192x128 1 [⟨S4x1x8192x128, pairs q⟩, ⟨S4x1x8192x128, pairs k⟩, ⟨S4x1x8192x128, pairs v⟩] concatenates_S4x1x8192x128_S4x1x8192x128_S4x1x8192x128_S4x3x8192x128_d1

/-- The remainders by 128, as the host computes them. -/
def remOf (x : IVec S256x256 32) (n : IVec S_ 32) : IVec S256x256 32 :=
  let d : IVec S_ 32 := select (cmpi .eq n (constantI S_ 32 0#32)) (constantI S_ 32 1#32) n
  let r := Host.remsi x (broadcastInDim S256x256 ![] bcast_S_S256x256  d)
  select (andi (cmpi .ne (cmpi .slt r (broadcastInDim S256x256 ![] bcast_S_S256x256  (constantI S_ 32 0#32))) (broadcastInDim S256x256 ![] bcast_S_S256x256  (cmpi .slt d (constantI S_ 32 0#32)))) (cmpi .ne r (broadcastInDim S256x256 ![] bcast_S_S256x256  (constantI S_ 32 0#32)))) (addi r (broadcastInDim S256x256 ![] bcast_S_S256x256  d)) r

/-- How far a key lies behind a row. -/
def distOf (r : IVec S256x256 32) : IVec S256x256 32 := subi (addi (broadcastInDim S256x256 ![] bcast_S_S256x256  (constantI S_ 32 128#32)) r) (iotaInDim S256x256 32 1)

/-- The keys a row sees, -/
def bandOf (r : IVec S256x256 32) : IVec S256x256 1 :=
  andi (cmpi .sge (distOf r) (broadcastInDim S256x256 ![] bcast_S_S256x256  (constantI S_ 32 0#32))) (cmpi .sle (distOf r) (broadcastInDim S256x256 ![] bcast_S_S256x256  (constantI S_ 32 128#32)))

/-- … and those of its own block. -/
def firstOf (r : IVec S256x256 32) : IVec S256x256 1 :=
  andi (bandOf r) (cmpi .sge (iotaInDim S256x256 32 1) (broadcastInDim S256x256 ![] bcast_S_S256x256  (constantI S_ 32 128#32)))

/-- Zero where the key is seen, `-∞` where it is not. -/
def blindOf (b : IVec S256x256 1) : FVec Ideal S1x256x256 .f32 :=
  broadcastInDim S1x256x256 ![1, 2] bcast_S256x256_S1x256x256_1_2
    (select b (broadcastInDim S256x256 ![] bcast_S_S256x256  (constant (F := Ideal) S_ .f32 0x00000000#32)) (broadcastInDim S256x256 ![] bcast_S_S256x256  (constant (F := Ideal) S_ .f32 0xFF800000#32)) : FVec Ideal S256x256 .f32)

/-- The two masks. -/
def masksOf (r : IVec S256x256 32) : FVec Ideal S2x256x256 .f32 :=
  concatenate S2x256x256 0 [⟨S1x256x256, blindOf (bandOf r)⟩, ⟨S1x256x256, blindOf (firstOf r)⟩] concatenates_S1x256x256_S1x256x256_S2x256x256_d0

section Lines

variable (W : Valuation τ sig (Elt Ideal))

theorem keep_stats : (StableHlo.after hostOps0_13 (StableHlo.after hostOps0_12 (StableHlo.after hostOps0_11 (StableHlo.after hostOps0_10 (StableHlo.after hostOps0_9 (StableHlo.after hostOps0_8 W)))))) (Proc.devRef (τ := τ) .tc main_v60) = W (Proc.devRef (τ := τ) .tc main_v60) := by
  after_reads_simp

theorem keep_saved : (StableHlo.after hostOps0_13 (StableHlo.after hostOps0_12 (StableHlo.after hostOps0_11 (StableHlo.after hostOps0_10 (StableHlo.after hostOps0_9 (StableHlo.after hostOps0_8 W)))))) (Proc.devRef (τ := τ) .tc main_v70) = W (Proc.devRef (τ := τ) .tc main_v70) := by
  after_reads_simp

theorem line_57 : (StableHlo.after hostOps0_7 (StableHlo.after hostOps0_6 (StableHlo.after hostOps0_5 W))) (Proc.devRef (τ := τ) .tc main_v60) = shapeCast S8192x512
      (select (W (Proc.devRef (τ := τ) .tc main_v55) : IVec S8192x8x64 1)
        (broadcastInDim S8192x8x64 ![0, 1, 2] bcast_S8192x8x1_S8192x8x64_0_1_2 (W (Proc.devRef (τ := τ) .tc main_v21) : FVec Ideal S8192x8x1 .f32))
        (select (W (Proc.devRef (τ := τ) .tc main_v57) : IVec S8192x8x64 1)
          (broadcastInDim S8192x8x64 ![0, 1, 2] bcast_S8192x8x1_S8192x8x64_0_1_2 (W (Proc.devRef (τ := τ) .tc main_v52) : FVec Ideal S8192x8x1 .f32))
          (broadcastInDim S8192x8x64 ![] bcast_S_S8192x8x64 (W (Proc.devRef (τ := τ) .tc main_cst_12) : FVec Ideal S_ .f32)) : FVec Ideal S8192x8x64 .f32))
      shapeCasts_S8192x8x64_S8192x512 := by
  after_reads_simp
  rfl

theorem line_4a : (StableHlo.after hostOps0_4 W) (Proc.devRef (τ := τ) .tc main_v55) = cmpi .eq (iotaInDim S8192x8x64 32 2) (broadcastInDim S8192x8x64 ![] bcast_S_S8192x8x64 (constantI S_ 32 0#32)) := by
  after_reads_simp

theorem line_4b : (StableHlo.after hostOps0_4 W) (Proc.devRef (τ := τ) .tc main_v57) = cmpi .eq (iotaInDim S8192x8x64 32 2) (broadcastInDim S8192x8x64 ![] bcast_S_S8192x8x64 (constantI S_ 32 1#32)) := by
  after_reads_simp

theorem line_4c : (StableHlo.after hostOps0_4 W) (Proc.devRef (τ := τ) .tc main_cst_12) = constant (F := Ideal) S_ .f32 0x00000000#32 := by
  after_reads_simp

theorem line_4d : (StableHlo.after hostOps0_4 W) (Proc.devRef (τ := τ) .tc main_v21) = W (Proc.devRef (τ := τ) .tc main_v21) := by
  after_reads_simp

theorem line_4e : (StableHlo.after hostOps0_4 W) (Proc.devRef (τ := τ) .tc main_v52) = broadcastInDim S8192x8x1 ![0, 1] bcast_S8192x8_S8192x8x1_0_1 (deltaOf (W (Proc.devRef (τ := τ) .tc main_arg3)) ((StableHlo.after hostOps0_4 W) (Proc.devRef (τ := τ) .tc main_v48))) := by
  after_reads_simp
  rfl

theorem line_v21 : (StableHlo.after hostOps0_3 (StableHlo.after hostOps0_2 W)) (Proc.devRef (τ := τ) .tc main_v21) = shapeCast S8192x8x1 (transpose S16x512x8 [0, 2, 1] ((StableHlo.after hostOps0_3 (StableHlo.after hostOps0_2 W)) (Proc.devRef (τ := τ) .tc main_v19)) transposes_S16x8x512_S16x512x8_0_2_1) shapeCasts_S16x512x8_S8192x8x1 := by
  after_reads_simp
  rfl

theorem line_saved : (StableHlo.after hostOps0_7 (StableHlo.after hostOps0_6 (StableHlo.after hostOps0_5 (StableHlo.after hostOps0_4 W)))) (Proc.devRef (τ := τ) .tc main_v70) = savedOf (W (Proc.devRef (τ := τ) .tc main_arg0)) (W (Proc.devRef (τ := τ) .tc main_arg1)) (W (Proc.devRef (τ := τ) .tc main_arg2)) := by
  after_reads_simp
  rfl

theorem line_out : (StableHlo.after hostOps0_4 (StableHlo.after hostOps0_3 (StableHlo.after hostOps0_2 (StableHlo.after hostOps0_1 (StableHlo.after hostOps0 W))))) (Proc.devRef (τ := τ) .tc main_v48) = Cert.Reference8Ideal.Read.val_main_v43 (F := Ideal) (W (Proc.devRef (τ := τ) .tc main_arg0)) (W (Proc.devRef (τ := τ) .tc main_arg1)) (W (Proc.devRef (τ := τ) .tc main_arg2)) := by
  after_reads_simp
  rfl

theorem line_lse : (StableHlo.after hostOps0_3 (StableHlo.after hostOps0_2 (StableHlo.after hostOps0_1 (StableHlo.after hostOps0 W)))) (Proc.devRef (τ := τ) .tc main_v19) = lseOf (W (Proc.devRef (τ := τ) .tc main_arg0)) (W (Proc.devRef (τ := τ) .tc main_arg1)) := by
  after_reads_simp
  rfl

theorem line_arg : (StableHlo.after hostOps0_3 (StableHlo.after hostOps0_2 (StableHlo.after hostOps0_1 (StableHlo.after hostOps0 W)))) (Proc.devRef (τ := τ) .tc main_arg3) = W (Proc.devRef (τ := τ) .tc main_arg3) := by
  after_reads_simp

theorem line_arg0 : (StableHlo.after hostOps0_3 (StableHlo.after hostOps0_2 (StableHlo.after hostOps0_1 (StableHlo.after hostOps0 W)))) (Proc.devRef (τ := τ) .tc main_arg0) = W (Proc.devRef (τ := τ) .tc main_arg0) := by
  after_reads_simp

theorem line_arg1 : (StableHlo.after hostOps0_3 (StableHlo.after hostOps0_2 (StableHlo.after hostOps0_1 (StableHlo.after hostOps0 W)))) (Proc.devRef (τ := τ) .tc main_arg1) = W (Proc.devRef (τ := τ) .tc main_arg1) := by
  after_reads_simp

theorem line_arg2 : (StableHlo.after hostOps0_3 (StableHlo.after hostOps0_2 (StableHlo.after hostOps0_1 (StableHlo.after hostOps0 W)))) (Proc.devRef (τ := τ) .tc main_arg2) = W (Proc.devRef (τ := τ) .tc main_arg2) := by
  after_reads_simp

theorem line_8 : (StableHlo.after hostOps0_8 (StableHlo.after hostOps0_7 W)) (Proc.devRef (τ := τ) .tc main_v72) = remOf (iotaInDim S256x256 32 0) (constantI S_ 32 128#32) := by
  after_reads_simp
  rfl

theorem line_9a : (StableHlo.after hostOps0_9 W) (Proc.devRef (τ := τ) .tc main_v81) = bandOf (W (Proc.devRef (τ := τ) .tc main_v72)) := by
  after_reads_simp
  rfl

theorem line_9b : (StableHlo.after hostOps0_9 W) (Proc.devRef (τ := τ) .tc main_v84) = firstOf (W (Proc.devRef (τ := τ) .tc main_v72)) := by
  after_reads_simp
  rfl

theorem line_9c : (StableHlo.after hostOps0_9 W) (Proc.devRef (τ := τ) .tc main_cst_18) = constant (F := Ideal) S_ .f32 0x00000000#32 := by
  after_reads_simp

theorem line_9d : (StableHlo.after hostOps0_9 W) (Proc.devRef (τ := τ) .tc main_cst_19) = constant (F := Ideal) S_ .f32 0xFF800000#32 := by
  after_reads_simp

theorem line_1013 : (StableHlo.after hostOps0_13 (StableHlo.after hostOps0_12 (StableHlo.after hostOps0_11 (StableHlo.after hostOps0_10 W)))) (Proc.devRef (τ := τ) .tc main_v89) = concatenate S2x256x256 0 [⟨S1x256x256, broadcastInDim S1x256x256 ![1, 2] bcast_S256x256_S1x256x256_1_2
      (select (W (Proc.devRef (τ := τ) .tc main_v81) : IVec S256x256 1) (broadcastInDim S256x256 ![] bcast_S_S256x256  (W (Proc.devRef (τ := τ) .tc main_cst_18) : FVec Ideal S_ .f32)) (broadcastInDim S256x256 ![] bcast_S_S256x256  (W (Proc.devRef (τ := τ) .tc main_cst_19) : FVec Ideal S_ .f32)) : FVec Ideal S256x256 .f32)⟩,
      ⟨S1x256x256, blindOf (W (Proc.devRef (τ := τ) .tc main_v84))⟩] concatenates_S1x256x256_S1x256x256_S2x256x256_d0 := by
  after_reads_simp
  rfl

end Lines

section Entry

variable (m : (ℓ : Loc nD τ sig) → Buf (Elt Ideal) ℓ) (c : Dev nD)

theorem V_stats : V m c main_v60 = statsOf (lseOf (m ((c.tc : Thread nD τ).loc main_arg0)) (m ((c.tc : Thread nD τ).loc main_arg1)))
    (deltaOf (m ((c.tc : Thread nD τ).loc main_arg3)) (Cert.Reference8Ideal.Read.val_main_v43 (F := Ideal) (m ((c.tc : Thread nD τ).loc main_arg0)) (m ((c.tc : Thread nD τ).loc main_arg1)) (m ((c.tc : Thread nD τ).loc main_arg2)))) := by
  unfold V
  simp only [List.flatten_cons, List.flatten_nil, List.append_nil, StableHlo.after_append]
  rw [keep_stats, line_57, line_4a, line_4b, line_4c, line_4d, line_4e, line_v21, line_lse, line_out, line_arg]
  rfl

theorem V_saved : V m c main_v70 = savedOf (m ((c.tc : Thread nD τ).loc main_arg0)) (m ((c.tc : Thread nD τ).loc main_arg1)) (m ((c.tc : Thread nD τ).loc main_arg2)) := by
  unfold V
  simp only [List.flatten_cons, List.flatten_nil, List.append_nil, StableHlo.after_append]
  rw [keep_saved, line_saved, line_arg0, line_arg1, line_arg2]

theorem V_masks : V m c main_v89 = masksOf (remOf (iotaInDim S256x256 32 0) (constantI S_ 32 128#32)) := by
  unfold V
  simp only [List.flatten_cons, List.flatten_nil, List.append_nil, StableHlo.after_append]
  rw [line_1013, line_9a, line_9b, line_9c, line_9d, line_8]
  rfl

end Entry

theorem stats_apply (lse : FVec Ideal S16x8x512 .f32) (dl : FVec Ideal S8192x8 .f32) (R : Fin 8192) (L : Fin 512) :
    statsOf lse dl (ix2 R L) = if L.val % 64 = 0 then lse (ix3 ⟨R.val / 512, by omega⟩ ⟨L.val / 64, by omega⟩ ⟨R.val % 512, by omega⟩)
      else if L.val % 64 = 1 then dl (ix2 R ⟨L.val / 64, by omega⟩) else 0 := by
  pointwise [statsOf]
  have h : ∀ (n : Fin 64) (x y z : EReal), Scalar.select (IntOp.cmpi CmpIPredicate.eq (BitVec.ofNat 32 n.val) 0#32) x (Scalar.select (IntOp.cmpi CmpIPredicate.eq (BitVec.ofNat 32 n.val) 1#32) y z)
      = if n.val = 0 then x else if n.val = 1 then y else z := by
    intro n x y z
    fin_cases n <;> rfl
  exact h ⟨L.val % 64, by omega⟩ _ _ _

theorem delta_apply (ct out : Big) (R : Fin 8192) (H : Fin 8) :
    deltaOf ct out (ix2 R H) = ∑ x : Fin 64, ct (ix2 R ⟨H.val * 64 + x.val, by omega⟩) * out (ix2 R ⟨H.val * 64 + x.val, by omega⟩) := by
  pointwise [deltaOf]

theorem saved_apply (q k v : Big) (p : Fin 4) (e : Fin 3) (R : Fin 8192) (l : Fin 128) :
    savedOf q k v (ix4 p e R l) = (![q, k, v] e) (ix2 R ⟨p.val * 128 + l.val, by omega⟩) := by
  pointwise [savedOf, pairs]
  fin_cases e <;> rfl

theorem rem_apply (r j : Fin 256) : remOf (iotaInDim S256x256 32 0) (constantI S_ 32 128#32) (ix2 r j) = BitVec.ofNat 32 (r.val % 128) := by
  pointwise [remOf]
  revert r
  decide +kernel

theorem band_apply (x : IVec S256x256 32) (r j : Fin 256) (h : x (ix2 r j) = BitVec.ofNat 32 (r.val % 128)) :
    bandOf x (ix2 r j) = if j.val ≤ 128 + r.val % 128 ∧ r.val % 128 ≤ j.val then 1#1 else 0#1 := by
  pointwise [bandOf, distOf]
  rw [h]
  have : ∀ (a : Fin 128) (j : Fin 256), IntOp.andi (IntOp.cmpi CmpIPredicate.sge (128#32 + BitVec.ofNat 32 a.val - BitVec.ofNat 32 j.val) 0#32) (IntOp.cmpi CmpIPredicate.sle (128#32 + BitVec.ofNat 32 a.val - BitVec.ofNat 32 j.val) 128#32)
      = if j.val ≤ 128 + a.val ∧ a.val ≤ j.val then 1#1 else 0#1 := by decide +kernel
  exact this ⟨r.val % 128, by omega⟩ j

theorem ofBits_neg_inf : Ideal.ofBits .f32 4286578688#32 = (⊥ : EReal) := by
  simp [Ideal.ofBits, Ideal.ieee]

theorem masks_apply (x : IVec S256x256 32) (e : Fin 2) (r j : Fin 256) :
    masksOf x (ix3 e r j) = if (![bandOf x, firstOf x] e) (ix2 r j) = 1#1 then (0 : EReal) else ⊥ := by
  pointwise [masksOf, blindOf]
  rw [ofBits_neg_inf]
  fin_cases e <;> simp [Scalar.select]

theorem late_keys : ∀ j : Fin 256, IntOp.cmpi .sge (BitVec.ofNat 32 j.val) 128#32 = if 128 ≤ j.val then 1#1 else 0#1 := by
  decide +kernel

theorem first_apply (x : IVec S256x256 32) (r j : Fin 256) (h : x (ix2 r j) = BitVec.ofNat 32 (r.val % 128)) :
    firstOf x (ix2 r j) = if (j.val ≤ 128 + r.val % 128 ∧ r.val % 128 ≤ j.val) ∧ 128 ≤ j.val then 1#1 else 0#1 := by
  pointwise [firstOf]
  rw [band_apply x r j h, late_keys j]
  by_cases h1 : (j.val ≤ 128 + r.val % 128 ∧ r.val % 128 ≤ j.val) <;> by_cases h2 : 128 ≤ j.val <;> simp only [h1, h2, if_true, if_false, and_true, and_false, and_self] <;> rfl

end Cert.Proof.Branch
-- ==== Proof.BranchRef.lean ====
/- The reference's stages, read over the reals: its results are the gradients of `BranchMath`. -/
module

public import proofs.«01_k».proof.Defs
public import proofs.«01_k».proof.Proof.BranchMath
public import proofs.«01_k».proof.Proof.Gen.Reference8Ideal.Read

@[expose] public section

set_option maxRecDepth 16384

noncomputable section

namespace Cert.Proof.Branch

open Idealize.ShloMosaic Idealize.ShloMosaic.TcCoe Cert.Reference8Ideal Cert.Reference8Ideal.Gen Cert.Reference8Ideal.Read Cert.Reals

theorem exp_real (r : ℝ) : Ideal.exp (r : EReal) = (Real.exp r : EReal) := rfl
theorem exp_blind : Ideal.exp ⊥ = (0 : EReal) := rfl

theorem ofBits_blind : Ideal.ofBits .f32 4286578688#32 = (⊥ : EReal) := by
  simp [Ideal.ofBits, Ideal.ieee]

section Stages

variable (x0 x1 x2 x3 : FVec Ideal S8192x512 .f32) (ρ : Fin 16) (H : Fin 8) (i j : Fin 512)

/-- A row of a residue class, a lane of a head. -/
abbrev rowAt (ρ : Fin 16) (i : Fin 512) : Fin 8192 := ⟨ρ.val * 512 + i.val, by omega⟩
abbrev laneAt (H : Fin 8) (d : Fin 64) : Fin 512 := ⟨H.val * 64 + d.val, by omega⟩

theorem raw_2 : val_main_v2 (F := Ideal) x0 x1 (ix4 ρ H i j) = ∑ d, x0 (ix2 (rowAt ρ i) (laneAt H d)) * x1 (ix2 (rowAt ρ j) (laneAt H d)) := by
  pointwise [val_main_v2, val_main_v0, val_main_v1]

theorem raw_46 : val_main_v46 (F := Ideal) x2 x3 (ix4 ρ H i j) = ∑ d, x3 (ix2 (rowAt ρ i) (laneAt H d)) * x2 (ix2 (rowAt ρ j) (laneAt H d)) := by
  pointwise [val_main_v46, val_main_v45, val_main_v44, val_main_v40]

theorem sub_words : BitVec.ofNat 32 i.val - BitVec.ofNat 32 j.val = BitVec.ofNat 32 (i.val + 512 - j.val) - 512#32 := by
  apply BitVec.eq_of_toNat_eq
  simp only [BitVec.toNat_sub, BitVec.toNat_ofNat]
  omega

theorem band_words : ∀ d : Fin 1024, IntOp.andi (IntOp.cmpi .sge (BitVec.ofNat 32 d.val - 512#32) 0#32) (IntOp.cmpi .sle (BitVec.ofNat 32 d.val - 512#32) 128#32)
    = if 512 ≤ d.val ∧ d.val ≤ 640 then 1#1 else 0#1 := by
  decide +kernel

theorem raw_10 : val_main_v10 (F := Ideal) (ix2 i j) = if ok i j then 1#1 else 0#1 := by
  pointwise [val_main_v10, val_main_v9, val_main_v8, val_main_v7, val_main_v6, val_main_v5, val_main_v4, val_main_v3, val_main_c, val_main_c_0]
  unfold IntOp.subi
  rw [sub_words]
  refine (band_words ⟨i.val + 512 - j.val, by omega⟩).trans (if_congr ?_ rfl rfl)
  simp only [ok]
  omega

theorem select_ok {α : Type} (x y : α) : Scalar.select (if ok i j then 1#1 else 0#1) x y = if ok i j then x else y := by
  split <;> rfl

theorem raw_11 : val_main_v11_0 (F := Ideal) x0 x1 (ix4 ρ H i j) = if ok i j then val_main_v2 (F := Ideal) x0 x1 (ix4 ρ H i j) else ⊥ := by
  pointwise [val_main_v11_0, val_main_v11_1, val_main_call0_v2, val_main_call0_v0]
  rw [raw_10, select_ok]
  refine if_congr Iff.rfl rfl ?_
  exact ofBits_blind

theorem raw_12 : val_main_v12 (F := Ideal) x0 x1 (ix3 ρ H i) = Finset.fold max ⊥ (fun j => val_main_v11_0 (F := Ideal) x0 x1 (ix4 ρ H i j)) Finset.univ := by
  pointwise [val_main_v12, val_main_cst_1]
  rw [ofBits_blind]

theorem exps_apply (z : FVec Ideal S16x8x512x512 .f32) (y : FVec Ideal S16x8x512 .f32) :
    Host.exp (subf z (broadcastInDim S16x8x512x512 ![0, 1, 2, 3] bcast_S16x8x512x1_S16x8x512x512_0_1_2_3
      (broadcastInDim S16x8x512x1 ![0, 1, 2] bcast_S16x8x512_S16x8x512x1_0_1_2 y))) (ix4 ρ H i j) = Ideal.exp (z (ix4 ρ H i j) - y (ix3 ρ H i)) := by
  pointwise []

theorem most_apply (y : FVec Ideal S16x8x512 .f32) : maximumf (val_main_v18 (F := Ideal)) y (ix3 ρ H i) = y (ix3 ρ H i) := by
  pointwise [val_main_v18, val_main_cst_3]
  rw [ofBits_blind, max_eq_right bot_le]

theorem raw_32 : val_main_v32 (F := Ideal) x0 x1 (ix4 ρ H i j) = Ideal.exp (val_main_v11_0 (F := Ideal) x0 x1 (ix4 ρ H i j) - val_main_v12 (F := Ideal) x0 x1 (ix3 ρ H i)) := by
  unfold val_main_v32 val_main_v31 val_main_v30 val_main_v29 val_main_v19
  rw [exps_apply, most_apply]

theorem raw_33 : val_main_v33 (F := Ideal) x0 x1 (ix3 ρ H i) = ∑ j, val_main_v32 (F := Ideal) x0 x1 (ix4 ρ H i j) := by
  pointwise [val_main_v33, val_main_cst_9]

theorem raw_36 : val_main_v36 (F := Ideal) x0 x1 (ix4 ρ H i j) = Ideal.div (val_main_v32 (F := Ideal) x0 x1 (ix4 ρ H i j)) (val_main_v33 (F := Ideal) x0 x1 (ix3 ρ H i)) := by
  pointwise [val_main_v36, val_main_v35, val_main_v34]

theorem raw_43 (d : Fin 64) : val_main_v43 (F := Ideal) x0 x1 x2 (ix2 (rowAt ρ i) (laneAt H d)) = ∑ j, x2 (ix2 (rowAt ρ j) (laneAt H d)) * val_main_v36 (F := Ideal) x0 x1 (ix4 ρ H i j) := by
  pointwise [val_main_v43, val_main_v42, val_main_v41, val_main_v40]
  have e1 : (ρ.val * 512 + i.val) / 512 = ρ.val := by omega
  have e2 : (ρ.val * 512 + i.val) % 512 = i.val := by omega
  have e3 : (H.val * 64 + d.val) / 64 = H.val := by omega
  have e4 : (H.val * 64 + d.val) % 64 = d.val := by omega
  simp only [e1, e2, e3, e4, Fin.eta]

theorem raw_49 (d : Fin 64) : val_main_v49 (F := Ideal) x0 x1 x3 (ix2 (rowAt ρ j) (laneAt H d)) = ∑ i, x3 (ix2 (rowAt ρ i) (laneAt H d)) * val_main_v36 (F := Ideal) x0 x1 (ix4 ρ H i j) := by
  pointwise [val_main_v49, val_main_v48, val_main_v47, val_main_v45, val_main_v44]
  have e1 : (ρ.val * 512 + j.val) / 512 = ρ.val := by omega
  have e2 : (ρ.val * 512 + j.val) % 512 = j.val := by omega
  have e3 : (H.val * 64 + d.val) / 64 = H.val := by omega
  have e4 : (H.val * 64 + d.val) % 64 = d.val := by omega
  simp only [e1, e2, e3, e4, Fin.eta]

theorem raw_53 : val_main_v53 (F := Ideal) x0 x1 x2 x3 (ix3 ρ H i)
    = ∑ j, val_main_v46 (F := Ideal) x2 x3 (ix4 ρ H i j) * Ideal.div 1 (val_main_v33 (F := Ideal) x0 x1 (ix3 ρ H i) * val_main_v33 (F := Ideal) x0 x1 (ix3 ρ H i)) * val_main_v32 (F := Ideal) x0 x1 (ix4 ρ H i j) := by
  pointwise [val_main_v53, val_main_v52, val_main_v51, val_main_v50, val_main_v39, val_main_v38, val_main_v37, val_main_v34, val_main_cst_10, val_main_cst_11]

theorem raw_61 : val_main_v61 (F := Ideal) x0 x1 x2 x3 (ix4 ρ H i j)
    = (Ideal.div (val_main_v46 (F := Ideal) x2 x3 (ix4 ρ H i j)) (val_main_v33 (F := Ideal) x0 x1 (ix3 ρ H i)) + -val_main_v53 (F := Ideal) x0 x1 x2 x3 (ix3 ρ H i)) * val_main_v32 (F := Ideal) x0 x1 (ix4 ρ H i j) := by
  pointwise [val_main_v61, val_main_v60, val_main_v59, val_main_v58, val_main_v57, val_main_v56, val_main_v55, val_main_v54, val_main_v34, val_main_cst_12]
  rw [Fin.sum_univ_one]

theorem raw_62 : val_main_v62 (F := Ideal) x0 x1 x2 x3 (ix4 ρ H i j) = if ok i j then val_main_v61 (F := Ideal) x0 x1 x2 x3 (ix4 ρ H i j) else 0 := by
  pointwise [val_main_v62, val_main_v11_1, val_main_call1_v0, val_main_call1_cst]
  rw [raw_10, select_ok]

theorem raw_68 (d : Fin 64) : val_main_v68 (F := Ideal) x0 x1 x2 x3 (ix2 (rowAt ρ i) (laneAt H d)) = ∑ j, val_main_v62 (F := Ideal) x0 x1 x2 x3 (ix4 ρ H i j) * x1 (ix2 (rowAt ρ j) (laneAt H d)) := by
  pointwise [val_main_v68, val_main_v66, val_main_v65, val_main_v1]
  have e1 : (ρ.val * 512 + i.val) / 512 = ρ.val := by omega
  have e2 : (ρ.val * 512 + i.val) % 512 = i.val := by omega
  have e3 : (H.val * 64 + d.val) / 64 = H.val := by omega
  have e4 : (H.val * 64 + d.val) % 64 = d.val := by omega
  simp only [e1, e2, e3, e4, Fin.eta]

theorem raw_67 (d : Fin 64) : val_main_v67 (F := Ideal) x0 x1 x2 x3 (ix2 (rowAt ρ j) (laneAt H d)) = ∑ i, val_main_v62 (F := Ideal) x0 x1 x2 x3 (ix4 ρ H i j) * x0 (ix2 (rowAt ρ i) (laneAt H d)) := by
  pointwise [val_main_v67, val_main_v64, val_main_v63, val_main_v0]
  have e1 : (ρ.val * 512 + j.val) / 512 = ρ.val := by omega
  have e2 : (ρ.val * 512 + j.val) % 512 = j.val := by omega
  have e3 : (H.val * 64 + d.val) / 64 = H.val := by omega
  have e4 : (H.val * 64 + d.val) % 64 = d.val := by omega
  simp only [e1, e2, e3, e4, Fin.eta]

end Stages

section Real

variable (X0 X1 X2 X3 : S8192x512.Idx → ℝ)

/-- An array of real numbers. -/
abbrev up (X : S8192x512.Idx → ℝ) : FVec Ideal S8192x512 .f32 := fun i => (X i : EReal)
/-- One head's rows of a residue class. -/
def head (X : S8192x512.Idx → ℝ) (ρ : Fin 16) (H : Fin 8) : Mat := fun i d => X (ix2 (rowAt ρ i) (laneAt H d))

variable (ρ : Fin 16) (H : Fin 8) (i j : Fin 512)

theorem up_at (X : S8192x512.Idx → ℝ) (d : Fin 64) : up X (ix2 (rowAt ρ i) (laneAt H d)) = (head X ρ H i d : EReal) := rfl

theorem real_2 : val_main_v2 (F := Ideal) (up X0) (up X1) (ix4 ρ H i j) = (sc (head X0 ρ H) (head X1 ρ H) i j : EReal) := by
  rw [raw_2]
  simp only [up_at, ← EReal.coe_mul, coe_sum]
  rfl

theorem real_46 : val_main_v46 (F := Ideal) (up X2) (up X3) (ix4 ρ H i j) = (dw (head X2 ρ H) (head X3 ρ H) i j : EReal) := by
  rw [raw_46]
  simp only [up_at, ← EReal.coe_mul, coe_sum]
  rfl

theorem real_11 : val_main_v11_0 (F := Ideal) (up X0) (up X1) (ix4 ρ H i j) = if ok i j then (sc (head X0 ρ H) (head X1 ρ H) i j : EReal) else ⊥ := by
  rw [raw_11, real_2]

/-- The greatest score of a row. -/
def peak : ℝ := (val_main_v12 (F := Ideal) (up X0) (up X1) (ix3 ρ H i)).toReal

theorem real_12 : val_main_v12 (F := Ideal) (up X0) (up X1) (ix3 ρ H i) = (peak X0 X1 ρ H i : EReal) := by
  refine (EReal.coe_toReal (ne_of_lt ?_) (ne_of_gt ?_)).symm
  · rw [raw_12, Finset.fold_max_lt]
    refine ⟨bot_lt_top, fun j _ => ?_⟩
    rw [real_11]
    split
    · exact EReal.coe_lt_top _
    · exact bot_lt_top
  · rw [raw_12]
    refine lt_of_lt_of_le (EReal.bot_lt_coe (sc (head X0 ρ H) (head X1 ρ H) i i)) (Finset.le_fold_max _ |>.mpr (Or.inr ⟨i, Finset.mem_univ _, ?_⟩))
    rw [real_11, if_pos ⟨le_rfl, by omega⟩]

theorem exp_ex (q k : Mat) (m : ℝ) : Ideal.exp ((if ok i j then (sc q k i j : EReal) else ⊥) - (m : EReal)) = (ex q k m i j : EReal) := by
  unfold ex
  split
  · rw [← EReal.coe_sub, exp_real]
  · rw [EReal.bot_sub, exp_blind, EReal.coe_zero]

theorem real_32 : val_main_v32 (F := Ideal) (up X0) (up X1) (ix4 ρ H i j) = (ex (head X0 ρ H) (head X1 ρ H) (peak X0 X1 ρ H i) i j : EReal) := by
  rw [raw_32, real_11, real_12, exp_ex]

theorem real_33 : val_main_v33 (F := Ideal) (up X0) (up X1) (ix3 ρ H i) = ((∑ j, ex (head X0 ρ H) (head X1 ρ H) (peak X0 X1 ρ H i) i j : ℝ) : EReal) := by
  rw [raw_33]
  simp only [real_32, coe_sum]

theorem real_36 : val_main_v36 (F := Ideal) (up X0) (up X1) (ix4 ρ H i j) = (wt (head X0 ρ H) (head X1 ρ H) i j : EReal) := by
  rw [raw_36, real_32, real_33, div_real _ _ (sum_pos _ _ _ _).ne', wt_shift]

/-- The attention. -/
theorem real_43 (d : Fin 64) : val_main_v43 (F := Ideal) (up X0) (up X1) (up X2) (ix2 (rowAt ρ i) (laneAt H d)) = (att (head X0 ρ H) (head X1 ρ H) (head X2 ρ H) i d : EReal) := by
  rw [raw_43]
  simp only [up_at, real_36, ← EReal.coe_mul, coe_sum, att, mul_comm]

/-- The values' gradient. -/
theorem real_49 (d : Fin 64) : val_main_v49 (F := Ideal) (up X0) (up X1) (up X3) (ix2 (rowAt ρ j) (laneAt H d)) = (gv (head X0 ρ H) (head X1 ρ H) (head X3 ρ H) j d : EReal) := by
  rw [raw_49]
  simp only [up_at, real_36, ← EReal.coe_mul, coe_sum, gv, mul_comm]

theorem real_62 : val_main_v62 (F := Ideal) (up X0) (up X1) (up X2) (up X3) (ix4 ρ H i j) = (ds (head X0 ρ H) (head X1 ρ H) (head X2 ρ H) (head X3 ρ H) i j : EReal) := by
  have h := (sum_pos (head X0 ρ H) (head X1 ρ H) (peak X0 X1 ρ H i) i).ne'
  rw [raw_62]
  split
  case isFalse hb => rw [ds_blind _ _ _ _ _ _ hb, EReal.coe_zero]
  rw [raw_61, raw_53]
  simp only [real_46, real_33, real_32, ← EReal.coe_mul]
  rw [div_real _ _ h]
  rw [show (1 : EReal) = ((1 : ℝ) : EReal) from rfl, div_real _ _ (mul_ne_zero h h)]
  simp only [← EReal.coe_mul, coe_sum, ← EReal.coe_neg, ← EReal.coe_add]
  rw [ds_shift]

/-- The queries' gradient. -/
theorem real_68 (d : Fin 64) : val_main_v68 (F := Ideal) (up X0) (up X1) (up X2) (up X3) (ix2 (rowAt ρ i) (laneAt H d)) = (gq (head X0 ρ H) (head X1 ρ H) (head X2 ρ H) (head X3 ρ H) i d : EReal) := by
  rw [raw_68]
  simp only [up_at, real_62, ← EReal.coe_mul, coe_sum, gq]

/-- The keys' gradient. -/
theorem real_67 (d : Fin 64) : val_main_v67 (F := Ideal) (up X0) (up X1) (up X2) (up X3) (ix2 (rowAt ρ j) (laneAt H d)) = (gk (head X0 ρ H) (head X1 ρ H) (head X2 ρ H) (head X3 ρ H) j d : EReal) := by
  rw [raw_67]
  simp only [up_at, real_62, ← EReal.coe_mul, coe_sum, gk]

end Real

end Cert.Proof.Branch
-- ==== Proof.BranchStats.lean ====
/- The saved statistics over the reals: the logarithm of a row's sum, and the cotangent times the output. -/
module

public import proofs.«01_k».proof.Proof.BranchHost
public import proofs.«01_k».proof.Proof.BranchRef
public import proofs.«01_k».proof.Proof.BranchSlot

@[expose] public section

set_option maxRecDepth 16384

noncomputable section

namespace Cert.Proof.Branch

open Idealize.ShloMosaic Idealize.ShloMosaic.TcCoe Cert.Kernel8Ideal Cert.Kernel8Ideal.Gen Cert.Reals

theorem logs_apply (z : FVec Ideal S16x8x512x512 .f32) (y : FVec Ideal S16x8x512 .f32) (ρ : Fin 16) (H : Fin 8) (i : Fin 512) :
    addf y (Host.log (Host.reduceAdd (Host.exp (subf z
        (broadcastInDim S16x8x512x512 ![0, 1, 2, 3] bcast_S16x8x512x1_S16x8x512x512_0_1_2_3
          (broadcastInDim S16x8x512x1 ![0, 1, 2] bcast_S16x8x512_S16x8x512x1_0_1_2 y))))
      (constant S_ .f32 0x00000000#32) reducesTo_S16x8x512x512_S16x8x512_d3 h_S_)) (ix3 ρ H i)
      = y (ix3 ρ H i) + Ideal.log (∑ j, Ideal.exp (z (ix4 ρ H i j) - y (ix3 ρ H i))) := by
  pointwise []

theorem log_real (r : ℝ) (h : 0 < r) : Ideal.log (r : EReal) = (Real.log r : EReal) :=
  if_neg (not_le.mpr h)

section Real

variable (X0 X1 X2 X3 : S8192x512.Idx → ℝ) (ρ : Fin 16) (H : Fin 8) (i : Fin 512)

theorem lseOf_real : lseOf (up X0) (up X1) (ix3 ρ H i) = (Real.log (tot (head X0 ρ H) (head X1 ρ H) i) : EReal) := by
  unfold lseOf
  rw [logs_apply, real_12]
  simp only [real_11, exp_ex, coe_sum]
  rw [log_real _ (sum_pos _ _ _ _), ← EReal.coe_add, log_shift]

theorem deltaOf_real : deltaOf (up X3) (Cert.Reference8Ideal.Read.val_main_v43 (F := Ideal) (up X0) (up X1) (up X2)) (ix2 (rowAt ρ i) H)
    = (dl (head X0 ρ H) (head X1 ρ H) (head X2 ρ H) (head X3 ρ H) i : EReal) := by
  rw [delta_apply]
  simp only [up_at, real_43, ← EReal.coe_mul, coe_sum, dl]

end Real

end Cert.Proof.Branch
-- ==== Proof.BranchOut.lean ====
/- What the kernel's three result arrays hold after the run. -/
module

public import proofs.«01_k».proof.Proof.BranchGrad
public import proofs.«01_k».proof.Proof.BranchStats
public import Idealize.ShloMosaic.Lib.Pipeline.ValueKit

@[expose] public section

set_option maxRecDepth 16384

noncomputable section

namespace Cert.Proof.Branch

open Idealize.ShloMosaic Idealize.ShloMosaic.TcCoe Idealize.SL.Sem Cert.Kernel8Ideal Cert.Kernel8Ideal.Gen Cert.Reals

variable (m : (ℓ : Loc nD τ sig) → Buf (Elt Ideal) ℓ) (c : Dev nD)

/-- The block indices at every grid point. -/
theorem idx : ∀ t : Fin cfg0.N, win0_0.index t = ![0, t.val] ∧ win0_1.index t = ![0, t.val] ∧ win0_2.index t = ![0, 0, 0]
    ∧ win0_3.index t = ![0, t.val] ∧ win0_4.index t = ![0, t.val] ∧ win0_5.index t = ![0, t.val] ∧ (grid0.coords t 0).val = t.val ∧ t.val < 4 :=
  (by decide +kernel : ∀ t : Fin grid0.N, _)

theorem blk_ct (t : Fin cfg0.N) (R : Fin 8192) (l : Fin 128) :
    (iblk m c 0 t : FVec Ideal S8192x128 .f32) (ix2 R l) = (m ((c : Thread nD τ).loc main_arg3) : FVec Ideal S8192x512 .f32) (ix2 R ⟨t.val * 128 + l.val, by have := (idx t).2.2.2.2.2.2.2; omega⟩) := by
  blk_point [iblk, V, idx t]

theorem blk_stats (t : Fin cfg0.N) (R : Fin 8192) (l : Fin 128) :
    (iblk m c 1 t : FVec Ideal S8192x128 .f32) (ix2 R l) = (V m c main_v60 : FVec Ideal S8192x512 .f32) (ix2 R ⟨t.val * 128 + l.val, by have := (idx t).2.2.2.2.2.2.2; omega⟩) := by
  unfold iblk
  generalize V m c = W
  blk_point [idx t]

theorem blk_masks (t : Fin cfg0.N) (e : Fin 2) (r j : Fin 256) :
    (iblk m c 2 t : FVec Ideal S2x256x256 .f32) (ix3 e r j) = (V m c main_v89 : FVec Ideal S2x256x256 .f32) (ix3 e r j) := by
  unfold iblk
  generalize V m c = W
  blk_point [idx t]

theorem coord (t : Fin cfg0.N) : (grid0.coords t 0).val = t.val := (idx t).2.2.2.2.2.2.1

/-- The grid point as a pair of heads. -/
def pairOf (t : Fin cfg0.N) : Fin 4 := ⟨t.val, (idx t).2.2.2.2.2.2.2⟩

theorem zero_pieces (v : View sig .tc .vmem S8192x128 .f32) (f : v.ty.Contents (Elt Ideal)) (R : Fin 8192) (l : Fin 128) :
    v.read (Elt Ideal) (v.writes (Elt Ideal) f kernelRun0_A.sl.H3_1) (ix2 R l) = (0 : EReal) := by
  unfold kernelRun0_A.sl.H3_1
  refine (View.read_writes_cons_rows_of_mem (d := S8192x128.size) (off := ![0, 0]) (size := S8192x128.size) (o := 0) v f inb_S8192x128_S8192x128_0_0 (k0_pay194 (F := Ideal)) [] (ix2 R l) (ix2 R l) rfl (Nat.zero_add _).symm rfl).trans ?_
  pointwise [k0_pay194]

/-- The zero fill covers the block, whatever else is stored. -/
theorem covered (L : List (View.Piece (Elt Ideal) S8192x128 .f32)) (y : S8192x128.Idx) : ∃ p ∈ L ++ kernelRun0_A.sl.H3_1 (F := Ideal), y ∈ p.1.set := by
  unfold kernelRun0_A.sl.H3_1
  exact ⟨_, List.mem_append_right _ (List.mem_singleton_self _), View.mem_set_unit_zero (S := S8192x128) (by funext a; fin_cases a <;> rfl) inb_S8192x128_S8192x128_0_0 y⟩

/-! ### The saved copies -/

theorem drop_units (z : S1x1x8192x128.Idx → EReal) (hc : S1x1x8192x128.ShapeCasts S8192x128) (R : Fin 8192) (l : Fin 128) :
    shapeCast S8192x128 z hc (ix2 R l) = z (ix4 0 0 R l) :=
  shapeCast_apply z hc (ix2 R l) (ix4 0 0 R l) (by
    rw [Shape.rowMajor_val_four, Shape.rowMajor_val_two]
    show ((0 * 1 + 0) * 8192 + R.val) * 128 + l.val = R.val * 128 + l.val
    omega)

theorem copied (W : Buf (Elt Ideal) ((c : Thread nD τ).loc main_v70)) (p : Fin 4) (e : Fin 3) (o : Fin 4 → ℕ) (ho : o = ![p.val, e.val, 0, 0])
    (hi : ∀ a : Fin 4, o a + S1x1x8192x128.size a ≤ S4x3x8192x128.size a) (hu) (R : Fin 8192) (l : Fin 128) :
    (((Memref.whole main_v70).slice (Rect.unit (s := S4x3x8192x128) o S1x1x8192x128.size hi) hu).squeeze S8192x128 squeezes_S1x1x8192x128_S8192x128).view.read (Elt Ideal) W (ix2 R l)
      = (W : FVec Ideal S4x3x8192x128 .f32) (ix4 p e R l) := by
  subst ho
  have hc : S1x1x8192x128.ShapeCasts S8192x128 := by decide
  refine (congrFun (Memref.read_squeeze_slice (Memref.whole main_v70) (Rect.unit (s := S4x3x8192x128) ![p.val, e.val, 0, 0] S1x1x8192x128.size hi) hu squeezes_S1x1x8192x128_S8192x128 hc W) (ix2 R l)).trans ?_
  generalize hz : (Memref.whole main_v70).view.readAt (Elt Ideal) _ W = z
  refine (drop_units z hc R l).trans ?_
  rw [← hz]
  refine congrArg (W : FVec Ideal S4x3x8192x128 .f32) (funext fun x => Fin.ext ?_)
  fin_cases x
  · show p.val + _ = p.val
    simp
  · show e.val + _ = e.val
    simp
  · show 0 + _ = R.val
    simp
  · show 0 + _ = l.val
    simp

theorem copy_0 (t : Fin cfg0.N) (W : Buf (Elt Ideal) ((c : Thread nD τ).loc main_v70)) (R : Fin 8192) (l : Fin 128) :
    kernelRun0_A.sl.dma0 c (grid0.coords t) W (ix2 R l) = (W : FVec Ideal S4x3x8192x128 .f32) (ix4 (pairOf t) 0 R l) :=
  copied c W (pairOf t) 0 _ ((k0_off1_eq _).trans (by rw [coord]; rfl)) _ _ R l

theorem copy_1 (t : Fin cfg0.N) (W : Buf (Elt Ideal) ((c : Thread nD τ).loc main_v70)) (R : Fin 8192) (l : Fin 128) :
    kernelRun0_A.sl.dma0_1 c (grid0.coords t) W (ix2 R l) = (W : FVec Ideal S4x3x8192x128 .f32) (ix4 (pairOf t) 1 R l) :=
  copied c W (pairOf t) 1 _ ((k0_off2_eq _).trans (by rw [coord]; rfl)) _ _ R l

theorem copy_2 (t : Fin cfg0.N) (W : Buf (Elt Ideal) ((c : Thread nD τ).loc main_v70)) (R : Fin 8192) (l : Fin 128) :
    kernelRun0_A.sl.dma0_2 c (grid0.coords t) W (ix2 R l) = (W : FVec Ideal S4x3x8192x128 .f32) (ix4 (pairOf t) 2 R l) :=
  copied c W (pairOf t) 2 _ ((k0_off3_eq _).trans (by rw [coord]; rfl)) _ _ R l

/-! ### What the body's buffers hold at a grid point -/

/-- The head of the eight that is head `h` of the point's pair. -/
def hOf (t : Fin cfg0.N) (h : Fin 2) : Fin 8 := ⟨2 * t.val + h.val, by have := (idx t).2.2.2.2.2.2.2; omega⟩
/-- The point's two heads of an array, by residue class. -/
def part (X : S8192x512.Idx → ℝ) (t : Fin cfg0.N) : Fin 16 → Fin 2 → Mat := fun ρ h => head X ρ (hOf t h)

theorem part_at (X : S8192x512.Idx → ℝ) (t : Fin cfg0.N) (ρ : Fin 16) (i : Fin 512) (l : Fin 128) (L : Fin 512) (hL : L.val = t.val * 128 + l.val) :
    X (ix2 (bigRow ρ i) L) = part X t ρ (hd l) i (ln l) :=
  congrArg X (congrArg (ix2 _) (Fin.ext (show L.val = (2 * t.val + l.val / 64) * 64 + l.val % 64 by omega)))

/-- The arguments are these arrays of real numbers. -/
structure Args (X0 X1 X2 X3 : S8192x512.Idx → ℝ) : Prop where
  a0 : m ((c.tc : Thread nD τ).loc main_arg0) = up X0
  a1 : m ((c.tc : Thread nD τ).loc main_arg1) = up X1
  a2 : m ((c.tc : Thread nD τ).loc main_arg2) = up X2
  a3 : m ((c.tc : Thread nD τ).loc main_arg3) = up X3

section Point

variable {m c} {X0 X1 X2 X3 : S8192x512.Idx → ℝ} (H : Args m c X0 X1 X2 X3) (t : Fin cfg0.N)

include H

theorem holds_ct : Holds (ms0_0 t) ((hs0_0 t).unread (iblk m c 0 t)) (part X3 t) := by
  intro ρ i l
  unfold at_
  rw [Memref.IsWhole.read_unread, blk_ct, H.a3]
  exact congrArg Real.toEReal (part_at X3 t ρ i l _ rfl)

theorem holds_0 : Holds scM0_0 ((View.whole cc0_scratch0).writes (Elt Ideal) (View.whole cc0_scratch0).junk
    [⟨Rect.whole S8192x128, kernelRun0_A.sl.dma0 c (grid0.coords t) (V m c main_v70)⟩]) (part X0 t) := by
  intro ρ i l
  refine (congrFun (View.read_writes_whole _ _ _) _).trans ?_
  rw [copy_0, V_saved, saved_apply, H.a0]
  exact congrArg Real.toEReal (part_at X0 t ρ i l _ rfl)

theorem holds_1 : Holds scM0_1 ((View.whole cc0_scratch1).writes (Elt Ideal) (View.whole cc0_scratch1).junk
    [⟨Rect.whole S8192x128, kernelRun0_A.sl.dma0_1 c (grid0.coords t) (V m c main_v70)⟩]) (part X1 t) := by
  intro ρ i l
  refine (congrFun (View.read_writes_whole _ _ _) _).trans ?_
  rw [copy_1, V_saved, saved_apply, H.a1]
  exact congrArg Real.toEReal (part_at X1 t ρ i l _ rfl)

theorem holds_2 : Holds scM0_2 ((View.whole cc0_scratch2).writes (Elt Ideal) (View.whole cc0_scratch2).junk
    [⟨Rect.whole S8192x128, kernelRun0_A.sl.dma0_2 c (grid0.coords t) (V m c main_v70)⟩]) (part X2 t) := by
  intro ρ i l
  refine (congrFun (View.read_writes_whole _ _ _) _).trans ?_
  rw [copy_2, V_saved, saved_apply, H.a2]
  exact congrArg Real.toEReal (part_at X2 t ρ i l _ rfl)

theorem stats_ok : Stats (ms0_1 t) ((hs0_1 t).unread (iblk m c 1 t)) (part X0 t) (part X1 t) (part X2 t) (part X3 t) := by
  have ht := (idx t).2.2.2.2.2.2.2
  intro ρ i h
  have e1 : (ρ.val * 512 + i.val) / 512 = ρ.val := by omega
  have e2 : (ρ.val * 512 + i.val) % 512 = i.val := by omega
  constructor
  · unfold at_
    rw [Memref.IsWhole.read_unread, blk_stats, V_stats, H.a0, H.a1, H.a2, H.a3, stats_apply, if_pos (by dsimp only; omega)]
    have e3 : (t.val * 128 + 64 * h.val) / 64 = 2 * t.val + h.val := by omega
    simp only [e1, e2, e3, Fin.eta]
    exact lseOf_real X0 X1 ρ (hOf t h) i
  · unfold at_
    rw [Memref.IsWhole.read_unread, blk_stats, V_stats, H.a0, H.a1, H.a2, H.a3, stats_apply, if_neg (by dsimp only; omega), if_pos (by dsimp only; omega)]
    have e3 : (t.val * 128 + (64 * h.val + 1)) / 64 = 2 * t.val + h.val := by omega
    simp only [e3]
    exact deltaOf_real X0 X1 X2 X3 ρ (hOf t h) i

omit H in
variable (m c) in
theorem masks_ok : Masked (ms0_2 t) ((hs0_2 t).unread (iblk m c 2 t)) := by
  intro e r j
  rw [Memref.IsWhole.read_unread, blk_masks, V_masks, masks_apply]
  have hb := band_apply (remOf (iotaInDim S256x256 32 0) (constantI S_ 32 128#32)) r j (rem_apply r j)
  have hf := first_apply (remOf (iotaInDim S256x256 32 0) (constantI S_ 32 128#32)) r j (rem_apply r j)
  fin_cases e
  · show (if bandOf _ (ix2 r j) = 1#1 then (0 : EReal) else ⊥) = _
    rw [hb]
    refine if_congr ?_ rfl rfl
    split <;> simp_all
  · show (if firstOf _ (ix2 r j) = 1#1 then (0 : EReal) else ⊥) = _
    rw [hf]
    refine if_congr ?_ rfl rfl
    split <;> simp_all

variable (ρ : Fin 16) (i : Fin 512) (l : Fin 128)

theorem out_dq : (outsAt0 m c t).1 (ix2 (bigRow ρ i) l) = (gq (part X0 t ρ (hd l)) (part X1 t ρ (hd l)) (part X2 t ρ (hd l)) (part X3 t ρ (hd l)) i (ln l) : EReal) := by
  unfold outsAt0 out0_A_3
  dsimp only
  unfold kernelRun0_A
  dsimp only
  rw [View.read_writes_apply_eq VO0_3 VO0_3.junk (ms0_3 t).view (ms0_3 t).view.junk (ix2 (bigRow ρ i) l) _ (covered _ _), View.writes_append]
  refine (dq_loop _ _ _ _ _ _ _ _ _ _ _ _ _ _ _ _ _ _ _ _ _ _ _ _ _ _ _ _ _ _ _ _ _ _ (bigRow ρ i) l).trans ?_
  rw [show at_ (ms0_3 t) _ (bigRow ρ i) l = 0 from zero_pieces _ _ _ _]
  refine (zero_add _).trans ?_
  exact dq_row (holds_ct H t) (stats_ok H t) (masks_ok m c t) (holds_0 H t) (holds_1 H t) (holds_2 H t) ρ i l

theorem out_dk : (outsAt0 m c t).2.1 (ix2 (bigRow ρ i) l) = (gk (part X0 t ρ (hd l)) (part X1 t ρ (hd l)) (part X2 t ρ (hd l)) (part X3 t ρ (hd l)) i (ln l) : EReal) := by
  unfold outsAt0 out0_A_4
  dsimp only
  unfold kernelRun0_A
  dsimp only
  rw [View.read_writes_apply_eq VO0_4 VO0_4.junk (ms0_4 t).view (ms0_4 t).view.junk (ix2 (bigRow ρ i) l) _ (covered _ _), View.writes_append]
  refine (dk_loop _ _ _ _ _ _ _ _ _ _ _ _ _ _ _ _ _ _ _ _ _ _ _ _ _ _ _ _ _ _ _ _ _ _ (bigRow ρ i) l).trans ?_
  rw [show at_ (ms0_4 t) _ (bigRow ρ i) l = 0 from zero_pieces _ _ _ _]
  exact dk_row (holds_ct H t) (stats_ok H t) (masks_ok m c t) (holds_0 H t) (holds_1 H t) (holds_2 H t) ρ i l

theorem out_dv : (outsAt0 m c t).2.2 (ix2 (bigRow ρ i) l) = (gv (part X0 t ρ (hd l)) (part X1 t ρ (hd l)) (part X3 t ρ (hd l)) i (ln l) : EReal) := by
  unfold outsAt0 out0_A_5
  dsimp only
  unfold kernelRun0_A
  dsimp only
  rw [View.read_writes_apply_eq VO0_5 VO0_5.junk (ms0_5 t).view (ms0_5 t).view.junk (ix2 (bigRow ρ i) l) _ (covered _ _), View.writes_append]
  refine (dv_loop _ _ _ _ _ _ _ _ _ _ _ _ _ _ _ _ _ _ _ _ _ _ _ _ _ _ _ _ _ _ _ _ _ _ (bigRow ρ i) l).trans ?_
  rw [show at_ (ms0_5 t) _ (bigRow ρ i) l = 0 from zero_pieces _ _ _ _]
  exact dv_row (holds_ct H t) (stats_ok H t) (masks_ok m c t) (holds_0 H t) (holds_1 H t) ρ i l

end Point

end Cert.Proof.Branch
-- ==== Proof.BranchClaim.lean ====
/- The backward pass of one branch of the attention: the kernel's three results are the gradients of the forward lines. -/
module

public import proofs.«01_k».proof.Defs
public import proofs.«01_k».proof.Proof.BranchOut
public import proofs.«01_k».proof.Proof.Gen.Kernel8Ideal.Value
public import proofs.«01_k».proof.Proof.Gen.Pre_pre8
public import proofs.«01_k».proof.Proof.Gen.Reference8Ideal.Run
public import Idealize.ShloMosaic.Lib.Quiescent

@[expose] public section

set_option maxRecDepth 16384

noncomputable section

namespace Cert.Branch

open Idealize.ShloMosaic Idealize.ShloMosaic.TcCoe Idealize.SL.Sem
open Cert.Kernel8Ideal Cert.Kernel8Ideal.Gen Cert.Reals Cert.Proof.Branch

variable {m : (ℓ : Loc nD τ sig) → Buf (Elt Ideal) ℓ} {c : Dev nD} {X0 X1 X2 X3 : S8192x512.Idx → ℝ}

theorem row_split (R : Fin 8192) : ∃ ρ i, R = bigRow ρ i :=
  ⟨⟨R.val / 512, by omega⟩, ⟨R.val % 512, by omega⟩, Fin.ext (show R.val = R.val / 512 * 512 + R.val % 512 by omega)⟩

theorem lane_at (t : Fin cfg0.N) (l : Fin 128) : (laneAt (hOf t (hd l)) (ln l)).val = t.val * 128 + l.val := by
  show (2 * t.val + l.val / 64) * 64 + l.val % 64 = _
  omega

section Final

variable (H : Args m c X0 X1 X2 X3)

include H

theorem final_dq : (dats m 0 c).arrAt 3 cfg0.N = Cert.Reference8Ideal.Read.val_main_v68 (F := Ideal) (up X0) (up X1) (up X2) (up X3) := by
  refine (dats m 0 c).arrAt_eq_of_covers 3 _ (by decide +kernel) fun t _ y => ?_
  blk_simp
  rw [after0_3]
  idx_vars y
  obtain ⟨ρ, i, rfl⟩ := row_split y0
  refine (out_dq H t ρ i y1).trans ((real_68 X0 X1 X2 X3 ρ (hOf t (hd y1)) i (ln y1)).symm.trans (congrArg _ ?_))
  blk_ext [idx t, lane_at]

theorem final_dk : (dats m 0 c).arrAt 4 cfg0.N = Cert.Reference8Ideal.Read.val_main_v67 (F := Ideal) (up X0) (up X1) (up X2) (up X3) := by
  refine (dats m 0 c).arrAt_eq_of_covers 4 _ (by decide +kernel) fun t _ y => ?_
  blk_simp
  rw [after0_4]
  idx_vars y
  obtain ⟨ρ, i, rfl⟩ := row_split y0
  refine (out_dk H t ρ i y1).trans ((real_67 X0 X1 X2 X3 ρ (hOf t (hd y1)) i (ln y1)).symm.trans (congrArg _ ?_))
  blk_ext [idx t, lane_at]

theorem final_dv : (dats m 0 c).arrAt 5 cfg0.N = Cert.Reference8Ideal.Read.val_main_v49 (F := Ideal) (up X0) (up X1) (up X3) := by
  refine (dats m 0 c).arrAt_eq_of_covers 5 _ (by decide +kernel) fun t _ y => ?_
  blk_simp
  rw [after0_5]
  idx_vars y
  obtain ⟨ρ, i, rfl⟩ := row_split y0
  refine (out_dv H t ρ i y1).trans ((real_49 X0 X1 X3 ρ (hOf t (hd y1)) i (ln y1)).symm.trans (congrArg _ ?_))
  blk_ext [idx t, lane_at]

end Final

/-- Under the precondition every argument is an array of real numbers. -/
theorem args_real {x0 x1 x2 x3 : FVec Ideal Cert.Pre_pre8.S8192x512 .f32} (h : Cert.Pre_pre8.fn (F := Ideal) x0 x1 x2 x3 = fun _ => 1#1) :
    (∃ X : S8192x512.Idx → ℝ, x0 = up X) ∧ (∃ X : S8192x512.Idx → ℝ, x1 = up X) ∧ (∃ X : S8192x512.Idx → ℝ, x2 = up X) ∧ ∃ X : S8192x512.Idx → ℝ, x3 = up X := by
  have i0 : Cert.Pre_pre8.S_.Idx := fun a => a.elim0
  have e := congrFun h i0
  unfold Cert.Pre_pre8.fn Cert.Pre_pre8.fn_part1 at e
  obtain ⟨e, e3⟩ := IntOp.andi_eq_one.mp e
  obtain ⟨e, e2⟩ := IntOp.andi_eq_one.mp e
  obtain ⟨e0, e1⟩ := IntOp.andi_eq_one.mp e
  exact ⟨finite_reals _ _ (fun _ => ofBits_inf) _ _ _ _ e0, finite_reals _ _ (fun _ => ofBits_inf) _ _ _ _ e1,
    finite_reals _ _ (fun _ => ofBits_inf) _ _ _ _ e2, finite_reals _ _ (fun _ => ofBits_inf) _ _ _ _ e3⟩

/-- The kernel's results are the reference's, from equal arguments that are all finite. -/
theorem algebraic : Cert.algebraic_Kernel8Ideal_Reference8Ideal_pre_pre8 := by
  intro m g m' g' hpre hagree
  refine ⟨_, _, _, Cert.Kernel8Ideal.Value.run_blocks m g, (θ_run _ _ _).mono ?_ (Cert.Reference8Ideal.Value.run m' g')⟩
  intro r h c
  obtain ⟨a0, a1, a2, a3⟩ := hagree c
  obtain ⟨⟨X0, h0⟩, ⟨X1, h1⟩, ⟨X2, h2⟩, ⟨X3, h3⟩⟩ := args_real (hpre c)
  have H : Args m c X0 X1 X2 X3 := ⟨h0, h1, h2, h3⟩
  obtain ⟨r0, r1, r2, k⟩ := h c
  refine ⟨r0.trans ?_, r1.trans ?_, r2.trans ?_, k⟩
  · rw [Cert.Reference8Ideal.Read.val_main_v68_eq m' c, a0, a1, a2, a3, h0, h1, h2, h3]
    exact (final_dq H).symm
  · rw [Cert.Reference8Ideal.Read.val_main_v67_eq m' c, a0, a1, a2, a3, h0, h1, h2, h3]
    exact (final_dk H).symm
  · rw [Cert.Reference8Ideal.Read.val_main_v49_eq m' c, a0, a1, a3, h0, h1, h3]
    exact (final_dv H).symm

/-- The reference runs and leaves its arguments as they were. -/
theorem frame_reference : Cert.quiescent_Reference8Ideal := by
  intro m g _
  exact (θ_run Cert.Reference8Ideal.defs _ _).mono (fun r h => ⟨fun c => (h c).2.2.2,
      Idealize.ShloMosaic.sem_eq_zero_of_no_sems (by decide) r.2⟩) (Cert.Reference8Ideal.Value.run (F := Ideal) m g)

end Cert.Branch
-- ==== Proof.LookTower.lean ====
/- What one trip of the forward branch's loop stores, said with few functions. The slots of a trip,
   their scores and the two heads one above the other are those of `BranchTower`. -/
module

public import proofs.«01_k».proof.Proof.BranchTower
public import proofs.«01_k».proof.Proof.Gen.Kernel9Ideal.Value

@[expose] public section

noncomputable section

namespace Cert.Proof.Look

open Idealize.ShloMosaic Idealize.ShloMosaic.TcCoe Cert.Kernel9Ideal Cert.Kernel9Ideal.Gen
open Cert.Proof.Branch (Tile Sq stack pair rowsBy score slot ciOf bOf)

/-- The scores of all eight slots, one slot below the other. -/
def scores (s : Fin 8 → Sq) : FVec Ideal S2048x256 .f32 :=
  concatenate S2048x256 0 [⟨S256x256, s 0⟩, ⟨S256x256, s 1⟩, ⟨S256x256, s 2⟩, ⟨S256x256, s 3⟩, ⟨S256x256, s 4⟩, ⟨S256x256, s 5⟩, ⟨S256x256, s 6⟩, ⟨S256x256, s 7⟩]
    concatenates_S256x256_S256x256_S256x256_S256x256_S256x256_S256x256_S256x256_S256x256_S2048x256_d0

/-- The greatest score of each row. -/
def peaks (s : Fin 8 → Sq) : FVec Ideal S2048x1 .f32 :=
  shapeCast S2048x1 (multiReduction .maximumf [1] S2048 (scores s) 0xFF800000#32 reduces_S2048x256_S2048 (.inl rfl) rfl) shapeCasts_S2048_S2048x1

/-- The exponentials. -/
def exps (s : Fin 8 → Sq) : FVec Ideal S2048x256 .bf16 :=
  exp (truncf .bf16 (subf (scores s) (broadcastTo S2048x256 (peaks s) broadcasts_S2048x1_S2048x256)) bitsLt_bf16_f32)

/-- A block of ones. -/
def ones : FVec Ideal S128x128 .bf16 := broadcast S128x128 (Scalar.ofBits (F := Ideal) .bf16 0x3F80#16)

/-- The values of two blocks, with ones beside them. -/
def beside (a b : Tile) : FVec Ideal S256x256 .bf16 :=
  concatenate S256x256 0
    [⟨S128x256, concatenate S128x256 1 [⟨S128x128, (truncf .bf16 a bitsLt_bf16_f32 : FVec Ideal S128x128 .bf16)⟩, ⟨S128x128, ones⟩] concatenates_S128x128_S128x128_S128x256_d1⟩,
     ⟨S128x256, concatenate S128x256 1 [⟨S128x128, (truncf .bf16 b bitsLt_bf16_f32 : FVec Ideal S128x128 .bf16)⟩, ⟨S128x128, ones⟩] concatenates_S128x128_S128x128_S128x256_d1⟩]
    concatenates_S128x256_S128x256_S256x256_d0

/-- The exponentials times the values, and their sums on the right. -/
def mixed (e : FVec Ideal S256x256 .bf16) (a b : Tile) : Sq :=
  matmul dot_S256x256_S256x256_S256x256_1_0_0_1_n_n none e (beside a b) (constant S256x256 .f32 0x00000000#32)

/-- The sums. -/
def sums (x : Sq) : FVec Ideal S256x128 .f32 := extractStridedSlice S256x128 ![0, 128] x slices_S256x256_o0_128_S256x128

/-- The first head's 64 lanes of the upper 128 rows, the second's of the lower. -/
def unstack (x : FVec Ideal S256x128 .f32) : Tile :=
  select k0_pay1 (extractStridedSlice S128x128 ![0, 0] x slices_S256x128_o0_0_S128x128)
    (extractStridedSlice S128x128 ![128, 0] x slices_S256x128_o128_0_S128x128)

/-- The attention of a slot, -/
def attTile (x : Sq) : Tile :=
  unstack (mulf (extractStridedSlice S256x128 ![0, 0] x slices_S256x256_o0_0_S256x128)
    (divf (broadcast S256x128 (Scalar.ofBits (F := Ideal) .f32 0x3F800000#32)) (sums x)))

/-- … and the logarithms of its sums. -/
def lseTile (p : FVec Ideal S256x1 .f32) (x : Sq) : Tile :=
  unstack (addf (broadcastTo S256x128 p broadcasts_S256x1_S256x128) (log (sums x)))

theorem slices_col (n : Fin 8) : S2048x1.Slices ![256 * n.val, 0] S256x1 := by
  revert n; decide +kernel

/-- Slot `n`'s greatest scores. -/
def slotCol (n : Fin 8) (x : FVec Ideal S2048x1 .f32) : FVec Ideal S256x1 .f32 := extractStridedSlice S256x1 ![256 * n.val, 0] x (slices_col n)

/-- The 128 rows of block `b` of residue class `ci` of trip `k`. -/
abbrev blockAt (k : Fin k0_t1_loop.trips) (ci : Fin 2) (b : Fin 4) : Rect S8192x128 :=
  Rect.unit (s := S8192x128) (k0_off3 k (BitVec.ofNat 32 ci.val) (BitVec.ofNat 32 (128 * b.val))) S128x128.size (k0_off3_inb k ci b)
/-- The 128 rows before the class's first block. -/
abbrev aboveAt (k : Fin k0_t1_loop.trips) (ci : Fin 2) : Rect S8192x128 :=
  Rect.unit (s := S8192x128) (k0_off2 k (BitVec.ofNat 32 ci.val)) S128x128.size (k0_off2_inb k ci)

/-- A buffer's rows there. -/
def rows (arg : Memref sig .tc .vmem S8192x128 .f32) (X : BufTy.Contents (Elt Ideal) arg.view.ty) (k : Fin k0_t1_loop.trips) (ci : Fin 2) (b : Fin 4) : Tile :=
  View.readAt (Elt Ideal) arg.view (blockAt k ci b).toLoadRect X

/-- The block of rows before. -/
def prevRows (arg : Memref sig .tc .vmem S8192x128 .f32) (X : BufTy.Contents (Elt Ideal) arg.view.ty) (k : Fin k0_t1_loop.trips) (ci : Fin 2) (b : Fin 4) : Tile :=
  match b with
  | 0 => View.readAt (Elt Ideal) arg.view (aboveAt k ci).toLoadRect X
  | 1 => rows arg X k ci 0
  | 2 => rows arg X k ci 1
  | 3 => rows arg X k ci 2

/-- The mask of a slot: a residue's first block sees no block before it. -/
def maskOf (arg : Memref sig .tc .vmem S2x256x256 .f32) (X : BufTy.Contents (Elt Ideal) arg.view.ty) (b : Fin 4) : Vec Ideal S1x256x256 .f32 :=
  match b with
  | 0 => View.readAt (Elt Ideal) arg.view (Rect.unit (s := S2x256x256) ![1, 0, 0] S1x256x256.size inb_S2x256x256_S1x256x256_1_0_0).toLoadRect X
  | _ => View.readAt (Elt Ideal) arg.view (Rect.unit (s := S2x256x256) ![0, 0, 0] S1x256x256.size inb_S2x256x256_S1x256x256_0_0_0).toLoadRect X

variable (arg4 : Memref sig .tc .vmem S2x256x256 .f32) (arg10 arg11 arg12 : Memref sig .tc .vmem S8192x128 .f32)
  (x4 : BufTy.Contents (Elt Ideal) arg4.view.ty) (x10 : BufTy.Contents (Elt Ideal) arg10.view.ty)
  (x11 : BufTy.Contents (Elt Ideal) arg11.view.ty) (x12 : BufTy.Contents (Elt Ideal) arg12.view.ty)
  (k : Fin k0_t1_loop.trips)

/-- The scores of slot `n` of trip `k`. -/
def scoreAt (n : Fin 8) : Sq :=
  score (rows arg10 x10 k (ciOf n) (bOf n)) (prevRows arg11 x11 k (ciOf n) (bOf n)) (rows arg11 x11 k (ciOf n) (bOf n)) (maskOf arg4 x4 (bOf n))

/-- The slot's exponentials times its values. -/
def mixAt (n : Fin 8) : Sq :=
  mixed (slot n (exps (scoreAt arg4 arg10 arg11 x4 x10 x11 k))) (prevRows arg12 x12 k (ciOf n) (bOf n)) (rows arg12 x12 k (ciOf n) (bOf n))

/-- The slot's attention, and its logarithms. -/
def attAt (n : Fin 8) : Tile := attTile (mixAt arg4 arg10 arg11 arg12 x4 x10 x11 x12 k n)
def lseAt (n : Fin 8) : Tile := lseTile (slotCol n (peaks (scoreAt arg4 arg10 arg11 x4 x10 x11 k))) (mixAt arg4 arg10 arg11 arg12 x4 x10 x11 x12 k n)

/-- A trip's pieces, newest first: one block for each slot. -/
def piece (g : Fin 8 → Tile) (n : Fin 8) : View.Piece (Elt Ideal) S8192x128 .f32 := ⟨blockAt k (ciOf n) (bOf n), g n⟩
def pieces (g : Fin 8 → Tile) : List (View.Piece (Elt Ideal) S8192x128 .f32) :=
  [piece k g 7, piece k g 6, piece k g 5, piece k g 4, piece k g 3, piece k g 2, piece k g 1, piece k g 0]

variable (𝒱 : Variants) (c : Dev nD) (bd : Option 𝒱.V) (i : grid0.Coords) (arg1 : Memref sig .tc .vmem S8192x128 .f32) (harg1 : arg1.IsWhole)
  (arg2 : Memref sig .tc .vmem S8192x128 .f32) (harg2 : arg2.IsWhole) (arg3 : Memref sig .tc .vmem S8192x128 .f32) (harg3 : arg3.IsWhole)
  (harg4 : arg4.IsWhole) (arg5 : Memref sig .tc .vmem S8192x128 .f32) (harg5 : arg5.IsWhole) (arg6 : Memref sig .tc .vmem S8192x128 .f32) (harg6 : arg6.IsWhole)
  (arg7 : Memref sig .tc .hbm S4x8192x128 .f32) (harg7 : arg7.IsWhole) (arg8 : Memref sig .tc .hbm S4x8192x128 .f32) (harg8 : arg8.IsWhole)
  (arg9 : Memref sig .tc .hbm S4x8192x128 .f32) (harg9 : arg9.IsWhole) (harg10 : arg10.IsWhole) (harg11 : arg11.IsWhole) (harg12 : arg12.IsWhole)
  (arg13 : DmaSems sig S3)

theorem trip_att : (trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 x4 x10 x11 x12 k).1 = pieces k (attAt arg4 arg10 arg11 arg12 x4 x10 x11 x12 k) := by
  unfold trip_k0_t1
  rfl

theorem trip_lse : (trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 x4 x10 x11 x12 k).2.1 = pieces k (lseAt arg4 arg10 arg11 arg12 x4 x10 x11 x12 k) := by
  unfold trip_k0_t1
  rfl

end Cert.Proof.Look
-- ==== Proof.LookTrip.lean ====
/- Where a trip of the loop writes, and what the loop leaves in the two result blocks: every row is written once. -/
module

public import proofs.«01_k».proof.Proof.LookTower
public import proofs.«01_k».proof.Proof.BranchTrip
public import Idealize.ShloMosaic.Lib.WritesUnit

@[expose] public section

set_option maxRecDepth 16384

noncomputable section

namespace Cert.Proof.Look

open Idealize.ShloMosaic Idealize.ShloMosaic.TcCoe Cert.Kernel9Ideal Cert.Kernel9Ideal.Gen
open Cert.Proof.Branch (Tile Sq stack pair rowsBy score slot ciOf bOf nOf aOf)

theorem trips_eq : k0_t1_loop.trips = 8 := by decide +kernel

/-- Where a block begins. -/
theorem block_off : ∀ (k : Fin k0_t1_loop.trips) (ci : Fin 2) (b : Fin 4),
    k0_off3 k (BitVec.ofNat 32 ci.val) (BitVec.ofNat 32 (128 * b.val)) = ![1024 * k.val + 512 * ci.val + 128 * b.val, 0] := by
  decide +kernel

/-- Where the block before a class begins. -/
theorem above_off : ∀ (k : Fin k0_t1_loop.trips) (ci : Fin 2),
    k0_off2 k (BitVec.ofNat 32 ci.val) = ![1024 * k.val + 512 * ci.val - 128, 0] := by
  decide +kernel

/-- A row's trip. -/
def kOf (R : Fin 8192) : Fin k0_t1_loop.trips := ⟨R.val / 1024, by rw [trips_eq]; omega⟩

section Pieces

variable (arg : Memref sig .tc .vmem S8192x128 .f32) (f : BufTy.Contents (Elt Ideal) arg.view.ty) (k : Fin k0_t1_loop.trips)

/-- A buffer's contents at a row and a lane. -/
def at_ (R : Fin 8192) (l : Fin 128) : EReal := arg.view.read (Elt Ideal) f (ix2 R l)

theorem block_in (ci : Fin 2) (b : Fin 4) (w : Tile) (L : List (View.Piece (Elt Ideal) S8192x128 .f32)) (R : Fin 8192) (l a : Fin 128)
    (h : R.val = 1024 * k.val + 512 * ci.val + 128 * b.val + a.val) :
    at_ arg (arg.view.writes (Elt Ideal) f (⟨blockAt k ci b, w⟩ :: L)) R l = w (ix2 a l) :=
  View.read_writes_cons_rows_of_mem arg.view f _ w L _ (ix2 a l) (block_off k ci b) h rfl

theorem block_out (ci : Fin 2) (b : Fin 4) (w : Tile) (L : List (View.Piece (Elt Ideal) S8192x128 .f32)) (R : Fin 8192) (l : Fin 128)
    (h : R.val < 1024 * k.val + 512 * ci.val + 128 * b.val ∨ 1024 * k.val + 512 * ci.val + 128 * b.val + 128 ≤ R.val) :
    at_ arg (arg.view.writes (Elt Ideal) f (⟨blockAt k ci b, w⟩ :: L)) R l = at_ arg (arg.view.writes (Elt Ideal) f L) R l :=
  View.read_writes_cons_rows_of_not_mem arg.view f _ w L _ (block_off k ci b) rfl h

theorem block_read (ci : Fin 2) (b : Fin 4) (R : Fin 8192) (l a : Fin 128) (h : R.val = 1024 * k.val + 512 * ci.val + 128 * b.val + a.val) :
    View.readAt (Elt Ideal) arg.view (blockAt k ci b).toLoadRect f (ix2 a l) = at_ arg f R l := by
  refine congrArg (arg.view.read (Elt Ideal) f) (funext fun x => Fin.ext ?_)
  have h0 := congrFun (block_off k ci b) x
  refine (Rect.idx_unit_val _ _ _ _ _).trans ?_
  rw [h0]
  fin_cases x
  · exact h.symm
  · exact Nat.zero_add _

theorem above_read (ci : Fin 2) (R : Fin 8192) (l a : Fin 128) (h : R.val = 1024 * k.val + 512 * ci.val - 128 + a.val) :
    View.readAt (Elt Ideal) arg.view (aboveAt k ci).toLoadRect f (ix2 a l) = at_ arg f R l := by
  refine congrArg (arg.view.read (Elt Ideal) f) (funext fun x => Fin.ext ?_)
  have h0 := congrFun (above_off k ci) x
  refine (Rect.idx_unit_val _ _ _ _ _).trans ?_
  rw [h0]
  fin_cases x
  · exact h.symm
  · exact Nat.zero_add _

/-- A trip's pieces, row by row. -/
theorem rows_trip (g : Fin 8 → Tile) (R : Fin 8192) (l : Fin 128) :
    at_ arg (arg.view.writes (Elt Ideal) f (pieces k g)) R l = if R.val / 1024 = k.val then g (nOf R) (ix2 (aOf R) l) else at_ arg f R l := by
  have ha : (aOf R).val = R.val % 128 := rfl
  have miss : ∀ (m : Fin 8) (L : List (View.Piece (Elt Ideal) S8192x128 .f32)), R.val / 128 ≠ 8 * k.val + m.val →
      at_ arg (arg.view.writes (Elt Ideal) f (piece k g m :: L)) R l = at_ arg (arg.view.writes (Elt Ideal) f L) R l := by
    intro m L h
    refine block_out arg f k (ciOf m) (bOf m) _ L R l ?_
    simp only [ciOf, bOf]
    omega
  have hit : ∀ L : List (View.Piece (Elt Ideal) S8192x128 .f32), R.val / 1024 = k.val →
      at_ arg (arg.view.writes (Elt Ideal) f (piece k g (nOf R) :: L)) R l = g (nOf R) (ix2 (aOf R) l) := by
    intro L h
    exact block_in arg f k (ciOf (nOf R)) (bOf (nOf R)) _ L R l (aOf R) (by simp only [ciOf, bOf, nOf, aOf]; omega)
  unfold pieces
  split
  case isFalse h =>
    rw [miss 7 _ (by simp; omega), miss 6 _ (by simp; omega), miss 5 _ (by simp; omega), miss 4 _ (by simp; omega), miss 3 _ (by simp; omega),
      miss 2 _ (by simp; omega), miss 1 _ (by simp; omega), miss 0 _ (by simp; omega)]
    rfl
  case isTrue h =>
    have hh := fun L => hit L h
    have hm : ∀ m : Fin 8, nOf R ≠ m → R.val / 128 ≠ 8 * k.val + m.val := by
      intro m hne he
      exact hne (Fin.ext (by simp only [nOf]; omega))
    obtain ⟨n, hn⟩ : ∃ n, nOf R = n := ⟨_, rfl⟩
    rw [hn] at hh hm ⊢
    fin_cases n
    · rw [miss 7 _ (hm _ (by decide)), miss 6 _ (hm _ (by decide)), miss 5 _ (hm _ (by decide)), miss 4 _ (hm _ (by decide)), miss 3 _ (hm _ (by decide)), miss 2 _ (hm _ (by decide)), miss 1 _ (hm _ (by decide))]
      exact hh _
    · rw [miss 7 _ (hm _ (by decide)), miss 6 _ (hm _ (by decide)), miss 5 _ (hm _ (by decide)), miss 4 _ (hm _ (by decide)), miss 3 _ (hm _ (by decide)), miss 2 _ (hm _ (by decide))]
      exact hh _
    · rw [miss 7 _ (hm _ (by decide)), miss 6 _ (hm _ (by decide)), miss 5 _ (hm _ (by decide)), miss 4 _ (hm _ (by decide)), miss 3 _ (hm _ (by decide))]
      exact hh _
    · rw [miss 7 _ (hm _ (by decide)), miss 6 _ (hm _ (by decide)), miss 5 _ (hm _ (by decide)), miss 4 _ (hm _ (by decide))]
      exact hh _
    · rw [miss 7 _ (hm _ (by decide)), miss 6 _ (hm _ (by decide)), miss 5 _ (hm _ (by decide))]
      exact hh _
    · rw [miss 7 _ (hm _ (by decide)), miss 6 _ (hm _ (by decide))]
      exact hh _
    · rw [miss 7 _ (hm _ (by decide))]
      exact hh _
    · exact hh _

/-- What the trips before `j` leave. -/
theorem loop_rows (S : ℕ → List (View.Piece (Elt Ideal) S8192x128 .f32)) (g : Fin k0_t1_loop.trips → Fin 8 → Tile) (h0 : S 0 = [])
    (hs : ∀ k : Fin k0_t1_loop.trips, S (k.val + 1) = pieces k (g k) ++ S k.val) :
    ∀ j : ℕ, j ≤ 8 → ∀ (R : Fin 8192) (l : Fin 128), at_ arg (arg.view.writes (Elt Ideal) f (S j)) R l
      = if R.val / 1024 < j then g (kOf R) (nOf R) (ix2 (aOf R) l) else at_ arg f R l := by
  intro j
  induction j with
  | zero => intro _ R l; rw [h0, if_neg (by omega)]; rfl
  | succ j ih =>
    intro hj R l
    rw [hs ⟨j, by rw [trips_eq]; omega⟩, View.writes_append, rows_trip]
    dsimp only
    rw [ih (by omega) R l]
    by_cases h : R.val / 1024 = j
    · rw [if_pos h, if_pos (by omega), show kOf R = ⟨j, by rw [trips_eq]; omega⟩ from Fin.ext h]
    · rw [if_neg h]
      by_cases h' : R.val / 1024 < j
      · rw [if_pos h', if_pos (by omega)]
      · rw [if_neg h', if_neg (by omega)]

end Pieces

section Trips

variable (arg4 : Memref sig .tc .vmem S2x256x256 .f32) (arg10 arg11 arg12 : Memref sig .tc .vmem S8192x128 .f32)
  (x4 : BufTy.Contents (Elt Ideal) arg4.view.ty) (x10 : BufTy.Contents (Elt Ideal) arg10.view.ty)
  (x11 : BufTy.Contents (Elt Ideal) arg11.view.ty) (x12 : BufTy.Contents (Elt Ideal) arg12.view.ty)
  (𝒱 : Variants) (c : Dev nD) (bd : Option 𝒱.V) (i : grid0.Coords) (arg1 : Memref sig .tc .vmem S8192x128 .f32) (harg1 : arg1.IsWhole)
  (arg2 : Memref sig .tc .vmem S8192x128 .f32) (harg2 : arg2.IsWhole) (arg3 : Memref sig .tc .vmem S8192x128 .f32) (harg3 : arg3.IsWhole)
  (harg4 : arg4.IsWhole) (arg5 : Memref sig .tc .vmem S8192x128 .f32) (harg5 : arg5.IsWhole) (arg6 : Memref sig .tc .vmem S8192x128 .f32) (harg6 : arg6.IsWhole)
  (arg7 : Memref sig .tc .hbm S4x8192x128 .f32) (harg7 : arg7.IsWhole) (arg8 : Memref sig .tc .hbm S4x8192x128 .f32) (harg8 : arg8.IsWhole)
  (arg9 : Memref sig .tc .hbm S4x8192x128 .f32) (harg9 : arg9.IsWhole) (harg10 : arg10.IsWhole) (harg11 : arg11.IsWhole) (harg12 : arg12.IsWhole)
  (arg13 : DmaSems sig S3) (f5 : BufTy.Contents (Elt Ideal) arg5.view.ty) (f6 : BufTy.Contents (Elt Ideal) arg6.view.ty)

/-- The attention after the loop. -/
theorem att_loop (R : Fin 8192) (l : Fin 128) :
    at_ arg5 (arg5.view.writes (Elt Ideal) f5 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 x4 x10 x11 x12 8).1) R l
      = attAt arg4 arg10 arg11 arg12 x4 x10 x11 x12 (kOf R) (nOf R) (ix2 (aOf R) l) := by
  have hl := loop_rows arg5 f5 (fun j => (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 x4 x10 x11 x12 j).1)
    (attAt arg4 arg10 arg11 arg12 x4 x10 x11 x12) rfl (fun k => by
      rw [pb_k0_t1_succ]
      dsimp only [tripL_k0_t1]
      rw [trip_att]) 8 le_rfl R l
  rw [if_pos (by omega)] at hl
  exact hl

/-- The logarithms after the loop. -/
theorem lse_loop (R : Fin 8192) (l : Fin 128) :
    at_ arg6 (arg6.view.writes (Elt Ideal) f6 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 x4 x10 x11 x12 8).2) R l
      = lseAt arg4 arg10 arg11 arg12 x4 x10 x11 x12 (kOf R) (nOf R) (ix2 (aOf R) l) := by
  have hl := loop_rows arg6 f6 (fun j => (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 x4 x10 x11 x12 j).2)
    (lseAt arg4 arg10 arg11 arg12 x4 x10 x11 x12) rfl (fun k => by
      rw [pb_k0_t1_succ]
      dsimp only [tripL_k0_t1]
      rw [trip_lse]) 8 le_rfl R l
  rw [if_pos (by omega)] at hl
  exact hl

end Trips

end Cert.Proof.Look
-- ==== Proof.LookPoint.lean ====
/- The operations of one slot of the forward branch, read at a row and a column. -/
module

public import proofs.«01_k».proof.Proof.LookTower
public import proofs.«01_k».proof.Proof.BranchPoint

@[expose] public section

noncomputable section

namespace Cert.Proof.Look

open Idealize.ShloMosaic Idealize.ShloMosaic.TcCoe Cert.Kernel9Ideal Cert.Kernel9Ideal.Gen
open Cert.Proof.Branch (Tile Sq stack pair rowsBy score slot ciOf bOf rowIn pair_apply slots_apply select_lane)

/-- A row of the upper or the lower half, by the head of the lane. -/
abbrev headRow (a l : Fin 128) : Fin 256 := ⟨128 * (l.val / 64) + a.val, by omega⟩

theorem pay_lane {α : Type} (a l : Fin 128) (x y : α) : Scalar.select (k0_pay1 (ix2 a l)) x y = if l.val < 64 then x else y :=
  select_lane a l x y

theorem unstack_apply (x : FVec Ideal S256x128 .f32) (a l : Fin 128) : unstack x (ix2 a l) = x (ix2 (headRow a l) l) := by
  pointwise [unstack]
  rw [pay_lane]
  split
  case isTrue h => exact congrArg x (congrArg (fun a => ix2 a l) (Fin.ext (show a.val = 128 * (l.val / 64) + a.val by omega)))
  case isFalse h => exact congrArg x (congrArg (fun a => ix2 a l) (Fin.ext (show 128 + a.val = 128 * (l.val / 64) + a.val by omega)))

theorem sums_apply (x : Sq) (r : Fin 256) (l : Fin 128) : sums x (ix2 r l) = x (ix2 r ⟨128 + l.val, by omega⟩) := by
  pointwise [sums]

theorem attTile_apply (x : Sq) (a l : Fin 128) :
    attTile x (ix2 a l) = x (ix2 (headRow a l) ⟨l.val, by omega⟩) * Ideal.div 1 (x (ix2 (headRow a l) ⟨128 + l.val, by omega⟩)) := by
  unfold attTile
  rw [unstack_apply]
  refine congrArg₂ (fun x y : EReal => x * y) ?_ (congrArg₂ Ideal.div ?_ (sums_apply x _ l))
  · pointwise []
  · pointwise []

theorem lseTile_apply (p : FVec Ideal S256x1 .f32) (x : Sq) (a l : Fin 128) :
    lseTile p x (ix2 a l) = p (ix2 (headRow a l) 0) + Ideal.log (x (ix2 (headRow a l) ⟨128 + l.val, by omega⟩)) := by
  unfold lseTile
  rw [unstack_apply]
  refine congrArg₂ (fun x y : EReal => x + y) ?_ (congrArg Ideal.log (sums_apply x _ l))
  pointwise []

theorem slotCol_apply (n : Fin 8) (x : FVec Ideal S2048x1 .f32) (r : Fin 256) : slotCol n x (ix2 r 0) = x (ix2 ⟨256 * n.val + r.val, by omega⟩ 0) := by
  pointwise [slotCol]

theorem ofBits_neg_inf : Ideal.ofBits .f32 4286578688#32 = (⊥ : EReal) := by
  simp [Ideal.ofBits, Ideal.ieee]

theorem scores_apply (s : Fin 8 → Sq) (n : Fin 8) (r j : Fin 256) : scores s (ix2 ⟨256 * n.val + r.val, by omega⟩ j) = s n (ix2 r j) :=
  slots_apply s _ n r j

theorem maxima_apply (x : FVec Ideal S2048x256 .f32) (R : Fin 2048) :
    shapeCast S2048x1 (multiReduction .maximumf [1] S2048 x 0xFF800000#32 reduces_S2048x256_S2048 (.inl rfl) rfl) shapeCasts_S2048_S2048x1 (ix2 R 0)
      = Finset.fold max ⊥ (fun j : Fin 256 => x (ix2 R j)) Finset.univ := by
  pointwise []
  rw [ofBits_neg_inf]

theorem peaks_apply (s : Fin 8 → Sq) (n : Fin 8) (r : Fin 256) :
    peaks s (ix2 ⟨256 * n.val + r.val, by omega⟩ 0) = Finset.fold max ⊥ (fun j : Fin 256 => s n (ix2 r j)) Finset.univ := by
  unfold peaks
  rw [maxima_apply]
  exact congrArg (fun f => Finset.fold max ⊥ f Finset.univ) (funext fun j => scores_apply s n r j)

theorem exps_apply (s : Fin 8 → Sq) (n : Fin 8) (r j : Fin 256) :
    exps s (ix2 ⟨256 * n.val + r.val, by omega⟩ j) = Ideal.exp (s n (ix2 r j) - peaks s (ix2 ⟨256 * n.val + r.val, by omega⟩ 0)) := by
  unfold exps
  refine congrArg Ideal.exp ?_
  refine congrArg₂ (fun x y : EReal => x - y) (scores_apply s n r j) ?_
  generalize peaks s = z
  pointwise []

theorem ones_at (x : Fin 128) (l : Fin 128) : ones (ix2 x l) = (1 : EReal) := by
  pointwise [ones]

theorem values_at (a b : Tile) (j : Fin 256) (l : Fin 128) : beside a b (ix2 j ⟨l.val, by omega⟩) = pair a b (ix2 j l) := by
  rw [pair_apply]
  pointwise [beside]
  split
  case isTrue h => exact congrArg a (congrArg (fun a => ix2 a l) (Fin.ext (show j.val = j.val % 128 by omega)))
  case isFalse h => exact congrArg b (congrArg (fun a => ix2 a l) (Fin.ext (show j.val - 128 = j.val % 128 by omega)))

theorem ones_beside (a b : Tile) (j : Fin 256) (l : Fin 128) : beside a b (ix2 j ⟨128 + l.val, by omega⟩) = (1 : EReal) := by
  pointwise [beside]
  split <;> exact ones_at _ l

theorem mixed_apply (e : FVec Ideal S256x256 .bf16) (a b : Tile) (r c : Fin 256) : mixed e a b (ix2 r c) = ∑ j, e (ix2 r j) * beside a b (ix2 j c) := by
  unfold mixed
  generalize beside a b = z
  pointwise []

end Cert.Proof.Look
-- ==== Proof.LookSlot.lean ====
/- One slot of a trip of the forward branch over the reals, and what its rows of the two results are. -/
module

public import proofs.«01_k».proof.Proof.LookTrip
public import proofs.«01_k».proof.Proof.LookPoint
public import proofs.«01_k».proof.Proof.BranchSlot
public import proofs.«01_k».proof.Proof.BranchStats

@[expose] public section

noncomputable section

namespace Cert.Proof.Look

open Idealize.ShloMosaic Idealize.ShloMosaic.TcCoe Cert.Kernel9Ideal Cert.Kernel9Ideal.Gen Cert.Reals
open Cert.Proof.Branch (Tile Sq stack pair rowsBy score slot ciOf bOf nOf aOf rowIn Mat sc ok ex tot att hd ln rowHead bigRow qi kj kj_val seen seen_ok)

/-- The residue class of a slot. -/
def resOf (k : Fin k0_t1_loop.trips) (n : Fin 8) : Fin 16 := ⟨2 * k.val + n.val / 4, by have := k.isLt; have := trips_eq; omega⟩

/-! ### What a slot reads -/

section Reads

variable (arg : Memref sig .tc .vmem S8192x128 .f32) (X : BufTy.Contents (Elt Ideal) arg.view.ty) (k : Fin k0_t1_loop.trips)

theorem prev_read (ci : Fin 2) (b : Fin 4) (a l : Fin 128) (R : Fin 8192) (h0 : b.val = 0 → R.val = 1024 * k.val + 512 * ci.val - 128 + a.val)
    (h1 : b.val ≠ 0 → R.val = 1024 * k.val + 512 * ci.val + (128 * b.val - 128 + a.val)) :
    prevRows arg X k ci b (ix2 a l) = at_ arg X R l := by
  fin_cases b
  · exact above_read arg X k ci R l a (h0 rfl)
  · exact block_read arg X k ci 0 R l a (by have := h1 (by decide); simp at *; omega)
  · exact block_read arg X k ci 1 R l a (by have := h1 (by decide); simp at *; omega)
  · exact block_read arg X k ci 2 R l a (by have := h1 (by decide); simp at *; omega)

theorem rows_read (n : Fin 8) (r : Fin 256) (l : Fin 128) : rows arg X k (ciOf n) (bOf n) (ix2 (rowIn r) l) = at_ arg X (bigRow (resOf k n) (qi n r)) l :=
  block_read arg X k _ _ _ l _ (by simp only [ciOf, bOf, rowIn, resOf, qi]; omega)

theorem pair_read (n : Fin 8) (j : Fin 256) (hj : n.val % 4 ≠ 0 ∨ 128 ≤ j.val) (l : Fin 128) :
    pair (prevRows arg X k (ciOf n) (bOf n)) (rows arg X k (ciOf n) (bOf n)) (ix2 j l) = at_ arg X (bigRow (resOf k n) (kj n j)) l := by
  rw [Cert.Proof.Branch.pair_apply]
  have hk := kj_val n j hj
  split
  case isTrue h =>
    refine prev_read arg X k _ _ _ l _ (fun h0 => ?_) fun h0 => ?_
    · simp only [bOf] at h0
      omega
    · simp only [ciOf, bOf, rowIn, resOf] at *
      omega
  case isFalse h =>
    refine block_read arg X k _ _ _ l _ ?_
    simp only [ciOf, bOf, rowIn, resOf] at *
    omega

theorem stack_read (n : Fin 8) (r : Fin 256) (l : Fin 128) :
    stack (rows arg X k (ciOf n) (bOf n)) (ix2 r l) = if rowHead r = hd l then at_ arg X (bigRow (resOf k n) (qi n r)) l else 0 := by
  rw [Cert.Proof.Branch.stack_apply, rows_read]
  exact if_congr (by simp only [rowHead, hd, Fin.ext_iff]) rfl rfl

/-- A buffer that holds these heads. -/
def Holds (A : Fin 16 → Fin 2 → Mat) : Prop := ∀ (ρ : Fin 16) (i : Fin 512) (l : Fin 128), at_ arg X (bigRow ρ i) l = (A ρ (hd l) i (ln l) : EReal)

end Reads

section Slots

variable {arg4 : Memref sig .tc .vmem S2x256x256 .f32} {arg10 arg11 arg12 : Memref sig .tc .vmem S8192x128 .f32}
  {x4 : BufTy.Contents (Elt Ideal) arg4.view.ty} {x10 : BufTy.Contents (Elt Ideal) arg10.view.ty}
  {x11 : BufTy.Contents (Elt Ideal) arg11.view.ty} {x12 : BufTy.Contents (Elt Ideal) arg12.view.ty}
  {Q K V : Fin 16 → Fin 2 → Mat}

theorem rowsBy_real {arg arg' : Memref sig .tc .vmem S8192x128 .f32} {X : BufTy.Contents (Elt Ideal) arg.view.ty} {X' : BufTy.Contents (Elt Ideal) arg'.view.ty}
    {A B : Fin 16 → Fin 2 → Mat} (hA : Holds arg X A) (hB : Holds arg' X' B) (k : Fin k0_t1_loop.trips) (n : Fin 8) (r j : Fin 256)
    (hj : n.val % 4 ≠ 0 ∨ 128 ≤ j.val) :
    rowsBy (rows arg X k (ciOf n) (bOf n)) (prevRows arg' X' k (ciOf n) (bOf n)) (rows arg' X' k (ciOf n) (bOf n)) (ix2 r j)
      = ((∑ d, A (resOf k n) (rowHead r) (qi n r) d * B (resOf k n) (rowHead r) (kj n j) d : ℝ) : EReal) := by
  rw [Cert.Proof.Branch.rowsBy_apply, ← Cert.Proof.Branch.lane_sum (rowHead r) (fun h d => A (resOf k n) h (qi n r) d * B (resOf k n) h (kj n j) d), ← coe_sum]
  refine Finset.sum_congr rfl fun x _ => ?_
  rw [stack_read, pair_read _ _ _ _ _ hj, hA, hB]
  split
  · exact (EReal.coe_mul _ _).symm
  · exact zero_mul _

/-- What the buffer of the masks holds. -/
def Masked (arg4 : Memref sig .tc .vmem S2x256x256 .f32) (x4 : BufTy.Contents (Elt Ideal) arg4.view.ty) : Prop :=
  ∀ (e : Fin 2) (r j : Fin 256), arg4.view.read (Elt Ideal) x4 (ix3 e r j)
    = if (j.val ≤ 128 + r.val % 128 ∧ r.val % 128 ≤ j.val) ∧ (e.val = 0 ∨ 128 ≤ j.val) then (0 : EReal) else ⊥

theorem mask_read (h4 : Masked arg4 x4) (n : Fin 8) (r j : Fin 256) : maskOf arg4 x4 (bOf n) (ix3 0 r j) = if seen n r j then (0 : EReal) else ⊥ := by
  have read : ∀ (e : Fin 2) (o : Fin 3 → ℕ) (ho : o = ![e.val, 0, 0]) (hi : ∀ a : Fin 3, o a + S1x256x256.size a ≤ S2x256x256.size a),
      View.readAt (Elt Ideal) arg4.view (Rect.unit (s := S2x256x256) o S1x256x256.size hi).toLoadRect x4 (ix3 0 r j) = arg4.view.read (Elt Ideal) x4 (ix3 e r j) := by
    intro e o ho hi
    subst ho
    refine congrArg (arg4.view.read (Elt Ideal) x4) (funext fun x => Fin.ext ?_)
    fin_cases x
    · show e.val + _ = e.val
      simp
    · show 0 + _ = r.val
      simp
    · show 0 + _ = j.val
      simp
  obtain ⟨b, hb⟩ : ∃ b, bOf n = b := ⟨_, rfl⟩
  have hb' : n.val % 4 = b.val := congrArg Fin.val hb
  rw [hb]
  fin_cases b
  · refine (read 1 _ rfl _).trans ((h4 1 r j).trans (if_congr ?_ rfl rfl))
    simp only [seen, hb']
    simp
  · refine (read 0 _ rfl _).trans ((h4 0 r j).trans (if_congr ?_ rfl rfl))
    simp only [seen, hb']
    simp
  · refine (read 0 _ rfl _).trans ((h4 0 r j).trans (if_congr ?_ rfl rfl))
    simp only [seen, hb']
    simp
  · refine (read 0 _ rfl _).trans ((h4 0 r j).trans (if_congr ?_ rfl rfl))
    simp only [seen, hb']
    simp

variable (k : Fin k0_t1_loop.trips) (n : Fin 8) (r j : Fin 256)

theorem score_real (h4 : Masked arg4 x4) (h10 : Holds arg10 x10 Q) (h11 : Holds arg11 x11 K) :
    scoreAt arg4 arg10 arg11 x4 x10 x11 k n (ix2 r j) = if seen n r j then (sc (Q (resOf k n) (rowHead r)) (K (resOf k n) (rowHead r)) (qi n r) (kj n j) : EReal) else ⊥ := by
  unfold scoreAt
  rw [Cert.Proof.Branch.score_apply, mask_read h4]
  split
  case isTrue h => rw [rowsBy_real h10 h11 k n r j h.2]; exact add_zero _
  case isFalse h => exact EReal.add_bot _

/-- A row's greatest score is a real number: the row sees itself. -/
theorem peak_real (h4 : Masked arg4 x4) (h10 : Holds arg10 x10 Q) (h11 : Holds arg11 x11 K) :
    ∃ p : ℝ, peaks (scoreAt arg4 arg10 arg11 x4 x10 x11 k) (ix2 ⟨256 * n.val + r.val, by omega⟩ 0) = (p : EReal) := by
  rw [peaks_apply]
  simp only [score_real k n r _ h4 h10 h11]
  refine ⟨_, (EReal.coe_toReal (ne_of_lt ?_) (ne_of_gt ?_)).symm⟩
  · rw [Finset.fold_max_lt]
    refine ⟨bot_lt_top, fun j _ => ?_⟩
    split
    · exact EReal.coe_lt_top _
    · exact bot_lt_top
  · refine lt_of_lt_of_le (EReal.bot_lt_coe (sc (Q (resOf k n) (rowHead r)) (K (resOf k n) (rowHead r)) (qi n r) (kj n ⟨128 + r.val % 128, by omega⟩)))
      (Finset.le_fold_max _ |>.mpr (Or.inr ⟨⟨128 + r.val % 128, by omega⟩, Finset.mem_univ _, ?_⟩))
    rw [if_pos ⟨⟨le_rfl, Nat.le_add_left _ _⟩, Or.inr (Nat.le_add_right _ _)⟩]

variable (p : ℝ)

theorem exp_real (h4 : Masked arg4 x4) (h10 : Holds arg10 x10 Q) (h11 : Holds arg11 x11 K)
    (hp : peaks (scoreAt arg4 arg10 arg11 x4 x10 x11 k) (ix2 ⟨256 * n.val + r.val, by omega⟩ 0) = (p : EReal)) :
    slot n (exps (scoreAt arg4 arg10 arg11 x4 x10 x11 k)) (ix2 r j)
      = ((if seen n r j then ex (Q (resOf k n) (rowHead r)) (K (resOf k n) (rowHead r)) p (qi n r) (kj n j) else 0 : ℝ) : EReal) := by
  rw [Cert.Proof.Branch.slot_apply, exps_apply, hp, score_real k n r j h4 h10 h11]
  split
  case isTrue h =>
    rw [ex, if_pos ((seen_ok n r j h.2).mpr h), ← EReal.coe_sub]
    rfl
  case isFalse h => rfl

theorem ex_blind (q k : Mat) (m : ℝ) (i j : Fin 512) (h : ¬ ok i j) : ex q k m i j = 0 := if_neg h

/-- The sums on the right, -/
theorem sum_real (h4 : Masked arg4 x4) (h10 : Holds arg10 x10 Q) (h11 : Holds arg11 x11 K)
    (hp : peaks (scoreAt arg4 arg10 arg11 x4 x10 x11 k) (ix2 ⟨256 * n.val + r.val, by omega⟩ 0) = (p : EReal)) (l : Fin 128) :
    mixAt arg4 arg10 arg11 arg12 x4 x10 x11 x12 k n (ix2 r ⟨128 + l.val, by omega⟩)
      = ((∑ κ, ex (Q (resOf k n) (rowHead r)) (K (resOf k n) (rowHead r)) p (qi n r) κ : ℝ) : EReal) := by
  unfold mixAt
  rw [mixed_apply, ← Cert.Proof.Branch.keys_sum n r _ (fun κ h => ex_blind _ _ _ _ _ h), ← coe_sum]
  refine Finset.sum_congr rfl fun j _ => ?_
  rw [ones_beside, mul_one, exp_real k n r j p h4 h10 h11 hp]

/-- … and the values weighted by the exponentials on the left. -/
theorem value_real (h4 : Masked arg4 x4) (h10 : Holds arg10 x10 Q) (h11 : Holds arg11 x11 K) (h12 : Holds arg12 x12 V)
    (hp : peaks (scoreAt arg4 arg10 arg11 x4 x10 x11 k) (ix2 ⟨256 * n.val + r.val, by omega⟩ 0) = (p : EReal)) (l : Fin 128) :
    mixAt arg4 arg10 arg11 arg12 x4 x10 x11 x12 k n (ix2 r ⟨l.val, by omega⟩)
      = ((∑ κ, ex (Q (resOf k n) (rowHead r)) (K (resOf k n) (rowHead r)) p (qi n r) κ * V (resOf k n) (hd l) κ (ln l) : ℝ) : EReal) := by
  unfold mixAt
  rw [mixed_apply, ← Cert.Proof.Branch.keys_sum n r _ (fun κ h => by rw [ex_blind _ _ _ _ _ h, zero_mul]), ← coe_sum]
  refine Finset.sum_congr rfl fun j _ => ?_
  rw [values_at, exp_real k n r j p h4 h10 h11 hp]
  split
  case isTrue h => rw [pair_read _ _ _ _ _ h.2, h12, ← EReal.coe_mul]
  case isFalse h => exact zero_mul _

end Slots

section Rows

variable {arg4 : Memref sig .tc .vmem S2x256x256 .f32} {arg10 arg11 arg12 : Memref sig .tc .vmem S8192x128 .f32}
  {x4 : BufTy.Contents (Elt Ideal) arg4.view.ty} {x10 : BufTy.Contents (Elt Ideal) arg10.view.ty}
  {x11 : BufTy.Contents (Elt Ideal) arg11.view.ty} {x12 : BufTy.Contents (Elt Ideal) arg12.view.ty}
  {Q K V : Fin 16 → Fin 2 → Mat} (h4 : Masked arg4 x4) (h10 : Holds arg10 x10 Q) (h11 : Holds arg11 x11 K) (ρ : Fin 16) (i : Fin 512) (l : Fin 128)

theorem res_row : resOf (kOf (bigRow ρ i)) (nOf (bigRow ρ i)) = ρ := Fin.ext (by simp only [resOf, kOf, nOf]; omega)
theorem qi_row : qi (nOf (bigRow ρ i)) (headRow (aOf (bigRow ρ i)) l) = i := Fin.ext (by simp only [qi, nOf, aOf]; omega)
theorem head_row (a : Fin 128) : rowHead (headRow a l) = hd l := Fin.ext (by simp only [rowHead, hd]; omega)

include h4 h10 h11

/-- A row of the attention. -/
theorem att_row (h12 : Holds arg12 x12 V) :
    attAt arg4 arg10 arg11 arg12 x4 x10 x11 x12 (kOf (bigRow ρ i)) (nOf (bigRow ρ i)) (ix2 (aOf (bigRow ρ i)) l)
      = (att (Q ρ (hd l)) (K ρ (hd l)) (V ρ (hd l)) i (ln l) : EReal) := by
  obtain ⟨p, hp⟩ := peak_real (kOf (bigRow ρ i)) (nOf (bigRow ρ i)) (headRow (aOf (bigRow ρ i)) l) h4 h10 h11
  unfold attAt
  rw [attTile_apply, value_real _ _ _ p h4 h10 h11 h12 hp, sum_real _ _ _ p h4 h10 h11 hp, res_row, qi_row, head_row,
    show (1 : EReal) = ((1 : ℝ) : EReal) from rfl, div_real _ _ (Cert.Proof.Branch.sum_pos _ _ _ _).ne', ← EReal.coe_mul, Finset.sum_mul]
  refine congrArg Real.toEReal (Finset.sum_congr rfl fun κ _ => ?_)
  rw [← Cert.Proof.Branch.wt_shift _ _ p]
  ring

/-- A row of the logarithms. -/
theorem lse_row :
    lseAt arg4 arg10 arg11 arg12 x4 x10 x11 x12 (kOf (bigRow ρ i)) (nOf (bigRow ρ i)) (ix2 (aOf (bigRow ρ i)) l)
      = (Real.log (tot (Q ρ (hd l)) (K ρ (hd l)) i) : EReal) := by
  obtain ⟨p, hp⟩ := peak_real (kOf (bigRow ρ i)) (nOf (bigRow ρ i)) (headRow (aOf (bigRow ρ i)) l) h4 h10 h11
  unfold lseAt
  rw [lseTile_apply, slotCol_apply, hp, sum_real _ _ _ p h4 h10 h11 hp, res_row, qi_row, head_row,
    Cert.Proof.Branch.log_real _ (Cert.Proof.Branch.sum_pos _ _ _ _), ← EReal.coe_add, Cert.Proof.Branch.log_shift]

end Rows

end Cert.Proof.Look
-- ==== Proof.LookHost.lean ====
/- The masks the host lines before the forward branch compute. -/
module

public import proofs.«01_k».proof.Proof.Gen.Kernel9Ideal.Value
public import proofs.«01_k».proof.Proof.BranchHost

@[expose] public section

set_option maxRecDepth 16384

noncomputable section

namespace Cert.Proof.Look

open Idealize.ShloMosaic Idealize.ShloMosaic.TcCoe Idealize.SL.Sem Cert.Kernel9Ideal Cert.Kernel9Ideal.Gen
open Cert.Proof.Branch (remOf bandOf firstOf blindOf masksOf)

section Lines

variable (W : Valuation τ sig (Elt Ideal))

theorem line_1 : (StableHlo.after hostOps0_1 (StableHlo.after hostOps0 W)) (Proc.devRef (τ := τ) .tc main_v1) = remOf (iotaInDim S256x256 32 0) (constantI S_ 32 128#32) := by
  after_reads_simp
  rfl

theorem line_2a : (StableHlo.after hostOps0_2 W) (Proc.devRef (τ := τ) .tc main_v10) = bandOf (W (Proc.devRef (τ := τ) .tc main_v1)) := by
  after_reads_simp
  rfl

theorem line_2b : (StableHlo.after hostOps0_2 W) (Proc.devRef (τ := τ) .tc main_v13) = firstOf (W (Proc.devRef (τ := τ) .tc main_v1)) := by
  after_reads_simp
  rfl

theorem line_2c : (StableHlo.after hostOps0_2 W) (Proc.devRef (τ := τ) .tc main_cst) = constant (F := Ideal) S_ .f32 0x00000000#32 := by
  after_reads_simp

theorem line_2d : (StableHlo.after hostOps0_2 W) (Proc.devRef (τ := τ) .tc main_cst_4) = constant (F := Ideal) S_ .f32 0xFF800000#32 := by
  after_reads_simp

theorem line_36 : (StableHlo.after hostOps0_6 (StableHlo.after hostOps0_5 (StableHlo.after hostOps0_4 (StableHlo.after hostOps0_3 W)))) (Proc.devRef (τ := τ) .tc main_v18) = concatenate S2x256x256 0 [⟨S1x256x256, broadcastInDim S1x256x256 ![1, 2] bcast_S256x256_S1x256x256_1_2
      (select (W (Proc.devRef (τ := τ) .tc main_v10) : IVec S256x256 1) (broadcastInDim S256x256 ![] bcast_S_S256x256 (W (Proc.devRef (τ := τ) .tc main_cst) : FVec Ideal S_ .f32)) (broadcastInDim S256x256 ![] bcast_S_S256x256 (W (Proc.devRef (τ := τ) .tc main_cst_4) : FVec Ideal S_ .f32)) : FVec Ideal S256x256 .f32)⟩,
      ⟨S1x256x256, blindOf (W (Proc.devRef (τ := τ) .tc main_v13))⟩] concatenates_S1x256x256_S1x256x256_S2x256x256_d0 := by
  after_reads_simp
  rfl

end Lines

theorem V_masks (m : (ℓ : Loc nD τ sig) → Buf (Elt Ideal) ℓ) (c : Dev nD) : V m c main_v18 = masksOf (remOf (iotaInDim S256x256 32 0) (constantI S_ 32 128#32)) := by
  unfold V
  simp only [List.flatten_cons, List.flatten_nil, List.append_nil, StableHlo.after_append]
  rw [line_36, line_2a, line_2b, line_2c, line_2d, line_1]
  rfl

end Cert.Proof.Look
-- ==== Proof.LookOut.lean ====
/- What the forward branch's two result arrays hold after the run. -/
module

public import proofs.«01_k».proof.Proof.LookSlot
public import proofs.«01_k».proof.Proof.LookHost
public import Idealize.ShloMosaic.Lib.Pipeline.ValueKit

@[expose] public section

set_option maxRecDepth 16384

noncomputable section

namespace Cert.Proof.Look

open Idealize.ShloMosaic Idealize.ShloMosaic.TcCoe Idealize.SL.Sem Cert.Kernel9Ideal Cert.Kernel9Ideal.Gen Cert.Reals
open Cert.Proof.Branch (Mat tot att hd ln bigRow up head laneAt remOf bandOf firstOf rem_apply band_apply first_apply masks_apply)

variable (m : (ℓ : Loc nD τ sig) → Buf (Elt Ideal) ℓ) (c : Dev nD)

/-- The block indices at every grid point. -/
theorem idx : ∀ t : Fin cfg0.N, win0_0.index t = ![0, t.val] ∧ win0_1.index t = ![0, t.val] ∧ win0_2.index t = ![0, t.val]
    ∧ win0_3.index t = ![0, 0, 0] ∧ win0_4.index t = ![0, t.val] ∧ win0_5.index t = ![0, t.val] ∧ t.val < 4 :=
  (by decide +kernel : ∀ t : Fin grid0.N, _)

theorem pt_lt (t : Fin cfg0.N) : t.val < 4 := (idx t).2.2.2.2.2.2

theorem blk_q (t : Fin cfg0.N) (R : Fin 8192) (l : Fin 128) :
    (iblk m c 0 t : FVec Ideal S8192x128 .f32) (ix2 R l) = (m ((c : Thread nD τ).loc main_arg0) : FVec Ideal S8192x512 .f32) (ix2 R ⟨t.val * 128 + l.val, by have := pt_lt t; omega⟩) := by
  blk_point [iblk, V, idx t]

theorem blk_k (t : Fin cfg0.N) (R : Fin 8192) (l : Fin 128) :
    (iblk m c 1 t : FVec Ideal S8192x128 .f32) (ix2 R l) = (m ((c : Thread nD τ).loc main_arg1) : FVec Ideal S8192x512 .f32) (ix2 R ⟨t.val * 128 + l.val, by have := pt_lt t; omega⟩) := by
  blk_point [iblk, V, idx t]

theorem blk_v (t : Fin cfg0.N) (R : Fin 8192) (l : Fin 128) :
    (iblk m c 2 t : FVec Ideal S8192x128 .f32) (ix2 R l) = (m ((c : Thread nD τ).loc main_arg2) : FVec Ideal S8192x512 .f32) (ix2 R ⟨t.val * 128 + l.val, by have := pt_lt t; omega⟩) := by
  blk_point [iblk, V, idx t]

theorem blk_masks (t : Fin cfg0.N) (e : Fin 2) (r j : Fin 256) :
    (iblk m c 3 t : FVec Ideal S2x256x256 .f32) (ix3 e r j) = (V m c main_v18 : FVec Ideal S2x256x256 .f32) (ix3 e r j) := by
  unfold iblk
  generalize V m c = W
  blk_point [idx t]

/-! ### The copies of the three blocks into the body's own buffers -/

theorem stored (arg : Memref sig .tc .vmem S8192x128 .f32) (f : BufTy.Contents (Elt Ideal) arg.view.ty) (x : FVec Ideal S8192x128 .f32) (R : Fin 8192) (l : Fin 128) :
    at_ arg (arg.view.writes (Elt Ideal) f [⟨Rect.unit (s := S8192x128) ![0, 0] S8192x128.size inb_S8192x128_S8192x128_0_0, x⟩]) R l = x (ix2 R l) :=
  View.read_writes_cons_rows_of_mem (o := 0) arg.view f inb_S8192x128_S8192x128_0_0 x [] (ix2 R l) (ix2 R l) rfl (Nat.zero_add _).symm rfl

theorem loaded (arg : Memref sig .tc .vmem S8192x128 .f32) (f : BufTy.Contents (Elt Ideal) arg.view.ty) (R : Fin 8192) (l : Fin 128) :
    View.readAt (Elt Ideal) arg.view (Rect.unit (s := S8192x128) ![0, 0] S8192x128.size inb_S8192x128_S8192x128_0_0).toLoadRect f (ix2 R l) = at_ arg f R l := by
  refine congrArg (arg.view.read (Elt Ideal) f) (funext fun x => Fin.ext ?_)
  refine (Rect.idx_unit_val _ _ _ _ _).trans ?_
  fin_cases x
  · exact Nat.zero_add _
  · exact Nat.zero_add _

theorem kept_0 (x : FVec Ideal S8192x128 .f32) (R : Fin 8192) (l : Fin 128) : k0_pay70 x (ix2 R l) = x (ix2 R l) := by
  pointwise [k0_pay70]
theorem kept_1 (x : FVec Ideal S8192x128 .f32) (R : Fin 8192) (l : Fin 128) : k0_pay71 x (ix2 R l) = x (ix2 R l) := by
  pointwise [k0_pay71]
theorem kept_2 (x : FVec Ideal S8192x128 .f32) (R : Fin 8192) (l : Fin 128) : k0_pay72 x (ix2 R l) = x (ix2 R l) := by
  pointwise [k0_pay72]

/-! ### What the body's buffers hold at a grid point -/

/-- The head of the eight that is head `h` of the point's pair. -/
def hOf (t : Fin cfg0.N) (h : Fin 2) : Fin 8 := ⟨2 * t.val + h.val, by have := pt_lt t; omega⟩
/-- The point's two heads of an array, by residue class. -/
def part (X : S8192x512.Idx → ℝ) (t : Fin cfg0.N) : Fin 16 → Fin 2 → Mat := fun ρ h => head X ρ (hOf t h)

theorem part_at (X : S8192x512.Idx → ℝ) (t : Fin cfg0.N) (ρ : Fin 16) (i : Fin 512) (l : Fin 128) (L : Fin 512) (hL : L.val = t.val * 128 + l.val) :
    X (ix2 (bigRow ρ i) L) = part X t ρ (hd l) i (ln l) :=
  congrArg X (congrArg (ix2 _) (Fin.ext (show L.val = (2 * t.val + l.val / 64) * 64 + l.val % 64 by omega)))

/-- The arguments are these arrays of real numbers. -/
structure Args (X0 X1 X2 : S8192x512.Idx → ℝ) : Prop where
  a0 : m ((c.tc : Thread nD τ).loc main_arg0) = up X0
  a1 : m ((c.tc : Thread nD τ).loc main_arg1) = up X1
  a2 : m ((c.tc : Thread nD τ).loc main_arg2) = up X2

section Point

variable {m c} {X0 X1 X2 : S8192x512.Idx → ℝ} (H : Args m c X0 X1 X2) (t : Fin cfg0.N)

variable (m c) in
theorem masks_ok : Masked (ms0_3 t) ((hs0_3 t).unread (iblk m c 3 t)) := by
  intro e r j
  rw [Memref.IsWhole.read_unread, blk_masks, V_masks, masks_apply]
  have hb := band_apply (remOf (iotaInDim S256x256 32 0) (constantI S_ 32 128#32)) r j (rem_apply r j)
  have hf := first_apply (remOf (iotaInDim S256x256 32 0) (constantI S_ 32 128#32)) r j (rem_apply r j)
  fin_cases e
  · show (if bandOf _ (ix2 r j) = 1#1 then (0 : EReal) else ⊥) = _
    rw [hb]
    refine if_congr ?_ rfl rfl
    split <;> simp_all
  · show (if firstOf _ (ix2 r j) = 1#1 then (0 : EReal) else ⊥) = _
    rw [hf]
    refine if_congr ?_ rfl rfl
    split <;> simp_all

include H

theorem holds_0 : Holds scM0_0 ((View.whole cc0_scratch0).writes (Elt Ideal) (View.whole cc0_scratch0).junk
    (kernelRun0_A.sl.HS0_1 c (ms0_0 t) (hs0_0 t) (iblk m c 0 t))) (part X0 t) := by
  intro ρ i l
  unfold kernelRun0_A.sl.HS0_1
  refine (stored scM0_0 _ _ (bigRow ρ i) l).trans ?_
  rw [kept_0, loaded]
  unfold at_
  rw [Memref.IsWhole.read_unread, blk_q, H.a0]
  exact congrArg Real.toEReal (part_at X0 t ρ i l _ rfl)

theorem holds_1 : Holds scM0_1 ((View.whole cc0_scratch1).writes (Elt Ideal) (View.whole cc0_scratch1).junk
    (kernelRun0_A.sl.HS1_1 c (ms0_1 t) (hs0_1 t) (iblk m c 1 t))) (part X1 t) := by
  intro ρ i l
  unfold kernelRun0_A.sl.HS1_1
  refine (stored scM0_1 _ _ (bigRow ρ i) l).trans ?_
  rw [kept_1, loaded]
  unfold at_
  rw [Memref.IsWhole.read_unread, blk_k, H.a1]
  exact congrArg Real.toEReal (part_at X1 t ρ i l _ rfl)

theorem holds_2 : Holds scM0_2 ((View.whole cc0_scratch2).writes (Elt Ideal) (View.whole cc0_scratch2).junk
    (kernelRun0_A.sl.HS2_1 c (ms0_2 t) (hs0_2 t) (iblk m c 2 t))) (part X2 t) := by
  intro ρ i l
  unfold kernelRun0_A.sl.HS2_1
  refine (stored scM0_2 _ _ (bigRow ρ i) l).trans ?_
  rw [kept_2, loaded]
  unfold at_
  rw [Memref.IsWhole.read_unread, blk_v, H.a2]
  exact congrArg Real.toEReal (part_at X2 t ρ i l _ rfl)

variable (ρ : Fin 16) (i : Fin 512) (l : Fin 128)

theorem out_att : (outsAt0 m c t).1 (ix2 (bigRow ρ i) l) = (att (part X0 t ρ (hd l)) (part X1 t ρ (hd l)) (part X2 t ρ (hd l)) i (ln l) : EReal) := by
  unfold outsAt0 out0_A_4
  dsimp only
  rw [View.read_writes_apply_eq VO0_4 VO0_4.junk (ms0_4 t).view (ms0_4 t).view.junk (ix2 (bigRow ρ i) l) _ (cover0_A_4 _ _ _ _ _ _ _ _ _ _ _ _ _ _ _ _ _ _ _ _ _ _ _ _ _)]
  unfold kernelRun0_A
  dsimp only
  refine (att_loop _ _ _ _ _ _ _ _ _ _ _ _ _ _ _ _ _ _ _ _ _ _ _ _ _ _ _ _ _ _ _ _ _ _ (bigRow ρ i) l).trans ?_
  exact att_row (masks_ok m c t) (holds_0 H t) (holds_1 H t) ρ i l (holds_2 H t)

theorem out_lse : (outsAt0 m c t).2 (ix2 (bigRow ρ i) l) = (Real.log (tot (part X0 t ρ (hd l)) (part X1 t ρ (hd l)) i) : EReal) := by
  unfold outsAt0 out0_A_5
  dsimp only
  rw [View.read_writes_apply_eq VO0_5 VO0_5.junk (ms0_5 t).view (ms0_5 t).view.junk (ix2 (bigRow ρ i) l) _ (cover0_A_5 _ _ _ _ _ _ _ _ _ _ _ _ _ _ _ _ _ _ _ _ _ _ _ _ _)]
  unfold kernelRun0_A
  dsimp only
  refine (lse_loop _ _ _ _ _ _ _ _ _ _ _ _ _ _ _ _ _ _ _ _ _ _ _ _ _ _ _ _ _ _ _ _ _ _ (bigRow ρ i) l).trans ?_
  exact lse_row (masks_ok m c t) (holds_0 H t) (holds_1 H t) ρ i l

end Point

end Cert.Proof.Look
-- ==== Proof.LookRef.lean ====
/- The reference of the forward branch over the reals: the attention, and the logarithms of the rows' sums. -/
module

public import proofs.«01_k».proof.Defs
public import proofs.«01_k».proof.Proof.BranchRef
public import proofs.«01_k».proof.Proof.BranchStats
public import proofs.«01_k».proof.Proof.Gen.Reference9Ideal.Read

@[expose] public section

set_option maxRecDepth 16384

noncomputable section

namespace Cert.Proof.Look

open Idealize.ShloMosaic Idealize.ShloMosaic.TcCoe Cert.Reference9Ideal Cert.Reference9Ideal.Gen Cert.Reference9Ideal.Read Cert.Reals
open Cert.Proof.Branch (ok sc ex tot att sum_pos exp_ex log_real rowAt laneAt up head)

section Stages

variable (x0 x1 x2 : FVec Ideal S8192x512 .f32)

/-- The masked scores and the attention are the lines the backward pass differentiates. -/
theorem same_scores : val_main_v13 (F := Ideal) x0 x1 = Cert.Reference8Ideal.Read.val_main_v11_0 (F := Ideal) x0 x1 := rfl
theorem same_out : val_main_v31 (F := Ideal) x0 x1 x2 = Cert.Reference8Ideal.Read.val_main_v43 (F := Ideal) x0 x1 x2 := rfl

variable (ρ : Fin 16) (H : Fin 8) (i : Fin 512)

theorem raw_16 : val_main_v16 (F := Ideal) x0 x1 (ix3 ρ H i) = Ideal.log (∑ j, Ideal.exp (val_main_v13 (F := Ideal) x0 x1 (ix4 ρ H i j))) := by
  pointwise [val_main_v16, val_main_v15, val_main_v14, val_main_cst_1]

theorem raw_35 (d : Fin 64) : val_main_v35 (F := Ideal) x0 x1 (ix2 (rowAt ρ i) (laneAt H d)) = val_main_v16 (F := Ideal) x0 x1 (ix3 ρ H i) := by
  pointwise [val_main_v35, val_main_v34, val_main_v33, val_main_v32]
  have e1 : (ρ.val * 512 + i.val) / 512 = ρ.val := by omega
  have e2 : (ρ.val * 512 + i.val) % 512 = i.val := by omega
  have e3 : (H.val * 64 + d.val) / 64 = H.val := by omega
  simp only [e1, e2, e3, Fin.eta]

end Stages

variable (X0 X1 X2 : S8192x512.Idx → ℝ) (ρ : Fin 16) (H : Fin 8) (i : Fin 512) (d : Fin 64)

/-- The attention. -/
theorem real_31 : val_main_v31 (F := Ideal) (up X0) (up X1) (up X2) (ix2 (rowAt ρ i) (laneAt H d)) = (att (head X0 ρ H) (head X1 ρ H) (head X2 ρ H) i d : EReal) := by
  rw [same_out]
  exact Cert.Proof.Branch.real_43 X0 X1 X2 ρ H i d

theorem exp_plain (q k : Cert.Proof.Branch.Mat) (i j : Fin 512) : Ideal.exp (if ok i j then (sc q k i j : EReal) else ⊥) = (ex q k 0 i j : EReal) := by
  rw [← exp_ex, EReal.coe_zero, sub_zero]

/-- The logarithms. -/
theorem real_35 : val_main_v35 (F := Ideal) (up X0) (up X1) (ix2 (rowAt ρ i) (laneAt H d)) = (Real.log (tot (head X0 ρ H) (head X1 ρ H) i) : EReal) := by
  rw [raw_35, raw_16]
  simp only [same_scores, Cert.Proof.Branch.real_11, exp_plain, coe_sum]
  exact log_real _ (sum_pos _ _ _ _)

end Cert.Proof.Look
-- ==== Proof.LookClaim.lean ====
/- One branch of the attention: the kernel's two results are the softmax-weighted values and the logarithm of the weights' sum. -/
module

public import proofs.«01_k».proof.Defs
public import proofs.«01_k».proof.Proof.LookOut
public import proofs.«01_k».proof.Proof.LookRef
public import proofs.«01_k».proof.Proof.Gen.Kernel9Ideal.Value
public import proofs.«01_k».proof.Proof.Gen.Pre_pre9
public import proofs.«01_k».proof.Proof.Gen.Reference9Ideal.Run
public import Idealize.ShloMosaic.Lib.Quiescent

@[expose] public section

set_option maxRecDepth 16384

noncomputable section

namespace Cert.Look

open Idealize.ShloMosaic Idealize.ShloMosaic.TcCoe Idealize.SL.Sem
open Cert.Kernel9Ideal Cert.Kernel9Ideal.Gen Cert.Reals Cert.Proof.Look
open Cert.Proof.Branch (hd ln bigRow up laneAt)

variable {m : (ℓ : Loc nD τ sig) → Buf (Elt Ideal) ℓ} {c : Dev nD} {X0 X1 X2 : S8192x512.Idx → ℝ}

theorem row_split (R : Fin 8192) : ∃ ρ i, R = bigRow ρ i :=
  ⟨⟨R.val / 512, by omega⟩, ⟨R.val % 512, by omega⟩, Fin.ext (show R.val = R.val / 512 * 512 + R.val % 512 by omega)⟩

theorem lane_at (t : Fin cfg0.N) (l : Fin 128) : (laneAt (hOf t (hd l)) (ln l)).val = t.val * 128 + l.val := by
  show (2 * t.val + l.val / 64) * 64 + l.val % 64 = _
  omega

section Final

variable (H : Args m c X0 X1 X2)

include H

theorem final_att : (dats m 0 c).arrAt 4 cfg0.N = Cert.Reference9Ideal.Read.val_main_v31 (F := Ideal) (up X0) (up X1) (up X2) := by
  refine (dats m 0 c).arrAt_eq_of_covers 4 _ (by decide +kernel) fun t _ y => ?_
  blk_simp
  rw [after0_4]
  idx_vars y
  obtain ⟨ρ, i, rfl⟩ := row_split y0
  refine (out_att H t ρ i y1).trans ((real_31 X0 X1 X2 ρ (hOf t (hd y1)) i (ln y1)).symm.trans (congrArg _ ?_))
  blk_ext [idx t, lane_at]

theorem final_lse : (dats m 0 c).arrAt 5 cfg0.N = Cert.Reference9Ideal.Read.val_main_v35 (F := Ideal) (up X0) (up X1) := by
  refine (dats m 0 c).arrAt_eq_of_covers 5 _ (by decide +kernel) fun t _ y => ?_
  blk_simp
  rw [after0_5]
  idx_vars y
  obtain ⟨ρ, i, rfl⟩ := row_split y0
  refine (out_lse H t ρ i y1).trans ((real_35 X0 X1 ρ (hOf t (hd y1)) i (ln y1)).symm.trans (congrArg _ ?_))
  blk_ext [idx t, lane_at]

end Final

/-- Under the precondition every argument is an array of real numbers. -/
theorem args_real {x0 x1 x2 : FVec Ideal Cert.Pre_pre9.S8192x512 .f32} (h : Cert.Pre_pre9.fn (F := Ideal) x0 x1 x2 = fun _ => 1#1) :
    (∃ X : S8192x512.Idx → ℝ, x0 = up X) ∧ (∃ X : S8192x512.Idx → ℝ, x1 = up X) ∧ ∃ X : S8192x512.Idx → ℝ, x2 = up X := by
  have i0 : Cert.Pre_pre9.S_.Idx := fun a => a.elim0
  have e := congrFun h i0
  unfold Cert.Pre_pre9.fn at e
  obtain ⟨e, e2⟩ := IntOp.andi_eq_one.mp e
  obtain ⟨e0, e1⟩ := IntOp.andi_eq_one.mp e
  exact ⟨finite_reals _ _ (fun _ => ofBits_inf) _ _ _ _ e0,
    finite_reals _ _ (fun _ => ofBits_inf) _ _ _ _ e1,
    finite_reals _ _ (fun _ => ofBits_inf) _ _ _ _ e2⟩

/-- The kernel's results are the reference's, from equal arguments that are all finite. -/
theorem algebraic : Cert.algebraic_Kernel9Ideal_Reference9Ideal_pre_pre9 := by
  intro m g m' g' hpre hagree
  refine ⟨_, _, Cert.Kernel9Ideal.Value.run_blocks m g, (θ_run _ _ _).mono ?_ (Cert.Reference9Ideal.Value.run m' g')⟩
  intro r h c
  obtain ⟨a0, a1, a2⟩ := hagree c
  obtain ⟨⟨X0, h0⟩, ⟨X1, h1⟩, ⟨X2, h2⟩⟩ := args_real (hpre c)
  have H : Args m c X0 X1 X2 := ⟨h0, h1, h2⟩
  obtain ⟨r0, r1, k⟩ := h c
  refine ⟨r0.trans ?_, r1.trans ?_, k⟩
  · rw [Cert.Reference9Ideal.Read.val_main_v31_eq m' c, a0, a1, a2, h0, h1, h2]
    exact (final_att H).symm
  · refine (Cert.Reference9Ideal.Read.val_main_v35_eq _ _).trans ?_
    rw [a0, a1, h0, h1]
    exact (final_lse H).symm

/-- The reference runs and leaves its arguments as they were. -/
theorem frame_reference : Cert.quiescent_Reference9Ideal := by
  intro m g _
  exact (θ_run Cert.Reference9Ideal.defs _ _).mono (fun r h => ⟨fun c => (h c).2.2,
      Idealize.ShloMosaic.sem_eq_zero_of_no_sems (by decide) r.2⟩) (Cert.Reference9Ideal.Value.run (F := Ideal) m g)

end Cert.Look
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_pre
public import proofs.«01_k».proof.Proof.Gen.KernelIdeal.Value
public import proofs.«01_k».proof.Proof.Gen.ReferenceIdeal.Run
public import proofs.«01_k».proof.Proof.Gen.ReferenceIdeal.Read
public import proofs.«01_k».proof.Proof.OutClaim
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Pre_pre2
public import proofs.«01_k».proof.Proof.Gen.Kernel2Ideal.Value
public import proofs.«01_k».proof.Proof.Gen.Reference2Ideal.Run
public import proofs.«01_k».proof.Proof.Gen.Reference2Ideal.Read
public import proofs.«01_k».proof.Proof.InClaim
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Pre_pre3
public import proofs.«01_k».proof.Proof.Gen.Kernel3Ideal.Value
public import proofs.«01_k».proof.Proof.Gen.Reference3Ideal.Run
public import proofs.«01_k».proof.Proof.Gen.Reference3Ideal.Read
public import proofs.«01_k».proof.Proof.FfnClaim
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel4Ideal.Value
public import proofs.«01_k».proof.Proof.Gen.Reference4Ideal.Run
public import proofs.«01_k».proof.Proof.Gen.Reference4Ideal.Read
public import proofs.«01_k».proof.Proof.FwdClaim
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel5Ideal.Value
public import proofs.«01_k».proof.Proof.Gen.Reference5Ideal.Run
public import proofs.«01_k».proof.Proof.Gen.Reference5Ideal.Read
public import proofs.«01_k».proof.Proof.MixClaim
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel6Ideal.Value
public import proofs.«01_k».proof.Proof.Gen.Reference6Ideal.Run
public import proofs.«01_k».proof.Proof.Gen.Reference6Ideal.Read
public import proofs.«01_k».proof.Proof.GateClaim
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel7Ideal.Value
public import proofs.«01_k».proof.Proof.Gen.Reference7Ideal.Run
public import proofs.«01_k».proof.Proof.Gen.Reference7Ideal.Read
public import proofs.«01_k».proof.Proof.ProjClaim
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Pre_pre8
public import proofs.«01_k».proof.Proof.Gen.Kernel8Ideal.Value
public import proofs.«01_k».proof.Proof.Gen.Reference8Ideal.Run
public import proofs.«01_k».proof.Proof.Gen.Reference8Ideal.Read
public import proofs.«01_k».proof.Proof.BranchClaim
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Pre_pre9
public import proofs.«01_k».proof.Proof.Gen.Kernel9Ideal.Value
public import proofs.«01_k».proof.Proof.Gen.Reference9Ideal.Run
public import proofs.«01_k».proof.Proof.Gen.Reference9Ideal.Read
public import proofs.«01_k».proof.Proof.LookClaim
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Pre_pre.Gen.facts, Cert.Pre_pre2.Gen.facts, Cert.Pre_pre3.Gen.facts, Cert.Pre_pre8.Gen.facts, Cert.Pre_pre9.Gen.facts,
  fun m ρ _ => Cert.Kernel.Gen.frame m ρ,
  fun m ρ _ => Cert.KernelIdeal.Gen.frame m ρ,
  fun m ρ _ => Cert.KernelIdeal.Gen.frame m ρ,
  Cert.Out.frame_reference,
  fun m ρ _ => Cert.Out.frame_reference m ρ trivial,
  fun m ρ _ => Cert.Kernel2.Gen.frame m ρ,
  fun m ρ _ => Cert.Kernel2Ideal.Gen.frame m ρ,
  fun m ρ _ => Cert.Kernel2Ideal.Gen.frame m ρ,
  Cert.In.frame_reference,
  fun m ρ _ => Cert.In.frame_reference m ρ trivial,
  fun m ρ _ => Cert.Kernel3.Gen.frame m ρ,
  fun m ρ _ => Cert.Kernel3Ideal.Gen.frame m ρ,
  fun m ρ _ => Cert.Kernel3Ideal.Gen.frame m ρ,
  Cert.Ffn.frame_reference,
  fun m ρ _ => Cert.Ffn.frame_reference m ρ trivial,
  fun m ρ _ => Cert.Kernel4.Gen.frame m ρ,
  fun m ρ _ => Cert.Kernel4Ideal.Gen.frame m ρ,
  Cert.Fwd.frame_reference,
  fun m ρ _ => Cert.Kernel5.Gen.frame m ρ,
  fun m ρ _ => Cert.Kernel5Ideal.Gen.frame m ρ,
  Cert.Mix.frame_reference,
  fun m ρ _ => Cert.Kernel6.Gen.frame m ρ,
  fun m ρ _ => Cert.Kernel6Ideal.Gen.frame m ρ,
  Cert.Gate.frame_reference,
  fun m ρ _ => Cert.Kernel7.Gen.frame m ρ,
  fun m ρ _ => Cert.Kernel7Ideal.Gen.frame m ρ,
  Cert.Proj.frame_reference,
  fun m ρ _ => Cert.Kernel8.Gen.frame m ρ,
  fun m ρ _ => Cert.Kernel8Ideal.Gen.frame m ρ,
  fun m ρ _ => Cert.Kernel8Ideal.Gen.frame m ρ,
  Cert.Branch.frame_reference,
  fun m ρ _ => Cert.Branch.frame_reference m ρ trivial,
  fun m ρ _ => Cert.Kernel9.Gen.frame m ρ,
  fun m ρ _ => Cert.Kernel9Ideal.Gen.frame m ρ,
  fun m ρ _ => Cert.Kernel9Ideal.Gen.frame m ρ,
  Cert.Look.frame_reference,
  fun m ρ _ => Cert.Look.frame_reference m ρ trivial,
  trivial,
  Cert.Out.algebraic,
  trivial,
  Cert.In.algebraic,
  trivial,
  Cert.Ffn.algebraic,
  trivial,
  Cert.Fwd.algebraic,
  trivial,
  Cert.Mix.algebraic,
  trivial,
  Cert.Gate.algebraic,
  trivial,
  Cert.Proj.algebraic,
  trivial,
  Cert.Branch.algebraic,
  trivial,
  Cert.Look.algebraic⟩

end Cert.Proof

end
